-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelFirst (m : (ℓ : Loc Cert.KernelFirst.nD Cert.KernelFirst.τ Cert.KernelFirst.sig) → Buf (Elt Bits) ℓ) : Prop :=
  True

def Pre_KernelFirstIdeal (m : (ℓ : Loc Cert.KernelFirstIdeal.nD Cert.KernelFirstIdeal.τ Cert.KernelFirstIdeal.sig) → Buf (Elt Ideal) ℓ) : Prop :=
  True

def Pre_ReferenceFirstIdeal (m : (ℓ : Loc Cert.ReferenceFirstIdeal.nD Cert.ReferenceFirstIdeal.τ Cert.ReferenceFirstIdeal.sig) → Buf (Elt Ideal) ℓ) : Prop :=
  True

def Pre_KernelSsm (m : (ℓ : Loc Cert.KernelSsm.nD Cert.KernelSsm.τ Cert.KernelSsm.sig) → Buf (Elt Bits) ℓ) : Prop :=
  True

def Pre_KernelSsmIdeal (m : (ℓ : Loc Cert.KernelSsmIdeal.nD Cert.KernelSsmIdeal.τ Cert.KernelSsmIdeal.sig) → Buf (Elt Ideal) ℓ) : Prop :=
  True

def Pre_ReferenceSsmIdeal (m : (ℓ : Loc Cert.ReferenceSsmIdeal.nD Cert.ReferenceSsmIdeal.τ Cert.ReferenceSsmIdeal.sig) → Buf (Elt Ideal) ℓ) : Prop :=
  True

def Pre_KernelSmall (m : (ℓ : Loc Cert.KernelSmall.nD Cert.KernelSmall.τ Cert.KernelSmall.sig) → Buf (Elt Bits) ℓ) : Prop :=
  True

def Pre_KernelSmallIdeal (m : (ℓ : Loc Cert.KernelSmallIdeal.nD Cert.KernelSmallIdeal.τ Cert.KernelSmallIdeal.sig) → Buf (Elt Ideal) ℓ) : Prop :=
  True

def Pre_ReferenceSmallIdeal (m : (ℓ : Loc Cert.ReferenceSmallIdeal.nD Cert.ReferenceSmallIdeal.τ Cert.ReferenceSmallIdeal.sig) → Buf (Elt Ideal) ℓ) : Prop :=
  True

def Pre_KernelGla (m : (ℓ : Loc Cert.KernelGla.nD Cert.KernelGla.τ Cert.KernelGla.sig) → Buf (Elt Bits) ℓ) : Prop :=
  True

def Pre_KernelGlaIdeal (m : (ℓ : Loc Cert.KernelGlaIdeal.nD Cert.KernelGlaIdeal.τ Cert.KernelGlaIdeal.sig) → Buf (Elt Ideal) ℓ) : Prop :=
  True

def Pre_ReferenceGlaIdeal (m : (ℓ : Loc Cert.ReferenceGlaIdeal.nD Cert.ReferenceGlaIdeal.τ Cert.ReferenceGlaIdeal.sig) → Buf (Elt Ideal) ℓ) : Prop :=
  True

def Pre_KernelDecay (m : (ℓ : Loc Cert.KernelDecay.nD Cert.KernelDecay.τ Cert.KernelDecay.sig) → Buf (Elt Bits) ℓ) : Prop :=
  True

def Pre_KernelDecayIdeal (m : (ℓ : Loc Cert.KernelDecayIdeal.nD Cert.KernelDecayIdeal.τ Cert.KernelDecayIdeal.sig) → Buf (Elt Ideal) ℓ) : Prop :=
  True

def Pre_ReferenceDecayIdeal (m : (ℓ : Loc Cert.ReferenceDecayIdeal.nD Cert.ReferenceDecayIdeal.τ Cert.ReferenceDecayIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelOdd (m : (ℓ : Loc Cert.KernelOdd.nD Cert.KernelOdd.τ Cert.KernelOdd.sig) → Buf (Elt Bits) ℓ) : Prop :=
  True

def Pre_KernelOddIdeal (m : (ℓ : Loc Cert.KernelOddIdeal.nD Cert.KernelOddIdeal.τ Cert.KernelOddIdeal.sig) → Buf (Elt Ideal) ℓ) : Prop :=
  True

def Pre_ReferenceOddIdeal (m : (ℓ : Loc Cert.ReferenceOddIdeal.nD Cert.ReferenceOddIdeal.τ Cert.ReferenceOddIdeal.sig) → Buf (Elt Ideal) ℓ) : Prop :=
  True

def Pre_KernelLaterSsm (m : (ℓ : Loc Cert.KernelLaterSsm.nD Cert.KernelLaterSsm.τ Cert.KernelLaterSsm.sig) → Buf (Elt Bits) ℓ) : Prop :=
  True

def Pre_KernelLaterSsmIdeal (m : (ℓ : Loc Cert.KernelLaterSsmIdeal.nD Cert.KernelLaterSsmIdeal.τ Cert.KernelLaterSsmIdeal.sig) → Buf (Elt Ideal) ℓ) : Prop :=
  True

def Pre_ReferenceLaterSsmIdeal (m : (ℓ : Loc Cert.ReferenceLaterSsmIdeal.nD Cert.ReferenceLaterSsmIdeal.τ Cert.ReferenceLaterSsmIdeal.sig) → Buf (Elt Ideal) ℓ) : Prop :=
  True

def Pre_KernelLaterSmall (m : (ℓ : Loc Cert.KernelLaterSmall.nD Cert.KernelLaterSmall.τ Cert.KernelLaterSmall.sig) → Buf (Elt Bits) ℓ) : Prop :=
  True

def Pre_KernelLaterSmallIdeal (m : (ℓ : Loc Cert.KernelLaterSmallIdeal.nD Cert.KernelLaterSmallIdeal.τ Cert.KernelLaterSmallIdeal.sig) → Buf (Elt Ideal) ℓ) : Prop :=
  True

def Pre_ReferenceLaterSmallIdeal (m : (ℓ : Loc Cert.ReferenceLaterSmallIdeal.nD Cert.ReferenceLaterSmallIdeal.τ Cert.ReferenceLaterSmallIdeal.sig) → Buf (Elt Ideal) ℓ) : Prop :=
  True

def Pre_KernelLaterGla (m : (ℓ : Loc Cert.KernelLaterGla.nD Cert.KernelLaterGla.τ Cert.KernelLaterGla.sig) → Buf (Elt Bits) ℓ) : Prop :=
  True

def Pre_KernelLaterGlaIdeal (m : (ℓ : Loc Cert.KernelLaterGlaIdeal.nD Cert.KernelLaterGlaIdeal.τ Cert.KernelLaterGlaIdeal.sig) → Buf (Elt Ideal) ℓ) : Prop :=
  True

def Pre_ReferenceLaterGlaIdeal (m : (ℓ : Loc Cert.ReferenceLaterGlaIdeal.nD Cert.ReferenceLaterGlaIdeal.τ Cert.ReferenceLaterGlaIdeal.sig) → Buf (Elt Ideal) ℓ) : Prop :=
  True

def Pre_KernelLaterDecay (m : (ℓ : Loc Cert.KernelLaterDecay.nD Cert.KernelLaterDecay.τ Cert.KernelLaterDecay.sig) → Buf (Elt Bits) ℓ) : Prop :=
  True

def Pre_KernelLaterDecayIdeal (m : (ℓ : Loc Cert.KernelLaterDecayIdeal.nD Cert.KernelLaterDecayIdeal.τ Cert.KernelLaterDecayIdeal.sig) → Buf (Elt Ideal) ℓ) : Prop :=
  True

def Pre_ReferenceLaterDecayIdeal (m : (ℓ : Loc Cert.ReferenceLaterDecayIdeal.nD Cert.ReferenceLaterDecayIdeal.τ Cert.ReferenceLaterDecayIdeal.sig) → Buf (Elt Ideal) ℓ) : Prop :=
  True

def Pre_KernelLaterMix (m : (ℓ : Loc Cert.KernelLaterMix.nD Cert.KernelLaterMix.τ Cert.KernelLaterMix.sig) → Buf (Elt Bits) ℓ) : Prop :=
  True

def Pre_KernelLaterMixIdeal (m : (ℓ : Loc Cert.KernelLaterMixIdeal.nD Cert.KernelLaterMixIdeal.τ Cert.KernelLaterMixIdeal.sig) → Buf (Elt Ideal) ℓ) : Prop :=
  True

def Pre_ReferenceLaterMixIdeal (m : (ℓ : Loc Cert.ReferenceLaterMixIdeal.nD Cert.ReferenceLaterMixIdeal.τ Cert.ReferenceLaterMixIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelAttn (m : (ℓ : Loc Cert.KernelAttn.nD Cert.KernelAttn.τ Cert.KernelAttn.sig) → Buf (Elt Bits) ℓ) : Prop :=
  True

def Pre_KernelAttnIdeal (m : (ℓ : Loc Cert.KernelAttnIdeal.nD Cert.KernelAttnIdeal.τ Cert.KernelAttnIdeal.sig) → Buf (Elt Ideal) ℓ) : Prop :=
  True

def Pre_KernelAttnIdeal_finite [hPre_finite : Cert.Pre_finite.Facts] (m : (ℓ : Loc Cert.KernelAttnIdeal.nD Cert.KernelAttnIdeal.τ Cert.KernelAttnIdeal.sig) → Buf (Elt Ideal) ℓ) : Prop :=
  ∀ c : Dev Cert.KernelAttnIdeal.nD,
    (Cert.Pre_finite.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3)) (m ((c.tc : Thread Cert.KernelAttnIdeal.nD Cert.KernelAttnIdeal.τ).loc Cert.KernelAttnIdeal.main_arg4))) = (fun _ => 1#1)

def Pre_ReferenceAttnIdeal (m : (ℓ : Loc Cert.ReferenceAttnIdeal.nD Cert.ReferenceAttnIdeal.τ Cert.ReferenceAttnIdeal.sig) → Buf (Elt Ideal) ℓ) : Prop :=
  True

def Pre_ReferenceAttnIdeal_finite [hPre_finite : Cert.Pre_finite.Facts] (m : (ℓ : Loc Cert.ReferenceAttnIdeal.nD Cert.ReferenceAttnIdeal.τ Cert.ReferenceAttnIdeal.sig) → Buf (Elt Ideal) ℓ) : Prop :=
  ∀ c : Dev Cert.ReferenceAttnIdeal.nD,
    (Cert.Pre_finite.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2)) (m ((c.tc : Thread Cert.ReferenceAttnIdeal.nD Cert.ReferenceAttnIdeal.τ).loc Cert.ReferenceAttnIdeal.main_arg3)) (m ((c.tc : Thread Cert.ReferenceAttnIdeal.nD Cert.ReferenceAttnIdeal.τ).loc Cert.ReferenceAttnIdeal.main_arg4))) = (fun _ => 1#1)

def Pre_KernelSsd (m : (ℓ : Loc Cert.KernelSsd.nD Cert.KernelSsd.τ Cert.KernelSsd.sig) → Buf (Elt Bits) ℓ) : Prop :=
  True

def Pre_KernelSsdIdeal (m : (ℓ : Loc Cert.KernelSsdIdeal.nD Cert.KernelSsdIdeal.τ Cert.KernelSsdIdeal.sig) → Buf (Elt Ideal) ℓ) : Prop :=
  True

def Pre_KernelSsdIdeal_finite_ssd [hPre_finite_ssd : Cert.Pre_finite_ssd.Facts] (m : (ℓ : Loc Cert.KernelSsdIdeal.nD Cert.KernelSsdIdeal.τ Cert.KernelSsdIdeal.sig) → Buf (Elt Ideal) ℓ) : Prop :=
  ∀ c : Dev Cert.KernelSsdIdeal.nD,
    (Cert.Pre_finite_ssd.fn (F := Ideal) (m ((c.tc : Thread Cert.KernelSsdIdeal.nD Cert.KernelSsdIdeal.τ).loc Cert.KernelSsdIdeal.main_arg0)) (m ((c.tc : Thread Cert.KernelSsdIdeal.nD Cert.KernelSsdIdeal.τ).loc Cert.KernelSsdIdeal.main_arg1)) (m ((c.tc : Thread Cert.KernelSsdIdeal.nD Cert.KernelSsdIdeal.τ).loc Cert.KernelSsdIdeal.main_arg2)) (m ((c.tc : Thread Cert.KernelSsdIdeal.nD Cert.KernelSsdIdeal.τ).loc Cert.KernelSsdIdeal.main_arg3)) (m ((c.tc : Thread Cert.KernelSsdIdeal.nD Cert.KernelSsdIdeal.τ).loc Cert.KernelSsdIdeal.main_arg4)) (m ((c.tc : Thread Cert.KernelSsdIdeal.nD Cert.KernelSsdIdeal.τ).loc Cert.KernelSsdIdeal.main_arg5)) (m ((c.tc : Thread Cert.KernelSsdIdeal.nD Cert.KernelSsdIdeal.τ).loc Cert.KernelSsdIdeal.main_arg6)) (m ((c.tc : Thread Cert.KernelSsdIdeal.nD Cert.KernelSsdIdeal.τ).loc Cert.KernelSsdIdeal.main_arg7))) = (fun _ => 1#1)

def Pre_ReferenceSsdIdeal (m : (ℓ : Loc Cert.ReferenceSsdIdeal.nD Cert.ReferenceSsdIdeal.τ Cert.ReferenceSsdIdeal.sig) → Buf (Elt Ideal) ℓ) : Prop :=
  True

def Pre_ReferenceSsdIdeal_finite_ssd [hPre_finite_ssd : Cert.Pre_finite_ssd.Facts] (m : (ℓ : Loc Cert.ReferenceSsdIdeal.nD Cert.ReferenceSsdIdeal.τ Cert.ReferenceSsdIdeal.sig) → Buf (Elt Ideal) ℓ) : Prop :=
  ∀ c : Dev Cert.ReferenceSsdIdeal.nD,
    (Cert.Pre_finite_ssd.fn (F := Ideal) (m ((c.tc : Thread Cert.ReferenceSsdIdeal.nD Cert.ReferenceSsdIdeal.τ).loc Cert.ReferenceSsdIdeal.main_arg0)) (m ((c.tc : Thread Cert.ReferenceSsdIdeal.nD Cert.ReferenceSsdIdeal.τ).loc Cert.ReferenceSsdIdeal.main_arg1)) (m ((c.tc : Thread Cert.ReferenceSsdIdeal.nD Cert.ReferenceSsdIdeal.τ).loc Cert.ReferenceSsdIdeal.main_arg2)) (m ((c.tc : Thread Cert.ReferenceSsdIdeal.nD Cert.ReferenceSsdIdeal.τ).loc Cert.ReferenceSsdIdeal.main_arg3)) (m ((c.tc : Thread Cert.ReferenceSsdIdeal.nD Cert.ReferenceSsdIdeal.τ).loc Cert.ReferenceSsdIdeal.main_arg4)) (m ((c.tc : Thread Cert.ReferenceSsdIdeal.nD Cert.ReferenceSsdIdeal.τ).loc Cert.ReferenceSsdIdeal.main_arg5)) (m ((c.tc : Thread Cert.ReferenceSsdIdeal.nD Cert.ReferenceSsdIdeal.τ).loc Cert.ReferenceSsdIdeal.main_arg6)) (m ((c.tc : Thread Cert.ReferenceSsdIdeal.nD Cert.ReferenceSsdIdeal.τ).loc Cert.ReferenceSsdIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelFirst [hKernelFirst : Cert.KernelFirst.Facts] : Prop :=
  ∀ (m : (ℓ : Loc Cert.KernelFirst.nD Cert.KernelFirst.τ Cert.KernelFirst.sig) → Buf (Elt Bits) ℓ) (g : Dev Cert.KernelFirst.nD → PrngReg), Pre_KernelFirst m →
    θ_run (Cert.KernelFirst.defs (F := Bits)) (onTc (τ := Cert.KernelFirst.τ) (Cert.KernelFirst.main (F := Bits))) ⟨m, fun _ => 0, g⟩ (fun r => (∀ c : Dev Cert.KernelFirst.nD,
      r.2.mem ((c.tc : Thread Cert.KernelFirst.nD Cert.KernelFirst.τ).loc Cert.KernelFirst.main_arg0) = m ((c.tc : Thread Cert.KernelFirst.nD Cert.KernelFirst.τ).loc Cert.KernelFirst.main_arg0)
      ∧ r.2.mem ((c.tc : Thread Cert.KernelFirst.nD Cert.KernelFirst.τ).loc Cert.KernelFirst.main_arg1) = m ((c.tc : Thread Cert.KernelFirst.nD Cert.KernelFirst.τ).loc Cert.KernelFirst.main_arg1)
      ∧ r.2.mem ((c.tc : Thread Cert.KernelFirst.nD Cert.KernelFirst.τ).loc Cert.KernelFirst.main_arg2) = m ((c.tc : Thread Cert.KernelFirst.nD Cert.KernelFirst.τ).loc Cert.KernelFirst.main_arg2))
      ∧ r.2.sem = fun _ => 0)

def quiescent_KernelFirstIdeal [hKernelFirstIdeal : Cert.KernelFirstIdeal.Facts] : Prop :=
  ∀ (m : (ℓ : Loc Cert.KernelFirstIdeal.nD Cert.KernelFirstIdeal.τ Cert.KernelFirstIdeal.sig) → Buf (Elt Ideal) ℓ) (g : Dev Cert.KernelFirstIdeal.nD → PrngReg), Pre_KernelFirstIdeal m →
    θ_run (Cert.KernelFirstIdeal.defs (F := Ideal)) (onTc (τ := Cert.KernelFirstIdeal.τ) (Cert.KernelFirstIdeal.main (F := Ideal))) ⟨m, fun _ => 0, g⟩ (fun r => (∀ c : Dev Cert.KernelFirstIdeal.nD,
      r.2.mem ((c.tc : Thread Cert.KernelFirstIdeal.nD Cert.KernelFirstIdeal.τ).loc Cert.KernelFirstIdeal.main_arg0) = m ((c.tc : Thread Cert.KernelFirstIdeal.nD Cert.KernelFirstIdeal.τ).loc Cert.KernelFirstIdeal.main_arg0)
      ∧ r.2.mem ((c.tc : Thread Cert.KernelFirstIdeal.nD Cert.KernelFirstIdeal.τ).loc Cert.KernelFirstIdeal.main_arg1) = m ((c.tc : Thread Cert.KernelFirstIdeal.nD Cert.KernelFirstIdeal.τ).loc Cert.KernelFirstIdeal.main_arg1)
      ∧ r.2.mem ((c.tc : Thread Cert.KernelFirstIdeal.nD Cert.KernelFirstIdeal.τ).loc Cert.KernelFirstIdeal.main_arg2) = m ((c.tc : Thread Cert.KernelFirstIdeal.nD Cert.KernelFirstIdeal.τ).loc Cert.KernelFirstIdeal.main_arg2))
      ∧ r.2.sem = fun _ => 0)

def quiescent_ReferenceFirstIdeal [hReferenceFirstIdeal : Cert.ReferenceFirstIdeal.Facts] : Prop :=
  ∀ (m : (ℓ : Loc Cert.ReferenceFirstIdeal.nD Cert.ReferenceFirstIdeal.τ Cert.ReferenceFirstIdeal.sig) → Buf (Elt Ideal) ℓ) (g : Dev Cert.ReferenceFirstIdeal.nD → PrngReg), Pre_ReferenceFirstIdeal m →
    θ_run (Cert.ReferenceFirstIdeal.defs (F := Ideal)) (onTc (τ := Cert.ReferenceFirstIdeal.τ) (Cert.ReferenceFirstIdeal.main (F := Ideal))) ⟨m, fun _ => 0, g⟩ (fun r => (∀ c : Dev Cert.ReferenceFirstIdeal.nD,
      r.2.mem ((c.tc : Thread Cert.ReferenceFirstIdeal.nD Cert.ReferenceFirstIdeal.τ).loc Cert.ReferenceFirstIdeal.main_arg0) = m ((c.tc : Thread Cert.ReferenceFirstIdeal.nD Cert.ReferenceFirstIdeal.τ).loc Cert.ReferenceFirstIdeal.main_arg0)
      ∧ r.2.mem ((c.tc : Thread Cert.ReferenceFirstIdeal.nD Cert.ReferenceFirstIdeal.τ).loc Cert.ReferenceFirstIdeal.main_arg1) = m ((c.tc : Thread Cert.ReferenceFirstIdeal.nD Cert.ReferenceFirstIdeal.τ).loc Cert.ReferenceFirstIdeal.main_arg1)
      ∧ r.2.mem ((c.tc : Thread Cert.ReferenceFirstIdeal.nD Cert.ReferenceFirstIdeal.τ).loc Cert.ReferenceFirstIdeal.main_arg2) = m ((c.tc : Thread Cert.ReferenceFirstIdeal.nD Cert.ReferenceFirstIdeal.τ).loc Cert.ReferenceFirstIdeal.main_arg2))
      ∧ r.2.sem = fun _ => 0)

def quiescent_KernelSsm [hKernelSsm : Cert.KernelSsm.Facts] : Prop :=
  ∀ (m : (ℓ : Loc Cert.KernelSsm.nD Cert.KernelSsm.τ Cert.KernelSsm.sig) → Buf (Elt Bits) ℓ) (g : Dev Cert.KernelSsm.nD → PrngReg), Pre_KernelSsm m →
    θ_run (Cert.KernelSsm.defs (F := Bits)) (onTc (τ := Cert.KernelSsm.τ) (Cert.KernelSsm.main (F := Bits))) ⟨m, fun _ => 0, g⟩ (fun r => (∀ c : Dev Cert.KernelSsm.nD,
      r.2.mem ((c.tc : Thread Cert.KernelSsm.nD Cert.KernelSsm.τ).loc Cert.KernelSsm.main_arg0) = m ((c.tc : Thread Cert.KernelSsm.nD Cert.KernelSsm.τ).loc Cert.KernelSsm.main_arg0)
      ∧ r.2.mem ((c.tc : Thread Cert.KernelSsm.nD Cert.KernelSsm.τ).loc Cert.KernelSsm.main_arg1) = m ((c.tc : Thread Cert.KernelSsm.nD Cert.KernelSsm.τ).loc Cert.KernelSsm.main_arg1))
      ∧ r.2.sem = fun _ => 0)

def quiescent_KernelSsmIdeal [hKernelSsmIdeal : Cert.KernelSsmIdeal.Facts] : Prop :=
  ∀ (m : (ℓ : Loc Cert.KernelSsmIdeal.nD Cert.KernelSsmIdeal.τ Cert.KernelSsmIdeal.sig) → Buf (Elt Ideal) ℓ) (g : Dev Cert.KernelSsmIdeal.nD → PrngReg), Pre_KernelSsmIdeal m →
    θ_run (Cert.KernelSsmIdeal.defs (F := Ideal)) (onTc (τ := Cert.KernelSsmIdeal.τ) (Cert.KernelSsmIdeal.main (F := Ideal))) ⟨m, fun _ => 0, g⟩ (fun r => (∀ c : Dev Cert.KernelSsmIdeal.nD,
      r.2.mem ((c.tc : Thread Cert.KernelSsmIdeal.nD Cert.KernelSsmIdeal.τ).loc Cert.KernelSsmIdeal.main_arg0) = m ((c.tc : Thread Cert.KernelSsmIdeal.nD Cert.KernelSsmIdeal.τ).loc Cert.KernelSsmIdeal.main_arg0)
      ∧ r.2.mem ((c.tc : Thread Cert.KernelSsmIdeal.nD Cert.KernelSsmIdeal.τ).loc Cert.KernelSsmIdeal.main_arg1) = m ((c.tc : Thread Cert.KernelSsmIdeal.nD Cert.KernelSsmIdeal.τ).loc Cert.KernelSsmIdeal.main_arg1))
      ∧ r.2.sem = fun _ => 0)

def quiescent_ReferenceSsmIdeal [hReferenceSsmIdeal : Cert.ReferenceSsmIdeal.Facts] : Prop :=
  ∀ (m : (ℓ : Loc Cert.ReferenceSsmIdeal.nD Cert.ReferenceSsmIdeal.τ Cert.ReferenceSsmIdeal.sig) → Buf (Elt Ideal) ℓ) (g : Dev Cert.ReferenceSsmIdeal.nD → PrngReg), Pre_ReferenceSsmIdeal m →
    θ_run (Cert.ReferenceSsmIdeal.defs (F := Ideal)) (onTc (τ := Cert.ReferenceSsmIdeal.τ) (Cert.ReferenceSsmIdeal.main (F := Ideal))) ⟨m, fun _ => 0, g⟩ (fun r => (∀ c : Dev Cert.ReferenceSsmIdeal.nD,
      r.2.mem ((c.tc : Thread Cert.ReferenceSsmIdeal.nD Cert.ReferenceSsmIdeal.τ).loc Cert.ReferenceSsmIdeal.main_arg0) = m ((c.tc : Thread Cert.ReferenceSsmIdeal.nD Cert.ReferenceSsmIdeal.τ).loc Cert.ReferenceSsmIdeal.main_arg0)
      ∧ r.2.mem ((c.tc : Thread Cert.ReferenceSsmIdeal.nD Cert.ReferenceSsmIdeal.τ).loc Cert.ReferenceSsmIdeal.main_arg1) = m ((c.tc : Thread Cert.ReferenceSsmIdeal.nD Cert.ReferenceSsmIdeal.τ).loc Cert.ReferenceSsmIdeal.main_arg1))
      ∧ r.2.sem = fun _ => 0)

def quiescent_KernelSmall [hKernelSmall : Cert.KernelSmall.Facts] : Prop :=
  ∀ (m : (ℓ : Loc Cert.KernelSmall.nD Cert.KernelSmall.τ Cert.KernelSmall.sig) → Buf (Elt Bits) ℓ) (g : Dev Cert.KernelSmall.nD → PrngReg), Pre_KernelSmall m →
    θ_run (Cert.KernelSmall.defs (F := Bits)) (onTc (τ := Cert.KernelSmall.τ) (Cert.KernelSmall.main (F := Bits))) ⟨m, fun _ => 0, g⟩ (fun r => (∀ c : Dev Cert.KernelSmall.nD,
      r.2.mem ((c.tc : Thread Cert.KernelSmall.nD Cert.KernelSmall.τ).loc Cert.KernelSmall.main_arg0) = m ((c.tc : Thread Cert.KernelSmall.nD Cert.KernelSmall.τ).loc Cert.KernelSmall.main_arg0)
      ∧ r.2.mem ((c.tc : Thread Cert.KernelSmall.nD Cert.KernelSmall.τ).loc Cert.KernelSmall.main_arg1) = m ((c.tc : Thread Cert.KernelSmall.nD Cert.KernelSmall.τ).loc Cert.KernelSmall.main_arg1)
      ∧ r.2.mem ((c.tc : Thread Cert.KernelSmall.nD Cert.KernelSmall.τ).loc Cert.KernelSmall.main_arg2) = m ((c.tc : Thread Cert.KernelSmall.nD Cert.KernelSmall.τ).loc Cert.KernelSmall.main_arg2))
      ∧ r.2.sem = fun _ => 0)

def quiescent_KernelSmallIdeal [hKernelSmallIdeal : Cert.KernelSmallIdeal.Facts] : Prop :=
  ∀ (m : (ℓ : Loc Cert.KernelSmallIdeal.nD Cert.KernelSmallIdeal.τ Cert.KernelSmallIdeal.sig) → Buf (Elt Ideal) ℓ) (g : Dev Cert.KernelSmallIdeal.nD → PrngReg), Pre_KernelSmallIdeal m →
    θ_run (Cert.KernelSmallIdeal.defs (F := Ideal)) (onTc (τ := Cert.KernelSmallIdeal.τ) (Cert.KernelSmallIdeal.main (F := Ideal))) ⟨m, fun _ => 0, g⟩ (fun r => (∀ c : Dev Cert.KernelSmallIdeal.nD,
      r.2.mem ((c.tc : Thread Cert.KernelSmallIdeal.nD Cert.KernelSmallIdeal.τ).loc Cert.KernelSmallIdeal.main_arg0) = m ((c.tc : Thread Cert.KernelSmallIdeal.nD Cert.KernelSmallIdeal.τ).loc Cert.KernelSmallIdeal.main_arg0)
      ∧ r.2.mem ((c.tc : Thread Cert.KernelSmallIdeal.nD Cert.KernelSmallIdeal.τ).loc Cert.KernelSmallIdeal.main_arg1) = m ((c.tc : Thread Cert.KernelSmallIdeal.nD Cert.KernelSmallIdeal.τ).loc Cert.KernelSmallIdeal.main_arg1)
      ∧ r.2.mem ((c.tc : Thread Cert.KernelSmallIdeal.nD Cert.KernelSmallIdeal.τ).loc Cert.KernelSmallIdeal.main_arg2) = m ((c.tc : Thread Cert.KernelSmallIdeal.nD Cert.KernelSmallIdeal.τ).loc Cert.KernelSmallIdeal.main_arg2))
      ∧ r.2.sem = fun _ => 0)

def quiescent_ReferenceSmallIdeal [hReferenceSmallIdeal : Cert.ReferenceSmallIdeal.Facts] : Prop :=
  ∀ (m : (ℓ : Loc Cert.ReferenceSmallIdeal.nD Cert.ReferenceSmallIdeal.τ Cert.ReferenceSmallIdeal.sig) → Buf (Elt Ideal) ℓ) (g : Dev Cert.ReferenceSmallIdeal.nD → PrngReg), Pre_ReferenceSmallIdeal m →
    θ_run (Cert.ReferenceSmallIdeal.defs (F := Ideal)) (onTc (τ := Cert.ReferenceSmallIdeal.τ) (Cert.ReferenceSmallIdeal.main (F := Ideal))) ⟨m, fun _ => 0, g⟩ (fun r => (∀ c : Dev Cert.ReferenceSmallIdeal.nD,
      r.2.mem ((c.tc : Thread Cert.ReferenceSmallIdeal.nD Cert.ReferenceSmallIdeal.τ).loc Cert.ReferenceSmallIdeal.main_arg0) = m ((c.tc : Thread Cert.ReferenceSmallIdeal.nD Cert.ReferenceSmallIdeal.τ).loc Cert.ReferenceSmallIdeal.main_arg0)
      ∧ r.2.mem ((c.tc : Thread Cert.ReferenceSmallIdeal.nD Cert.ReferenceSmallIdeal.τ).loc Cert.ReferenceSmallIdeal.main_arg1) = m ((c.tc : Thread Cert.ReferenceSmallIdeal.nD Cert.ReferenceSmallIdeal.τ).loc Cert.ReferenceSmallIdeal.main_arg1)
      ∧ r.2.mem ((c.tc : Thread Cert.ReferenceSmallIdeal.nD Cert.ReferenceSmallIdeal.τ).loc Cert.ReferenceSmallIdeal.main_arg2) = m ((c.tc : Thread Cert.ReferenceSmallIdeal.nD Cert.ReferenceSmallIdeal.τ).loc Cert.ReferenceSmallIdeal.main_arg2))
      ∧ r.2.sem = fun _ => 0)

def quiescent_KernelGla [hKernelGla : Cert.KernelGla.Facts] : Prop :=
  ∀ (m : (ℓ : Loc Cert.KernelGla.nD Cert.KernelGla.τ Cert.KernelGla.sig) → Buf (Elt Bits) ℓ) (g : Dev Cert.KernelGla.nD → PrngReg), Pre_KernelGla m →
    θ_run (Cert.KernelGla.defs (F := Bits)) (onTc (τ := Cert.KernelGla.τ) (Cert.KernelGla.main (F := Bits))) ⟨m, fun _ => 0, g⟩ (fun r => (∀ c : Dev Cert.KernelGla.nD,
      r.2.mem ((c.tc : Thread Cert.KernelGla.nD Cert.KernelGla.τ).loc Cert.KernelGla.main_arg0) = m ((c.tc : Thread Cert.KernelGla.nD Cert.KernelGla.τ).loc Cert.KernelGla.main_arg0)
      ∧ r.2.mem ((c.tc : Thread Cert.KernelGla.nD Cert.KernelGla.τ).loc Cert.KernelGla.main_arg1) = m ((c.tc : Thread Cert.KernelGla.nD Cert.KernelGla.τ).loc Cert.KernelGla.main_arg1))
      ∧ r.2.sem = fun _ => 0)

def quiescent_KernelGlaIdeal [hKernelGlaIdeal : Cert.KernelGlaIdeal.Facts] : Prop :=
  ∀ (m : (ℓ : Loc Cert.KernelGlaIdeal.nD Cert.KernelGlaIdeal.τ Cert.KernelGlaIdeal.sig) → Buf (Elt Ideal) ℓ) (g : Dev Cert.KernelGlaIdeal.nD → PrngReg), Pre_KernelGlaIdeal m →
    θ_run (Cert.KernelGlaIdeal.defs (F := Ideal)) (onTc (τ := Cert.KernelGlaIdeal.τ) (Cert.KernelGlaIdeal.main (F := Ideal))) ⟨m, fun _ => 0, g⟩ (fun r => (∀ c : Dev Cert.KernelGlaIdeal.nD,
      r.2.mem ((c.tc : Thread Cert.KernelGlaIdeal.nD Cert.KernelGlaIdeal.τ).loc Cert.KernelGlaIdeal.main_arg0) = m ((c.tc : Thread Cert.KernelGlaIdeal.nD Cert.KernelGlaIdeal.τ).loc Cert.KernelGlaIdeal.main_arg0)
      ∧ r.2.mem ((c.tc : Thread Cert.KernelGlaIdeal.nD Cert.KernelGlaIdeal.τ).loc Cert.KernelGlaIdeal.main_arg1) = m ((c.tc : Thread Cert.KernelGlaIdeal.nD Cert.KernelGlaIdeal.τ).loc Cert.KernelGlaIdeal.main_arg1))
      ∧ r.2.sem = fun _ => 0)

def quiescent_ReferenceGlaIdeal [hReferenceGlaIdeal : Cert.ReferenceGlaIdeal.Facts] : Prop :=
  ∀ (m : (ℓ : Loc Cert.ReferenceGlaIdeal.nD Cert.ReferenceGlaIdeal.τ Cert.ReferenceGlaIdeal.sig) → Buf (Elt Ideal) ℓ) (g : Dev Cert.ReferenceGlaIdeal.nD → PrngReg), Pre_ReferenceGlaIdeal m →
    θ_run (Cert.ReferenceGlaIdeal.defs (F := Ideal)) (onTc (τ := Cert.ReferenceGlaIdeal.τ) (Cert.ReferenceGlaIdeal.main (F := Ideal))) ⟨m, fun _ => 0, g⟩ (fun r => (∀ c : Dev Cert.ReferenceGlaIdeal.nD,
      r.2.mem ((c.tc : Thread Cert.ReferenceGlaIdeal.nD Cert.ReferenceGlaIdeal.τ).loc Cert.ReferenceGlaIdeal.main_arg0) = m ((c.tc : Thread Cert.ReferenceGlaIdeal.nD Cert.ReferenceGlaIdeal.τ).loc Cert.ReferenceGlaIdeal.main_arg0)
      ∧ r.2.mem ((c.tc : Thread Cert.ReferenceGlaIdeal.nD Cert.ReferenceGlaIdeal.τ).loc Cert.ReferenceGlaIdeal.main_arg1) = m ((c.tc : Thread Cert.ReferenceGlaIdeal.nD Cert.ReferenceGlaIdeal.τ).loc Cert.ReferenceGlaIdeal.main_arg1))
      ∧ r.2.sem = fun _ => 0)

def quiescent_KernelDecay [hKernelDecay : Cert.KernelDecay.Facts] : Prop :=
  ∀ (m : (ℓ : Loc Cert.KernelDecay.nD Cert.KernelDecay.τ Cert.KernelDecay.sig) → Buf (Elt Bits) ℓ) (g : Dev Cert.KernelDecay.nD → PrngReg), Pre_KernelDecay m →
    θ_run (Cert.KernelDecay.defs (F := Bits)) (onTc (τ := Cert.KernelDecay.τ) (Cert.KernelDecay.main (F := Bits))) ⟨m, fun _ => 0, g⟩ (fun r => (∀ c : Dev Cert.KernelDecay.nD,
      r.2.mem ((c.tc : Thread Cert.KernelDecay.nD Cert.KernelDecay.τ).loc Cert.KernelDecay.main_arg0) = m ((c.tc : Thread Cert.KernelDecay.nD Cert.KernelDecay.τ).loc Cert.KernelDecay.main_arg0)
      ∧ r.2.mem ((c.tc : Thread Cert.KernelDecay.nD Cert.KernelDecay.τ).loc Cert.KernelDecay.main_arg1) = m ((c.tc : Thread Cert.KernelDecay.nD Cert.KernelDecay.τ).loc Cert.KernelDecay.main_arg1))
      ∧ r.2.sem = fun _ => 0)

def quiescent_KernelDecayIdeal [hKernelDecayIdeal : Cert.KernelDecayIdeal.Facts] : Prop :=
  ∀ (m : (ℓ : Loc Cert.KernelDecayIdeal.nD Cert.KernelDecayIdeal.τ Cert.KernelDecayIdeal.sig) → Buf (Elt Ideal) ℓ) (g : Dev Cert.KernelDecayIdeal.nD → PrngReg), Pre_KernelDecayIdeal m →
    θ_run (Cert.KernelDecayIdeal.defs (F := Ideal)) (onTc (τ := Cert.KernelDecayIdeal.τ) (Cert.KernelDecayIdeal.main (F := Ideal))) ⟨m, fun _ => 0, g⟩ (fun r => (∀ c : Dev Cert.KernelDecayIdeal.nD,
      r.2.mem ((c.tc : Thread Cert.KernelDecayIdeal.nD Cert.KernelDecayIdeal.τ).loc Cert.KernelDecayIdeal.main_arg0) = m ((c.tc : Thread Cert.KernelDecayIdeal.nD Cert.KernelDecayIdeal.τ).loc Cert.KernelDecayIdeal.main_arg0)
      ∧ r.2.mem ((c.tc : Thread Cert.KernelDecayIdeal.nD Cert.KernelDecayIdeal.τ).loc Cert.KernelDecayIdeal.main_arg1) = m ((c.tc : Thread Cert.KernelDecayIdeal.nD Cert.KernelDecayIdeal.τ).loc Cert.KernelDecayIdeal.main_arg1))
      ∧ r.2.sem = fun _ => 0)

def quiescent_ReferenceDecayIdeal [hReferenceDecayIdeal : Cert.ReferenceDecayIdeal.Facts] : Prop :=
  ∀ (m : (ℓ : Loc Cert.ReferenceDecayIdeal.nD Cert.ReferenceDecayIdeal.τ Cert.ReferenceDecayIdeal.sig) → Buf (Elt Ideal) ℓ) (g : Dev Cert.ReferenceDecayIdeal.nD → PrngReg), Pre_ReferenceDecayIdeal m →
    θ_run (Cert.ReferenceDecayIdeal.defs (F := Ideal)) (onTc (τ := Cert.ReferenceDecayIdeal.τ) (Cert.ReferenceDecayIdeal.main (F := Ideal))) ⟨m, fun _ => 0, g⟩ (fun r => (∀ c : Dev Cert.ReferenceDecayIdeal.nD,
      r.2.mem ((c.tc : Thread Cert.ReferenceDecayIdeal.nD Cert.ReferenceDecayIdeal.τ).loc Cert.ReferenceDecayIdeal.main_arg0) = m ((c.tc : Thread Cert.ReferenceDecayIdeal.nD Cert.ReferenceDecayIdeal.τ).loc Cert.ReferenceDecayIdeal.main_arg0)
      ∧ r.2.mem ((c.tc : Thread Cert.ReferenceDecayIdeal.nD Cert.ReferenceDecayIdeal.τ).loc Cert.ReferenceDecayIdeal.main_arg1) = m ((c.tc : Thread Cert.ReferenceDecayIdeal.nD Cert.ReferenceDecayIdeal.τ).loc Cert.ReferenceDecayIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4))
      ∧ r.2.sem = fun _ => 0)

def quiescent_KernelOdd [hKernelOdd : Cert.KernelOdd.Facts] : Prop :=
  ∀ (m : (ℓ : Loc Cert.KernelOdd.nD Cert.KernelOdd.τ Cert.KernelOdd.sig) → Buf (Elt Bits) ℓ) (g : Dev Cert.KernelOdd.nD → PrngReg), Pre_KernelOdd m →
    θ_run (Cert.KernelOdd.defs (F := Bits)) (onTc (τ := Cert.KernelOdd.τ) (Cert.KernelOdd.main (F := Bits))) ⟨m, fun _ => 0, g⟩ (fun r => (∀ c : Dev Cert.KernelOdd.nD,
      r.2.mem ((c.tc : Thread Cert.KernelOdd.nD Cert.KernelOdd.τ).loc Cert.KernelOdd.main_arg0) = m ((c.tc : Thread Cert.KernelOdd.nD Cert.KernelOdd.τ).loc Cert.KernelOdd.main_arg0)
      ∧ r.2.mem ((c.tc : Thread Cert.KernelOdd.nD Cert.KernelOdd.τ).loc Cert.KernelOdd.main_arg1) = m ((c.tc : Thread Cert.KernelOdd.nD Cert.KernelOdd.τ).loc Cert.KernelOdd.main_arg1)
      ∧ r.2.mem ((c.tc : Thread Cert.KernelOdd.nD Cert.KernelOdd.τ).loc Cert.KernelOdd.main_arg2) = m ((c.tc : Thread Cert.KernelOdd.nD Cert.KernelOdd.τ).loc Cert.KernelOdd.main_arg2)
      ∧ r.2.mem ((c.tc : Thread Cert.KernelOdd.nD Cert.KernelOdd.τ).loc Cert.KernelOdd.main_arg3) = m ((c.tc : Thread Cert.KernelOdd.nD Cert.KernelOdd.τ).loc Cert.KernelOdd.main_arg3))
      ∧ r.2.sem = fun _ => 0)

def quiescent_KernelOddIdeal [hKernelOddIdeal : Cert.KernelOddIdeal.Facts] : Prop :=
  ∀ (m : (ℓ : Loc Cert.KernelOddIdeal.nD Cert.KernelOddIdeal.τ Cert.KernelOddIdeal.sig) → Buf (Elt Ideal) ℓ) (g : Dev Cert.KernelOddIdeal.nD → PrngReg), Pre_KernelOddIdeal m →
    θ_run (Cert.KernelOddIdeal.defs (F := Ideal)) (onTc (τ := Cert.KernelOddIdeal.τ) (Cert.KernelOddIdeal.main (F := Ideal))) ⟨m, fun _ => 0, g⟩ (fun r => (∀ c : Dev Cert.KernelOddIdeal.nD,
      r.2.mem ((c.tc : Thread Cert.KernelOddIdeal.nD Cert.KernelOddIdeal.τ).loc Cert.KernelOddIdeal.main_arg0) = m ((c.tc : Thread Cert.KernelOddIdeal.nD Cert.KernelOddIdeal.τ).loc Cert.KernelOddIdeal.main_arg0)
      ∧ r.2.mem ((c.tc : Thread Cert.KernelOddIdeal.nD Cert.KernelOddIdeal.τ).loc Cert.KernelOddIdeal.main_arg1) = m ((c.tc : Thread Cert.KernelOddIdeal.nD Cert.KernelOddIdeal.τ).loc Cert.KernelOddIdeal.main_arg1)
      ∧ r.2.mem ((c.tc : Thread Cert.KernelOddIdeal.nD Cert.KernelOddIdeal.τ).loc Cert.KernelOddIdeal.main_arg2) = m ((c.tc : Thread Cert.KernelOddIdeal.nD Cert.KernelOddIdeal.τ).loc Cert.KernelOddIdeal.main_arg2)
      ∧ r.2.mem ((c.tc : Thread Cert.KernelOddIdeal.nD Cert.KernelOddIdeal.τ).loc Cert.KernelOddIdeal.main_arg3) = m ((c.tc : Thread Cert.KernelOddIdeal.nD Cert.KernelOddIdeal.τ).loc Cert.KernelOddIdeal.main_arg3))
      ∧ r.2.sem = fun _ => 0)

def quiescent_ReferenceOddIdeal [hReferenceOddIdeal : Cert.ReferenceOddIdeal.Facts] : Prop :=
  ∀ (m : (ℓ : Loc Cert.ReferenceOddIdeal.nD Cert.ReferenceOddIdeal.τ Cert.ReferenceOddIdeal.sig) → Buf (Elt Ideal) ℓ) (g : Dev Cert.ReferenceOddIdeal.nD → PrngReg), Pre_ReferenceOddIdeal m →
    θ_run (Cert.ReferenceOddIdeal.defs (F := Ideal)) (onTc (τ := Cert.ReferenceOddIdeal.τ) (Cert.ReferenceOddIdeal.main (F := Ideal))) ⟨m, fun _ => 0, g⟩ (fun r => (∀ c : Dev Cert.ReferenceOddIdeal.nD,
      r.2.mem ((c.tc : Thread Cert.ReferenceOddIdeal.nD Cert.ReferenceOddIdeal.τ).loc Cert.ReferenceOddIdeal.main_arg0) = m ((c.tc : Thread Cert.ReferenceOddIdeal.nD Cert.ReferenceOddIdeal.τ).loc Cert.ReferenceOddIdeal.main_arg0)
      ∧ r.2.mem ((c.tc : Thread Cert.ReferenceOddIdeal.nD Cert.ReferenceOddIdeal.τ).loc Cert.ReferenceOddIdeal.main_arg1) = m ((c.tc : Thread Cert.ReferenceOddIdeal.nD Cert.ReferenceOddIdeal.τ).loc Cert.ReferenceOddIdeal.main_arg1)
      ∧ r.2.mem ((c.tc : Thread Cert.ReferenceOddIdeal.nD Cert.ReferenceOddIdeal.τ).loc Cert.ReferenceOddIdeal.main_arg2) = m ((c.tc : Thread Cert.ReferenceOddIdeal.nD Cert.ReferenceOddIdeal.τ).loc Cert.ReferenceOddIdeal.main_arg2)
      ∧ r.2.mem ((c.tc : Thread Cert.ReferenceOddIdeal.nD Cert.ReferenceOddIdeal.τ).loc Cert.ReferenceOddIdeal.main_arg3) = m ((c.tc : Thread Cert.ReferenceOddIdeal.nD Cert.ReferenceOddIdeal.τ).loc Cert.ReferenceOddIdeal.main_arg3))
      ∧ r.2.sem = fun _ => 0)

def quiescent_KernelLaterSsm [hKernelLaterSsm : Cert.KernelLaterSsm.Facts] : Prop :=
  ∀ (m : (ℓ : Loc Cert.KernelLaterSsm.nD Cert.KernelLaterSsm.τ Cert.KernelLaterSsm.sig) → Buf (Elt Bits) ℓ) (g : Dev Cert.KernelLaterSsm.nD → PrngReg), Pre_KernelLaterSsm m →
    θ_run (Cert.KernelLaterSsm.defs (F := Bits)) (onTc (τ := Cert.KernelLaterSsm.τ) (Cert.KernelLaterSsm.main (F := Bits))) ⟨m, fun _ => 0, g⟩ (fun r => (∀ c : Dev Cert.KernelLaterSsm.nD,
      r.2.mem ((c.tc : Thread Cert.KernelLaterSsm.nD Cert.KernelLaterSsm.τ).loc Cert.KernelLaterSsm.main_arg0) = m ((c.tc : Thread Cert.KernelLaterSsm.nD Cert.KernelLaterSsm.τ).loc Cert.KernelLaterSsm.main_arg0)
      ∧ r.2.mem ((c.tc : Thread Cert.KernelLaterSsm.nD Cert.KernelLaterSsm.τ).loc Cert.KernelLaterSsm.main_arg1) = m ((c.tc : Thread Cert.KernelLaterSsm.nD Cert.KernelLaterSsm.τ).loc Cert.KernelLaterSsm.main_arg1))
      ∧ r.2.sem = fun _ => 0)

def quiescent_KernelLaterSsmIdeal [hKernelLaterSsmIdeal : Cert.KernelLaterSsmIdeal.Facts] : Prop :=
  ∀ (m : (ℓ : Loc Cert.KernelLaterSsmIdeal.nD Cert.KernelLaterSsmIdeal.τ Cert.KernelLaterSsmIdeal.sig) → Buf (Elt Ideal) ℓ) (g : Dev Cert.KernelLaterSsmIdeal.nD → PrngReg), Pre_KernelLaterSsmIdeal m →
    θ_run (Cert.KernelLaterSsmIdeal.defs (F := Ideal)) (onTc (τ := Cert.KernelLaterSsmIdeal.τ) (Cert.KernelLaterSsmIdeal.main (F := Ideal))) ⟨m, fun _ => 0, g⟩ (fun r => (∀ c : Dev Cert.KernelLaterSsmIdeal.nD,
      r.2.mem ((c.tc : Thread Cert.KernelLaterSsmIdeal.nD Cert.KernelLaterSsmIdeal.τ).loc Cert.KernelLaterSsmIdeal.main_arg0) = m ((c.tc : Thread Cert.KernelLaterSsmIdeal.nD Cert.KernelLaterSsmIdeal.τ).loc Cert.KernelLaterSsmIdeal.main_arg0)
      ∧ r.2.mem ((c.tc : Thread Cert.KernelLaterSsmIdeal.nD Cert.KernelLaterSsmIdeal.τ).loc Cert.KernelLaterSsmIdeal.main_arg1) = m ((c.tc : Thread Cert.KernelLaterSsmIdeal.nD Cert.KernelLaterSsmIdeal.τ).loc Cert.KernelLaterSsmIdeal.main_arg1))
      ∧ r.2.sem = fun _ => 0)

def quiescent_ReferenceLaterSsmIdeal [hReferenceLaterSsmIdeal : Cert.ReferenceLaterSsmIdeal.Facts] : Prop :=
  ∀ (m : (ℓ : Loc Cert.ReferenceLaterSsmIdeal.nD Cert.ReferenceLaterSsmIdeal.τ Cert.ReferenceLaterSsmIdeal.sig) → Buf (Elt Ideal) ℓ) (g : Dev Cert.ReferenceLaterSsmIdeal.nD → PrngReg), Pre_ReferenceLaterSsmIdeal m →
    θ_run (Cert.ReferenceLaterSsmIdeal.defs (F := Ideal)) (onTc (τ := Cert.ReferenceLaterSsmIdeal.τ) (Cert.ReferenceLaterSsmIdeal.main (F := Ideal))) ⟨m, fun _ => 0, g⟩ (fun r => (∀ c : Dev Cert.ReferenceLaterSsmIdeal.nD,
      r.2.mem ((c.tc : Thread Cert.ReferenceLaterSsmIdeal.nD Cert.ReferenceLaterSsmIdeal.τ).loc Cert.ReferenceLaterSsmIdeal.main_arg0) = m ((c.tc : Thread Cert.ReferenceLaterSsmIdeal.nD Cert.ReferenceLaterSsmIdeal.τ).loc Cert.ReferenceLaterSsmIdeal.main_arg0)
      ∧ r.2.mem ((c.tc : Thread Cert.ReferenceLaterSsmIdeal.nD Cert.ReferenceLaterSsmIdeal.τ).loc Cert.ReferenceLaterSsmIdeal.main_arg1) = m ((c.tc : Thread Cert.ReferenceLaterSsmIdeal.nD Cert.ReferenceLaterSsmIdeal.τ).loc Cert.ReferenceLaterSsmIdeal.main_arg1))
      ∧ r.2.sem = fun _ => 0)

def quiescent_KernelLaterSmall [hKernelLaterSmall : Cert.KernelLaterSmall.Facts] : Prop :=
  ∀ (m : (ℓ : Loc Cert.KernelLaterSmall.nD Cert.KernelLaterSmall.τ Cert.KernelLaterSmall.sig) → Buf (Elt Bits) ℓ) (g : Dev Cert.KernelLaterSmall.nD → PrngReg), Pre_KernelLaterSmall m →
    θ_run (Cert.KernelLaterSmall.defs (F := Bits)) (onTc (τ := Cert.KernelLaterSmall.τ) (Cert.KernelLaterSmall.main (F := Bits))) ⟨m, fun _ => 0, g⟩ (fun r => (∀ c : Dev Cert.KernelLaterSmall.nD,
      r.2.mem ((c.tc : Thread Cert.KernelLaterSmall.nD Cert.KernelLaterSmall.τ).loc Cert.KernelLaterSmall.main_arg0) = m ((c.tc : Thread Cert.KernelLaterSmall.nD Cert.KernelLaterSmall.τ).loc Cert.KernelLaterSmall.main_arg0)
      ∧ r.2.mem ((c.tc : Thread Cert.KernelLaterSmall.nD Cert.KernelLaterSmall.τ).loc Cert.KernelLaterSmall.main_arg1) = m ((c.tc : Thread Cert.KernelLaterSmall.nD Cert.KernelLaterSmall.τ).loc Cert.KernelLaterSmall.main_arg1)
      ∧ r.2.mem ((c.tc : Thread Cert.KernelLaterSmall.nD Cert.KernelLaterSmall.τ).loc Cert.KernelLaterSmall.main_arg2) = m ((c.tc : Thread Cert.KernelLaterSmall.nD Cert.KernelLaterSmall.τ).loc Cert.KernelLaterSmall.main_arg2))
      ∧ r.2.sem = fun _ => 0)

def quiescent_KernelLaterSmallIdeal [hKernelLaterSmallIdeal : Cert.KernelLaterSmallIdeal.Facts] : Prop :=
  ∀ (m : (ℓ : Loc Cert.KernelLaterSmallIdeal.nD Cert.KernelLaterSmallIdeal.τ Cert.KernelLaterSmallIdeal.sig) → Buf (Elt Ideal) ℓ) (g : Dev Cert.KernelLaterSmallIdeal.nD → PrngReg), Pre_KernelLaterSmallIdeal m →
    θ_run (Cert.KernelLaterSmallIdeal.defs (F := Ideal)) (onTc (τ := Cert.KernelLaterSmallIdeal.τ) (Cert.KernelLaterSmallIdeal.main (F := Ideal))) ⟨m, fun _ => 0, g⟩ (fun r => (∀ c : Dev Cert.KernelLaterSmallIdeal.nD,
      r.2.mem ((c.tc : Thread Cert.KernelLaterSmallIdeal.nD Cert.KernelLaterSmallIdeal.τ).loc Cert.KernelLaterSmallIdeal.main_arg0) = m ((c.tc : Thread Cert.KernelLaterSmallIdeal.nD Cert.KernelLaterSmallIdeal.τ).loc Cert.KernelLaterSmallIdeal.main_arg0)
      ∧ r.2.mem ((c.tc : Thread Cert.KernelLaterSmallIdeal.nD Cert.KernelLaterSmallIdeal.τ).loc Cert.KernelLaterSmallIdeal.main_arg1) = m ((c.tc : Thread Cert.KernelLaterSmallIdeal.nD Cert.KernelLaterSmallIdeal.τ).loc Cert.KernelLaterSmallIdeal.main_arg1)
      ∧ r.2.mem ((c.tc : Thread Cert.KernelLaterSmallIdeal.nD Cert.KernelLaterSmallIdeal.τ).loc Cert.KernelLaterSmallIdeal.main_arg2) = m ((c.tc : Thread Cert.KernelLaterSmallIdeal.nD Cert.KernelLaterSmallIdeal.τ).loc Cert.KernelLaterSmallIdeal.main_arg2))
      ∧ r.2.sem = fun _ => 0)

def quiescent_ReferenceLaterSmallIdeal [hReferenceLaterSmallIdeal : Cert.ReferenceLaterSmallIdeal.Facts] : Prop :=
  ∀ (m : (ℓ : Loc Cert.ReferenceLaterSmallIdeal.nD Cert.ReferenceLaterSmallIdeal.τ Cert.ReferenceLaterSmallIdeal.sig) → Buf (Elt Ideal) ℓ) (g : Dev Cert.ReferenceLaterSmallIdeal.nD → PrngReg), Pre_ReferenceLaterSmallIdeal m →
    θ_run (Cert.ReferenceLaterSmallIdeal.defs (F := Ideal)) (onTc (τ := Cert.ReferenceLaterSmallIdeal.τ) (Cert.ReferenceLaterSmallIdeal.main (F := Ideal))) ⟨m, fun _ => 0, g⟩ (fun r => (∀ c : Dev Cert.ReferenceLaterSmallIdeal.nD,
      r.2.mem ((c.tc : Thread Cert.ReferenceLaterSmallIdeal.nD Cert.ReferenceLaterSmallIdeal.τ).loc Cert.ReferenceLaterSmallIdeal.main_arg0) = m ((c.tc : Thread Cert.ReferenceLaterSmallIdeal.nD Cert.ReferenceLaterSmallIdeal.τ).loc Cert.ReferenceLaterSmallIdeal.main_arg0)
      ∧ r.2.mem ((c.tc : Thread Cert.ReferenceLaterSmallIdeal.nD Cert.ReferenceLaterSmallIdeal.τ).loc Cert.ReferenceLaterSmallIdeal.main_arg1) = m ((c.tc : Thread Cert.ReferenceLaterSmallIdeal.nD Cert.ReferenceLaterSmallIdeal.τ).loc Cert.ReferenceLaterSmallIdeal.main_arg1)
      ∧ r.2.mem ((c.tc : Thread Cert.ReferenceLaterSmallIdeal.nD Cert.ReferenceLaterSmallIdeal.τ).loc Cert.ReferenceLaterSmallIdeal.main_arg2) = m ((c.tc : Thread Cert.ReferenceLaterSmallIdeal.nD Cert.ReferenceLaterSmallIdeal.τ).loc Cert.ReferenceLaterSmallIdeal.main_arg2))
      ∧ r.2.sem = fun _ => 0)

def quiescent_KernelLaterGla [hKernelLaterGla : Cert.KernelLaterGla.Facts] : Prop :=
  ∀ (m : (ℓ : Loc Cert.KernelLaterGla.nD Cert.KernelLaterGla.τ Cert.KernelLaterGla.sig) → Buf (Elt Bits) ℓ) (g : Dev Cert.KernelLaterGla.nD → PrngReg), Pre_KernelLaterGla m →
    θ_run (Cert.KernelLaterGla.defs (F := Bits)) (onTc (τ := Cert.KernelLaterGla.τ) (Cert.KernelLaterGla.main (F := Bits))) ⟨m, fun _ => 0, g⟩ (fun r => (∀ c : Dev Cert.KernelLaterGla.nD,
      r.2.mem ((c.tc : Thread Cert.KernelLaterGla.nD Cert.KernelLaterGla.τ).loc Cert.KernelLaterGla.main_arg0) = m ((c.tc : Thread Cert.KernelLaterGla.nD Cert.KernelLaterGla.τ).loc Cert.KernelLaterGla.main_arg0)
      ∧ r.2.mem ((c.tc : Thread Cert.KernelLaterGla.nD Cert.KernelLaterGla.τ).loc Cert.KernelLaterGla.main_arg1) = m ((c.tc : Thread Cert.KernelLaterGla.nD Cert.KernelLaterGla.τ).loc Cert.KernelLaterGla.main_arg1))
      ∧ r.2.sem = fun _ => 0)

def quiescent_KernelLaterGlaIdeal [hKernelLaterGlaIdeal : Cert.KernelLaterGlaIdeal.Facts] : Prop :=
  ∀ (m : (ℓ : Loc Cert.KernelLaterGlaIdeal.nD Cert.KernelLaterGlaIdeal.τ Cert.KernelLaterGlaIdeal.sig) → Buf (Elt Ideal) ℓ) (g : Dev Cert.KernelLaterGlaIdeal.nD → PrngReg), Pre_KernelLaterGlaIdeal m →
    θ_run (Cert.KernelLaterGlaIdeal.defs (F := Ideal)) (onTc (τ := Cert.KernelLaterGlaIdeal.τ) (Cert.KernelLaterGlaIdeal.main (F := Ideal))) ⟨m, fun _ => 0, g⟩ (fun r => (∀ c : Dev Cert.KernelLaterGlaIdeal.nD,
      r.2.mem ((c.tc : Thread Cert.KernelLaterGlaIdeal.nD Cert.KernelLaterGlaIdeal.τ).loc Cert.KernelLaterGlaIdeal.main_arg0) = m ((c.tc : Thread Cert.KernelLaterGlaIdeal.nD Cert.KernelLaterGlaIdeal.τ).loc Cert.KernelLaterGlaIdeal.main_arg0)
      ∧ r.2.mem ((c.tc : Thread Cert.KernelLaterGlaIdeal.nD Cert.KernelLaterGlaIdeal.τ).loc Cert.KernelLaterGlaIdeal.main_arg1) = m ((c.tc : Thread Cert.KernelLaterGlaIdeal.nD Cert.KernelLaterGlaIdeal.τ).loc Cert.KernelLaterGlaIdeal.main_arg1))
      ∧ r.2.sem = fun _ => 0)

def quiescent_ReferenceLaterGlaIdeal [hReferenceLaterGlaIdeal : Cert.ReferenceLaterGlaIdeal.Facts] : Prop :=
  ∀ (m : (ℓ : Loc Cert.ReferenceLaterGlaIdeal.nD Cert.ReferenceLaterGlaIdeal.τ Cert.ReferenceLaterGlaIdeal.sig) → Buf (Elt Ideal) ℓ) (g : Dev Cert.ReferenceLaterGlaIdeal.nD → PrngReg), Pre_ReferenceLaterGlaIdeal m →
    θ_run (Cert.ReferenceLaterGlaIdeal.defs (F := Ideal)) (onTc (τ := Cert.ReferenceLaterGlaIdeal.τ) (Cert.ReferenceLaterGlaIdeal.main (F := Ideal))) ⟨m, fun _ => 0, g⟩ (fun r => (∀ c : Dev Cert.ReferenceLaterGlaIdeal.nD,
      r.2.mem ((c.tc : Thread Cert.ReferenceLaterGlaIdeal.nD Cert.ReferenceLaterGlaIdeal.τ).loc Cert.ReferenceLaterGlaIdeal.main_arg0) = m ((c.tc : Thread Cert.ReferenceLaterGlaIdeal.nD Cert.ReferenceLaterGlaIdeal.τ).loc Cert.ReferenceLaterGlaIdeal.main_arg0)
      ∧ r.2.mem ((c.tc : Thread Cert.ReferenceLaterGlaIdeal.nD Cert.ReferenceLaterGlaIdeal.τ).loc Cert.ReferenceLaterGlaIdeal.main_arg1) = m ((c.tc : Thread Cert.ReferenceLaterGlaIdeal.nD Cert.ReferenceLaterGlaIdeal.τ).loc Cert.ReferenceLaterGlaIdeal.main_arg1))
      ∧ r.2.sem = fun _ => 0)

def quiescent_KernelLaterDecay [hKernelLaterDecay : Cert.KernelLaterDecay.Facts] : Prop :=
  ∀ (m : (ℓ : Loc Cert.KernelLaterDecay.nD Cert.KernelLaterDecay.τ Cert.KernelLaterDecay.sig) → Buf (Elt Bits) ℓ) (g : Dev Cert.KernelLaterDecay.nD → PrngReg), Pre_KernelLaterDecay m →
    θ_run (Cert.KernelLaterDecay.defs (F := Bits)) (onTc (τ := Cert.KernelLaterDecay.τ) (Cert.KernelLaterDecay.main (F := Bits))) ⟨m, fun _ => 0, g⟩ (fun r => (∀ c : Dev Cert.KernelLaterDecay.nD,
      r.2.mem ((c.tc : Thread Cert.KernelLaterDecay.nD Cert.KernelLaterDecay.τ).loc Cert.KernelLaterDecay.main_arg0) = m ((c.tc : Thread Cert.KernelLaterDecay.nD Cert.KernelLaterDecay.τ).loc Cert.KernelLaterDecay.main_arg0)
      ∧ r.2.mem ((c.tc : Thread Cert.KernelLaterDecay.nD Cert.KernelLaterDecay.τ).loc Cert.KernelLaterDecay.main_arg1) = m ((c.tc : Thread Cert.KernelLaterDecay.nD Cert.KernelLaterDecay.τ).loc Cert.KernelLaterDecay.main_arg1))
      ∧ r.2.sem = fun _ => 0)

def quiescent_KernelLaterDecayIdeal [hKernelLaterDecayIdeal : Cert.KernelLaterDecayIdeal.Facts] : Prop :=
  ∀ (m : (ℓ : Loc Cert.KernelLaterDecayIdeal.nD Cert.KernelLaterDecayIdeal.τ Cert.KernelLaterDecayIdeal.sig) → Buf (Elt Ideal) ℓ) (g : Dev Cert.KernelLaterDecayIdeal.nD → PrngReg), Pre_KernelLaterDecayIdeal m →
    θ_run (Cert.KernelLaterDecayIdeal.defs (F := Ideal)) (onTc (τ := Cert.KernelLaterDecayIdeal.τ) (Cert.KernelLaterDecayIdeal.main (F := Ideal))) ⟨m, fun _ => 0, g⟩ (fun r => (∀ c : Dev Cert.KernelLaterDecayIdeal.nD,
      r.2.mem ((c.tc : Thread Cert.KernelLaterDecayIdeal.nD Cert.KernelLaterDecayIdeal.τ).loc Cert.KernelLaterDecayIdeal.main_arg0) = m ((c.tc : Thread Cert.KernelLaterDecayIdeal.nD Cert.KernelLaterDecayIdeal.τ).loc Cert.KernelLaterDecayIdeal.main_arg0)
      ∧ r.2.mem ((c.tc : Thread Cert.KernelLaterDecayIdeal.nD Cert.KernelLaterDecayIdeal.τ).loc Cert.KernelLaterDecayIdeal.main_arg1) = m ((c.tc : Thread Cert.KernelLaterDecayIdeal.nD Cert.KernelLaterDecayIdeal.τ).loc Cert.KernelLaterDecayIdeal.main_arg1))
      ∧ r.2.sem = fun _ => 0)

def quiescent_ReferenceLaterDecayIdeal [hReferenceLaterDecayIdeal : Cert.ReferenceLaterDecayIdeal.Facts] : Prop :=
  ∀ (m : (ℓ : Loc Cert.ReferenceLaterDecayIdeal.nD Cert.ReferenceLaterDecayIdeal.τ Cert.ReferenceLaterDecayIdeal.sig) → Buf (Elt Ideal) ℓ) (g : Dev Cert.ReferenceLaterDecayIdeal.nD → PrngReg), Pre_ReferenceLaterDecayIdeal m →
    θ_run (Cert.ReferenceLaterDecayIdeal.defs (F := Ideal)) (onTc (τ := Cert.ReferenceLaterDecayIdeal.τ) (Cert.ReferenceLaterDecayIdeal.main (F := Ideal))) ⟨m, fun _ => 0, g⟩ (fun r => (∀ c : Dev Cert.ReferenceLaterDecayIdeal.nD,
      r.2.mem ((c.tc : Thread Cert.ReferenceLaterDecayIdeal.nD Cert.ReferenceLaterDecayIdeal.τ).loc Cert.ReferenceLaterDecayIdeal.main_arg0) = m ((c.tc : Thread Cert.ReferenceLaterDecayIdeal.nD Cert.ReferenceLaterDecayIdeal.τ).loc Cert.ReferenceLaterDecayIdeal.main_arg0)
      ∧ r.2.mem ((c.tc : Thread Cert.ReferenceLaterDecayIdeal.nD Cert.ReferenceLaterDecayIdeal.τ).loc Cert.ReferenceLaterDecayIdeal.main_arg1) = m ((c.tc : Thread Cert.ReferenceLaterDecayIdeal.nD Cert.ReferenceLaterDecayIdeal.τ).loc Cert.ReferenceLaterDecayIdeal.main_arg1))
      ∧ r.2.sem = fun _ => 0)

def quiescent_KernelLaterMix [hKernelLaterMix : Cert.KernelLaterMix.Facts] : Prop :=
  ∀ (m : (ℓ : Loc Cert.KernelLaterMix.nD Cert.KernelLaterMix.τ Cert.KernelLaterMix.sig) → Buf (Elt Bits) ℓ) (g : Dev Cert.KernelLaterMix.nD → PrngReg), Pre_KernelLaterMix m →
    θ_run (Cert.KernelLaterMix.defs (F := Bits)) (onTc (τ := Cert.KernelLaterMix.τ) (Cert.KernelLaterMix.main (F := Bits))) ⟨m, fun _ => 0, g⟩ (fun r => (∀ c : Dev Cert.KernelLaterMix.nD,
      r.2.mem ((c.tc : Thread Cert.KernelLaterMix.nD Cert.KernelLaterMix.τ).loc Cert.KernelLaterMix.main_arg0) = m ((c.tc : Thread Cert.KernelLaterMix.nD Cert.KernelLaterMix.τ).loc Cert.KernelLaterMix.main_arg0)
      ∧ r.2.mem ((c.tc : Thread Cert.KernelLaterMix.nD Cert.KernelLaterMix.τ).loc Cert.KernelLaterMix.main_arg1) = m ((c.tc : Thread Cert.KernelLaterMix.nD Cert.KernelLaterMix.τ).loc Cert.KernelLaterMix.main_arg1)
      ∧ r.2.mem ((c.tc : Thread Cert.KernelLaterMix.nD Cert.KernelLaterMix.τ).loc Cert.KernelLaterMix.main_arg2) = m ((c.tc : Thread Cert.KernelLaterMix.nD Cert.KernelLaterMix.τ).loc Cert.KernelLaterMix.main_arg2)
      ∧ r.2.mem ((c.tc : Thread Cert.KernelLaterMix.nD Cert.KernelLaterMix.τ).loc Cert.KernelLaterMix.main_arg3) = m ((c.tc : Thread Cert.KernelLaterMix.nD Cert.KernelLaterMix.τ).loc Cert.KernelLaterMix.main_arg3)
      ∧ r.2.mem ((c.tc : Thread Cert.KernelLaterMix.nD Cert.KernelLaterMix.τ).loc Cert.KernelLaterMix.main_arg4) = m ((c.tc : Thread Cert.KernelLaterMix.nD Cert.KernelLaterMix.τ).loc Cert.KernelLaterMix.main_arg4))
      ∧ r.2.sem = fun _ => 0)

def quiescent_KernelLaterMixIdeal [hKernelLaterMixIdeal : Cert.KernelLaterMixIdeal.Facts] : Prop :=
  ∀ (m : (ℓ : Loc Cert.KernelLaterMixIdeal.nD Cert.KernelLaterMixIdeal.τ Cert.KernelLaterMixIdeal.sig) → Buf (Elt Ideal) ℓ) (g : Dev Cert.KernelLaterMixIdeal.nD → PrngReg), Pre_KernelLaterMixIdeal m →
    θ_run (Cert.KernelLaterMixIdeal.defs (F := Ideal)) (onTc (τ := Cert.KernelLaterMixIdeal.τ) (Cert.KernelLaterMixIdeal.main (F := Ideal))) ⟨m, fun _ => 0, g⟩ (fun r => (∀ c : Dev Cert.KernelLaterMixIdeal.nD,
      r.2.mem ((c.tc : Thread Cert.KernelLaterMixIdeal.nD Cert.KernelLaterMixIdeal.τ).loc Cert.KernelLaterMixIdeal.main_arg0) = m ((c.tc : Thread Cert.KernelLaterMixIdeal.nD Cert.KernelLaterMixIdeal.τ).loc Cert.KernelLaterMixIdeal.main_arg0)
      ∧ r.2.mem ((c.tc : Thread Cert.KernelLaterMixIdeal.nD Cert.KernelLaterMixIdeal.τ).loc Cert.KernelLaterMixIdeal.main_arg1) = m ((c.tc : Thread Cert.KernelLaterMixIdeal.nD Cert.KernelLaterMixIdeal.τ).loc Cert.KernelLaterMixIdeal.main_arg1)
      ∧ r.2.mem ((c.tc : Thread Cert.KernelLaterMixIdeal.nD Cert.KernelLaterMixIdeal.τ).loc Cert.KernelLaterMixIdeal.main_arg2) = m ((c.tc : Thread Cert.KernelLaterMixIdeal.nD Cert.KernelLaterMixIdeal.τ).loc Cert.KernelLaterMixIdeal.main_arg2)
      ∧ r.2.mem ((c.tc : Thread Cert.KernelLaterMixIdeal.nD Cert.KernelLaterMixIdeal.τ).loc Cert.KernelLaterMixIdeal.main_arg3) = m ((c.tc : Thread Cert.KernelLaterMixIdeal.nD Cert.KernelLaterMixIdeal.τ).loc Cert.KernelLaterMixIdeal.main_arg3)
      ∧ r.2.mem ((c.tc : Thread Cert.KernelLaterMixIdeal.nD Cert.KernelLaterMixIdeal.τ).loc Cert.KernelLaterMixIdeal.main_arg4) = m ((c.tc : Thread Cert.KernelLaterMixIdeal.nD Cert.KernelLaterMixIdeal.τ).loc Cert.KernelLaterMixIdeal.main_arg4))
      ∧ r.2.sem = fun _ => 0)

def quiescent_ReferenceLaterMixIdeal [hReferenceLaterMixIdeal : Cert.ReferenceLaterMixIdeal.Facts] : Prop :=
  ∀ (m : (ℓ : Loc Cert.ReferenceLaterMixIdeal.nD Cert.ReferenceLaterMixIdeal.τ Cert.ReferenceLaterMixIdeal.sig) → Buf (Elt Ideal) ℓ) (g : Dev Cert.ReferenceLaterMixIdeal.nD → PrngReg), Pre_ReferenceLaterMixIdeal m →
    θ_run (Cert.ReferenceLaterMixIdeal.defs (F := Ideal)) (onTc (τ := Cert.ReferenceLaterMixIdeal.τ) (Cert.ReferenceLaterMixIdeal.main (F := Ideal))) ⟨m, fun _ => 0, g⟩ (fun r => (∀ c : Dev Cert.ReferenceLaterMixIdeal.nD,
      r.2.mem ((c.tc : Thread Cert.ReferenceLaterMixIdeal.nD Cert.ReferenceLaterMixIdeal.τ).loc Cert.ReferenceLaterMixIdeal.main_arg0) = m ((c.tc : Thread Cert.ReferenceLaterMixIdeal.nD Cert.ReferenceLaterMixIdeal.τ).loc Cert.ReferenceLaterMixIdeal.main_arg0)
      ∧ r.2.mem ((c.tc : Thread Cert.ReferenceLaterMixIdeal.nD Cert.ReferenceLaterMixIdeal.τ).loc Cert.ReferenceLaterMixIdeal.main_arg1) = m ((c.tc : Thread Cert.ReferenceLaterMixIdeal.nD Cert.ReferenceLaterMixIdeal.τ).loc Cert.ReferenceLaterMixIdeal.main_arg1)
      ∧ r.2.mem ((c.tc : Thread Cert.ReferenceLaterMixIdeal.nD Cert.ReferenceLaterMixIdeal.τ).loc Cert.ReferenceLaterMixIdeal.main_arg2) = m ((c.tc : Thread Cert.ReferenceLaterMixIdeal.nD Cert.ReferenceLaterMixIdeal.τ).loc Cert.ReferenceLaterMixIdeal.main_arg2)
      ∧ r.2.mem ((c.tc : Thread Cert.ReferenceLaterMixIdeal.nD Cert.ReferenceLaterMixIdeal.τ).loc Cert.ReferenceLaterMixIdeal.main_arg3) = m ((c.tc : Thread Cert.ReferenceLaterMixIdeal.nD Cert.ReferenceLaterMixIdeal.τ).loc Cert.ReferenceLaterMixIdeal.main_arg3)
      ∧ r.2.mem ((c.tc : Thread Cert.ReferenceLaterMixIdeal.nD Cert.ReferenceLaterMixIdeal.τ).loc Cert.ReferenceLaterMixIdeal.main_arg4) = m ((c.tc : Thread Cert.ReferenceLaterMixIdeal.nD Cert.ReferenceLaterMixIdeal.τ).loc Cert.ReferenceLaterMixIdeal.main_arg4))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1))
      ∧ r.2.sem = fun _ => 0)

def quiescent_KernelAttn [hKernelAttn : Cert.KernelAttn.Facts] : Prop :=
  ∀ (m : (ℓ : Loc Cert.KernelAttn.nD Cert.KernelAttn.τ Cert.KernelAttn.sig) → Buf (Elt Bits) ℓ) (g : Dev Cert.KernelAttn.nD → PrngReg), Pre_KernelAttn m →
    θ_run (Cert.KernelAttn.defs (F := Bits)) (onTc (τ := Cert.KernelAttn.τ) (Cert.KernelAttn.main (F := Bits))) ⟨m, fun _ => 0, g⟩ (fun r => (∀ c : Dev Cert.KernelAttn.nD,
      r.2.mem ((c.tc : Thread Cert.KernelAttn.nD Cert.KernelAttn.τ).loc Cert.KernelAttn.main_arg0) = m ((c.tc : Thread Cert.KernelAttn.nD Cert.KernelAttn.τ).loc Cert.KernelAttn.main_arg0)
      ∧ r.2.mem ((c.tc : Thread Cert.KernelAttn.nD Cert.KernelAttn.τ).loc Cert.KernelAttn.main_arg1) = m ((c.tc : Thread Cert.KernelAttn.nD Cert.KernelAttn.τ).loc Cert.KernelAttn.main_arg1)
      ∧ r.2.mem ((c.tc : Thread Cert.KernelAttn.nD Cert.KernelAttn.τ).loc Cert.KernelAttn.main_arg2) = m ((c.tc : Thread Cert.KernelAttn.nD Cert.KernelAttn.τ).loc Cert.KernelAttn.main_arg2)
      ∧ r.2.mem ((c.tc : Thread Cert.KernelAttn.nD Cert.KernelAttn.τ).loc Cert.KernelAttn.main_arg3) = m ((c.tc : Thread Cert.KernelAttn.nD Cert.KernelAttn.τ).loc Cert.KernelAttn.main_arg3)
      ∧ r.2.mem ((c.tc : Thread Cert.KernelAttn.nD Cert.KernelAttn.τ).loc Cert.KernelAttn.main_arg4) = m ((c.tc : Thread Cert.KernelAttn.nD Cert.KernelAttn.τ).loc Cert.KernelAttn.main_arg4))
      ∧ r.2.sem = fun _ => 0)

def quiescent_KernelAttnIdeal [hKernelAttnIdeal : Cert.KernelAttnIdeal.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
      ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3)
      ∧ r.2.mem ((c.tc : Thread Cert.KernelAttnIdeal.nD Cert.KernelAttnIdeal.τ).loc Cert.KernelAttnIdeal.main_arg4) = m ((c.tc : Thread Cert.KernelAttnIdeal.nD Cert.KernelAttnIdeal.τ).loc Cert.KernelAttnIdeal.main_arg4))
      ∧ r.2.sem = fun _ => 0)

def quiescent_KernelAttnIdeal_pre_finite [hKernelAttnIdeal : Cert.KernelAttnIdeal.Facts] [hPre_finite : Cert.Pre_finite.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal_finite m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
      ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3)
      ∧ r.2.mem ((c.tc : Thread Cert.KernelAttnIdeal.nD Cert.KernelAttnIdeal.τ).loc Cert.KernelAttnIdeal.main_arg4) = m ((c.tc : Thread Cert.KernelAttnIdeal.nD Cert.KernelAttnIdeal.τ).loc Cert.KernelAttnIdeal.main_arg4))
      ∧ r.2.sem = fun _ => 0)

def quiescent_ReferenceAttnIdeal [hReferenceAttnIdeal : Cert.ReferenceAttnIdeal.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2)
      ∧ r.2.mem ((c.tc : Thread Cert.ReferenceAttnIdeal.nD Cert.ReferenceAttnIdeal.τ).loc Cert.ReferenceAttnIdeal.main_arg3) = m ((c.tc : Thread Cert.ReferenceAttnIdeal.nD Cert.ReferenceAttnIdeal.τ).loc Cert.ReferenceAttnIdeal.main_arg3)
      ∧ r.2.mem ((c.tc : Thread Cert.ReferenceAttnIdeal.nD Cert.ReferenceAttnIdeal.τ).loc Cert.ReferenceAttnIdeal.main_arg4) = m ((c.tc : Thread Cert.ReferenceAttnIdeal.nD Cert.ReferenceAttnIdeal.τ).loc Cert.ReferenceAttnIdeal.main_arg4))
      ∧ r.2.sem = fun _ => 0)

def quiescent_ReferenceAttnIdeal_pre_finite [hReferenceAttnIdeal : Cert.ReferenceAttnIdeal.Facts] [hPre_finite : Cert.Pre_finite.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal_finite m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2)
      ∧ r.2.mem ((c.tc : Thread Cert.ReferenceAttnIdeal.nD Cert.ReferenceAttnIdeal.τ).loc Cert.ReferenceAttnIdeal.main_arg3) = m ((c.tc : Thread Cert.ReferenceAttnIdeal.nD Cert.ReferenceAttnIdeal.τ).loc Cert.ReferenceAttnIdeal.main_arg3)
      ∧ r.2.mem ((c.tc : Thread Cert.ReferenceAttnIdeal.nD Cert.ReferenceAttnIdeal.τ).loc Cert.ReferenceAttnIdeal.main_arg4) = m ((c.tc : Thread Cert.ReferenceAttnIdeal.nD Cert.ReferenceAttnIdeal.τ).loc Cert.ReferenceAttnIdeal.main_arg4))
      ∧ r.2.sem = fun _ => 0)

def quiescent_KernelSsd [hKernelSsd : Cert.KernelSsd.Facts] : Prop :=
  ∀ (m : (ℓ : Loc Cert.KernelSsd.nD Cert.KernelSsd.τ Cert.KernelSsd.sig) → Buf (Elt Bits) ℓ) (g : Dev Cert.KernelSsd.nD → PrngReg), Pre_KernelSsd m →
    θ_run (Cert.KernelSsd.defs (F := Bits)) (onTc (τ := Cert.KernelSsd.τ) (Cert.KernelSsd.main (F := Bits))) ⟨m, fun _ => 0, g⟩ (fun r => (∀ c : Dev Cert.KernelSsd.nD,
      r.2.mem ((c.tc : Thread Cert.KernelSsd.nD Cert.KernelSsd.τ).loc Cert.KernelSsd.main_arg0) = m ((c.tc : Thread Cert.KernelSsd.nD Cert.KernelSsd.τ).loc Cert.KernelSsd.main_arg0)
      ∧ r.2.mem ((c.tc : Thread Cert.KernelSsd.nD Cert.KernelSsd.τ).loc Cert.KernelSsd.main_arg1) = m ((c.tc : Thread Cert.KernelSsd.nD Cert.KernelSsd.τ).loc Cert.KernelSsd.main_arg1)
      ∧ r.2.mem ((c.tc : Thread Cert.KernelSsd.nD Cert.KernelSsd.τ).loc Cert.KernelSsd.main_arg2) = m ((c.tc : Thread Cert.KernelSsd.nD Cert.KernelSsd.τ).loc Cert.KernelSsd.main_arg2)
      ∧ r.2.mem ((c.tc : Thread Cert.KernelSsd.nD Cert.KernelSsd.τ).loc Cert.KernelSsd.main_arg3) = m ((c.tc : Thread Cert.KernelSsd.nD Cert.KernelSsd.τ).loc Cert.KernelSsd.main_arg3)
      ∧ r.2.mem ((c.tc : Thread Cert.KernelSsd.nD Cert.KernelSsd.τ).loc Cert.KernelSsd.main_arg4) = m ((c.tc : Thread Cert.KernelSsd.nD Cert.KernelSsd.τ).loc Cert.KernelSsd.main_arg4)
      ∧ r.2.mem ((c.tc : Thread Cert.KernelSsd.nD Cert.KernelSsd.τ).loc Cert.KernelSsd.main_arg5) = m ((c.tc : Thread Cert.KernelSsd.nD Cert.KernelSsd.τ).loc Cert.KernelSsd.main_arg5)
      ∧ r.2.mem ((c.tc : Thread Cert.KernelSsd.nD Cert.KernelSsd.τ).loc Cert.KernelSsd.main_arg6) = m ((c.tc : Thread Cert.KernelSsd.nD Cert.KernelSsd.τ).loc Cert.KernelSsd.main_arg6)
      ∧ r.2.mem ((c.tc : Thread Cert.KernelSsd.nD Cert.KernelSsd.τ).loc Cert.KernelSsd.main_arg7) = m ((c.tc : Thread Cert.KernelSsd.nD Cert.KernelSsd.τ).loc Cert.KernelSsd.main_arg7))
      ∧ r.2.sem = fun _ => 0)

def quiescent_KernelSsdIdeal [hKernelSsdIdeal : Cert.KernelSsdIdeal.Facts] : Prop :=
  ∀ (m : (ℓ : Loc Cert.KernelSsdIdeal.nD Cert.KernelSsdIdeal.τ Cert.KernelSsdIdeal.sig) → Buf (Elt Ideal) ℓ) (g : Dev Cert.KernelSsdIdeal.nD → PrngReg), Pre_KernelSsdIdeal m →
    θ_run (Cert.KernelSsdIdeal.defs (F := Ideal)) (onTc (τ := Cert.KernelSsdIdeal.τ) (Cert.KernelSsdIdeal.main (F := Ideal))) ⟨m, fun _ => 0, g⟩ (fun r => (∀ c : Dev Cert.KernelSsdIdeal.nD,
      r.2.mem ((c.tc : Thread Cert.KernelSsdIdeal.nD Cert.KernelSsdIdeal.τ).loc Cert.KernelSsdIdeal.main_arg0) = m ((c.tc : Thread Cert.KernelSsdIdeal.nD Cert.KernelSsdIdeal.τ).loc Cert.KernelSsdIdeal.main_arg0)
      ∧ r.2.mem ((c.tc : Thread Cert.KernelSsdIdeal.nD Cert.KernelSsdIdeal.τ).loc Cert.KernelSsdIdeal.main_arg1) = m ((c.tc : Thread Cert.KernelSsdIdeal.nD Cert.KernelSsdIdeal.τ).loc Cert.KernelSsdIdeal.main_arg1)
      ∧ r.2.mem ((c.tc : Thread Cert.KernelSsdIdeal.nD Cert.KernelSsdIdeal.τ).loc Cert.KernelSsdIdeal.main_arg2) = m ((c.tc : Thread Cert.KernelSsdIdeal.nD Cert.KernelSsdIdeal.τ).loc Cert.KernelSsdIdeal.main_arg2)
      ∧ r.2.mem ((c.tc : Thread Cert.KernelSsdIdeal.nD Cert.KernelSsdIdeal.τ).loc Cert.KernelSsdIdeal.main_arg3) = m ((c.tc : Thread Cert.KernelSsdIdeal.nD Cert.KernelSsdIdeal.τ).loc Cert.KernelSsdIdeal.main_arg3)
      ∧ r.2.mem ((c.tc : Thread Cert.KernelSsdIdeal.nD Cert.KernelSsdIdeal.τ).loc Cert.KernelSsdIdeal.main_arg4) = m ((c.tc : Thread Cert.KernelSsdIdeal.nD Cert.KernelSsdIdeal.τ).loc Cert.KernelSsdIdeal.main_arg4)
      ∧ r.2.mem ((c.tc : Thread Cert.KernelSsdIdeal.nD Cert.KernelSsdIdeal.τ).loc Cert.KernelSsdIdeal.main_arg5) = m ((c.tc : Thread Cert.KernelSsdIdeal.nD Cert.KernelSsdIdeal.τ).loc Cert.KernelSsdIdeal.main_arg5)
      ∧ r.2.mem ((c.tc : Thread Cert.KernelSsdIdeal.nD Cert.KernelSsdIdeal.τ).loc Cert.KernelSsdIdeal.main_arg6) = m ((c.tc : Thread Cert.KernelSsdIdeal.nD Cert.KernelSsdIdeal.τ).loc Cert.KernelSsdIdeal.main_arg6)
      ∧ r.2.mem ((c.tc : Thread Cert.KernelSsdIdeal.nD Cert.KernelSsdIdeal.τ).loc Cert.KernelSsdIdeal.main_arg7) = m ((c.tc : Thread Cert.KernelSsdIdeal.nD Cert.KernelSsdIdeal.τ).loc Cert.KernelSsdIdeal.main_arg7))
      ∧ r.2.sem = fun _ => 0)

def quiescent_KernelSsdIdeal_pre_finite_ssd [hKernelSsdIdeal : Cert.KernelSsdIdeal.Facts] [hPre_finite_ssd : Cert.Pre_finite_ssd.Facts] : Prop :=
  ∀ (m : (ℓ : Loc Cert.KernelSsdIdeal.nD Cert.KernelSsdIdeal.τ Cert.KernelSsdIdeal.sig) → Buf (Elt Ideal) ℓ) (g : Dev Cert.KernelSsdIdeal.nD → PrngReg), Pre_KernelSsdIdeal_finite_ssd m →
    θ_run (Cert.KernelSsdIdeal.defs (F := Ideal)) (onTc (τ := Cert.KernelSsdIdeal.τ) (Cert.KernelSsdIdeal.main (F := Ideal))) ⟨m, fun _ => 0, g⟩ (fun r => (∀ c : Dev Cert.KernelSsdIdeal.nD,
      r.2.mem ((c.tc : Thread Cert.KernelSsdIdeal.nD Cert.KernelSsdIdeal.τ).loc Cert.KernelSsdIdeal.main_arg0) = m ((c.tc : Thread Cert.KernelSsdIdeal.nD Cert.KernelSsdIdeal.τ).loc Cert.KernelSsdIdeal.main_arg0)
      ∧ r.2.mem ((c.tc : Thread Cert.KernelSsdIdeal.nD Cert.KernelSsdIdeal.τ).loc Cert.KernelSsdIdeal.main_arg1) = m ((c.tc : Thread Cert.KernelSsdIdeal.nD Cert.KernelSsdIdeal.τ).loc Cert.KernelSsdIdeal.main_arg1)
      ∧ r.2.mem ((c.tc : Thread Cert.KernelSsdIdeal.nD Cert.KernelSsdIdeal.τ).loc Cert.KernelSsdIdeal.main_arg2) = m ((c.tc : Thread Cert.KernelSsdIdeal.nD Cert.KernelSsdIdeal.τ).loc Cert.KernelSsdIdeal.main_arg2)
      ∧ r.2.mem ((c.tc : Thread Cert.KernelSsdIdeal.nD Cert.KernelSsdIdeal.τ).loc Cert.KernelSsdIdeal.main_arg3) = m ((c.tc : Thread Cert.KernelSsdIdeal.nD Cert.KernelSsdIdeal.τ).loc Cert.KernelSsdIdeal.main_arg3)
      ∧ r.2.mem ((c.tc : Thread Cert.KernelSsdIdeal.nD Cert.KernelSsdIdeal.τ).loc Cert.KernelSsdIdeal.main_arg4) = m ((c.tc : Thread Cert.KernelSsdIdeal.nD Cert.KernelSsdIdeal.τ).loc Cert.KernelSsdIdeal.main_arg4)
      ∧ r.2.mem ((c.tc : Thread Cert.KernelSsdIdeal.nD Cert.KernelSsdIdeal.τ).loc Cert.KernelSsdIdeal.main_arg5) = m ((c.tc : Thread Cert.KernelSsdIdeal.nD Cert.KernelSsdIdeal.τ).loc Cert.KernelSsdIdeal.main_arg5)
      ∧ r.2.mem ((c.tc : Thread Cert.KernelSsdIdeal.nD Cert.KernelSsdIdeal.τ).loc Cert.KernelSsdIdeal.main_arg6) = m ((c.tc : Thread Cert.KernelSsdIdeal.nD Cert.KernelSsdIdeal.τ).loc Cert.KernelSsdIdeal.main_arg6)
      ∧ r.2.mem ((c.tc : Thread Cert.KernelSsdIdeal.nD Cert.KernelSsdIdeal.τ).loc Cert.KernelSsdIdeal.main_arg7) = m ((c.tc : Thread Cert.KernelSsdIdeal.nD Cert.KernelSsdIdeal.τ).loc Cert.KernelSsdIdeal.main_arg7))
      ∧ r.2.sem = fun _ => 0)

def quiescent_ReferenceSsdIdeal [hReferenceSsdIdeal : Cert.ReferenceSsdIdeal.Facts] : Prop :=
  ∀ (m : (ℓ : Loc Cert.ReferenceSsdIdeal.nD Cert.ReferenceSsdIdeal.τ Cert.ReferenceSsdIdeal.sig) → Buf (Elt Ideal) ℓ) (g : Dev Cert.ReferenceSsdIdeal.nD → PrngReg), Pre_ReferenceSsdIdeal m →
    θ_run (Cert.ReferenceSsdIdeal.defs (F := Ideal)) (onTc (τ := Cert.ReferenceSsdIdeal.τ) (Cert.ReferenceSsdIdeal.main (F := Ideal))) ⟨m, fun _ => 0, g⟩ (fun r => (∀ c : Dev Cert.ReferenceSsdIdeal.nD,
      r.2.mem ((c.tc : Thread Cert.ReferenceSsdIdeal.nD Cert.ReferenceSsdIdeal.τ).loc Cert.ReferenceSsdIdeal.main_arg0) = m ((c.tc : Thread Cert.ReferenceSsdIdeal.nD Cert.ReferenceSsdIdeal.τ).loc Cert.ReferenceSsdIdeal.main_arg0)
      ∧ r.2.mem ((c.tc : Thread Cert.ReferenceSsdIdeal.nD Cert.ReferenceSsdIdeal.τ).loc Cert.ReferenceSsdIdeal.main_arg1) = m ((c.tc : Thread Cert.ReferenceSsdIdeal.nD Cert.ReferenceSsdIdeal.τ).loc Cert.ReferenceSsdIdeal.main_arg1)
      ∧ r.2.mem ((c.tc : Thread Cert.ReferenceSsdIdeal.nD Cert.ReferenceSsdIdeal.τ).loc Cert.ReferenceSsdIdeal.main_arg2) = m ((c.tc : Thread Cert.ReferenceSsdIdeal.nD Cert.ReferenceSsdIdeal.τ).loc Cert.ReferenceSsdIdeal.main_arg2)
      ∧ r.2.mem ((c.tc : Thread Cert.ReferenceSsdIdeal.nD Cert.ReferenceSsdIdeal.τ).loc Cert.ReferenceSsdIdeal.main_arg3) = m ((c.tc : Thread Cert.ReferenceSsdIdeal.nD Cert.ReferenceSsdIdeal.τ).loc Cert.ReferenceSsdIdeal.main_arg3)
      ∧ r.2.mem ((c.tc : Thread Cert.ReferenceSsdIdeal.nD Cert.ReferenceSsdIdeal.τ).loc Cert.ReferenceSsdIdeal.main_arg4) = m ((c.tc : Thread Cert.ReferenceSsdIdeal.nD Cert.ReferenceSsdIdeal.τ).loc Cert.ReferenceSsdIdeal.main_arg4)
      ∧ r.2.mem ((c.tc : Thread Cert.ReferenceSsdIdeal.nD Cert.ReferenceSsdIdeal.τ).loc Cert.ReferenceSsdIdeal.main_arg5) = m ((c.tc : Thread Cert.ReferenceSsdIdeal.nD Cert.ReferenceSsdIdeal.τ).loc Cert.ReferenceSsdIdeal.main_arg5)
      ∧ r.2.mem ((c.tc : Thread Cert.ReferenceSsdIdeal.nD Cert.ReferenceSsdIdeal.τ).loc Cert.ReferenceSsdIdeal.main_arg6) = m ((c.tc : Thread Cert.ReferenceSsdIdeal.nD Cert.ReferenceSsdIdeal.τ).loc Cert.ReferenceSsdIdeal.main_arg6)
      ∧ r.2.mem ((c.tc : Thread Cert.ReferenceSsdIdeal.nD Cert.ReferenceSsdIdeal.τ).loc Cert.ReferenceSsdIdeal.main_arg7) = m ((c.tc : Thread Cert.ReferenceSsdIdeal.nD Cert.ReferenceSsdIdeal.τ).loc Cert.ReferenceSsdIdeal.main_arg7))
      ∧ r.2.sem = fun _ => 0)

def quiescent_ReferenceSsdIdeal_pre_finite_ssd [hReferenceSsdIdeal : Cert.ReferenceSsdIdeal.Facts] [hPre_finite_ssd : Cert.Pre_finite_ssd.Facts] : Prop :=
  ∀ (m : (ℓ : Loc Cert.ReferenceSsdIdeal.nD Cert.ReferenceSsdIdeal.τ Cert.ReferenceSsdIdeal.sig) → Buf (Elt Ideal) ℓ) (g : Dev Cert.ReferenceSsdIdeal.nD → PrngReg), Pre_ReferenceSsdIdeal_finite_ssd m →
    θ_run (Cert.ReferenceSsdIdeal.defs (F := Ideal)) (onTc (τ := Cert.ReferenceSsdIdeal.τ) (Cert.ReferenceSsdIdeal.main (F := Ideal))) ⟨m, fun _ => 0, g⟩ (fun r => (∀ c : Dev Cert.ReferenceSsdIdeal.nD,
      r.2.mem ((c.tc : Thread Cert.ReferenceSsdIdeal.nD Cert.ReferenceSsdIdeal.τ).loc Cert.ReferenceSsdIdeal.main_arg0) = m ((c.tc : Thread Cert.ReferenceSsdIdeal.nD Cert.ReferenceSsdIdeal.τ).loc Cert.ReferenceSsdIdeal.main_arg0)
      ∧ r.2.mem ((c.tc : Thread Cert.ReferenceSsdIdeal.nD Cert.ReferenceSsdIdeal.τ).loc Cert.ReferenceSsdIdeal.main_arg1) = m ((c.tc : Thread Cert.ReferenceSsdIdeal.nD Cert.ReferenceSsdIdeal.τ).loc Cert.ReferenceSsdIdeal.main_arg1)
      ∧ r.2.mem ((c.tc : Thread Cert.ReferenceSsdIdeal.nD Cert.ReferenceSsdIdeal.τ).loc Cert.ReferenceSsdIdeal.main_arg2) = m ((c.tc : Thread Cert.ReferenceSsdIdeal.nD Cert.ReferenceSsdIdeal.τ).loc Cert.ReferenceSsdIdeal.main_arg2)
      ∧ r.2.mem ((c.tc : Thread Cert.ReferenceSsdIdeal.nD Cert.ReferenceSsdIdeal.τ).loc Cert.ReferenceSsdIdeal.main_arg3) = m ((c.tc : Thread Cert.ReferenceSsdIdeal.nD Cert.ReferenceSsdIdeal.τ).loc Cert.ReferenceSsdIdeal.main_arg3)
      ∧ r.2.mem ((c.tc : Thread Cert.ReferenceSsdIdeal.nD Cert.ReferenceSsdIdeal.τ).loc Cert.ReferenceSsdIdeal.main_arg4) = m ((c.tc : Thread Cert.ReferenceSsdIdeal.nD Cert.ReferenceSsdIdeal.τ).loc Cert.ReferenceSsdIdeal.main_arg4)
      ∧ r.2.mem ((c.tc : Thread Cert.ReferenceSsdIdeal.nD Cert.ReferenceSsdIdeal.τ).loc Cert.ReferenceSsdIdeal.main_arg5) = m ((c.tc : Thread Cert.ReferenceSsdIdeal.nD Cert.ReferenceSsdIdeal.τ).loc Cert.ReferenceSsdIdeal.main_arg5)
      ∧ r.2.mem ((c.tc : Thread Cert.ReferenceSsdIdeal.nD Cert.ReferenceSsdIdeal.τ).loc Cert.ReferenceSsdIdeal.main_arg6) = m ((c.tc : Thread Cert.ReferenceSsdIdeal.nD Cert.ReferenceSsdIdeal.τ).loc Cert.ReferenceSsdIdeal.main_arg6)
      ∧ r.2.mem ((c.tc : Thread Cert.ReferenceSsdIdeal.nD Cert.ReferenceSsdIdeal.τ).loc Cert.ReferenceSsdIdeal.main_arg7) = m ((c.tc : Thread Cert.ReferenceSsdIdeal.nD Cert.ReferenceSsdIdeal.τ).loc Cert.ReferenceSsdIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelFirst_KernelFirstIdeal : Prop :=
  True

def algebraic_KernelFirstIdeal_ReferenceFirstIdeal [hKernelFirstIdeal : Cert.KernelFirstIdeal.Facts] [hReferenceFirstIdeal : Cert.ReferenceFirstIdeal.Facts] : Prop :=
  ∀ (m : (ℓ : Loc Cert.KernelFirstIdeal.nD Cert.KernelFirstIdeal.τ Cert.KernelFirstIdeal.sig) → Buf (Elt Ideal) ℓ) (g : Dev Cert.KernelFirstIdeal.nD → PrngReg)
    (m' : (ℓ : Loc Cert.ReferenceFirstIdeal.nD Cert.ReferenceFirstIdeal.τ Cert.ReferenceFirstIdeal.sig) → Buf (Elt Ideal) ℓ) (g' : Dev Cert.ReferenceFirstIdeal.nD → PrngReg), Pre_KernelFirstIdeal m →
    (∀ c : Dev Cert.KernelFirstIdeal.nD,
      m' ((c.tc : Thread Cert.ReferenceFirstIdeal.nD Cert.ReferenceFirstIdeal.τ).loc Cert.ReferenceFirstIdeal.main_arg0) = m ((c.tc : Thread Cert.KernelFirstIdeal.nD Cert.KernelFirstIdeal.τ).loc Cert.KernelFirstIdeal.main_arg0)
      ∧ m' ((c.tc : Thread Cert.ReferenceFirstIdeal.nD Cert.ReferenceFirstIdeal.τ).loc Cert.ReferenceFirstIdeal.main_arg1) = m ((c.tc : Thread Cert.KernelFirstIdeal.nD Cert.KernelFirstIdeal.τ).loc Cert.KernelFirstIdeal.main_arg1)
      ∧ m' ((c.tc : Thread Cert.ReferenceFirstIdeal.nD Cert.ReferenceFirstIdeal.τ).loc Cert.ReferenceFirstIdeal.main_arg2) = m ((c.tc : Thread Cert.KernelFirstIdeal.nD Cert.KernelFirstIdeal.τ).loc Cert.KernelFirstIdeal.main_arg2)) →
    ∃ (v0 : (c : Dev Cert.KernelFirstIdeal.nD) → Buf (Elt Ideal) ((c.tc : Thread Cert.KernelFirstIdeal.nD Cert.KernelFirstIdeal.τ).loc Cert.KernelFirstIdeal.main_v5)),
      θ_run (Cert.KernelFirstIdeal.defs (F := Ideal)) (onTc (τ := Cert.KernelFirstIdeal.τ) (Cert.KernelFirstIdeal.main (F := Ideal))) ⟨m, fun _ => 0, g⟩ (fun r => ∀ c : Dev Cert.KernelFirstIdeal.nD,
          r.2.mem ((c.tc : Thread Cert.KernelFirstIdeal.nD Cert.KernelFirstIdeal.τ).loc Cert.KernelFirstIdeal.main_v5) = v0 c
          ∧ r.2.mem ((c.tc : Thread Cert.KernelFirstIdeal.nD Cert.KernelFirstIdeal.τ).loc Cert.KernelFirstIdeal.main_arg0) = m ((c.tc : Thread Cert.KernelFirstIdeal.nD Cert.KernelFirstIdeal.τ).loc Cert.KernelFirstIdeal.main_arg0)
          ∧ r.2.mem ((c.tc : Thread Cert.KernelFirstIdeal.nD Cert.KernelFirstIdeal.τ).loc Cert.KernelFirstIdeal.main_arg1) = m ((c.tc : Thread Cert.KernelFirstIdeal.nD Cert.KernelFirstIdeal.τ).loc Cert.KernelFirstIdeal.main_arg1)
          ∧ r.2.mem ((c.tc : Thread Cert.KernelFirstIdeal.nD Cert.KernelFirstIdeal.τ).loc Cert.KernelFirstIdeal.main_arg2) = m ((c.tc : Thread Cert.KernelFirstIdeal.nD Cert.KernelFirstIdeal.τ).loc Cert.KernelFirstIdeal.main_arg2))
      ∧ θ_run (Cert.ReferenceFirstIdeal.defs (F := Ideal)) (onTc (τ := Cert.ReferenceFirstIdeal.τ) (Cert.ReferenceFirstIdeal.main (F := Ideal))) ⟨m', fun _ => 0, g'⟩ (fun r => ∀ c : Dev Cert.ReferenceFirstIdeal.nD,
          r.2.mem ((c.tc : Thread Cert.ReferenceFirstIdeal.nD Cert.ReferenceFirstIdeal.τ).loc Cert.ReferenceFirstIdeal.main_v12) = v0 c
          ∧ r.2.mem ((c.tc : Thread Cert.ReferenceFirstIdeal.nD Cert.ReferenceFirstIdeal.τ).loc Cert.ReferenceFirstIdeal.main_arg0) = m' ((c.tc : Thread Cert.ReferenceFirstIdeal.nD Cert.ReferenceFirstIdeal.τ).loc Cert.ReferenceFirstIdeal.main_arg0)
          ∧ r.2.mem ((c.tc : Thread Cert.ReferenceFirstIdeal.nD Cert.ReferenceFirstIdeal.τ).loc Cert.ReferenceFirstIdeal.main_arg1) = m' ((c.tc : Thread Cert.ReferenceFirstIdeal.nD Cert.ReferenceFirstIdeal.τ).loc Cert.ReferenceFirstIdeal.main_arg1)
          ∧ r.2.mem ((c.tc : Thread Cert.ReferenceFirstIdeal.nD Cert.ReferenceFirstIdeal.τ).loc Cert.ReferenceFirstIdeal.main_arg2) = m' ((c.tc : Thread Cert.ReferenceFirstIdeal.nD Cert.ReferenceFirstIdeal.τ).loc Cert.ReferenceFirstIdeal.main_arg2))

def preserves_KernelSsm_KernelSsmIdeal : Prop :=
  True

def algebraic_KernelSsmIdeal_ReferenceSsmIdeal [hKernelSsmIdeal : Cert.KernelSsmIdeal.Facts] [hReferenceSsmIdeal : Cert.ReferenceSsmIdeal.Facts] : Prop :=
  ∀ (m : (ℓ : Loc Cert.KernelSsmIdeal.nD Cert.KernelSsmIdeal.τ Cert.KernelSsmIdeal.sig) → Buf (Elt Ideal) ℓ) (g : Dev Cert.KernelSsmIdeal.nD → PrngReg)
    (m' : (ℓ : Loc Cert.ReferenceSsmIdeal.nD Cert.ReferenceSsmIdeal.τ Cert.ReferenceSsmIdeal.sig) → Buf (Elt Ideal) ℓ) (g' : Dev Cert.ReferenceSsmIdeal.nD → PrngReg), Pre_KernelSsmIdeal m →
    (∀ c : Dev Cert.KernelSsmIdeal.nD,
      m' ((c.tc : Thread Cert.ReferenceSsmIdeal.nD Cert.ReferenceSsmIdeal.τ).loc Cert.ReferenceSsmIdeal.main_arg0) = m ((c.tc : Thread Cert.KernelSsmIdeal.nD Cert.KernelSsmIdeal.τ).loc Cert.KernelSsmIdeal.main_arg0)
      ∧ m' ((c.tc : Thread Cert.ReferenceSsmIdeal.nD Cert.ReferenceSsmIdeal.τ).loc Cert.ReferenceSsmIdeal.main_arg1) = m ((c.tc : Thread Cert.KernelSsmIdeal.nD Cert.KernelSsmIdeal.τ).loc Cert.KernelSsmIdeal.main_arg1)) →
    ∃ (v0 : (c : Dev Cert.KernelSsmIdeal.nD) → Buf (Elt Ideal) ((c.tc : Thread Cert.KernelSsmIdeal.nD Cert.KernelSsmIdeal.τ).loc Cert.KernelSsmIdeal.main_v1)),
      θ_run (Cert.KernelSsmIdeal.defs (F := Ideal)) (onTc (τ := Cert.KernelSsmIdeal.τ) (Cert.KernelSsmIdeal.main (F := Ideal))) ⟨m, fun _ => 0, g⟩ (fun r => ∀ c : Dev Cert.KernelSsmIdeal.nD,
          r.2.mem ((c.tc : Thread Cert.KernelSsmIdeal.nD Cert.KernelSsmIdeal.τ).loc Cert.KernelSsmIdeal.main_v1) = v0 c
          ∧ r.2.mem ((c.tc : Thread Cert.KernelSsmIdeal.nD Cert.KernelSsmIdeal.τ).loc Cert.KernelSsmIdeal.main_arg0) = m ((c.tc : Thread Cert.KernelSsmIdeal.nD Cert.KernelSsmIdeal.τ).loc Cert.KernelSsmIdeal.main_arg0)
          ∧ r.2.mem ((c.tc : Thread Cert.KernelSsmIdeal.nD Cert.KernelSsmIdeal.τ).loc Cert.KernelSsmIdeal.main_arg1) = m ((c.tc : Thread Cert.KernelSsmIdeal.nD Cert.KernelSsmIdeal.τ).loc Cert.KernelSsmIdeal.main_arg1))
      ∧ θ_run (Cert.ReferenceSsmIdeal.defs (F := Ideal)) (onTc (τ := Cert.ReferenceSsmIdeal.τ) (Cert.ReferenceSsmIdeal.main (F := Ideal))) ⟨m', fun _ => 0, g'⟩ (fun r => ∀ c : Dev Cert.ReferenceSsmIdeal.nD,
          r.2.mem ((c.tc : Thread Cert.ReferenceSsmIdeal.nD Cert.ReferenceSsmIdeal.τ).loc Cert.ReferenceSsmIdeal.main_v4) = v0 c
          ∧ r.2.mem ((c.tc : Thread Cert.ReferenceSsmIdeal.nD Cert.ReferenceSsmIdeal.τ).loc Cert.ReferenceSsmIdeal.main_arg0) = m' ((c.tc : Thread Cert.ReferenceSsmIdeal.nD Cert.ReferenceSsmIdeal.τ).loc Cert.ReferenceSsmIdeal.main_arg0)
          ∧ r.2.mem ((c.tc : Thread Cert.ReferenceSsmIdeal.nD Cert.ReferenceSsmIdeal.τ).loc Cert.ReferenceSsmIdeal.main_arg1) = m' ((c.tc : Thread Cert.ReferenceSsmIdeal.nD Cert.ReferenceSsmIdeal.τ).loc Cert.ReferenceSsmIdeal.main_arg1))

def preserves_KernelSmall_KernelSmallIdeal : Prop :=
  True

def algebraic_KernelSmallIdeal_ReferenceSmallIdeal [hKernelSmallIdeal : Cert.KernelSmallIdeal.Facts] [hReferenceSmallIdeal : Cert.ReferenceSmallIdeal.Facts] : Prop :=
  ∀ (m : (ℓ : Loc Cert.KernelSmallIdeal.nD Cert.KernelSmallIdeal.τ Cert.KernelSmallIdeal.sig) → Buf (Elt Ideal) ℓ) (g : Dev Cert.KernelSmallIdeal.nD → PrngReg)
    (m' : (ℓ : Loc Cert.ReferenceSmallIdeal.nD Cert.ReferenceSmallIdeal.τ Cert.ReferenceSmallIdeal.sig) → Buf (Elt Ideal) ℓ) (g' : Dev Cert.ReferenceSmallIdeal.nD → PrngReg), Pre_KernelSmallIdeal m →
    (∀ c : Dev Cert.KernelSmallIdeal.nD,
      m' ((c.tc : Thread Cert.ReferenceSmallIdeal.nD Cert.ReferenceSmallIdeal.τ).loc Cert.ReferenceSmallIdeal.main_arg0) = m ((c.tc : Thread Cert.KernelSmallIdeal.nD Cert.KernelSmallIdeal.τ).loc Cert.KernelSmallIdeal.main_arg0)
      ∧ m' ((c.tc : Thread Cert.ReferenceSmallIdeal.nD Cert.ReferenceSmallIdeal.τ).loc Cert.ReferenceSmallIdeal.main_arg1) = m ((c.tc : Thread Cert.KernelSmallIdeal.nD Cert.KernelSmallIdeal.τ).loc Cert.KernelSmallIdeal.main_arg1)
      ∧ m' ((c.tc : Thread Cert.ReferenceSmallIdeal.nD Cert.ReferenceSmallIdeal.τ).loc Cert.ReferenceSmallIdeal.main_arg2) = m ((c.tc : Thread Cert.KernelSmallIdeal.nD Cert.KernelSmallIdeal.τ).loc Cert.KernelSmallIdeal.main_arg2)) →
    ∃ (v0 : (c : Dev Cert.KernelSmallIdeal.nD) → Buf (Elt Ideal) ((c.tc : Thread Cert.KernelSmallIdeal.nD Cert.KernelSmallIdeal.τ).loc Cert.KernelSmallIdeal.main_v7)),
      θ_run (Cert.KernelSmallIdeal.defs (F := Ideal)) (onTc (τ := Cert.KernelSmallIdeal.τ) (Cert.KernelSmallIdeal.main (F := Ideal))) ⟨m, fun _ => 0, g⟩ (fun r => ∀ c : Dev Cert.KernelSmallIdeal.nD,
          r.2.mem ((c.tc : Thread Cert.KernelSmallIdeal.nD Cert.KernelSmallIdeal.τ).loc Cert.KernelSmallIdeal.main_v7) = v0 c
          ∧ r.2.mem ((c.tc : Thread Cert.KernelSmallIdeal.nD Cert.KernelSmallIdeal.τ).loc Cert.KernelSmallIdeal.main_arg0) = m ((c.tc : Thread Cert.KernelSmallIdeal.nD Cert.KernelSmallIdeal.τ).loc Cert.KernelSmallIdeal.main_arg0)
          ∧ r.2.mem ((c.tc : Thread Cert.KernelSmallIdeal.nD Cert.KernelSmallIdeal.τ).loc Cert.KernelSmallIdeal.main_arg1) = m ((c.tc : Thread Cert.KernelSmallIdeal.nD Cert.KernelSmallIdeal.τ).loc Cert.KernelSmallIdeal.main_arg1)
          ∧ r.2.mem ((c.tc : Thread Cert.KernelSmallIdeal.nD Cert.KernelSmallIdeal.τ).loc Cert.KernelSmallIdeal.main_arg2) = m ((c.tc : Thread Cert.KernelSmallIdeal.nD Cert.KernelSmallIdeal.τ).loc Cert.KernelSmallIdeal.main_arg2))
      ∧ θ_run (Cert.ReferenceSmallIdeal.defs (F := Ideal)) (onTc (τ := Cert.ReferenceSmallIdeal.τ) (Cert.ReferenceSmallIdeal.main (F := Ideal))) ⟨m', fun _ => 0, g'⟩ (fun r => ∀ c : Dev Cert.ReferenceSmallIdeal.nD,
          r.2.mem ((c.tc : Thread Cert.ReferenceSmallIdeal.nD Cert.ReferenceSmallIdeal.τ).loc Cert.ReferenceSmallIdeal.main_v15) = v0 c
          ∧ r.2.mem ((c.tc : Thread Cert.ReferenceSmallIdeal.nD Cert.ReferenceSmallIdeal.τ).loc Cert.ReferenceSmallIdeal.main_arg0) = m' ((c.tc : Thread Cert.ReferenceSmallIdeal.nD Cert.ReferenceSmallIdeal.τ).loc Cert.ReferenceSmallIdeal.main_arg0)
          ∧ r.2.mem ((c.tc : Thread Cert.ReferenceSmallIdeal.nD Cert.ReferenceSmallIdeal.τ).loc Cert.ReferenceSmallIdeal.main_arg1) = m' ((c.tc : Thread Cert.ReferenceSmallIdeal.nD Cert.ReferenceSmallIdeal.τ).loc Cert.ReferenceSmallIdeal.main_arg1)
          ∧ r.2.mem ((c.tc : Thread Cert.ReferenceSmallIdeal.nD Cert.ReferenceSmallIdeal.τ).loc Cert.ReferenceSmallIdeal.main_arg2) = m' ((c.tc : Thread Cert.ReferenceSmallIdeal.nD Cert.ReferenceSmallIdeal.τ).loc Cert.ReferenceSmallIdeal.main_arg2))

def preserves_KernelGla_KernelGlaIdeal : Prop :=
  True

def algebraic_KernelGlaIdeal_ReferenceGlaIdeal [hKernelGlaIdeal : Cert.KernelGlaIdeal.Facts] [hReferenceGlaIdeal : Cert.ReferenceGlaIdeal.Facts] : Prop :=
  ∀ (m : (ℓ : Loc Cert.KernelGlaIdeal.nD Cert.KernelGlaIdeal.τ Cert.KernelGlaIdeal.sig) → Buf (Elt Ideal) ℓ) (g : Dev Cert.KernelGlaIdeal.nD → PrngReg)
    (m' : (ℓ : Loc Cert.ReferenceGlaIdeal.nD Cert.ReferenceGlaIdeal.τ Cert.ReferenceGlaIdeal.sig) → Buf (Elt Ideal) ℓ) (g' : Dev Cert.ReferenceGlaIdeal.nD → PrngReg), Pre_KernelGlaIdeal m →
    (∀ c : Dev Cert.KernelGlaIdeal.nD,
      m' ((c.tc : Thread Cert.ReferenceGlaIdeal.nD Cert.ReferenceGlaIdeal.τ).loc Cert.ReferenceGlaIdeal.main_arg0) = m ((c.tc : Thread Cert.KernelGlaIdeal.nD Cert.KernelGlaIdeal.τ).loc Cert.KernelGlaIdeal.main_arg0)
      ∧ m' ((c.tc : Thread Cert.ReferenceGlaIdeal.nD Cert.ReferenceGlaIdeal.τ).loc Cert.ReferenceGlaIdeal.main_arg1) = m ((c.tc : Thread Cert.KernelGlaIdeal.nD Cert.KernelGlaIdeal.τ).loc Cert.KernelGlaIdeal.main_arg1)) →
    ∃ (v0 : (c : Dev Cert.KernelGlaIdeal.nD) → Buf (Elt Ideal) ((c.tc : Thread Cert.KernelGlaIdeal.nD Cert.KernelGlaIdeal.τ).loc Cert.KernelGlaIdeal.main_v1)),
      θ_run (Cert.KernelGlaIdeal.defs (F := Ideal)) (onTc (τ := Cert.KernelGlaIdeal.τ) (Cert.KernelGlaIdeal.main (F := Ideal))) ⟨m, fun _ => 0, g⟩ (fun r => ∀ c : Dev Cert.KernelGlaIdeal.nD,
          r.2.mem ((c.tc : Thread Cert.KernelGlaIdeal.nD Cert.KernelGlaIdeal.τ).loc Cert.KernelGlaIdeal.main_v1) = v0 c
          ∧ r.2.mem ((c.tc : Thread Cert.KernelGlaIdeal.nD Cert.KernelGlaIdeal.τ).loc Cert.KernelGlaIdeal.main_arg0) = m ((c.tc : Thread Cert.KernelGlaIdeal.nD Cert.KernelGlaIdeal.τ).loc Cert.KernelGlaIdeal.main_arg0)
          ∧ r.2.mem ((c.tc : Thread Cert.KernelGlaIdeal.nD Cert.KernelGlaIdeal.τ).loc Cert.KernelGlaIdeal.main_arg1) = m ((c.tc : Thread Cert.KernelGlaIdeal.nD Cert.KernelGlaIdeal.τ).loc Cert.KernelGlaIdeal.main_arg1))
      ∧ θ_run (Cert.ReferenceGlaIdeal.defs (F := Ideal)) (onTc (τ := Cert.ReferenceGlaIdeal.τ) (Cert.ReferenceGlaIdeal.main (F := Ideal))) ⟨m', fun _ => 0, g'⟩ (fun r => ∀ c : Dev Cert.ReferenceGlaIdeal.nD,
          r.2.mem ((c.tc : Thread Cert.ReferenceGlaIdeal.nD Cert.ReferenceGlaIdeal.τ).loc Cert.ReferenceGlaIdeal.main_v4) = v0 c
          ∧ r.2.mem ((c.tc : Thread Cert.ReferenceGlaIdeal.nD Cert.ReferenceGlaIdeal.τ).loc Cert.ReferenceGlaIdeal.main_arg0) = m' ((c.tc : Thread Cert.ReferenceGlaIdeal.nD Cert.ReferenceGlaIdeal.τ).loc Cert.ReferenceGlaIdeal.main_arg0)
          ∧ r.2.mem ((c.tc : Thread Cert.ReferenceGlaIdeal.nD Cert.ReferenceGlaIdeal.τ).loc Cert.ReferenceGlaIdeal.main_arg1) = m' ((c.tc : Thread Cert.ReferenceGlaIdeal.nD Cert.ReferenceGlaIdeal.τ).loc Cert.ReferenceGlaIdeal.main_arg1))

def preserves_KernelDecay_KernelDecayIdeal : Prop :=
  True

def algebraic_KernelDecayIdeal_ReferenceDecayIdeal [hKernelDecayIdeal : Cert.KernelDecayIdeal.Facts] [hReferenceDecayIdeal : Cert.ReferenceDecayIdeal.Facts] : Prop :=
  ∀ (m : (ℓ : Loc Cert.KernelDecayIdeal.nD Cert.KernelDecayIdeal.τ Cert.KernelDecayIdeal.sig) → Buf (Elt Ideal) ℓ) (g : Dev Cert.KernelDecayIdeal.nD → PrngReg)
    (m' : (ℓ : Loc Cert.ReferenceDecayIdeal.nD Cert.ReferenceDecayIdeal.τ Cert.ReferenceDecayIdeal.sig) → Buf (Elt Ideal) ℓ) (g' : Dev Cert.ReferenceDecayIdeal.nD → PrngReg), Pre_KernelDecayIdeal m →
    (∀ c : Dev Cert.KernelDecayIdeal.nD,
      m' ((c.tc : Thread Cert.ReferenceDecayIdeal.nD Cert.ReferenceDecayIdeal.τ).loc Cert.ReferenceDecayIdeal.main_arg0) = m ((c.tc : Thread Cert.KernelDecayIdeal.nD Cert.KernelDecayIdeal.τ).loc Cert.KernelDecayIdeal.main_arg0)
      ∧ m' ((c.tc : Thread Cert.ReferenceDecayIdeal.nD Cert.ReferenceDecayIdeal.τ).loc Cert.ReferenceDecayIdeal.main_arg1) = m ((c.tc : Thread Cert.KernelDecayIdeal.nD Cert.KernelDecayIdeal.τ).loc Cert.KernelDecayIdeal.main_arg1)) →
    ∃ (v0 : (c : Dev Cert.KernelDecayIdeal.nD) → Buf (Elt Ideal) ((c.tc : Thread Cert.KernelDecayIdeal.nD Cert.KernelDecayIdeal.τ).loc Cert.KernelDecayIdeal.main_v1)),
      θ_run (Cert.KernelDecayIdeal.defs (F := Ideal)) (onTc (τ := Cert.KernelDecayIdeal.τ) (Cert.KernelDecayIdeal.main (F := Ideal))) ⟨m, fun _ => 0, g⟩ (fun r => ∀ c : Dev Cert.KernelDecayIdeal.nD,
          r.2.mem ((c.tc : Thread Cert.KernelDecayIdeal.nD Cert.KernelDecayIdeal.τ).loc Cert.KernelDecayIdeal.main_v1) = v0 c
          ∧ r.2.mem ((c.tc : Thread Cert.KernelDecayIdeal.nD Cert.KernelDecayIdeal.τ).loc Cert.KernelDecayIdeal.main_arg0) = m ((c.tc : Thread Cert.KernelDecayIdeal.nD Cert.KernelDecayIdeal.τ).loc Cert.KernelDecayIdeal.main_arg0)
          ∧ r.2.mem ((c.tc : Thread Cert.KernelDecayIdeal.nD Cert.KernelDecayIdeal.τ).loc Cert.KernelDecayIdeal.main_arg1) = m ((c.tc : Thread Cert.KernelDecayIdeal.nD Cert.KernelDecayIdeal.τ).loc Cert.KernelDecayIdeal.main_arg1))
      ∧ θ_run (Cert.ReferenceDecayIdeal.defs (F := Ideal)) (onTc (τ := Cert.ReferenceDecayIdeal.τ) (Cert.ReferenceDecayIdeal.main (F := Ideal))) ⟨m', fun _ => 0, g'⟩ (fun r => ∀ c : Dev Cert.ReferenceDecayIdeal.nD,
          r.2.mem ((c.tc : Thread Cert.ReferenceDecayIdeal.nD Cert.ReferenceDecayIdeal.τ).loc Cert.ReferenceDecayIdeal.main_v4) = v0 c
          ∧ r.2.mem ((c.tc : Thread Cert.ReferenceDecayIdeal.nD Cert.ReferenceDecayIdeal.τ).loc Cert.ReferenceDecayIdeal.main_arg0) = m' ((c.tc : Thread Cert.ReferenceDecayIdeal.nD Cert.ReferenceDecayIdeal.τ).loc Cert.ReferenceDecayIdeal.main_arg0)
          ∧ r.2.mem ((c.tc : Thread Cert.ReferenceDecayIdeal.nD Cert.ReferenceDecayIdeal.τ).loc Cert.ReferenceDecayIdeal.main_arg1) = m' ((c.tc : Thread Cert.ReferenceDecayIdeal.nD Cert.ReferenceDecayIdeal.τ).loc Cert.ReferenceDecayIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)) →
    ∃ (v0 : (c : Dev Cert.KernelOutIdeal.nD) → Buf (Elt Ideal) ((c.tc : Thread Cert.KernelOutIdeal.nD Cert.KernelOutIdeal.τ).loc Cert.KernelOutIdeal.main_v3)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v3) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v17) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)) →
    ∃ (v0 : (c : Dev Cert.KernelMixIdeal.nD) → Buf (Elt Ideal) ((c.tc : Thread Cert.KernelMixIdeal.nD Cert.KernelMixIdeal.τ).loc Cert.KernelMixIdeal.main_v3_0)) (v1 : (c : Dev Cert.KernelMixIdeal.nD) → Buf (Elt Ideal) ((c.tc : Thread Cert.KernelMixIdeal.nD Cert.KernelMixIdeal.τ).loc Cert.KernelMixIdeal.main_v3_1)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v3_0) = v0 c
          ∧ r.2.mem ((c.tc : Thread Cert.KernelMixIdeal.nD Cert.KernelMixIdeal.τ).loc Cert.KernelMixIdeal.main_v3_1) = v1 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v5) = v0 c
          ∧ r.2.mem ((c.tc : Thread Cert.ReferenceMixIdeal.nD Cert.ReferenceMixIdeal.τ).loc Cert.ReferenceMixIdeal.main_v19) = v1 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4))

def preserves_KernelOdd_KernelOddIdeal : Prop :=
  True

def algebraic_KernelOddIdeal_ReferenceOddIdeal [hKernelOddIdeal : Cert.KernelOddIdeal.Facts] [hReferenceOddIdeal : Cert.ReferenceOddIdeal.Facts] : Prop :=
  ∀ (m : (ℓ : Loc Cert.KernelOddIdeal.nD Cert.KernelOddIdeal.τ Cert.KernelOddIdeal.sig) → Buf (Elt Ideal) ℓ) (g : Dev Cert.KernelOddIdeal.nD → PrngReg)
    (m' : (ℓ : Loc Cert.ReferenceOddIdeal.nD Cert.ReferenceOddIdeal.τ Cert.ReferenceOddIdeal.sig) → Buf (Elt Ideal) ℓ) (g' : Dev Cert.ReferenceOddIdeal.nD → PrngReg), Pre_KernelOddIdeal m →
    (∀ c : Dev Cert.KernelOddIdeal.nD,
      m' ((c.tc : Thread Cert.ReferenceOddIdeal.nD Cert.ReferenceOddIdeal.τ).loc Cert.ReferenceOddIdeal.main_arg0) = m ((c.tc : Thread Cert.KernelOddIdeal.nD Cert.KernelOddIdeal.τ).loc Cert.KernelOddIdeal.main_arg0)
      ∧ m' ((c.tc : Thread Cert.ReferenceOddIdeal.nD Cert.ReferenceOddIdeal.τ).loc Cert.ReferenceOddIdeal.main_arg1) = m ((c.tc : Thread Cert.KernelOddIdeal.nD Cert.KernelOddIdeal.τ).loc Cert.KernelOddIdeal.main_arg1)
      ∧ m' ((c.tc : Thread Cert.ReferenceOddIdeal.nD Cert.ReferenceOddIdeal.τ).loc Cert.ReferenceOddIdeal.main_arg2) = m ((c.tc : Thread Cert.KernelOddIdeal.nD Cert.KernelOddIdeal.τ).loc Cert.KernelOddIdeal.main_arg2)
      ∧ m' ((c.tc : Thread Cert.ReferenceOddIdeal.nD Cert.ReferenceOddIdeal.τ).loc Cert.ReferenceOddIdeal.main_arg3) = m ((c.tc : Thread Cert.KernelOddIdeal.nD Cert.KernelOddIdeal.τ).loc Cert.KernelOddIdeal.main_arg3)) →
    ∃ (v0 : (c : Dev Cert.KernelOddIdeal.nD) → Buf (Elt Ideal) ((c.tc : Thread Cert.KernelOddIdeal.nD Cert.KernelOddIdeal.τ).loc Cert.KernelOddIdeal.main_v3_0)) (v1 : (c : Dev Cert.KernelOddIdeal.nD) → Buf (Elt Ideal) ((c.tc : Thread Cert.KernelOddIdeal.nD Cert.KernelOddIdeal.τ).loc Cert.KernelOddIdeal.main_v3_1)),
      θ_run (Cert.KernelOddIdeal.defs (F := Ideal)) (onTc (τ := Cert.KernelOddIdeal.τ) (Cert.KernelOddIdeal.main (F := Ideal))) ⟨m, fun _ => 0, g⟩ (fun r => ∀ c : Dev Cert.KernelOddIdeal.nD,
          r.2.mem ((c.tc : Thread Cert.KernelOddIdeal.nD Cert.KernelOddIdeal.τ).loc Cert.KernelOddIdeal.main_v3_0) = v0 c
          ∧ r.2.mem ((c.tc : Thread Cert.KernelOddIdeal.nD Cert.KernelOddIdeal.τ).loc Cert.KernelOddIdeal.main_v3_1) = v1 c
          ∧ r.2.mem ((c.tc : Thread Cert.KernelOddIdeal.nD Cert.KernelOddIdeal.τ).loc Cert.KernelOddIdeal.main_arg0) = m ((c.tc : Thread Cert.KernelOddIdeal.nD Cert.KernelOddIdeal.τ).loc Cert.KernelOddIdeal.main_arg0)
          ∧ r.2.mem ((c.tc : Thread Cert.KernelOddIdeal.nD Cert.KernelOddIdeal.τ).loc Cert.KernelOddIdeal.main_arg1) = m ((c.tc : Thread Cert.KernelOddIdeal.nD Cert.KernelOddIdeal.τ).loc Cert.KernelOddIdeal.main_arg1)
          ∧ r.2.mem ((c.tc : Thread Cert.KernelOddIdeal.nD Cert.KernelOddIdeal.τ).loc Cert.KernelOddIdeal.main_arg2) = m ((c.tc : Thread Cert.KernelOddIdeal.nD Cert.KernelOddIdeal.τ).loc Cert.KernelOddIdeal.main_arg2)
          ∧ r.2.mem ((c.tc : Thread Cert.KernelOddIdeal.nD Cert.KernelOddIdeal.τ).loc Cert.KernelOddIdeal.main_arg3) = m ((c.tc : Thread Cert.KernelOddIdeal.nD Cert.KernelOddIdeal.τ).loc Cert.KernelOddIdeal.main_arg3))
      ∧ θ_run (Cert.ReferenceOddIdeal.defs (F := Ideal)) (onTc (τ := Cert.ReferenceOddIdeal.τ) (Cert.ReferenceOddIdeal.main (F := Ideal))) ⟨m', fun _ => 0, g'⟩ (fun r => ∀ c : Dev Cert.ReferenceOddIdeal.nD,
          r.2.mem ((c.tc : Thread Cert.ReferenceOddIdeal.nD Cert.ReferenceOddIdeal.τ).loc Cert.ReferenceOddIdeal.main_v4) = v0 c
          ∧ r.2.mem ((c.tc : Thread Cert.ReferenceOddIdeal.nD Cert.ReferenceOddIdeal.τ).loc Cert.ReferenceOddIdeal.main_v18) = v1 c
          ∧ r.2.mem ((c.tc : Thread Cert.ReferenceOddIdeal.nD Cert.ReferenceOddIdeal.τ).loc Cert.ReferenceOddIdeal.main_arg0) = m' ((c.tc : Thread Cert.ReferenceOddIdeal.nD Cert.ReferenceOddIdeal.τ).loc Cert.ReferenceOddIdeal.main_arg0)
          ∧ r.2.mem ((c.tc : Thread Cert.ReferenceOddIdeal.nD Cert.ReferenceOddIdeal.τ).loc Cert.ReferenceOddIdeal.main_arg1) = m' ((c.tc : Thread Cert.ReferenceOddIdeal.nD Cert.ReferenceOddIdeal.τ).loc Cert.ReferenceOddIdeal.main_arg1)
          ∧ r.2.mem ((c.tc : Thread Cert.ReferenceOddIdeal.nD Cert.ReferenceOddIdeal.τ).loc Cert.ReferenceOddIdeal.main_arg2) = m' ((c.tc : Thread Cert.ReferenceOddIdeal.nD Cert.ReferenceOddIdeal.τ).loc Cert.ReferenceOddIdeal.main_arg2)
          ∧ r.2.mem ((c.tc : Thread Cert.ReferenceOddIdeal.nD Cert.ReferenceOddIdeal.τ).loc Cert.ReferenceOddIdeal.main_arg3) = m' ((c.tc : Thread Cert.ReferenceOddIdeal.nD Cert.ReferenceOddIdeal.τ).loc Cert.ReferenceOddIdeal.main_arg3))

def preserves_KernelLaterSsm_KernelLaterSsmIdeal : Prop :=
  True

def algebraic_KernelLaterSsmIdeal_ReferenceLaterSsmIdeal [hKernelLaterSsmIdeal : Cert.KernelLaterSsmIdeal.Facts] [hReferenceLaterSsmIdeal : Cert.ReferenceLaterSsmIdeal.Facts] : Prop :=
  ∀ (m : (ℓ : Loc Cert.KernelLaterSsmIdeal.nD Cert.KernelLaterSsmIdeal.τ Cert.KernelLaterSsmIdeal.sig) → Buf (Elt Ideal) ℓ) (g : Dev Cert.KernelLaterSsmIdeal.nD → PrngReg)
    (m' : (ℓ : Loc Cert.ReferenceLaterSsmIdeal.nD Cert.ReferenceLaterSsmIdeal.τ Cert.ReferenceLaterSsmIdeal.sig) → Buf (Elt Ideal) ℓ) (g' : Dev Cert.ReferenceLaterSsmIdeal.nD → PrngReg), Pre_KernelLaterSsmIdeal m →
    (∀ c : Dev Cert.KernelLaterSsmIdeal.nD,
      m' ((c.tc : Thread Cert.ReferenceLaterSsmIdeal.nD Cert.ReferenceLaterSsmIdeal.τ).loc Cert.ReferenceLaterSsmIdeal.main_arg0) = m ((c.tc : Thread Cert.KernelLaterSsmIdeal.nD Cert.KernelLaterSsmIdeal.τ).loc Cert.KernelLaterSsmIdeal.main_arg0)
      ∧ m' ((c.tc : Thread Cert.ReferenceLaterSsmIdeal.nD Cert.ReferenceLaterSsmIdeal.τ).loc Cert.ReferenceLaterSsmIdeal.main_arg1) = m ((c.tc : Thread Cert.KernelLaterSsmIdeal.nD Cert.KernelLaterSsmIdeal.τ).loc Cert.KernelLaterSsmIdeal.main_arg1)) →
    ∃ (v0 : (c : Dev Cert.KernelLaterSsmIdeal.nD) → Buf (Elt Ideal) ((c.tc : Thread Cert.KernelLaterSsmIdeal.nD Cert.KernelLaterSsmIdeal.τ).loc Cert.KernelLaterSsmIdeal.main_v1)),
      θ_run (Cert.KernelLaterSsmIdeal.defs (F := Ideal)) (onTc (τ := Cert.KernelLaterSsmIdeal.τ) (Cert.KernelLaterSsmIdeal.main (F := Ideal))) ⟨m, fun _ => 0, g⟩ (fun r => ∀ c : Dev Cert.KernelLaterSsmIdeal.nD,
          r.2.mem ((c.tc : Thread Cert.KernelLaterSsmIdeal.nD Cert.KernelLaterSsmIdeal.τ).loc Cert.KernelLaterSsmIdeal.main_v1) = v0 c
          ∧ r.2.mem ((c.tc : Thread Cert.KernelLaterSsmIdeal.nD Cert.KernelLaterSsmIdeal.τ).loc Cert.KernelLaterSsmIdeal.main_arg0) = m ((c.tc : Thread Cert.KernelLaterSsmIdeal.nD Cert.KernelLaterSsmIdeal.τ).loc Cert.KernelLaterSsmIdeal.main_arg0)
          ∧ r.2.mem ((c.tc : Thread Cert.KernelLaterSsmIdeal.nD Cert.KernelLaterSsmIdeal.τ).loc Cert.KernelLaterSsmIdeal.main_arg1) = m ((c.tc : Thread Cert.KernelLaterSsmIdeal.nD Cert.KernelLaterSsmIdeal.τ).loc Cert.KernelLaterSsmIdeal.main_arg1))
      ∧ θ_run (Cert.ReferenceLaterSsmIdeal.defs (F := Ideal)) (onTc (τ := Cert.ReferenceLaterSsmIdeal.τ) (Cert.ReferenceLaterSsmIdeal.main (F := Ideal))) ⟨m', fun _ => 0, g'⟩ (fun r => ∀ c : Dev Cert.ReferenceLaterSsmIdeal.nD,
          r.2.mem ((c.tc : Thread Cert.ReferenceLaterSsmIdeal.nD Cert.ReferenceLaterSsmIdeal.τ).loc Cert.ReferenceLaterSsmIdeal.main_v4) = v0 c
          ∧ r.2.mem ((c.tc : Thread Cert.ReferenceLaterSsmIdeal.nD Cert.ReferenceLaterSsmIdeal.τ).loc Cert.ReferenceLaterSsmIdeal.main_arg0) = m' ((c.tc : Thread Cert.ReferenceLaterSsmIdeal.nD Cert.ReferenceLaterSsmIdeal.τ).loc Cert.ReferenceLaterSsmIdeal.main_arg0)
          ∧ r.2.mem ((c.tc : Thread Cert.ReferenceLaterSsmIdeal.nD Cert.ReferenceLaterSsmIdeal.τ).loc Cert.ReferenceLaterSsmIdeal.main_arg1) = m' ((c.tc : Thread Cert.ReferenceLaterSsmIdeal.nD Cert.ReferenceLaterSsmIdeal.τ).loc Cert.ReferenceLaterSsmIdeal.main_arg1))

def preserves_KernelLaterSmall_KernelLaterSmallIdeal : Prop :=
  True

def algebraic_KernelLaterSmallIdeal_ReferenceLaterSmallIdeal [hKernelLaterSmallIdeal : Cert.KernelLaterSmallIdeal.Facts] [hReferenceLaterSmallIdeal : Cert.ReferenceLaterSmallIdeal.Facts] : Prop :=
  ∀ (m : (ℓ : Loc Cert.KernelLaterSmallIdeal.nD Cert.KernelLaterSmallIdeal.τ Cert.KernelLaterSmallIdeal.sig) → Buf (Elt Ideal) ℓ) (g : Dev Cert.KernelLaterSmallIdeal.nD → PrngReg)
    (m' : (ℓ : Loc Cert.ReferenceLaterSmallIdeal.nD Cert.ReferenceLaterSmallIdeal.τ Cert.ReferenceLaterSmallIdeal.sig) → Buf (Elt Ideal) ℓ) (g' : Dev Cert.ReferenceLaterSmallIdeal.nD → PrngReg), Pre_KernelLaterSmallIdeal m →
    (∀ c : Dev Cert.KernelLaterSmallIdeal.nD,
      m' ((c.tc : Thread Cert.ReferenceLaterSmallIdeal.nD Cert.ReferenceLaterSmallIdeal.τ).loc Cert.ReferenceLaterSmallIdeal.main_arg0) = m ((c.tc : Thread Cert.KernelLaterSmallIdeal.nD Cert.KernelLaterSmallIdeal.τ).loc Cert.KernelLaterSmallIdeal.main_arg0)
      ∧ m' ((c.tc : Thread Cert.ReferenceLaterSmallIdeal.nD Cert.ReferenceLaterSmallIdeal.τ).loc Cert.ReferenceLaterSmallIdeal.main_arg1) = m ((c.tc : Thread Cert.KernelLaterSmallIdeal.nD Cert.KernelLaterSmallIdeal.τ).loc Cert.KernelLaterSmallIdeal.main_arg1)
      ∧ m' ((c.tc : Thread Cert.ReferenceLaterSmallIdeal.nD Cert.ReferenceLaterSmallIdeal.τ).loc Cert.ReferenceLaterSmallIdeal.main_arg2) = m ((c.tc : Thread Cert.KernelLaterSmallIdeal.nD Cert.KernelLaterSmallIdeal.τ).loc Cert.KernelLaterSmallIdeal.main_arg2)) →
    ∃ (v0 : (c : Dev Cert.KernelLaterSmallIdeal.nD) → Buf (Elt Ideal) ((c.tc : Thread Cert.KernelLaterSmallIdeal.nD Cert.KernelLaterSmallIdeal.τ).loc Cert.KernelLaterSmallIdeal.main_v7)),
      θ_run (Cert.KernelLaterSmallIdeal.defs (F := Ideal)) (onTc (τ := Cert.KernelLaterSmallIdeal.τ) (Cert.KernelLaterSmallIdeal.main (F := Ideal))) ⟨m, fun _ => 0, g⟩ (fun r => ∀ c : Dev Cert.KernelLaterSmallIdeal.nD,
          r.2.mem ((c.tc : Thread Cert.KernelLaterSmallIdeal.nD Cert.KernelLaterSmallIdeal.τ).loc Cert.KernelLaterSmallIdeal.main_v7) = v0 c
          ∧ r.2.mem ((c.tc : Thread Cert.KernelLaterSmallIdeal.nD Cert.KernelLaterSmallIdeal.τ).loc Cert.KernelLaterSmallIdeal.main_arg0) = m ((c.tc : Thread Cert.KernelLaterSmallIdeal.nD Cert.KernelLaterSmallIdeal.τ).loc Cert.KernelLaterSmallIdeal.main_arg0)
          ∧ r.2.mem ((c.tc : Thread Cert.KernelLaterSmallIdeal.nD Cert.KernelLaterSmallIdeal.τ).loc Cert.KernelLaterSmallIdeal.main_arg1) = m ((c.tc : Thread Cert.KernelLaterSmallIdeal.nD Cert.KernelLaterSmallIdeal.τ).loc Cert.KernelLaterSmallIdeal.main_arg1)
          ∧ r.2.mem ((c.tc : Thread Cert.KernelLaterSmallIdeal.nD Cert.KernelLaterSmallIdeal.τ).loc Cert.KernelLaterSmallIdeal.main_arg2) = m ((c.tc : Thread Cert.KernelLaterSmallIdeal.nD Cert.KernelLaterSmallIdeal.τ).loc Cert.KernelLaterSmallIdeal.main_arg2))
      ∧ θ_run (Cert.ReferenceLaterSmallIdeal.defs (F := Ideal)) (onTc (τ := Cert.ReferenceLaterSmallIdeal.τ) (Cert.ReferenceLaterSmallIdeal.main (F := Ideal))) ⟨m', fun _ => 0, g'⟩ (fun r => ∀ c : Dev Cert.ReferenceLaterSmallIdeal.nD,
          r.2.mem ((c.tc : Thread Cert.ReferenceLaterSmallIdeal.nD Cert.ReferenceLaterSmallIdeal.τ).loc Cert.ReferenceLaterSmallIdeal.main_v15) = v0 c
          ∧ r.2.mem ((c.tc : Thread Cert.ReferenceLaterSmallIdeal.nD Cert.ReferenceLaterSmallIdeal.τ).loc Cert.ReferenceLaterSmallIdeal.main_arg0) = m' ((c.tc : Thread Cert.ReferenceLaterSmallIdeal.nD Cert.ReferenceLaterSmallIdeal.τ).loc Cert.ReferenceLaterSmallIdeal.main_arg0)
          ∧ r.2.mem ((c.tc : Thread Cert.ReferenceLaterSmallIdeal.nD Cert.ReferenceLaterSmallIdeal.τ).loc Cert.ReferenceLaterSmallIdeal.main_arg1) = m' ((c.tc : Thread Cert.ReferenceLaterSmallIdeal.nD Cert.ReferenceLaterSmallIdeal.τ).loc Cert.ReferenceLaterSmallIdeal.main_arg1)
          ∧ r.2.mem ((c.tc : Thread Cert.ReferenceLaterSmallIdeal.nD Cert.ReferenceLaterSmallIdeal.τ).loc Cert.ReferenceLaterSmallIdeal.main_arg2) = m' ((c.tc : Thread Cert.ReferenceLaterSmallIdeal.nD Cert.ReferenceLaterSmallIdeal.τ).loc Cert.ReferenceLaterSmallIdeal.main_arg2))

def preserves_KernelLaterGla_KernelLaterGlaIdeal : Prop :=
  True

def algebraic_KernelLaterGlaIdeal_ReferenceLaterGlaIdeal [hKernelLaterGlaIdeal : Cert.KernelLaterGlaIdeal.Facts] [hReferenceLaterGlaIdeal : Cert.ReferenceLaterGlaIdeal.Facts] : Prop :=
  ∀ (m : (ℓ : Loc Cert.KernelLaterGlaIdeal.nD Cert.KernelLaterGlaIdeal.τ Cert.KernelLaterGlaIdeal.sig) → Buf (Elt Ideal) ℓ) (g : Dev Cert.KernelLaterGlaIdeal.nD → PrngReg)
    (m' : (ℓ : Loc Cert.ReferenceLaterGlaIdeal.nD Cert.ReferenceLaterGlaIdeal.τ Cert.ReferenceLaterGlaIdeal.sig) → Buf (Elt Ideal) ℓ) (g' : Dev Cert.ReferenceLaterGlaIdeal.nD → PrngReg), Pre_KernelLaterGlaIdeal m →
    (∀ c : Dev Cert.KernelLaterGlaIdeal.nD,
      m' ((c.tc : Thread Cert.ReferenceLaterGlaIdeal.nD Cert.ReferenceLaterGlaIdeal.τ).loc Cert.ReferenceLaterGlaIdeal.main_arg0) = m ((c.tc : Thread Cert.KernelLaterGlaIdeal.nD Cert.KernelLaterGlaIdeal.τ).loc Cert.KernelLaterGlaIdeal.main_arg0)
      ∧ m' ((c.tc : Thread Cert.ReferenceLaterGlaIdeal.nD Cert.ReferenceLaterGlaIdeal.τ).loc Cert.ReferenceLaterGlaIdeal.main_arg1) = m ((c.tc : Thread Cert.KernelLaterGlaIdeal.nD Cert.KernelLaterGlaIdeal.τ).loc Cert.KernelLaterGlaIdeal.main_arg1)) →
    ∃ (v0 : (c : Dev Cert.KernelLaterGlaIdeal.nD) → Buf (Elt Ideal) ((c.tc : Thread Cert.KernelLaterGlaIdeal.nD Cert.KernelLaterGlaIdeal.τ).loc Cert.KernelLaterGlaIdeal.main_v1)),
      θ_run (Cert.KernelLaterGlaIdeal.defs (F := Ideal)) (onTc (τ := Cert.KernelLaterGlaIdeal.τ) (Cert.KernelLaterGlaIdeal.main (F := Ideal))) ⟨m, fun _ => 0, g⟩ (fun r => ∀ c : Dev Cert.KernelLaterGlaIdeal.nD,
          r.2.mem ((c.tc : Thread Cert.KernelLaterGlaIdeal.nD Cert.KernelLaterGlaIdeal.τ).loc Cert.KernelLaterGlaIdeal.main_v1) = v0 c
          ∧ r.2.mem ((c.tc : Thread Cert.KernelLaterGlaIdeal.nD Cert.KernelLaterGlaIdeal.τ).loc Cert.KernelLaterGlaIdeal.main_arg0) = m ((c.tc : Thread Cert.KernelLaterGlaIdeal.nD Cert.KernelLaterGlaIdeal.τ).loc Cert.KernelLaterGlaIdeal.main_arg0)
          ∧ r.2.mem ((c.tc : Thread Cert.KernelLaterGlaIdeal.nD Cert.KernelLaterGlaIdeal.τ).loc Cert.KernelLaterGlaIdeal.main_arg1) = m ((c.tc : Thread Cert.KernelLaterGlaIdeal.nD Cert.KernelLaterGlaIdeal.τ).loc Cert.KernelLaterGlaIdeal.main_arg1))
      ∧ θ_run (Cert.ReferenceLaterGlaIdeal.defs (F := Ideal)) (onTc (τ := Cert.ReferenceLaterGlaIdeal.τ) (Cert.ReferenceLaterGlaIdeal.main (F := Ideal))) ⟨m', fun _ => 0, g'⟩ (fun r => ∀ c : Dev Cert.ReferenceLaterGlaIdeal.nD,
          r.2.mem ((c.tc : Thread Cert.ReferenceLaterGlaIdeal.nD Cert.ReferenceLaterGlaIdeal.τ).loc Cert.ReferenceLaterGlaIdeal.main_v4) = v0 c
          ∧ r.2.mem ((c.tc : Thread Cert.ReferenceLaterGlaIdeal.nD Cert.ReferenceLaterGlaIdeal.τ).loc Cert.ReferenceLaterGlaIdeal.main_arg0) = m' ((c.tc : Thread Cert.ReferenceLaterGlaIdeal.nD Cert.ReferenceLaterGlaIdeal.τ).loc Cert.ReferenceLaterGlaIdeal.main_arg0)
          ∧ r.2.mem ((c.tc : Thread Cert.ReferenceLaterGlaIdeal.nD Cert.ReferenceLaterGlaIdeal.τ).loc Cert.ReferenceLaterGlaIdeal.main_arg1) = m' ((c.tc : Thread Cert.ReferenceLaterGlaIdeal.nD Cert.ReferenceLaterGlaIdeal.τ).loc Cert.ReferenceLaterGlaIdeal.main_arg1))

def preserves_KernelLaterDecay_KernelLaterDecayIdeal : Prop :=
  True

def algebraic_KernelLaterDecayIdeal_ReferenceLaterDecayIdeal [hKernelLaterDecayIdeal : Cert.KernelLaterDecayIdeal.Facts] [hReferenceLaterDecayIdeal : Cert.ReferenceLaterDecayIdeal.Facts] : Prop :=
  ∀ (m : (ℓ : Loc Cert.KernelLaterDecayIdeal.nD Cert.KernelLaterDecayIdeal.τ Cert.KernelLaterDecayIdeal.sig) → Buf (Elt Ideal) ℓ) (g : Dev Cert.KernelLaterDecayIdeal.nD → PrngReg)
    (m' : (ℓ : Loc Cert.ReferenceLaterDecayIdeal.nD Cert.ReferenceLaterDecayIdeal.τ Cert.ReferenceLaterDecayIdeal.sig) → Buf (Elt Ideal) ℓ) (g' : Dev Cert.ReferenceLaterDecayIdeal.nD → PrngReg), Pre_KernelLaterDecayIdeal m →
    (∀ c : Dev Cert.KernelLaterDecayIdeal.nD,
      m' ((c.tc : Thread Cert.ReferenceLaterDecayIdeal.nD Cert.ReferenceLaterDecayIdeal.τ).loc Cert.ReferenceLaterDecayIdeal.main_arg0) = m ((c.tc : Thread Cert.KernelLaterDecayIdeal.nD Cert.KernelLaterDecayIdeal.τ).loc Cert.KernelLaterDecayIdeal.main_arg0)
      ∧ m' ((c.tc : Thread Cert.ReferenceLaterDecayIdeal.nD Cert.ReferenceLaterDecayIdeal.τ).loc Cert.ReferenceLaterDecayIdeal.main_arg1) = m ((c.tc : Thread Cert.KernelLaterDecayIdeal.nD Cert.KernelLaterDecayIdeal.τ).loc Cert.KernelLaterDecayIdeal.main_arg1)) →
    ∃ (v0 : (c : Dev Cert.KernelLaterDecayIdeal.nD) → Buf (Elt Ideal) ((c.tc : Thread Cert.KernelLaterDecayIdeal.nD Cert.KernelLaterDecayIdeal.τ).loc Cert.KernelLaterDecayIdeal.main_v1)),
      θ_run (Cert.KernelLaterDecayIdeal.defs (F := Ideal)) (onTc (τ := Cert.KernelLaterDecayIdeal.τ) (Cert.KernelLaterDecayIdeal.main (F := Ideal))) ⟨m, fun _ => 0, g⟩ (fun r => ∀ c : Dev Cert.KernelLaterDecayIdeal.nD,
          r.2.mem ((c.tc : Thread Cert.KernelLaterDecayIdeal.nD Cert.KernelLaterDecayIdeal.τ).loc Cert.KernelLaterDecayIdeal.main_v1) = v0 c
          ∧ r.2.mem ((c.tc : Thread Cert.KernelLaterDecayIdeal.nD Cert.KernelLaterDecayIdeal.τ).loc Cert.KernelLaterDecayIdeal.main_arg0) = m ((c.tc : Thread Cert.KernelLaterDecayIdeal.nD Cert.KernelLaterDecayIdeal.τ).loc Cert.KernelLaterDecayIdeal.main_arg0)
          ∧ r.2.mem ((c.tc : Thread Cert.KernelLaterDecayIdeal.nD Cert.KernelLaterDecayIdeal.τ).loc Cert.KernelLaterDecayIdeal.main_arg1) = m ((c.tc : Thread Cert.KernelLaterDecayIdeal.nD Cert.KernelLaterDecayIdeal.τ).loc Cert.KernelLaterDecayIdeal.main_arg1))
      ∧ θ_run (Cert.ReferenceLaterDecayIdeal.defs (F := Ideal)) (onTc (τ := Cert.ReferenceLaterDecayIdeal.τ) (Cert.ReferenceLaterDecayIdeal.main (F := Ideal))) ⟨m', fun _ => 0, g'⟩ (fun r => ∀ c : Dev Cert.ReferenceLaterDecayIdeal.nD,
          r.2.mem ((c.tc : Thread Cert.ReferenceLaterDecayIdeal.nD Cert.ReferenceLaterDecayIdeal.τ).loc Cert.ReferenceLaterDecayIdeal.main_v4) = v0 c
          ∧ r.2.mem ((c.tc : Thread Cert.ReferenceLaterDecayIdeal.nD Cert.ReferenceLaterDecayIdeal.τ).loc Cert.ReferenceLaterDecayIdeal.main_arg0) = m' ((c.tc : Thread Cert.ReferenceLaterDecayIdeal.nD Cert.ReferenceLaterDecayIdeal.τ).loc Cert.ReferenceLaterDecayIdeal.main_arg0)
          ∧ r.2.mem ((c.tc : Thread Cert.ReferenceLaterDecayIdeal.nD Cert.ReferenceLaterDecayIdeal.τ).loc Cert.ReferenceLaterDecayIdeal.main_arg1) = m' ((c.tc : Thread Cert.ReferenceLaterDecayIdeal.nD Cert.ReferenceLaterDecayIdeal.τ).loc Cert.ReferenceLaterDecayIdeal.main_arg1))

def preserves_KernelLaterMix_KernelLaterMixIdeal : Prop :=
  True

def algebraic_KernelLaterMixIdeal_ReferenceLaterMixIdeal [hKernelLaterMixIdeal : Cert.KernelLaterMixIdeal.Facts] [hReferenceLaterMixIdeal : Cert.ReferenceLaterMixIdeal.Facts] : Prop :=
  ∀ (m : (ℓ : Loc Cert.KernelLaterMixIdeal.nD Cert.KernelLaterMixIdeal.τ Cert.KernelLaterMixIdeal.sig) → Buf (Elt Ideal) ℓ) (g : Dev Cert.KernelLaterMixIdeal.nD → PrngReg)
    (m' : (ℓ : Loc Cert.ReferenceLaterMixIdeal.nD Cert.ReferenceLaterMixIdeal.τ Cert.ReferenceLaterMixIdeal.sig) → Buf (Elt Ideal) ℓ) (g' : Dev Cert.ReferenceLaterMixIdeal.nD → PrngReg), Pre_KernelLaterMixIdeal m →
    (∀ c : Dev Cert.KernelLaterMixIdeal.nD,
      m' ((c.tc : Thread Cert.ReferenceLaterMixIdeal.nD Cert.ReferenceLaterMixIdeal.τ).loc Cert.ReferenceLaterMixIdeal.main_arg0) = m ((c.tc : Thread Cert.KernelLaterMixIdeal.nD Cert.KernelLaterMixIdeal.τ).loc Cert.KernelLaterMixIdeal.main_arg0)
      ∧ m' ((c.tc : Thread Cert.ReferenceLaterMixIdeal.nD Cert.ReferenceLaterMixIdeal.τ).loc Cert.ReferenceLaterMixIdeal.main_arg1) = m ((c.tc : Thread Cert.KernelLaterMixIdeal.nD Cert.KernelLaterMixIdeal.τ).loc Cert.KernelLaterMixIdeal.main_arg1)
      ∧ m' ((c.tc : Thread Cert.ReferenceLaterMixIdeal.nD Cert.ReferenceLaterMixIdeal.τ).loc Cert.ReferenceLaterMixIdeal.main_arg2) = m ((c.tc : Thread Cert.KernelLaterMixIdeal.nD Cert.KernelLaterMixIdeal.τ).loc Cert.KernelLaterMixIdeal.main_arg2)
      ∧ m' ((c.tc : Thread Cert.ReferenceLaterMixIdeal.nD Cert.ReferenceLaterMixIdeal.τ).loc Cert.ReferenceLaterMixIdeal.main_arg3) = m ((c.tc : Thread Cert.KernelLaterMixIdeal.nD Cert.KernelLaterMixIdeal.τ).loc Cert.KernelLaterMixIdeal.main_arg3)
      ∧ m' ((c.tc : Thread Cert.ReferenceLaterMixIdeal.nD Cert.ReferenceLaterMixIdeal.τ).loc Cert.ReferenceLaterMixIdeal.main_arg4) = m ((c.tc : Thread Cert.KernelLaterMixIdeal.nD Cert.KernelLaterMixIdeal.τ).loc Cert.KernelLaterMixIdeal.main_arg4)) →
    ∃ (v0 : (c : Dev Cert.KernelLaterMixIdeal.nD) → Buf (Elt Ideal) ((c.tc : Thread Cert.KernelLaterMixIdeal.nD Cert.KernelLaterMixIdeal.τ).loc Cert.KernelLaterMixIdeal.main_v3_0)) (v1 : (c : Dev Cert.KernelLaterMixIdeal.nD) → Buf (Elt Ideal) ((c.tc : Thread Cert.KernelLaterMixIdeal.nD Cert.KernelLaterMixIdeal.τ).loc Cert.KernelLaterMixIdeal.main_v3_1)),
      θ_run (Cert.KernelLaterMixIdeal.defs (F := Ideal)) (onTc (τ := Cert.KernelLaterMixIdeal.τ) (Cert.KernelLaterMixIdeal.main (F := Ideal))) ⟨m, fun _ => 0, g⟩ (fun r => ∀ c : Dev Cert.KernelLaterMixIdeal.nD,
          r.2.mem ((c.tc : Thread Cert.KernelLaterMixIdeal.nD Cert.KernelLaterMixIdeal.τ).loc Cert.KernelLaterMixIdeal.main_v3_0) = v0 c
          ∧ r.2.mem ((c.tc : Thread Cert.KernelLaterMixIdeal.nD Cert.KernelLaterMixIdeal.τ).loc Cert.KernelLaterMixIdeal.main_v3_1) = v1 c
          ∧ r.2.mem ((c.tc : Thread Cert.KernelLaterMixIdeal.nD Cert.KernelLaterMixIdeal.τ).loc Cert.KernelLaterMixIdeal.main_arg0) = m ((c.tc : Thread Cert.KernelLaterMixIdeal.nD Cert.KernelLaterMixIdeal.τ).loc Cert.KernelLaterMixIdeal.main_arg0)
          ∧ r.2.mem ((c.tc : Thread Cert.KernelLaterMixIdeal.nD Cert.KernelLaterMixIdeal.τ).loc Cert.KernelLaterMixIdeal.main_arg1) = m ((c.tc : Thread Cert.KernelLaterMixIdeal.nD Cert.KernelLaterMixIdeal.τ).loc Cert.KernelLaterMixIdeal.main_arg1)
          ∧ r.2.mem ((c.tc : Thread Cert.KernelLaterMixIdeal.nD Cert.KernelLaterMixIdeal.τ).loc Cert.KernelLaterMixIdeal.main_arg2) = m ((c.tc : Thread Cert.KernelLaterMixIdeal.nD Cert.KernelLaterMixIdeal.τ).loc Cert.KernelLaterMixIdeal.main_arg2)
          ∧ r.2.mem ((c.tc : Thread Cert.KernelLaterMixIdeal.nD Cert.KernelLaterMixIdeal.τ).loc Cert.KernelLaterMixIdeal.main_arg3) = m ((c.tc : Thread Cert.KernelLaterMixIdeal.nD Cert.KernelLaterMixIdeal.τ).loc Cert.KernelLaterMixIdeal.main_arg3)
          ∧ r.2.mem ((c.tc : Thread Cert.KernelLaterMixIdeal.nD Cert.KernelLaterMixIdeal.τ).loc Cert.KernelLaterMixIdeal.main_arg4) = m ((c.tc : Thread Cert.KernelLaterMixIdeal.nD Cert.KernelLaterMixIdeal.τ).loc Cert.KernelLaterMixIdeal.main_arg4))
      ∧ θ_run (Cert.ReferenceLaterMixIdeal.defs (F := Ideal)) (onTc (τ := Cert.ReferenceLaterMixIdeal.τ) (Cert.ReferenceLaterMixIdeal.main (F := Ideal))) ⟨m', fun _ => 0, g'⟩ (fun r => ∀ c : Dev Cert.ReferenceLaterMixIdeal.nD,
          r.2.mem ((c.tc : Thread Cert.ReferenceLaterMixIdeal.nD Cert.ReferenceLaterMixIdeal.τ).loc Cert.ReferenceLaterMixIdeal.main_v5) = v0 c
          ∧ r.2.mem ((c.tc : Thread Cert.ReferenceLaterMixIdeal.nD Cert.ReferenceLaterMixIdeal.τ).loc Cert.ReferenceLaterMixIdeal.main_v19) = v1 c
          ∧ r.2.mem ((c.tc : Thread Cert.ReferenceLaterMixIdeal.nD Cert.ReferenceLaterMixIdeal.τ).loc Cert.ReferenceLaterMixIdeal.main_arg0) = m' ((c.tc : Thread Cert.ReferenceLaterMixIdeal.nD Cert.ReferenceLaterMixIdeal.τ).loc Cert.ReferenceLaterMixIdeal.main_arg0)
          ∧ r.2.mem ((c.tc : Thread Cert.ReferenceLaterMixIdeal.nD Cert.ReferenceLaterMixIdeal.τ).loc Cert.ReferenceLaterMixIdeal.main_arg1) = m' ((c.tc : Thread Cert.ReferenceLaterMixIdeal.nD Cert.ReferenceLaterMixIdeal.τ).loc Cert.ReferenceLaterMixIdeal.main_arg1)
          ∧ r.2.mem ((c.tc : Thread Cert.ReferenceLaterMixIdeal.nD Cert.ReferenceLaterMixIdeal.τ).loc Cert.ReferenceLaterMixIdeal.main_arg2) = m' ((c.tc : Thread Cert.ReferenceLaterMixIdeal.nD Cert.ReferenceLaterMixIdeal.τ).loc Cert.ReferenceLaterMixIdeal.main_arg2)
          ∧ r.2.mem ((c.tc : Thread Cert.ReferenceLaterMixIdeal.nD Cert.ReferenceLaterMixIdeal.τ).loc Cert.ReferenceLaterMixIdeal.main_arg3) = m' ((c.tc : Thread Cert.ReferenceLaterMixIdeal.nD Cert.ReferenceLaterMixIdeal.τ).loc Cert.ReferenceLaterMixIdeal.main_arg3)
          ∧ r.2.mem ((c.tc : Thread Cert.ReferenceLaterMixIdeal.nD Cert.ReferenceLaterMixIdeal.τ).loc Cert.ReferenceLaterMixIdeal.main_arg4) = m' ((c.tc : Thread Cert.ReferenceLaterMixIdeal.nD Cert.ReferenceLaterMixIdeal.τ).loc Cert.ReferenceLaterMixIdeal.main_arg4))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)) →
    ∃ (v0 : (c : Dev Cert.KernelNormIdeal.nD) → Buf (Elt Ideal) ((c.tc : Thread Cert.KernelNormIdeal.nD Cert.KernelNormIdeal.τ).loc Cert.KernelNormIdeal.main_v3)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v3) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v13) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1))

def preserves_KernelAttn_KernelAttnIdeal : Prop :=
  True

def algebraic_KernelAttnIdeal_ReferenceAttnIdeal_pre_finite [hKernelAttnIdeal : Cert.KernelAttnIdeal.Facts] [hReferenceAttnIdeal : Cert.ReferenceAttnIdeal.Facts] [hPre_finite : Cert.Pre_finite.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg)
    (m' : (ℓ : Loc Cert.ReferenceAttnIdeal.nD Cert.ReferenceAttnIdeal.τ Cert.ReferenceAttnIdeal.sig) → Buf (Elt Ideal) ℓ) (g' : Dev Cert.ReferenceAttnIdeal.nD → PrngReg), Pre_KernelAttnIdeal_finite m →
    (∀ c : Dev Cert.KernelAttnIdeal.nD,
      m' ((c.tc : Thread Cert.ReferenceAttnIdeal.nD Cert.ReferenceAttnIdeal.τ).loc Cert.ReferenceAttnIdeal.main_arg0) = m ((c.tc : Thread Cert.KernelAttnIdeal.nD Cert.KernelAttnIdeal.τ).loc Cert.KernelAttnIdeal.main_arg0)
      ∧ m' ((c.tc : Thread Cert.ReferenceAttnIdeal.nD Cert.ReferenceAttnIdeal.τ).loc Cert.ReferenceAttnIdeal.main_arg1) = m ((c.tc : Thread Cert.KernelAttnIdeal.nD Cert.KernelAttnIdeal.τ).loc Cert.KernelAttnIdeal.main_arg1)
      ∧ m' ((c.tc : Thread Cert.ReferenceAttnIdeal.nD Cert.ReferenceAttnIdeal.τ).loc Cert.ReferenceAttnIdeal.main_arg2) = m ((c.tc : Thread Cert.KernelAttnIdeal.nD Cert.KernelAttnIdeal.τ).loc Cert.KernelAttnIdeal.main_arg2)
      ∧ m' ((c.tc : Thread Cert.ReferenceAttnIdeal.nD Cert.ReferenceAttnIdeal.τ).loc Cert.ReferenceAttnIdeal.main_arg3) = m ((c.tc : Thread Cert.KernelAttnIdeal.nD Cert.KernelAttnIdeal.τ).loc Cert.KernelAttnIdeal.main_arg3)
      ∧ m' ((c.tc : Thread Cert.ReferenceAttnIdeal.nD Cert.ReferenceAttnIdeal.τ).loc Cert.ReferenceAttnIdeal.main_arg4) = m ((c.tc : Thread Cert.KernelAttnIdeal.nD Cert.KernelAttnIdeal.τ).loc Cert.KernelAttnIdeal.main_arg4)) →
    ∃ (v0 : (c : Dev Cert.KernelAttnIdeal.nD) → Buf (Elt Ideal) ((c.tc : Thread Cert.KernelAttnIdeal.nD Cert.KernelAttnIdeal.τ).loc Cert.KernelAttnIdeal.main_v8)),
      θ_run (Cert.KernelAttnIdeal.defs (F := Ideal)) (onTc (τ := Cert.KernelAttnIdeal.τ) (Cert.KernelAttnIdeal.main (F := Ideal))) ⟨m, fun _ => 0, g⟩ (fun r => ∀ c : Dev Cert.KernelAttnIdeal.nD,
          r.2.mem ((c.tc : Thread Cert.KernelAttnIdeal.nD Cert.KernelAttnIdeal.τ).loc Cert.KernelAttnIdeal.main_v8) = v0 c
          ∧ r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
          ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
          ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
          ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3)
          ∧ r.2.mem ((c.tc : Thread Cert.KernelAttnIdeal.nD Cert.KernelAttnIdeal.τ).loc Cert.KernelAttnIdeal.main_arg4) = m ((c.tc : Thread Cert.KernelAttnIdeal.nD Cert.KernelAttnIdeal.τ).loc Cert.KernelAttnIdeal.main_arg4))
      ∧ θ_run (Cert.ReferenceAttnIdeal.defs (F := Ideal)) (onTc (τ := Cert.ReferenceAttnIdeal.τ) (Cert.ReferenceAttnIdeal.main (F := Ideal))) ⟨m', fun _ => 0, g'⟩ (fun r => ∀ c : Dev Cert.ReferenceAttnIdeal.nD,
          r.2.mem ((c.tc : Thread Cert.ReferenceAttnIdeal.nD Cert.ReferenceAttnIdeal.τ).loc Cert.ReferenceAttnIdeal.main_v61) = v0 c
          ∧ r.2.mem ((c.tc : Thread Cert.ReferenceAttnIdeal.nD Cert.ReferenceAttnIdeal.τ).loc Cert.ReferenceAttnIdeal.main_arg0) = m' ((c.tc : Thread Cert.ReferenceAttnIdeal.nD Cert.ReferenceAttnIdeal.τ).loc Cert.ReferenceAttnIdeal.main_arg0)
          ∧ r.2.mem ((c.tc : Thread Cert.ReferenceAttnIdeal.nD Cert.ReferenceAttnIdeal.τ).loc Cert.ReferenceAttnIdeal.main_arg1) = m' ((c.tc : Thread Cert.ReferenceAttnIdeal.nD Cert.ReferenceAttnIdeal.τ).loc Cert.ReferenceAttnIdeal.main_arg1)
          ∧ r.2.mem ((c.tc : Thread Cert.ReferenceAttnIdeal.nD Cert.ReferenceAttnIdeal.τ).loc Cert.ReferenceAttnIdeal.main_arg2) = m' ((c.tc : Thread Cert.ReferenceAttnIdeal.nD Cert.ReferenceAttnIdeal.τ).loc Cert.ReferenceAttnIdeal.main_arg2)
          ∧ r.2.mem ((c.tc : Thread Cert.ReferenceAttnIdeal.nD Cert.ReferenceAttnIdeal.τ).loc Cert.ReferenceAttnIdeal.main_arg3) = m' ((c.tc : Thread Cert.ReferenceAttnIdeal.nD Cert.ReferenceAttnIdeal.τ).loc Cert.ReferenceAttnIdeal.main_arg3)
          ∧ r.2.mem ((c.tc : Thread Cert.ReferenceAttnIdeal.nD Cert.ReferenceAttnIdeal.τ).loc Cert.ReferenceAttnIdeal.main_arg4) = m' ((c.tc : Thread Cert.ReferenceAttnIdeal.nD Cert.ReferenceAttnIdeal.τ).loc Cert.ReferenceAttnIdeal.main_arg4))

def preserves_KernelSsd_KernelSsdIdeal : Prop :=
  True

def algebraic_KernelSsdIdeal_ReferenceSsdIdeal_pre_finite_ssd [hKernelSsdIdeal : Cert.KernelSsdIdeal.Facts] [hReferenceSsdIdeal : Cert.ReferenceSsdIdeal.Facts] [hPre_finite_ssd : Cert.Pre_finite_ssd.Facts] : Prop :=
  ∀ (m : (ℓ : Loc Cert.KernelSsdIdeal.nD Cert.KernelSsdIdeal.τ Cert.KernelSsdIdeal.sig) → Buf (Elt Ideal) ℓ) (g : Dev Cert.KernelSsdIdeal.nD → PrngReg)
    (m' : (ℓ : Loc Cert.ReferenceSsdIdeal.nD Cert.ReferenceSsdIdeal.τ Cert.ReferenceSsdIdeal.sig) → Buf (Elt Ideal) ℓ) (g' : Dev Cert.ReferenceSsdIdeal.nD → PrngReg), Pre_KernelSsdIdeal_finite_ssd m →
    (∀ c : Dev Cert.KernelSsdIdeal.nD,
      m' ((c.tc : Thread Cert.ReferenceSsdIdeal.nD Cert.ReferenceSsdIdeal.τ).loc Cert.ReferenceSsdIdeal.main_arg0) = m ((c.tc : Thread Cert.KernelSsdIdeal.nD Cert.KernelSsdIdeal.τ).loc Cert.KernelSsdIdeal.main_arg0)
      ∧ m' ((c.tc : Thread Cert.ReferenceSsdIdeal.nD Cert.ReferenceSsdIdeal.τ).loc Cert.ReferenceSsdIdeal.main_arg1) = m ((c.tc : Thread Cert.KernelSsdIdeal.nD Cert.KernelSsdIdeal.τ).loc Cert.KernelSsdIdeal.main_arg1)
      ∧ m' ((c.tc : Thread Cert.ReferenceSsdIdeal.nD Cert.ReferenceSsdIdeal.τ).loc Cert.ReferenceSsdIdeal.main_arg2) = m ((c.tc : Thread Cert.KernelSsdIdeal.nD Cert.KernelSsdIdeal.τ).loc Cert.KernelSsdIdeal.main_arg2)
      ∧ m' ((c.tc : Thread Cert.ReferenceSsdIdeal.nD Cert.ReferenceSsdIdeal.τ).loc Cert.ReferenceSsdIdeal.main_arg3) = m ((c.tc : Thread Cert.KernelSsdIdeal.nD Cert.KernelSsdIdeal.τ).loc Cert.KernelSsdIdeal.main_arg3)
      ∧ m' ((c.tc : Thread Cert.ReferenceSsdIdeal.nD Cert.ReferenceSsdIdeal.τ).loc Cert.ReferenceSsdIdeal.main_arg4) = m ((c.tc : Thread Cert.KernelSsdIdeal.nD Cert.KernelSsdIdeal.τ).loc Cert.KernelSsdIdeal.main_arg4)
      ∧ m' ((c.tc : Thread Cert.ReferenceSsdIdeal.nD Cert.ReferenceSsdIdeal.τ).loc Cert.ReferenceSsdIdeal.main_arg5) = m ((c.tc : Thread Cert.KernelSsdIdeal.nD Cert.KernelSsdIdeal.τ).loc Cert.KernelSsdIdeal.main_arg5)
      ∧ m' ((c.tc : Thread Cert.ReferenceSsdIdeal.nD Cert.ReferenceSsdIdeal.τ).loc Cert.ReferenceSsdIdeal.main_arg6) = m ((c.tc : Thread Cert.KernelSsdIdeal.nD Cert.KernelSsdIdeal.τ).loc Cert.KernelSsdIdeal.main_arg6)
      ∧ m' ((c.tc : Thread Cert.ReferenceSsdIdeal.nD Cert.ReferenceSsdIdeal.τ).loc Cert.ReferenceSsdIdeal.main_arg7) = m ((c.tc : Thread Cert.KernelSsdIdeal.nD Cert.KernelSsdIdeal.τ).loc Cert.KernelSsdIdeal.main_arg7)) →
    ∃ (v0 : (c : Dev Cert.KernelSsdIdeal.nD) → Buf (Elt Ideal) ((c.tc : Thread Cert.KernelSsdIdeal.nD Cert.KernelSsdIdeal.τ).loc Cert.KernelSsdIdeal.main_v18)),
      θ_run (Cert.KernelSsdIdeal.defs (F := Ideal)) (onTc (τ := Cert.KernelSsdIdeal.τ) (Cert.KernelSsdIdeal.main (F := Ideal))) ⟨m, fun _ => 0, g⟩ (fun r => ∀ c : Dev Cert.KernelSsdIdeal.nD,
          r.2.mem ((c.tc : Thread Cert.KernelSsdIdeal.nD Cert.KernelSsdIdeal.τ).loc Cert.KernelSsdIdeal.main_v18) = v0 c
          ∧ r.2.mem ((c.tc : Thread Cert.KernelSsdIdeal.nD Cert.KernelSsdIdeal.τ).loc Cert.KernelSsdIdeal.main_arg0) = m ((c.tc : Thread Cert.KernelSsdIdeal.nD Cert.KernelSsdIdeal.τ).loc Cert.KernelSsdIdeal.main_arg0)
          ∧ r.2.mem ((c.tc : Thread Cert.KernelSsdIdeal.nD Cert.KernelSsdIdeal.τ).loc Cert.KernelSsdIdeal.main_arg1) = m ((c.tc : Thread Cert.KernelSsdIdeal.nD Cert.KernelSsdIdeal.τ).loc Cert.KernelSsdIdeal.main_arg1)
          ∧ r.2.mem ((c.tc : Thread Cert.KernelSsdIdeal.nD Cert.KernelSsdIdeal.τ).loc Cert.KernelSsdIdeal.main_arg2) = m ((c.tc : Thread Cert.KernelSsdIdeal.nD Cert.KernelSsdIdeal.τ).loc Cert.KernelSsdIdeal.main_arg2)
          ∧ r.2.mem ((c.tc : Thread Cert.KernelSsdIdeal.nD Cert.KernelSsdIdeal.τ).loc Cert.KernelSsdIdeal.main_arg3) = m ((c.tc : Thread Cert.KernelSsdIdeal.nD Cert.KernelSsdIdeal.τ).loc Cert.KernelSsdIdeal.main_arg3)
          ∧ r.2.mem ((c.tc : Thread Cert.KernelSsdIdeal.nD Cert.KernelSsdIdeal.τ).loc Cert.KernelSsdIdeal.main_arg4) = m ((c.tc : Thread Cert.KernelSsdIdeal.nD Cert.KernelSsdIdeal.τ).loc Cert.KernelSsdIdeal.main_arg4)
          ∧ r.2.mem ((c.tc : Thread Cert.KernelSsdIdeal.nD Cert.KernelSsdIdeal.τ).loc Cert.KernelSsdIdeal.main_arg5) = m ((c.tc : Thread Cert.KernelSsdIdeal.nD Cert.KernelSsdIdeal.τ).loc Cert.KernelSsdIdeal.main_arg5)
          ∧ r.2.mem ((c.tc : Thread Cert.KernelSsdIdeal.nD Cert.KernelSsdIdeal.τ).loc Cert.KernelSsdIdeal.main_arg6) = m ((c.tc : Thread Cert.KernelSsdIdeal.nD Cert.KernelSsdIdeal.τ).loc Cert.KernelSsdIdeal.main_arg6)
          ∧ r.2.mem ((c.tc : Thread Cert.KernelSsdIdeal.nD Cert.KernelSsdIdeal.τ).loc Cert.KernelSsdIdeal.main_arg7) = m ((c.tc : Thread Cert.KernelSsdIdeal.nD Cert.KernelSsdIdeal.τ).loc Cert.KernelSsdIdeal.main_arg7))
      ∧ θ_run (Cert.ReferenceSsdIdeal.defs (F := Ideal)) (onTc (τ := Cert.ReferenceSsdIdeal.τ) (Cert.ReferenceSsdIdeal.main (F := Ideal))) ⟨m', fun _ => 0, g'⟩ (fun r => ∀ c : Dev Cert.ReferenceSsdIdeal.nD,
          r.2.mem ((c.tc : Thread Cert.ReferenceSsdIdeal.nD Cert.ReferenceSsdIdeal.τ).loc Cert.ReferenceSsdIdeal.main_v115) = v0 c
          ∧ r.2.mem ((c.tc : Thread Cert.ReferenceSsdIdeal.nD Cert.ReferenceSsdIdeal.τ).loc Cert.ReferenceSsdIdeal.main_arg0) = m' ((c.tc : Thread Cert.ReferenceSsdIdeal.nD Cert.ReferenceSsdIdeal.τ).loc Cert.ReferenceSsdIdeal.main_arg0)
          ∧ r.2.mem ((c.tc : Thread Cert.ReferenceSsdIdeal.nD Cert.ReferenceSsdIdeal.τ).loc Cert.ReferenceSsdIdeal.main_arg1) = m' ((c.tc : Thread Cert.ReferenceSsdIdeal.nD Cert.ReferenceSsdIdeal.τ).loc Cert.ReferenceSsdIdeal.main_arg1)
          ∧ r.2.mem ((c.tc : Thread Cert.ReferenceSsdIdeal.nD Cert.ReferenceSsdIdeal.τ).loc Cert.ReferenceSsdIdeal.main_arg2) = m' ((c.tc : Thread Cert.ReferenceSsdIdeal.nD Cert.ReferenceSsdIdeal.τ).loc Cert.ReferenceSsdIdeal.main_arg2)
          ∧ r.2.mem ((c.tc : Thread Cert.ReferenceSsdIdeal.nD Cert.ReferenceSsdIdeal.τ).loc Cert.ReferenceSsdIdeal.main_arg3) = m' ((c.tc : Thread Cert.ReferenceSsdIdeal.nD Cert.ReferenceSsdIdeal.τ).loc Cert.ReferenceSsdIdeal.main_arg3)
          ∧ r.2.mem ((c.tc : Thread Cert.ReferenceSsdIdeal.nD Cert.ReferenceSsdIdeal.τ).loc Cert.ReferenceSsdIdeal.main_arg4) = m' ((c.tc : Thread Cert.ReferenceSsdIdeal.nD Cert.ReferenceSsdIdeal.τ).loc Cert.ReferenceSsdIdeal.main_arg4)
          ∧ r.2.mem ((c.tc : Thread Cert.ReferenceSsdIdeal.nD Cert.ReferenceSsdIdeal.τ).loc Cert.ReferenceSsdIdeal.main_arg5) = m' ((c.tc : Thread Cert.ReferenceSsdIdeal.nD Cert.ReferenceSsdIdeal.τ).loc Cert.ReferenceSsdIdeal.main_arg5)
          ∧ r.2.mem ((c.tc : Thread Cert.ReferenceSsdIdeal.nD Cert.ReferenceSsdIdeal.τ).loc Cert.ReferenceSsdIdeal.main_arg6) = m' ((c.tc : Thread Cert.ReferenceSsdIdeal.nD Cert.ReferenceSsdIdeal.τ).loc Cert.ReferenceSsdIdeal.main_arg6)
          ∧ r.2.mem ((c.tc : Thread Cert.ReferenceSsdIdeal.nD Cert.ReferenceSsdIdeal.τ).loc Cert.ReferenceSsdIdeal.main_arg7) = m' ((c.tc : Thread Cert.ReferenceSsdIdeal.nD Cert.ReferenceSsdIdeal.τ).loc Cert.ReferenceSsdIdeal.main_arg7))

def Claim : Prop :=
  ∃ (hKernel : Cert.Kernel.Facts) (hKernelIdeal : Cert.KernelIdeal.Facts) (hReferenceIdeal : Cert.ReferenceIdeal.Facts) (hKernelFirst : Cert.KernelFirst.Facts) (hKernelFirstIdeal : Cert.KernelFirstIdeal.Facts) (hReferenceFirstIdeal : Cert.ReferenceFirstIdeal.Facts) (hKernelSsm : Cert.KernelSsm.Facts) (hKernelSsmIdeal : Cert.KernelSsmIdeal.Facts) (hReferenceSsmIdeal : Cert.ReferenceSsmIdeal.Facts) (hKernelSmall : Cert.KernelSmall.Facts) (hKernelSmallIdeal : Cert.KernelSmallIdeal.Facts) (hReferenceSmallIdeal : Cert.ReferenceSmallIdeal.Facts) (hKernelGla : Cert.KernelGla.Facts) (hKernelGlaIdeal : Cert.KernelGlaIdeal.Facts) (hReferenceGlaIdeal : Cert.ReferenceGlaIdeal.Facts) (hKernelDecay : Cert.KernelDecay.Facts) (hKernelDecayIdeal : Cert.KernelDecayIdeal.Facts) (hReferenceDecayIdeal : Cert.ReferenceDecayIdeal.Facts) (hKernelOut : Cert.KernelOut.Facts) (hKernelOutIdeal : Cert.KernelOutIdeal.Facts) (hReferenceOutIdeal : Cert.ReferenceOutIdeal.Facts) (hKernelMix : Cert.KernelMix.Facts) (hKernelMixIdeal : Cert.KernelMixIdeal.Facts) (hReferenceMixIdeal : Cert.ReferenceMixIdeal.Facts) (hKernelOdd : Cert.KernelOdd.Facts) (hKernelOddIdeal : Cert.KernelOddIdeal.Facts) (hReferenceOddIdeal : Cert.ReferenceOddIdeal.Facts) (hKernelLaterSsm : Cert.KernelLaterSsm.Facts) (hKernelLaterSsmIdeal : Cert.KernelLaterSsmIdeal.Facts) (hReferenceLaterSsmIdeal : Cert.ReferenceLaterSsmIdeal.Facts) (hKernelLaterSmall : Cert.KernelLaterSmall.Facts) (hKernelLaterSmallIdeal : Cert.KernelLaterSmallIdeal.Facts) (hReferenceLaterSmallIdeal : Cert.ReferenceLaterSmallIdeal.Facts) (hKernelLaterGla : Cert.KernelLaterGla.Facts) (hKernelLaterGlaIdeal : Cert.KernelLaterGlaIdeal.Facts) (hReferenceLaterGlaIdeal : Cert.ReferenceLaterGlaIdeal.Facts) (hKernelLaterDecay : Cert.KernelLaterDecay.Facts) (hKernelLaterDecayIdeal : Cert.KernelLaterDecayIdeal.Facts) (hReferenceLaterDecayIdeal : Cert.ReferenceLaterDecayIdeal.Facts) (hKernelLaterMix : Cert.KernelLaterMix.Facts) (hKernelLaterMixIdeal : Cert.KernelLaterMixIdeal.Facts) (hReferenceLaterMixIdeal : Cert.ReferenceLaterMixIdeal.Facts) (hKernelNorm : Cert.KernelNorm.Facts) (hKernelNormIdeal : Cert.KernelNormIdeal.Facts) (hReferenceNormIdeal : Cert.ReferenceNormIdeal.Facts) (hKernelAttn : Cert.KernelAttn.Facts) (hKernelAttnIdeal : Cert.KernelAttnIdeal.Facts) (hReferenceAttnIdeal : Cert.ReferenceAttnIdeal.Facts) (hKernelSsd : Cert.KernelSsd.Facts) (hKernelSsdIdeal : Cert.KernelSsdIdeal.Facts) (hReferenceSsdIdeal : Cert.ReferenceSsdIdeal.Facts) (hPre_finite : Cert.Pre_finite.Facts) (hPre_finite_ssd : Cert.Pre_finite_ssd.Facts),
    quiescent_Kernel (hKernel := hKernel)
    ∧ quiescent_KernelIdeal (hKernelIdeal := hKernelIdeal)
    ∧ quiescent_ReferenceIdeal (hReferenceIdeal := hReferenceIdeal)
    ∧ quiescent_KernelFirst (hKernelFirst := hKernelFirst)
    ∧ quiescent_KernelFirstIdeal (hKernelFirstIdeal := hKernelFirstIdeal)
    ∧ quiescent_ReferenceFirstIdeal (hReferenceFirstIdeal := hReferenceFirstIdeal)
    ∧ quiescent_KernelSsm (hKernelSsm := hKernelSsm)
    ∧ quiescent_KernelSsmIdeal (hKernelSsmIdeal := hKernelSsmIdeal)
    ∧ quiescent_ReferenceSsmIdeal (hReferenceSsmIdeal := hReferenceSsmIdeal)
    ∧ quiescent_KernelSmall (hKernelSmall := hKernelSmall)
    ∧ quiescent_KernelSmallIdeal (hKernelSmallIdeal := hKernelSmallIdeal)
    ∧ quiescent_ReferenceSmallIdeal (hReferenceSmallIdeal := hReferenceSmallIdeal)
    ∧ quiescent_KernelGla (hKernelGla := hKernelGla)
    ∧ quiescent_KernelGlaIdeal (hKernelGlaIdeal := hKernelGlaIdeal)
    ∧ quiescent_ReferenceGlaIdeal (hReferenceGlaIdeal := hReferenceGlaIdeal)
    ∧ quiescent_KernelDecay (hKernelDecay := hKernelDecay)
    ∧ quiescent_KernelDecayIdeal (hKernelDecayIdeal := hKernelDecayIdeal)
    ∧ quiescent_ReferenceDecayIdeal (hReferenceDecayIdeal := hReferenceDecayIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelOdd (hKernelOdd := hKernelOdd)
    ∧ quiescent_KernelOddIdeal (hKernelOddIdeal := hKernelOddIdeal)
    ∧ quiescent_ReferenceOddIdeal (hReferenceOddIdeal := hReferenceOddIdeal)
    ∧ quiescent_KernelLaterSsm (hKernelLaterSsm := hKernelLaterSsm)
    ∧ quiescent_KernelLaterSsmIdeal (hKernelLaterSsmIdeal := hKernelLaterSsmIdeal)
    ∧ quiescent_ReferenceLaterSsmIdeal (hReferenceLaterSsmIdeal := hReferenceLaterSsmIdeal)
    ∧ quiescent_KernelLaterSmall (hKernelLaterSmall := hKernelLaterSmall)
    ∧ quiescent_KernelLaterSmallIdeal (hKernelLaterSmallIdeal := hKernelLaterSmallIdeal)
    ∧ quiescent_ReferenceLaterSmallIdeal (hReferenceLaterSmallIdeal := hReferenceLaterSmallIdeal)
    ∧ quiescent_KernelLaterGla (hKernelLaterGla := hKernelLaterGla)
    ∧ quiescent_KernelLaterGlaIdeal (hKernelLaterGlaIdeal := hKernelLaterGlaIdeal)
    ∧ quiescent_ReferenceLaterGlaIdeal (hReferenceLaterGlaIdeal := hReferenceLaterGlaIdeal)
    ∧ quiescent_KernelLaterDecay (hKernelLaterDecay := hKernelLaterDecay)
    ∧ quiescent_KernelLaterDecayIdeal (hKernelLaterDecayIdeal := hKernelLaterDecayIdeal)
    ∧ quiescent_ReferenceLaterDecayIdeal (hReferenceLaterDecayIdeal := hReferenceLaterDecayIdeal)
    ∧ quiescent_KernelLaterMix (hKernelLaterMix := hKernelLaterMix)
    ∧ quiescent_KernelLaterMixIdeal (hKernelLaterMixIdeal := hKernelLaterMixIdeal)
    ∧ quiescent_ReferenceLaterMixIdeal (hReferenceLaterMixIdeal := hReferenceLaterMixIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelAttn (hKernelAttn := hKernelAttn)
    ∧ quiescent_KernelAttnIdeal (hKernelAttnIdeal := hKernelAttnIdeal)
    ∧ quiescent_KernelAttnIdeal_pre_finite (hKernelAttnIdeal := hKernelAttnIdeal) (hPre_finite := hPre_finite)
    ∧ quiescent_ReferenceAttnIdeal (hReferenceAttnIdeal := hReferenceAttnIdeal)
    ∧ quiescent_ReferenceAttnIdeal_pre_finite (hReferenceAttnIdeal := hReferenceAttnIdeal) (hPre_finite := hPre_finite)
    ∧ quiescent_KernelSsd (hKernelSsd := hKernelSsd)
    ∧ quiescent_KernelSsdIdeal (hKernelSsdIdeal := hKernelSsdIdeal)
    ∧ quiescent_KernelSsdIdeal_pre_finite_ssd (hKernelSsdIdeal := hKernelSsdIdeal) (hPre_finite_ssd := hPre_finite_ssd)
    ∧ quiescent_ReferenceSsdIdeal (hReferenceSsdIdeal := hReferenceSsdIdeal)
    ∧ quiescent_ReferenceSsdIdeal_pre_finite_ssd (hReferenceSsdIdeal := hReferenceSsdIdeal) (hPre_finite_ssd := hPre_finite_ssd)
    ∧ preserves_Kernel_KernelIdeal
    ∧ algebraic_KernelIdeal_ReferenceIdeal (hKernelIdeal := hKernelIdeal) (hReferenceIdeal := hReferenceIdeal)
    ∧ preserves_KernelFirst_KernelFirstIdeal
    ∧ algebraic_KernelFirstIdeal_ReferenceFirstIdeal (hKernelFirstIdeal := hKernelFirstIdeal) (hReferenceFirstIdeal := hReferenceFirstIdeal)
    ∧ preserves_KernelSsm_KernelSsmIdeal
    ∧ algebraic_KernelSsmIdeal_ReferenceSsmIdeal (hKernelSsmIdeal := hKernelSsmIdeal) (hReferenceSsmIdeal := hReferenceSsmIdeal)
    ∧ preserves_KernelSmall_KernelSmallIdeal
    ∧ algebraic_KernelSmallIdeal_ReferenceSmallIdeal (hKernelSmallIdeal := hKernelSmallIdeal) (hReferenceSmallIdeal := hReferenceSmallIdeal)
    ∧ preserves_KernelGla_KernelGlaIdeal
    ∧ algebraic_KernelGlaIdeal_ReferenceGlaIdeal (hKernelGlaIdeal := hKernelGlaIdeal) (hReferenceGlaIdeal := hReferenceGlaIdeal)
    ∧ preserves_KernelDecay_KernelDecayIdeal
    ∧ algebraic_KernelDecayIdeal_ReferenceDecayIdeal (hKernelDecayIdeal := hKernelDecayIdeal) (hReferenceDecayIdeal := hReferenceDecayIdeal)
    ∧ preserves_KernelOut_KernelOutIdeal
    ∧ algebraic_KernelOutIdeal_ReferenceOutIdeal (hKernelOutIdeal := hKernelOutIdeal) (hReferenceOutIdeal := hReferenceOutIdeal)
    ∧ preserves_KernelMix_KernelMixIdeal
    ∧ algebraic_KernelMixIdeal_ReferenceMixIdeal (hKernelMixIdeal := hKernelMixIdeal) (hReferenceMixIdeal := hReferenceMixIdeal)
    ∧ preserves_KernelOdd_KernelOddIdeal
    ∧ algebraic_KernelOddIdeal_ReferenceOddIdeal (hKernelOddIdeal := hKernelOddIdeal) (hReferenceOddIdeal := hReferenceOddIdeal)
    ∧ preserves_KernelLaterSsm_KernelLaterSsmIdeal
    ∧ algebraic_KernelLaterSsmIdeal_ReferenceLaterSsmIdeal (hKernelLaterSsmIdeal := hKernelLaterSsmIdeal) (hReferenceLaterSsmIdeal := hReferenceLaterSsmIdeal)
    ∧ preserves_KernelLaterSmall_KernelLaterSmallIdeal
    ∧ algebraic_KernelLaterSmallIdeal_ReferenceLaterSmallIdeal (hKernelLaterSmallIdeal := hKernelLaterSmallIdeal) (hReferenceLaterSmallIdeal := hReferenceLaterSmallIdeal)
    ∧ preserves_KernelLaterGla_KernelLaterGlaIdeal
    ∧ algebraic_KernelLaterGlaIdeal_ReferenceLaterGlaIdeal (hKernelLaterGlaIdeal := hKernelLaterGlaIdeal) (hReferenceLaterGlaIdeal := hReferenceLaterGlaIdeal)
    ∧ preserves_KernelLaterDecay_KernelLaterDecayIdeal
    ∧ algebraic_KernelLaterDecayIdeal_ReferenceLaterDecayIdeal (hKernelLaterDecayIdeal := hKernelLaterDecayIdeal) (hReferenceLaterDecayIdeal := hReferenceLaterDecayIdeal)
    ∧ preserves_KernelLaterMix_KernelLaterMixIdeal
    ∧ algebraic_KernelLaterMixIdeal_ReferenceLaterMixIdeal (hKernelLaterMixIdeal := hKernelLaterMixIdeal) (hReferenceLaterMixIdeal := hReferenceLaterMixIdeal)
    ∧ preserves_KernelNorm_KernelNormIdeal
    ∧ algebraic_KernelNormIdeal_ReferenceNormIdeal (hKernelNormIdeal := hKernelNormIdeal) (hReferenceNormIdeal := hReferenceNormIdeal)
    ∧ preserves_KernelAttn_KernelAttnIdeal
    ∧ algebraic_KernelAttnIdeal_ReferenceAttnIdeal_pre_finite (hKernelAttnIdeal := hKernelAttnIdeal) (hReferenceAttnIdeal := hReferenceAttnIdeal) (hPre_finite := hPre_finite)
    ∧ preserves_KernelSsd_KernelSsdIdeal
    ∧ algebraic_KernelSsdIdeal_ReferenceSsdIdeal_pre_finite_ssd (hKernelSsdIdeal := hKernelSsdIdeal) (hReferenceSsdIdeal := hReferenceSsdIdeal) (hPre_finite_ssd := hPre_finite_ssd)
-- ==== Pre_finite.lean ====
abbrev S8192x6144 : Shape := ⟨2, ![8192, 6144]⟩
abbrev S8192x128 : Shape := ⟨2, ![8192, 128]⟩
abbrev S16x1024 : Shape := ⟨2, ![16, 1024]⟩
abbrev S1024 : Shape := ⟨1, ![1024]⟩
abbrev S512 : Shape := ⟨1, ![512]⟩
abbrev S_ : Shape := ⟨0, ![]⟩
abbrev S1 : Shape := ⟨1, ![1]⟩
abbrev S5 : Shape := ⟨1, ![5]⟩

class Facts : Prop where
  bcast_S_S8192x6144 : S_.BroadcastsInDim S8192x6144 (![] : Fin 0 → Fin S8192x6144.rank)
  reducesTo_S8192x6144_S_d0_1 : S8192x6144.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S16x1024 : S_.BroadcastsInDim S16x1024 (![] : Fin 0 → Fin S16x1024.rank)
  reducesTo_S16x1024_S_d0_1 : S16x1024.ReducesTo [0, 1] S_
  bcast_S_S1024 : S_.BroadcastsInDim S1024 (![] : Fin 0 → Fin S1024.rank)
  reducesTo_S1024_S_d0 : S1024.ReducesTo [0] S_
  bcast_S_S512 : S_.BroadcastsInDim S512 (![] : Fin 0 → Fin S512.rank)
  reducesTo_S512_S_d0 : S512.ReducesTo [0] S_
  bcast_S_S1 : S_.BroadcastsInDim S1 (![] : Fin 0 → Fin S1.rank)
  concatenates_S1_S1_S1_S1_S1_S5_d0 : Shape.Concatenates [S1, S1, S1, S1, S1] S5 0

variable [Facts]

def fn_part1 {F : FTy → Type} [FloatOps F] (main_arg4 : FVec F S512 .f32) (main_v3 : IVec S_ 1) (main_v7 : IVec S_ 1) (main_v11 : IVec S_ 1) (main_v15 : IVec S_ 1) : IVec S5 1 :=
  let main_v16 : FVec F S512 .f32 := Host.absf main_arg4
  let main_cst_6 : FVec F S_ .f32 := constant S_ .f32 0x7F800000#32
  let main_v17 : FVec F S512 .f32 := broadcastInDim S512 ![] bcast_S_S512 main_cst_6
  let main_v18 : IVec S512 1 := cmpf .olt main_v16 main_v17
  let main_c_7 : IVec S_ 1 := constantI S_ 1 1#1
  let main_v19 : IVec S_ 1 := (fun x v => Host.reduce IntOp.andi x v reducesTo_S512_S_d0 h_S_) main_v18 main_c_7
  let main_v20 : IVec S1 1 := broadcastInDim S1 ![] bcast_S_S1 main_v3
  let main_v21 : IVec S1 1 := broadcastInDim S1 ![] bcast_S_S1 main_v7
  let main_v22 : IVec S1 1 := broadcastInDim S1 ![] bcast_S_S1 main_v11
  let main_v23 : IVec S1 1 := broadcastInDim S1 ![] bcast_S_S1 main_v15
  let main_v24 : IVec S1 1 := broadcastInDim S1 ![] bcast_S_S1 main_v19
  let main_v25 : IVec S5 1 := concatenate S5 0 [⟨S1, main_v20⟩, ⟨S1, main_v21⟩, ⟨S1, main_v22⟩, ⟨S1, main_v23⟩, ⟨S1, main_v24⟩] concatenates_S1_S1_S1_S1_S1_S5_d0
  main_v25

def fn {F : FTy → Type} [FloatOps F] (main_arg0 : FVec F S8192x6144 .f32) (main_arg1 : FVec F S8192x128 .f32) (main_arg2 : FVec F S16x1024 .f32) (main_arg3 : FVec F S1024 .f32) (main_arg4 : FVec F S512 .f32) : IVec S5 1 :=
  let main_v0 : FVec F S8192x6144 .f32 := Host.absf main_arg0
  let main_cst : FVec F S_ .f32 := constant S_ .f32 0x7F800000#32
  let main_v1 : FVec F S8192x6144 .f32 := broadcastInDim S8192x6144 ![] bcast_S_S8192x6144 main_cst
  let main_v2 : IVec S8192x6144 1 := cmpf .olt main_v0 main_v1
  let main_c : IVec S_ 1 := constantI S_ 1 1#1
  let main_v3 : IVec S_ 1 := (fun x v => Host.reduce IntOp.andi x v reducesTo_S8192x6144_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : FVec F S16x1024 .f32 := Host.absf main_arg2
  let main_cst_2 : FVec F S_ .f32 := constant S_ .f32 0x7F800000#32
  let main_v9 : FVec F S16x1024 .f32 := broadcastInDim S16x1024 ![] bcast_S_S16x1024 main_cst_2
  let main_v10 : IVec S16x1024 1 := cmpf .olt main_v8 main_v9
  let main_c_3 : IVec S_ 1 := constantI S_ 1 1#1
  let main_v11 : IVec S_ 1 := (fun x v => Host.reduce IntOp.andi x v reducesTo_S16x1024_S_d0_1 h_S_) main_v10 main_c_3
  let main_v12 : FVec F S1024 .f32 := Host.absf main_arg3
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_arg4 main_v3 main_v7 main_v11 main_v15
-- ==== Pre_finite_ssd.lean ====
abbrev S8192x5120 : Shape := ⟨2, ![8192, 5120]⟩
abbrev S8192x512 : Shape := ⟨2, ![8192, 512]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S_ : Shape := ⟨0, ![]⟩
abbrev S1 : Shape := ⟨1, ![1]⟩
abbrev S8 : Shape := ⟨1, ![8]⟩

class Facts : Prop where
  bcast_S_S8192x5120 : S_.BroadcastsInDim S8192x5120 (![] : Fin 0 → Fin S8192x5120.rank)
  reducesTo_S8192x5120_S_d0_1 : S8192x5120.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S4x3072 : S_.BroadcastsInDim S4x3072 (![] : Fin 0 → Fin S4x3072.rank)
  reducesTo_S4x3072_S_d0_1 : S4x3072.ReducesTo [0, 1] S_
  bcast_S_S3072 : S_.BroadcastsInDim S3072 (![] : Fin 0 → Fin S3072.rank)
  reducesTo_S3072_S_d0 : S3072.ReducesTo [0] S_
  bcast_S_S32 : S_.BroadcastsInDim S32 (![] : Fin 0 → Fin S32.rank)
  reducesTo_S32_S_d0 : S32.ReducesTo [0] S_
  bcast_S_S2048 : S_.BroadcastsInDim S2048 (![] : Fin 0 → Fin S2048.rank)
  reducesTo_S2048_S_d0 : S2048.ReducesTo [0] S_
  bcast_S_S1 : S_.BroadcastsInDim S1 (![] : Fin 0 → Fin S1.rank)
  concatenates_S1_S1_S1_S1_S1_S1_S1_S1_S8_d0 : Shape.Concatenates [S1, S1, S1, S1, S1, S1, S1, S1] S8 0

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S8 1 :=
  let main_v32 : IVec S1 1 := broadcastInDim S1 ![] bcast_S_S1 main_v3
  let main_v33 : IVec S1 1 := broadcastInDim S1 ![] bcast_S_S1 main_v7
  let main_v34 : IVec S1 1 := broadcastInDim S1 ![] bcast_S_S1 main_v11
  let main_v35 : IVec S1 1 := broadcastInDim S1 ![] bcast_S_S1 main_v15
  let main_v36 : IVec S1 1 := broadcastInDim S1 ![] bcast_S_S1 main_v19
  let main_v37 : IVec S1 1 := broadcastInDim S1 ![] bcast_S_S1 main_v23
  let main_v38 : IVec S1 1 := broadcastInDim S1 ![] bcast_S_S1 main_v27
  let main_v39 : IVec S1 1 := broadcastInDim S1 ![] bcast_S_S1 main_v31
  let main_v40 : IVec S8 1 := concatenate S8 0 [⟨S1, main_v32⟩, ⟨S1, main_v33⟩, ⟨S1, main_v34⟩, ⟨S1, main_v35⟩, ⟨S1, main_v36⟩, ⟨S1, main_v37⟩, ⟨S1, main_v38⟩, ⟨S1, main_v39⟩] concatenates_S1_S1_S1_S1_S1_S1_S1_S1_S8_d0
  main_v40

def fn_part1 {F : FTy → Type} [FloatOps F] (main_arg4 : FVec F S32 .f32) (main_arg5 : FVec F S32 .f32) (main_arg6 : FVec F S32 .f32) (main_arg7 : FVec F S2048 .f32) (main_v3 : IVec S_ 1) (main_v7 : IVec S_ 1) (main_v11 : IVec S_ 1) (main_v15 : IVec S_ 1) : IVec S8 1 :=
  let main_v16 : FVec F S32 .f32 := Host.absf main_arg4
  let main_cst_6 : FVec F S_ .f32 := constant S_ .f32 0x7F800000#32
  let main_v17 : FVec F S32 .f32 := broadcastInDim S32 ![] bcast_S_S32 main_cst_6
  let main_v18 : IVec S32 1 := cmpf .olt main_v16 main_v17
  let main_c_7 : IVec S_ 1 := constantI S_ 1 1#1
  let main_v19 : IVec S_ 1 := (fun x v => Host.reduce IntOp.andi x v reducesTo_S32_S_d0 h_S_) main_v18 main_c_7
  let main_v20 : FVec F S32 .f32 := Host.absf main_arg5
  let main_cst_8 : FVec F S_ .f32 := constant S_ .f32 0x7F800000#32
  let main_v21 : FVec F S32 .f32 := broadcastInDim S32 ![] bcast_S_S32 main_cst_8
  let main_v22 : IVec S32 1 := cmpf .olt main_v20 main_v21
  let main_c_9 : IVec S_ 1 := constantI S_ 1 1#1
  let main_v23 : IVec S_ 1 := (fun x v => Host.reduce IntOp.andi x v reducesTo_S32_S_d0 h_S_) main_v22 main_c_9
  let main_v24 : FVec F S32 .f32 := Host.absf main_arg6
  let main_cst_10 : FVec F S_ .f32 := constant S_ .f32 0x7F800000#32
  let main_v25 : FVec F S32 .f32 := broadcastInDim S32 ![] bcast_S_S32 main_cst_10
  let main_v26 : IVec S32 1 := cmpf .olt main_v24 main_v25
  let main_c_11 : IVec S_ 1 := constantI S_ 1 1#1
  let main_v27 : IVec S_ 1 := (fun x v => Host.reduce IntOp.andi x v reducesTo_S32_S_d0 h_S_) main_v26 main_c_11
  let main_v28 : FVec F S2048 .f32 := Host.absf main_arg7
  let main_cst_12 : FVec F S_ .f32 := constant S_ .f32 0x7F800000#32
  let main_v29 : FVec F S2048 .f32 := broadcastInDim S2048 ![] bcast_S_S2048 main_cst_12
  let main_v30 : IVec S2048 1 := cmpf .olt main_v28 main_v29
  let main_c_13 : IVec S_ 1 := constantI S_ 1 1#1
  let main_v31 : IVec S_ 1 := (fun x v => Host.reduce IntOp.andi x v reducesTo_S2048_S_d0 h_S_) main_v30 main_c_13
  fn_part2 (F := F) main_v3 main_v7 main_v11 main_v15 main_v19 main_v23 main_v27 main_v31

def fn {F : FTy → Type} [FloatOps F] (main_arg0 : FVec F S8192x5120 .f32) (main_arg1 : FVec F S8192x512 .f32) (main_arg2 : FVec F S4x3072 .f32) (main_arg3 : FVec F S3072 .f32) (main_arg4 : FVec F S32 .f32) (main_arg5 : FVec F S32 .f32) (main_arg6 : FVec F S32 .f32) (main_arg7 : FVec F S2048 .f32) : IVec S8 1 :=
  let main_v0 : FVec F S8192x5120 .f32 := Host.absf main_arg0
  let main_cst : FVec F S_ .f32 := constant S_ .f32 0x7F800000#32
  let main_v1 : FVec F S8192x5120 .f32 := broadcastInDim S8192x5120 ![] bcast_S_S8192x5120 main_cst
  let main_v2 : IVec S8192x5120 1 := cmpf .olt main_v0 main_v1
  let main_c : IVec S_ 1 := constantI S_ 1 1#1
  let main_v3 : IVec S_ 1 := (fun x v => Host.reduce IntOp.andi x v reducesTo_S8192x5120_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : FVec F S4x3072 .f32 := Host.absf main_arg2
  let main_cst_2 : FVec F S_ .f32 := constant S_ .f32 0x7F800000#32
  let main_v9 : FVec F S4x3072 .f32 := broadcastInDim S4x3072 ![] bcast_S_S4x3072 main_cst_2
  let main_v10 : IVec S4x3072 1 := cmpf .olt main_v8 main_v9
  let main_c_3 : IVec S_ 1 := constantI S_ 1 1#1
  let main_v11 : IVec S_ 1 := (fun x v => Host.reduce IntOp.andi x v reducesTo_S4x3072_S_d0_1 h_S_) main_v10 main_c_3
  let main_v12 : FVec F S3072 .f32 := Host.absf main_arg3
  let main_cst_4 : FVec F S_ .f32 := constant S_ .f32 0x7F800000#32
  let main_v13 : FVec F S3072 .f32 := broadcastInDim S3072 ![] bcast_S_S3072 main_cst_4
  let main_v14 : IVec S3072 1 := cmpf .olt main_v12 main_v13
  let main_c_5 : IVec S_ 1 := constantI S_ 1 1#1
  let main_v15 : IVec S_ 1 := (fun x v => Host.reduce IntOp.andi x v reducesTo_S3072_S_d0 h_S_) main_v14 main_c_5
  fn_part1 (F := F) main_arg4 main_arg5 main_arg6 main_arg7 main_v3 main_v7 main_v11 main_v15
-- ==== Kernel.lean ====
abbrev S8192x2048 : Shape := ⟨2, ![8192, 2048]⟩
abbrev S2x2048x13536 : Shape := ⟨3, ![2, 2048, 13536]⟩
abbrev S8384 : Shape := ⟨1, ![8384]⟩
abbrev S2048x64 : Shape := ⟨2, ![2048, 64]⟩
abbrev S2x13536x2048 : Shape := ⟨3, ![2, 13536, 2048]⟩
abbrev S8192 : Shape := ⟨1, ![8192]⟩
abbrev S1x8192 : Shape := ⟨2, ![1, 8192]⟩
abbrev S_ : Shape := ⟨0, ![]⟩
abbrev S7x8192 : Shape := ⟨2, ![7, 8192]⟩
abbrev S8x8192 : Shape := ⟨2, ![8, 8192]⟩
abbrev S2048x128 : Shape := ⟨2, ![2048, 128]⟩
abbrev S8192x8192 : Shape := ⟨2, ![8192, 8192]⟩
abbrev S8192x128 : Shape := ⟨2, ![8192, 128]⟩
abbrev S2048x2048 : Shape := ⟨2, ![2048, 2048]⟩
abbrev S16x2048 : Shape := ⟨2, ![16, 2048]⟩
abbrev S1x512x2048 : Shape := ⟨3, ![1, 512, 2048]⟩
abbrev S8x512 : Shape := ⟨2, ![8, 512]⟩
abbrev S512x128 : Shape := ⟨2, ![512, 128]⟩
abbrev S2048x512 : Shape := ⟨2, ![2048, 512]⟩
abbrev S512x2048 : Shape := ⟨2, ![512, 2048]⟩
abbrev S16x512 : Shape := ⟨2, ![16, 512]⟩
abbrev S1x512 : Shape := ⟨2, ![1, 512]⟩

abbrev nBuf : Space → Nat
  | .hbm => 15
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S2x2048x13536, .f32⟩
  | .hbm, ⟨2, _⟩ => ⟨S8384, .f32⟩
  | .hbm, ⟨3, _⟩ => ⟨S2048x64, .f32⟩
  | .hbm, ⟨4, _⟩ => ⟨S2x13536x2048, .f32⟩
  | .hbm, ⟨5, _⟩ => ⟨S8192, .f32⟩
  | .hbm, ⟨6, _⟩ => ⟨S1x8192, .f32⟩
  | .hbm, ⟨7, _⟩ => ⟨S_, .f32⟩
  | .hbm, ⟨8, _⟩ => ⟨S7x8192, .f32⟩
  | .hbm, ⟨9, _⟩ => ⟨S8x8192, .f32⟩
  | .hbm, ⟨10, _⟩ => ⟨S_, .f32⟩
  | .hbm, ⟨11, _⟩ => ⟨S2048x64, .f32⟩
  | .hbm, ⟨12, _⟩ => ⟨S2048x128, .f32⟩
  | .hbm, ⟨13, _⟩ => ⟨S8192x8192, .f32⟩
  | .hbm, ⟨14, _⟩ => ⟨S8192x128, .f32⟩
  | .local _ .vmem, ⟨0, _⟩ => ⟨S2048x2048, .bf16⟩
  | .local _ .vmem, ⟨1, _⟩ => ⟨S2048x2048, .bf16⟩
  | .local _ .vmem, ⟨2, _⟩ => ⟨S16x2048, .bf16⟩
  | .local _ .vmem, ⟨3, _⟩ => ⟨S16x2048, .bf16⟩
  | .local _ .vmem, ⟨4, _⟩ => ⟨S1x512x2048, .f32⟩
  | .local _ .vmem, ⟨5, _⟩ => ⟨S1x512x2048, .f32⟩
  | .local _ .vmem, ⟨6, _⟩ => ⟨S8x512, .f32⟩
  | .local _ .vmem, ⟨7, _⟩ => ⟨S8x512, .f32⟩
  | .local _ .vmem, ⟨8, _⟩ => ⟨S512x128, .f32⟩
  | .local _ .vmem, ⟨9, _⟩ => ⟨S512x128, .f32⟩
  | .local _ .vmem, ⟨10, _⟩ => ⟨S2048x512, .f32⟩
  | .local _ .vmem, ⟨11, _⟩ => ⟨S2048x512, .f32⟩
  | .local _ .vmem, ⟨12, _⟩ => ⟨S2048x128, .f32⟩
  | .local _ .vmem, ⟨13, _⟩ => ⟨S2048x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond1 (i : grid0.Coords) : BitVec 1 :=
  let arg1 : BitVec 32 := BitVec.ofNat 32 (i 1).val
  let c8_i32 : BitVec 32 := 8#32
  let v25 : BitVec 1 := Scalar.cmpi .eq arg1 c8_i32
  let v26 : BitVec 32 := Scalar.extui v25
  let c0_i32_13 : BitVec 32 := 0#32
  let v27 : BitVec 1 := Scalar.cmpi .ne v26 c0_i32_13
  v27

def k0_cond2 (i : grid0.Coords) : BitVec 1 :=
  let arg1 : BitVec 32 := BitVec.ofNat 32 (i 1).val
  let c8_i32_14 : BitVec 32 := 8#32
  let v28 : BitVec 1 := Scalar.cmpi .sge arg1 c8_i32_14
  let c12_i32 : BitVec 32 := 12#32
  let v29 : BitVec 1 := Scalar.cmpi .slt arg1 c12_i32
  let v30 : BitVec 1 := Scalar.andi v28 v29
  let v31 : BitVec 32 := Scalar.extui v30
  let c0_i32_15 : BitVec 32 := 0#32
  let v32 : BitVec 1 := Scalar.cmpi .ne v31 c0_i32_15
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let v1 : BitVec 32 := v0
  let c1_i32 : BitVec 32 := 1#32
  let c0_i32 : BitVec 32 := 0#32
  let c0_i32_0 : BitVec 32 := 0#32
  ![c1_i32.toNat, v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S8192x2048 : Shape := ⟨2, ![8192, 2048]⟩
abbrev S2x2048x13536 : Shape := ⟨3, ![2, 2048, 13536]⟩
abbrev S8384 : Shape := ⟨1, ![8384]⟩
abbrev S2048x64 : Shape := ⟨2, ![2048, 64]⟩
abbrev S1x2048x13536 : Shape := ⟨3, ![1, 2048, 13536]⟩
abbrev S2048x13536 : Shape := ⟨2, ![2048, 13536]⟩
abbrev S8192x13536 : Shape := ⟨2, ![8192, 13536]⟩
abbrev S8192x8384 : Shape := ⟨2, ![8192, 8384]⟩
abbrev S_ : Shape := ⟨0, ![]⟩
abbrev S8193x8384 : Shape := ⟨2, ![8193, 8384]⟩
abbrev S1x8384 : Shape := ⟨2, ![1, 8384]⟩
abbrev S8192x8192 : Shape := ⟨2, ![8192, 8192]⟩
abbrev S8192x64 : Shape := ⟨2, ![8192, 64]⟩
abbrev S8192x128 : Shape := ⟨2, ![8192, 128]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x13536, .f32⟩
  | .hbm, ⟨2, _⟩ => ⟨S8384, .f32⟩
  | .hbm, ⟨3, _⟩ => ⟨S2048x64, .f32⟩
  | .hbm, ⟨4, _⟩ => ⟨S8192x2048, .f32⟩
  | .hbm, ⟨5, _⟩ => ⟨S1x2048x13536, .f32⟩
  | .hbm, ⟨6, _⟩ => ⟨S2048x13536, .f32⟩
  | .hbm, ⟨7, _⟩ => ⟨S8192x13536, .f32⟩
  | .hbm, ⟨8, _⟩ => ⟨S8192x8384, .f32⟩
  | .hbm, ⟨9, _⟩ => ⟨S_, .i32⟩
  | .hbm, ⟨10, _⟩ => ⟨S_, .f32⟩
  | .hbm, ⟨11, _⟩ => ⟨S8193x8384, .f32⟩
  | .hbm, ⟨12, _⟩ => ⟨S8192x8384, .f32⟩
  | .hbm, ⟨13, _⟩ => ⟨S8192x8384, .f32⟩
  | .hbm, ⟨14, _⟩ => ⟨S1x8384, .f32⟩
  | .hbm, ⟨15, _⟩ => ⟨S8192x8384, .f32⟩
  | .hbm, ⟨16, _⟩ => ⟨S8192x8384, .f32⟩
  | .hbm, ⟨17, _⟩ => ⟨S8192x8384, .f32⟩
  | .hbm, ⟨18, _⟩ => ⟨S8192x8192, .f32⟩
  | .hbm, ⟨19, _⟩ => ⟨S8192x2048, .f32⟩
  | .hbm, ⟨20, _⟩ => ⟨S8192x64, .f32⟩
  | .hbm, ⟨21, _⟩ => ⟨S_, .i32⟩
  | .hbm, ⟨22, _⟩ => ⟨S_, .f32⟩
  | .hbm, ⟨23, _⟩ => ⟨S8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_call1_v0 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== KernelFirst.lean ====
abbrev S8192x2048 : Shape := ⟨2, ![8192, 2048]⟩
abbrev S2x2048x13536 : Shape := ⟨3, ![2, 2048, 13536]⟩
abbrev S8384 : Shape := ⟨1, ![8384]⟩
abbrev S2x13536x2048 : Shape := ⟨3, ![2, 13536, 2048]⟩
abbrev S8192 : Shape := ⟨1, ![8192]⟩
abbrev S1x8192 : Shape := ⟨2, ![1, 8192]⟩
abbrev S_ : Shape := ⟨0, ![]⟩
abbrev S7x8192 : Shape := ⟨2, ![7, 8192]⟩
abbrev S8x8192 : Shape := ⟨2, ![8, 8192]⟩
abbrev S8192x8192 : Shape := ⟨2, ![8192, 8192]⟩
abbrev S2048x2048 : Shape := ⟨2, ![2048, 2048]⟩
abbrev S16x2048 : Shape := ⟨2, ![16, 2048]⟩
abbrev S1x512x2048 : Shape := ⟨3, ![1, 512, 2048]⟩
abbrev S8x512 : Shape := ⟨2, ![8, 512]⟩
abbrev S2048x512 : Shape := ⟨2, ![2048, 512]⟩
abbrev S512x2048 : Shape := ⟨2, ![512, 2048]⟩
abbrev S16x512 : Shape := ⟨2, ![16, 512]⟩
abbrev S1x512 : Shape := ⟨2, ![1, 512]⟩

abbrev nBuf : Space → Nat
  | .hbm => 10
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2x2048x13536, .f32⟩
  | .hbm, ⟨2, _⟩ => ⟨S8384, .f32⟩
  | .hbm, ⟨3, _⟩ => ⟨S2x13536x2048, .f32⟩
  | .hbm, ⟨4, _⟩ => ⟨S8192, .f32⟩
  | .hbm, ⟨5, _⟩ => ⟨S1x8192, .f32⟩
  | .hbm, ⟨6, _⟩ => ⟨S_, .f32⟩
  | .hbm, ⟨7, _⟩ => ⟨S7x8192, .f32⟩
  | .hbm, ⟨8, _⟩ => ⟨S8x8192, .f32⟩
  | .hbm, ⟨9, _⟩ => ⟨S8192x8192, .f32⟩
  | .local _ .vmem, ⟨0, _⟩ => ⟨S2048x2048, .bf16⟩
  | .local _ .vmem, ⟨1, _⟩ => ⟨S2048x2048, .bf16⟩
  | .local _ .vmem, ⟨2, _⟩ => ⟨S16x2048, .bf16⟩
  | .local _ .vmem, ⟨3, _⟩ => ⟨S16x2048, .bf16⟩
  | .local _ .vmem, ⟨4, _⟩ => ⟨S1x512x2048, .f32⟩
  | .local _ .vmem, ⟨5, _⟩ => ⟨S1x512x2048, .f32⟩
  | .local _ .vmem, ⟨6, _⟩ => ⟨S8x512, .f32⟩
  | .local _ .vmem, ⟨7, _⟩ => ⟨S8x512, .f32⟩
  | .local _ .vmem, ⟨8, _⟩ => ⟨S2048x512, .f32⟩
  | .local _ .vmem, ⟨9, _⟩ => ⟨S2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let v1 : BitVec 32 := v0
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceFirstIdeal.lean ====
abbrev S8192x2048 : Shape := ⟨2, ![8192, 2048]⟩
abbrev S2x2048x13536 : Shape := ⟨3, ![2, 2048, 13536]⟩
abbrev S8384 : Shape := ⟨1, ![8384]⟩
abbrev S1x2048x13536 : Shape := ⟨3, ![1, 2048, 13536]⟩
abbrev S2048x13536 : Shape := ⟨2, ![2048, 13536]⟩
abbrev S8192x13536 : Shape := ⟨2, ![8192, 13536]⟩
abbrev S8192x8384 : Shape := ⟨2, ![8192, 8384]⟩
abbrev S_ : Shape := ⟨0, ![]⟩
abbrev S8193x8384 : Shape := ⟨2, ![8193, 8384]⟩
abbrev S1x8384 : Shape := ⟨2, ![1, 8384]⟩
abbrev S8192x8192 : Shape := ⟨2, ![8192, 8192]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x13536, .f32⟩
  | .hbm, ⟨2, _⟩ => ⟨S8384, .f32⟩
  | .hbm, ⟨3, _⟩ => ⟨S8192x2048, .f32⟩
  | .hbm, ⟨4, _⟩ => ⟨S1x2048x13536, .f32⟩
  | .hbm, ⟨5, _⟩ => ⟨S2048x13536, .f32⟩
  | .hbm, ⟨6, _⟩ => ⟨S8192x13536, .f32⟩
  | .hbm, ⟨7, _⟩ => ⟨S8192x8384, .f32⟩
  | .hbm, ⟨8, _⟩ => ⟨S_, .i32⟩
  | .hbm, ⟨9, _⟩ => ⟨S_, .f32⟩
  | .hbm, ⟨10, _⟩ => ⟨S8193x8384, .f32⟩
  | .hbm, ⟨11, _⟩ => ⟨S8192x8384, .f32⟩
  | .hbm, ⟨12, _⟩ => ⟨S8192x8384, .f32⟩
  | .hbm, ⟨13, _⟩ => ⟨S1x8384, .f32⟩
  | .hbm, ⟨14, _⟩ => ⟨S8192x8384, .f32⟩
  | .hbm, ⟨15, _⟩ => ⟨S8192x8384, .f32⟩
  | .hbm, ⟨16, _⟩ => ⟨S8192x8384, .f32⟩
  | .hbm, ⟨17, _⟩ => ⟨S8192x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KernelSsm.lean ====
abbrev S8192x2048 : Shape := ⟨2, ![8192, 2048]⟩
abbrev S2x2048x13536 : Shape := ⟨3, ![2, 2048, 13536]⟩
abbrev S2x13536x2048 : Shape := ⟨3, ![2, 13536, 2048]⟩
abbrev S8192x5120 : Shape := ⟨2, ![8192, 5120]⟩
abbrev S2048x2048 : Shape := ⟨2, ![2048, 2048]⟩
abbrev S1x512x2048 : Shape := ⟨3, ![1, 512, 2048]⟩
abbrev S2048x512 : Shape := ⟨2, ![2048, 512]⟩
abbrev S512x2048 : Shape := ⟨2, ![512, 2048]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2x2048x13536, .f32⟩
  | .hbm, ⟨2, _⟩ => ⟨S2x13536x2048, .f32⟩
  | .hbm, ⟨3, _⟩ => ⟨S8192x5120, .f32⟩
  | .local _ .vmem, ⟨0, _⟩ => ⟨S2048x2048, .bf16⟩
  | .local _ .vmem, ⟨1, _⟩ => ⟨S2048x2048, .bf16⟩
  | .local _ .vmem, ⟨2, _⟩ => ⟨S1x512x2048, .f32⟩
  | .local _ .vmem, ⟨3, _⟩ => ⟨S1x512x2048, .f32⟩
  | .local _ .vmem, ⟨4, _⟩ => ⟨S2048x512, .f32⟩
  | .local _ .vmem, ⟨5, _⟩ => ⟨S2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 10], ![false, false]⟩

def k0_mult1 (i : grid0.Coords) : BitVec 32 :=
  let c8384_i32 : BitVec 32 := 8384#32
  let arg1 : BitVec 32 := BitVec.ofNat 32 (i 1).val
  let c512_i32 : BitVec 32 := 512#32
  let v0 : BitVec 32 := Scalar.muli arg1 c512_i32
  let v1 : BitVec 32 := Scalar.addi c8384_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c8384_i32 : BitVec 32 := 8384#32
  let v1 : BitVec 32 := Scalar.addi c8384_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceSsmIdeal.lean ====
abbrev S8192x2048 : Shape := ⟨2, ![8192, 2048]⟩
abbrev S2x2048x13536 : Shape := ⟨3, ![2, 2048, 13536]⟩
abbrev S1x2048x13536 : Shape := ⟨3, ![1, 2048, 13536]⟩
abbrev S2048x13536 : Shape := ⟨2, ![2048, 13536]⟩
abbrev S8192x13536 : Shape := ⟨2, ![8192, 13536]⟩
abbrev S8192x5120 : Shape := ⟨2, ![8192, 5120]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x13536, .f32⟩
  | .hbm, ⟨2, _⟩ => ⟨S8192x2048, .f32⟩
  | .hbm, ⟨3, _⟩ => ⟨S1x2048x13536, .f32⟩
  | .hbm, ⟨4, _⟩ => ⟨S2048x13536, .f32⟩
  | .hbm, ⟨5, _⟩ => ⟨S8192x13536, .f32⟩
  | .hbm, ⟨6, _⟩ => ⟨S8192x5120, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelSmall.lean ====
abbrev S8192x2048 : Shape := ⟨2, ![8192, 2048]⟩
abbrev S2x2048x13536 : Shape := ⟨3, ![2, 2048, 13536]⟩
abbrev S8384 : Shape := ⟨1, ![8384]⟩
abbrev S2x13536x2048 : Shape := ⟨3, ![2, 13536, 2048]⟩
abbrev S192 : Shape := ⟨1, ![192]⟩
abbrev S_ : Shape := ⟨0, ![]⟩
abbrev S320 : Shape := ⟨1, ![320]⟩
abbrev S512 : Shape := ⟨1, ![512]⟩
abbrev S1x512 : Shape := ⟨2, ![1, 512]⟩
abbrev S7x512 : Shape := ⟨2, ![7, 512]⟩
abbrev S8x512 : Shape := ⟨2, ![8, 512]⟩
abbrev S8192x512 : Shape := ⟨2, ![8192, 512]⟩
abbrev S2048x2048 : Shape := ⟨2, ![2048, 2048]⟩
abbrev S16x2048 : Shape := ⟨2, ![16, 2048]⟩
abbrev S1x256x2048 : Shape := ⟨3, ![1, 256, 2048]⟩
abbrev S8x256 : Shape := ⟨2, ![8, 256]⟩
abbrev S2048x256 : Shape := ⟨2, ![2048, 256]⟩
abbrev S256x2048 : Shape := ⟨2, ![256, 2048]⟩
abbrev S16x256 : Shape := ⟨2, ![16, 256]⟩
abbrev S1x256 : Shape := ⟨2, ![1, 256]⟩

abbrev nBuf : Space → Nat
  | .hbm => 13
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2x2048x13536, .f32⟩
  | .hbm, ⟨2, _⟩ => ⟨S8384, .f32⟩
  | .hbm, ⟨3, _⟩ => ⟨S2x13536x2048, .f32⟩
  | .hbm, ⟨4, _⟩ => ⟨S192, .f32⟩
  | .hbm, ⟨5, _⟩ => ⟨S_, .f32⟩
  | .hbm, ⟨6, _⟩ => ⟨S320, .f32⟩
  | .hbm, ⟨7, _⟩ => ⟨S512, .f32⟩
  | .hbm, ⟨8, _⟩ => ⟨S1x512, .f32⟩
  | .hbm, ⟨9, _⟩ => ⟨S_, .f32⟩
  | .hbm, ⟨10, _⟩ => ⟨S7x512, .f32⟩
  | .hbm, ⟨11, _⟩ => ⟨S8x512, .f32⟩
  | .hbm, ⟨12, _⟩ => ⟨S8192x512, .f32⟩
  | .local _ .vmem, ⟨0, _⟩ => ⟨S2048x2048, .bf16⟩
  | .local _ .vmem, ⟨1, _⟩ => ⟨S2048x2048, .bf16⟩
  | .local _ .vmem, ⟨2, _⟩ => ⟨S16x2048, .bf16⟩
  | .local _ .vmem, ⟨3, _⟩ => ⟨S16x2048, .bf16⟩
  | .local _ .vmem, ⟨4, _⟩ => ⟨S1x256x2048, .f32⟩
  | .local _ .vmem, ⟨5, _⟩ => ⟨S1x256x2048, .f32⟩
  | .local _ .vmem, ⟨6, _⟩ => ⟨S8x256, .f32⟩
  | .local _ .vmem, ⟨7, _⟩ => ⟨S8x256, .f32⟩
  | .local _ .vmem, ⟨8, _⟩ => ⟨S2048x256, .f32⟩
  | .local _ .vmem, ⟨9, _⟩ => ⟨S2048x256, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def k0_mult1 (i : grid0.Coords) : BitVec 32 :=
  let arg1 : BitVec 32 := BitVec.ofNat 32 (i 1).val
  let c0_i32 : BitVec 32 := 0#32
  let v0 : BitVec 1 := Scalar.cmpi .eq arg1 c0_i32
  let c8192_i32 : BitVec 32 := 8192#32
  let c13280_i32 : BitVec 32 := 13280#32
  let v1 : BitVec 32 := Scalar.select v0 c8192_i32 c13280_i32
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c8192_i32 : BitVec 32 := 8192#32
  let c13280_i32 : BitVec 32 := 13280#32
  let v1 : BitVec 32 := Scalar.select v0 c8192_i32 c13280_i32
  let v2 : BitVec 32 := v1
  let c0_i32_0 : BitVec 32 := 0#32
  let c0_i32_1 : BitVec 32 := 0#32
  let c0_i32_2 : BitVec 32 := 0#32
  ![c0_i32_0.toNat, v2.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceSmallIdeal.lean ====
abbrev S8192x2048 : Shape := ⟨2, ![8192, 2048]⟩
abbrev S2x2048x13536 : Shape := ⟨3, ![2, 2048, 13536]⟩
abbrev S8384 : Shape := ⟨1, ![8384]⟩
abbrev S1x2048x13536 : Shape := ⟨3, ![1, 2048, 13536]⟩
abbrev S2048x13536 : Shape := ⟨2, ![2048, 13536]⟩
abbrev S8192x13536 : Shape := ⟨2, ![8192, 13536]⟩
abbrev S8192x8384 : Shape := ⟨2, ![8192, 8384]⟩
abbrev S_ : Shape := ⟨0, ![]⟩
abbrev S8193x8384 : Shape := ⟨2, ![8193, 8384]⟩
abbrev S1x8384 : Shape := ⟨2, ![1, 8384]⟩
abbrev S8192x192 : Shape := ⟨2, ![8192, 192]⟩
abbrev S8192x64 : Shape := ⟨2, ![8192, 64]⟩
abbrev S8192x256 : Shape := ⟨2, ![8192, 256]⟩
abbrev S8192x512 : Shape := ⟨2, ![8192, 512]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x13536, .f32⟩
  | .hbm, ⟨2, _⟩ => ⟨S8384, .f32⟩
  | .hbm, ⟨3, _⟩ => ⟨S8192x2048, .f32⟩
  | .hbm, ⟨4, _⟩ => ⟨S1x2048x13536, .f32⟩
  | .hbm, ⟨5, _⟩ => ⟨S2048x13536, .f32⟩
  | .hbm, ⟨6, _⟩ => ⟨S8192x13536, .f32⟩
  | .hbm, ⟨7, _⟩ => ⟨S8192x8384, .f32⟩
  | .hbm, ⟨8, _⟩ => ⟨S_, .i32⟩
  | .hbm, ⟨9, _⟩ => ⟨S_, .f32⟩
  | .hbm, ⟨10, _⟩ => ⟨S8193x8384, .f32⟩
  | .hbm, ⟨11, _⟩ => ⟨S8192x8384, .f32⟩
  | .hbm, ⟨12, _⟩ => ⟨S8192x8384, .f32⟩
  | .hbm, ⟨13, _⟩ => ⟨S1x8384, .f32⟩
  | .hbm, ⟨14, _⟩ => ⟨S8192x8384, .f32⟩
  | .hbm, ⟨15, _⟩ => ⟨S8192x8384, .f32⟩
  | .hbm, ⟨16, _⟩ => ⟨S8192x8384, .f32⟩
  | .hbm, ⟨17, _⟩ => ⟨S8192x192, .f32⟩
  | .hbm, ⟨18, _⟩ => ⟨S8192x64, .f32⟩
  | .hbm, ⟨19, _⟩ => ⟨S8192x256, .f32⟩
  | .hbm, ⟨20, _⟩ => ⟨S8192x512, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== KernelGla.lean ====
abbrev S8192x2048 : Shape := ⟨2, ![8192, 2048]⟩
abbrev S2x2048x6160 : Shape := ⟨3, ![2, 2048, 6160]⟩
abbrev S2x6160x2048 : Shape := ⟨3, ![2, 6160, 2048]⟩
abbrev S8192x6144 : Shape := ⟨2, ![8192, 6144]⟩
abbrev S2048x2048 : Shape := ⟨2, ![2048, 2048]⟩
abbrev S1x512x2048 : Shape := ⟨3, ![1, 512, 2048]⟩
abbrev S2048x512 : Shape := ⟨2, ![2048, 512]⟩
abbrev S512x2048 : Shape := ⟨2, ![512, 2048]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2x2048x6160, .f32⟩
  | .hbm, ⟨2, _⟩ => ⟨S2x6160x2048, .f32⟩
  | .hbm, ⟨3, _⟩ => ⟨S8192x6144, .f32⟩
  | .local _ .vmem, ⟨0, _⟩ => ⟨S2048x2048, .bf16⟩
  | .local _ .vmem, ⟨1, _⟩ => ⟨S2048x2048, .bf16⟩
  | .local _ .vmem, ⟨2, _⟩ => ⟨S1x512x2048, .f32⟩
  | .local _ .vmem, ⟨3, _⟩ => ⟨S1x512x2048, .f32⟩
  | .local _ .vmem, ⟨4, _⟩ => ⟨S2048x512, .f32⟩
  | .local _ .vmem, ⟨5, _⟩ => ⟨S2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 12], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let v1 : BitVec 32 := v0
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceGlaIdeal.lean ====
abbrev S8192x2048 : Shape := ⟨2, ![8192, 2048]⟩
abbrev S2x2048x6160 : Shape := ⟨3, ![2, 2048, 6160]⟩
abbrev S1x2048x6160 : Shape := ⟨3, ![1, 2048, 6160]⟩
abbrev S2048x6160 : Shape := ⟨2, ![2048, 6160]⟩
abbrev S8192x6160 : Shape := ⟨2, ![8192, 6160]⟩
abbrev S8192x6144 : Shape := ⟨2, ![8192, 6144]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x6160, .f32⟩
  | .hbm, ⟨2, _⟩ => ⟨S8192x2048, .f32⟩
  | .hbm, ⟨3, _⟩ => ⟨S1x2048x6160, .f32⟩
  | .hbm, ⟨4, _⟩ => ⟨S2048x6160, .f32⟩
  | .hbm, ⟨5, _⟩ => ⟨S8192x6160, .f32⟩
  | .hbm, ⟨6, _⟩ => ⟨S8192x6144, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelDecay.lean ====
abbrev S8192x2048 : Shape := ⟨2, ![8192, 2048]⟩
abbrev S2x2048x6160 : Shape := ⟨3, ![2, 2048, 6160]⟩
abbrev S2x6160x2048 : Shape := ⟨3, ![2, 6160, 2048]⟩
abbrev S8192x128 : Shape := ⟨2, ![8192, 128]⟩
abbrev S2048x2048 : Shape := ⟨2, ![2048, 2048]⟩
abbrev S1x128x2048 : Shape := ⟨3, ![1, 128, 2048]⟩
abbrev S2048x128 : Shape := ⟨2, ![2048, 128]⟩
abbrev S128x2048 : Shape := ⟨2, ![128, 2048]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2x2048x6160, .f32⟩
  | .hbm, ⟨2, _⟩ => ⟨S2x6160x2048, .f32⟩
  | .hbm, ⟨3, _⟩ => ⟨S8192x128, .f32⟩
  | .local _ .vmem, ⟨0, _⟩ => ⟨S2048x2048, .bf16⟩
  | .local _ .vmem, ⟨1, _⟩ => ⟨S2048x2048, .bf16⟩
  | .local _ .vmem, ⟨2, _⟩ => ⟨S1x128x2048, .f32⟩
  | .local _ .vmem, ⟨3, _⟩ => ⟨S2048x128, .f32⟩
  | .local _ .vmem, ⟨4, _⟩ => ⟨S2048x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c6032_i32 : BitVec 32 := 6032#32
  let c0_i32_0 : BitVec 32 := 0#32
  let c0_i32_1 : BitVec 32 := 0#32
  ![c0_i32.toNat, c6032_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDecayIdeal.lean ====
abbrev S8192x2048 : Shape := ⟨2, ![8192, 2048]⟩
abbrev S2x2048x6160 : Shape := ⟨3, ![2, 2048, 6160]⟩
abbrev S1x2048x6160 : Shape := ⟨3, ![1, 2048, 6160]⟩
abbrev S2048x6160 : Shape := ⟨2, ![2048, 6160]⟩
abbrev S8192x6160 : Shape := ⟨2, ![8192, 6160]⟩
abbrev S8192x128 : Shape := ⟨2, ![8192, 128]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x6160, .f32⟩
  | .hbm, ⟨2, _⟩ => ⟨S8192x2048, .f32⟩
  | .hbm, ⟨3, _⟩ => ⟨S1x2048x6160, .f32⟩
  | .hbm, ⟨4, _⟩ => ⟨S2048x6160, .f32⟩
  | .hbm, ⟨5, _⟩ => ⟨S8192x6160, .f32⟩
  | .hbm, ⟨6, _⟩ => ⟨S8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelOut.lean ====
abbrev S8192x2048 : Shape := ⟨2, ![8192, 2048]⟩
abbrev S2x2048x2048 : Shape := ⟨3, ![2, 2048, 2048]⟩
abbrev S2048 : Shape := ⟨1, ![2048]⟩
abbrev S1x2048 : Shape := ⟨2, ![1, 2048]⟩
abbrev S_ : Shape := ⟨0, ![]⟩
abbrev S7x2048 : Shape := ⟨2, ![7, 2048]⟩
abbrev S8x2048 : Shape := ⟨2, ![8, 2048]⟩
abbrev S512x2048 : Shape := ⟨2, ![512, 2048]⟩
abbrev S2048x2048 : Shape := ⟨2, ![2048, 2048]⟩
abbrev S4x256x2048 : Shape := ⟨3, ![4, 256, 2048]⟩
abbrev S4 : Shape := ⟨1, ![4]⟩
abbrev S1 : Shape := ⟨1, ![1]⟩
abbrev S1x256x2048 : Shape := ⟨3, ![1, 256, 2048]⟩
abbrev S256x2048 : Shape := ⟨2, ![256, 2048]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S2048, .f32⟩
  | .hbm, ⟨4, _⟩ => ⟨S1x2048, .f32⟩
  | .hbm, ⟨5, _⟩ => ⟨S_, .f32⟩
  | .hbm, ⟨6, _⟩ => ⟨S7x2048, .f32⟩
  | .hbm, ⟨7, _⟩ => ⟨S8x2048, .f32⟩
  | .hbm, ⟨8, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S8x2048, .f32⟩
  | .local _ .vmem, ⟨5, _⟩ => ⟨S512x2048, .f32⟩
  | .local _ .vmem, ⟨6, _⟩ => ⟨S512x2048, .f32⟩
  | .local _ .vmem, ⟨7, _⟩ => ⟨S2048x2048, .bf16⟩
  | .local _ .vmem, ⟨8, _⟩ => ⟨S4x256x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceOutIdeal.lean ====
abbrev S8192x2048 : Shape := ⟨2, ![8192, 2048]⟩
abbrev S2x2048x2048 : Shape := ⟨3, ![2, 2048, 2048]⟩
abbrev S2048 : Shape := ⟨1, ![2048]⟩
abbrev S1x2048x2048 : Shape := ⟨3, ![1, 2048, 2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S2048, .f32⟩
  | .hbm, ⟨4, _⟩ => ⟨S8192x2048, .f32⟩
  | .hbm, ⟨5, _⟩ => ⟨S1x2048x2048, .f32⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== KernelMix.lean ====
abbrev S8192x2048 : Shape := ⟨2, ![8192, 2048]⟩
abbrev S2x4096x2048 : Shape := ⟨3, ![2, 4096, 2048]⟩
abbrev S2048 : Shape := ⟨1, ![2048]⟩
abbrev S1x2048 : Shape := ⟨2, ![1, 2048]⟩
abbrev S_ : Shape := ⟨0, ![]⟩
abbrev S7x2048 : Shape := ⟨2, ![7, 2048]⟩
abbrev S8x2048 : Shape := ⟨2, ![8, 2048]⟩
abbrev S512x2048 : Shape := ⟨2, ![512, 2048]⟩
abbrev S4096x2048 : Shape := ⟨2, ![4096, 2048]⟩
abbrev S4x256x2048 : Shape := ⟨3, ![4, 256, 2048]⟩
abbrev S4 : Shape := ⟨1, ![4]⟩
abbrev S1 : Shape := ⟨1, ![1]⟩
abbrev S1x256x2048 : Shape := ⟨3, ![1, 256, 2048]⟩
abbrev S256x2048 : Shape := ⟨2, ![256, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2x4096x2048, .f32⟩
  | .hbm, ⟨3, _⟩ => ⟨S8192x2048, .f32⟩
  | .hbm, ⟨4, _⟩ => ⟨S2048, .f32⟩
  | .hbm, ⟨5, _⟩ => ⟨S1x2048, .f32⟩
  | .hbm, ⟨6, _⟩ => ⟨S_, .f32⟩
  | .hbm, ⟨7, _⟩ => ⟨S7x2048, .f32⟩
  | .hbm, ⟨8, _⟩ => ⟨S8x2048, .f32⟩
  | .hbm, ⟨9, _⟩ => ⟨S8192x2048, .f32⟩
  | .hbm, ⟨10, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S8x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S4096x2048, .bf16⟩
  | .local _ .vmem, ⟨12, _⟩ => ⟨S4x256x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceMixIdeal.lean ====
abbrev S8192x2048 : Shape := ⟨2, ![8192, 2048]⟩
abbrev S2x4096x2048 : Shape := ⟨3, ![2, 4096, 2048]⟩
abbrev S2048 : Shape := ⟨1, ![2048]⟩
abbrev S8192x4096 : Shape := ⟨2, ![8192, 4096]⟩
abbrev S1x4096x2048 : Shape := ⟨3, ![1, 4096, 2048]⟩
abbrev S4096x2048 : Shape := ⟨2, ![4096, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2x4096x2048, .f32⟩
  | .hbm, ⟨3, _⟩ => ⟨S8192x2048, .f32⟩
  | .hbm, ⟨4, _⟩ => ⟨S2048, .f32⟩
  | .hbm, ⟨5, _⟩ => ⟨S8192x4096, .bf16⟩
  | .hbm, ⟨6, _⟩ => ⟨S8192x4096, .f32⟩
  | .hbm, ⟨7, _⟩ => ⟨S1x4096x2048, .f32⟩
  | .hbm, ⟨8, _⟩ => ⟨S4096x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== KernelOdd.lean ====
abbrev S8192x2048 : Shape := ⟨2, ![8192, 2048]⟩
abbrev S2x2048x2048 : Shape := ⟨3, ![2, 2048, 2048]⟩
abbrev S2048 : Shape := ⟨1, ![2048]⟩
abbrev S1x2048 : Shape := ⟨2, ![1, 2048]⟩
abbrev S_ : Shape := ⟨0, ![]⟩
abbrev S7x2048 : Shape := ⟨2, ![7, 2048]⟩
abbrev S8x2048 : Shape := ⟨2, ![8, 2048]⟩
abbrev S512x2048 : Shape := ⟨2, ![512, 2048]⟩
abbrev S2048x2048 : Shape := ⟨2, ![2048, 2048]⟩
abbrev S4x256x2048 : Shape := ⟨3, ![4, 256, 2048]⟩
abbrev S4 : Shape := ⟨1, ![4]⟩
abbrev S1 : Shape := ⟨1, ![1]⟩
abbrev S1x256x2048 : Shape := ⟨3, ![1, 256, 2048]⟩
abbrev S256x2048 : Shape := ⟨2, ![256, 2048]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S2048, .f32⟩
  | .hbm, ⟨4, _⟩ => ⟨S1x2048, .f32⟩
  | .hbm, ⟨5, _⟩ => ⟨S_, .f32⟩
  | .hbm, ⟨6, _⟩ => ⟨S7x2048, .f32⟩
  | .hbm, ⟨7, _⟩ => ⟨S8x2048, .f32⟩
  | .hbm, ⟨8, _⟩ => ⟨S8192x2048, .f32⟩
  | .hbm, ⟨9, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S8x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | .local _ .vmem, ⟨9, _⟩ => ⟨S2048x2048, .bf16⟩
  | .local _ .vmem, ⟨10, _⟩ => ⟨S4x256x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceOddIdeal.lean ====
abbrev S8192x2048 : Shape := ⟨2, ![8192, 2048]⟩
abbrev S2x2048x2048 : Shape := ⟨3, ![2, 2048, 2048]⟩
abbrev S2048 : Shape := ⟨1, ![2048]⟩
abbrev S1x2048x2048 : Shape := ⟨3, ![1, 2048, 2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S2048, .f32⟩
  | .hbm, ⟨4, _⟩ => ⟨S8192x2048, .f32⟩
  | .hbm, ⟨5, _⟩ => ⟨S1x2048x2048, .f32⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== KernelLaterSsm.lean ====
abbrev S8192x2048 : Shape := ⟨2, ![8192, 2048]⟩
abbrev S2x2048x13536 : Shape := ⟨3, ![2, 2048, 13536]⟩
abbrev S2x13536x2048 : Shape := ⟨3, ![2, 13536, 2048]⟩
abbrev S8192x5120 : Shape := ⟨2, ![8192, 5120]⟩
abbrev S2048x2048 : Shape := ⟨2, ![2048, 2048]⟩
abbrev S1x512x2048 : Shape := ⟨3, ![1, 512, 2048]⟩
abbrev S2048x512 : Shape := ⟨2, ![2048, 512]⟩
abbrev S512x2048 : Shape := ⟨2, ![512, 2048]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2x2048x13536, .f32⟩
  | .hbm, ⟨2, _⟩ => ⟨S2x13536x2048, .f32⟩
  | .hbm, ⟨3, _⟩ => ⟨S8192x5120, .f32⟩
  | .local _ .vmem, ⟨0, _⟩ => ⟨S2048x2048, .bf16⟩
  | .local _ .vmem, ⟨1, _⟩ => ⟨S2048x2048, .bf16⟩
  | .local _ .vmem, ⟨2, _⟩ => ⟨S1x512x2048, .f32⟩
  | .local _ .vmem, ⟨3, _⟩ => ⟨S1x512x2048, .f32⟩
  | .local _ .vmem, ⟨4, _⟩ => ⟨S2048x512, .f32⟩
  | .local _ .vmem, ⟨5, _⟩ => ⟨S2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 10], ![false, false]⟩

def k0_mult1 (i : grid0.Coords) : BitVec 32 :=
  let c8384_i32 : BitVec 32 := 8384#32
  let arg1 : BitVec 32 := BitVec.ofNat 32 (i 1).val
  let c512_i32 : BitVec 32 := 512#32
  let v0 : BitVec 32 := Scalar.muli arg1 c512_i32
  let v1 : BitVec 32 := Scalar.addi c8384_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c8384_i32 : BitVec 32 := 8384#32
  let v1 : BitVec 32 := Scalar.addi c8384_i32 v0
  let v2 : BitVec 32 := v1
  let c1_i32 : BitVec 32 := 1#32
  let c0_i32 : BitVec 32 := 0#32
  let c0_i32_0 : BitVec 32 := 0#32
  ![c1_i32.toNat, v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceLaterSsmIdeal.lean ====
abbrev S8192x2048 : Shape := ⟨2, ![8192, 2048]⟩
abbrev S2x2048x13536 : Shape := ⟨3, ![2, 2048, 13536]⟩
abbrev S1x2048x13536 : Shape := ⟨3, ![1, 2048, 13536]⟩
abbrev S2048x13536 : Shape := ⟨2, ![2048, 13536]⟩
abbrev S8192x13536 : Shape := ⟨2, ![8192, 13536]⟩
abbrev S8192x5120 : Shape := ⟨2, ![8192, 5120]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x13536, .f32⟩
  | .hbm, ⟨2, _⟩ => ⟨S8192x2048, .f32⟩
  | .hbm, ⟨3, _⟩ => ⟨S1x2048x13536, .f32⟩
  | .hbm, ⟨4, _⟩ => ⟨S2048x13536, .f32⟩
  | .hbm, ⟨5, _⟩ => ⟨S8192x13536, .f32⟩
  | .hbm, ⟨6, _⟩ => ⟨S8192x5120, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelLaterSmall.lean ====
abbrev S8192x2048 : Shape := ⟨2, ![8192, 2048]⟩
abbrev S2x2048x13536 : Shape := ⟨3, ![2, 2048, 13536]⟩
abbrev S8384 : Shape := ⟨1, ![8384]⟩
abbrev S2x13536x2048 : Shape := ⟨3, ![2, 13536, 2048]⟩
abbrev S192 : Shape := ⟨1, ![192]⟩
abbrev S_ : Shape := ⟨0, ![]⟩
abbrev S320 : Shape := ⟨1, ![320]⟩
abbrev S512 : Shape := ⟨1, ![512]⟩
abbrev S1x512 : Shape := ⟨2, ![1, 512]⟩
abbrev S7x512 : Shape := ⟨2, ![7, 512]⟩
abbrev S8x512 : Shape := ⟨2, ![8, 512]⟩
abbrev S8192x512 : Shape := ⟨2, ![8192, 512]⟩
abbrev S2048x2048 : Shape := ⟨2, ![2048, 2048]⟩
abbrev S16x2048 : Shape := ⟨2, ![16, 2048]⟩
abbrev S1x256x2048 : Shape := ⟨3, ![1, 256, 2048]⟩
abbrev S8x256 : Shape := ⟨2, ![8, 256]⟩
abbrev S2048x256 : Shape := ⟨2, ![2048, 256]⟩
abbrev S256x2048 : Shape := ⟨2, ![256, 2048]⟩
abbrev S16x256 : Shape := ⟨2, ![16, 256]⟩
abbrev S1x256 : Shape := ⟨2, ![1, 256]⟩

abbrev nBuf : Space → Nat
  | .hbm => 13
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2x2048x13536, .f32⟩
  | .hbm, ⟨2, _⟩ => ⟨S8384, .f32⟩
  | .hbm, ⟨3, _⟩ => ⟨S2x13536x2048, .f32⟩
  | .hbm, ⟨4, _⟩ => ⟨S192, .f32⟩
  | .hbm, ⟨5, _⟩ => ⟨S_, .f32⟩
  | .hbm, ⟨6, _⟩ => ⟨S320, .f32⟩
  | .hbm, ⟨7, _⟩ => ⟨S512, .f32⟩
  | .hbm, ⟨8, _⟩ => ⟨S1x512, .f32⟩
  | .hbm, ⟨9, _⟩ => ⟨S_, .f32⟩
  | .hbm, ⟨10, _⟩ => ⟨S7x512, .f32⟩
  | .hbm, ⟨11, _⟩ => ⟨S8x512, .f32⟩
  | .hbm, ⟨12, _⟩ => ⟨S8192x512, .f32⟩
  | .local _ .vmem, ⟨0, _⟩ => ⟨S2048x2048, .bf16⟩
  | .local _ .vmem, ⟨1, _⟩ => ⟨S2048x2048, .bf16⟩
  | .local _ .vmem, ⟨2, _⟩ => ⟨S16x2048, .bf16⟩
  | .local _ .vmem, ⟨3, _⟩ => ⟨S16x2048, .bf16⟩
  | .local _ .vmem, ⟨4, _⟩ => ⟨S1x256x2048, .f32⟩
  | .local _ .vmem, ⟨5, _⟩ => ⟨S1x256x2048, .f32⟩
  | .local _ .vmem, ⟨6, _⟩ => ⟨S8x256, .f32⟩
  | .local _ .vmem, ⟨7, _⟩ => ⟨S8x256, .f32⟩
  | .local _ .vmem, ⟨8, _⟩ => ⟨S2048x256, .f32⟩
  | .local _ .vmem, ⟨9, _⟩ => ⟨S2048x256, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def k0_mult1 (i : grid0.Coords) : BitVec 32 :=
  let arg1 : BitVec 32 := BitVec.ofNat 32 (i 1).val
  let c0_i32 : BitVec 32 := 0#32
  let v0 : BitVec 1 := Scalar.cmpi .eq arg1 c0_i32
  let c8192_i32 : BitVec 32 := 8192#32
  let c13280_i32 : BitVec 32 := 13280#32
  let v1 : BitVec 32 := Scalar.select v0 c8192_i32 c13280_i32
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c8192_i32 : BitVec 32 := 8192#32
  let c13280_i32 : BitVec 32 := 13280#32
  let v1 : BitVec 32 := Scalar.select v0 c8192_i32 c13280_i32
  let v2 : BitVec 32 := v1
  let c1_i32 : BitVec 32 := 1#32
  let c0_i32_0 : BitVec 32 := 0#32
  let c0_i32_1 : BitVec 32 := 0#32
  ![c1_i32.toNat, v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceLaterSmallIdeal.lean ====
abbrev S8192x2048 : Shape := ⟨2, ![8192, 2048]⟩
abbrev S2x2048x13536 : Shape := ⟨3, ![2, 2048, 13536]⟩
abbrev S8384 : Shape := ⟨1, ![8384]⟩
abbrev S1x2048x13536 : Shape := ⟨3, ![1, 2048, 13536]⟩
abbrev S2048x13536 : Shape := ⟨2, ![2048, 13536]⟩
abbrev S8192x13536 : Shape := ⟨2, ![8192, 13536]⟩
abbrev S8192x8384 : Shape := ⟨2, ![8192, 8384]⟩
abbrev S_ : Shape := ⟨0, ![]⟩
abbrev S8193x8384 : Shape := ⟨2, ![8193, 8384]⟩
abbrev S1x8384 : Shape := ⟨2, ![1, 8384]⟩
abbrev S8192x192 : Shape := ⟨2, ![8192, 192]⟩
abbrev S8192x64 : Shape := ⟨2, ![8192, 64]⟩
abbrev S8192x256 : Shape := ⟨2, ![8192, 256]⟩
abbrev S8192x512 : Shape := ⟨2, ![8192, 512]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x13536, .f32⟩
  | .hbm, ⟨2, _⟩ => ⟨S8384, .f32⟩
  | .hbm, ⟨3, _⟩ => ⟨S8192x2048, .f32⟩
  | .hbm, ⟨4, _⟩ => ⟨S1x2048x13536, .f32⟩
  | .hbm, ⟨5, _⟩ => ⟨S2048x13536, .f32⟩
  | .hbm, ⟨6, _⟩ => ⟨S8192x13536, .f32⟩
  | .hbm, ⟨7, _⟩ => ⟨S8192x8384, .f32⟩
  | .hbm, ⟨8, _⟩ => ⟨S_, .i32⟩
  | .hbm, ⟨9, _⟩ => ⟨S_, .f32⟩
  | .hbm, ⟨10, _⟩ => ⟨S8193x8384, .f32⟩
  | .hbm, ⟨11, _⟩ => ⟨S8192x8384, .f32⟩
  | .hbm, ⟨12, _⟩ => ⟨S8192x8384, .f32⟩
  | .hbm, ⟨13, _⟩ => ⟨S1x8384, .f32⟩
  | .hbm, ⟨14, _⟩ => ⟨S8192x8384, .f32⟩
  | .hbm, ⟨15, _⟩ => ⟨S8192x8384, .f32⟩
  | .hbm, ⟨16, _⟩ => ⟨S8192x8384, .f32⟩
  | .hbm, ⟨17, _⟩ => ⟨S8192x192, .f32⟩
  | .hbm, ⟨18, _⟩ => ⟨S8192x64, .f32⟩
  | .hbm, ⟨19, _⟩ => ⟨S8192x256, .f32⟩
  | .hbm, ⟨20, _⟩ => ⟨S8192x512, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== KernelLaterGla.lean ====
abbrev S8192x2048 : Shape := ⟨2, ![8192, 2048]⟩
abbrev S2x2048x6160 : Shape := ⟨3, ![2, 2048, 6160]⟩
abbrev S2x6160x2048 : Shape := ⟨3, ![2, 6160, 2048]⟩
abbrev S8192x6144 : Shape := ⟨2, ![8192, 6144]⟩
abbrev S2048x2048 : Shape := ⟨2, ![2048, 2048]⟩
abbrev S1x512x2048 : Shape := ⟨3, ![1, 512, 2048]⟩
abbrev S2048x512 : Shape := ⟨2, ![2048, 512]⟩
abbrev S512x2048 : Shape := ⟨2, ![512, 2048]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2x2048x6160, .f32⟩
  | .hbm, ⟨2, _⟩ => ⟨S2x6160x2048, .f32⟩
  | .hbm, ⟨3, _⟩ => ⟨S8192x6144, .f32⟩
  | .local _ .vmem, ⟨0, _⟩ => ⟨S2048x2048, .bf16⟩
  | .local _ .vmem, ⟨1, _⟩ => ⟨S2048x2048, .bf16⟩
  | .local _ .vmem, ⟨2, _⟩ => ⟨S1x512x2048, .f32⟩
  | .local _ .vmem, ⟨3, _⟩ => ⟨S1x512x2048, .f32⟩
  | .local _ .vmem, ⟨4, _⟩ => ⟨S2048x512, .f32⟩
  | .local _ .vmem, ⟨5, _⟩ => ⟨S2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 12], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let v1 : BitVec 32 := v0
  let c1_i32 : BitVec 32 := 1#32
  let c0_i32 : BitVec 32 := 0#32
  let c0_i32_0 : BitVec 32 := 0#32
  ![c1_i32.toNat, v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceLaterGlaIdeal.lean ====
abbrev S8192x2048 : Shape := ⟨2, ![8192, 2048]⟩
abbrev S2x2048x6160 : Shape := ⟨3, ![2, 2048, 6160]⟩
abbrev S1x2048x6160 : Shape := ⟨3, ![1, 2048, 6160]⟩
abbrev S2048x6160 : Shape := ⟨2, ![2048, 6160]⟩
abbrev S8192x6160 : Shape := ⟨2, ![8192, 6160]⟩
abbrev S8192x6144 : Shape := ⟨2, ![8192, 6144]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x6160, .f32⟩
  | .hbm, ⟨2, _⟩ => ⟨S8192x2048, .f32⟩
  | .hbm, ⟨3, _⟩ => ⟨S1x2048x6160, .f32⟩
  | .hbm, ⟨4, _⟩ => ⟨S2048x6160, .f32⟩
  | .hbm, ⟨5, _⟩ => ⟨S8192x6160, .f32⟩
  | .hbm, ⟨6, _⟩ => ⟨S8192x6144, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelLaterDecay.lean ====
abbrev S8192x2048 : Shape := ⟨2, ![8192, 2048]⟩
abbrev S2x2048x6160 : Shape := ⟨3, ![2, 2048, 6160]⟩
abbrev S2x6160x2048 : Shape := ⟨3, ![2, 6160, 2048]⟩
abbrev S8192x128 : Shape := ⟨2, ![8192, 128]⟩
abbrev S2048x2048 : Shape := ⟨2, ![2048, 2048]⟩
abbrev S1x128x2048 : Shape := ⟨3, ![1, 128, 2048]⟩
abbrev S2048x128 : Shape := ⟨2, ![2048, 128]⟩
abbrev S128x2048 : Shape := ⟨2, ![128, 2048]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2x2048x6160, .f32⟩
  | .hbm, ⟨2, _⟩ => ⟨S2x6160x2048, .f32⟩
  | .hbm, ⟨3, _⟩ => ⟨S8192x128, .f32⟩
  | .local _ .vmem, ⟨0, _⟩ => ⟨S2048x2048, .bf16⟩
  | .local _ .vmem, ⟨1, _⟩ => ⟨S2048x2048, .bf16⟩
  | .local _ .vmem, ⟨2, _⟩ => ⟨S1x128x2048, .f32⟩
  | .local _ .vmem, ⟨3, _⟩ => ⟨S2048x128, .f32⟩
  | .local _ .vmem, ⟨4, _⟩ => ⟨S2048x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c6032_i32 : BitVec 32 := 6032#32
  let c0_i32 : BitVec 32 := 0#32
  let c0_i32_0 : BitVec 32 := 0#32
  ![c1_i32.toNat, c6032_i32.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceLaterDecayIdeal.lean ====
abbrev S8192x2048 : Shape := ⟨2, ![8192, 2048]⟩
abbrev S2x2048x6160 : Shape := ⟨3, ![2, 2048, 6160]⟩
abbrev S1x2048x6160 : Shape := ⟨3, ![1, 2048, 6160]⟩
abbrev S2048x6160 : Shape := ⟨2, ![2048, 6160]⟩
abbrev S8192x6160 : Shape := ⟨2, ![8192, 6160]⟩
abbrev S8192x128 : Shape := ⟨2, ![8192, 128]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x6160, .f32⟩
  | .hbm, ⟨2, _⟩ => ⟨S8192x2048, .f32⟩
  | .hbm, ⟨3, _⟩ => ⟨S1x2048x6160, .f32⟩
  | .hbm, ⟨4, _⟩ => ⟨S2048x6160, .f32⟩
  | .hbm, ⟨5, _⟩ => ⟨S8192x6160, .f32⟩
  | .hbm, ⟨6, _⟩ => ⟨S8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelLaterMix.lean ====
abbrev S8192x2048 : Shape := ⟨2, ![8192, 2048]⟩
abbrev S2x4096x2048 : Shape := ⟨3, ![2, 4096, 2048]⟩
abbrev S2048 : Shape := ⟨1, ![2048]⟩
abbrev S1x2048 : Shape := ⟨2, ![1, 2048]⟩
abbrev S_ : Shape := ⟨0, ![]⟩
abbrev S7x2048 : Shape := ⟨2, ![7, 2048]⟩
abbrev S8x2048 : Shape := ⟨2, ![8, 2048]⟩
abbrev S512x2048 : Shape := ⟨2, ![512, 2048]⟩
abbrev S4096x2048 : Shape := ⟨2, ![4096, 2048]⟩
abbrev S4x256x2048 : Shape := ⟨3, ![4, 256, 2048]⟩
abbrev S4 : Shape := ⟨1, ![4]⟩
abbrev S1 : Shape := ⟨1, ![1]⟩
abbrev S1x256x2048 : Shape := ⟨3, ![1, 256, 2048]⟩
abbrev S256x2048 : Shape := ⟨2, ![256, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2x4096x2048, .f32⟩
  | .hbm, ⟨3, _⟩ => ⟨S8192x2048, .f32⟩
  | .hbm, ⟨4, _⟩ => ⟨S2048, .f32⟩
  | .hbm, ⟨5, _⟩ => ⟨S1x2048, .f32⟩
  | .hbm, ⟨6, _⟩ => ⟨S_, .f32⟩
  | .hbm, ⟨7, _⟩ => ⟨S7x2048, .f32⟩
  | .hbm, ⟨8, _⟩ => ⟨S8x2048, .f32⟩
  | .hbm, ⟨9, _⟩ => ⟨S8192x2048, .f32⟩
  | .hbm, ⟨10, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S8x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S4096x2048, .bf16⟩
  | .local _ .vmem, ⟨12, _⟩ => ⟨S4x256x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceLaterMixIdeal.lean ====
abbrev S8192x2048 : Shape := ⟨2, ![8192, 2048]⟩
abbrev S2x4096x2048 : Shape := ⟨3, ![2, 4096, 2048]⟩
abbrev S2048 : Shape := ⟨1, ![2048]⟩
abbrev S8192x4096 : Shape := ⟨2, ![8192, 4096]⟩
abbrev S1x4096x2048 : Shape := ⟨3, ![1, 4096, 2048]⟩
abbrev S4096x2048 : Shape := ⟨2, ![4096, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2x4096x2048, .f32⟩
  | .hbm, ⟨3, _⟩ => ⟨S8192x2048, .f32⟩
  | .hbm, ⟨4, _⟩ => ⟨S2048, .f32⟩
  | .hbm, ⟨5, _⟩ => ⟨S8192x4096, .bf16⟩
  | .hbm, ⟨6, _⟩ => ⟨S8192x4096, .f32⟩
  | .hbm, ⟨7, _⟩ => ⟨S1x4096x2048, .f32⟩
  | .hbm, ⟨8, _⟩ => ⟨S4096x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== KernelNorm.lean ====
abbrev S8192x2048 : Shape := ⟨2, ![8192, 2048]⟩
abbrev S2048 : Shape := ⟨1, ![2048]⟩
abbrev S1x2048 : Shape := ⟨2, ![1, 2048]⟩
abbrev S_ : Shape := ⟨0, ![]⟩
abbrev S7x2048 : Shape := ⟨2, ![7, 2048]⟩
abbrev S8x2048 : Shape := ⟨2, ![8, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S_, .f32⟩
  | .hbm, ⟨4, _⟩ => ⟨S7x2048, .f32⟩
  | .hbm, ⟨5, _⟩ => ⟨S8x2048, .f32⟩
  | .hbm, ⟨6, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S8x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelAttn.lean ====
abbrev S8192x6144 : Shape := ⟨2, ![8192, 6144]⟩
abbrev S8192x128 : Shape := ⟨2, ![8192, 128]⟩
abbrev S16x1024 : Shape := ⟨2, ![16, 1024]⟩
abbrev S1024 : Shape := ⟨1, ![1024]⟩
abbrev S512 : Shape := ⟨1, ![512]⟩
abbrev S_ : Shape := ⟨0, ![]⟩
abbrev S112x1024 : Shape := ⟨2, ![112, 1024]⟩
abbrev S128x1024 : Shape := ⟨2, ![128, 1024]⟩
abbrev S1x1024 : Shape := ⟨2, ![1, 1024]⟩
abbrev S7x1024 : Shape := ⟨2, ![7, 1024]⟩
abbrev S8x1024 : Shape := ⟨2, ![8, 1024]⟩
abbrev S1x512 : Shape := ⟨2, ![1, 512]⟩
abbrev S7x512 : Shape := ⟨2, ![7, 512]⟩
abbrev S8x512 : Shape := ⟨2, ![8, 512]⟩
abbrev S8192x2048 : Shape := ⟨2, ![8192, 2048]⟩
abbrev S256x1024 : Shape := ⟨2, ![256, 1024]⟩
abbrev S256x2048 : Shape := ⟨2, ![256, 2048]⟩
abbrev S256x128 : Shape := ⟨2, ![256, 128]⟩
abbrev S4x512x256 : Shape := ⟨3, ![4, 512, 256]⟩
abbrev S128x128 : Shape := ⟨2, ![128, 128]⟩
abbrev S4x64x1024 : Shape := ⟨3, ![4, 64, 1024]⟩
abbrev S4x1x1024 : Shape := ⟨3, ![4, 1, 1024]⟩
abbrev S256x256 : Shape := ⟨2, ![256, 256]⟩
abbrev S256x512 : Shape := ⟨2, ![256, 512]⟩
abbrev S1x512x256 : Shape := ⟨3, ![1, 512, 256]⟩
abbrev S512x256 : Shape := ⟨2, ![512, 256]⟩
abbrev S64x256 : Shape := ⟨2, ![64, 256]⟩
abbrev S64x512 : Shape := ⟨2, ![64, 512]⟩
abbrev S1x256 : Shape := ⟨2, ![1, 256]⟩
abbrev S256 : Shape := ⟨1, ![256]⟩
abbrev S256x1 : Shape := ⟨2, ![256, 1]⟩

abbrev nBuf : Space → Nat
  | .hbm => 17
  | .vmem => 17
  | .smem => 0
  | _ => 0

abbrev bufTy : (tb : Table) → Fin (tcTables nBuf tb) → BufTy
  | .hbm, ⟨0, _⟩ => ⟨S8192x6144, .f32⟩
  | .hbm, ⟨1, _⟩ => ⟨S8192x128, .f32⟩
  | .hbm, ⟨2, _⟩ => ⟨S16x1024, .f32⟩
  | .hbm, ⟨3, _⟩ => ⟨S1024, .f32⟩
  | .hbm, ⟨4, _⟩ => ⟨S512, .f32⟩
  | .hbm, ⟨5, _⟩ => ⟨S_, .f32⟩
  | .hbm, ⟨6, _⟩ => ⟨S112x1024, .f32⟩
  | .hbm, ⟨7, _⟩ => ⟨S128x1024, .f32⟩
  | .hbm, ⟨8, _⟩ => ⟨S1x1024, .f32⟩
  | .hbm, ⟨9, _⟩ => ⟨S_, .f32⟩
  | .hbm, ⟨10, _⟩ => ⟨S7x1024, .f32⟩
  | .hbm, ⟨11, _⟩ => ⟨S8x1024, .f32⟩
  | .hbm, ⟨12, _⟩ => ⟨S1x512, .f32⟩
  | .hbm, ⟨13, _⟩ => ⟨S_, .f32⟩
  | .hbm, ⟨14, _⟩ => ⟨S7x512, .f32⟩
  | .hbm, ⟨15, _⟩ => ⟨S8x512, .f32⟩
  | .hbm, ⟨16, _⟩ => ⟨S8192x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x128, .f32⟩
  | .local _ .vmem, ⟨9, _⟩ => ⟨S256x128, .f32⟩
  | .local _ .vmem, ⟨10, _⟩ => ⟨S128x1024, .f32⟩
  | .local _ .vmem, ⟨11, _⟩ => ⟨S8x1024, .f32⟩
  | .local _ .vmem, ⟨12, _⟩ => ⟨S8x512, .f32⟩
  | .local _ .vmem, ⟨13, _⟩ => ⟨S256x2048, .bf16⟩
  | .local _ .vmem, ⟨14, _⟩ => ⟨S256x2048, .bf16⟩
  | .local _ .vmem, ⟨15, _⟩ => ⟨S4x512x256, .f32⟩
  | .local _ .vmem, ⟨16, _⟩ => ⟨S256x2048, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceAttnIdeal.lean ====
abbrev S8192x6144 : Shape := ⟨2, ![8192, 6144]⟩
abbrev S8192x128 : Shape := ⟨2, ![8192, 128]⟩
abbrev S16x1024 : Shape := ⟨2, ![16, 1024]⟩
abbrev S1024 : Shape := ⟨1, ![1024]⟩
abbrev S512 : Shape := ⟨1, ![512]⟩
abbrev S8192x1024 : Shape := ⟨2, ![8192, 1024]⟩
abbrev S_ : Shape := ⟨0, ![]⟩
abbrev S8192x4x256 : Shape := ⟨3, ![8192, 4, 256]⟩
abbrev S8192x2048 : Shape := ⟨2, ![8192, 2048]⟩
abbrev S8192x4x512 : Shape := ⟨3, ![8192, 4, 512]⟩
abbrev S8192x16 : Shape := ⟨2, ![8192, 16]⟩
abbrev S1x1024 : Shape := ⟨2, ![1, 1024]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S4x8192x8192 : Shape := ⟨3, ![4, 8192, 8192]⟩
abbrev S4x512x8192 : Shape := ⟨3, ![4, 512, 8192]⟩
abbrev S8192x4 : Shape := ⟨2, ![8192, 4]⟩
abbrev S8192x4x1 : Shape := ⟨3, ![8192, 4, 1]⟩
abbrev S1x1x512 : Shape := ⟨3, ![1, 1, 512]⟩

abbrev nBuf : Space → Nat
  | .hbm => 78
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S8192x128, .f32⟩
  | .hbm, ⟨2, _⟩ => ⟨S16x1024, .f32⟩
  | .hbm, ⟨3, _⟩ => ⟨S1024, .f32⟩
  | .hbm, ⟨4, _⟩ => ⟨S512, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x4x256, .f32⟩
  | .hbm, ⟨10, _⟩ => ⟨S8192x1024, .f32⟩
  | .hbm, ⟨11, _⟩ => ⟨S8192x4x256, .f32⟩
  | .hbm, ⟨12, _⟩ => ⟨S8192x2048, .f32⟩
  | .hbm, ⟨13, _⟩ => ⟨S8192x4x512, .f32⟩
  | .hbm, ⟨14, _⟩ => ⟨S8192x2048, .f32⟩
  | .hbm, ⟨15, _⟩ => ⟨S8192x4x512, .f32⟩
  | .hbm, ⟨16, _⟩ => ⟨S8192x16, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192, .i32⟩
  | .hbm, ⟨29, _⟩ => ⟨S8192x1, .i32⟩
  | .hbm, ⟨30, _⟩ => ⟨S1x8192, .i32⟩
  | .hbm, ⟨31, _⟩ => ⟨S8192x8192, .i32⟩
  | .hbm, ⟨32, _⟩ => ⟨S8192x8192, .i32⟩
  | .hbm, ⟨33, _⟩ => ⟨S8192x8192, .i1⟩
  | .hbm, ⟨34, _⟩ => ⟨S8192x8192, .f32⟩
  | .hbm, ⟨35, _⟩ => ⟨S8192x1024, .f32⟩
  | .hbm, ⟨36, _⟩ => ⟨S8192x4x256, .f32⟩
  | .hbm, ⟨37, _⟩ => ⟨S8192x4x256, .f32⟩
  | .hbm, ⟨38, _⟩ => ⟨S8192x4x256, .f32⟩
  | .hbm, ⟨39, _⟩ => ⟨S8192x4x256, .f32⟩
  | .hbm, ⟨40, _⟩ => ⟨S8192x4x256, .f32⟩
  | .hbm, ⟨41, _⟩ => ⟨S8192x4x256, .f32⟩
  | .hbm, ⟨42, _⟩ => ⟨S4x8192x8192, .f32⟩
  | .hbm, ⟨43, _⟩ => ⟨S_, .f32⟩
  | .hbm, ⟨44, _⟩ => ⟨S_, .f32⟩
  | .hbm, ⟨45, _⟩ => ⟨S4x8192x8192, .i1⟩
  | .hbm, ⟨46, _⟩ => ⟨S4x8192x8192, .f32⟩
  | .hbm, ⟨47, _⟩ => ⟨S4x8192x8192, .f32⟩
  | .hbm, ⟨48, _⟩ => ⟨S4x512x8192, .f32⟩
  | .hbm, ⟨49, _⟩ => ⟨S8192x4x512, .f32⟩
  | .hbm, ⟨50, _⟩ => ⟨S8192x4x512, .f32⟩
  | .hbm, ⟨51, _⟩ => ⟨S_, .f32⟩
  | .hbm, ⟨52, _⟩ => ⟨S8192x4, .f32⟩
  | .hbm, ⟨53, _⟩ => ⟨S8192x4x1, .f32⟩
  | .hbm, ⟨54, _⟩ => ⟨S_, .f32⟩
  | .hbm, ⟨55, _⟩ => ⟨S8192x4x1, .f32⟩
  | .hbm, ⟨56, _⟩ => ⟨S8192x4x1, .f32⟩
  | .hbm, ⟨57, _⟩ => ⟨S_, .f32⟩
  | .hbm, ⟨58, _⟩ => ⟨S8192x4x1, .f32⟩
  | .hbm, ⟨59, _⟩ => ⟨S8192x4x1, .f32⟩
  | .hbm, ⟨60, _⟩ => ⟨S8192x4x1, .f32⟩
  | .hbm, ⟨61, _⟩ => ⟨S8192x4x512, .f32⟩
  | .hbm, ⟨62, _⟩ => ⟨S8192x4x512, .f32⟩
  | .hbm, ⟨63, _⟩ => ⟨S1x1x512, .f32⟩
  | .hbm, ⟨64, _⟩ => ⟨S8192x4x512, .f32⟩
  | .hbm, ⟨65, _⟩ => ⟨S8192x4x512, .f32⟩
  | .hbm, ⟨66, _⟩ => ⟨S8192x4x512, .f32⟩
  | .hbm, ⟨67, _⟩ => ⟨S8192x4x512, .f32⟩
  | .hbm, ⟨68, _⟩ => ⟨S_, .f32⟩
  | .hbm, ⟨69, _⟩ => ⟨S8192x4x512, .f32⟩
  | .hbm, ⟨70, _⟩ => ⟨S8192x4x512, .f32⟩
  | .hbm, ⟨71, _⟩ => ⟨S_, .f32⟩
  | .hbm, ⟨72, _⟩ => ⟨S8192x4x512, .f32⟩
  | .hbm, ⟨73, _⟩ => ⟨S8192x4x512, .f32⟩
  | .hbm, ⟨74, _⟩ => ⟨S8192x4x512, .f32⟩
  | .hbm, ⟨75, _⟩ => ⟨S8192x4x512, .f32⟩
  | .hbm, ⟨76, _⟩ => ⟨S8192x2048, .f32⟩
  | .hbm, ⟨77, _⟩ => ⟨S8192x2048, .bf16⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_1 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_2 : Ref sig .tc := ⟨.hbm, 51, rfl⟩
abbrev main_v40 : Ref sig .tc := ⟨.hbm, 52, rfl⟩
abbrev main_v41 : Ref sig .tc := ⟨.hbm, 53, rfl⟩
abbrev main_cst_3 : Ref sig .tc := ⟨.hbm, 54, rfl⟩
abbrev main_v42 : Ref sig .tc := ⟨.hbm, 55, rfl⟩
abbrev main_v43 : Ref sig .tc := ⟨.hbm, 56, rfl⟩
abbrev main_cst_4 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_5 : Ref sig .tc := ⟨.hbm, 68, rfl⟩
abbrev main_v54 : Ref sig .tc := ⟨.hbm, 69, rfl⟩
abbrev main_v55 : Ref sig .tc := ⟨.hbm, 70, rfl⟩
abbrev main_cst_6 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩

abbrev nD : Nat := 1
abbrev τ : Topo := Topo.v7x

variable {F : FTy → Type} [FloatOps F]
-- ==== KernelSsd.lean ====
abbrev S8192x5120 : Shape := ⟨2, ![8192, 5120]⟩
abbrev S8192x512 : Shape := ⟨2, ![8192, 512]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S1x3072 : Shape := ⟨2, ![1, 3072]⟩
abbrev S_ : Shape := ⟨0, ![]⟩
abbrev S3x3072 : Shape := ⟨2, ![3, 3072]⟩
abbrev S8x3072 : Shape := ⟨2, ![8, 3072]⟩
abbrev S96 : Shape := ⟨1, ![96]⟩
abbrev S128 : Shape := ⟨1, ![128]⟩
abbrev S1x128 : Shape := ⟨2, ![1, 128]⟩
abbrev S6x128 : Shape := ⟨2, ![6, 128]⟩
abbrev S8x128 : Shape := ⟨2, ![8, 128]⟩
abbrev S32x64 : Shape := ⟨2, ![32, 64]⟩
abbrev S1x2048 : Shape := ⟨2, ![1, 2048]⟩
abbrev S7x2048 : Shape := ⟨2, ![7, 2048]⟩
abbrev S8x2048 : Shape := ⟨2, ![8, 2048]⟩
abbrev S8192x2048 : Shape := ⟨2, ![8192, 2048]⟩
abbrev S128x2048 : Shape := ⟨2, ![128, 2048]⟩
abbrev S128x512 : Shape := ⟨2, ![128, 512]⟩
abbrev S128x128 : Shape := ⟨2, ![128, 128]⟩
abbrev S8x512 : Shape := ⟨2, ![8, 512]⟩
abbrev S136x2048 : Shape := ⟨2, ![136, 2048]⟩
abbrev S136x512 : Shape := ⟨2, ![136, 512]⟩
abbrev S1x512 : Shape := ⟨2, ![1, 512]⟩
abbrev S16x128 : Shape := ⟨2, ![16, 128]⟩
abbrev S416x128 : Shape := ⟨2, ![416, 128]⟩
abbrev S416x2048 : Shape := ⟨2, ![416, 2048]⟩
abbrev S16x2048 : Shape := ⟨2, ![16, 2048]⟩
abbrev S128x1 : Shape := ⟨2, ![128, 1]⟩
abbrev S128x64 : Shape := ⟨2, ![128, 64]⟩

abbrev nBuf : Space → Nat
  | .hbm => 32
  | .vmem => 29
  | .smem => 0
  | _ => 0

abbrev bufTy : (tb : Table) → Fin (tcTables nBuf tb) → BufTy
  | .hbm, ⟨0, _⟩ => ⟨S8192x5120, .f32⟩
  | .hbm, ⟨1, _⟩ => ⟨S8192x512, .f32⟩
  | .hbm, ⟨2, _⟩ => ⟨S4x3072, .f32⟩
  | .hbm, ⟨3, _⟩ => ⟨S3072, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S2048, .f32⟩
  | .hbm, ⟨8, _⟩ => ⟨S1x3072, .f32⟩
  | .hbm, ⟨9, _⟩ => ⟨S_, .f32⟩
  | .hbm, ⟨10, _⟩ => ⟨S3x3072, .f32⟩
  | .hbm, ⟨11, _⟩ => ⟨S8x3072, .f32⟩
  | .hbm, ⟨12, _⟩ => ⟨S_, .f32⟩
  | .hbm, ⟨13, _⟩ => ⟨S96, .f32⟩
  | .hbm, ⟨14, _⟩ => ⟨S128, .f32⟩
  | .hbm, ⟨15, _⟩ => ⟨S128, .f32⟩
  | .hbm, ⟨16, _⟩ => ⟨S1x128, .f32⟩
  | .hbm, ⟨17, _⟩ => ⟨S1x128, .f32⟩
  | .hbm, ⟨18, _⟩ => ⟨S_, .f32⟩
  | .hbm, ⟨19, _⟩ => ⟨S6x128, .f32⟩
  | .hbm, ⟨20, _⟩ => ⟨S8x128, .f32⟩
  | .hbm, ⟨21, _⟩ => ⟨S32x64, .f32⟩
  | .hbm, ⟨22, _⟩ => ⟨S2048, .f32⟩
  | .hbm, ⟨23, _⟩ => ⟨S1x2048, .f32⟩
  | .hbm, ⟨24, _⟩ => ⟨S_, .f32⟩
  | .hbm, ⟨25, _⟩ => ⟨S7x2048, .f32⟩
  | .hbm, ⟨26, _⟩ => ⟨S8x2048, .f32⟩
  | .hbm, ⟨27, _⟩ => ⟨S1x2048, .f32⟩
  | .hbm, ⟨28, _⟩ => ⟨S_, .f32⟩
  | .hbm, ⟨29, _⟩ => ⟨S7x2048, .f32⟩
  | .hbm, ⟨30, _⟩ => ⟨S8x2048, .f32⟩
  | .hbm, ⟨31, _⟩ => ⟨S8192x2048, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x128, .f32⟩
  | .local _ .vmem, ⟨9, _⟩ => ⟨S128x128, .f32⟩
  | .local _ .vmem, ⟨10, _⟩ => ⟨S8x2048, .f32⟩
  | .local _ .vmem, ⟨11, _⟩ => ⟨S8x2048, .f32⟩
  | .local _ .vmem, ⟨12, _⟩ => ⟨S8x512, .f32⟩
  | .local _ .vmem, ⟨13, _⟩ => ⟨S8x512, .f32⟩
  | .local _ .vmem, ⟨14, _⟩ => ⟨S8x512, .f32⟩
  | .local _ .vmem, ⟨15, _⟩ => ⟨S8x512, .f32⟩
  | .local _ .vmem, ⟨16, _⟩ => ⟨S8x2048, .f32⟩
  | .local _ .vmem, ⟨17, _⟩ => ⟨S8x512, .f32⟩
  | .local _ .vmem, ⟨18, _⟩ => ⟨S8x512, .f32⟩
  | .local _ .vmem, ⟨19, _⟩ => ⟨S8x128, .f32⟩
  | .local _ .vmem, ⟨20, _⟩ => ⟨S8x2048, .f32⟩
  | .local _ .vmem, ⟨21, _⟩ => ⟨S8x2048, .f32⟩
  | .local _ .vmem, ⟨22, _⟩ => ⟨S128x2048, .bf16⟩
  | .local _ .vmem, ⟨23, _⟩ => ⟨S128x2048, .bf16⟩
  | .local _ .vmem, ⟨24, _⟩ => ⟨S128x2048, .f32⟩
  | .local _ .vmem, ⟨25, _⟩ => ⟨S136x2048, .f32⟩
  | .local _ .vmem, ⟨26, _⟩ => ⟨S136x512, .f32⟩
  | .local _ .vmem, ⟨27, _⟩ => ⟨S136x512, .f32⟩
  | .local _ .vmem, ⟨28, _⟩ => ⟨S128x2048, .f32⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_6 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let c0_i32_0 : BitVec 32 := 0#32
  ![v2.toNat, c8_i32.toNat]

def cc0_transform_7 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c9_i32 : BitVec 32 := 9#32
  let c0_i32_0 : BitVec 32 := 0#32
  ![v2.toNat, c9_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_10 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S128x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceSsdIdeal.lean ====
abbrev S8192x5120 : Shape := ⟨2, ![8192, 5120]⟩
abbrev S8192x512 : Shape := ⟨2, ![8192, 512]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S8192x2048 : Shape := ⟨2, ![8192, 2048]⟩
abbrev S_ : Shape := ⟨0, ![]⟩
abbrev S3x3072 : Shape := ⟨2, ![3, 3072]⟩
abbrev S8192x3072 : Shape := ⟨2, ![8192, 3072]⟩
abbrev S8195x3072 : Shape := ⟨2, ![8195, 3072]⟩
abbrev S1x3072 : Shape := ⟨2, ![1, 3072]⟩
abbrev S8192x32x64 : Shape := ⟨3, ![8192, 32, 64]⟩
abbrev S8192x4x128 : Shape := ⟨3, ![8192, 4, 128]⟩
abbrev S8192x32 : Shape := ⟨2, ![8192, 32]⟩
abbrev S1x32 : Shape := ⟨2, ![1, 32]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8192x32x1 : Shape := ⟨3, ![8192, 32, 1]⟩
abbrev S8192x4x512 : Shape := ⟨3, ![8192, 4, 512]⟩
abbrev S4x8192x8192 : Shape := ⟨3, ![4, 8192, 8192]⟩
abbrev S4x512x8192 : Shape := ⟨3, ![4, 512, 8192]⟩
abbrev S32x1 : Shape := ⟨2, ![32, 1]⟩
abbrev S1x32x1 : Shape := ⟨3, ![1, 32, 1]⟩
abbrev S8192x4 : Shape := ⟨2, ![8192, 4]⟩
abbrev S8192x4x1 : Shape := ⟨3, ![8192, 4, 1]⟩
abbrev S1x2048 : Shape := ⟨2, ![1, 2048]⟩

abbrev nBuf : Space → Nat
  | .hbm => 138
  | .vmem => 0
  | .smem => 0
  | _ => 0

abbrev hbmTy0_0 (i : Nat) : BufTy := match i % 128 with
  | 0 => ⟨S8192x5120, .f32⟩
  | 1 => ⟨S8192x512, .f32⟩
  | 2 => ⟨S4x3072, .f32⟩
  | 3 => ⟨S3072, .f32⟩
  | 4 => ⟨S32, .f32⟩
  | 5 => ⟨S32, .f32⟩
  | 6 => ⟨S32, .f32⟩
  | 7 => ⟨S2048, .f32⟩
  | 8 => ⟨S8192x2048, .f32⟩
  | 9 => ⟨S_, .f32⟩
  | 10 => ⟨S3x3072, .f32⟩
  | 11 => ⟨S8192x3072, .f32⟩
  | 12 => ⟨S8195x3072, .f32⟩
  | 13 => ⟨S8192x3072, .f32⟩
  | 14 => ⟨S1x3072, .f32⟩
  | 15 => ⟨S3072, .f32⟩
  | 16 => ⟨S1x3072, .f32⟩
  | 17 => ⟨S8192x3072, .f32⟩
  | 18 => ⟨S8192x3072, .f32⟩
  | 19 => ⟨S_, .f32⟩
  | 20 => ⟨S8192x3072, .f32⟩
  | 21 => ⟨S8192x3072, .f32⟩
  | 22 => ⟨S8192x3072, .f32⟩
  | 23 => ⟨S1x3072, .f32⟩
  | 24 => ⟨S3072, .f32⟩
  | 25 => ⟨S1x3072, .f32⟩
  | 26 => ⟨S8192x3072, .f32⟩
  | 27 => ⟨S8192x3072, .f32⟩
  | 28 => ⟨S8192x3072, .f32⟩
  | 29 => ⟨S8192x3072, .f32⟩
  | 30 => ⟨S1x3072, .f32⟩
  | 31 => ⟨S3072, .f32⟩
  | 32 => ⟨S1x3072, .f32⟩
  | 33 => ⟨S8192x3072, .f32⟩
  | 34 => ⟨S8192x3072, .f32⟩
  | 35 => ⟨S8192x3072, .f32⟩
  | 36 => ⟨S8192x3072, .f32⟩
  | 37 => ⟨S1x3072, .f32⟩
  | 38 => ⟨S3072, .f32⟩
  | 39 => ⟨S1x3072, .f32⟩
  | 40 => ⟨S8192x3072, .f32⟩
  | 41 => ⟨S8192x3072, .f32⟩
  | 42 => ⟨S8192x3072, .f32⟩
  | 43 => ⟨S1x3072, .f32⟩
  | 44 => ⟨S8192x3072, .f32⟩
  | 45 => ⟨S8192x3072, .f32⟩
  | 46 => ⟨S8192x3072, .f32⟩
  | 47 => ⟨S8192x3072, .f32⟩
  | 48 => ⟨S_, .f32⟩
  | 49 => ⟨S8192x3072, .f32⟩
  | 50 => ⟨S8192x3072, .f32⟩
  | 51 => ⟨S_, .f32⟩
  | 52 => ⟨S8192x3072, .f32⟩
  | 53 => ⟨S8192x3072, .f32⟩
  | 54 => ⟨S8192x3072, .f32⟩
  | 55 => ⟨S8192x2048, .f32⟩
  | 56 => ⟨S8192x32x64, .f32⟩
  | 57 => ⟨S8192x512, .f32⟩
  | 58 => ⟨S8192x4x128, .f32⟩
  | 59 => ⟨S8192x512, .f32⟩
  | 60 => ⟨S8192x4x128, .f32⟩
  | 61 => ⟨S8192x32, .f32⟩
  | 62 => ⟨S1x32, .f32⟩
  | 63 => ⟨S8192x32, .f32⟩
  | 64 => ⟨S8192x32, .f32⟩
  | 65 => ⟨S8192x32, .f32⟩
  | 66 => ⟨S8192x32, .f32⟩
  | 67 => ⟨S8192, .i32⟩
  | 68 => ⟨S8192x1, .i32⟩
  | 69 => ⟨S1x8192, .i32⟩
  | 70 => ⟨S8192x8192, .i32⟩
  | 71 => ⟨S8192x8192, .i32⟩
  | 72 => ⟨S8192x8192, .i1⟩
  | 73 => ⟨S8192x8192, .f32⟩
  | 74 => ⟨S32, .f32⟩
  | 75 => ⟨S32, .f32⟩
  | 76 => ⟨S1x32, .f32⟩
  | 77 => ⟨S8192x32, .f32⟩
  | 78 => ⟨S8192x32, .f32⟩
  | 79 => ⟨S8192x32, .f32⟩
  | 80 => ⟨S8192x32, .f32⟩
  | 81 => ⟨S8192x32, .f32⟩
  | 82 => ⟨S8192x32, .f32⟩
  | 83 => ⟨S8192x32x1, .f32⟩
  | 84 => ⟨S8192x32x64, .f32⟩
  | 85 => ⟨S8192x32x64, .f32⟩
  | 86 => ⟨S8192x4x512, .f32⟩
  | 87 => ⟨S4x8192x8192, .f32⟩
  | 88 => ⟨S_, .f32⟩
  | 89 => ⟨S_, .f32⟩
  | 90 => ⟨S4x8192x8192, .i1⟩
  | 91 => ⟨S4x8192x8192, .f32⟩
  | 92 => ⟨S4x8192x8192, .f32⟩
  | 93 => ⟨S4x512x8192, .f32⟩
  | 94 => ⟨S8192x4x512, .f32⟩
  | 95 => ⟨S8192x32x64, .f32⟩
  | 96 => ⟨S8192x32, .f32⟩
  | 97 => ⟨S8192x32x1, .f32⟩
  | 98 => ⟨S8192x32x64, .f32⟩
  | 99 => ⟨S8192x32x64, .f32⟩
  | 100 => ⟨S32x1, .f32⟩
  | 101 => ⟨S1x32x1, .f32⟩
  | 102 => ⟨S8192x32x64, .f32⟩
  | 103 => ⟨S8192x32x64, .f32⟩
  | 104 => ⟨S8192x32x64, .f32⟩
  | 105 => ⟨S8192x2048, .f32⟩
  | 106 => ⟨S8192x2048, .f32⟩
  | 107 => ⟨S8192x2048, .f32⟩
  | 108 => ⟨S_, .f32⟩
  | 109 => ⟨S8192x2048, .f32⟩
  | 110 => ⟨S8192x2048, .f32⟩
  | 111 => ⟨S_, .f32⟩
  | 112 => ⟨S8192x2048, .f32⟩
  | 113 => ⟨S8192x2048, .f32⟩
  | 114 => ⟨S8192x2048, .f32⟩
  | 115 => ⟨S8192x2048, .f32⟩
  | 116 => ⟨S8192x4x512, .f32⟩
  | 117 => ⟨S8192x4x512, .f32⟩
  | 118 => ⟨S_, .f32⟩
  | 119 => ⟨S8192x4, .f32⟩
  | 120 => ⟨S8192x4x1, .f32⟩
  | 121 => ⟨S_, .f32⟩
  | 122 => ⟨S8192x4x1, .f32⟩
  | 123 => ⟨S8192x4x1, .f32⟩
  | 124 => ⟨S_, .f32⟩
  | 125 => ⟨S8192x4x1, .f32⟩
  | 126 => ⟨S8192x4x1, .f32⟩
  | 127 => ⟨S8192x4x1, .f32⟩
  | _ => ⟨S8192x5120, .f32⟩

abbrev hbmTy0_1 (i : Nat) : BufTy := match i % 128 with
  | 0 => ⟨S8192x4x512, .f32⟩
  | 1 => ⟨S8192x4x512, .f32⟩
  | 2 => ⟨S_, .f32⟩
  | 3 => ⟨S8192x4x512, .f32⟩
  | 4 => ⟨S8192x4x512, .f32⟩
  | 5 => ⟨S8192x2048, .f32⟩
  | 6 => ⟨S1x2048, .f32⟩
  | 7 => ⟨S8192x2048, .f32⟩
  | 8 => ⟨S8192x2048, .f32⟩
  | 9 => ⟨S8192x2048, .bf16⟩
  | _ => ⟨S8192x5120, .f32⟩

abbrev hbmTy (i : Nat) : BufTy := match i / 128 with
  | 0 => hbmTy0_0 i
  | 1 => hbmTy0_1 i
  | _ => ⟨S8192x5120, .f32⟩

abbrev bufTy : (tb : Table) → Fin (tcTables nBuf tb) → BufTy
  | .hbm, ⟨i, _⟩ => hbmTy i
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_1 : Ref sig .tc := ⟨.hbm, 48, rfl⟩
abbrev main_v38 : Ref sig .tc := ⟨.hbm, 49, rfl⟩
abbrev main_v39 : Ref sig .tc := ⟨.hbm, 50, rfl⟩
abbrev main_cst_2 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_cst_3 : Ref sig .tc := ⟨.hbm, 88, rfl⟩
abbrev main_call0_v0 : Ref sig .tc := ⟨.hbm, 89, rfl⟩
abbrev main_call0_v1 : Ref sig .tc := ⟨.hbm, 90, rfl⟩
abbrev main_call0_v2 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_cst_4 : Ref sig .tc := ⟨.hbm, 108, rfl⟩
abbrev main_v92 : Ref sig .tc := ⟨.hbm, 109, rfl⟩
abbrev main_v93 : Ref sig .tc := ⟨.hbm, 110, rfl⟩
abbrev main_cst_5 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_cst_6 : Ref sig .tc := ⟨.hbm, 118, rfl⟩
abbrev main_v100 : Ref sig .tc := ⟨.hbm, 119, rfl⟩
abbrev main_v101 : Ref sig .tc := ⟨.hbm, 120, rfl⟩
abbrev main_cst_7 : Ref sig .tc := ⟨.hbm, 121, rfl⟩
abbrev main_v102 : Ref sig .tc := ⟨.hbm, 122, rfl⟩
abbrev main_v103 : Ref sig .tc := ⟨.hbm, 123, rfl⟩
abbrev main_cst_8 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_cst_9 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩

abbrev nD : Nat := 1
abbrev τ : Topo := Topo.v7x

variable {F : FTy → Type} [FloatOps F]
-- ==== Proof.Lin.lean ====
/-
  What the projection calls compute, written once over natural coordinates. An array read at natural coordinates
  (`at1`, `at2`, `at3`: zero outside the array) makes every index equation of the proofs an equation of naturals;
  `lin` is one entry of a token's projection, `shifted` the same entry mixed with the previous token's by the token
  shift. The matmul of a block against a transposed weight block is read here as the sum over the model dimension.
-/
module

public import Idealize.ShloMosaic.Lib.MatmulPlain
public import Idealize.ShloMosaic.Lib.ValueIdx
public import Idealize.ShloMosaic.Lib.KernelVsHost
public import Idealize.ShloMosaic.Lib.WordCmp
public import Idealize.ShloMosaic.Lib.Pipeline.Value
public import Idealize.ShloMosaic.PureOps.Ideal.Laws

@[expose] public section

noncomputable section

open scoped BigOperators

namespace Cert.Lin

open Idealize.ShloMosaic Idealize.ShloMosaic.ValueIdx

/-! ## Arrays at natural coordinates -/

/-- A vector at a natural coordinate, zero outside. -/
def at1 {a : ℕ} (x : (⟨1, ![a]⟩ : Shape).Idx → EReal) (i : ℕ) : EReal :=
  if h : i < a then x (ix1 ⟨i, h⟩) else 0
/-- A matrix at natural coordinates, zero outside. -/
def at2 {a b : ℕ} (x : (⟨2, ![a, b]⟩ : Shape).Idx → EReal) (i j : ℕ) : EReal :=
  if h : i < a ∧ j < b then x (ix2 ⟨i, h.1⟩ ⟨j, h.2⟩) else 0
/-- A stack of matrices at natural coordinates, zero outside. -/
def at3 {a b c : ℕ} (x : (⟨3, ![a, b, c]⟩ : Shape).Idx → EReal) (i j k : ℕ) : EReal :=
  if h : i < a ∧ j < b ∧ k < c then x (ix3 ⟨i, h.1⟩ ⟨j, h.2.1⟩ ⟨k, h.2.2⟩) else 0

/-- An element of a vector is the vector at its coordinate. -/
theorem at1_eq {a : ℕ} (x : (⟨1, ![a]⟩ : Shape).Idx → EReal) (y : (⟨1, ![a]⟩ : Shape).Idx) {i : ℕ}
    (hi : (y 0).val = i) : x y = at1 x i := by
  subst hi
  have h : (y 0).val < a := (y 0).isLt
  unfold at1
  rw [dif_pos h]
  exact congrArg x (funext fun d => match d with | ⟨0, _⟩ => rfl)
/-- An element of a matrix is the matrix at its coordinates. -/
theorem at2_eq {a b : ℕ} (x : (⟨2, ![a, b]⟩ : Shape).Idx → EReal) (y : (⟨2, ![a, b]⟩ : Shape).Idx) {i j : ℕ}
    (hi : (y 0).val = i) (hj : (y 1).val = j) : x y = at2 x i j := by
  subst hi hj
  have h : (y 0).val < a ∧ (y 1).val < b := ⟨(y 0).isLt, (y 1).isLt⟩
  unfold at2
  rw [dif_pos h]
  exact congrArg x (funext fun d => match d with | ⟨0, _⟩ => rfl | ⟨1, _⟩ => rfl)
/-- An element of a stack is the stack at its coordinates. -/
theorem at3_eq {a b c : ℕ} (x : (⟨3, ![a, b, c]⟩ : Shape).Idx → EReal) (y : (⟨3, ![a, b, c]⟩ : Shape).Idx) {i j k : ℕ}
    (hi : (y 0).val = i) (hj : (y 1).val = j) (hk : (y 2).val = k) : x y = at3 x i j k := by
  subst hi hj hk
  have h : (y 0).val < a ∧ (y 1).val < b ∧ (y 2).val < c := ⟨(y 0).isLt, (y 1).isLt, (y 2).isLt⟩
  unfold at3
  rw [dif_pos h]
  exact congrArg x (funext fun d => match d with | ⟨0, _⟩ => rfl | ⟨1, _⟩ => rfl | ⟨2, _⟩ => rfl)

/-! ## One entry of a projection -/

/-- Entry `(t, n)` of `h @ w[l]`. -/
def lin {T D L C : ℕ} (h : (⟨2, ![T, D]⟩ : Shape).Idx → EReal) (w : (⟨3, ![L, D, C]⟩ : Shape).Idx → EReal) (l t n : ℕ) : EReal :=
  ∑ k : Fin D, at2 h t k.val * at3 w l k.val n

/-- The token shift at `(t, n)` of any array `p`: entry `n` of token `t` moved towards the previous token's by `q n`,
    token 0 having a zero before it. -/
def shift (p : ℕ → ℕ → EReal) (q : ℕ → EReal) (t n : ℕ) : EReal :=
  p t n + ((if t = 0 then 0 else p (t - 1) n) - p t n) * q n

/-- Where nothing is mixed in, the shift is the array itself. -/
theorem shift_zero (p : ℕ → ℕ → EReal) (q : ℕ → EReal) (t n : ℕ) (h : q n = 0) : shift p q t n = p t n := by
  unfold shift
  rw [h, mul_zero, add_zero]

/-- A product of a block with a transposed block, entry by entry, from a zero accumulator. -/
theorem matmul_t {M K N : ℕ} {φ₁ φ₂ : FTy} (x : FVec Ideal ⟨2, ![M, K]⟩ φ₁) (w : FVec Ideal ⟨2, ![N, K]⟩ φ₂)
    (y : (⟨2, ![M, N]⟩ : Shape).Idx) :
    matmul (DotDims.transposedRhs M K N) none x w (constant (F := Ideal) ⟨2, ![M, N]⟩ .f32 0x00000000#32) y
      = ∑ k : Fin K, x (ix2 (y 0) k) * w (ix2 (y 1) k) := by
  obtain ⟨a, b, rfl⟩ : ∃ a b, y = ix2 a b := ⟨_, _, eq_ix2 y⟩
  refine (Ideal.matmul_transposedRhs_apply none x w _ a b).trans ?_
  show Ideal.ofBits .f32 0x00000000#32 + _ = _
  rw [Ideal.ofBits_zero_f32, zero_add]
  rfl

/-- A product of a block with a block, entry by entry, from a zero accumulator. -/
theorem matmul_p {M K N : ℕ} {φ₁ φ₂ : FTy} (x : FVec Ideal ⟨2, ![M, K]⟩ φ₁) (w : FVec Ideal ⟨2, ![K, N]⟩ φ₂)
    (y : (⟨2, ![M, N]⟩ : Shape).Idx) :
    matmul (DotDims.plain M K N) none x w (constant (F := Ideal) ⟨2, ![M, N]⟩ .f32 0x00000000#32) y
      = ∑ k : Fin K, x (ix2 (y 0) k) * w (ix2 k (y 1)) := by
  obtain ⟨a, b, rfl⟩ : ∃ a b, y = ix2 a b := ⟨_, _, eq_ix2 y⟩
  refine (Ideal.matmul_plain_apply none x w _ a b).trans ?_
  show Ideal.ofBits .f32 0x00000000#32 + _ = _
  rw [Ideal.ofBits_zero_f32, zero_add]
  rfl

/-- A slab with a leading axis of one, read as a matrix. -/
theorem slab_apply {α : Type} {N K : ℕ} (v : (⟨3, ![1, N, K]⟩ : Shape).Idx → α)
    (h : (⟨3, ![1, N, K]⟩ : Shape).ShapeCasts ⟨2, ![N, K]⟩) (y : (⟨2, ![N, K]⟩ : Shape).Idx) :
    shapeCast ⟨2, ![N, K]⟩ v h y = v (ix3 0 (y 0) (y 1)) :=
  shapeCast_apply v h y _ (by
    rw [Shape.rowMajor_val_three, Shape.rowMajor_val_two]
    show (0 * N + (y 0).val) * K + (y 1).val = (y 0).val * K + (y 1).val
    rw [zero_mul, zero_add])

/-- The product of a token block with a transposed weight slab. -/
theorem matmul_slab {M K N : ℕ} {φ : FTy} (x : FVec Ideal ⟨2, ![M, K]⟩ φ) (v : FVec Ideal ⟨3, ![1, N, K]⟩ .f32)
    (h : (⟨3, ![1, N, K]⟩ : Shape).ShapeCasts ⟨2, ![N, K]⟩) (hb : FTy.bits .bf16 < FTy.bits .f32) (y : (⟨2, ![M, N]⟩ : Shape).Idx) :
    matmul (DotDims.transposedRhs M K N) none x (truncf .bf16 (shapeCast ⟨2, ![N, K]⟩ v h) hb)
        (constant (F := Ideal) ⟨2, ![M, N]⟩ .f32 0x00000000#32) y
      = ∑ k : Fin K, x (ix2 (y 0) k) * v (ix3 0 (y 1) k) := by
  rw [matmul_t]
  refine Finset.sum_congr rfl fun k _ => ?_
  refine congrArg (x (ix2 (y 0) k) * ·) ?_
  exact slab_apply v h (ix2 (y 1) k)

/-- A weight stack transposed on its last two axes. -/
theorem transpose_at {L D C : ℕ} (w : (⟨3, ![L, D, C]⟩ : Shape).Idx → EReal)
    (h : (⟨3, ![L, D, C]⟩ : Shape).Transposes [0, 2, 1] ⟨3, ![L, C, D]⟩) (y : (⟨3, ![L, C, D]⟩ : Shape).Idx) {l n k : ℕ}
    (hl : (y 0).val = l) (hn : (y 1).val = n) (hk : (y 2).val = k) :
    transpose ⟨3, ![L, C, D]⟩ [0, 2, 1] w h y = at3 w l k n := by
  rw [← at3_eq w (ix3 (y 0) (y 2) (y 1)) hl hk hn]
  exact transpose_apply [0, 2, 1] w h y _ (fun b => match b with | ⟨0, _⟩ => rfl | ⟨1, _⟩ => rfl | ⟨2, _⟩ => rfl)

/-! ## The token shift inside a block -/

/-- A select on whether a small natural is zero is the `if`. -/
theorem select_zero_ofNat {α : Type} (n : ℕ) (hn : n < 2 ^ 32) (A B : α) :
    Scalar.select (IntOp.cmpi .eq (BitVec.ofNat 32 n) 0#32) A B = if n = 0 then A else B := by
  rw [show (0#32) = BitVec.ofNat 32 0 from rfl, WordCmp.cmpi_eq_ofNat hn (by norm_num)]
  by_cases h : n = 0
  · rw [if_pos h, decide_eq_true h]; rfl
  · rw [if_neg h, decide_eq_false h]; rfl

/-- What a shifting block stores: its product `b`, moved by `mu` towards the row above; above its first row stands
    the halo's last row, or zero in the first token block. -/
theorem shift_block {N : ℕ} (i0 : ℕ) (hi0 : i0 < 2 ^ 32) (b : FVec Ideal ⟨2, ![2048, N]⟩ .f32) (halo : FVec Ideal ⟨2, ![16, N]⟩ .f32)
    (mu : FVec Ideal ⟨2, ![1, N]⟩ .f32)
    (hs : (⟨2, ![16, N]⟩ : Shape).Slices ![15, 0] ⟨2, ![1, N]⟩)
    (hio : (⟨2, ![2048, N]⟩ : Shape).Iotas .tc 32 [0])
    (hro : (⟨2, ![2048, N]⟩ : Shape).Rotates 0 none)
    (hc : (⟨2, ![1, N]⟩ : Shape).ShapeCasts ⟨2, ![1, N]⟩) (hbr : (⟨2, ![1, N]⟩ : Shape).Broadcasts ⟨2, ![2048, N]⟩)
    (y : (⟨2, ![2048, N]⟩ : Shape).Idx) :
    addf b (mulf (subf
        (select (cmpi .eq (iota .tc ⟨2, ![2048, N]⟩ 32 [0] hio) (broadcast ⟨2, ![2048, N]⟩ 0#32))
          (broadcastTo ⟨2, ![2048, N]⟩ (shapeCast ⟨2, ![1, N]⟩ (Scalar.select (Scalar.cmpi .eq (BitVec.ofNat 32 i0) 0#32)
            (broadcast ⟨2, ![1, N]⟩ (Scalar.ofBits (F := Ideal) .f32 0x00000000#32))
            (extractStridedSlice ⟨2, ![1, N]⟩ ![15, 0] halo hs)) hc) hbr)
          (dynamicRotate 0 1#32 none b hro)) b)
        (broadcastTo ⟨2, ![2048, N]⟩ (shapeCast ⟨2, ![1, N]⟩ mu hc) hbr)) y
      = b y + ((if (y 0).val = 0 then (if i0 = 0 then 0 else halo (ix2 15 (y 1)))
          else b (ix2 ⟨(y 0).val - 1, Nat.lt_of_le_of_lt (Nat.sub_le _ _) (y 0).isLt⟩ (y 1))) - b y) * mu (ix2 0 (y 1)) := by
  have h0 : (y 0).val < 2048 := (y 0).isLt
  have h1 : (y 1).val < N := (y 1).isLt
  have hbt : ∀ v : FVec Ideal ⟨2, ![1, N]⟩ .f32, broadcastTo ⟨2, ![2048, N]⟩ v hbr y = v (ix2 0 (y 1)) := fun v =>
    broadcastTo_apply v hbr y _ (fun a => match a with
      | ⟨0, _⟩ => rfl
      | ⟨1, _⟩ => by
        show (y 1).val = if N = 1 then 0 else (y 1).val
        by_cases hN : N = 1
        · rw [if_pos hN]; omega
        · rw [if_neg hN])
  rw [shapeCast_self, shapeCast_self]
  show b y + (Scalar.select (IntOp.cmpi .eq (iota .tc ⟨2, ![2048, N]⟩ 32 [0] hio y) 0#32) (broadcastTo ⟨2, ![2048, N]⟩ _ hbr y)
    (dynamicRotate 0 1#32 none b hro y) - b y) * broadcastTo ⟨2, ![2048, N]⟩ mu hbr y = _
  rw [hbt, hbt, iota_single_apply, select_zero_ofNat _ (by show (y 0).val < _; omega)]
  refine congrArg (fun z => b y + (z - b y) * mu (ix2 0 (y 1))) ?_
  by_cases h : (y 0).val = 0
  · rw [if_pos h, if_pos h]
    refine (congrFun (select_zero_ofNat i0 hi0 (broadcast ⟨2, ![1, N]⟩ (Scalar.ofBits (F := Ideal) .f32 0x00000000#32))
      (extractStridedSlice ⟨2, ![1, N]⟩ ![15, 0] halo hs)) (ix2 0 (y 1))).trans ?_
    by_cases h' : i0 = 0
    · rw [if_pos h', if_pos h']
      exact Ideal.ofBits_zero_f32
    · rw [if_neg h', if_neg h']
      exact extractStridedSlice_apply _ halo hs _ (ix2 15 (y 1)) (fun a => match a with | ⟨0, _⟩ => rfl | ⟨1, _⟩ => (Nat.zero_add _).symm)
  · rw [if_neg h, if_neg h]
    exact dynamicRotate_apply 0 _ b hro y _ (fun a => match a with
      | ⟨0, _⟩ => by show (y 0).val - 1 = ((y 0).val + 2048 - 1) % 2048; omega
      | ⟨1, _⟩ => rfl)

/-- One row laid over eight, the other seven zero: row 0 is the row. -/
theorem rows8_zero {N : ℕ} (r : FVec Ideal ⟨2, ![1, N]⟩ .f32) (z : FVec Ideal ⟨2, ![7, N]⟩ .f32)
    (h : Shape.Concatenates [⟨2, ![1, N]⟩, ⟨2, ![7, N]⟩] ⟨2, ![8, N]⟩ 0) (y : (⟨2, ![8, N]⟩ : Shape).Idx) (hy : (y 0).val = 0) :
    concatenate ⟨2, ![8, N]⟩ 0 [⟨⟨2, ![1, N]⟩, r⟩, ⟨⟨2, ![7, N]⟩, z⟩] h y = r (ix2 0 (y 1)) :=
  concatenate_pair_apply_left 0 r z h y rfl _ (fun b => match b with | ⟨0, _⟩ => hy.symm | ⟨1, _⟩ => rfl)

/-- A vector as one row. -/
theorem row_apply {N : ℕ} (v : FVec Ideal ⟨1, ![N]⟩ .f32) (h : (⟨1, ![N]⟩ : Shape).BroadcastsInDim ⟨2, ![1, N]⟩ ![1])
    (y : (⟨2, ![1, N]⟩ : Shape).Idx) : broadcastInDim ⟨2, ![1, N]⟩ ![1] h v y = v (ix1 (y 1)) :=
  broadcastInDim_apply _ h v y _ (fun a => match a with
    | ⟨0, _⟩ => by
      have h1 : (y 1).val < N := (y 1).isLt
      show (y 1).val = if N = 1 then 0 else (y 1).val
      by_cases hN : N = 1
      · rw [if_pos hN]; omega
      · rw [if_neg hN])

/-- The reference's row above: a zero row put before the array and the last row dropped. -/
theorem above_apply {S C : ℕ} (x : FVec Ideal ⟨2, ![S, C]⟩ .f32) {u : Shape} (z : u.Idx → EReal)
    (hp : (⟨2, ![S, C]⟩ : Shape).Pads ![1, 0] ![0, 0] ![0, 0] ⟨2, ![S + 1, C]⟩) (hu : 0 < u.numel) (y : (⟨2, ![S + 1, C]⟩ : Shape).Idx)
    (hy : (y 0).val < S + 1) (hz : ∀ i, z i = 0) {t n : ℕ} (ht : (y 0).val = t) (hn : (y 1).val = n) :
    pad ⟨2, ![S + 1, C]⟩ ![1, 0] ![0, 0] ![0, 0] x z hp hu y = if t = 0 then 0 else at2 x (t - 1) n := by
  subst ht hn
  have h1 : (y 1).val < C := (y 1).isLt
  by_cases h : (y 0).val = 0
  · rw [if_pos h, pad_apply_of_not_inside _ _ _ x z hp hu y 0 (fun hh => by
      have := hh.1
      have h2 : 1 ≤ (y 0).val := this
      omega), hz]
  · have h0 : (y 0).val - 1 < S := by omega
    rw [if_neg h, ← at2_eq x (i := (y 0).val - 1) (j := (y 1).val) (ix2 ⟨(y 0).val - 1, h0⟩ ⟨(y 1).val, h1⟩) rfl rfl]
    refine pad_apply_of_inside _ _ _ x z hp hu y _ (fun a => match a with
      | ⟨0, _⟩ => by show (y 0).val = 1 + ((y 0).val - 1) * (0 + 1); omega
      | ⟨1, _⟩ => by show (y 1).val = 0 + (y 1).val * (0 + 1); omega)

end Cert.Lin

end
-- ==== Proof.VdownRun.lean ====
/-
  The run of an odd layer's main projection, for any values: at each point the shifted block is stored whole; the
  narrow output's buffer is set to zero and added to where the block index is 8, added to where it is 9, 10 or 11, and
  left alone elsewhere, so it holds the sum when it is written back at block index 15.
-/
module

public import proofs.«01_k».proof.Proof.Gen.KernelIdeal.Frame
public import proofs.«01_k».proof.Proof.Gen.KernelIdeal.Skeleton
public import Idealize.ShloMosaic.Lib.VecWindow
public import Idealize.ShloMosaic.Lib.Pipeline.TableIdle
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The rows of the mixing weights the body reads: the first of its eight. -/
abbrev row0 : Rect S8x512 := Rect.unit (s := S8x512) ![0, 0] S1x512.size inb_S8x512_S1x512_0_0

/-- The shifted block stored at a point. -/
def wide (i : grid0.Coords) (x0 : Vec F S2048x2048 .bf16) (x1 : Vec F S16x2048 .bf16) (x2 : Vec F S1x512x2048 .f32) (x3 : Vec F S8x512 .f32) : Vec F S2048x512 .f32 :=
  k0_pay1 i x2 x0 x1 (View.ld x3 row0)

/-- What a point makes of the narrow output's buffer: reset to zero at block index 8, added to at 8, 9, 10 and 11, kept elsewhere. -/
def narrow (i : grid0.Coords) (w : Vec F S2048x512 .f32) (x4 : Vec F S512x128 .f32) (x6 : Vec F S2048x128 .f32) : Vec F S2048x128 .f32 :=
  if k0_cond2 i = 1#1 then k0_pay3 (if k0_cond1 i = 1#1 then k0_pay2 (F := F) else x6) w x4 else x6

/-- The block index 8 is among those added. -/
theorem cond_of : ∀ i : grid0.Coords, k0_cond1 i = 1#1 → k0_cond2 i = 1#1 := by decide +kernel

section body

variable (c : Dev nD) (i : grid0.Coords) (arg2 : Memref sig .tc .vmem S2048x2048 .bf16) (harg2 : arg2.IsWhole) (arg3 : Memref sig .tc .vmem S16x2048 .bf16) (harg3 : arg3.IsWhole) (arg4 : Memref sig .tc .vmem S1x512x2048 .f32) (harg4 : arg4.IsWhole) (arg5 : Memref sig .tc .vmem S8x512 .f32) (harg5 : arg5.IsWhole) (arg6 : Memref sig .tc .vmem S512x128 .f32) (harg6 : arg6.IsWhole) (arg7 : Memref sig .tc .vmem S2048x512 .f32) (harg7 : arg7.IsWhole) (arg8 : Memref sig .tc .vmem S2048x128 .f32) (harg8 : arg8.IsWhole)
  (x0 : Vec F S2048x2048 .bf16) (x1 : Vec F S16x2048 .bf16) (x2 : Vec F S1x512x2048 .f32) (x3 : Vec F S8x512 .f32) (x4 : Vec F S512x128 .f32) (x6 : Vec F S2048x128 .f32)

/-- What the body is handed: five input blocks, the wide output's buffer at anything, the narrow output's at `x6`. -/
def held (y5 : sProp 𝕄) (x6 : Vec F S2048x128 .f32) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ y5 ∗ owns (c : Thread nD τ) arg8 fullShare x6)

set_option maxHeartbeats 1000000 in
/-- The body at any point. -/
theorem body_step (E : Set ℕ) (K : PUnit → sProp 𝕄) :
    iprop(held c arg2 arg3 arg4 arg5 arg6 arg8 x0 x1 x2 x3 x4 iprop(∃ d, owns (c : Thread nD τ) arg7 fullShare d) x6
      ∗ (held c arg2 arg3 arg4 arg5 arg6 arg8 x0 x1 x2 x3 x4 (owns (c : Thread nD τ) arg7 fullShare (wide i x0 x1 x2 x3))
          (narrow i (wide i x0 x1 x2 x3) x4 x6) -∗ K ⟨⟩))
    ⊢ wp frame (wpE (defs₀ (F := F)) Variants.none c none) E (cc0_inproj i arg2 harg2 arg3 harg3 arg4 harg4 arg5 harg5 arg6 harg6 arg7 harg7 arg8 harg8) K := by
  simp only [cc0_inproj_eq_skeleton]; unfold cc0_inproj_skel
  simp only [k0_part1_eq_skeleton]
  unfold held owns narrow
  iintro ⟨⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf6
  by_cases hc1 : k0_cond2 i = 1#1
  · by_cases hc0 : k0_cond1 i = 1#1
    · rw [if_pos hc1, if_pos hc0]
      sl_exec (disch := first | sl_exact hc0 | sl_exact hc1)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr
        swap; · iexact H5
        ipureintro
        unfold body_step.sl.H5_1
        rw [View.read_writes_full, View.readAt_full, View.readAt_full, View.readAt_full, hf0, hf1, hf2]
        unfold wide
        rw [View.readAt_eq_ld, hf3]
      iexists _; isplitr
      swap; · iexact H6
      ipureintro
      rw [View.read_writes_full]
      unfold body_step.sl.v33 body_step.sl.v35 body_step.sl.H6_1 body_step.sl.H5_1
      rw [View.readCov_full, View.readCov_full, View.readAt_full, View.readAt_full, View.readAt_full, View.readAt_full, hf0, hf1, hf2, hf4]
      unfold wide
      rw [View.readAt_eq_ld, hf3]
    · rw [if_pos hc1, if_neg hc0]
      sl_exec (disch := first | sl_exact hc0 | sl_exact hc1)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr
        swap; · iexact H5
        ipureintro
        unfold body_step.sl.H5_1_1
        rw [View.read_writes_full, View.readAt_full, View.readAt_full, View.readAt_full, hf0, hf1, hf2]
        unfold wide
        rw [View.readAt_eq_ld, hf3]
      iexists _; isplitr
      swap; · iexact H6
      ipureintro
      rw [View.read_writes_full]
      unfold body_step.sl.v35_1 body_step.sl.H5_1_1
      rw [View.readCov_full, View.readAt_full, View.readAt_full, View.readAt_full, View.readAt_full, View.readAt_full, hf0, hf1, hf2, hf4, hf6]
      unfold wide
      rw [View.readAt_eq_ld, hf3]
  · rw [if_neg hc1]
    have hc0 : ¬k0_cond1 i = 1#1 := fun h => hc1 (cond_of i h)
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr
      swap; · iexact H5
      ipureintro
      rw [View.read_writes_full, View.readAt_full, View.readAt_full, View.readAt_full, hf0, hf1, hf2]
      unfold wide
      rw [View.readAt_eq_ld, hf3]
    iexists _; isplitr
    swap; · iexact H6
    ipureintro
    exact hf6

end body

/-! ## The buffers after each point -/

/-- The narrow output's buffer after the point at position `n`. -/
def acc (c : Dev nD) : (n : ℕ) → n < cfg0.N → Vec F S2048x128 .f32
  | 0, hn => narrow (grid0.coords ⟨0, hn⟩) (wide (grid0.coords ⟨0, hn⟩) (iblk m c 0 ⟨0, hn⟩) (iblk m c 1 ⟨0, hn⟩) (iblk m c 2 ⟨0, hn⟩) (iblk m c 3 ⟨0, hn⟩))
      (iblk m c 4 ⟨0, hn⟩) (k0_pay2 (F := F))
  | n + 1, hn => narrow (grid0.coords ⟨n + 1, hn⟩) (wide (grid0.coords ⟨n + 1, hn⟩) (iblk m c 0 ⟨n + 1, hn⟩) (iblk m c 1 ⟨n + 1, hn⟩) (iblk m c 2 ⟨n + 1, hn⟩) (iblk m c 3 ⟨n + 1, hn⟩))
      (iblk m c 4 ⟨n + 1, hn⟩) (acc c n (Nat.lt_of_succ_lt hn))

/-- The wide block stored at a point, from the point's input blocks. -/
abbrev wideAt (c : Dev nD) (t : Fin cfg0.N) : Vec F S2048x512 .f32 :=
  wide (grid0.coords t) (iblk m c 0 t) (iblk m c 1 t) (iblk m c 2 t) (iblk m c 3 t)

/-- A point past the first makes its buffer from the one before's. -/
theorem acc_step (c : Dev nD) (t : Fin cfg0.N) (h : t.val ≠ 0) :
    acc m c t.val t.isLt = narrow (grid0.coords t) (wideAt m c t) (iblk m c 4 t)
      (acc m c (t.val - 1) (Nat.lt_of_le_of_lt (Nat.sub_le _ _) t.isLt)) := by
  obtain ⟨n, hn⟩ := t
  cases n with
  | zero => exact absurd rfl h
  | succ n => rfl

/-- At block index 8 the buffer's earlier contents do not matter. -/
theorem narrow_reset (i : grid0.Coords) (h : k0_cond1 i = 1#1) (w : Vec F S2048x512 .f32) (x4 : Vec F S512x128 .f32) (x6 x6' : Vec F S2048x128 .f32) :
    narrow i w x4 x6 = narrow i w x4 x6' := by
  unfold narrow; simp only [if_pos h, if_pos (cond_of i h)]

/-- Where nothing is added the buffer is kept. -/
theorem narrow_keep (i : grid0.Coords) (h : ¬k0_cond2 i = 1#1) (w : Vec F S2048x512 .f32) (x4 : Vec F S512x128 .f32) (x6 : Vec F S2048x128 .f32) :
    narrow i w x4 x6 = x6 := by
  unfold narrow; rw [if_neg h]

/-- Where the narrow output is idle. -/
theorem idle6 : ∀ t : Fin cfg0.N, (cfg0.idle 6 (grid0.coords t) = true ↔ ¬k0_cond2 (grid0.coords t) = 1#1) := by decide +kernel

/-- Whether the narrow output's buffer holds nothing of this row of blocks yet, by position: bit `n` for position `n + 1`. -/
def freshTab : ℕ → Bool
  | 0 => true
  | n + 1 => (0x80FF80FF80FF80FF : ℕ).testBit n
theorem freshTab_step : ∀ t : Fin cfg0.N,
    freshTab (t.val + 1) = ((cfg0.win 6).flush t || (cfg0.idle 6 (cfg0.grid.coords t) && freshTab t.val)) := by decide +kernel
theorem fresh_eq (t : Fin cfg0.N) : cfg0.fresh 6 t.val = freshTab t.val :=
  Pipeline.Cfg.fresh_tab cfg0 6 freshTab rfl freshTab_step t.val (Nat.le_of_lt t.isLt)
/-- A fresh buffer is not written back, and is either reset or left alone. -/
theorem fresh_cases : ∀ t : Fin cfg0.N, freshTab t.val = true →
    k0_cond1 (grid0.coords t) = 1#1 ∨ (¬k0_cond2 (grid0.coords t) = 1#1 ∧ (cfg0.win 6).flush t = false) := by decide +kernel
theorem reset_first : ∀ t : Fin cfg0.N, k0_cond1 (grid0.coords t) = 1#1 → t.val ≠ 0 := by decide +kernel
theorem fresh_first : ∀ t : Fin cfg0.N, freshTab t.val = false → t.val ≠ 0 := by decide +kernel

/-- The proof data: each input's buffer at its block, the outputs' as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => wideAt m c t
    | ⟨6, _⟩ => acc m c t.val t.isLt
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = wideAt m c t := by dsimp only [dats]
theorem after6 (c : Dev nD) (t : Fin cfg0.N) : (dats m 0 c).after 6 t = acc m c t.val t.isLt := by dsimp only [dats]
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d

/-- Past a point left alone the buffer holds what it held. -/
theorem carry6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t h hi _
  rw [after6, after6, acc_step m c t h, narrow_keep _ ((idle6 t).mp hi)]

/-- Where the buffer is not fresh it holds what the point before left. -/
theorem before6 (c : Dev nD) (t : Fin cfg0.N) (h : freshTab t.val = false) (d) :
    (dats m 0 c).before 6 t d = acc m c (t.val - 1) (Nat.lt_of_le_of_lt (Nat.sub_le _ _) t.isLt) := by
  rw [Dat.before_out_traj _ 6 rfl (fun _ _ => rfl) (carry6 m c) t.val t rfl d,
    if_neg (by rw [fresh_eq, h]; exact Bool.false_ne_true)]
  dsimp only [dats]

/-- What the body leaves in the narrow output's buffer is what the proof data asks for. -/
theorem leaves6 (c : Dev nD) (t : Fin cfg0.N) (d) :
    owns (c : Thread nD τ) ((cfg0.win 6).stage (cfg0.slots t 6)) fullShare (narrow (grid0.coords t) (wideAt m c t) (iblk m c 4 t) ((dats m 0 c).before 6 t d))
      ⊢ ((dats m 0 c).leavesExact 6 t : sProp 𝕄) := by
  have key : freshTab t.val = false ∨ k0_cond1 (grid0.coords t) = 1#1 →
      narrow (grid0.coords t) (wideAt m c t) (iblk m c 4 t) ((dats m 0 c).before 6 t d) = (dats m 0 c).after 6 t := by
    intro h
    rw [after6]
    by_cases hf : freshTab t.val = false
    · rw [before6 m c t hf, acc_step m c t (fresh_first t hf)]
    · have h1 := h.resolve_left hf
      rw [acc_step m c t (reset_first t h1)]
      exact narrow_reset _ h1 _ _ _ _
  unfold Dat.leavesExact
  cases hi : cfg0.idle 6 (cfg0.grid.coords t) with
  | true =>
    have h2 := (idle6 t).mp hi
    cases hf : (cfg0.win 6).flush t with
    | false =>
      rw [narrow_keep _ h2]
      iintro H; iexists d; iexact H
    | true =>
      rw [key (Or.inl (by
        by_contra h
        rcases fresh_cases t (by simpa using h) with h' | h'
        · exact h2 (cond_of _ h')
        · exact absurd (h'.2.symm.trans hf) (by decide)))]
  | false =>
    rw [key (by
        by_contra h
        rw [not_or] at h
        rcases fresh_cases t (by simpa using h.1) with h' | h'
        · exact h.2 h'
        · exact absurd (hi.symm.trans ((idle6 t).mpr h'.1)) (by decide))]

set_option maxHeartbeats 1600000 in
/-- The library's body obligation, at every point. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  refine triple_restated (P := iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))))
    (Q := fun _ => iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t)) ?_ rfl .rfl fun _ => .rfl
  unfold bodyAt0
  simp only [before0, before1, before2, before3, before4, after0, after1, after2, after3, after4, after5]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_step c (grid0.coords t) _ _ _ _ _ _ _ _ _ _ _ _ _ _ (iblk m c 0 t) (iblk m c 1 t) (iblk m c 2 t) (iblk m c 3 t) (iblk m c 4 t) ((dats m 0 c).before 6 t d6) Set.univ _)
  unfold held
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexists _; iexact H5
    iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (leaves6 m c t d6)
  iexact H6

/-! ## The run and the frame -/

set_option backward.isDefEq.respectTransparency.types false in
/-- Every fair execution ends, with the arrays as the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The frame, for any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.KernelIdeal.Run

end
-- ==== Proof.Vdown.lean ====
/-
  The value of an odd layer's main projection: the wide output is the token-shifted projection, block by block; the
  narrow one is the product of the value columns, 4096 to 6143, with the residual weights, summed over four blocks of
  512 columns. The reference multiplies all 2048 columns at once and fills the output up with zero columns.
-/
module

public import proofs.«01_k».proof.Proof.Lin
public import proofs.«01_k».proof.Proof.VdownRun
public import proofs.«01_k».proof.Proof.Gen.Kernel
public import proofs.«01_k».proof.Proof.Gen.ReferenceIdeal.Run
public import proofs.«01_k».proof.Proof.Gen.ReferenceIdeal.Read
public import proofs.«01_k».proof.Defs

@[expose] public section

noncomputable section

open scoped BigOperators
open Idealize.ShloMosaic Idealize.ShloMosaic.TcCoe Idealize.SL.Sem Idealize.ShloMosaic.ValueIdx
open Idealize.ShloMosaic.Pipeline (Dat)
open Cert.Lin

namespace Cert.KernelIdeal.Val

open Cert.KernelIdeal Cert.KernelIdeal.Gen Cert.KernelIdeal.Run

variable (m : (ℓ : Loc nD τ sig) → Buf (Elt Ideal) ℓ) (ρ : Dev nD → PrngReg)

/-- The token array as launched. -/
abbrev X (c : Dev nD) : FVec Ideal S8192x2048 .bf16 := m ((c : Thread nD τ).loc main_arg0)
/-- The weight stack as launched. -/
abbrev W (c : Dev nD) : FVec Ideal S2x2048x13536 .f32 := m ((c : Thread nD τ).loc main_arg1)
/-- The shift's mixing weights as launched. -/
abbrev Mu (c : Dev nD) : FVec Ideal S8384 .f32 := m ((c : Thread nD τ).loc main_arg2)

/-- The residual weights as launched. -/
abbrev V1 (c : Dev nD) : FVec Ideal S2048x64 .f32 := m ((c : Thread nD τ).loc main_arg3)

/-- The shifted projection. -/
abbrev P (c : Dev nD) : ℕ → ℕ → EReal := shift (lin (X m c) (W m c) 1) (at1 (Mu m c))

/-- The array the call leaves. -/
def G (c : Dev nD) : FVec Ideal S8192x8192 .f32 := fun i => shift (lin (X m c) (W m c) 1) (at1 (Mu m c)) (i 0).val (i 1).val

/-- Where the windows' blocks begin. -/
theorem idx : ∀ t : Fin cfg0.N, (win0_0.index t 0 = t.val / 16 ∧ win0_0.index t 1 = 0)
    ∧ (win0_1.index t 0 = t.val / 16 * 128 - 1 ∧ win0_1.index t 1 = 0)
    ∧ (win0_2.index t 0 = 1 ∧ win0_2.index t 1 = t.val % 16 * 512 ∧ win0_2.index t 2 = 0)
    ∧ (win0_3.index t 0 = 0 ∧ win0_3.index t 1 = t.val % 16)
    ∧ (win0_5.index t 0 = t.val / 16 ∧ win0_5.index t 1 = t.val % 16)
    ∧ (grid0.coords t 0).val = t.val / 16 :=
  (by decide +kernel : ∀ t : Fin grid0.N, (win0_0.index t 0 = t.val / 16 ∧ win0_0.index t 1 = 0)
    ∧ (win0_1.index t 0 = t.val / 16 * 128 - 1 ∧ win0_1.index t 1 = 0)
    ∧ (win0_2.index t 0 = 1 ∧ win0_2.index t 1 = t.val % 16 * 512 ∧ win0_2.index t 2 = 0)
    ∧ (win0_3.index t 0 = 0 ∧ win0_3.index t 1 = t.val % 16)
    ∧ (win0_5.index t 0 = t.val / 16 ∧ win0_5.index t 1 = t.val % 16)
    ∧ (grid0.coords t 0).val = t.val / 16)

/-- The token block at a point. -/
theorem blk0 (c : Dev nD) (t : Fin cfg0.N) (y : S2048x2048.Idx) :
    (iblk m c 0 t : FVec Ideal S2048x2048 .bf16) y = at2 (X m c) (t.val / 16 * 2048 + (y 0).val) (y 1).val := by
  have hi := (idx t).1
  rw [← at2_eq (X m c) ((win0_0.rect t).emb y)
    (by rw [win0_0.rect_emb_val t y 0, hi.1]; rfl) (by rw [win0_0.rect_emb_val t y 1, hi.2]; show 0 * 2048 + (y 1).val = _; omega)]
  unfold iblk
  rw [View.read_apply]
  show V m c main_arg0 _ = _
  rw [V_main_arg0]
  rfl

/-- The halo at a point. -/
theorem blk1 (c : Dev nD) (t : Fin cfg0.N) (y : S16x2048.Idx) :
    (iblk m c 1 t : FVec Ideal S16x2048 .bf16) y = at2 (X m c) ((t.val / 16 * 128 - 1) * 16 + (y 0).val) (y 1).val := by
  have hi := (idx t).2.1
  rw [← at2_eq (X m c) ((win0_1.rect t).emb y)
    (by rw [win0_1.rect_emb_val t y 0, hi.1]; rfl) (by rw [win0_1.rect_emb_val t y 1, hi.2]; show 0 * 2048 + (y 1).val = _; omega)]
  unfold iblk
  rw [View.read_apply]
  show V m c main_arg0 _ = _
  rw [V_main_arg0]
  rfl

/-- The weight block at a point. -/
theorem blk2 (c : Dev nD) (t : Fin cfg0.N) (y : S1x512x2048.Idx) :
    (iblk m c 2 t : FVec Ideal S1x512x2048 .f32) y = at3 (W m c) 1 (y 2).val (t.val % 16 * 512 + (y 1).val) := by
  have hi := (idx t).2.2.1
  have h0 : (y 0).val < 1 := (y 0).isLt
  have hV : (V m c main_v0 : FVec Ideal S2x13536x2048 .f32)
      = transpose S2x13536x2048 [0, 2, 1] (W m c) transposes_S2x2048x13536_S2x13536x2048_0_2_1 := by
    show StableHlo.after hostOps0 (fun b => m (c, b)) (Proc.devRef .tc main_v0) = _
    after_results <;> rfl
  rw [← transpose_at (W m c) transposes_S2x2048x13536_S2x13536x2048_0_2_1 ((win0_2.rect t).emb y)
    (by rw [win0_2.rect_emb_val_off t y 0, hi.1]; show 1 + (y 0).val = 1; omega)
    (by rw [win0_2.rect_emb_val_off t y 1, hi.2.1])
    (by rw [win0_2.rect_emb_val_off t y 2, hi.2.2]; show 0 + (y 2).val = _; omega)]
  unfold iblk
  rw [View.read_apply]
  show V m c main_v0 _ = _
  rw [hV]
  rfl

/-- The mixing weights' row at a point. -/
theorem blk3 (c : Dev nD) (t : Fin cfg0.N) (y : S8x512.Idx) (hy : (y 0).val = 0) :
    (iblk m c 3 t : FVec Ideal S8x512 .f32) y = at1 (Mu m c) (t.val % 16 * 512 + (y 1).val) := by
  have hi := (idx t).2.2.2.1
  have e0 : ((win0_3.rect t).emb y 0).val = 0 := by
    rw [win0_3.rect_emb_val t y 0, hi.1]; show 0 * 8 + (y 0).val = 0; omega
  have e1 : ((win0_3.rect t).emb y 1).val = t.val % 16 * 512 + (y 1).val := by
    rw [win0_3.rect_emb_val t y 1, hi.2]; rfl
  have hV : (V m c main_v4 : FVec Ideal S8x8192 .f32)
      = concatenate S8x8192 0 [⟨S1x8192, broadcastInDim S1x8192 ![1] bcast_S8192_S1x8192_1
            (extractStridedSlice S8192 ![0] (Mu m c) slices_S8384_S8192_0)⟩,
          ⟨S7x8192, broadcastInDim S7x8192 ![] bcast_S_S7x8192 (constant (F := Ideal) S_ .f32 0x00000000#32)⟩]
          concatenates_S1x8192_S7x8192_S8x8192_d0 := by
    show StableHlo.after hostOps0 (fun b => m (c, b)) (Proc.devRef .tc main_v4) = _
    after_results <;> rfl
  unfold iblk
  rw [View.read_apply]
  show V m c main_v4 _ = _
  rw [hV]
  refine (rows8_zero _ _ concatenates_S1x8192_S7x8192_S8x8192_d0 ((win0_3.rect t).emb y) e0).trans ?_
  refine (row_apply _ bcast_S8192_S1x8192_1 _).trans ?_
  have h1 : (y 1).val < 512 := (y 1).isLt
  refine (extractStridedSlice_apply ![0] (Mu m c) slices_S8384_S8192_0 (ix1 ((win0_3.rect t).emb y 1))
    (ix1 ⟨t.val % 16 * 512 + (y 1).val, by omega⟩) (fun a => match a with
      | ⟨0, _⟩ => e1.symm.trans (Nat.zero_add _).symm)).trans ?_
  exact at1_eq (Mu m c) _ rfl

/-- What the body stores, entry by entry. -/
theorem stored (i : grid0.Coords) (v0 : FVec Ideal S1x512x2048 .f32) (v3 : FVec Ideal S2048x2048 .bf16) (v5 : FVec Ideal S16x2048 .bf16)
    (v19 : FVec Ideal S1x512 .f32) (y : S2048x512.Idx) (A P : EReal)
    (hA : ∑ k : Fin 2048, v3 (ix2 (y 0) k) * v0 (ix3 0 (y 1) k) = A)
    (hP : (if (y 0).val = 0 then (if (i 0).val = 0 then 0 else ∑ k : Fin 2048, v5 (ix2 15 k) * v0 (ix3 0 (y 1) k))
      else ∑ k : Fin 2048, v3 (ix2 ⟨(y 0).val - 1, Nat.lt_of_le_of_lt (Nat.sub_le _ _) (y 0).isLt⟩ k) * v0 (ix3 0 (y 1) k)) = P) :
    k0_pay1 (F := Ideal) i v0 v3 v5 v19 y = A + (P - A) * v19 (ix2 0 (y 1)) := by
  subst hA hP
  have hi : (i 0).val < 4 := (i 0).isLt
  unfold k0_pay1
  refine (shift_block (i 0).val (by omega) _ _ v19 slices_S16x512_o15_0_S1x512 iota_S2048x512_d0_w32 rotates_S2048x512_d0
    shapeCasts_S1x512_S1x512 broadcasts_S1x512_S2048x512 y).trans ?_
  refine congrArg₂ (fun a b => a + (b - a) * v19 (ix2 0 (y 1)))
    (matmul_slab v3 v0 shapeCasts_S1x512x2048_S512x2048 bitsLt_bf16_f32 y) ?_
  split
  · split
    · rfl
    · exact matmul_slab v5 v0 shapeCasts_S1x512x2048_S512x2048 bitsLt_bf16_f32 (ix2 15 (y 1))
  · exact matmul_slab v3 v0 shapeCasts_S1x512x2048_S512x2048 bitsLt_bf16_f32 (ix2 ⟨(y 0).val - 1, _⟩ (y 1))

/-- The wide block at a point is the shifted projection there. -/
theorem wideAt_eq (c : Dev nD) (t : Fin cfg0.N) (y : S2048x512.Idx) :
    wideAt m c t y = P m c (t.val / 16 * 2048 + (y 0).val) (t.val % 16 * 512 + (y 1).val) := by
  have hi := (idx t).2.2.2.2
  have hy : (y 0).val < 2048 := (y 0).isLt
  refine (stored _ _ _ _ _ y (lin (X m c) (W m c) 1 (t.val / 16 * 2048 + (y 0).val) (t.val % 16 * 512 + (y 1).val))
    (if t.val / 16 * 2048 + (y 0).val = 0 then 0 else
      lin (X m c) (W m c) 1 (t.val / 16 * 2048 + (y 0).val - 1) (t.val % 16 * 512 + (y 1).val)) ?_ ?_).trans ?_
  · unfold lin
    exact Finset.sum_congr rfl fun k _ => congrArg₂ (· * ·) (blk0 m c t _) (blk2 m c t _)
  · rw [hi.2]
    by_cases h : (y 0).val = 0
    · rw [if_pos h]
      by_cases h' : t.val / 16 = 0
      · rw [if_pos h', if_pos (by omega)]
      · rw [if_neg h', if_neg (by omega)]
        unfold lin
        refine Finset.sum_congr rfl fun k _ => congrArg₂ (· * ·) ((blk1 m c t _).trans ?_) (blk2 m c t _)
        refine congrArg (at2 (X m c) · k.val) ?_
        show (t.val / 16 * 128 - 1) * 16 + 15 = _
        omega
    · rw [if_neg h, if_neg (by omega)]
      unfold lin
      refine Finset.sum_congr rfl fun k _ => congrArg₂ (· * ·) ((blk0 m c t _).trans ?_) (blk2 m c t _)
      refine congrArg (at2 (X m c) · k.val) ?_
      show t.val / 16 * 2048 + ((y 0).val - 1) = _
      omega
  · unfold P shift
    refine congrArg (fun z : EReal => lin (X m c) (W m c) 1 (t.val / 16 * 2048 + (y 0).val) (t.val % 16 * 512 + (y 1).val)
      + ((if t.val / 16 * 2048 + (y 0).val = 0 then 0 else
        lin (X m c) (W m c) 1 (t.val / 16 * 2048 + (y 0).val - 1) (t.val % 16 * 512 + (y 1).val))
        - lin (X m c) (W m c) 1 (t.val / 16 * 2048 + (y 0).val) (t.val % 16 * 512 + (y 1).val)) * z) ?_
    exact (blk3 m c t (row0.emb (ix2 0 (y 1))) rfl).trans (congrArg (at1 (Mu m c)) (by
      show t.val % 16 * 512 + (0 + 1 * (y 1).val) = _; omega))

/-- What a point writes back is its block of the array. -/
theorem flushed (c : Dev nD) (t : Fin cfg0.N) (hf : (cfg0.win 5).flush t = true) :
    (dats m 0 c).flushed 5 t = ((cfg0.win 5).blk t).view.read (Elt Ideal) (G m c) := by
  show (cfg0.win 5).cut (grid0.coords t) ((dats m 0 c).after 5 t) = _
  rw [after5]
  funext y
  have hi := (idx t).2.2.2.2
  have hy : (y 0).val < 2048 := (y 0).isLt
  show wideAt m c t y = _
  rw [wideAt_eq, View.read_apply]
  have e0 : ((win0_5.rect t).emb y 0).val = t.val / 16 * 2048 + (y 0).val := by
    rw [win0_5.rect_emb_val t y 0, hi.1.1]; rfl
  have e1 : ((win0_5.rect t).emb y 1).val = t.val % 16 * 512 + (y 1).val := by
    rw [win0_5.rect_emb_val t y 1, hi.1.2]; rfl
  show _ = shift (lin (X m c) (W m c) 1) (at1 (Mu m c)) ((win0_5.rect t).emb y 0).val ((win0_5.rect t).emb y 1).val
  rw [e0, e1]

/-- The blocks tile the array. -/
theorem final (c : Dev nD) : (dats m 0 c).arrAt 5 cfg0.N = G m c :=
  (dats m 0 c).arrAt_eq_of_cover 5 (G m c) (flushed m c) fun i => by
    have h0 : (i 0 : Nat) < 8192 := (i 0).isLt
    have h1 : (i 1 : Nat) < 8192 := (i 1).isLt
    have hN : cfg0.N = 64 := N_0
    refine ⟨⟨(i 0 : Nat) / 2048 * 16 + (i 1 : Nat) / 512, by rw [hN]; omega⟩, (by decide +kernel : ∀ t : Fin grid0.N, win0_5.flush t = true) _, ?_⟩
    generalize hT : (⟨(i 0 : Nat) / 2048 * 16 + (i 1 : Nat) / 512, _⟩ : Fin cfg0.N) = t
    have ht : t.val = (i 0 : Nat) / 2048 * 16 + (i 1 : Nat) / 512 := by rw [← hT]
    have hi := (idx t).2.2.2.2.1
    show i ∈ ((View.whole main_v7_0).slice (win0_5.rect t)).set
    rw [View.set_slice_whole, Rect.mem_set_unit]
    intro a
    match a with
    | ⟨0, _⟩ =>
      show win0_5.index t 0 * 2048 ≤ (i 0 : Nat) ∧ (i 0 : Nat) < win0_5.index t 0 * 2048 + 2048
      rw [hi.1]; omega
    | ⟨1, _⟩ =>
      show win0_5.index t 1 * 512 ≤ (i 1 : Nat) ∧ (i 1 : Nat) < win0_5.index t 1 * 512 + 512
      rw [hi.2]; omega

/-! ## The narrow output -/

/-- The residual weights widened by zero columns. -/
def wide1 (c : Dev nD) (k n : ℕ) : EReal := if n < 64 then at2 (V1 m c) k n else 0

/-- The narrow array the call leaves. -/
def G6 (c : Dev nD) : FVec Ideal S8192x128 .f32 := fun i => ∑ k ∈ Finset.range 2048, P m c (i 0).val (4096 + k) * wide1 m c k (i 1).val

/-- Where the residual weights' and the narrow output's blocks lie, and at which points the body adds. -/
theorem idx6 : ∀ t : Fin cfg0.N, (8 ≤ t.val % 16 → t.val % 16 < 12 → win0_4.index t 0 = t.val % 16 - 8 ∧ win0_4.index t 1 = 0)
    ∧ (win0_6.index t 0 = t.val / 16 ∧ win0_6.index t 1 = 0)
    ∧ (k0_cond1 (grid0.coords t) = 1#1 ↔ t.val % 16 = 8) ∧ (k0_cond2 (grid0.coords t) = 1#1 ↔ 8 ≤ t.val % 16 ∧ t.val % 16 < 12) :=
  (by decide +kernel : ∀ t : Fin grid0.N, (8 ≤ t.val % 16 → t.val % 16 < 12 → win0_4.index t 0 = t.val % 16 - 8 ∧ win0_4.index t 1 = 0)
    ∧ (win0_6.index t 0 = t.val / 16 ∧ win0_6.index t 1 = 0)
    ∧ (k0_cond1 (grid0.coords t) = 1#1 ↔ t.val % 16 = 8) ∧ (k0_cond2 (grid0.coords t) = 1#1 ↔ 8 ≤ t.val % 16 ∧ t.val % 16 < 12))

/-- The residual weights' block at a point that adds. -/
theorem blk4 (c : Dev nD) (t : Fin cfg0.N) (h : 8 ≤ t.val % 16) (h' : t.val % 16 < 12) (y : S512x128.Idx) :
    (iblk m c 4 t : FVec Ideal S512x128 .f32) y = wide1 m c ((t.val % 16 - 8) * 512 + (y 0).val) (y 1).val := by
  have hi := (idx6 t).1 h h'
  have e0 : ((win0_4.rect t).emb y 0).val = (t.val % 16 - 8) * 512 + (y 0).val := by
    rw [win0_4.rect_emb_val t y 0, hi.1]; rfl
  have e1 : ((win0_4.rect t).emb y 1).val = (y 1).val := by
    rw [win0_4.rect_emb_val t y 1, hi.2]; show 0 * 128 + (y 1).val = _; omega
  have hV : (V m c main_v6 : FVec Ideal S2048x128 .f32)
      = concatenate S2048x128 1 [⟨S2048x64, V1 m c⟩, ⟨S2048x64, broadcastInDim S2048x64 ![] bcast_S_S2048x64 (constant (F := Ideal) S_ .f32 0x00000000#32)⟩]
          concatenates_S2048x64_S2048x64_S2048x128_d1 := by
    show StableHlo.after hostOps0 (fun b => m (c, b)) (Proc.devRef .tc main_v6) = _
    after_results <;> rfl
  unfold iblk
  rw [View.read_apply]
  show V m c main_v6 _ = _
  rw [hV, ← e0, ← e1]
  show concatenate S2048x128 1 _ _ ((win0_4.rect t).emb y) = _
  generalize (win0_4.rect t).emb y = z
  unfold wide1
  have z1 : (z 1).val < 128 := (z 1).isLt
  by_cases hz : (z 1).val < 64
  · rw [if_pos hz]
    refine (concatenate_pair_apply_left 1 (V1 m c) _ concatenates_S2048x64_S2048x64_S2048x128_d1 z rfl (ix2 (z 0) ⟨(z 1).val, hz⟩)
      (fun b => match b with | ⟨0, _⟩ => rfl | ⟨1, _⟩ => rfl)).trans ?_
    exact at2_eq (V1 m c) _ rfl rfl
  · rw [if_neg hz]
    refine (concatenate_pair_apply_right 1 (V1 m c) _ concatenates_S2048x64_S2048x64_S2048x128_d1 z rfl rfl (ix2 (z 0) ⟨(z 1).val - 64, by omega⟩)
      (fun b => match b with | ⟨0, _⟩ => fun _ => rfl | ⟨1, _⟩ => fun hb => absurd rfl hb) ?_).trans ?_
    · show ((z 1).val - 64) + 64 = (z 1).val; omega
    · exact Ideal.ofBits_zero_f32

/-- What a point adds, entry by entry. -/
theorem added (a : FVec Ideal S2048x128 .f32) (w : FVec Ideal S2048x512 .f32) (b : FVec Ideal S512x128 .f32) (y : S2048x128.Idx) :
    k0_pay3 (F := Ideal) a w b y = a y + ∑ k : Fin 512, w (ix2 (y 0) k) * b (ix2 k (y 1)) := by
  unfold k0_pay3
  rw [Idealize.ShloMosaic.shapeCast_self, Idealize.ShloMosaic.shapeCast_self, Idealize.ShloMosaic.shapeCast_self]
  exact congrArg (a y + ·) (matmul_p (φ₁ := .bf16) (φ₂ := .bf16) (truncf .bf16 w bitsLt_bf16_f32) (truncf .bf16 b bitsLt_bf16_f32) y)

/-- What a point that adds makes of a partial sum. -/
theorem add_step (c : Dev nD) (t : Fin cfg0.N) (h : 8 ≤ t.val % 16) (h' : t.val % 16 < 12) (a : FVec Ideal S2048x128 .f32) (y : S2048x128.Idx)
    (ha : a y = ∑ k ∈ Finset.range ((t.val % 16 - 8) * 512), P m c (t.val / 16 * 2048 + (y 0).val) (4096 + k) * wide1 m c k (y 1).val) :
    k0_pay3 (F := Ideal) a (wideAt m c t) (iblk m c 4 t) y
      = ∑ k ∈ Finset.range ((t.val % 16 - 8 + 1) * 512), P m c (t.val / 16 * 2048 + (y 0).val) (4096 + k) * wide1 m c k (y 1).val := by
  rw [added, ha, Nat.succ_mul, Finset.sum_range_add]
  refine congrArg _ ?_
  rw [Finset.sum_range]
  refine Finset.sum_congr rfl fun k _ => congrArg₂ (· * ·) ((wideAt_eq m c t _).trans ?_) (blk4 m c t h h' _)
  refine congrArg (P m c (t.val / 16 * 2048 + (y 0).val)) ?_
  show t.val % 16 * 512 + k.val = 4096 + ((t.val % 16 - 8) * 512 + k.val)
  omega

/-- The narrow output's buffer from block index 8 on. -/
theorem acc_eq (c : Dev nD) (y : S2048x128.Idx) : ∀ (j : ℕ) (t : Fin cfg0.N), j < 8 → t.val % 16 = 8 + j →
    (acc m c t.val t.isLt : FVec Ideal S2048x128 .f32) y
      = ∑ k ∈ Finset.range (min (j + 1) 4 * 512), P m c (t.val / 16 * 2048 + (y 0).val) (4096 + k) * wide1 m c k (y 1).val := by
  intro j
  induction j with
  | zero =>
    intro t _ ht
    have hi := (idx6 t).2.2
    rw [acc_step m c t (by omega)]
    unfold narrow
    rw [if_pos (hi.2.mpr (by omega)), if_pos (hi.1.mpr (by omega))]
    refine (add_step m c t (by omega) (by omega) _ y ?_).trans (by rw [ht]; rfl)
    rw [show t.val % 16 - 8 = 0 by omega, Nat.zero_mul, Finset.sum_range_zero]
    exact Ideal.ofBits_zero_f32
  | succ j ih =>
    intro t hj ht
    have hi := (idx6 t).2.2
    have hp := ih ⟨t.val - 1, Nat.lt_of_le_of_lt (Nat.sub_le _ _) t.isLt⟩ (by omega) (by show (t.val - 1) % 16 = _; omega)
    rw [show (⟨t.val - 1, Nat.lt_of_le_of_lt (Nat.sub_le _ _) t.isLt⟩ : Fin cfg0.N).val / 16 = t.val / 16 by show (t.val - 1) / 16 = _; omega] at hp
    rw [acc_step m c t (by omega)]
    unfold narrow
    by_cases h : j + 1 < 4
    · rw [if_pos (hi.2.mpr (by omega)), if_neg (fun h' => by have := hi.1.mp h'; omega)]
      refine (add_step m c t (by omega) (by omega) _ y (hp.trans ?_)).trans ?_
      · rw [show t.val % 16 - 8 = min (j + 1) 4 by omega]
      · rw [show t.val % 16 - 8 + 1 = min (j + 1 + 1) 4 by omega]
    · rw [if_neg (fun h' => by have := (hi.2.mp h').2; omega)]
      refine hp.trans ?_
      rw [show min (j + 1 + 1) 4 = min (j + 1) 4 by omega]

/-- What a point writes back to the narrow array is its block of it. -/
theorem flushed6 (c : Dev nD) (t : Fin cfg0.N) (hf : (cfg0.win 6).flush t = true) :
    (dats m 0 c).flushed 6 t = ((cfg0.win 6).blk t).view.read (Elt Ideal) (G6 m c) := by
  have ht := (flush0_6 t).mp hf
  show (cfg0.win 6).cut (grid0.coords t) ((dats m 0 c).after 6 t) = _
  rw [after6]
  funext y
  have hi := (idx6 t).2.1
  show (acc m c t.val t.isLt : FVec Ideal S2048x128 .f32) y = _
  rw [acc_eq m c y 7 t (by omega) (by omega), View.read_apply]
  have e0 : ((win0_6.rect t).emb y 0).val = t.val / 16 * 2048 + (y 0).val := by
    rw [win0_6.rect_emb_val t y 0, hi.1]; rfl
  have e1 : ((win0_6.rect t).emb y 1).val = (y 1).val := by
    rw [win0_6.rect_emb_val t y 1, hi.2]; show 0 * 128 + (y 1).val = _; omega
  show _ = ∑ k ∈ Finset.range 2048, P m c ((win0_6.rect t).emb y 0).val (4096 + k) * wide1 m c k ((win0_6.rect t).emb y 1).val
  rw [e0, e1]
  rfl

/-- The narrow blocks tile the narrow array. -/
theorem final6 (c : Dev nD) : (dats m 0 c).arrAt 6 cfg0.N = G6 m c :=
  (dats m 0 c).arrAt_eq_of_cover 6 (G6 m c) (flushed6 m c) fun i => by
    have h0 : (i 0 : Nat) < 8192 := (i 0).isLt
    have h1 : (i 1 : Nat) < 128 := (i 1).isLt
    have hN : cfg0.N = 64 := N_0
    refine ⟨⟨(i 0 : Nat) / 2048 * 16 + 15, by rw [hN]; omega⟩, (flush0_6 _).mpr (by show ((i 0 : Nat) / 2048 * 16 + 15) % 16 = 15; omega), ?_⟩
    generalize hT : (⟨(i 0 : Nat) / 2048 * 16 + 15, _⟩ : Fin cfg0.N) = t
    have ht : t.val = (i 0 : Nat) / 2048 * 16 + 15 := by rw [← hT]
    have hi := (idx6 t).2.1
    show i ∈ ((View.whole main_v7_1).slice (win0_6.rect t)).set
    rw [View.set_slice_whole, Rect.mem_set_unit]
    intro a
    match a with
    | ⟨0, _⟩ =>
      show win0_6.index t 0 * 2048 ≤ (i 0 : Nat) ∧ (i 0 : Nat) < win0_6.index t 0 * 2048 + 2048
      rw [hi.1]; omega
    | ⟨1, _⟩ =>
      show win0_6.index t 1 * 128 ≤ (i 1 : Nat) ∧ (i 1 : Nat) < win0_6.index t 1 * 128 + 128
      rw [hi.2]; omega

end Cert.KernelIdeal.Val

namespace Cert.ReferenceIdeal.Val

open Cert.ReferenceIdeal Cert.ReferenceIdeal.Gen Cert.ReferenceIdeal.Read

/-- The reference's projection, entry by entry. -/
theorem proj_eq (x : FVec Ideal S8192x2048 .bf16) (w : FVec Ideal S2x2048x13536 .f32) (i : S8192x13536.Idx) :
    val_main_v3 (F := Ideal) x w i = lin x w 1 (i 0).val (i 1).val := by
  rw [val_main_v3_apply]
  unfold lin
  refine Finset.sum_congr rfl fun k _ => congrArg₂ (· * ·) ?_ ?_
  · rw [val_main_v0_apply]
    exact at2_eq x _ rfl rfl
  · rw [val_main_v2_apply, val_main_v1_apply]
    have h1 : (i 1 : Nat) < 13536 := (i 1).isLt
    have hk := k.isLt
    refine at3_eq w _ rfl ?_ ?_
    · show (k.val * 13536 + (i 1).val) / 13536 % 2048 = k.val; omega
    · show (k.val * 13536 + (i 1).val) % 13536 = _; omega

/-- The reference's padding value is zero. -/
theorem padval (i : S_.Idx) : val_main_call0_v0 (F := Ideal) i = 0 := by
  exact sitofp_zero (φ := .f32)

/-- The reference's shifted projection, entry by entry. -/
theorem shifted_eq (x : FVec Ideal S8192x2048 .bf16) (w : FVec Ideal S2x2048x13536 .f32) (mu : FVec Ideal S8384 .f32) (i : S8192x8384.Idx) :
    val_main_v11 (F := Ideal) x w mu i = shift (lin x w 1) (at1 mu) (i 0).val (i 1).val := by
  have h4 : ∀ j : S8192x8384.Idx, val_main_v4 (F := Ideal) x w j = lin x w 1 (j 0).val (j 1).val := fun j => by
    rw [val_main_v4_apply]
    exact proj_eq x w _
  have h0 : (i 0 : Nat) < 8192 := (i 0).isLt
  have h1 : (i 1 : Nat) < 8384 := (i 1).isLt
  have h6 : val_main_v6 (F := Ideal) x w i = if (i 0).val = 0 then 0 else lin x w 1 ((i 0).val - 1) (i 1).val := by
    rw [val_main_v6_apply]
    unfold val_main_v5
    refine (above_apply (val_main_v4 (F := Ideal) x w) (val_main_call0_v0 (F := Ideal)) pads_S8192x8384_S8193x8384_100_000 h_S_ (idx_main_v6 i)
      (by show (i 0).val < 8193; omega) padval (t := (i 0).val) (n := (i 1).val) rfl rfl).trans ?_
    by_cases h : (i 0).val = 0
    · rw [if_pos h, if_pos h]
    · rw [if_neg h, if_neg h, ← at2_eq (val_main_v4 (F := Ideal) x w) (i := (i 0).val - 1) (j := (i 1).val)
        (ix2 ⟨(i 0).val - 1, by omega⟩ (i 1)) rfl rfl, h4]
  have h9 : val_main_v9 (F := Ideal) mu i = at1 mu (i 1).val := by
    rw [val_main_v9_apply, val_main_v8_apply]
    exact at1_eq mu _ rfl
  show val_main_v4 (F := Ideal) x w i + (val_main_v6 (F := Ideal) x w i - val_main_v4 (F := Ideal) x w i) * val_main_v9 (F := Ideal) mu i = _
  rw [h4, h6, h9]
  rfl

/-- The reference's result, entry by entry. -/
theorem val_eq (x : FVec Ideal S8192x2048 .bf16) (w : FVec Ideal S2x2048x13536 .f32) (mu : FVec Ideal S8384 .f32) (i : S8192x8192.Idx) :
    val_main_v12 (F := Ideal) x w mu i = shift (lin x w 1) (at1 mu) (i 0).val (i 1).val := by
  rw [val_main_v12_apply]
  exact shifted_eq x w mu _

/-- The reference's narrow result, entry by entry. -/
theorem val6_eq (x : FVec Ideal S8192x2048 .bf16) (w : FVec Ideal S2x2048x13536 .f32) (mu : FVec Ideal S8384 .f32) (v : FVec Ideal S2048x64 .f32) (i : S8192x128.Idx) :
    val_main_v15 (F := Ideal) x w mu v i = ∑ k ∈ Finset.range 2048, shift (lin x w 1) (at1 mu) (i 0).val (4096 + k)
      * (if (i 1).val < 64 then at2 v k (i 1).val else 0) := by
  have h1 : (i 1).val < 128 := (i 1).isLt
  unfold val_main_v15
  by_cases h : (i 1).val < 64
  · refine (pad_apply_of_inside _ _ _ _ _ pads_S8192x64_S8192x128_000_0640 h_S_ i (ix2 (i 0) ⟨(i 1).val, h⟩) (fun a => match a with
      | ⟨0, _⟩ => by show (i 0).val = 0 + (i 0).val * (0 + 1); omega
      | ⟨1, _⟩ => by show (i 1).val = 0 + (i 1).val * (0 + 1); omega)).trans ?_
    rw [val_main_v14_apply, Finset.sum_range]
    refine Finset.sum_congr rfl fun k _ => congrArg₂ (· * ·) ?_ ?_
    · rw [val_main_v13_apply]
      exact shifted_eq x w mu _
    · rw [if_pos h]
      exact at2_eq v _ rfl rfl
  · refine (pad_apply_of_not_inside _ _ _ _ _ pads_S8192x64_S8192x128_000_0640 h_S_ i 1 (fun hi => h ?_)).trans ?_
    · have h2 := hi.2.2
      have h3 : ((i 1).val - 0) / (0 + 1) < 64 := h2
      omega
    · refine Eq.trans ?_ (Finset.sum_eq_zero fun k _ => by rw [if_neg h, mul_zero]).symm
      exact sitofp_zero (φ := .f32)

end Cert.ReferenceIdeal.Val

namespace Cert.Val

/-- The compiled program's body table is the ideal one's. -/
theorem vdown_rows : Cert.Kernel.defs₀ (F := Bits) = Cert.KernelIdeal.defs₀ (F := Bits) := by
  unfold Cert.Kernel.defs₀ Cert.KernelIdeal.defs₀
  refine congrArg Defs.onTc (funext fun l => funext fun a => ?_)
  obtain ⟨n, h⟩ := l
  cases n with
  | zero => rfl
  | succ n => exact absurd h (Nat.not_lt.2 (Nat.le_add_left _ _))
theorem vdown_defs : Cert.Kernel.defs (F := Bits) = Cert.KernelIdeal.defs (F := Bits) := by
  unfold Cert.Kernel.defs Cert.KernelIdeal.defs
  rw [vdown_rows]
  rfl

/-- The run of an odd layer's main projection as compiled. -/
theorem vdown_frame_bits : Cert.quiescent_Kernel := fun m ρ _ => by
  rw [vdown_defs]
  exact KernelIdeal.Run.frame (F := Bits) m ρ

/-- The run of an odd layer's main projection over the reals. -/
theorem vdown_frame : Cert.quiescent_KernelIdeal := fun m ρ _ => KernelIdeal.Run.frame (F := Ideal) m ρ

/-- The main projection of an odd layer. -/
theorem vdown : Cert.algebraic_KernelIdeal_ReferenceIdeal := by
  intro m g m' g' _ hag
  refine ⟨fun c => KernelIdeal.Val.G m c, fun c => KernelIdeal.Val.G6 m c, ?_, ?_⟩
  · exact (θ_run Cert.KernelIdeal.defs _ _).mono
      (fun r h c => ⟨((h.1.1 c).1 5).trans (KernelIdeal.Val.final m c), ((h.1.1 c).1 6).trans (KernelIdeal.Val.final6 m c), h.2.1 c⟩)
      (θ_run_and (KernelIdeal.Run.run_main_quiescent (F := Ideal) m g) (KernelIdeal.Run.frame (F := Ideal) m g))
  · refine (θ_run Cert.ReferenceIdeal.defs _ _).mono (fun r h c => ⟨(h c).1.trans ?_, (h c).2.1.trans ?_, (h c).2.2⟩)
      (ReferenceIdeal.Value.run (F := Ideal) m' g')
    · rw [(hag c).1, (hag c).2.1, (hag c).2.2.1]
      refine (ReferenceIdeal.Read.val_main_v12_eq (F := Ideal) _ _ _).trans ?_
      funext i
      exact ReferenceIdeal.Val.val_eq _ _ _ i
    · rw [(hag c).1, (hag c).2.1, (hag c).2.2.1, (hag c).2.2.2]
      refine (ReferenceIdeal.Read.val_main_v15_eq (F := Ideal) _ _ _ _).trans ?_
      funext i
      exact ReferenceIdeal.Val.val6_eq _ _ _ _ i

end Cert.Val

end
-- ==== Proof.First.lean ====
/-
  The value of the token-shifted projection of an even layer's first part: each grid point multiplies its token block
  and its halo (the sixteen rows before) with its weight block, columns 0 to 8191, and mixes each row with the row
  above; the blocks tile the array. The reference projects the whole array and shifts it.
-/
module

public import proofs.«01_k».proof.Proof.Lin
public import proofs.«01_k».proof.Proof.Gen.KernelFirstIdeal.Value
public import proofs.«01_k».proof.Proof.Gen.ReferenceFirstIdeal.Read
public import proofs.«01_k».proof.Defs

@[expose] public section

noncomputable section

open scoped BigOperators
open Idealize.ShloMosaic Idealize.ShloMosaic.TcCoe Idealize.SL.Sem Idealize.ShloMosaic.ValueIdx
open Idealize.ShloMosaic.Pipeline (Dat)
open Cert.Lin

namespace Cert.KernelFirstIdeal.Val

open Cert.KernelFirstIdeal Cert.KernelFirstIdeal.Gen

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The token array as launched. -/
abbrev X (c : Dev nD) : FVec Ideal S8192x2048 .bf16 := m ((c : Thread nD τ).loc main_arg0)
/-- The weight stack as launched. -/
abbrev W (c : Dev nD) : FVec Ideal S2x2048x13536 .f32 := m ((c : Thread nD τ).loc main_arg1)
/-- The shift's mixing weights as launched. -/
abbrev Mu (c : Dev nD) : FVec Ideal S8384 .f32 := m ((c : Thread nD τ).loc main_arg2)

/-- The array the call leaves. -/
def G (c : Dev nD) : FVec Ideal S8192x8192 .f32 := fun i => shift (lin (X m c) (W m c) 0) (at1 (Mu m c)) (i 0).val (i 1).val

/-- Where the windows' blocks begin. -/
theorem idx : ∀ t : Fin cfg0.N, (win0_0.index t 0 = t.val / 16 ∧ win0_0.index t 1 = 0)
    ∧ (win0_1.index t 0 = t.val / 16 * 128 - 1 ∧ win0_1.index t 1 = 0)
    ∧ (win0_2.index t 0 = 0 ∧ win0_2.index t 1 = t.val % 16 * 512 ∧ win0_2.index t 2 = 0)
    ∧ (win0_3.index t 0 = 0 ∧ win0_3.index t 1 = t.val % 16)
    ∧ (win0_4.index t 0 = t.val / 16 ∧ win0_4.index t 1 = t.val % 16)
    ∧ (grid0.coords t 0).val = t.val / 16 :=
  (by decide +kernel : ∀ t : Fin grid0.N, (win0_0.index t 0 = t.val / 16 ∧ win0_0.index t 1 = 0)
    ∧ (win0_1.index t 0 = t.val / 16 * 128 - 1 ∧ win0_1.index t 1 = 0)
    ∧ (win0_2.index t 0 = 0 ∧ win0_2.index t 1 = t.val % 16 * 512 ∧ win0_2.index t 2 = 0)
    ∧ (win0_3.index t 0 = 0 ∧ win0_3.index t 1 = t.val % 16)
    ∧ (win0_4.index t 0 = t.val / 16 ∧ win0_4.index t 1 = t.val % 16)
    ∧ (grid0.coords t 0).val = t.val / 16)

/-- The token block at a point. -/
theorem blk0 (c : Dev nD) (t : Fin cfg0.N) (y : S2048x2048.Idx) :
    (iblk m c 0 t : FVec Ideal S2048x2048 .bf16) y = at2 (X m c) (t.val / 16 * 2048 + (y 0).val) (y 1).val := by
  have hi := (idx t).1
  rw [← at2_eq (X m c) ((win0_0.rect t).emb y)
    (by rw [win0_0.rect_emb_val t y 0, hi.1]; rfl) (by rw [win0_0.rect_emb_val t y 1, hi.2]; show 0 * 2048 + (y 1).val = _; omega)]
  unfold iblk
  rw [View.read_apply]
  show V m c main_arg0 _ = _
  rw [V_main_arg0]
  rfl

/-- The halo at a point. -/
theorem blk1 (c : Dev nD) (t : Fin cfg0.N) (y : S16x2048.Idx) :
    (iblk m c 1 t : FVec Ideal S16x2048 .bf16) y = at2 (X m c) ((t.val / 16 * 128 - 1) * 16 + (y 0).val) (y 1).val := by
  have hi := (idx t).2.1
  rw [← at2_eq (X m c) ((win0_1.rect t).emb y)
    (by rw [win0_1.rect_emb_val t y 0, hi.1]; rfl) (by rw [win0_1.rect_emb_val t y 1, hi.2]; show 0 * 2048 + (y 1).val = _; omega)]
  unfold iblk
  rw [View.read_apply]
  show V m c main_arg0 _ = _
  rw [V_main_arg0]
  rfl

/-- The weight block at a point. -/
theorem blk2 (c : Dev nD) (t : Fin cfg0.N) (y : S1x512x2048.Idx) :
    (iblk m c 2 t : FVec Ideal S1x512x2048 .f32) y = at3 (W m c) 0 (y 2).val (t.val % 16 * 512 + (y 1).val) := by
  have hi := (idx t).2.2.1
  have h0 : (y 0).val < 1 := (y 0).isLt
  have hV : (V m c main_v0 : FVec Ideal S2x13536x2048 .f32)
      = transpose S2x13536x2048 [0, 2, 1] (W m c) transposes_S2x2048x13536_S2x13536x2048_0_2_1 := by
    show StableHlo.after hostOps0 (fun b => m (c, b)) (Proc.devRef .tc main_v0) = _
    after_results <;> rfl
  rw [← transpose_at (W m c) transposes_S2x2048x13536_S2x13536x2048_0_2_1 ((win0_2.rect t).emb y)
    (by rw [win0_2.rect_emb_val_off t y 0, hi.1]; show 0 + (y 0).val = 0; omega)
    (by rw [win0_2.rect_emb_val_off t y 1, hi.2.1])
    (by rw [win0_2.rect_emb_val_off t y 2, hi.2.2]; show 0 + (y 2).val = _; omega)]
  unfold iblk
  rw [View.read_apply]
  show V m c main_v0 _ = _
  rw [hV]
  rfl

/-- The mixing weights' row at a point. -/
theorem blk3 (c : Dev nD) (t : Fin cfg0.N) (y : S8x512.Idx) (hy : (y 0).val = 0) :
    (iblk m c 3 t : FVec Ideal S8x512 .f32) y = at1 (Mu m c) (t.val % 16 * 512 + (y 1).val) := by
  have hi := (idx t).2.2.2.1
  have e0 : ((win0_3.rect t).emb y 0).val = 0 := by
    rw [win0_3.rect_emb_val t y 0, hi.1]; show 0 * 8 + (y 0).val = 0; omega
  have e1 : ((win0_3.rect t).emb y 1).val = t.val % 16 * 512 + (y 1).val := by
    rw [win0_3.rect_emb_val t y 1, hi.2]; rfl
  have hV : (V m c main_v4 : FVec Ideal S8x8192 .f32)
      = concatenate S8x8192 0 [⟨S1x8192, broadcastInDim S1x8192 ![1] bcast_S8192_S1x8192_1
            (extractStridedSlice S8192 ![0] (Mu m c) slices_S8384_S8192_0)⟩,
          ⟨S7x8192, broadcastInDim S7x8192 ![] bcast_S_S7x8192 (constant (F := Ideal) S_ .f32 0x00000000#32)⟩]
          concatenates_S1x8192_S7x8192_S8x8192_d0 := by
    show StableHlo.after hostOps0 (fun b => m (c, b)) (Proc.devRef .tc main_v4) = _
    after_results <;> rfl
  unfold iblk
  rw [View.read_apply]
  show V m c main_v4 _ = _
  rw [hV]
  refine (rows8_zero _ _ concatenates_S1x8192_S7x8192_S8x8192_d0 ((win0_3.rect t).emb y) e0).trans ?_
  refine (row_apply _ bcast_S8192_S1x8192_1 _).trans ?_
  have h1 : (y 1).val < 512 := (y 1).isLt
  refine (extractStridedSlice_apply ![0] (Mu m c) slices_S8384_S8192_0 (ix1 ((win0_3.rect t).emb y 1))
    (ix1 ⟨t.val % 16 * 512 + (y 1).val, by omega⟩) (fun a => match a with
      | ⟨0, _⟩ => e1.symm.trans (Nat.zero_add _).symm)).trans ?_
  exact at1_eq (Mu m c) _ rfl

/-- What the body stores, entry by entry. -/
theorem stored (i : grid0.Coords) (v0 : FVec Ideal S1x512x2048 .f32) (v3 : FVec Ideal S2048x2048 .bf16) (v5 : FVec Ideal S16x2048 .bf16)
    (v19 : FVec Ideal S1x512 .f32) (y : S2048x512.Idx) (A P : EReal)
    (hA : ∑ k : Fin 2048, v3 (ix2 (y 0) k) * v0 (ix3 0 (y 1) k) = A)
    (hP : (if (y 0).val = 0 then (if (i 0).val = 0 then 0 else ∑ k : Fin 2048, v5 (ix2 15 k) * v0 (ix3 0 (y 1) k))
      else ∑ k : Fin 2048, v3 (ix2 ⟨(y 0).val - 1, Nat.lt_of_le_of_lt (Nat.sub_le _ _) (y 0).isLt⟩ k) * v0 (ix3 0 (y 1) k)) = P) :
    k0_pay1 (F := Ideal) i v0 v3 v5 v19 y = A + (P - A) * v19 (ix2 0 (y 1)) := by
  subst hA hP
  have hi : (i 0).val < 4 := (i 0).isLt
  unfold k0_pay1
  refine (shift_block (i 0).val (by omega) _ _ v19 slices_S16x512_o15_0_S1x512 iota_S2048x512_d0_w32 rotates_S2048x512_d0
    shapeCasts_S1x512_S1x512 broadcasts_S1x512_S2048x512 y).trans ?_
  refine congrArg₂ (fun a b => a + (b - a) * v19 (ix2 0 (y 1)))
    (matmul_slab v3 v0 shapeCasts_S1x512x2048_S512x2048 bitsLt_bf16_f32 y) ?_
  split
  · split
    · rfl
    · exact matmul_slab v5 v0 shapeCasts_S1x512x2048_S512x2048 bitsLt_bf16_f32 (ix2 15 (y 1))
  · exact matmul_slab v3 v0 shapeCasts_S1x512x2048_S512x2048 bitsLt_bf16_f32 (ix2 ⟨(y 0).val - 1, _⟩ (y 1))

/-- What a point writes back is its block of the array. -/
theorem flushed (c : Dev nD) (t : Fin cfg0.N) (hf : (cfg0.win 4).flush t = true) :
    (dats m 0 c).flushed 4 t = ((cfg0.win 4).blk t).view.read (Elt Ideal) (G m c) := by
  rw [Value.flushed4]
  unfold out0_4
  rw [View.canon_unit_zero (S := S2048x512) hz2]
  funext y
  have hi := (idx t).2.2.2.2
  have hy : (y 0).val < 2048 := (y 0).isLt
  show k0_pay1 (F := Ideal) (grid0.coords t) (View.ld (iblk m c 2 t) r0_0) (View.ld (iblk m c 0 t) r0_1) (View.ld (iblk m c 1 t) r0_2)
    (View.ld (iblk m c 3 t) r0_3) y = _
  rw [View.ld_unit_zero (S := S1x512x2048) hz3, View.ld_unit_zero (S := S2048x2048) hz2, View.ld_unit_zero (S := S16x2048) hz2, View.read_apply]
  have e0 : ((win0_4.rect t).emb y 0).val = t.val / 16 * 2048 + (y 0).val := by
    rw [win0_4.rect_emb_val t y 0, hi.1.1]; rfl
  have e1 : ((win0_4.rect t).emb y 1).val = t.val % 16 * 512 + (y 1).val := by
    rw [win0_4.rect_emb_val t y 1, hi.1.2]; rfl
  refine (stored _ _ _ _ _ y (lin (X m c) (W m c) 0 (t.val / 16 * 2048 + (y 0).val) (t.val % 16 * 512 + (y 1).val))
    (if t.val / 16 * 2048 + (y 0).val = 0 then 0 else
      lin (X m c) (W m c) 0 (t.val / 16 * 2048 + (y 0).val - 1) (t.val % 16 * 512 + (y 1).val)) ?_ ?_).trans ?_
  · unfold lin
    exact Finset.sum_congr rfl fun k _ => congrArg₂ (· * ·) (blk0 m c t _) (blk2 m c t _)
  · rw [hi.2]
    by_cases h : (y 0).val = 0
    · rw [if_pos h]
      by_cases h' : t.val / 16 = 0
      · rw [if_pos h', if_pos (by omega)]
      · rw [if_neg h', if_neg (by omega)]
        unfold lin
        refine Finset.sum_congr rfl fun k _ => congrArg₂ (· * ·) ((blk1 m c t _).trans ?_) (blk2 m c t _)
        refine congrArg (at2 (X m c) · k.val) ?_
        show (t.val / 16 * 128 - 1) * 16 + 15 = _
        omega
    · rw [if_neg h, if_neg (by omega)]
      unfold lin
      refine Finset.sum_congr rfl fun k _ => congrArg₂ (· * ·) ((blk0 m c t _).trans ?_) (blk2 m c t _)
      refine congrArg (at2 (X m c) · k.val) ?_
      show t.val / 16 * 2048 + ((y 0).val - 1) = _
      omega
  · show _ = shift (lin (X m c) (W m c) 0) (at1 (Mu m c)) ((win0_4.rect t).emb y 0).val ((win0_4.rect t).emb y 1).val
    rw [e0, e1]
    unfold shift
    refine congrArg (fun z : EReal => lin (X m c) (W m c) 0 (t.val / 16 * 2048 + (y 0).val) (t.val % 16 * 512 + (y 1).val)
      + ((if t.val / 16 * 2048 + (y 0).val = 0 then 0 else
        lin (X m c) (W m c) 0 (t.val / 16 * 2048 + (y 0).val - 1) (t.val % 16 * 512 + (y 1).val))
        - lin (X m c) (W m c) 0 (t.val / 16 * 2048 + (y 0).val) (t.val % 16 * 512 + (y 1).val)) * z) ?_
    exact (blk3 m c t (r0_3.emb (ix2 0 (y 1))) rfl).trans (congrArg (at1 (Mu m c)) (by
      show t.val % 16 * 512 + (0 + 1 * (y 1).val) = _; omega))

/-- The blocks tile the array. -/
theorem final (c : Dev nD) : (dats m 0 c).arrAt 4 cfg0.N = G m c :=
  (dats m 0 c).arrAt_eq_of_cover 4 (G m c) (flushed m c) fun i => by
    have h0 : (i 0 : Nat) < 8192 := (i 0).isLt
    have h1 : (i 1 : Nat) < 8192 := (i 1).isLt
    have hN : cfg0.N = 64 := N_0
    refine ⟨⟨(i 0 : Nat) / 2048 * 16 + (i 1 : Nat) / 512, by rw [hN]; omega⟩, (by decide +kernel : ∀ t : Fin grid0.N, win0_4.flush t = true) _, ?_⟩
    generalize hT : (⟨(i 0 : Nat) / 2048 * 16 + (i 1 : Nat) / 512, _⟩ : Fin cfg0.N) = t
    have ht : t.val = (i 0 : Nat) / 2048 * 16 + (i 1 : Nat) / 512 := by rw [← hT]
    have hi := (idx t).2.2.2.2.1
    show i ∈ ((View.whole main_v5).slice (win0_4.rect t)).set
    rw [View.set_slice_whole, Rect.mem_set_unit]
    intro a
    match a with
    | ⟨0, _⟩ =>
      show win0_4.index t 0 * 2048 ≤ (i 0 : Nat) ∧ (i 0 : Nat) < win0_4.index t 0 * 2048 + 2048
      rw [hi.1]; omega
    | ⟨1, _⟩ =>
      show win0_4.index t 1 * 512 ≤ (i 1 : Nat) ∧ (i 1 : Nat) < win0_4.index t 1 * 512 + 512
      rw [hi.2]; omega

end Cert.KernelFirstIdeal.Val

namespace Cert.ReferenceFirstIdeal.Val

open Cert.ReferenceFirstIdeal Cert.ReferenceFirstIdeal.Gen Cert.ReferenceFirstIdeal.Read

/-- The reference's projection, entry by entry. -/
theorem proj_eq (x : FVec Ideal S8192x2048 .bf16) (w : FVec Ideal S2x2048x13536 .f32) (i : S8192x13536.Idx) :
    val_main_v3 (F := Ideal) x w i = lin x w 0 (i 0).val (i 1).val := by
  rw [val_main_v3_apply]
  unfold lin
  refine Finset.sum_congr rfl fun k _ => congrArg₂ (· * ·) ?_ ?_
  · rw [val_main_v0_apply]
    exact at2_eq x _ rfl rfl
  · rw [val_main_v2_apply, val_main_v1_apply]
    have h1 : (i 1 : Nat) < 13536 := (i 1).isLt
    have hk := k.isLt
    refine at3_eq w _ rfl ?_ ?_
    · show (k.val * 13536 + (i 1).val) / 13536 % 2048 = k.val; omega
    · show (k.val * 13536 + (i 1).val) % 13536 = _; omega

/-- The reference's padding value is zero. -/
theorem padval (i : S_.Idx) : val_main_call0_v0 (F := Ideal) i = 0 := by
  exact sitofp_zero (φ := .f32)

/-- The reference's shifted projection, entry by entry. -/
theorem shifted_eq (x : FVec Ideal S8192x2048 .bf16) (w : FVec Ideal S2x2048x13536 .f32) (mu : FVec Ideal S8384 .f32) (i : S8192x8384.Idx) :
    val_main_v11 (F := Ideal) x w mu i = shift (lin x w 0) (at1 mu) (i 0).val (i 1).val := by
  have h4 : ∀ j : S8192x8384.Idx, val_main_v4 (F := Ideal) x w j = lin x w 0 (j 0).val (j 1).val := fun j => by
    rw [val_main_v4_apply]
    exact proj_eq x w _
  have h0 : (i 0 : Nat) < 8192 := (i 0).isLt
  have h1 : (i 1 : Nat) < 8384 := (i 1).isLt
  have h6 : val_main_v6 (F := Ideal) x w i = if (i 0).val = 0 then 0 else lin x w 0 ((i 0).val - 1) (i 1).val := by
    rw [val_main_v6_apply]
    unfold val_main_v5
    refine (above_apply (val_main_v4 (F := Ideal) x w) (val_main_call0_v0 (F := Ideal)) pads_S8192x8384_S8193x8384_100_000 h_S_ (idx_main_v6 i)
      (by show (i 0).val < 8193; omega) padval (t := (i 0).val) (n := (i 1).val) rfl rfl).trans ?_
    by_cases h : (i 0).val = 0
    · rw [if_pos h, if_pos h]
    · rw [if_neg h, if_neg h, ← at2_eq (val_main_v4 (F := Ideal) x w) (i := (i 0).val - 1) (j := (i 1).val)
        (ix2 ⟨(i 0).val - 1, by omega⟩ (i 1)) rfl rfl, h4]
  have h9 : val_main_v9 (F := Ideal) mu i = at1 mu (i 1).val := by
    rw [val_main_v9_apply, val_main_v8_apply]
    exact at1_eq mu _ rfl
  show val_main_v4 (F := Ideal) x w i + (val_main_v6 (F := Ideal) x w i - val_main_v4 (F := Ideal) x w i) * val_main_v9 (F := Ideal) mu i = _
  rw [h4, h6, h9]
  rfl

/-- The reference's result, entry by entry. -/
theorem val_eq (x : FVec Ideal S8192x2048 .bf16) (w : FVec Ideal S2x2048x13536 .f32) (mu : FVec Ideal S8384 .f32) (i : S8192x8192.Idx) :
    val_main_v12 (F := Ideal) x w mu i = shift (lin x w 0) (at1 mu) (i 0).val (i 1).val := by
  rw [val_main_v12_apply]
  exact shifted_eq x w mu _

end Cert.ReferenceFirstIdeal.Val

namespace Cert.Val

/-- The shifted projection of an even layer's first part. -/
theorem first : Cert.algebraic_KernelFirstIdeal_ReferenceFirstIdeal := by
  intro m g m' g' _ hag
  refine ⟨fun c => KernelFirstIdeal.Val.G m c, ?_, ?_⟩
  · exact (θ_run Cert.KernelFirstIdeal.defs _ _).mono
      (fun r h c => ⟨(h c).1.trans (KernelFirstIdeal.Val.final m c), (h c).2⟩) (KernelFirstIdeal.Value.run_blocks (F := Ideal) m g)
  · refine (θ_run Cert.ReferenceFirstIdeal.defs _ _).mono (fun r h c => ⟨(h c).1.trans ?_, (h c).2⟩)
      (ReferenceFirstIdeal.Value.run (F := Ideal) m' g')
    rw [(hag c).1, (hag c).2.1, (hag c).2.2]
    refine (ReferenceFirstIdeal.Read.val_main_v12_eq (F := Ideal) _ _ _).trans ?_
    funext i
    exact ReferenceFirstIdeal.Val.val_eq _ _ _ i

end Cert.Val

end
-- ==== Proof.Ssm.lean ====
/-
  The value of the even layer's plain projection: each grid point stores its block of `h @ w[0]`, columns 8384 to 13503,
  and the blocks tile the array.
-/
module

public import proofs.«01_k».proof.Proof.Lin
public import proofs.«01_k».proof.Proof.Gen.KernelSsmIdeal.Value
public import proofs.«01_k».proof.Proof.Gen.ReferenceSsmIdeal.Read
public import proofs.«01_k».proof.Defs

@[expose] public section

noncomputable section

open scoped BigOperators
open Idealize.ShloMosaic Idealize.ShloMosaic.TcCoe Idealize.SL.Sem Idealize.ShloMosaic.ValueIdx
open Idealize.ShloMosaic.Pipeline (Dat)
open Cert.Lin

namespace Cert.KernelSsmIdeal.Val

open Cert.KernelSsmIdeal Cert.KernelSsmIdeal.Gen

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The token array as launched. -/
abbrev X (c : Dev nD) : FVec Ideal S8192x2048 .bf16 := m ((c : Thread nD τ).loc main_arg0)
/-- The weight stack as launched. -/
abbrev W (c : Dev nD) : FVec Ideal S2x2048x13536 .f32 := m ((c : Thread nD τ).loc main_arg1)

/-- The array the call leaves. -/
def G (c : Dev nD) : FVec Ideal S8192x5120 .f32 := fun i => lin (X m c) (W m c) 0 (i 0).val ((i 1).val + 8384)

/-- Where the windows' blocks begin. -/
theorem idx : ∀ t : Fin cfg0.N, (win0_0.index t 0 = t.val / 10 ∧ win0_0.index t 1 = 0)
    ∧ (win0_1.index t 0 = 0 ∧ win0_1.index t 1 = t.val % 10 * 512 + 8384 ∧ win0_1.index t 2 = 0)
    ∧ win0_2.index t 0 = t.val / 10 ∧ win0_2.index t 1 = t.val % 10 :=
  (by decide +kernel : ∀ t : Fin grid0.N, (win0_0.index t 0 = t.val / 10 ∧ win0_0.index t 1 = 0)
    ∧ (win0_1.index t 0 = 0 ∧ win0_1.index t 1 = t.val % 10 * 512 + 8384 ∧ win0_1.index t 2 = 0)
    ∧ win0_2.index t 0 = t.val / 10 ∧ win0_2.index t 1 = t.val % 10)

/-- The token block at a point. -/
theorem blk0 (c : Dev nD) (t : Fin cfg0.N) (y : S2048x2048.Idx) :
    (iblk m c 0 t : FVec Ideal S2048x2048 .bf16) y = at2 (X m c) (t.val / 10 * 2048 + (y 0).val) (y 1).val := by
  have hi := (idx t).1
  rw [← at2_eq (X m c) ((win0_0.rect t).emb y)
    (by rw [win0_0.rect_emb_val t y 0, hi.1]; rfl) (by rw [win0_0.rect_emb_val t y 1, hi.2]; show 0 * 2048 + (y 1).val = _; omega)]
  unfold iblk
  rw [View.read_apply]
  show V m c main_arg0 _ = _
  rw [V_main_arg0]
  rfl

/-- The weight block at a point. -/
theorem blk1 (c : Dev nD) (t : Fin cfg0.N) (y : S1x512x2048.Idx) :
    (iblk m c 1 t : FVec Ideal S1x512x2048 .f32) y = at3 (W m c) 0 (y 2).val (t.val % 10 * 512 + (y 1).val + 8384) := by
  have hi := (idx t).2.1
  have h0 : (y 0).val < 1 := (y 0).isLt
  have hV : (V m c main_v0 : FVec Ideal S2x13536x2048 .f32)
      = transpose S2x13536x2048 [0, 2, 1] (W m c) transposes_S2x2048x13536_S2x13536x2048_0_2_1 := by
    show StableHlo.after hostOps0 (fun b => m (c, b)) (Proc.devRef .tc main_v0) = _
    after_results <;> rfl
  rw [← transpose_at (W m c) transposes_S2x2048x13536_S2x13536x2048_0_2_1 ((win0_1.rect t).emb y)
    (by rw [win0_1.rect_emb_val_off t y 0, hi.1]; show 0 + (y 0).val = 0; omega)
    (by rw [win0_1.rect_emb_val_off t y 1, hi.2.1]; show t.val % 10 * 512 + 8384 + (y 1).val = _; omega)
    (by rw [win0_1.rect_emb_val_off t y 2, hi.2.2]; show 0 + (y 2).val = _; omega)]
  unfold iblk
  rw [View.read_apply]
  show V m c main_v0 _ = _
  rw [hV]
  rfl

/-- What the body stores, entry by entry. -/
theorem stored (v0 : FVec Ideal S1x512x2048 .f32) (v3 : FVec Ideal S2048x2048 .bf16) (y : S2048x512.Idx) :
    k0_pay1 (F := Ideal) v0 v3 y = ∑ k : Fin 2048, v3 (ix2 (y 0) k) * v0 (ix3 0 (y 1) k) := by
  unfold k0_pay1
  exact matmul_slab v3 v0 shapeCasts_S1x512x2048_S512x2048 bitsLt_bf16_f32 y

/-- What a point writes back is its block of the array. -/
theorem flushed (c : Dev nD) (t : Fin cfg0.N) (hf : (cfg0.win 2).flush t = true) :
    (dats m 0 c).flushed 2 t = ((cfg0.win 2).blk t).view.read (Elt Ideal) (G m c) := by
  rw [Value.flushed2]
  unfold out0_2
  rw [View.canon_unit_zero (S := S2048x512) hz2]
  funext y
  have hi := (idx t).2.2
  show k0_pay1 (F := Ideal) (View.ld (iblk m c 1 t) r0_0) (View.ld (iblk m c 0 t) r0_1) y = _
  rw [View.ld_unit_zero (S := S1x512x2048) hz3, View.ld_unit_zero (S := S2048x2048) hz2, View.read_apply]
  have e0 : ((win0_2.rect t).emb y 0).val = t.val / 10 * 2048 + (y 0).val := by
    rw [win0_2.rect_emb_val t y 0, hi.1]; rfl
  have e1 : ((win0_2.rect t).emb y 1).val = t.val % 10 * 512 + (y 1).val := by
    rw [win0_2.rect_emb_val t y 1, hi.2]; rfl
  refine (stored _ _ y).trans ?_
  show _ = lin (X m c) (W m c) 0 ((win0_2.rect t).emb y 0).val (((win0_2.rect t).emb y 1).val + 8384)
  rw [e0, e1]
  unfold lin
  exact Finset.sum_congr rfl fun k _ => congrArg₂ (· * ·) (blk0 m c t _) (blk1 m c t _)

/-- The blocks tile the array. -/
theorem final (c : Dev nD) : (dats m 0 c).arrAt 2 cfg0.N = G m c :=
  (dats m 0 c).arrAt_eq_of_cover 2 (G m c) (flushed m c) fun i => by
    have h0 : (i 0 : Nat) < 8192 := (i 0).isLt
    have h1 : (i 1 : Nat) < 5120 := (i 1).isLt
    have hN : cfg0.N = 40 := N_0
    refine ⟨⟨(i 0 : Nat) / 2048 * 10 + (i 1 : Nat) / 512, by rw [hN]; omega⟩, (by decide +kernel : ∀ t : Fin grid0.N, win0_2.flush t = true) _, ?_⟩
    generalize hT : (⟨(i 0 : Nat) / 2048 * 10 + (i 1 : Nat) / 512, _⟩ : Fin cfg0.N) = t
    have ht : t.val = (i 0 : Nat) / 2048 * 10 + (i 1 : Nat) / 512 := by rw [← hT]
    have hi := (idx t).2.2
    show i ∈ ((View.whole main_v1).slice (win0_2.rect t)).set
    rw [View.set_slice_whole, Rect.mem_set_unit]
    intro a
    match a with
    | ⟨0, _⟩ =>
      show win0_2.index t 0 * 2048 ≤ (i 0 : Nat) ∧ (i 0 : Nat) < win0_2.index t 0 * 2048 + 2048
      rw [hi.1]; omega
    | ⟨1, _⟩ =>
      show win0_2.index t 1 * 512 ≤ (i 1 : Nat) ∧ (i 1 : Nat) < win0_2.index t 1 * 512 + 512
      rw [hi.2]; omega

end Cert.KernelSsmIdeal.Val

namespace Cert.ReferenceSsmIdeal.Val

open Cert.ReferenceSsmIdeal Cert.ReferenceSsmIdeal.Gen Cert.ReferenceSsmIdeal.Read

/-- The reference's result, entry by entry. -/
theorem val_eq (x : FVec Ideal S8192x2048 .bf16) (w : FVec Ideal S2x2048x13536 .f32) (i : S8192x5120.Idx) :
    val_main_v4 (F := Ideal) x w i = lin x w 0 (i 0).val ((i 1).val + 8384) := by
  rw [val_main_v4_apply, val_main_v3_apply]
  unfold lin
  refine Finset.sum_congr rfl fun k _ => congrArg₂ (· * ·) ?_ ?_
  · rw [val_main_v0_apply]
    exact at2_eq x _ rfl rfl
  · rw [val_main_v2_apply, val_main_v1_apply]
    have h1 : (i 1 : Nat) < 5120 := (i 1).isLt
    have hk := k.isLt
    refine at3_eq w _ rfl ?_ ?_
    · show (k.val * 13536 + (8384 + (i 1).val)) / 13536 % 2048 = k.val; omega
    · show (k.val * 13536 + (8384 + (i 1).val)) % 13536 = _; omega

end Cert.ReferenceSsmIdeal.Val

namespace Cert.Val

/-- The even layer's plain projection. -/
theorem ssm : Cert.algebraic_KernelSsmIdeal_ReferenceSsmIdeal := by
  intro m g m' g' _ hag
  refine ⟨fun c => KernelSsmIdeal.Val.G m c, ?_, ?_⟩
  · exact (θ_run Cert.KernelSsmIdeal.defs _ _).mono
      (fun r h c => ⟨(h c).1.trans (KernelSsmIdeal.Val.final m c), (h c).2⟩) (KernelSsmIdeal.Value.run_blocks (F := Ideal) m g)
  · refine (θ_run Cert.ReferenceSsmIdeal.defs _ _).mono (fun r h c => ⟨(h c).1.trans ?_, (h c).2⟩)
      (ReferenceSsmIdeal.Value.run (F := Ideal) m' g')
    rw [(hag c).1, (hag c).2]
    refine (ReferenceSsmIdeal.Read.val_main_v4_eq (F := Ideal) _ _).trans ?_
    funext i
    exact ReferenceSsmIdeal.Val.val_eq _ _ i

end Cert.Val

end
-- ==== Proof.Small.lean ====
/-
  The value of the narrow projection of an even layer: 512 columns gathered from two places of the weights, columns
  8192 to 8447 and 13280 to 13535, the first 192 of them token-shifted. The kernel shifts all 512 by mixing weights
  that are zero from the 192nd on; the reference shifts the 192 and puts the rest beside them.
-/
module

public import proofs.«01_k».proof.Proof.Lin
public import proofs.«01_k».proof.Proof.Gen.KernelSmallIdeal.Value
public import proofs.«01_k».proof.Proof.Gen.ReferenceSmallIdeal.Read
public import proofs.«01_k».proof.Defs

@[expose] public section

noncomputable section

open scoped BigOperators
open Idealize.ShloMosaic Idealize.ShloMosaic.TcCoe Idealize.SL.Sem Idealize.ShloMosaic.ValueIdx
open Idealize.ShloMosaic.Pipeline (Dat)
open Cert.Lin

namespace Cert.KernelSmallIdeal.Val

open Cert.KernelSmallIdeal Cert.KernelSmallIdeal.Gen

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The token array as launched. -/
abbrev X (c : Dev nD) : FVec Ideal S8192x2048 .bf16 := m ((c : Thread nD τ).loc main_arg0)
/-- The weight stack as launched. -/
abbrev W (c : Dev nD) : FVec Ideal S2x2048x13536 .f32 := m ((c : Thread nD τ).loc main_arg1)
/-- The shift's mixing weights as launched. -/
abbrev Mu (c : Dev nD) : FVec Ideal S8384 .f32 := m ((c : Thread nD τ).loc main_arg2)

/-- Which column of the weights column `n` of the result is taken from. -/
def src (n : ℕ) : ℕ := if n < 256 then 8192 + n else 13280 + (n - 256)

/-- The array the call leaves. -/
def G (c : Dev nD) : FVec Ideal S8192x512 .f32 := fun i => shift (fun t n => lin (X m c) (W m c) 0 t (src n)) (fun n => at1 (Mu m c) (8192 + n)) (i 0).val (i 1).val

/-- Where the windows' blocks begin. -/
theorem idx : ∀ t : Fin cfg0.N, (win0_0.index t 0 = t.val / 2 ∧ win0_0.index t 1 = 0)
    ∧ (win0_1.index t 0 = t.val / 2 * 128 - 1 ∧ win0_1.index t 1 = 0)
    ∧ (win0_2.index t 0 = 0 ∧ win0_2.index t 1 = 8192 + t.val % 2 * 5088 ∧ win0_2.index t 2 = 0)
    ∧ (win0_3.index t 0 = 0 ∧ win0_3.index t 1 = t.val % 2)
    ∧ (win0_4.index t 0 = t.val / 2 ∧ win0_4.index t 1 = t.val % 2)
    ∧ (grid0.coords t 0).val = t.val / 2 :=
  (by decide +kernel : ∀ t : Fin grid0.N, (win0_0.index t 0 = t.val / 2 ∧ win0_0.index t 1 = 0)
    ∧ (win0_1.index t 0 = t.val / 2 * 128 - 1 ∧ win0_1.index t 1 = 0)
    ∧ (win0_2.index t 0 = 0 ∧ win0_2.index t 1 = 8192 + t.val % 2 * 5088 ∧ win0_2.index t 2 = 0)
    ∧ (win0_3.index t 0 = 0 ∧ win0_3.index t 1 = t.val % 2)
    ∧ (win0_4.index t 0 = t.val / 2 ∧ win0_4.index t 1 = t.val % 2)
    ∧ (grid0.coords t 0).val = t.val / 2)

/-- The token block at a point. -/
theorem blk0 (c : Dev nD) (t : Fin cfg0.N) (y : S2048x2048.Idx) :
    (iblk m c 0 t : FVec Ideal S2048x2048 .bf16) y = at2 (X m c) (t.val / 2 * 2048 + (y 0).val) (y 1).val := by
  have hi := (idx t).1
  rw [← at2_eq (X m c) ((win0_0.rect t).emb y)
    (by rw [win0_0.rect_emb_val t y 0, hi.1]; rfl) (by rw [win0_0.rect_emb_val t y 1, hi.2]; show 0 * 2048 + (y 1).val = _; omega)]
  unfold iblk
  rw [View.read_apply]
  show V m c main_arg0 _ = _
  rw [V_main_arg0]
  rfl

/-- The halo at a point. -/
theorem blk1 (c : Dev nD) (t : Fin cfg0.N) (y : S16x2048.Idx) :
    (iblk m c 1 t : FVec Ideal S16x2048 .bf16) y = at2 (X m c) ((t.val / 2 * 128 - 1) * 16 + (y 0).val) (y 1).val := by
  have hi := (idx t).2.1
  rw [← at2_eq (X m c) ((win0_1.rect t).emb y)
    (by rw [win0_1.rect_emb_val t y 0, hi.1]; rfl) (by rw [win0_1.rect_emb_val t y 1, hi.2]; show 0 * 2048 + (y 1).val = _; omega)]
  unfold iblk
  rw [View.read_apply]
  show V m c main_arg0 _ = _
  rw [V_main_arg0]
  rfl

/-- The weight block at a point. -/
theorem blk2 (c : Dev nD) (t : Fin cfg0.N) (y : S1x256x2048.Idx) :
    (iblk m c 2 t : FVec Ideal S1x256x2048 .f32) y = at3 (W m c) 0 (y 2).val (src (t.val % 2 * 256 + (y 1).val)) := by
  have hi := (idx t).2.2.1
  have h0 : (y 0).val < 1 := (y 0).isLt
  have hV : (V m c main_v0 : FVec Ideal S2x13536x2048 .f32)
      = transpose S2x13536x2048 [0, 2, 1] (W m c) transposes_S2x2048x13536_S2x13536x2048_0_2_1 := by
    show StableHlo.after hostOps0 (fun b => m (c, b)) (Proc.devRef .tc main_v0) = _
    after_results <;> rfl
  rw [← transpose_at (W m c) transposes_S2x2048x13536_S2x13536x2048_0_2_1 ((win0_2.rect t).emb y)
    (by rw [win0_2.rect_emb_val_off t y 0, hi.1]; show 0 + (y 0).val = 0; omega)
    (by
      rw [win0_2.rect_emb_val_off t y 1, hi.2.1]
      have h1 : (y 1).val < 256 := (y 1).isLt
      show 8192 + t.val % 2 * 5088 + (y 1).val = src (t.val % 2 * 256 + (y 1).val)
      have hm : t.val % 2 < 2 := Nat.mod_lt _ (by decide)
      unfold src
      by_cases h : t.val % 2 = 0
      · rw [h, if_pos (by omega)]; omega
      · rw [if_neg (by omega)]; omega)
    (by rw [win0_2.rect_emb_val_off t y 2, hi.2.2]; show 0 + (y 2).val = _; omega)]
  unfold iblk
  rw [View.read_apply]
  show V m c main_v0 _ = _
  rw [hV]
  rfl

/-- The mixing weights extended by zeros. -/
theorem mu_apply (mu : FVec Ideal S8384 .f32) (i : S512.Idx) :
    concatenate S512 0 [⟨S192, extractStridedSlice S192 ![8192] mu slices_S8384_S192_8192⟩,
      ⟨S320, broadcastInDim S320 ![] bcast_S_S320 (constant (F := Ideal) S_ .f32 0x00000000#32)⟩] concatenates_S192_S320_S512_d0 i
      = at1 mu (8192 + (i 0).val) := by
  by_cases h : (i 0).val < 192
  · refine (concatenate_pair_apply_left 0 _ _ concatenates_S192_S320_S512_d0 i rfl (ix1 ⟨(i 0).val, h⟩) (fun b => match b with
      | ⟨0, _⟩ => rfl)).trans ?_
    refine (extractStridedSlice_apply ![8192] mu slices_S8384_S192_8192 _ (ix1 ⟨8192 + (i 0).val, by omega⟩) (fun a => match a with
      | ⟨0, _⟩ => rfl)).trans ?_
    exact at1_eq mu _ rfl
  · have h1 : (i 0).val < 512 := (i 0).isLt
    refine (concatenate_pair_apply_right 0 _ _ concatenates_S192_S320_S512_d0 i rfl rfl (ix1 ⟨(i 0).val - 192, by omega⟩)
      (fun b hb => match b with | ⟨0, _⟩ => absurd rfl hb) (by show ((i 0).val - 192) + 192 = (i 0).val; omega)).trans ?_
    unfold at1
    rw [dif_neg (by omega)]
    exact Ideal.ofBits_zero_f32

/-- The mixing weights' row at a point. -/
theorem blk3 (c : Dev nD) (t : Fin cfg0.N) (y : S8x256.Idx) (hy : (y 0).val = 0) :
    (iblk m c 3 t : FVec Ideal S8x256 .f32) y = at1 (Mu m c) (8192 + (t.val % 2 * 256 + (y 1).val)) := by
  have hi := (idx t).2.2.2.1
  have e0 : ((win0_3.rect t).emb y 0).val = 0 := by
    rw [win0_3.rect_emb_val t y 0, hi.1]; show 0 * 8 + (y 0).val = 0; omega
  have e1 : ((win0_3.rect t).emb y 1).val = t.val % 2 * 256 + (y 1).val := by
    rw [win0_3.rect_emb_val t y 1, hi.2]; rfl
  have hV : (V m c main_v6 : FVec Ideal S8x512 .f32)
      = concatenate S8x512 0 [⟨S1x512, broadcastInDim S1x512 ![1] bcast_S512_S1x512_1
            (concatenate S512 0 [⟨S192, extractStridedSlice S192 ![8192] (Mu m c) slices_S8384_S192_8192⟩,
              ⟨S320, broadcastInDim S320 ![] bcast_S_S320 (constant (F := Ideal) S_ .f32 0x00000000#32)⟩] concatenates_S192_S320_S512_d0)⟩,
          ⟨S7x512, broadcastInDim S7x512 ![] bcast_S_S7x512 (constant (F := Ideal) S_ .f32 0x00000000#32)⟩]
          concatenates_S1x512_S7x512_S8x512_d0 := by
    show StableHlo.after hostOps0 (fun b => m (c, b)) (Proc.devRef .tc main_v6) = _
    after_results <;> rfl
  unfold iblk
  rw [View.read_apply]
  show V m c main_v6 _ = _
  rw [hV]
  refine (rows8_zero _ _ concatenates_S1x512_S7x512_S8x512_d0 ((win0_3.rect t).emb y) e0).trans ?_
  refine (row_apply _ bcast_S512_S1x512_1 _).trans ?_
  have h1 : (y 1).val < 256 := (y 1).isLt
  refine (mu_apply (Mu m c) (ix1 ((win0_3.rect t).emb y 1))).trans ?_
  exact congrArg (fun n => at1 (Mu m c) (8192 + n)) e1

/-- What the body stores, entry by entry. -/
theorem stored (i : grid0.Coords) (v0 : FVec Ideal S1x256x2048 .f32) (v3 : FVec Ideal S2048x2048 .bf16) (v5 : FVec Ideal S16x2048 .bf16)
    (v19 : FVec Ideal S1x256 .f32) (y : S2048x256.Idx) (A P : EReal)
    (hA : ∑ k : Fin 2048, v3 (ix2 (y 0) k) * v0 (ix3 0 (y 1) k) = A)
    (hP : (if (y 0).val = 0 then (if (i 0).val = 0 then 0 else ∑ k : Fin 2048, v5 (ix2 15 k) * v0 (ix3 0 (y 1) k))
      else ∑ k : Fin 2048, v3 (ix2 ⟨(y 0).val - 1, Nat.lt_of_le_of_lt (Nat.sub_le _ _) (y 0).isLt⟩ k) * v0 (ix3 0 (y 1) k)) = P) :
    k0_pay1 (F := Ideal) i v0 v3 v5 v19 y = A + (P - A) * v19 (ix2 0 (y 1)) := by
  subst hA hP
  have hi : (i 0).val < 4 := (i 0).isLt
  unfold k0_pay1
  refine (shift_block (i 0).val (by omega) _ _ v19 slices_S16x256_o15_0_S1x256 iota_S2048x256_d0_w32 rotates_S2048x256_d0
    shapeCasts_S1x256_S1x256 broadcasts_S1x256_S2048x256 y).trans ?_
  refine congrArg₂ (fun a b => a + (b - a) * v19 (ix2 0 (y 1)))
    (matmul_slab v3 v0 shapeCasts_S1x256x2048_S256x2048 bitsLt_bf16_f32 y) ?_
  split
  · split
    · rfl
    · exact matmul_slab v5 v0 shapeCasts_S1x256x2048_S256x2048 bitsLt_bf16_f32 (ix2 15 (y 1))
  · exact matmul_slab v3 v0 shapeCasts_S1x256x2048_S256x2048 bitsLt_bf16_f32 (ix2 ⟨(y 0).val - 1, _⟩ (y 1))

/-- What a point writes back is its block of the array. -/
theorem flushed (c : Dev nD) (t : Fin cfg0.N) (hf : (cfg0.win 4).flush t = true) :
    (dats m 0 c).flushed 4 t = ((cfg0.win 4).blk t).view.read (Elt Ideal) (G m c) := by
  rw [Value.flushed4]
  unfold out0_4
  rw [View.canon_unit_zero (S := S2048x256) hz2]
  funext y
  have hi := (idx t).2.2.2.2
  have hy : (y 0).val < 2048 := (y 0).isLt
  show k0_pay1 (F := Ideal) (grid0.coords t) (View.ld (iblk m c 2 t) r0_0) (View.ld (iblk m c 0 t) r0_1) (View.ld (iblk m c 1 t) r0_2)
    (View.ld (iblk m c 3 t) r0_3) y = _
  rw [View.ld_unit_zero (S := S1x256x2048) hz3, View.ld_unit_zero (S := S2048x2048) hz2, View.ld_unit_zero (S := S16x2048) hz2, View.read_apply]
  have e0 : ((win0_4.rect t).emb y 0).val = t.val / 2 * 2048 + (y 0).val := by
    rw [win0_4.rect_emb_val t y 0, hi.1.1]; rfl
  have e1 : ((win0_4.rect t).emb y 1).val = t.val % 2 * 256 + (y 1).val := by
    rw [win0_4.rect_emb_val t y 1, hi.1.2]; rfl
  refine (stored _ _ _ _ _ y (lin (X m c) (W m c) 0 (t.val / 2 * 2048 + (y 0).val) (src (t.val % 2 * 256 + (y 1).val)))
    (if t.val / 2 * 2048 + (y 0).val = 0 then 0 else
      lin (X m c) (W m c) 0 (t.val / 2 * 2048 + (y 0).val - 1) (src (t.val % 2 * 256 + (y 1).val))) ?_ ?_).trans ?_
  · unfold lin
    exact Finset.sum_congr rfl fun k _ => congrArg₂ (· * ·) (blk0 m c t _) (blk2 m c t _)
  · rw [hi.2]
    by_cases h : (y 0).val = 0
    · rw [if_pos h]
      by_cases h' : t.val / 2 = 0
      · rw [if_pos h', if_pos (by omega)]
      · rw [if_neg h', if_neg (by omega)]
        unfold lin
        refine Finset.sum_congr rfl fun k _ => congrArg₂ (· * ·) ((blk1 m c t _).trans ?_) (blk2 m c t _)
        refine congrArg (at2 (X m c) · k.val) ?_
        show (t.val / 2 * 128 - 1) * 16 + 15 = _
        omega
    · rw [if_neg h, if_neg (by omega)]
      unfold lin
      refine Finset.sum_congr rfl fun k _ => congrArg₂ (· * ·) ((blk0 m c t _).trans ?_) (blk2 m c t _)
      refine congrArg (at2 (X m c) · k.val) ?_
      show t.val / 2 * 2048 + ((y 0).val - 1) = _
      omega
  · show _ = shift (fun t n => lin (X m c) (W m c) 0 t (src n)) (fun n => at1 (Mu m c) (8192 + n)) ((win0_4.rect t).emb y 0).val ((win0_4.rect t).emb y 1).val
    rw [e0, e1]
    unfold shift
    refine congrArg (fun z : EReal => lin (X m c) (W m c) 0 (t.val / 2 * 2048 + (y 0).val) (src (t.val % 2 * 256 + (y 1).val))
      + ((if t.val / 2 * 2048 + (y 0).val = 0 then 0 else
        lin (X m c) (W m c) 0 (t.val / 2 * 2048 + (y 0).val - 1) (src (t.val % 2 * 256 + (y 1).val)))
        - lin (X m c) (W m c) 0 (t.val / 2 * 2048 + (y 0).val) (src (t.val % 2 * 256 + (y 1).val))) * z) ?_
    exact (blk3 m c t (r0_3.emb (ix2 0 (y 1))) rfl).trans (congrArg (fun n => at1 (Mu m c) (8192 + n)) (by
      show t.val % 2 * 256 + (0 + 1 * (y 1).val) = _; omega))

/-- The blocks tile the array. -/
theorem final (c : Dev nD) : (dats m 0 c).arrAt 4 cfg0.N = G m c :=
  (dats m 0 c).arrAt_eq_of_cover 4 (G m c) (flushed m c) fun i => by
    have h0 : (i 0 : Nat) < 8192 := (i 0).isLt
    have h1 : (i 1 : Nat) < 512 := (i 1).isLt
    have hN : cfg0.N = 8 := N_0
    refine ⟨⟨(i 0 : Nat) / 2048 * 2 + (i 1 : Nat) / 256, by rw [hN]; omega⟩, (by decide +kernel : ∀ t : Fin grid0.N, win0_4.flush t = true) _, ?_⟩
    generalize hT : (⟨(i 0 : Nat) / 2048 * 2 + (i 1 : Nat) / 256, _⟩ : Fin cfg0.N) = t
    have ht : t.val = (i 0 : Nat) / 2048 * 2 + (i 1 : Nat) / 256 := by rw [← hT]
    have hi := (idx t).2.2.2.2.1
    show i ∈ ((View.whole main_v7).slice (win0_4.rect t)).set
    rw [View.set_slice_whole, Rect.mem_set_unit]
    intro a
    match a with
    | ⟨0, _⟩ =>
      show win0_4.index t 0 * 2048 ≤ (i 0 : Nat) ∧ (i 0 : Nat) < win0_4.index t 0 * 2048 + 2048
      rw [hi.1]; omega
    | ⟨1, _⟩ =>
      show win0_4.index t 1 * 256 ≤ (i 1 : Nat) ∧ (i 1 : Nat) < win0_4.index t 1 * 256 + 256
      rw [hi.2]; omega

end Cert.KernelSmallIdeal.Val

namespace Cert.ReferenceSmallIdeal.Val

open Cert.ReferenceSmallIdeal Cert.ReferenceSmallIdeal.Gen Cert.ReferenceSmallIdeal.Read

/-- The reference's projection, entry by entry. -/
theorem proj_eq (x : FVec Ideal S8192x2048 .bf16) (w : FVec Ideal S2x2048x13536 .f32) (i : S8192x13536.Idx) :
    val_main_v3 (F := Ideal) x w i = lin x w 0 (i 0).val (i 1).val := by
  rw [val_main_v3_apply]
  unfold lin
  refine Finset.sum_congr rfl fun k _ => congrArg₂ (· * ·) ?_ ?_
  · rw [val_main_v0_apply]
    exact at2_eq x _ rfl rfl
  · rw [val_main_v2_apply, val_main_v1_apply]
    have h1 : (i 1 : Nat) < 13536 := (i 1).isLt
    have hk := k.isLt
    refine at3_eq w _ rfl ?_ ?_
    · show (k.val * 13536 + (i 1).val) / 13536 % 2048 = k.val; omega
    · show (k.val * 13536 + (i 1).val) % 13536 = _; omega

/-- The reference's padding value is zero. -/
theorem padval (i : S_.Idx) : val_main_call0_v0 (F := Ideal) i = 0 := by
  exact sitofp_zero (φ := .f32)

/-- The reference's shifted projection, entry by entry. -/
theorem shifted_eq (x : FVec Ideal S8192x2048 .bf16) (w : FVec Ideal S2x2048x13536 .f32) (mu : FVec Ideal S8384 .f32) (i : S8192x8384.Idx) :
    val_main_v11 (F := Ideal) x w mu i = shift (lin x w 0) (at1 mu) (i 0).val (i 1).val := by
  have h4 : ∀ j : S8192x8384.Idx, val_main_v4 (F := Ideal) x w j = lin x w 0 (j 0).val (j 1).val := fun j => by
    rw [val_main_v4_apply]
    exact proj_eq x w _
  have h0 : (i 0 : Nat) < 8192 := (i 0).isLt
  have h1 : (i 1 : Nat) < 8384 := (i 1).isLt
  have h6 : val_main_v6 (F := Ideal) x w i = if (i 0).val = 0 then 0 else lin x w 0 ((i 0).val - 1) (i 1).val := by
    rw [val_main_v6_apply]
    unfold val_main_v5
    refine (above_apply (val_main_v4 (F := Ideal) x w) (val_main_call0_v0 (F := Ideal)) pads_S8192x8384_S8193x8384_100_000 h_S_ (idx_main_v6 i)
      (by show (i 0).val < 8193; omega) padval (t := (i 0).val) (n := (i 1).val) rfl rfl).trans ?_
    by_cases h : (i 0).val = 0
    · rw [if_pos h, if_pos h]
    · rw [if_neg h, if_neg h, ← at2_eq (val_main_v4 (F := Ideal) x w) (i := (i 0).val - 1) (j := (i 1).val)
        (ix2 ⟨(i 0).val - 1, by omega⟩ (i 1)) rfl rfl, h4]
  have h9 : val_main_v9 (F := Ideal) mu i = at1 mu (i 1).val := by
    rw [val_main_v9_apply, val_main_v8_apply]
    exact at1_eq mu _ rfl
  show val_main_v4 (F := Ideal) x w i + (val_main_v6 (F := Ideal) x w i - val_main_v4 (F := Ideal) x w i) * val_main_v9 (F := Ideal) mu i = _
  rw [h4, h6, h9]
  rfl

/-- The reference's result, entry by entry. -/
theorem val_eq (x : FVec Ideal S8192x2048 .bf16) (w : FVec Ideal S2x2048x13536 .f32) (mu : FVec Ideal S8384 .f32) (i : S8192x512.Idx) :
    val_main_v15 (F := Ideal) x w mu i
      = shift (fun t n => lin x w 0 t (Cert.KernelSmallIdeal.Val.src n)) (fun n => at1 mu (8192 + n)) (i 0).val (i 1).val := by
  have h0 : (i 0 : Nat) < 8192 := (i 0).isLt
  have h1 : (i 1 : Nat) < 512 := (i 1).isLt
  unfold val_main_v15
  by_cases h : (i 1).val < 192
  · refine (concatenate_apply_piece 1 _ _ i 0 (by show 0 < 3; omega) S8192x192 (val_main_v12 (F := Ideal) x w mu) rfl rfl 0 rfl
      (ix2 ⟨(i 0).val, h0⟩ ⟨(i 1).val, h⟩) (fun b hb => ?_) (by show 0 + (i 1).val = (i 1).val; omega)).trans ?_
    · match b with
      | ⟨0, _⟩ => rfl
      | ⟨1, _⟩ => exact absurd rfl hb
    · rw [val_main_v12_apply, shifted_eq]
      show shift (lin x w 0) (at1 mu) (i 0).val (8192 + (i 1).val) = _
      unfold shift Cert.KernelSmallIdeal.Val.src
      simp only [if_pos (by omega : (i 1).val < 256)]
  · rw [shift_zero _ _ _ _ (by unfold at1; rw [dif_neg (by omega)])]
    by_cases h' : (i 1).val < 256
    · refine (concatenate_apply_piece 1 _ _ i 1 (by show 1 < 3; omega) S8192x64 (val_main_v13 (F := Ideal) x w) rfl rfl 192 rfl
        (ix2 ⟨(i 0).val, h0⟩ ⟨(i 1).val - 192, by omega⟩) (fun b hb => ?_) (by show 192 + ((i 1).val - 192) = (i 1).val; omega)).trans ?_
      · match b with
        | ⟨0, _⟩ => rfl
        | ⟨1, _⟩ => exact absurd rfl hb
      · rw [val_main_v13_apply, proj_eq]
        show lin x w 0 (i 0).val (8384 + ((i 1).val - 192)) = lin x w 0 (i 0).val (Cert.KernelSmallIdeal.Val.src (i 1).val)
        unfold Cert.KernelSmallIdeal.Val.src
        rw [if_pos h']
        exact congrArg _ (by omega)
    · refine (concatenate_apply_piece 1 _ _ i 2 (by show 2 < 3; omega) S8192x256 (val_main_v14 (F := Ideal) x w) rfl rfl 256 rfl
        (ix2 ⟨(i 0).val, h0⟩ ⟨(i 1).val - 256, by omega⟩) (fun b hb => ?_) (by show 256 + ((i 1).val - 256) = (i 1).val; omega)).trans ?_
      · match b with
        | ⟨0, _⟩ => rfl
        | ⟨1, _⟩ => exact absurd rfl hb
      · rw [val_main_v14_apply, proj_eq]
        show lin x w 0 (i 0).val (13280 + ((i 1).val - 256)) = lin x w 0 (i 0).val (Cert.KernelSmallIdeal.Val.src (i 1).val)
        unfold Cert.KernelSmallIdeal.Val.src
        rw [if_neg h']

end Cert.ReferenceSmallIdeal.Val

namespace Cert.Val

/-- The narrow projection of an even layer. -/
theorem small : Cert.algebraic_KernelSmallIdeal_ReferenceSmallIdeal := by
  intro m g m' g' _ hag
  refine ⟨fun c => KernelSmallIdeal.Val.G m c, ?_, ?_⟩
  · exact (θ_run Cert.KernelSmallIdeal.defs _ _).mono
      (fun r h c => ⟨(h c).1.trans (KernelSmallIdeal.Val.final m c), (h c).2⟩) (KernelSmallIdeal.Value.run_blocks (F := Ideal) m g)
  · refine (θ_run Cert.ReferenceSmallIdeal.defs _ _).mono (fun r h c => ⟨(h c).1.trans ?_, (h c).2⟩)
      (ReferenceSmallIdeal.Value.run (F := Ideal) m' g')
    rw [(hag c).1, (hag c).2.1, (hag c).2.2]
    refine (ReferenceSmallIdeal.Read.val_main_v15_eq (F := Ideal) _ _ _).trans ?_
    funext i
    exact ReferenceSmallIdeal.Val.val_eq _ _ _ i

end Cert.Val

end
-- ==== Proof.Gla.lean ====
/-
  The value of the odd layer's main projection: each grid point stores its block of `h @ w[0]`, columns 0 to 6143,
  and the blocks tile the array.
-/
module

public import proofs.«01_k».proof.Proof.Lin
public import proofs.«01_k».proof.Proof.Gen.KernelGlaIdeal.Value
public import proofs.«01_k».proof.Proof.Gen.ReferenceGlaIdeal.Read
public import proofs.«01_k».proof.Defs

@[expose] public section

noncomputable section

open scoped BigOperators
open Idealize.ShloMosaic Idealize.ShloMosaic.TcCoe Idealize.SL.Sem Idealize.ShloMosaic.ValueIdx
open Idealize.ShloMosaic.Pipeline (Dat)
open Cert.Lin

namespace Cert.KernelGlaIdeal.Val

open Cert.KernelGlaIdeal Cert.KernelGlaIdeal.Gen

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The token array as launched. -/
abbrev X (c : Dev nD) : FVec Ideal S8192x2048 .bf16 := m ((c : Thread nD τ).loc main_arg0)
/-- The weight stack as launched. -/
abbrev W (c : Dev nD) : FVec Ideal S2x2048x6160 .f32 := m ((c : Thread nD τ).loc main_arg1)

/-- The array the call leaves. -/
def G (c : Dev nD) : FVec Ideal S8192x6144 .f32 := fun i => lin (X m c) (W m c) 0 (i 0).val (i 1).val

/-- Where the windows' blocks begin. -/
theorem idx : ∀ t : Fin cfg0.N, (win0_0.index t 0 = t.val / 12 ∧ win0_0.index t 1 = 0)
    ∧ (win0_1.index t 0 = 0 ∧ win0_1.index t 1 = t.val % 12 * 512 ∧ win0_1.index t 2 = 0)
    ∧ win0_2.index t 0 = t.val / 12 ∧ win0_2.index t 1 = t.val % 12 :=
  (by decide +kernel : ∀ t : Fin grid0.N, (win0_0.index t 0 = t.val / 12 ∧ win0_0.index t 1 = 0)
    ∧ (win0_1.index t 0 = 0 ∧ win0_1.index t 1 = t.val % 12 * 512 ∧ win0_1.index t 2 = 0)
    ∧ win0_2.index t 0 = t.val / 12 ∧ win0_2.index t 1 = t.val % 12)

/-- The token block at a point. -/
theorem blk0 (c : Dev nD) (t : Fin cfg0.N) (y : S2048x2048.Idx) :
    (iblk m c 0 t : FVec Ideal S2048x2048 .bf16) y = at2 (X m c) (t.val / 12 * 2048 + (y 0).val) (y 1).val := by
  have hi := (idx t).1
  rw [← at2_eq (X m c) ((win0_0.rect t).emb y)
    (by rw [win0_0.rect_emb_val t y 0, hi.1]; rfl) (by rw [win0_0.rect_emb_val t y 1, hi.2]; show 0 * 2048 + (y 1).val = _; omega)]
  unfold iblk
  rw [View.read_apply]
  show V m c main_arg0 _ = _
  rw [V_main_arg0]
  rfl

/-- The weight block at a point. -/
theorem blk1 (c : Dev nD) (t : Fin cfg0.N) (y : S1x512x2048.Idx) :
    (iblk m c 1 t : FVec Ideal S1x512x2048 .f32) y = at3 (W m c) 0 (y 2).val (t.val % 12 * 512 + (y 1).val) := by
  have hi := (idx t).2.1
  have h0 : (y 0).val < 1 := (y 0).isLt
  have hV : (V m c main_v0 : FVec Ideal S2x6160x2048 .f32)
      = transpose S2x6160x2048 [0, 2, 1] (W m c) transposes_S2x2048x6160_S2x6160x2048_0_2_1 := by
    show StableHlo.after hostOps0 (fun b => m (c, b)) (Proc.devRef .tc main_v0) = _
    after_results <;> rfl
  rw [← transpose_at (W m c) transposes_S2x2048x6160_S2x6160x2048_0_2_1 ((win0_1.rect t).emb y)
    (by rw [win0_1.rect_emb_val_off t y 0, hi.1]; show 0 + (y 0).val = 0; omega)
    (by rw [win0_1.rect_emb_val_off t y 1, hi.2.1])
    (by rw [win0_1.rect_emb_val_off t y 2, hi.2.2]; show 0 + (y 2).val = _; omega)]
  unfold iblk
  rw [View.read_apply]
  show V m c main_v0 _ = _
  rw [hV]
  rfl

/-- What the body stores, entry by entry. -/
theorem stored (v0 : FVec Ideal S1x512x2048 .f32) (v3 : FVec Ideal S2048x2048 .bf16) (y : S2048x512.Idx) :
    k0_pay1 (F := Ideal) v0 v3 y = ∑ k : Fin 2048, v3 (ix2 (y 0) k) * v0 (ix3 0 (y 1) k) := by
  unfold k0_pay1
  exact matmul_slab v3 v0 shapeCasts_S1x512x2048_S512x2048 bitsLt_bf16_f32 y

/-- What a point writes back is its block of the array. -/
theorem flushed (c : Dev nD) (t : Fin cfg0.N) (hf : (cfg0.win 2).flush t = true) :
    (dats m 0 c).flushed 2 t = ((cfg0.win 2).blk t).view.read (Elt Ideal) (G m c) := by
  rw [Value.flushed2]
  unfold out0_2
  rw [View.canon_unit_zero (S := S2048x512) hz2]
  funext y
  have hi := (idx t).2.2
  show k0_pay1 (F := Ideal) (View.ld (iblk m c 1 t) r0_0) (View.ld (iblk m c 0 t) r0_1) y = _
  rw [View.ld_unit_zero (S := S1x512x2048) hz3, View.ld_unit_zero (S := S2048x2048) hz2, View.read_apply]
  have e0 : ((win0_2.rect t).emb y 0).val = t.val / 12 * 2048 + (y 0).val := by
    rw [win0_2.rect_emb_val t y 0, hi.1]; rfl
  have e1 : ((win0_2.rect t).emb y 1).val = t.val % 12 * 512 + (y 1).val := by
    rw [win0_2.rect_emb_val t y 1, hi.2]; rfl
  refine (stored _ _ y).trans ?_
  show _ = lin (X m c) (W m c) 0 ((win0_2.rect t).emb y 0).val ((win0_2.rect t).emb y 1).val
  rw [e0, e1]
  unfold lin
  exact Finset.sum_congr rfl fun k _ => congrArg₂ (· * ·) (blk0 m c t _) (blk1 m c t _)

/-- The blocks tile the array. -/
theorem final (c : Dev nD) : (dats m 0 c).arrAt 2 cfg0.N = G m c :=
  (dats m 0 c).arrAt_eq_of_cover 2 (G m c) (flushed m c) fun i => by
    have h0 : (i 0 : Nat) < 8192 := (i 0).isLt
    have h1 : (i 1 : Nat) < 6144 := (i 1).isLt
    have hN : cfg0.N = 48 := N_0
    refine ⟨⟨(i 0 : Nat) / 2048 * 12 + (i 1 : Nat) / 512, by rw [hN]; omega⟩, (by decide +kernel : ∀ t : Fin grid0.N, win0_2.flush t = true) _, ?_⟩
    generalize hT : (⟨(i 0 : Nat) / 2048 * 12 + (i 1 : Nat) / 512, _⟩ : Fin cfg0.N) = t
    have ht : t.val = (i 0 : Nat) / 2048 * 12 + (i 1 : Nat) / 512 := by rw [← hT]
    have hi := (idx t).2.2
    show i ∈ ((View.whole main_v1).slice (win0_2.rect t)).set
    rw [View.set_slice_whole, Rect.mem_set_unit]
    intro a
    match a with
    | ⟨0, _⟩ =>
      show win0_2.index t 0 * 2048 ≤ (i 0 : Nat) ∧ (i 0 : Nat) < win0_2.index t 0 * 2048 + 2048
      rw [hi.1]; omega
    | ⟨1, _⟩ =>
      show win0_2.index t 1 * 512 ≤ (i 1 : Nat) ∧ (i 1 : Nat) < win0_2.index t 1 * 512 + 512
      rw [hi.2]; omega

end Cert.KernelGlaIdeal.Val

namespace Cert.ReferenceGlaIdeal.Val

open Cert.ReferenceGlaIdeal Cert.ReferenceGlaIdeal.Gen Cert.ReferenceGlaIdeal.Read

/-- The reference's result, entry by entry. -/
theorem val_eq (x : FVec Ideal S8192x2048 .bf16) (w : FVec Ideal S2x2048x6160 .f32) (i : S8192x6144.Idx) :
    val_main_v4 (F := Ideal) x w i = lin x w 0 (i 0).val (i 1).val := by
  rw [val_main_v4_apply, val_main_v3_apply]
  unfold lin
  refine Finset.sum_congr rfl fun k _ => congrArg₂ (· * ·) ?_ ?_
  · rw [val_main_v0_apply]
    exact at2_eq x _ rfl rfl
  · rw [val_main_v2_apply, val_main_v1_apply]
    have h1 : (i 1 : Nat) < 6144 := (i 1).isLt
    have hk := k.isLt
    refine at3_eq w _ rfl ?_ ?_
    · show (k.val * 6160 + (i 1).val) / 6160 % 2048 = k.val; omega
    · show (k.val * 6160 + (i 1).val) % 6160 = _; omega

end Cert.ReferenceGlaIdeal.Val

namespace Cert.Val

/-- The odd layer's main projection. -/
theorem gla : Cert.algebraic_KernelGlaIdeal_ReferenceGlaIdeal := by
  intro m g m' g' _ hag
  refine ⟨fun c => KernelGlaIdeal.Val.G m c, ?_, ?_⟩
  · exact (θ_run Cert.KernelGlaIdeal.defs _ _).mono
      (fun r h c => ⟨(h c).1.trans (KernelGlaIdeal.Val.final m c), (h c).2⟩) (KernelGlaIdeal.Value.run_blocks (F := Ideal) m g)
  · refine (θ_run Cert.ReferenceGlaIdeal.defs _ _).mono (fun r h c => ⟨(h c).1.trans ?_, (h c).2⟩)
      (ReferenceGlaIdeal.Value.run (F := Ideal) m' g')
    rw [(hag c).1, (hag c).2]
    refine (ReferenceGlaIdeal.Read.val_main_v4_eq (F := Ideal) _ _).trans ?_
    funext i
    exact ReferenceGlaIdeal.Val.val_eq _ _ i

end Cert.Val

end
-- ==== Proof.Decay.lean ====
/-
  The value of the odd layer's decay projection: each grid point stores its block of `h @ w[0]`, columns 6032 to 6159,
  and the blocks tile the array.
-/
module

public import proofs.«01_k».proof.Proof.Lin
public import proofs.«01_k».proof.Proof.Gen.KernelDecayIdeal.Value
public import proofs.«01_k».proof.Proof.Gen.ReferenceDecayIdeal.Read
public import proofs.«01_k».proof.Defs

@[expose] public section

noncomputable section

open scoped BigOperators
open Idealize.ShloMosaic Idealize.ShloMosaic.TcCoe Idealize.SL.Sem Idealize.ShloMosaic.ValueIdx
open Idealize.ShloMosaic.Pipeline (Dat)
open Cert.Lin

namespace Cert.KernelDecayIdeal.Val

open Cert.KernelDecayIdeal Cert.KernelDecayIdeal.Gen

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The token array as launched. -/
abbrev X (c : Dev nD) : FVec Ideal S8192x2048 .bf16 := m ((c : Thread nD τ).loc main_arg0)
/-- The weight stack as launched. -/
abbrev W (c : Dev nD) : FVec Ideal S2x2048x6160 .f32 := m ((c : Thread nD τ).loc main_arg1)

/-- The array the call leaves. -/
def G (c : Dev nD) : FVec Ideal S8192x128 .f32 := fun i => lin (X m c) (W m c) 0 (i 0).val ((i 1).val + 6032)

/-- Where the windows' blocks begin. -/
theorem idx : ∀ t : Fin cfg0.N, (win0_0.index t 0 = t.val ∧ win0_0.index t 1 = 0)
    ∧ (win0_1.index t 0 = 0 ∧ win0_1.index t 1 = 6032 ∧ win0_1.index t 2 = 0)
    ∧ win0_2.index t 0 = t.val ∧ win0_2.index t 1 = 0 :=
  (by decide +kernel : ∀ t : Fin grid0.N, (win0_0.index t 0 = t.val ∧ win0_0.index t 1 = 0)
    ∧ (win0_1.index t 0 = 0 ∧ win0_1.index t 1 = 6032 ∧ win0_1.index t 2 = 0)
    ∧ win0_2.index t 0 = t.val ∧ win0_2.index t 1 = 0)

/-- The token block at a point. -/
theorem blk0 (c : Dev nD) (t : Fin cfg0.N) (y : S2048x2048.Idx) :
    (iblk m c 0 t : FVec Ideal S2048x2048 .bf16) y = at2 (X m c) (t.val * 2048 + (y 0).val) (y 1).val := by
  have hi := (idx t).1
  rw [← at2_eq (X m c) ((win0_0.rect t).emb y)
    (by rw [win0_0.rect_emb_val t y 0, hi.1]; rfl) (by rw [win0_0.rect_emb_val t y 1, hi.2]; show 0 * 2048 + (y 1).val = _; omega)]
  unfold iblk
  rw [View.read_apply]
  show V m c main_arg0 _ = _
  rw [V_main_arg0]
  rfl

/-- The weight block at a point. -/
theorem blk1 (c : Dev nD) (t : Fin cfg0.N) (y : S1x128x2048.Idx) :
    (iblk m c 1 t : FVec Ideal S1x128x2048 .f32) y = at3 (W m c) 0 (y 2).val ((y 1).val + 6032) := by
  have hi := (idx t).2.1
  have h0 : (y 0).val < 1 := (y 0).isLt
  have hV : (V m c main_v0 : FVec Ideal S2x6160x2048 .f32)
      = transpose S2x6160x2048 [0, 2, 1] (W m c) transposes_S2x2048x6160_S2x6160x2048_0_2_1 := by
    show StableHlo.after hostOps0 (fun b => m (c, b)) (Proc.devRef .tc main_v0) = _
    after_results <;> rfl
  rw [← transpose_at (W m c) transposes_S2x2048x6160_S2x6160x2048_0_2_1 ((win0_1.rect t).emb y)
    (by rw [win0_1.rect_emb_val_off t y 0, hi.1]; show 0 + (y 0).val = 0; omega)
    (by rw [win0_1.rect_emb_val_off t y 1, hi.2.1]; show 6032 + (y 1).val = _; omega)
    (by rw [win0_1.rect_emb_val_off t y 2, hi.2.2]; show 0 + (y 2).val = _; omega)]
  unfold iblk
  rw [View.read_apply]
  show V m c main_v0 _ = _
  rw [hV]
  rfl

/-- What the body stores, entry by entry. -/
theorem stored (v0 : FVec Ideal S1x128x2048 .f32) (v3 : FVec Ideal S2048x2048 .bf16) (y : S2048x128.Idx) :
    k0_pay1 (F := Ideal) v0 v3 y = ∑ k : Fin 2048, v3 (ix2 (y 0) k) * v0 (ix3 0 (y 1) k) := by
  unfold k0_pay1
  exact matmul_slab v3 v0 shapeCasts_S1x128x2048_S128x2048 bitsLt_bf16_f32 y

/-- What a point writes back is its block of the array. -/
theorem flushed (c : Dev nD) (t : Fin cfg0.N) (hf : (cfg0.win 2).flush t = true) :
    (dats m 0 c).flushed 2 t = ((cfg0.win 2).blk t).view.read (Elt Ideal) (G m c) := by
  rw [Value.flushed2]
  unfold out0_2
  rw [View.canon_unit_zero (S := S2048x128) hz2]
  funext y
  have hi := (idx t).2.2
  show k0_pay1 (F := Ideal) (View.ld (iblk m c 1 t) r0_0) (View.ld (iblk m c 0 t) r0_1) y = _
  rw [View.ld_unit_zero (S := S1x128x2048) hz3, View.ld_unit_zero (S := S2048x2048) hz2, View.read_apply]
  have e0 : ((win0_2.rect t).emb y 0).val = t.val * 2048 + (y 0).val := by
    rw [win0_2.rect_emb_val t y 0, hi.1]; rfl
  have e1 : ((win0_2.rect t).emb y 1).val = (y 1).val := by
    rw [win0_2.rect_emb_val t y 1, hi.2]; show 0 * 128 + (y 1).val = _; omega
  refine (stored _ _ y).trans ?_
  show _ = lin (X m c) (W m c) 0 ((win0_2.rect t).emb y 0).val (((win0_2.rect t).emb y 1).val + 6032)
  rw [e0, e1]
  unfold lin
  exact Finset.sum_congr rfl fun k _ => congrArg₂ (· * ·) (blk0 m c t _) (blk1 m c t _)

/-- The blocks tile the array. -/
theorem final (c : Dev nD) : (dats m 0 c).arrAt 2 cfg0.N = G m c :=
  (dats m 0 c).arrAt_eq_of_cover 2 (G m c) (flushed m c) fun i => by
    have h0 : (i 0 : Nat) < 8192 := (i 0).isLt
    have h1 : (i 1 : Nat) < 128 := (i 1).isLt
    have hN : cfg0.N = 4 := N_0
    refine ⟨⟨(i 0 : Nat) / 2048, by rw [hN]; omega⟩, (by decide +kernel : ∀ t : Fin grid0.N, win0_2.flush t = true) _, ?_⟩
    generalize hT : (⟨(i 0 : Nat) / 2048, _⟩ : Fin cfg0.N) = t
    have ht : t.val = (i 0 : Nat) / 2048 := by rw [← hT]
    have hi := (idx t).2.2
    show i ∈ ((View.whole main_v1).slice (win0_2.rect t)).set
    rw [View.set_slice_whole, Rect.mem_set_unit]
    intro a
    match a with
    | ⟨0, _⟩ =>
      show win0_2.index t 0 * 2048 ≤ (i 0 : Nat) ∧ (i 0 : Nat) < win0_2.index t 0 * 2048 + 2048
      rw [hi.1]; omega
    | ⟨1, _⟩ =>
      show win0_2.index t 1 * 128 ≤ (i 1 : Nat) ∧ (i 1 : Nat) < win0_2.index t 1 * 128 + 128
      rw [hi.2]; omega

end Cert.KernelDecayIdeal.Val

namespace Cert.ReferenceDecayIdeal.Val

open Cert.ReferenceDecayIdeal Cert.ReferenceDecayIdeal.Gen Cert.ReferenceDecayIdeal.Read

/-- The reference's result, entry by entry. -/
theorem val_eq (x : FVec Ideal S8192x2048 .bf16) (w : FVec Ideal S2x2048x6160 .f32) (i : S8192x128.Idx) :
    val_main_v4 (F := Ideal) x w i = lin x w 0 (i 0).val ((i 1).val + 6032) := by
  rw [val_main_v4_apply, val_main_v3_apply]
  unfold lin
  refine Finset.sum_congr rfl fun k _ => congrArg₂ (· * ·) ?_ ?_
  · rw [val_main_v0_apply]
    exact at2_eq x _ rfl rfl
  · rw [val_main_v2_apply, val_main_v1_apply]
    have h1 : (i 1 : Nat) < 128 := (i 1).isLt
    have hk := k.isLt
    refine at3_eq w _ rfl ?_ ?_
    · show (k.val * 6160 + (6032 + (i 1).val)) / 6160 % 2048 = k.val; omega
    · show (k.val * 6160 + (6032 + (i 1).val)) % 6160 = _; omega

end Cert.ReferenceDecayIdeal.Val

namespace Cert.Val

/-- The odd layer's decay projection. -/
theorem decay : Cert.algebraic_KernelDecayIdeal_ReferenceDecayIdeal := by
  intro m g m' g' _ hag
  refine ⟨fun c => KernelDecayIdeal.Val.G m c, ?_, ?_⟩
  · exact (θ_run Cert.KernelDecayIdeal.defs _ _).mono
      (fun r h c => ⟨(h c).1.trans (KernelDecayIdeal.Val.final m c), (h c).2⟩) (KernelDecayIdeal.Value.run_blocks (F := Ideal) m g)
  · refine (θ_run Cert.ReferenceDecayIdeal.defs _ _).mono (fun r h c => ⟨(h c).1.trans ?_, (h c).2⟩)
      (ReferenceDecayIdeal.Value.run (F := Ideal) m' g')
    rw [(hag c).1, (hag c).2]
    refine (ReferenceDecayIdeal.Read.val_main_v4_eq (F := Ideal) _ _).trans ?_
    funext i
    exact ReferenceDecayIdeal.Val.val_eq _ _ i

end Cert.Val

end
-- ==== Proof.Norm.lean ====
/-
  A row's root-mean-square normalisation, as a block of 512 rows computes it and as numbers.
-/
module

public import proofs.«01_k».proof.Proof.Lin
import Idealize.ShloMosaic.Lib.Pointwise.Reduce

@[expose] public section

noncomputable section

open scoped BigOperators

namespace Cert.Norm

open Idealize.ShloMosaic Cert.Lin

/-- A row over the root of its mean square, times a weight. -/
def nrm (f w : ℕ → EReal) (n : ℕ) : EReal :=
  f n * Ideal.rsqrt (Ideal.div (∑ k : Fin 2048, f k.val * f k.val) (Ideal.ofBits .f32 0x45000000#32) + Ideal.ofBits .f32 0x3727C5AC#32) * w n

/-- Entry `(t, n)` of two arrays side by side times `w[l]`. -/
def lin2 {T L C : ℕ} (x z : (⟨2, ![T, 2048]⟩ : Shape).Idx → EReal) (w : (⟨3, ![L, 4096, C]⟩ : Shape).Idx → EReal) (l t n : ℕ) : EReal :=
  ∑ k : Fin 2048, at2 x t k.val * at3 w l k.val n + ∑ k : Fin 2048, at2 z t k.val * at3 w l (2048 + k.val) n

/-- A block's rows normalised, entry by entry. -/
theorem rows_apply (r : FVec Ideal ⟨2, ![512, 2048]⟩ .f32) (nw : FVec Ideal ⟨2, ![1, 2048]⟩ .f32)
    (h1 : (⟨2, ![512, 2048]⟩ : Shape).Reduces [1] ⟨1, ![512]⟩) (h2 : FKind.Formats .f32) (h3 : (0x00000000#32) = FKind.add.neutral .f32 h2)
    (h4 : (⟨1, ![512]⟩ : Shape).ShapeCasts ⟨2, ![512, 1]⟩) (h5 : (⟨2, ![512, 1]⟩ : Shape).Broadcasts ⟨2, ![512, 2048]⟩)
    (h6 : (⟨2, ![1, 2048]⟩ : Shape).ShapeCasts ⟨2, ![1, 2048]⟩) (h7 : (⟨2, ![1, 2048]⟩ : Shape).Broadcasts ⟨2, ![512, 2048]⟩)
    (y : (⟨2, ![512, 2048]⟩ : Shape).Idx) (f w : ℕ → EReal)
    (hf : ∀ k : Fin 2048, r (ValueIdx.ix2 (y 0 : Fin 512) k) = f k.val) (hw : nw (ValueIdx.ix2 0 (y 1 : Fin 2048)) = w (y 1).val) :
    mulf (mulf r (broadcastTo ⟨2, ![512, 2048]⟩ (rsqrt (addf (divf
        (shapeCast ⟨2, ![512, 1]⟩ (multiReduction .add [1] ⟨1, ![512]⟩ (mulf r r) 0x00000000#32 h1 h2 h3) h4)
        (broadcast ⟨2, ![512, 1]⟩ (Scalar.ofBits (F := Ideal) .f32 0x45000000#32)))
        (broadcast ⟨2, ![512, 1]⟩ (Scalar.ofBits (F := Ideal) .f32 0x3727C5AC#32)))) h5))
      (broadcastTo ⟨2, ![512, 2048]⟩ (shapeCast ⟨2, ![1, 2048]⟩ nw h6) h7) y = nrm f w (y 1).val := by
  have e : r y = f (y 1).val := (congrArg r (ValueIdx.eq_ix2 y)).trans (hf (y 1))
  have hr : multiReduction .add [1] ⟨1, ![512]⟩ (mulf r r) 0x00000000#32 h1 h2 h3 (ValueIdx.ix1 (y 0 : Fin 512)) = ∑ k : Fin 2048, f k.val * f k.val := by
    refine (Ideal.reduceAdd_r2_a1 h1 (mulf r r) (ValueIdx.ix1 (y 0 : Fin 512))).trans (Finset.sum_congr rfl fun k _ => ?_)
    exact congrArg₂ (· * ·) (hf k) (hf k)
  rw [Idealize.ShloMosaic.shapeCast_self]
  show r y * broadcastTo ⟨2, ![512, 2048]⟩ _ h5 y * broadcastTo ⟨2, ![512, 2048]⟩ nw h7 y = _
  rw [broadcastTo_apply nw h7 y (ValueIdx.ix2 0 (y 1 : Fin 2048)) (fun a => match a with | ⟨0, _⟩ => rfl | ⟨1, _⟩ => rfl), hw, e,
    broadcastTo_apply _ h5 y (ValueIdx.ix2 (y 0 : Fin 512) 0) (fun a => match a with | ⟨0, _⟩ => rfl | ⟨1, _⟩ => rfl)]
  show f (y 1).val * Ideal.rsqrt (Ideal.div (shapeCast ⟨2, ![512, 1]⟩ _ h4 (ValueIdx.ix2 (y 0 : Fin 512) 0)) (Ideal.ofBits .f32 0x45000000#32) + Ideal.ofBits .f32 0x3727C5AC#32) * w (y 1).val = _
  rw [shapeCast_apply _ h4 (ValueIdx.ix2 (y 0 : Fin 512) 0) (ValueIdx.ix1 (y 0 : Fin 512)) (by
    rw [Shape.rowMajor_val_one, Shape.rowMajor_val_two]
    show (y 0).val = (y 0).val * 1 + 0
    omega), hr]
  rfl

end Cert.Norm

end
-- ==== Proof.Ring.lean ====
/-
  A weight array brought into scratch 256 rows at a time through four staging slots: what a slot reads after copies
  into the slots, and the rows of the weights it gives.
-/
module

public import proofs.«01_k».proof.Proof.Lin
public import Idealize.ShloMosaic.Lib.VecWindow

@[expose] public section

noncomputable section

namespace Cert.Ring

open Idealize.ShloMosaic Idealize.ShloMosaic.ValueIdx

/-- The four staging slots, one slot as a load reads it, and one as a copy fills it. -/
abbrev SR : Shape := ⟨3, ![4, 256, 2048]⟩
abbrev SB : Shape := ⟨3, ![1, 256, 2048]⟩
abbrev SS : Shape := ⟨2, ![256, 2048]⟩

section slots

variable {sg : RefSig} {κ : Kind} {sp : Space} {Val : EltTy → Type} (M : Memref sg κ sp SR .f32)

/-- A copy into one slot leaves what another slot reads. -/
theorem slot_other {j k : ℕ} (hjk : j ≠ k) (inb : ∀ a, (![j, 0, 0] : Fin 3 → ℕ) a + SB.size a ≤ SR.size a) (inb' : ∀ a, (![k, 0, 0] : Fin 3 → ℕ) a + SB.size a ≤ SR.size a)
    (hr hr') (hq hq') (f : M.view.ty.Contents Val) (w : SS.Idx → Val .f32) :
    ((M.slice (Rect.unit (s := SR) ![j, 0, 0] SB.size inb) hr).squeeze SS hq).view.read Val
        (((M.slice (Rect.unit (s := SR) ![k, 0, 0] SB.size inb') hr').squeeze SS hq').view.write Val f w Finset.univ)
      = ((M.slice (Rect.unit (s := SR) ![j, 0, 0] SB.size inb) hr).squeeze SS hq).view.read Val f := by
  apply View.read_congr
  intro i hi
  apply View.write_of_not_mem
  intro hm
  obtain ⟨x, _, hx⟩ := Finset.mem_map.mp hm
  obtain ⟨y, _, hy⟩ := Finset.mem_map.mp hi
  have e : M.view.emb ((Rect.unit (s := SR) ![k, 0, 0] SB.size inb').emb (Shape.reshapeEquiv hq'.numel_eq x))
      = M.view.emb ((Rect.unit (s := SR) ![j, 0, 0] SB.size inb).emb (Shape.reshapeEquiv hq.numel_eq y)) := hx.trans hy.symm
  have h0 := congrArg (fun i : SR.Idx => (i 0 : ℕ)) (M.view.emb.injective e)
  simp only [Rect.emb_apply] at h0
  have h1 : k + 1 * (Shape.reshapeEquiv hq'.numel_eq x 0 : ℕ) = j + 1 * (Shape.reshapeEquiv hq.numel_eq y 0 : ℕ) := h0
  have hu : (Shape.reshapeEquiv hq'.numel_eq x 0 : ℕ) < 1 := (Shape.reshapeEquiv hq'.numel_eq x 0).isLt
  have hv : (Shape.reshapeEquiv hq.numel_eq y 0 : ℕ) < 1 := (Shape.reshapeEquiv hq.numel_eq y 0).isLt
  omega

end slots

section weights

variable {F : FTy → Type} [FloatOps F] {n : ℕ}

/-- Layer `l` of the weights, in bf16. -/
def wt (l : Fin 2) (w : Vec F ⟨3, ![2, n, 2048]⟩ .f32) : Vec F ⟨2, ![n, 2048]⟩ .bf16 :=
  truncf .bf16 (fun y => w (ix3 l (y 0 : Fin n) (y 1 : Fin 2048)) : FVec F ⟨2, ![n, 2048]⟩ .f32) (by decide)

variable {sg : RefSig} {κ : Kind} {sp sp' : Space} (M : Memref sg κ sp SR .f32) (H : Memref sg κ sp' ⟨3, ![2, n, 2048]⟩ .f32)

/-- A slot that reads 256 rows of a layer, rounded, is those rows of the layer's weights. -/
theorem piece (l : Fin 2) (r k : ℕ) (inb : ∀ a, (![k, 0, 0] : Fin 3 → ℕ) a + SB.size a ≤ SR.size a) (hr) (hq : SB.Squeezes SS)
    (inb' : ∀ a, (![l.val, r, 0] : Fin 3 → ℕ) a + SB.size a ≤ (⟨3, ![2, n, 2048]⟩ : Shape).size a) (hr')
    (inw : ∀ a, (![r, 0] : Fin 2 → ℕ) a + SS.size a ≤ (⟨2, ![n, 2048]⟩ : Shape).size a)
    (hc : SB.ShapeCasts SS) (hb) (f : M.view.ty.Contents (Elt F)) (g : H.view.ty.Contents (Elt F))
    (hf : ((M.slice (Rect.unit (s := SR) ![k, 0, 0] SB.size inb) hr).squeeze SS hq).view.read (Elt F) f
      = ((H.slice (Rect.unit (s := ⟨3, ![2, n, 2048]⟩) ![l.val, r, 0] SB.size inb') hr').squeeze SS hq).view.read (Elt F) g) (x : SS.Idx) :
    truncf (F := F) .bf16 (shapeCast SS (M.view.readAt (Elt F) (Rect.unit (s := SR) ![k, 0, 0] SB.size inb).toLoadRect f : Vec F SB .f32) hc : FVec F SS .f32) hb x
      = wt l (H.view.read (Elt F) g) ((Rect.unit (s := ⟨2, ![n, 2048]⟩) ![r, 0] SS.size inw).emb x) := by
  rw [show (shapeCast SS (M.view.readAt (Elt F) (Rect.unit (s := SR) ![k, 0, 0] SB.size inb).toLoadRect f : Vec F SB .f32) hc)
    = ((M.slice (Rect.unit (s := SR) ![k, 0, 0] SB.size inb) hr).squeeze SS hq).view.read (Elt F) f from rfl, hf]
  unfold wt
  refine congrArg (fun v : F .f32 => (truncf (F := F) .bf16 (fun _ => v : FVec F SS .f32) hb) x) ?_
  show H.view.read (Elt F) g ((Rect.unit (s := ⟨3, ![2, n, 2048]⟩) ![l.val, r, 0] SB.size inb').emb (Shape.reshapeEquiv hq.numel_eq x)) = H.view.read (Elt F) g _
  refine congrArg (H.view.read (Elt F) g) ?_
  rw [Shape.reshapeEquiv_cons_one]
  refine funext fun a => ?_
  match a with
  | ⟨0, _⟩ => exact Fin.ext (show l.val + 1 * 0 = l.val by omega)
  | ⟨1, _⟩ => rfl
  | ⟨2, _⟩ => rfl

end weights

/-- A buffer whose pieces agree with one function and cover it reads that function. -/
theorem read_pieces {sg : RefSig} {κ : Kind} {sp : Space} {s : Shape} {e : EltTy} {Val : EltTy → Type} (v : View sg κ sp s e) (f : v.ty.Contents Val)
    (G : s.Idx → Val e) (L : List (View.Piece Val s e)) (hL : ∀ p ∈ L, ∀ x : p.1.shape.Idx, p.2 x = G (p.1.emb x)) (hc : ∀ y, ∃ p ∈ L, y ∈ p.1.set) :
    v.read Val (v.writes Val f L) = G :=
  funext fun y => View.read_writes_apply_of_pieces v f G L hL y (hc y)

end Cert.Ring

end
-- ==== Proof.OutRun.lean ====
module

public import proofs.«01_k».proof.Proof.Gen.KernelOutIdeal.Frame
public import proofs.«01_k».proof.Proof.Gen.KernelOutIdeal.Skeleton
public import proofs.«01_k».proof.Proof.Ring
public import Idealize.ShloMosaic.Lib.VecWindow
public import Idealize.ShloMosaic.Lib.Pipeline.TableIdle
public import Idealize.ShloMosaic.Lib.Claim

@[expose] public section

set_option maxRecDepth 16384

noncomputable section

namespace Cert.KernelOutIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelOutIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The first point's condition: it fills the weights. -/
abbrev cond (i : grid0.Coords) : Prop := (Scalar.cmpi .ne (Scalar.extui (Scalar.cmpi .eq (BitVec.ofNat 32 (i 0).val) 0#32)) 0#32) = 1#1

abbrev hb : Memref sig .tc .hbm S2x2048x2048 .f32 := Memref.whole main_arg1

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

abbrev row0 : Rect S8x2048 := Rect.unit (s := S8x2048) ![0, 0] S1x2048.size inb_S8x2048_S1x2048_0_0

/-- The block stored at a point, from the weights in the scratch. -/
def made (x0 : Vec F S512x2048 .bf16) (x1 : Vec F S512x2048 .f32) (x2 : Vec F S8x2048 .f32) (xw : Vec F S2048x2048 .bf16) : Vec F S512x2048 .f32 :=
  k0_pay2 x1 x0 xw (View.ld x2 row0)

section body

variable (c : Dev nD) (i : grid0.Coords) (arg1 : Memref sig .tc .vmem S512x2048 .bf16) (harg1 : arg1.IsWhole) (arg3 : Memref sig .tc .vmem S512x2048 .f32) (harg3 : arg3.IsWhole) (arg4 : Memref sig .tc .vmem S8x2048 .f32) (harg4 : arg4.IsWhole) (arg5 : Memref sig .tc .vmem S512x2048 .f32) (harg5 : arg5.IsWhole) (arg6 : Memref sig .tc .vmem S2048x2048 .bf16) (harg6 : arg6.IsWhole) (arg7 : Memref sig .tc .vmem S4x256x2048 .f32) (harg7 : arg7.IsWhole)
    (x0 : Vec F S512x2048 .bf16) (x1 : Vec F S512x2048 .f32) (x2 : Vec F S8x2048 .f32) (fh0 : HbBuf (F := F) c hb)

/-- What the body is handed and gives back: the input blocks, the output's buffer, the weights' scratch, the staging
    slots at anything, the four counters at zero, and the weights in HBM. -/
def held (y5 y6 : sProp 𝕄) : sProp 𝕄 :=
  iprop(owns (c : Thread nD τ) arg1 fullShare x0 ∗ owns (c : Thread nD τ) arg3 fullShare x1 ∗ owns (c : Thread nD τ) arg4 fullShare x2 ∗ y5 ∗ y6 ∗ (∃ d, owns (c : Thread nD τ) arg7 fullShare d) ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ hbPt c hb fh0)

set_option maxHeartbeats 2000000 in set_option sl_exec.dmaWindow true in set_option sl_exec.dmaWindowSet true in
/-- The first point fills the weights and uses them. -/
theorem first_step (hc0 : cond i) (W : Waits sig Unit) (K : PUnit → sProp 𝕄) :
    iprop(held c arg1 arg3 arg4 arg7 x0 x1 x2 fh0 iprop(∃ d, owns (c : Thread nD τ) arg5 fullShare d) iprop(∃ d, owns (c : Thread nD τ) arg6 fullShare d) ∗ owes (c : Thread nD τ) 0 W
      ∗ (iprop(held c arg1 arg3 arg4 arg7 x0 x1 x2 fh0 (owns (c : Thread nD τ) arg5 fullShare (made x0 x1 x2 (Ring.wt 1 (hb.view.read (Elt F) fh0))))
          (owns (c : Thread nD τ) arg6 fullShare (Ring.wt 1 (hb.view.read (Elt F) fh0))) ∗ (∃ W', owes (c : Thread nD τ) 0 W')) -∗ K ⟨⟩))
    ⊢ wp frame (wpE (defs₀ (F := F)) Variants.none c none) Set.univ (cc0_outproj i arg1 harg1 (Memref.whole main_arg1) (Memref.isWhole_whole _) arg3 harg3 arg4 harg4 arg5 harg5 arg6 harg6 arg7 harg7 cc0_scratch2) K := by
  simp only [cc0_outproj_eq_skeleton]; unfold cc0_outproj_skel
  simp only [k0_part1_eq_skeleton, k0_part2_eq_skeleton, k0_part3_eq_skeleton, k0_part4_eq_skeleton, k0_part5_eq_skeleton]
  unfold held owns
  iintro ⟨⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hq0, Hq1, Hq2, Hq3, Hh0⟩, HW, Hk⟩
  obtain rfl := harg1.eq_unread hf0; obtain rfl := harg3.eq_unread hf1; obtain rfl := harg4.eq_unread hf2
  sl_exec (disch := first | sl_exact hc0)
  sl_step
  have hw : ∀ f, arg6.view.read (Elt F) (arg6.view.writes (Elt F) f (first_step.sl.HS0_8 c arg7 fh0 fs1)) = Ring.wt 1 (hb.view.read (Elt F) fh0) := fun f => by
    refine Ring.read_pieces _ _ _ _ ?_ (View.cover_of_tiledL (first_step.sl.HS0_8 c arg7 fh0 fs1) S256x2048.size (by sl_kernel_rfl))
    intro p hp
    unfold first_step.sl.HS0_8 at hp
    simp only [List.mem_cons, List.not_mem_nil, or_false] at hp
    rcases hp with rfl | rfl | rfl | rfl | rfl | rfl | rfl | rfl
    all_goals
      intro x
      dsimp only [k0_pay1, k0_pay3, k0_pay4, k0_pay5, k0_pay6, k0_pay7, k0_pay8, k0_pay9, k0_pay10, k0_pay11, first_step.sl.v53, first_step.sl.r, first_step.sl.v71, first_step.sl.v89, first_step.sl.v107, first_step.sl.r_1, first_step.sl.v125, first_step.sl.v137, first_step.sl.v149, first_step.sl.v161]
      rw [Idealize.ShloMosaic.shapeCast_self]
      refine Ring.piece arg7 hb 1 _ _ _ (fun _ => rfl) squeezes_S1x256x2048_S256x2048 (by decide) (fun _ => rfl) _ _ _ _ fh0 ?_ x
      repeat rw [Ring.slot_other _ (by decide) _ _ (fun _ => rfl) (fun _ => rfl) squeezes_S1x256x2048_S256x2048 squeezes_S1x256x2048_S256x2048]
      exact View.read_write_univ _ _
  iapply Hk
  isplitr [HW]
  · isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr
      swap; · iexact H3
      ipureintro
      rw [View.read_writes_full]
      unfold first_step.sl.v5 View.readCov made
      rw [View.readAt_full, View.readAt_full, View.readAt_full, hf0, hf1, hw, View.readAt_eq_ld, hf2]
    isplitl [HS0]
    · iexists _; isplitr
      swap; · iexact HS0
      ipureintro; exact hw _
    isplitl [HS1]
    · iexists _; iexists _; isplitr
      swap; · iexact HS1
      ipureintro; rfl
    isplitl [Hq0]; · iexact Hq0
    isplitl [Hq1]; · iexact Hq1
    isplitl [Hq2]; · iexact Hq2
    isplitl [Hq3]; · iexact Hq3
    iexact Hh0
  iexists _; iexact HW

set_option maxHeartbeats 1000000 in
/-- Every later point uses the weights it finds. -/
theorem next_step (hc0 : ¬cond i) (xw : Vec F S2048x2048 .bf16) (W : Waits sig Unit) (K : PUnit → sProp 𝕄) :
    iprop(held c arg1 arg3 arg4 arg7 x0 x1 x2 fh0 iprop(∃ d, owns (c : Thread nD τ) arg5 fullShare d) (owns (c : Thread nD τ) arg6 fullShare xw) ∗ owes (c : Thread nD τ) 0 W
      ∗ (iprop(held c arg1 arg3 arg4 arg7 x0 x1 x2 fh0 (owns (c : Thread nD τ) arg5 fullShare (made x0 x1 x2 xw))
          (owns (c : Thread nD τ) arg6 fullShare xw) ∗ (∃ W', owes (c : Thread nD τ) 0 W')) -∗ K ⟨⟩))
    ⊢ wp frame (wpE (defs₀ (F := F)) Variants.none c none) Set.univ (cc0_outproj i arg1 harg1 (Memref.whole main_arg1) (Memref.isWhole_whole _) arg3 harg3 arg4 harg4 arg5 harg5 arg6 harg6 arg7 harg7 cc0_scratch2) K := by
  simp only [cc0_outproj_eq_skeleton]; unfold cc0_outproj_skel
  unfold held owns
  iintro ⟨⟨⟨%f0, %hf0, H0⟩, ⟨%f1, %hf1, H1⟩, ⟨%f2, %hf2, H2⟩, ⟨%d3, %f3, -, H3⟩, ⟨%fs0, %hs0, HS0⟩, HS1, Hq0, Hq1, Hq2, Hq3, Hh0⟩, HW, Hk⟩
  obtain rfl := harg1.eq_unread hf0; obtain rfl := harg3.eq_unread hf1; obtain rfl := harg4.eq_unread hf2; obtain rfl := harg6.eq_unread hs0
  sl_exec (disch := first | sl_exact hc0)
  sl_step
  iapply Hk
  isplitr [HW]
  · isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr
      swap; · iexact H3
      ipureintro
      rw [View.read_writes_full]
      unfold made
      rw [View.readAt_full, View.readAt_full, View.readAt_full, hf0, hf1, hs0, View.readAt_eq_ld, hf2]
    isplitl [HS0]
    · iexists _; isplitr
      swap; · iexact HS0
      ipureintro; exact harg6.read_unread _
    isplitl [HS1]; · iexact HS1
    isplitl [Hq0]; · iexact Hq0
    isplitl [Hq1]; · iexact Hq1
    isplitl [Hq2]; · iexact Hq2
    isplitl [Hq3]; · iexact Hq3
    iexact Hh0
  iexists _; iexact HW

end body

/-! ## The launch: the body's own counters and the weights left in HBM -/

abbrev sc0 : Memref sig .tc .vmem S2048x2048 .bf16 := Memref.whole cc0_scratch0
abbrev sc1 : Memref sig .tc .vmem S4x256x2048 .f32 := Memref.whole cc0_scratch1
abbrev osem : Fin 4 → SemLoc sig := fun j => (![SemLoc.dma 7, SemLoc.dma 8, SemLoc.dma 9, SemLoc.dma 10] : Fin 4 → SemLoc sig) j
theorem ownSemFacts : Pipeline.OwnSemFacts spec0 osem := by decide
def H0 : Finset (Ref sig .tc) := {main_arg1}
theorem H0_sub : H0 ⊆ Pipeline.restRefs sig spec0 := by decide

/-- The weights as the region finds them. -/
abbrev wts (c : Dev nD) : Vec F S2x2048x2048 .f32 := hb.view.read (Elt F) (V m c main_arg1)

/-- Counters, register and weights, as every point finds and leaves them. -/
def rest (c : Dev nD) : sProp 𝕄 :=
  iprop((∃ r, prngReg c r) ∗ iprop(semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) ∗ iprop(hbPt c hb (V m c main_arg1)))

theorem PhiD_eq (c : Dev nD) :
    (Pipeline.ΦD osem spec0 H0 (V m) c : sProp 𝕄)
      = iprop(iprop((∃ d, owns (c : Thread nD τ) sc0 fullShare d) ∗ (∃ d, owns (c : Thread nD τ) sc1 fullShare d)) ∗ rest m c) := by
  have h1 : (Pipeline.ownSems0 (Ix := Unit) (Name := ℕ) (U := Pipeline.UD sig nD τ) (Lvl := ℕ) (Val := Elt F) (τ := τ) osem c : sProp 𝕄)
      = iprop(semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) := by
    rw [Pipeline.ownSems0_eq_of_list c osem [0, 1, 2, 3] (by decide) (by decide)]; rfl
  have h2 : (bigSep H0 (fun b => ((c : Thread nD τ).loc b) ↦{fullShare} V m c b) : sProp 𝕄) = iprop(hbPt c hb (V m c main_arg1)) := by
    rw [BI.bigSep_eq_bigSepL_of_eq [main_arg1] (by decide) (by decide)]; rfl
  unfold rest
  rw [Pipeline.ΦD_eq, scopedRest0_eq, h1, h2]; simp only [sc0, sc1, owns_whole]; try rfl

/-- Before a point: at the first the launch's invariant, later the weights filled in. -/
def Phi (c : Dev nD) : ℕ → sProp 𝕄
  | 0 => Pipeline.ΦD osem spec0 H0 (V m) c
  | _ + 1 => iprop(iprop(owns (c : Thread nD τ) sc0 fullShare (Ring.wt 1 (wts m c)) ∗ (∃ d, owns (c : Thread nD τ) sc1 fullShare d)) ∗ rest m c)

theorem Phi_pos (c : Dev nD) (n : ℕ) (h : n ≠ 0) :
    Phi m c n = iprop(iprop(owns (c : Thread nD τ) sc0 fullShare (Ring.wt 1 (wts m c)) ∗ (∃ d, owns (c : Thread nD τ) sc1 fullShare d)) ∗ rest m c) := by
  cases n with
  | zero => exact absurd rfl h
  | succ n => rfl

theorem cond_iff : ∀ t : Fin cfg0.N, cond (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    simp only [cond, e0]
    word_cmp
   : ∀ t : Fin grid0.N, cond (grid0.coords t) ↔ t.val = 0)

/-- The proof data: inputs stay, the output's buffer is the block made. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => made (iblk m c 0 t) (iblk m c 1 t) (iblk m c 2 t) (Ring.wt 1 (wts m c))
  Φ t := Phi m c t.val
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = made (iblk m c 0 t) (iblk m c 1 t) (iblk m c 2 t) (Ring.wt 1 (wts m c)) := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-- The launch's facts with any user algebra: the kit states them at the one without counters of the body's own. -/
theorem main_prefix (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 1600000 in
/-- The library's body obligation, at every point. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  refine triple_restated (P := iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))))
    (Q := fun _ => iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))) ?_ rfl .rfl fun _ => .rfl
  unfold bodyAt0
  simp only [before0, before1, before2, after0, after1, after2, after3]
  rw [show (dats m 0 c).Φ t.succ = Phi m c (t.val + 1) from rfl, show (dats m 0 c).Φ t.castSucc = Phi m c t.val from rfl,
    Phi_pos m c (t.val + 1) (Nat.succ_ne_zero _)]
  unfold Dat.owesAt Pipeline.owesWithin
  rw [show (dats m 0 c).owed t.castSucc = 0 from rfl, show (dats m 0 c).owed t.succ = 0 from rfl]
  by_cases hz : t.val = 0
  · rw [hz, show Phi m c 0 = Pipeline.ΦD osem spec0 H0 (V m) c from rfl, PhiD_eq]
    unfold rest
    iintro ⟨⟨⟨HS0, HS1⟩, Hg, ⟨Hq0, Hq1, Hq2, Hq3⟩, Hh0⟩, ⟨%W, -, HW⟩, ⟨%d0, H0⟩, ⟨%d1, H1⟩, ⟨%d2, H2⟩, ⟨%d3, H3⟩⟩
    iapply (first_step c (grid0.coords t) _ _ _ _ _ _ _ _ _ _ _ _ (iblk m c 0 t) (iblk m c 1 t) (iblk m c 2 t) (V m c main_arg1) ((cond_iff t).mpr hz) W _)
    unfold held
    isplitl [H0 H1 H2 H3 HS0 HS1 Hq0 Hq1 Hq2 Hq3 Hh0]
    · isplitl [H0]; · iexact H0
      isplitl [H1]; · iexact H1
      isplitl [H2]; · iexact H2
      isplitl [H3]; · iexists _; iexact H3
      isplitl [HS0]; · iexact HS0
      isplitl [HS1]; · iexact HS1
      isplitl [Hq0]; · iexact Hq0
      isplitl [Hq1]; · iexact Hq1
      isplitl [Hq2]; · iexact Hq2
      isplitl [Hq3]; · iexact Hq3
      iexact Hh0
    isplitl [HW]; · iexact HW
    iintro ⟨⟨H0, H1, H2, H3, HS0, HS1, Hq0, Hq1, Hq2, Hq3, Hh0⟩, ⟨%W', HW'⟩⟩
    isplitl [HS0 HS1 Hg Hq0 Hq1 Hq2 Hq3 Hh0]
    · isplitl [HS0 HS1]
      · isplitl [HS0]; · iexact HS0
        iexact HS1
      isplitl [Hg]; · iexact Hg
      isplitl [Hq0 Hq1 Hq2 Hq3]
      · isplitl [Hq0]; · iexact Hq0
        isplitl [Hq1]; · iexact Hq1
        isplitl [Hq2]; · iexact Hq2
        iexact Hq3
      iexact Hh0
    isplitl [HW']
    · iexists W'; isplitr; · ipureintro; exact fun _ _ => Or.inl trivial
      iexact HW'
    isplitl [H0]; · iexact H0
    isplitl [H1]; · iexact H1
    isplitl [H2]; · iexact H2
    iexact H3
  · rw [Phi_pos m c t.val hz]
    unfold rest
    iintro ⟨⟨⟨HS0, HS1⟩, Hg, ⟨Hq0, Hq1, Hq2, Hq3⟩, Hh0⟩, ⟨%W, -, HW⟩, ⟨%d0, H0⟩, ⟨%d1, H1⟩, ⟨%d2, H2⟩, ⟨%d3, H3⟩⟩
    iapply (next_step c (grid0.coords t) _ _ _ _ _ _ _ _ _ _ _ _ (iblk m c 0 t) (iblk m c 1 t) (iblk m c 2 t) (V m c main_arg1) (fun h => hz ((cond_iff t).mp h)) (Ring.wt 1 (wts m c)) W _)
    unfold held
    isplitl [H0 H1 H2 H3 HS0 HS1 Hq0 Hq1 Hq2 Hq3 Hh0]
    · isplitl [H0]; · iexact H0
      isplitl [H1]; · iexact H1
      isplitl [H2]; · iexact H2
      isplitl [H3]; · iexists _; iexact H3
      isplitl [HS0]; · iexact HS0
      isplitl [HS1]; · iexact HS1
      isplitl [Hq0]; · iexact Hq0
      isplitl [Hq1]; · iexact Hq1
      isplitl [Hq2]; · iexact Hq2
      isplitl [Hq3]; · iexact Hq3
      iexact Hh0
    isplitl [HW]; · iexact HW
    iintro ⟨⟨H0, H1, H2, H3, HS0, HS1, Hq0, Hq1, Hq2, Hq3, Hh0⟩, ⟨%W', HW'⟩⟩
    isplitl [HS0 HS1 Hg Hq0 Hq1 Hq2 Hq3 Hh0]
    · isplitl [HS0 HS1]
      · isplitl [HS0]; · iexact HS0
        iexact HS1
      isplitl [Hg]; · iexact Hg
      isplitl [Hq0 Hq1 Hq2 Hq3]
      · isplitl [Hq0]; · iexact Hq0
        isplitl [Hq1]; · iexact Hq1
        isplitl [Hq2]; · iexact Hq2
        iexact Hq3
      iexact Hh0
    isplitl [HW']
    · iexists W'; isplitr; · ipureintro; exact fun _ _ => Or.inl trivial
      iexact HW'
    isplitl [H0]; · iexact H0
    isplitl [H1]; · iexact H1
    isplitl [H2]; · iexact H2
    iexact H3

theorem enters (c : Dev nD) : Pipeline.ΦD osem spec0 H0 (V m) c ⊢ (dats m 0 c).Φ 0 := by
  rw [show (dats m 0 c).Φ 0 = Pipeline.ΦD osem spec0 H0 (V m) c from rfl]

theorem leaves (c : Dev nD) : (dats m 0 c).Φ (Fin.last cfg0.N) ⊢ Pipeline.ΦD osem spec0 H0 (V m) c := by
  rw [show (dats m 0 c).Φ (Fin.last cfg0.N) = Phi m c cfg0.N from rfl, Phi_pos m c _ (by have : cfg0.N = 16 := N_0; omega), PhiD_eq]
  iintro ⟨⟨HS0, HS1⟩, Hr⟩
  isplitl [HS0 HS1]
  · isplitl [HS0]
    · iexists _; iexact HS0
    iexact HS1
  iexact Hr

/-! ## The run and the frame -/

set_option backward.isDefEq.respectTransparency.types false in
/-- Every fair execution ends, with the arrays as the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem defs₀ Variants.none ownSemFacts H0 H0_sub m ρ main
    (hbody := fun c => (body_obligation m c).loose) (hshare := fun c => (dats m 0 c).share_full fun _ => rfl)
    (howed := fun _ _ => rfl) (V := V m) (hmain := main_prefix m Variants.none) (hA := A_eq m)
    (hin := enters m) (hout := leaves m)

/-- The frame, for any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and ((θ_run defs _ _).mono (fun _ h c => ⟨((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).1 1).trans (((dats m 0 c).arrAt_in 1 rfl _).trans ((A_eq m c 1).trans (V_main_arg2 m c))),
      ((h.1 c).2 main_arg3 (Pipeline.mem_restRefs_of main_arg3 (by decide) (by decide))).trans (V_main_arg3 m c)⟩) (run_main_quiescent m ρ))
    ((θ_run defs _ _).mono (fun _ h => h.2) (run_main_quiescent m ρ))

end Cert.KernelOutIdeal.Run

end
-- ==== Proof.Out.lean ====
/-
  The value of the last output projection: the residual and the projection, row by row over the root of the row's mean
  square, times the norm's weights.
-/
module

public import proofs.«01_k».proof.Proof.Norm
public import proofs.«01_k».proof.Proof.OutRun
public import proofs.«01_k».proof.Proof.Gen.KernelOut
public import proofs.«01_k».proof.Proof.Gen.ReferenceOutIdeal.Run
public import proofs.«01_k».proof.Proof.Gen.ReferenceOutIdeal.Read
public import proofs.«01_k».proof.Defs

@[expose] public section

noncomputable section

open scoped BigOperators
open Idealize.ShloMosaic Idealize.ShloMosaic.TcCoe Idealize.SL.Sem Idealize.ShloMosaic.ValueIdx
open Idealize.ShloMosaic.Pipeline (Dat)
open Cert.Lin Cert.Norm

namespace Cert.KernelOutIdeal.Val

open Cert.KernelOutIdeal Cert.KernelOutIdeal.Gen Cert.KernelOutIdeal.Run

variable (m : (ℓ : Loc nD τ sig) → Buf (Elt Ideal) ℓ) (ρ : Dev nD → PrngReg)

/-- The mixer's output as launched. -/
abbrev Y (c : Dev nD) : FVec Ideal S8192x2048 .bf16 := m ((c : Thread nD τ).loc main_arg0)
/-- The weight stack as launched. -/
abbrev W (c : Dev nD) : FVec Ideal S2x2048x2048 .f32 := m ((c : Thread nD τ).loc main_arg1)
/-- The residual as launched. -/
abbrev R (c : Dev nD) : FVec Ideal S8192x2048 .f32 := m ((c : Thread nD τ).loc main_arg2)
/-- The norm's weights as launched. -/
abbrev N (c : Dev nD) : FVec Ideal S2048 .f32 := m ((c : Thread nD τ).loc main_arg3)

/-- The new residual, at natural coordinates. -/
def res (c : Dev nD) (t n : ℕ) : EReal := at2 (R m c) t n + lin (Y m c) (W m c) 1 t n

/-- The array the call leaves. -/
def G (c : Dev nD) : FVec Ideal S8192x2048 .f32 := fun i => nrm (res m c (i 0).val) (at1 (N m c)) (i 1).val

/-- Where the windows' blocks begin. -/
theorem idx : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = t.val ∧ win0_3.index t 1 = 0) :=
  (by decide +kernel : ∀ t : Fin grid0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = t.val ∧ win0_3.index t 1 = 0))

/-- The mixer's block at a point. -/
theorem blk0 (c : Dev nD) (t : Fin cfg0.N) (y : S512x2048.Idx) :
    (iblk m c 0 t : FVec Ideal S512x2048 .bf16) y = at2 (Y m c) (t.val * 512 + (y 0).val) (y 1).val := by
  have hi := (idx t).1
  rw [← at2_eq (Y m c) ((win0_0.rect t).emb y)
    (by rw [win0_0.rect_emb_val t y 0, hi.1]; rfl) (by rw [win0_0.rect_emb_val t y 1, hi.2]; show 0 * 2048 + (y 1).val = _; omega)]
  unfold iblk
  rw [View.read_apply]
  show V m c main_arg0 _ = _
  rw [V_main_arg0]
  rfl

/-- The residual's block at a point. -/
theorem blk1 (c : Dev nD) (t : Fin cfg0.N) (y : S512x2048.Idx) :
    (iblk m c 1 t : FVec Ideal S512x2048 .f32) y = at2 (R m c) (t.val * 512 + (y 0).val) (y 1).val := by
  have hi := (idx t).2.1
  rw [← at2_eq (R m c) ((win0_1.rect t).emb y)
    (by rw [win0_1.rect_emb_val t y 0, hi.1]; rfl) (by rw [win0_1.rect_emb_val t y 1, hi.2]; show 0 * 2048 + (y 1).val = _; omega)]
  unfold iblk
  rw [View.read_apply]
  show V m c main_arg2 _ = _
  rw [V_main_arg2]
  rfl

/-- The norm weights' row at a point. -/
theorem blk2 (c : Dev nD) (t : Fin cfg0.N) (y : S8x2048.Idx) (hy : (y 0).val = 0) :
    (iblk m c 2 t : FVec Ideal S8x2048 .f32) y = at1 (N m c) (y 1).val := by
  have hi := (idx t).2.2.1
  have e0 : ((win0_2.rect t).emb y 0).val = 0 := by
    rw [win0_2.rect_emb_val t y 0, hi.1]; show 0 * 8 + (y 0).val = 0; omega
  have e1 : ((win0_2.rect t).emb y 1).val = (y 1).val := by
    rw [win0_2.rect_emb_val t y 1, hi.2]; show 0 * 2048 + (y 1).val = _; omega
  have hV : (V m c main_v2 : FVec Ideal S8x2048 .f32)
      = concatenate S8x2048 0 [⟨S1x2048, broadcastInDim S1x2048 ![1] bcast_S2048_S1x2048_1 (N m c)⟩,
          ⟨S7x2048, broadcastInDim S7x2048 ![] bcast_S_S7x2048 (constant (F := Ideal) S_ .f32 0x00000000#32)⟩]
          concatenates_S1x2048_S7x2048_S8x2048_d0 := by
    show StableHlo.after hostOps0 (fun b => m (c, b)) (Proc.devRef .tc main_v2) = _
    after_results <;> rfl
  unfold iblk
  rw [View.read_apply]
  show V m c main_v2 _ = _
  rw [hV]
  refine (rows8_zero _ _ concatenates_S1x2048_S7x2048_S8x2048_d0 ((win0_2.rect t).emb y) e0).trans ?_
  refine (row_apply _ bcast_S2048_S1x2048_1 _).trans ?_
  exact at1_eq (N m c) _ e1

/-- The weights a point multiplies by. -/
theorem wts_eq (c : Dev nD) (y : S2048x2048.Idx) :
    Ring.wt (F := Ideal) 1 (wts m c) y = at3 (W m c) 1 (y 0).val (y 1).val := by
  have e : (wts m c : FVec Ideal S2x2048x2048 .f32) = W m c := by
    unfold wts
    rw [V_main_arg1]
    rfl
  rw [e]
  exact at3_eq (W m c) (ix3 1 (y 0 : Fin 2048) (y 1 : Fin 2048)) rfl rfl rfl

/-- The new residual's block at a point. -/
theorem res_blk (c : Dev nD) (t : Fin cfg0.N) (y : S512x2048.Idx) :
    addf (iblk m c 1 t : FVec Ideal S512x2048 .f32) (matmul (φ₁ := .bf16) (φ₂ := .bf16) dot_S512x2048_S2048x2048_S512x2048_1_0_0_1_n_n none
      (iblk m c 0 t : FVec Ideal S512x2048 .bf16) (Ring.wt (F := Ideal) 1 (wts m c)) (constant (F := Ideal) S512x2048 .f32 0x00000000#32)) y
      = res m c (t.val * 512 + (y 0).val) (y 1).val := by
  refine congrArg₂ (· + ·) (blk1 m c t y) ((matmul_p (φ₁ := .bf16) (φ₂ := .bf16) _ _ y).trans ?_)
  refine Finset.sum_congr rfl fun k _ => congrArg₂ (· * ·) ?_ ?_
  · exact blk0 m c t (ix2 (y 0 : Fin 512) k)
  · exact wts_eq m c (ix2 k (y 1 : Fin 2048))

/-- What a point stores, entry by entry. -/
theorem made_eq (c : Dev nD) (t : Fin cfg0.N) (y : S512x2048.Idx) :
    made (F := Ideal) (iblk m c 0 t) (iblk m c 1 t) (iblk m c 2 t) (Ring.wt 1 (wts m c)) y
      = nrm (res m c (t.val * 512 + (y 0).val)) (at1 (N m c)) (y 1).val := by
  unfold made k0_pay2
  exact rows_apply _ _ reduces_S512x2048_S512 (.inl rfl) rfl shapeCasts_S512_S512x1 broadcasts_S512x1_S512x2048
    shapeCasts_S1x2048_S1x2048 broadcasts_S1x2048_S512x2048 y _ _
    (fun k => res_blk m c t (ix2 (y 0 : Fin 512) k)) (blk2 m c t (row0.emb (ix2 0 (y 1 : Fin 2048))) rfl |>.trans (congrArg _ (by
      show 0 + 1 * (y 1).val = (y 1).val; omega)))

/-- What a point writes back is its block of the array. -/
theorem flushed (c : Dev nD) (t : Fin cfg0.N) :
    (dats m 0 c).flushed 3 t = ((cfg0.win 3).blk t).view.read (Elt Ideal) (G m c) := by
  show (cfg0.win 3).cut (grid0.coords t) ((dats m 0 c).after 3 t) = _
  rw [after3]
  funext y
  have hi := (idx t).2.2.2
  refine (made_eq m c t y).trans ?_
  rw [View.read_apply]
  have e0 : ((win0_3.rect t).emb y 0).val = t.val * 512 + (y 0).val := by
    rw [win0_3.rect_emb_val t y 0, hi.1]; rfl
  have e1 : ((win0_3.rect t).emb y 1).val = (y 1).val := by
    rw [win0_3.rect_emb_val t y 1, hi.2]; show 0 * 2048 + (y 1).val = _; omega
  show _ = nrm (res m c ((win0_3.rect t).emb y 0).val) (at1 (N m c)) ((win0_3.rect t).emb y 1).val
  rw [e0, e1]

/-- The blocks tile the array. -/
theorem final (c : Dev nD) : (dats m 0 c).arrAt 3 cfg0.N = G m c :=
  (dats m 0 c).arrAt_eq_of_cover 3 (G m c) (fun t _ => flushed m c t) fun i => by
    have h0 : (i 0 : Nat) < 8192 := (i 0).isLt
    have h1 : (i 1 : Nat) < 2048 := (i 1).isLt
    have hN : cfg0.N = 16 := N_0
    refine ⟨⟨(i 0 : Nat) / 512, by rw [hN]; omega⟩, flush0_3 _, ?_⟩
    generalize hT : (⟨(i 0 : Nat) / 512, _⟩ : Fin cfg0.N) = t
    have ht : t.val = (i 0 : Nat) / 512 := by rw [← hT]
    have hi := (idx t).2.2.2
    show i ∈ ((View.whole main_v3).slice (win0_3.rect t)).set
    rw [View.set_slice_whole, Rect.mem_set_unit]
    intro a
    match a with
    | ⟨0, _⟩ =>
      show win0_3.index t 0 * 512 ≤ (i 0 : Nat) ∧ (i 0 : Nat) < win0_3.index t 0 * 512 + 512
      rw [hi.1]; omega
    | ⟨1, _⟩ =>
      show win0_3.index t 1 * 2048 ≤ (i 1 : Nat) ∧ (i 1 : Nat) < win0_3.index t 1 * 2048 + 2048
      rw [hi.2]; omega

end Cert.KernelOutIdeal.Val

namespace Cert.ReferenceOutIdeal.Val

open Cert.ReferenceOutIdeal Cert.ReferenceOutIdeal.Gen Cert.ReferenceOutIdeal.Read

/-- The reference's new residual, entry by entry. -/
theorem res_eq (x : FVec Ideal S8192x2048 .bf16) (w : FVec Ideal S2x2048x2048 .f32) (r : FVec Ideal S8192x2048 .f32) (i : S8192x2048.Idx) :
    val_main_v4 (F := Ideal) x w r i = at2 r (i 0).val (i 1).val + lin x w 1 (i 0).val (i 1).val := by
  rw [val_main_v4_apply]
  refine congrArg₂ (· + ·) (at2_eq r i rfl rfl) ?_
  rw [val_main_v3_apply]
  unfold lin
  refine Finset.sum_congr rfl fun k _ => congrArg₂ (· * ·) ?_ ?_
  · rw [val_main_v0_apply]
    exact at2_eq x _ rfl rfl
  · rw [val_main_v2_apply, val_main_v1_apply]
    have h1 : (i 1 : Nat) < 2048 := (i 1).isLt
    have hk := k.isLt
    refine at3_eq w _ rfl ?_ ?_
    · show (k.val * 2048 + (i 1).val) / 2048 % 2048 = k.val; omega
    · show (k.val * 2048 + (i 1).val) % 2048 = _; omega

/-- The reference's result, entry by entry. -/
theorem val_eq (x : FVec Ideal S8192x2048 .bf16) (w : FVec Ideal S2x2048x2048 .f32) (r : FVec Ideal S8192x2048 .f32) (nw : FVec Ideal S2048 .f32) (i : S8192x2048.Idx) :
    val_main_v17 (F := Ideal) x w r nw i = nrm (fun n => at2 r (i 0).val n + lin x w 1 (i 0).val n) (at1 nw) (i 1).val := by
  have hs : val_main_v6 (F := Ideal) x w r (idx_main_v7 (idx_main_v13 i)) = ∑ k : Fin 2048,
      (at2 r (i 0).val k.val + lin x w 1 (i 0).val k.val) * (at2 r (i 0).val k.val + lin x w 1 (i 0).val k.val) := by
    rw [val_main_v6_apply]
    refine (congrArg (· + _) (Ideal.ofBits_zero_f32 : val_main_cst (F := Ideal) _ = 0)).trans ((zero_add _).trans ?_)
    refine Finset.sum_congr rfl fun k _ => ?_
    rw [val_main_v5_apply, res_eq]
    rfl
  rw [val_main_v17_apply, val_main_v14_apply, val_main_v13_apply, val_main_v12_apply, val_main_v11_apply, val_main_v9_apply,
    val_main_v7_apply, val_main_v8_apply, val_main_v10_apply, val_main_v16_apply, val_main_v15_apply, hs, res_eq]
  unfold nrm
  refine congrArg₂ (· * ·) rfl ?_
  exact at1_eq nw _ rfl

end Cert.ReferenceOutIdeal.Val

namespace Cert.Val

/-- The compiled program's body table is the ideal one's. -/
theorem out_rows : Cert.KernelOut.defs₀ (F := Bits) = Cert.KernelOutIdeal.defs₀ (F := Bits) := by
  unfold Cert.KernelOut.defs₀ Cert.KernelOutIdeal.defs₀
  refine congrArg Defs.onTc (funext fun l => funext fun a => ?_)
  obtain ⟨n, h⟩ := l
  cases n with
  | zero => rfl
  | succ n => exact absurd h (Nat.not_lt.2 (Nat.le_add_left _ _))
theorem out_defs : Cert.KernelOut.defs (F := Bits) = Cert.KernelOutIdeal.defs (F := Bits) := by
  unfold Cert.KernelOut.defs Cert.KernelOutIdeal.defs
  rw [out_rows]
  rfl

/-- The run of the last output projection as compiled. -/
theorem out_frame_bits : Cert.quiescent_KernelOut := fun m ρ _ => by
  rw [out_defs]
  exact KernelOutIdeal.Run.frame (F := Bits) m ρ

/-- The run of the last output projection over the reals. -/
theorem out_frame : Cert.quiescent_KernelOutIdeal := fun m ρ _ => KernelOutIdeal.Run.frame (F := Ideal) m ρ

/-- The last output projection, residual and norm. -/
theorem out : Cert.algebraic_KernelOutIdeal_ReferenceOutIdeal := by
  intro m g m' g' _ hag
  refine ⟨fun c => KernelOutIdeal.Val.G m c, ?_, ?_⟩
  · exact (θ_run Cert.KernelOutIdeal.defs _ _).mono
      (fun r h c => ⟨((h.1.1 c).1 3).trans (KernelOutIdeal.Val.final m c), h.2.1 c⟩)
      (θ_run_and (KernelOutIdeal.Run.run_main_quiescent (F := Ideal) m g) (KernelOutIdeal.Run.frame (F := Ideal) m g))
  · refine (θ_run Cert.ReferenceOutIdeal.defs _ _).mono (fun r h c => ⟨(h c).1.trans ?_, (h c).2⟩)
      (ReferenceOutIdeal.Value.run (F := Ideal) m' g')
    rw [(hag c).1, (hag c).2.1, (hag c).2.2.1, (hag c).2.2.2]
    refine (ReferenceOutIdeal.Read.val_main_v17_eq (F := Ideal) _ _ _ _).trans ?_
    funext i
    exact ReferenceOutIdeal.Val.val_eq _ _ _ _ i

end Cert.Val

end
-- ==== Proof.MixRun.lean ====
/-
  The run of an output projection: the weights are brought in at the first grid point and kept, and every point makes
  its block of the new residual and of its norm. Over any values.
-/
module

public import proofs.«01_k».proof.Proof.Gen.KernelMixIdeal.Frame
public import proofs.«01_k».proof.Proof.Gen.KernelMixIdeal.Skeleton
public import proofs.«01_k».proof.Proof.Ring
public import Idealize.ShloMosaic.Lib.VecWindow
public import Idealize.ShloMosaic.Lib.Pipeline.TableIdle
public import Idealize.ShloMosaic.Lib.Claim

@[expose] public section

set_option maxRecDepth 16384

noncomputable section

namespace Cert.KernelMixIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelMixIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The first point's condition: it fills the weights. -/
abbrev cond (i : grid0.Coords) : Prop := (Scalar.cmpi .ne (Scalar.extui (Scalar.cmpi .eq (BitVec.ofNat 32 (i 0).val) 0#32)) 0#32) = 1#1

/-- The weights in HBM. -/
abbrev hb : Memref sig .tc .hbm S2x4096x2048 .f32 := Memref.whole main_arg2

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

abbrev row0 : Rect S8x2048 := Rect.unit (s := S8x2048) ![0, 0] S1x2048.size inb_S8x2048_S1x2048_0_0

/-- The two halves of the weights. -/
abbrev lo : Rect S4096x2048 := Rect.unit (s := S4096x2048) ![0, 0] S2048x2048.size inb_S4096x2048_S2048x2048_0_0
abbrev hi : Rect S4096x2048 := Rect.unit (s := S4096x2048) ![2048, 0] S2048x2048.size inb_S4096x2048_S2048x2048_2048_0

/-- The new residual's block made at a point, from the weights in the scratch. -/
def madeR (x0 : Vec F S512x2048 .bf16) (x1 : Vec F S512x2048 .bf16) (x2 : Vec F S512x2048 .f32) (x3 : Vec F S8x2048 .f32) (xw : Vec F S4096x2048 .bf16) : Vec F S512x2048 .f32 :=
  k0_pay3 x2 x0 (View.ld xw lo) x1 (View.ld xw hi)
/-- The normed block made at a point, from the weights in the scratch. -/
def madeN (x0 : Vec F S512x2048 .bf16) (x1 : Vec F S512x2048 .bf16) (x2 : Vec F S512x2048 .f32) (x3 : Vec F S8x2048 .f32) (xw : Vec F S4096x2048 .bf16) : Vec F S512x2048 .bf16 :=
  k0_pay4 x2 x0 (View.ld xw lo) x1 (View.ld xw hi) (View.ld x3 row0)

section body

variable (c : Dev nD) (i : grid0.Coords) (arg1 : Memref sig .tc .vmem S512x2048 .bf16) (harg1 : arg1.IsWhole) (arg2 : Memref sig .tc .vmem S512x2048 .bf16) (harg2 : arg2.IsWhole) (arg4 : Memref sig .tc .vmem S512x2048 .f32) (harg4 : arg4.IsWhole) (arg5 : Memref sig .tc .vmem S8x2048 .f32) (harg5 : arg5.IsWhole) (arg6 : Memref sig .tc .vmem S512x2048 .f32) (harg6 : arg6.IsWhole) (arg7 : Memref sig .tc .vmem S512x2048 .bf16) (harg7 : arg7.IsWhole) (arg8 : Memref sig .tc .vmem S4096x2048 .bf16) (harg8 : arg8.IsWhole) (arg9 : Memref sig .tc .vmem S4x256x2048 .f32) (harg9 : arg9.IsWhole)
    (x0 : Vec F S512x2048 .bf16) (x1 : Vec F S512x2048 .bf16) (x2 : Vec F S512x2048 .f32) (x3 : Vec F S8x2048 .f32) (fh0 : HbBuf (F := F) c hb)

/-- What the body is handed and gives back: the input blocks, the outputs' buffers, the weights' scratch, the staging
    slots at anything, the four counters at zero, and the weights in HBM. -/
def held (y1 y2 y3 : sProp 𝕄) : sProp 𝕄 :=
  iprop(owns (c : Thread nD τ) arg1 fullShare x0 ∗ owns (c : Thread nD τ) arg2 fullShare x1 ∗ owns (c : Thread nD τ) arg4 fullShare x2 ∗ owns (c : Thread nD τ) arg5 fullShare x3 ∗ y1 ∗ y2 ∗ y3 ∗ (∃ d, owns (c : Thread nD τ) arg9 fullShare d) ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ hbPt c hb fh0)

set_option maxHeartbeats 8000000 in set_option sl_exec.dmaWindow true in set_option sl_exec.dmaWindowSet true in
/-- The first point fills the weights and uses them. -/
theorem first_step (hc0 : cond i) (W : Waits sig Unit) (K : PUnit → sProp 𝕄) :
    iprop(held c arg1 arg2 arg4 arg5 arg9 x0 x1 x2 x3 fh0 iprop(∃ d, owns (c : Thread nD τ) arg6 fullShare d) iprop(∃ d, owns (c : Thread nD τ) arg7 fullShare d)
        iprop(∃ d, owns (c : Thread nD τ) arg8 fullShare d) ∗ owes (c : Thread nD τ) 0 W
      ∗ (iprop(held c arg1 arg2 arg4 arg5 arg9 x0 x1 x2 x3 fh0 (owns (c : Thread nD τ) arg6 fullShare (madeR x0 x1 x2 x3 (Ring.wt 0 (hb.view.read (Elt F) fh0))))
          (owns (c : Thread nD τ) arg7 fullShare (madeN x0 x1 x2 x3 (Ring.wt 0 (hb.view.read (Elt F) fh0))))
          (owns (c : Thread nD τ) arg8 fullShare (Ring.wt 0 (hb.view.read (Elt F) fh0))) ∗ (∃ W', owes (c : Thread nD τ) 0 W')) -∗ K ⟨⟩))
    ⊢ wp frame (wpE (defs₀ (F := F)) Variants.none c none) Set.univ (cc0_outproj i arg1 harg1 arg2 harg2 (Memref.whole main_arg2) (Memref.isWhole_whole _) arg4 harg4 arg5 harg5 arg6 harg6 arg7 harg7 arg8 harg8 arg9 harg9 cc0_scratch2) K := by
  simp only [cc0_outproj_eq_skeleton]; unfold cc0_outproj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold held owns
  iintro ⟨⟨⟨%f0, %hf0, H0⟩, ⟨%f1, %hf1, H1⟩, ⟨%f2, %hf2, H2⟩, ⟨%f3, %hf3, H3⟩, ⟨%d1, %g1, -, G1⟩, ⟨%d2, %g2, -, G2⟩, ⟨%ds0, %fs0, -, HS0⟩, ⟨%ds1, %fs1, -, HS1⟩, Hq0, Hq1, Hq2, Hq3, Hh0⟩, HW, Hk⟩
  obtain rfl := harg1.eq_unread hf0; obtain rfl := harg2.eq_unread hf1; obtain rfl := harg4.eq_unread hf2; obtain rfl := harg5.eq_unread hf3
  sl_exec (disch := first | sl_exact hc0)
  sl_step
  have hw : ∀ f, arg8.view.read (Elt F) (arg8.view.writes (Elt F) f (first_step.sl.HS0_16 c arg9 fh0 fs1)) = Ring.wt 0 (hb.view.read (Elt F) fh0) := fun f => by
    refine Ring.read_pieces _ _ _ _ ?_ (View.cover_of_tiledL (first_step.sl.HS0_16 c arg9 fh0 fs1) S256x2048.size (by sl_kernel_rfl))
    intro p hp
    unfold first_step.sl.HS0_16 at hp
    simp only [List.mem_cons, List.not_mem_nil, or_false] at hp
    rcases hp with rfl | rfl | rfl | rfl | rfl | rfl | rfl | rfl | rfl | rfl | rfl | rfl | rfl | rfl | rfl | rfl
    all_goals
      intro x
      dsimp only [k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, first_step.sl.v299, first_step.sl.v311, first_step.sl.v59, first_step.sl.v77, first_step.sl.v95, first_step.sl.v113, first_step.sl.v131, first_step.sl.v149, first_step.sl.v167, first_step.sl.v185, first_step.sl.v203, first_step.sl.v221, first_step.sl.v239, first_step.sl.v257, first_step.sl.v275, first_step.sl.v287, first_step.sl.r, first_step.sl.r_1, first_step.sl.r_2, first_step.sl.r_3]
      rw [Idealize.ShloMosaic.shapeCast_self]
      refine Ring.piece arg9 hb 0 _ _ _ (fun _ => rfl) squeezes_S1x256x2048_S256x2048 (by decide) (fun _ => rfl) _ _ _ _ fh0 ?_ x
      repeat rw [Ring.slot_other _ (by decide) _ _ (fun _ => rfl) (fun _ => rfl) squeezes_S1x256x2048_S256x2048 squeezes_S1x256x2048_S256x2048]
      exact View.read_write_univ _ _
  iapply Hk
  isplitr [HW]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg4.read_unread _
      iexact H2
    isplitl [H3]
    · iexists _; isplitr; · ipureintro; exact harg5.read_unread _
      iexact H3
    isplitl [G1]
    · iexists _; isplitr
      swap; · iexact G1
      ipureintro
      rw [View.read_writes_full]
      unfold first_step.sl.v5 first_step.sl.v9 View.readCov madeR
      rw [View.readAt_full, View.readAt_full, View.readAt_full, hf0, hf1, hf2, View.readAt_eq_ld, View.readAt_eq_ld, hw]
    isplitl [G2]
    · iexists _; isplitr
      swap; · iexact G2
      ipureintro
      rw [View.read_writes_full]
      unfold first_step.sl.v5 first_step.sl.v9 View.readCov madeN
      rw [View.readAt_full, View.readAt_full, View.readAt_full, hf0, hf1, hf2, View.readAt_eq_ld, View.readAt_eq_ld, View.readAt_eq_ld, hw, hf3]
    isplitl [HS0]
    · iexists _; isplitr
      swap; · iexact HS0
      ipureintro; exact hw _
    isplitl [HS1]
    · iexists _; iexists _; isplitr
      swap; · iexact HS1
      ipureintro; rfl
    isplitl [Hq0]; · iexact Hq0
    isplitl [Hq1]; · iexact Hq1
    isplitl [Hq2]; · iexact Hq2
    isplitl [Hq3]; · iexact Hq3
    iexact Hh0
  iexists _; iexact HW

set_option maxHeartbeats 1000000 in
/-- Every later point uses the weights it finds. -/
theorem next_step (hc0 : ¬cond i) (xw : Vec F S4096x2048 .bf16) (W : Waits sig Unit) (K : PUnit → sProp 𝕄) :
    iprop(held c arg1 arg2 arg4 arg5 arg9 x0 x1 x2 x3 fh0 iprop(∃ d, owns (c : Thread nD τ) arg6 fullShare d) iprop(∃ d, owns (c : Thread nD τ) arg7 fullShare d)
        (owns (c : Thread nD τ) arg8 fullShare xw) ∗ owes (c : Thread nD τ) 0 W
      ∗ (iprop(held c arg1 arg2 arg4 arg5 arg9 x0 x1 x2 x3 fh0 (owns (c : Thread nD τ) arg6 fullShare (madeR x0 x1 x2 x3 xw)) (owns (c : Thread nD τ) arg7 fullShare (madeN x0 x1 x2 x3 xw))
          (owns (c : Thread nD τ) arg8 fullShare xw) ∗ (∃ W', owes (c : Thread nD τ) 0 W')) -∗ K ⟨⟩))
    ⊢ wp frame (wpE (defs₀ (F := F)) Variants.none c none) Set.univ (cc0_outproj i arg1 harg1 arg2 harg2 (Memref.whole main_arg2) (Memref.isWhole_whole _) arg4 harg4 arg5 harg5 arg6 harg6 arg7 harg7 arg8 harg8 arg9 harg9 cc0_scratch2) K := by
  simp only [cc0_outproj_eq_skeleton]; unfold cc0_outproj_skel
  unfold held owns
  iintro ⟨⟨⟨%f0, %hf0, H0⟩, ⟨%f1, %hf1, H1⟩, ⟨%f2, %hf2, H2⟩, ⟨%f3, %hf3, H3⟩, ⟨%d1, %g1, -, G1⟩, ⟨%d2, %g2, -, G2⟩, ⟨%fs0, %hs0, HS0⟩, HS1, Hq0, Hq1, Hq2, Hq3, Hh0⟩, HW, Hk⟩
  obtain rfl := harg1.eq_unread hf0; obtain rfl := harg2.eq_unread hf1; obtain rfl := harg4.eq_unread hf2; obtain rfl := harg5.eq_unread hf3; obtain rfl := harg8.eq_unread hs0
  sl_exec (disch := first | sl_exact hc0)
  sl_step
  iapply Hk
  isplitr [HW]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg4.read_unread _
      iexact H2
    isplitl [H3]
    · iexists _; isplitr; · ipureintro; exact harg5.read_unread _
      iexact H3
    isplitl [G1]
    · iexists _; isplitr
      swap; · iexact G1
      ipureintro
      rw [View.read_writes_full]
      unfold madeR
      rw [View.readAt_full, View.readAt_full, View.readAt_full, hf0, hf1, hf2, View.readAt_eq_ld, View.readAt_eq_ld, hs0]
    isplitl [G2]
    · iexists _; isplitr
      swap; · iexact G2
      ipureintro
      rw [View.read_writes_full]
      unfold madeN
      rw [View.readAt_full, View.readAt_full, View.readAt_full, hf0, hf1, hf2, View.readAt_eq_ld, View.readAt_eq_ld, View.readAt_eq_ld, hs0, hf3]
    isplitl [HS0]
    · iexists _; isplitr
      swap; · iexact HS0
      ipureintro; exact harg8.read_unread _
    isplitl [HS1]; · iexact HS1
    isplitl [Hq0]; · iexact Hq0
    isplitl [Hq1]; · iexact Hq1
    isplitl [Hq2]; · iexact Hq2
    isplitl [Hq3]; · iexact Hq3
    iexact Hh0
  iexists _; iexact HW

end body

/-! ## The launch: the body's own counters and the weights left in HBM -/

abbrev sc0 : Memref sig .tc .vmem S4096x2048 .bf16 := Memref.whole cc0_scratch0
abbrev sc1 : Memref sig .tc .vmem S4x256x2048 .f32 := Memref.whole cc0_scratch1
abbrev osem : Fin 4 → SemLoc sig := fun j => (![SemLoc.dma 11, SemLoc.dma 12, SemLoc.dma 13, SemLoc.dma 14] : Fin 4 → SemLoc sig) j
theorem ownSemFacts : Pipeline.OwnSemFacts spec0 osem := by decide
def H0 : Finset (Ref sig .tc) := {main_arg2}
theorem H0_sub : H0 ⊆ Pipeline.restRefs sig spec0 := by decide

/-- The weights as the region finds them. -/
abbrev wts (c : Dev nD) : Vec F S2x4096x2048 .f32 := hb.view.read (Elt F) (V m c main_arg2)

/-- Counters, register and weights, as every point finds and leaves them. -/
def rest (c : Dev nD) : sProp 𝕄 :=
  iprop((∃ r, prngReg c r) ∗ iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0) ∗ iprop(hbPt c hb (V m c main_arg2)))

theorem PhiD_eq (c : Dev nD) :
    (Pipeline.ΦD osem spec0 H0 (V m) c : sProp 𝕄)
      = iprop(iprop((∃ d, owns (c : Thread nD τ) sc0 fullShare d) ∗ (∃ d, owns (c : Thread nD τ) sc1 fullShare d)) ∗ rest m c) := by
  have h1 : (Pipeline.ownSems0 (Ix := Unit) (Name := ℕ) (U := Pipeline.UD sig nD τ) (Lvl := ℕ) (Val := Elt F) (τ := τ) osem c : sProp 𝕄)
      = iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0) := by
    rw [Pipeline.ownSems0_eq_of_list c osem [0, 1, 2, 3] (by decide) (by decide)]; rfl
  have h2 : (bigSep H0 (fun b => ((c : Thread nD τ).loc b) ↦{fullShare} V m c b) : sProp 𝕄) = iprop(hbPt c hb (V m c main_arg2)) := by
    rw [BI.bigSep_eq_bigSepL_of_eq [main_arg2] (by decide) (by decide)]; rfl
  unfold rest
  rw [Pipeline.ΦD_eq, scopedRest0_eq, h1, h2]; simp only [sc0, sc1, owns_whole]; try rfl

/-- Before a point: at the first the launch's invariant, later the weights filled in. -/
def Phi (c : Dev nD) : ℕ → sProp 𝕄
  | 0 => Pipeline.ΦD osem spec0 H0 (V m) c
  | _ + 1 => iprop(iprop(owns (c : Thread nD τ) sc0 fullShare (Ring.wt 0 (wts m c)) ∗ (∃ d, owns (c : Thread nD τ) sc1 fullShare d)) ∗ rest m c)

theorem Phi_pos (c : Dev nD) (n : ℕ) (h : n ≠ 0) :
    Phi m c n = iprop(iprop(owns (c : Thread nD τ) sc0 fullShare (Ring.wt 0 (wts m c)) ∗ (∃ d, owns (c : Thread nD τ) sc1 fullShare d)) ∗ rest m c) := by
  cases n with
  | zero => exact absurd rfl h
  | succ n => rfl

theorem cond_iff : ∀ t : Fin cfg0.N, cond (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    simp only [cond, e0]
    word_cmp
   : ∀ t : Fin grid0.N, cond (grid0.coords t) ↔ t.val = 0)

/-- The proof data: inputs stay, the output's buffer is the block made. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => madeR (iblk m c 0 t) (iblk m c 1 t) (iblk m c 2 t) (iblk m c 3 t) (Ring.wt 0 (wts m c))
    | ⟨5, _⟩ => madeN (iblk m c 0 t) (iblk m c 1 t) (iblk m c 2 t) (iblk m c 3 t) (Ring.wt 0 (wts m c))
  Φ t := Phi m c t.val
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = madeR (iblk m c 0 t) (iblk m c 1 t) (iblk m c 2 t) (iblk m c 3 t) (Ring.wt 0 (wts m c)) := by dsimp only [dats]
theorem after5 (c : Dev nD) (t : Fin cfg0.N) : (dats m 0 c).after 5 t = madeN (iblk m c 0 t) (iblk m c 1 t) (iblk m c 2 t) (iblk m c 3 t) (Ring.wt 0 (wts m c)) := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-- The launch's facts with any user algebra: the kit states them at the one without counters of the body's own. -/
theorem main_prefix (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 1600000 in
/-- The library's body obligation, at every point. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  refine triple_restated (P := iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))))
    (Q := fun _ => iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))) ?_ rfl .rfl fun _ => .rfl
  unfold bodyAt0
  simp only [before0, before1, before2, before3, after0, after1, after2, after3, after4, after5]
  rw [show (dats m 0 c).Φ t.succ = Phi m c (t.val + 1) from rfl, show (dats m 0 c).Φ t.castSucc = Phi m c t.val from rfl,
    Phi_pos m c (t.val + 1) (Nat.succ_ne_zero _)]
  unfold Dat.owesAt Pipeline.owesWithin
  rw [show (dats m 0 c).owed t.castSucc = 0 from rfl, show (dats m 0 c).owed t.succ = 0 from rfl]
  by_cases hz : t.val = 0
  · rw [hz, show Phi m c 0 = Pipeline.ΦD osem spec0 H0 (V m) c from rfl, PhiD_eq]
    unfold rest
    iintro ⟨⟨⟨HS0, HS1⟩, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩⟩
    iapply (first_step c (grid0.coords t) _ _ _ _ _ _ _ _ _ _ _ _ _ _ _ _ (iblk m c 0 t) (iblk m c 1 t) (iblk m c 2 t) (iblk m c 3 t) (V m c main_arg2) ((cond_iff t).mpr hz) W _)
    unfold held
    isplitl [H0 H1 H2 H3 H4 H5 HS0 HS1 Hq0 Hq1 Hq2 Hq3 Hh0]
    · isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      isplitl [Hq0]; · iexact Hq0
      isplitl [Hq1]; · iexact Hq1
      isplitl [Hq2]; · iexact Hq2
      isplitl [Hq3]; · iexact Hq3
      iexact Hh0
    isplitl [HW]; · iexact HW
    iintro ⟨⟨H0, H1, H2, H3, H4, H5, HS0, HS1, Hq0, Hq1, Hq2, Hq3, Hh0⟩, ⟨%W', HW'⟩⟩
    isplitl [HS0 HS1 Hg Hq0 Hq1 Hq2 Hq3 Hh0]
    · isplitl [HS0 HS1]
      · isplitl [HS0]; · iexact HS0
        iexact HS1
      isplitl [Hg]; · iexact Hg
      isplitl [Hq0 Hq1 Hq2 Hq3]
      · isplitl [Hq0]; · iexact Hq0
        isplitl [Hq1]; · iexact Hq1
        isplitl [Hq2]; · iexact Hq2
        iexact Hq3
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    iexact H5
  · rw [Phi_pos m c t.val hz]
    unfold rest
    iintro ⟨⟨⟨HS0, HS1⟩, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩⟩
    iapply (next_step c (grid0.coords t) _ _ _ _ _ _ _ _ _ _ _ _ _ _ _ _ (iblk m c 0 t) (iblk m c 1 t) (iblk m c 2 t) (iblk m c 3 t) (V m c main_arg2) (fun h => hz ((cond_iff t).mp h)) (Ring.wt 0 (wts m c)) W _)
    unfold held
    isplitl [H0 H1 H2 H3 H4 H5 HS0 HS1 Hq0 Hq1 Hq2 Hq3 Hh0]
    · isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      isplitl [Hq0]; · iexact Hq0
      isplitl [Hq1]; · iexact Hq1
      isplitl [Hq2]; · iexact Hq2
      isplitl [Hq3]; · iexact Hq3
      iexact Hh0
    isplitl [HW]; · iexact HW
    iintro ⟨⟨H0, H1, H2, H3, H4, H5, HS0, HS1, Hq0, Hq1, Hq2, Hq3, Hh0⟩, ⟨%W', HW'⟩⟩
    isplitl [HS0 HS1 Hg Hq0 Hq1 Hq2 Hq3 Hh0]
    · isplitl [HS0 HS1]
      · isplitl [HS0]; · iexact HS0
        iexact HS1
      isplitl [Hg]; · iexact Hg
      isplitl [Hq0 Hq1 Hq2 Hq3]
      · isplitl [Hq0]; · iexact Hq0
        isplitl [Hq1]; · iexact Hq1
        isplitl [Hq2]; · iexact Hq2
        iexact Hq3
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    iexact H5

theorem enters (c : Dev nD) : Pipeline.ΦD osem spec0 H0 (V m) c ⊢ (dats m 0 c).Φ 0 := by
  rw [show (dats m 0 c).Φ 0 = Pipeline.ΦD osem spec0 H0 (V m) c from rfl]

theorem leaves (c : Dev nD) : (dats m 0 c).Φ (Fin.last cfg0.N) ⊢ Pipeline.ΦD osem spec0 H0 (V m) c := by
  rw [show (dats m 0 c).Φ (Fin.last cfg0.N) = Phi m c cfg0.N from rfl, Phi_pos m c _ (by have : cfg0.N = 16 := N_0; omega), PhiD_eq]
  iintro ⟨⟨HS0, HS1⟩, Hr⟩
  isplitl [HS0 HS1]
  · isplitl [HS0]
    · iexists _; iexact HS0
    iexact HS1
  iexact Hr

/-! ## The run and the frame -/

set_option backward.isDefEq.respectTransparency.types false in
/-- Every fair execution ends, with the arrays as the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem defs₀ Variants.none ownSemFacts H0 H0_sub m ρ main
    (hbody := fun c => (body_obligation m c).loose) (hshare := fun c => (dats m 0 c).share_full fun _ => rfl)
    (howed := fun _ _ => rfl) (V := V m) (hmain := main_prefix m Variants.none) (hA := A_eq m)
    (hin := enters m) (hout := leaves m)

/-- The frame, for any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and ((θ_run defs _ _).mono (fun _ h c => ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (Pipeline.mem_restRefs_of main_arg2 (by decide) (by decide))).trans (V_main_arg2 m c),
      ((h.1 c).1 2).trans (((dats m 0 c).arrAt_in 2 rfl _).trans ((A_eq m c 2).trans (V_main_arg3 m c))),
      ((h.1 c).2 main_arg4 (Pipeline.mem_restRefs_of main_arg4 (by decide) (by decide))).trans (V_main_arg4 m c)⟩) (run_main_quiescent m ρ))
    ((θ_run defs _ _).mono (fun _ h => h.2) (run_main_quiescent m ρ))

end Cert.KernelMixIdeal.Run

end
-- ==== Proof.Mix.lean ====
/-
  The value of the first even layer's output projection: the new residual is the residual and the projection, and the normed array is,
  row by row, the new residual over the root of the row's mean square, times the norm's weights.
-/
module

public import proofs.«01_k».proof.Proof.Norm
public import proofs.«01_k».proof.Proof.MixRun
public import proofs.«01_k».proof.Proof.Gen.KernelMix
public import proofs.«01_k».proof.Proof.Gen.ReferenceMixIdeal.Run
public import proofs.«01_k».proof.Proof.Gen.ReferenceMixIdeal.Read
public import proofs.«01_k».proof.Defs

@[expose] public section

noncomputable section

open scoped BigOperators
open Idealize.ShloMosaic Idealize.ShloMosaic.TcCoe Idealize.SL.Sem Idealize.ShloMosaic.ValueIdx
open Idealize.ShloMosaic.Pipeline (Dat)
open Cert.Lin Cert.Norm

namespace Cert.KernelMixIdeal.Val

open Cert.KernelMixIdeal Cert.KernelMixIdeal.Gen Cert.KernelMixIdeal.Run

variable (m : (ℓ : Loc nD τ sig) → Buf (Elt Ideal) ℓ) (ρ : Dev nD → PrngReg)

/-- One mixer's output as launched. -/
abbrev Y (c : Dev nD) : FVec Ideal S8192x2048 .bf16 := m ((c : Thread nD τ).loc main_arg0)
/-- The other mixer's output as launched. -/
abbrev Z (c : Dev nD) : FVec Ideal S8192x2048 .bf16 := m ((c : Thread nD τ).loc main_arg1)
/-- The weight stack as launched. -/
abbrev W (c : Dev nD) : FVec Ideal S2x4096x2048 .f32 := m ((c : Thread nD τ).loc main_arg2)
/-- The residual as launched. -/
abbrev R (c : Dev nD) : FVec Ideal S8192x2048 .f32 := m ((c : Thread nD τ).loc main_arg3)
/-- The norm's weights as launched. -/
abbrev N (c : Dev nD) : FVec Ideal S2048 .f32 := m ((c : Thread nD τ).loc main_arg4)

/-- The new residual, at natural coordinates. -/
def res (c : Dev nD) (t n : ℕ) : EReal := at2 (R m c) t n + lin2 (Y m c) (Z m c) (W m c) 0 t n

/-- The residual the call leaves. -/
def G (c : Dev nD) : FVec Ideal S8192x2048 .f32 := fun i => res m c (i 0).val (i 1).val
/-- The normed array the call leaves. -/
def G' (c : Dev nD) : FVec Ideal S8192x2048 .bf16 := fun i => nrm (res m c (i 0).val) (at1 (N m c)) (i 1).val

/-- Where the windows' blocks begin. -/
theorem idx : ∀ t : Fin cfg0.N, (win0_3.index t 0 = 0 ∧ win0_3.index t 1 = 0)
    ∧ (win0_0.index t 0 = t.val ∧ win0_0.index t 1 = 0)
    ∧ (win0_1.index t 0 = t.val ∧ win0_1.index t 1 = 0)
    ∧ (win0_2.index t 0 = t.val ∧ win0_2.index t 1 = 0)
    ∧ (win0_4.index t 0 = t.val ∧ win0_4.index t 1 = 0)
    ∧ (win0_5.index t 0 = t.val ∧ win0_5.index t 1 = 0) :=
  (by decide +kernel : ∀ t : Fin grid0.N, (win0_3.index t 0 = 0 ∧ win0_3.index t 1 = 0)
    ∧ (win0_0.index t 0 = t.val ∧ win0_0.index t 1 = 0)
    ∧ (win0_1.index t 0 = t.val ∧ win0_1.index t 1 = 0)
    ∧ (win0_2.index t 0 = t.val ∧ win0_2.index t 1 = 0)
    ∧ (win0_4.index t 0 = t.val ∧ win0_4.index t 1 = 0)
    ∧ (win0_5.index t 0 = t.val ∧ win0_5.index t 1 = 0))

/-- The mixer's block at a point. -/
theorem blk0 (c : Dev nD) (t : Fin cfg0.N) (y : S512x2048.Idx) :
    (iblk m c 0 t : FVec Ideal S512x2048 .bf16) y = at2 (Y m c) (t.val * 512 + (y 0).val) (y 1).val := by
  have hi := (idx t).2.1
  rw [← at2_eq (Y m c) ((win0_0.rect t).emb y)
    (by rw [win0_0.rect_emb_val t y 0, hi.1]; rfl) (by rw [win0_0.rect_emb_val t y 1, hi.2]; show 0 * 2048 + (y 1).val = _; omega)]
  unfold iblk
  rw [View.read_apply]
  show V m c main_arg0 _ = _
  rw [V_main_arg0]
  rfl

/-- The mixer's block at a point. -/
theorem blk1 (c : Dev nD) (t : Fin cfg0.N) (y : S512x2048.Idx) :
    (iblk m c 1 t : FVec Ideal S512x2048 .bf16) y = at2 (Z m c) (t.val * 512 + (y 0).val) (y 1).val := by
  have hi := (idx t).2.2.1
  rw [← at2_eq (Z m c) ((win0_1.rect t).emb y)
    (by rw [win0_1.rect_emb_val t y 0, hi.1]; rfl) (by rw [win0_1.rect_emb_val t y 1, hi.2]; show 0 * 2048 + (y 1).val = _; omega)]
  unfold iblk
  rw [View.read_apply]
  show V m c main_arg1 _ = _
  rw [V_main_arg1]
  rfl

/-- The residual's block at a point. -/
theorem blk2 (c : Dev nD) (t : Fin cfg0.N) (y : S512x2048.Idx) :
    (iblk m c 2 t : FVec Ideal S512x2048 .f32) y = at2 (R m c) (t.val * 512 + (y 0).val) (y 1).val := by
  have hi := (idx t).2.2.2.1
  rw [← at2_eq (R m c) ((win0_2.rect t).emb y)
    (by rw [win0_2.rect_emb_val t y 0, hi.1]; rfl) (by rw [win0_2.rect_emb_val t y 1, hi.2]; show 0 * 2048 + (y 1).val = _; omega)]
  unfold iblk
  rw [View.read_apply]
  show V m c main_arg3 _ = _
  rw [V_main_arg3]
  rfl

/-- The norm weights' row at a point. -/
theorem blk3 (c : Dev nD) (t : Fin cfg0.N) (y : S8x2048.Idx) (hy : (y 0).val = 0) :
    (iblk m c 3 t : FVec Ideal S8x2048 .f32) y = at1 (N m c) (y 1).val := by
  have hi := (idx t).1
  have e0 : ((win0_3.rect t).emb y 0).val = 0 := by
    rw [win0_3.rect_emb_val t y 0, hi.1]; show 0 * 8 + (y 0).val = 0; omega
  have e1 : ((win0_3.rect t).emb y 1).val = (y 1).val := by
    rw [win0_3.rect_emb_val t y 1, hi.2]; show 0 * 2048 + (y 1).val = _; omega
  have hV : (V m c main_v2 : FVec Ideal S8x2048 .f32)
      = concatenate S8x2048 0 [⟨S1x2048, broadcastInDim S1x2048 ![1] bcast_S2048_S1x2048_1 (N m c)⟩,
          ⟨S7x2048, broadcastInDim S7x2048 ![] bcast_S_S7x2048 (constant (F := Ideal) S_ .f32 0x00000000#32)⟩]
          concatenates_S1x2048_S7x2048_S8x2048_d0 := by
    show StableHlo.after hostOps0 (fun b => m (c, b)) (Proc.devRef .tc main_v2) = _
    after_results <;> rfl
  unfold iblk
  rw [View.read_apply]
  show V m c main_v2 _ = _
  rw [hV]
  refine (rows8_zero _ _ concatenates_S1x2048_S7x2048_S8x2048_d0 ((win0_3.rect t).emb y) e0).trans ?_
  refine (row_apply _ bcast_S2048_S1x2048_1 _).trans ?_
  exact at1_eq (N m c) _ e1

/-- The weights a point multiplies by. -/
theorem wts_eq (c : Dev nD) (y : S4096x2048.Idx) :
    Ring.wt (F := Ideal) 0 (wts m c) y = at3 (W m c) 0 (y 0).val (y 1).val := by
  have e : (wts m c : FVec Ideal S2x4096x2048 .f32) = W m c := by
    unfold wts
    rw [V_main_arg2]
    rfl
  rw [e]
  exact at3_eq (W m c) (ix3 0 (y 0 : Fin 4096) (y 1 : Fin 2048)) rfl rfl rfl

/-- The new residual's block at a point. -/
theorem res_blk (c : Dev nD) (t : Fin cfg0.N) (y : S512x2048.Idx) :
    madeR (F := Ideal) (iblk m c 0 t) (iblk m c 1 t) (iblk m c 2 t) (iblk m c 3 t) (Ring.wt 0 (wts m c)) y = res m c (t.val * 512 + (y 0).val) (y 1).val := by
  unfold madeR k0_pay3
  refine Eq.trans ?_ (add_assoc _ _ _)
  refine congrArg₂ (· + ·) (congrArg₂ (· + ·) (blk2 m c t y) ((matmul_p (φ₁ := .bf16) (φ₂ := .bf16) _ _ y).trans ?_))
    ((matmul_p (φ₁ := .bf16) (φ₂ := .bf16) _ _ y).trans ?_)
  · refine Finset.sum_congr rfl fun k _ => congrArg₂ (· * ·) (blk0 m c t (ix2 (y 0 : Fin 512) k)) ?_
    refine (wts_eq m c (lo.emb (ix2 k (y 1 : Fin 2048)))).trans (congrArg₂ (at3 (W m c) 0) ?_ ?_)
    · show 0 + 1 * k.val = k.val; omega
    · show 0 + 1 * (y 1).val = (y 1).val; omega
  · refine Finset.sum_congr rfl fun k _ => congrArg₂ (· * ·) (blk1 m c t (ix2 (y 0 : Fin 512) k)) ?_
    refine (wts_eq m c (hi.emb (ix2 k (y 1 : Fin 2048)))).trans (congrArg₂ (at3 (W m c) 0) ?_ ?_)
    · show 2048 + 1 * k.val = 2048 + k.val; omega
    · show 0 + 1 * (y 1).val = (y 1).val; omega

/-- The normed block at a point. -/
theorem nrm_blk (c : Dev nD) (t : Fin cfg0.N) (y : S512x2048.Idx) :
    madeN (F := Ideal) (iblk m c 0 t) (iblk m c 1 t) (iblk m c 2 t) (iblk m c 3 t) (Ring.wt 0 (wts m c)) y
      = nrm (res m c (t.val * 512 + (y 0).val)) (at1 (N m c)) (y 1).val := by
  unfold madeN k0_pay4
  exact rows_apply (madeR (F := Ideal) (iblk m c 0 t) (iblk m c 1 t) (iblk m c 2 t) (iblk m c 3 t) (Ring.wt 0 (wts m c)))
    _ reduces_S512x2048_S512 (.inl rfl) rfl shapeCasts_S512_S512x1 broadcasts_S512x1_S512x2048
    shapeCasts_S1x2048_S1x2048 broadcasts_S1x2048_S512x2048 y _ _
    (fun k => res_blk m c t (ix2 (y 0 : Fin 512) k)) (blk3 m c t (row0.emb (ix2 0 (y 1 : Fin 2048))) rfl |>.trans (congrArg _ (by
      show 0 + 1 * (y 1).val = (y 1).val; omega)))

/-- What a point writes back is its block of the residual. -/
theorem flushed4 (c : Dev nD) (t : Fin cfg0.N) :
    (dats m 0 c).flushed 4 t = ((cfg0.win 4).blk t).view.read (Elt Ideal) (G m c) := by
  show (cfg0.win 4).cut (grid0.coords t) ((dats m 0 c).after 4 t) = _
  rw [after4]
  funext y
  have hi := (idx t).2.2.2.2.1
  refine (res_blk m c t y).trans ?_
  rw [View.read_apply]
  have e0 : ((win0_4.rect t).emb y 0).val = t.val * 512 + (y 0).val := by
    rw [win0_4.rect_emb_val t y 0, hi.1]; rfl
  have e1 : ((win0_4.rect t).emb y 1).val = (y 1).val := by
    rw [win0_4.rect_emb_val t y 1, hi.2]; show 0 * 2048 + (y 1).val = _; omega
  show _ = res m c ((win0_4.rect t).emb y 0).val ((win0_4.rect t).emb y 1).val
  rw [e0, e1]

/-- The blocks tile the residual. -/
theorem final4 (c : Dev nD) : (dats m 0 c).arrAt 4 cfg0.N = G m c :=
  (dats m 0 c).arrAt_eq_of_cover 4 (G m c) (fun t _ => flushed4 m c t) fun i => by
    have h0 : (i 0 : Nat) < 8192 := (i 0).isLt
    have h1 : (i 1 : Nat) < 2048 := (i 1).isLt
    have hN : cfg0.N = 16 := N_0
    refine ⟨⟨(i 0 : Nat) / 512, by rw [hN]; omega⟩, flush0_4 _, ?_⟩
    generalize hT : (⟨(i 0 : Nat) / 512, _⟩ : Fin cfg0.N) = t
    have ht : t.val = (i 0 : Nat) / 512 := by rw [← hT]
    have hi := (idx t).2.2.2.2.1
    show i ∈ ((View.whole main_v3_0).slice (win0_4.rect t)).set
    rw [View.set_slice_whole, Rect.mem_set_unit]
    intro a
    match a with
    | ⟨0, _⟩ =>
      show win0_4.index t 0 * 512 ≤ (i 0 : Nat) ∧ (i 0 : Nat) < win0_4.index t 0 * 512 + 512
      rw [hi.1]; omega
    | ⟨1, _⟩ =>
      show win0_4.index t 1 * 2048 ≤ (i 1 : Nat) ∧ (i 1 : Nat) < win0_4.index t 1 * 2048 + 2048
      rw [hi.2]; omega

/-- What a point writes back is its block of the normed array. -/
theorem flushed5 (c : Dev nD) (t : Fin cfg0.N) :
    (dats m 0 c).flushed 5 t = ((cfg0.win 5).blk t).view.read (Elt Ideal) (G' m c) := by
  show (cfg0.win 5).cut (grid0.coords t) ((dats m 0 c).after 5 t) = _
  rw [after5]
  funext y
  have hi := (idx t).2.2.2.2.2
  refine (nrm_blk m c t y).trans ?_
  rw [View.read_apply]
  have e0 : ((win0_5.rect t).emb y 0).val = t.val * 512 + (y 0).val := by
    rw [win0_5.rect_emb_val t y 0, hi.1]; rfl
  have e1 : ((win0_5.rect t).emb y 1).val = (y 1).val := by
    rw [win0_5.rect_emb_val t y 1, hi.2]; show 0 * 2048 + (y 1).val = _; omega
  show _ = nrm (res m c ((win0_5.rect t).emb y 0).val) (at1 (N m c)) ((win0_5.rect t).emb y 1).val
  rw [e0, e1]

/-- The blocks tile the normed array. -/
theorem final5 (c : Dev nD) : (dats m 0 c).arrAt 5 cfg0.N = G' m c :=
  (dats m 0 c).arrAt_eq_of_cover 5 (G' m c) (fun t _ => flushed5 m c t) fun i => by
    have h0 : (i 0 : Nat) < 8192 := (i 0).isLt
    have h1 : (i 1 : Nat) < 2048 := (i 1).isLt
    have hN : cfg0.N = 16 := N_0
    refine ⟨⟨(i 0 : Nat) / 512, by rw [hN]; omega⟩, flush0_5 _, ?_⟩
    generalize hT : (⟨(i 0 : Nat) / 512, _⟩ : Fin cfg0.N) = t
    have ht : t.val = (i 0 : Nat) / 512 := by rw [← hT]
    have hi := (idx t).2.2.2.2.2
    show i ∈ ((View.whole main_v3_1).slice (win0_5.rect t)).set
    rw [View.set_slice_whole, Rect.mem_set_unit]
    intro a
    match a with
    | ⟨0, _⟩ =>
      show win0_5.index t 0 * 512 ≤ (i 0 : Nat) ∧ (i 0 : Nat) < win0_5.index t 0 * 512 + 512
      rw [hi.1]; omega
    | ⟨1, _⟩ =>
      show win0_5.index t 1 * 2048 ≤ (i 1 : Nat) ∧ (i 1 : Nat) < win0_5.index t 1 * 2048 + 2048
      rw [hi.2]; omega

end Cert.KernelMixIdeal.Val

namespace Cert.ReferenceMixIdeal.Val

open Cert.ReferenceMixIdeal Cert.ReferenceMixIdeal.Gen Cert.ReferenceMixIdeal.Read

/-- The reference's new residual, entry by entry. -/
theorem res_eq (x z : FVec Ideal S8192x2048 .bf16) (w : FVec Ideal S2x4096x2048 .f32) (r : FVec Ideal S8192x2048 .f32) (i : S8192x2048.Idx) :
    val_main_v5 (F := Ideal) x z w r i = at2 r (i 0).val (i 1).val + lin2 x z w 0 (i 0).val (i 1).val := by
  have hw : ∀ k : Fin 4096, val_main_v3 (F := Ideal) w (ridx_main_v4 i k) = at3 w 0 k.val (i 1).val := fun k => by
    rw [val_main_v3_apply, val_main_v2_apply]
    have h1 : (i 1 : Nat) < 2048 := (i 1).isLt
    have hk := k.isLt
    refine at3_eq w _ rfl ?_ ?_
    · show (k.val * 2048 + (i 1).val) / 2048 % 4096 = k.val; omega
    · show (k.val * 2048 + (i 1).val) % 2048 = _; omega
  rw [val_main_v5_apply]
  refine congrArg₂ (· + ·) (at2_eq r i rfl rfl) ?_
  rw [val_main_v4_apply]
  refine (Fin.sum_univ_add (a := 2048) (b := 2048) _).trans ?_
  unfold lin2
  refine congrArg₂ (· + ·) ?_ ?_
  · refine Finset.sum_congr rfl fun k _ => congrArg₂ (· * ·) ?_ (hw _)
    rw [val_main_v1_apply]
    refine Eq.trans ?_ (at2_eq x (ix2 (i 0) k) rfl rfl)
    exact concatenate_pair_apply_left 1 x z concatenates_S8192x2048_S8192x2048_S8192x4096_d1 _ rfl _
      (fun b => match b with | ⟨0, _⟩ => rfl | ⟨1, _⟩ => rfl)
  · refine Finset.sum_congr rfl fun k _ => congrArg₂ (· * ·) ?_ (hw _)
    rw [val_main_v1_apply]
    refine Eq.trans ?_ (at2_eq z (ix2 (i 0) k) rfl rfl)
    exact concatenate_pair_apply_right 1 x z concatenates_S8192x2048_S8192x2048_S8192x4096_d1 _ rfl rfl _
      (fun b => match b with | ⟨0, _⟩ => fun _ => rfl | ⟨1, _⟩ => fun hb => absurd rfl hb) (by show k.val + 2048 = 2048 + k.val; omega)

/-- The reference's normed array, entry by entry. -/
theorem val_eq (x z : FVec Ideal S8192x2048 .bf16) (w : FVec Ideal S2x4096x2048 .f32) (r : FVec Ideal S8192x2048 .f32) (nw : FVec Ideal S2048 .f32) (i : S8192x2048.Idx) :
    val_main_v19 (F := Ideal) x z w r nw i = nrm (fun n => at2 r (i 0).val n + lin2 x z w 0 (i 0).val n) (at1 nw) (i 1).val := by
  have hs : val_main_v7 (F := Ideal) x z w r (idx_main_v8 (idx_main_v14 i)) = ∑ k : Fin 2048,
      (at2 r (i 0).val k.val + lin2 x z w 0 (i 0).val k.val) * (at2 r (i 0).val k.val + lin2 x z w 0 (i 0).val k.val) := by
    rw [val_main_v7_apply]
    refine (congrArg (· + _) (Ideal.ofBits_zero_f32 : val_main_cst (F := Ideal) _ = 0)).trans ((zero_add _).trans ?_)
    refine Finset.sum_congr rfl fun k _ => ?_
    rw [val_main_v6_apply, res_eq]
    rfl
  rw [val_main_v19_apply, val_main_v18_apply, val_main_v15_apply, val_main_v14_apply, val_main_v13_apply, val_main_v12_apply, val_main_v10_apply,
    val_main_v8_apply, val_main_v9_apply, val_main_v11_apply, val_main_v17_apply, val_main_v16_apply, hs, res_eq]
  unfold nrm
  refine congrArg₂ (· * ·) rfl ?_
  exact at1_eq nw _ rfl

end Cert.ReferenceMixIdeal.Val

namespace Cert.Val

/-- The compiled program's body table is the ideal one's. -/
theorem mix_rows : Cert.KernelMix.defs₀ (F := Bits) = Cert.KernelMixIdeal.defs₀ (F := Bits) := by
  unfold Cert.KernelMix.defs₀ Cert.KernelMixIdeal.defs₀
  refine congrArg Defs.onTc (funext fun l => funext fun a => ?_)
  obtain ⟨n, h⟩ := l
  cases n with
  | zero => rfl
  | succ n => exact absurd h (Nat.not_lt.2 (Nat.le_add_left _ _))
theorem mix_defs : Cert.KernelMix.defs (F := Bits) = Cert.KernelMixIdeal.defs (F := Bits) := by
  unfold Cert.KernelMix.defs Cert.KernelMixIdeal.defs
  rw [mix_rows]
  rfl

/-- The run of the first even layer's output projection as compiled. -/
theorem mix_frame_bits : Cert.quiescent_KernelMix := fun m ρ _ => by
  rw [mix_defs]
  exact KernelMixIdeal.Run.frame (F := Bits) m ρ

/-- The run of the first even layer's output projection over the reals. -/
theorem mix_frame : Cert.quiescent_KernelMixIdeal := fun m ρ _ => KernelMixIdeal.Run.frame (F := Ideal) m ρ

/-- The first even layer's output projection, residual and norm. -/
theorem mix : Cert.algebraic_KernelMixIdeal_ReferenceMixIdeal := by
  intro m g m' g' _ hag
  refine ⟨fun c => KernelMixIdeal.Val.G m c, fun c => KernelMixIdeal.Val.G' m c, ?_, ?_⟩
  · exact (θ_run Cert.KernelMixIdeal.defs _ _).mono
      (fun r h c => ⟨((h.1.1 c).1 4).trans (KernelMixIdeal.Val.final4 m c), ((h.1.1 c).1 5).trans (KernelMixIdeal.Val.final5 m c), h.2.1 c⟩)
      (θ_run_and (KernelMixIdeal.Run.run_main_quiescent (F := Ideal) m g) (KernelMixIdeal.Run.frame (F := Ideal) m g))
  · refine (θ_run Cert.ReferenceMixIdeal.defs _ _).mono (fun r h c => ⟨(h c).1.trans ?_, (h c).2.1.trans ?_, (h c).2.2⟩)
      (ReferenceMixIdeal.Value.run (F := Ideal) m' g')
    · rw [(hag c).1, (hag c).2.1, (hag c).2.2.1, (hag c).2.2.2.1]
      refine (ReferenceMixIdeal.Read.val_main_v5_eq (F := Ideal) _ _ _ _).trans ?_
      funext i
      exact ReferenceMixIdeal.Val.res_eq _ _ _ _ i
    · rw [(hag c).1, (hag c).2.1, (hag c).2.2.1, (hag c).2.2.2.1, (hag c).2.2.2.2]
      refine (ReferenceMixIdeal.Read.val_main_v19_eq (F := Ideal) _ _ _ _ _).trans ?_
      funext i
      exact ReferenceMixIdeal.Val.val_eq _ _ _ _ _ i

end Cert.Val

end
-- ==== Proof.OddRun.lean ====
/-
  The run of an output projection: the weights are brought in at the first grid point and kept, and every point makes
  its block of the new residual and of its norm. Over any values.
-/
module

public import proofs.«01_k».proof.Proof.Gen.KernelOddIdeal.Frame
public import proofs.«01_k».proof.Proof.Gen.KernelOddIdeal.Skeleton
public import proofs.«01_k».proof.Proof.Ring
public import Idealize.ShloMosaic.Lib.VecWindow
public import Idealize.ShloMosaic.Lib.Pipeline.TableIdle
public import Idealize.ShloMosaic.Lib.Claim

@[expose] public section

set_option maxRecDepth 16384

noncomputable section

namespace Cert.KernelOddIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelOddIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The first point's condition: it fills the weights. -/
abbrev cond (i : grid0.Coords) : Prop := (Scalar.cmpi .ne (Scalar.extui (Scalar.cmpi .eq (BitVec.ofNat 32 (i 0).val) 0#32)) 0#32) = 1#1

/-- The weights in HBM. -/
abbrev hb : Memref sig .tc .hbm S2x2048x2048 .f32 := Memref.whole main_arg1

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

abbrev row0 : Rect S8x2048 := Rect.unit (s := S8x2048) ![0, 0] S1x2048.size inb_S8x2048_S1x2048_0_0

/-- The new residual's block made at a point, from the weights in the scratch. -/
def madeR (x0 : Vec F S512x2048 .bf16) (x1 : Vec F S512x2048 .f32) (x2 : Vec F S8x2048 .f32) (xw : Vec F S2048x2048 .bf16) : Vec F S512x2048 .f32 :=
  k0_pay2 x1 x0 xw
/-- The normed block made at a point, from the weights in the scratch. -/
def madeN (x0 : Vec F S512x2048 .bf16) (x1 : Vec F S512x2048 .f32) (x2 : Vec F S8x2048 .f32) (xw : Vec F S2048x2048 .bf16) : Vec F S512x2048 .bf16 :=
  k0_pay3 x1 x0 xw (View.ld x2 row0)

section body

variable (c : Dev nD) (i : grid0.Coords) (arg1 : Memref sig .tc .vmem S512x2048 .bf16) (harg1 : arg1.IsWhole) (arg3 : Memref sig .tc .vmem S512x2048 .f32) (harg3 : arg3.IsWhole) (arg4 : Memref sig .tc .vmem S8x2048 .f32) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S2048x2048 .bf16) (harg7 : arg7.IsWhole) (arg8 : Memref sig .tc .vmem S4x256x2048 .f32) (harg8 : arg8.IsWhole)
    (x0 : Vec F S512x2048 .bf16) (x1 : Vec F S512x2048 .f32) (x2 : Vec F S8x2048 .f32) (fh0 : HbBuf (F := F) c hb)

/-- What the body is handed and gives back: the input blocks, the outputs' buffers, the weights' scratch, the staging
    slots at anything, the four counters at zero, and the weights in HBM. -/
def held (y1 y2 y3 : sProp 𝕄) : sProp 𝕄 :=
  iprop(owns (c : Thread nD τ) arg1 fullShare x0 ∗ owns (c : Thread nD τ) arg3 fullShare x1 ∗ owns (c : Thread nD τ) arg4 fullShare x2 ∗ y1 ∗ y2 ∗ y3 ∗ (∃ d, owns (c : Thread nD τ) arg8 fullShare d) ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ hbPt c hb fh0)

set_option maxHeartbeats 2000000 in set_option sl_exec.dmaWindow true in set_option sl_exec.dmaWindowSet true in
/-- The first point fills the weights and uses them. -/
theorem first_step (hc0 : cond i) (W : Waits sig Unit) (K : PUnit → sProp 𝕄) :
    iprop(held c arg1 arg3 arg4 arg8 x0 x1 x2 fh0 iprop(∃ d, owns (c : Thread nD τ) arg5 fullShare d) iprop(∃ d, owns (c : Thread nD τ) arg6 fullShare d)
        iprop(∃ d, owns (c : Thread nD τ) arg7 fullShare d) ∗ owes (c : Thread nD τ) 0 W
      ∗ (iprop(held c arg1 arg3 arg4 arg8 x0 x1 x2 fh0 (owns (c : Thread nD τ) arg5 fullShare (madeR x0 x1 x2 (Ring.wt 0 (hb.view.read (Elt F) fh0))))
          (owns (c : Thread nD τ) arg6 fullShare (madeN x0 x1 x2 (Ring.wt 0 (hb.view.read (Elt F) fh0))))
          (owns (c : Thread nD τ) arg7 fullShare (Ring.wt 0 (hb.view.read (Elt F) fh0))) ∗ (∃ W', owes (c : Thread nD τ) 0 W')) -∗ K ⟨⟩))
    ⊢ wp frame (wpE (defs₀ (F := F)) Variants.none c none) Set.univ (cc0_outproj i arg1 harg1 (Memref.whole main_arg1) (Memref.isWhole_whole _) arg3 harg3 arg4 harg4 arg5 harg5 arg6 harg6 arg7 harg7 arg8 harg8 cc0_scratch2) K := by
  simp only [cc0_outproj_eq_skeleton]; unfold cc0_outproj_skel
  simp only [k0_part1_eq_skeleton, k0_part2_eq_skeleton, k0_part3_eq_skeleton, k0_part4_eq_skeleton, k0_part5_eq_skeleton]
  unfold held owns
  iintro ⟨⟨⟨%f0, %hf0, H0⟩, ⟨%f1, %hf1, H1⟩, ⟨%f2, %hf2, H2⟩, ⟨%d1, %g1, -, G1⟩, ⟨%d2, %g2, -, G2⟩, ⟨%ds0, %fs0, -, HS0⟩, ⟨%ds1, %fs1, -, HS1⟩, Hq0, Hq1, Hq2, Hq3, Hh0⟩, HW, Hk⟩
  obtain rfl := harg1.eq_unread hf0; obtain rfl := harg3.eq_unread hf1; obtain rfl := harg4.eq_unread hf2
  sl_exec (disch := first | sl_exact hc0)
  sl_step
  have hw : ∀ f, arg7.view.read (Elt F) (arg7.view.writes (Elt F) f (first_step.sl.HS0_8 c arg8 fh0 fs1)) = Ring.wt 0 (hb.view.read (Elt F) fh0) := fun f => by
    refine Ring.read_pieces _ _ _ _ ?_ (View.cover_of_tiledL (first_step.sl.HS0_8 c arg8 fh0 fs1) S256x2048.size (by sl_kernel_rfl))
    intro p hp
    unfold first_step.sl.HS0_8 at hp
    simp only [List.mem_cons, List.not_mem_nil, or_false] at hp
    rcases hp with rfl | rfl | rfl | rfl | rfl | rfl | rfl | rfl
    all_goals
      intro x
      dsimp only [k0_pay1, k0_pay4, k0_pay5, k0_pay6, k0_pay7, k0_pay8, k0_pay9, k0_pay10, k0_pay11, k0_pay12, first_step.sl.v163, first_step.sl.v55, first_step.sl.v73, first_step.sl.v91, first_step.sl.v109, first_step.sl.v127, first_step.sl.v139, first_step.sl.v151, first_step.sl.r, first_step.sl.r_1]
      rw [Idealize.ShloMosaic.shapeCast_self]
      refine Ring.piece arg8 hb 0 _ _ _ (fun _ => rfl) squeezes_S1x256x2048_S256x2048 (by decide) (fun _ => rfl) _ _ _ _ fh0 ?_ x
      repeat rw [Ring.slot_other _ (by decide) _ _ (fun _ => rfl) (fun _ => rfl) squeezes_S1x256x2048_S256x2048 squeezes_S1x256x2048_S256x2048]
      exact View.read_write_univ _ _
  iapply Hk
  isplitr [HW]
  · isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [G1]
    · iexists _; isplitr
      swap; · iexact G1
      ipureintro
      rw [View.read_writes_full]
      unfold first_step.sl.v5 View.readCov madeR
      rw [View.readAt_full, View.readAt_full, View.readAt_full, hf0, hf1, hw]
    isplitl [G2]
    · iexists _; isplitr
      swap; · iexact G2
      ipureintro
      rw [View.read_writes_full]
      unfold first_step.sl.v5 View.readCov madeN
      rw [View.readAt_full, View.readAt_full, View.readAt_full, hf0, hf1, hw, View.readAt_eq_ld, hf2]
    isplitl [HS0]
    · iexists _; isplitr
      swap; · iexact HS0
      ipureintro; exact hw _
    isplitl [HS1]
    · iexists _; iexists _; isplitr
      swap; · iexact HS1
      ipureintro; rfl
    isplitl [Hq0]; · iexact Hq0
    isplitl [Hq1]; · iexact Hq1
    isplitl [Hq2]; · iexact Hq2
    isplitl [Hq3]; · iexact Hq3
    iexact Hh0
  iexists _; iexact HW

set_option maxHeartbeats 1000000 in
/-- Every later point uses the weights it finds. -/
theorem next_step (hc0 : ¬cond i) (xw : Vec F S2048x2048 .bf16) (W : Waits sig Unit) (K : PUnit → sProp 𝕄) :
    iprop(held c arg1 arg3 arg4 arg8 x0 x1 x2 fh0 iprop(∃ d, owns (c : Thread nD τ) arg5 fullShare d) iprop(∃ d, owns (c : Thread nD τ) arg6 fullShare d)
        (owns (c : Thread nD τ) arg7 fullShare xw) ∗ owes (c : Thread nD τ) 0 W
      ∗ (iprop(held c arg1 arg3 arg4 arg8 x0 x1 x2 fh0 (owns (c : Thread nD τ) arg5 fullShare (madeR x0 x1 x2 xw)) (owns (c : Thread nD τ) arg6 fullShare (madeN x0 x1 x2 xw))
          (owns (c : Thread nD τ) arg7 fullShare xw) ∗ (∃ W', owes (c : Thread nD τ) 0 W')) -∗ K ⟨⟩))
    ⊢ wp frame (wpE (defs₀ (F := F)) Variants.none c none) Set.univ (cc0_outproj i arg1 harg1 (Memref.whole main_arg1) (Memref.isWhole_whole _) arg3 harg3 arg4 harg4 arg5 harg5 arg6 harg6 arg7 harg7 arg8 harg8 cc0_scratch2) K := by
  simp only [cc0_outproj_eq_skeleton]; unfold cc0_outproj_skel
  unfold held owns
  iintro ⟨⟨⟨%f0, %hf0, H0⟩, ⟨%f1, %hf1, H1⟩, ⟨%f2, %hf2, H2⟩, ⟨%d1, %g1, -, G1⟩, ⟨%d2, %g2, -, G2⟩, ⟨%fs0, %hs0, HS0⟩, HS1, Hq0, Hq1, Hq2, Hq3, Hh0⟩, HW, Hk⟩
  obtain rfl := harg1.eq_unread hf0; obtain rfl := harg3.eq_unread hf1; obtain rfl := harg4.eq_unread hf2; obtain rfl := harg7.eq_unread hs0
  sl_exec (disch := first | sl_exact hc0)
  sl_step
  iapply Hk
  isplitr [HW]
  · isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [G1]
    · iexists _; isplitr
      swap; · iexact G1
      ipureintro
      rw [View.read_writes_full]
      unfold madeR
      rw [View.readAt_full, View.readAt_full, View.readAt_full, hf0, hf1, hs0]
    isplitl [G2]
    · iexists _; isplitr
      swap; · iexact G2
      ipureintro
      rw [View.read_writes_full]
      unfold madeN
      rw [View.readAt_full, View.readAt_full, View.readAt_full, hf0, hf1, hs0, View.readAt_eq_ld, hf2]
    isplitl [HS0]
    · iexists _; isplitr
      swap; · iexact HS0
      ipureintro; exact harg7.read_unread _
    isplitl [HS1]; · iexact HS1
    isplitl [Hq0]; · iexact Hq0
    isplitl [Hq1]; · iexact Hq1
    isplitl [Hq2]; · iexact Hq2
    isplitl [Hq3]; · iexact Hq3
    iexact Hh0
  iexists _; iexact HW

end body

/-! ## The launch: the body's own counters and the weights left in HBM -/

abbrev sc0 : Memref sig .tc .vmem S2048x2048 .bf16 := Memref.whole cc0_scratch0
abbrev sc1 : Memref sig .tc .vmem S4x256x2048 .f32 := Memref.whole cc0_scratch1
abbrev osem : Fin 4 → SemLoc sig := fun j => (![SemLoc.dma 9, SemLoc.dma 10, SemLoc.dma 11, SemLoc.dma 12] : Fin 4 → SemLoc sig) j
theorem ownSemFacts : Pipeline.OwnSemFacts spec0 osem := by decide
def H0 : Finset (Ref sig .tc) := {main_arg1}
theorem H0_sub : H0 ⊆ Pipeline.restRefs sig spec0 := by decide

/-- The weights as the region finds them. -/
abbrev wts (c : Dev nD) : Vec F S2x2048x2048 .f32 := hb.view.read (Elt F) (V m c main_arg1)

/-- Counters, register and weights, as every point finds and leaves them. -/
def rest (c : Dev nD) : sProp 𝕄 :=
  iprop((∃ r, prngReg c r) ∗ iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) ∗ iprop(hbPt c hb (V m c main_arg1)))

theorem PhiD_eq (c : Dev nD) :
    (Pipeline.ΦD osem spec0 H0 (V m) c : sProp 𝕄)
      = iprop(iprop((∃ d, owns (c : Thread nD τ) sc0 fullShare d) ∗ (∃ d, owns (c : Thread nD τ) sc1 fullShare d)) ∗ rest m c) := by
  have h1 : (Pipeline.ownSems0 (Ix := Unit) (Name := ℕ) (U := Pipeline.UD sig nD τ) (Lvl := ℕ) (Val := Elt F) (τ := τ) osem c : sProp 𝕄)
      = iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) := by
    rw [Pipeline.ownSems0_eq_of_list c osem [0, 1, 2, 3] (by decide) (by decide)]; rfl
  have h2 : (bigSep H0 (fun b => ((c : Thread nD τ).loc b) ↦{fullShare} V m c b) : sProp 𝕄) = iprop(hbPt c hb (V m c main_arg1)) := by
    rw [BI.bigSep_eq_bigSepL_of_eq [main_arg1] (by decide) (by decide)]; rfl
  unfold rest
  rw [Pipeline.ΦD_eq, scopedRest0_eq, h1, h2]; simp only [sc0, sc1, owns_whole]; try rfl

/-- Before a point: at the first the launch's invariant, later the weights filled in. -/
def Phi (c : Dev nD) : ℕ → sProp 𝕄
  | 0 => Pipeline.ΦD osem spec0 H0 (V m) c
  | _ + 1 => iprop(iprop(owns (c : Thread nD τ) sc0 fullShare (Ring.wt 0 (wts m c)) ∗ (∃ d, owns (c : Thread nD τ) sc1 fullShare d)) ∗ rest m c)

theorem Phi_pos (c : Dev nD) (n : ℕ) (h : n ≠ 0) :
    Phi m c n = iprop(iprop(owns (c : Thread nD τ) sc0 fullShare (Ring.wt 0 (wts m c)) ∗ (∃ d, owns (c : Thread nD τ) sc1 fullShare d)) ∗ rest m c) := by
  cases n with
  | zero => exact absurd rfl h
  | succ n => rfl

theorem cond_iff : ∀ t : Fin cfg0.N, cond (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    simp only [cond, e0]
    word_cmp
   : ∀ t : Fin grid0.N, cond (grid0.coords t) ↔ t.val = 0)

/-- The proof data: inputs stay, the output's buffer is the block made. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => madeR (iblk m c 0 t) (iblk m c 1 t) (iblk m c 2 t) (Ring.wt 0 (wts m c))
    | ⟨4, _⟩ => madeN (iblk m c 0 t) (iblk m c 1 t) (iblk m c 2 t) (Ring.wt 0 (wts m c))
  Φ t := Phi m c t.val
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = madeR (iblk m c 0 t) (iblk m c 1 t) (iblk m c 2 t) (Ring.wt 0 (wts m c)) := by dsimp only [dats]
theorem after4 (c : Dev nD) (t : Fin cfg0.N) : (dats m 0 c).after 4 t = madeN (iblk m c 0 t) (iblk m c 1 t) (iblk m c 2 t) (Ring.wt 0 (wts m c)) := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-- The launch's facts with any user algebra: the kit states them at the one without counters of the body's own. -/
theorem main_prefix (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 1600000 in
/-- The library's body obligation, at every point. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  refine triple_restated (P := iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))))
    (Q := fun _ => iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))) ?_ rfl .rfl fun _ => .rfl
  unfold bodyAt0
  simp only [before0, before1, before2, after0, after1, after2, after3, after4]
  rw [show (dats m 0 c).Φ t.succ = Phi m c (t.val + 1) from rfl, show (dats m 0 c).Φ t.castSucc = Phi m c t.val from rfl,
    Phi_pos m c (t.val + 1) (Nat.succ_ne_zero _)]
  unfold Dat.owesAt Pipeline.owesWithin
  rw [show (dats m 0 c).owed t.castSucc = 0 from rfl, show (dats m 0 c).owed t.succ = 0 from rfl]
  by_cases hz : t.val = 0
  · rw [hz, show Phi m c 0 = Pipeline.ΦD osem spec0 H0 (V m) c from rfl, PhiD_eq]
    unfold rest
    iintro ⟨⟨⟨HS0, HS1⟩, Hg, ⟨Hq0, Hq1, Hq2, Hq3⟩, Hh0⟩, ⟨%W, -, HW⟩, ⟨%d0, H0⟩, ⟨%d1, H1⟩, ⟨%d2, H2⟩, ⟨%d3, H3⟩, ⟨%d4, H4⟩⟩
    iapply (first_step c (grid0.coords t) _ _ _ _ _ _ _ _ _ _ _ _ _ _ (iblk m c 0 t) (iblk m c 1 t) (iblk m c 2 t) (V m c main_arg1) ((cond_iff t).mpr hz) W _)
    unfold held
    isplitl [H0 H1 H2 H3 H4 HS0 HS1 Hq0 Hq1 Hq2 Hq3 Hh0]
    · isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      isplitl [Hq0]; · iexact Hq0
      isplitl [Hq1]; · iexact Hq1
      isplitl [Hq2]; · iexact Hq2
      isplitl [Hq3]; · iexact Hq3
      iexact Hh0
    isplitl [HW]; · iexact HW
    iintro ⟨⟨H0, H1, H2, H3, H4, HS0, HS1, Hq0, Hq1, Hq2, Hq3, Hh0⟩, ⟨%W', HW'⟩⟩
    isplitl [HS0 HS1 Hg Hq0 Hq1 Hq2 Hq3 Hh0]
    · isplitl [HS0 HS1]
      · isplitl [HS0]; · iexact HS0
        iexact HS1
      isplitl [Hg]; · iexact Hg
      isplitl [Hq0 Hq1 Hq2 Hq3]
      · isplitl [Hq0]; · iexact Hq0
        isplitl [Hq1]; · iexact Hq1
        isplitl [Hq2]; · iexact Hq2
        iexact Hq3
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    iexact H4
  · rw [Phi_pos m c t.val hz]
    unfold rest
    iintro ⟨⟨⟨HS0, HS1⟩, Hg, ⟨Hq0, Hq1, Hq2, Hq3⟩, Hh0⟩, ⟨%W, -, HW⟩, ⟨%d0, H0⟩, ⟨%d1, H1⟩, ⟨%d2, H2⟩, ⟨%d3, H3⟩, ⟨%d4, H4⟩⟩
    iapply (next_step c (grid0.coords t) _ _ _ _ _ _ _ _ _ _ _ _ _ _ (iblk m c 0 t) (iblk m c 1 t) (iblk m c 2 t) (V m c main_arg1) (fun h => hz ((cond_iff t).mp h)) (Ring.wt 0 (wts m c)) W _)
    unfold held
    isplitl [H0 H1 H2 H3 H4 HS0 HS1 Hq0 Hq1 Hq2 Hq3 Hh0]
    · isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      isplitl [Hq0]; · iexact Hq0
      isplitl [Hq1]; · iexact Hq1
      isplitl [Hq2]; · iexact Hq2
      isplitl [Hq3]; · iexact Hq3
      iexact Hh0
    isplitl [HW]; · iexact HW
    iintro ⟨⟨H0, H1, H2, H3, H4, HS0, HS1, Hq0, Hq1, Hq2, Hq3, Hh0⟩, ⟨%W', HW'⟩⟩
    isplitl [HS0 HS1 Hg Hq0 Hq1 Hq2 Hq3 Hh0]
    · isplitl [HS0 HS1]
      · isplitl [HS0]; · iexact HS0
        iexact HS1
      isplitl [Hg]; · iexact Hg
      isplitl [Hq0 Hq1 Hq2 Hq3]
      · isplitl [Hq0]; · iexact Hq0
        isplitl [Hq1]; · iexact Hq1
        isplitl [Hq2]; · iexact Hq2
        iexact Hq3
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    iexact H4

theorem enters (c : Dev nD) : Pipeline.ΦD osem spec0 H0 (V m) c ⊢ (dats m 0 c).Φ 0 := by
  rw [show (dats m 0 c).Φ 0 = Pipeline.ΦD osem spec0 H0 (V m) c from rfl]

theorem leaves (c : Dev nD) : (dats m 0 c).Φ (Fin.last cfg0.N) ⊢ Pipeline.ΦD osem spec0 H0 (V m) c := by
  rw [show (dats m 0 c).Φ (Fin.last cfg0.N) = Phi m c cfg0.N from rfl, Phi_pos m c _ (by have : cfg0.N = 16 := N_0; omega), PhiD_eq]
  iintro ⟨⟨HS0, HS1⟩, Hr⟩
  isplitl [HS0 HS1]
  · isplitl [HS0]
    · iexists _; iexact HS0
    iexact HS1
  iexact Hr

/-! ## The run and the frame -/

set_option backward.isDefEq.respectTransparency.types false in
/-- Every fair execution ends, with the arrays as the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem defs₀ Variants.none ownSemFacts H0 H0_sub m ρ main
    (hbody := fun c => (body_obligation m c).loose) (hshare := fun c => (dats m 0 c).share_full fun _ => rfl)
    (howed := fun _ _ => rfl) (V := V m) (hmain := main_prefix m Variants.none) (hA := A_eq m)
    (hin := enters m) (hout := leaves m)

/-- The frame, for any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and ((θ_run defs _ _).mono (fun _ h c => ⟨((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).1 1).trans (((dats m 0 c).arrAt_in 1 rfl _).trans ((A_eq m c 1).trans (V_main_arg2 m c))),
      ((h.1 c).2 main_arg3 (Pipeline.mem_restRefs_of main_arg3 (by decide) (by decide))).trans (V_main_arg3 m c)⟩) (run_main_quiescent m ρ))
    ((θ_run defs _ _).mono (fun _ h => h.2) (run_main_quiescent m ρ))

end Cert.KernelOddIdeal.Run

end
-- ==== Proof.Odd.lean ====
/-
  The value of an odd layer's output projection: the new residual is the residual and the projection, and the normed array is,
  row by row, the new residual over the root of the row's mean square, times the norm's weights.
-/
module

public import proofs.«01_k».proof.Proof.Norm
public import proofs.«01_k».proof.Proof.OddRun
public import proofs.«01_k».proof.Proof.Gen.KernelOdd
public import proofs.«01_k».proof.Proof.Gen.ReferenceOddIdeal.Run
public import proofs.«01_k».proof.Proof.Gen.ReferenceOddIdeal.Read
public import proofs.«01_k».proof.Defs

@[expose] public section

noncomputable section

open scoped BigOperators
open Idealize.ShloMosaic Idealize.ShloMosaic.TcCoe Idealize.SL.Sem Idealize.ShloMosaic.ValueIdx
open Idealize.ShloMosaic.Pipeline (Dat)
open Cert.Lin Cert.Norm

namespace Cert.KernelOddIdeal.Val

open Cert.KernelOddIdeal Cert.KernelOddIdeal.Gen Cert.KernelOddIdeal.Run

variable (m : (ℓ : Loc nD τ sig) → Buf (Elt Ideal) ℓ) (ρ : Dev nD → PrngReg)

/-- The mixer's output as launched. -/
abbrev Y (c : Dev nD) : FVec Ideal S8192x2048 .bf16 := m ((c : Thread nD τ).loc main_arg0)
/-- The weight stack as launched. -/
abbrev W (c : Dev nD) : FVec Ideal S2x2048x2048 .f32 := m ((c : Thread nD τ).loc main_arg1)
/-- The residual as launched. -/
abbrev R (c : Dev nD) : FVec Ideal S8192x2048 .f32 := m ((c : Thread nD τ).loc main_arg2)
/-- The norm's weights as launched. -/
abbrev N (c : Dev nD) : FVec Ideal S2048 .f32 := m ((c : Thread nD τ).loc main_arg3)

/-- The new residual, at natural coordinates. -/
def res (c : Dev nD) (t n : ℕ) : EReal := at2 (R m c) t n + lin (Y m c) (W m c) 0 t n

/-- The residual the call leaves. -/
def G (c : Dev nD) : FVec Ideal S8192x2048 .f32 := fun i => res m c (i 0).val (i 1).val
/-- The normed array the call leaves. -/
def G' (c : Dev nD) : FVec Ideal S8192x2048 .bf16 := fun i => nrm (res m c (i 0).val) (at1 (N m c)) (i 1).val

/-- Where the windows' blocks begin. -/
theorem idx : ∀ t : Fin cfg0.N, (win0_2.index t 0 = 0 ∧ win0_2.index t 1 = 0)
    ∧ (win0_0.index t 0 = t.val ∧ win0_0.index t 1 = 0)
    ∧ (win0_1.index t 0 = t.val ∧ win0_1.index t 1 = 0)
    ∧ (win0_3.index t 0 = t.val ∧ win0_3.index t 1 = 0)
    ∧ (win0_4.index t 0 = t.val ∧ win0_4.index t 1 = 0) :=
  (by decide +kernel : ∀ t : Fin grid0.N, (win0_2.index t 0 = 0 ∧ win0_2.index t 1 = 0)
    ∧ (win0_0.index t 0 = t.val ∧ win0_0.index t 1 = 0)
    ∧ (win0_1.index t 0 = t.val ∧ win0_1.index t 1 = 0)
    ∧ (win0_3.index t 0 = t.val ∧ win0_3.index t 1 = 0)
    ∧ (win0_4.index t 0 = t.val ∧ win0_4.index t 1 = 0))

/-- The mixer's block at a point. -/
theorem blk0 (c : Dev nD) (t : Fin cfg0.N) (y : S512x2048.Idx) :
    (iblk m c 0 t : FVec Ideal S512x2048 .bf16) y = at2 (Y m c) (t.val * 512 + (y 0).val) (y 1).val := by
  have hi := (idx t).2.1
  rw [← at2_eq (Y m c) ((win0_0.rect t).emb y)
    (by rw [win0_0.rect_emb_val t y 0, hi.1]; rfl) (by rw [win0_0.rect_emb_val t y 1, hi.2]; show 0 * 2048 + (y 1).val = _; omega)]
  unfold iblk
  rw [View.read_apply]
  show V m c main_arg0 _ = _
  rw [V_main_arg0]
  rfl

/-- The residual's block at a point. -/
theorem blk1 (c : Dev nD) (t : Fin cfg0.N) (y : S512x2048.Idx) :
    (iblk m c 1 t : FVec Ideal S512x2048 .f32) y = at2 (R m c) (t.val * 512 + (y 0).val) (y 1).val := by
  have hi := (idx t).2.2.1
  rw [← at2_eq (R m c) ((win0_1.rect t).emb y)
    (by rw [win0_1.rect_emb_val t y 0, hi.1]; rfl) (by rw [win0_1.rect_emb_val t y 1, hi.2]; show 0 * 2048 + (y 1).val = _; omega)]
  unfold iblk
  rw [View.read_apply]
  show V m c main_arg2 _ = _
  rw [V_main_arg2]
  rfl

/-- The norm weights' row at a point. -/
theorem blk2 (c : Dev nD) (t : Fin cfg0.N) (y : S8x2048.Idx) (hy : (y 0).val = 0) :
    (iblk m c 2 t : FVec Ideal S8x2048 .f32) y = at1 (N m c) (y 1).val := by
  have hi := (idx t).1
  have e0 : ((win0_2.rect t).emb y 0).val = 0 := by
    rw [win0_2.rect_emb_val t y 0, hi.1]; show 0 * 8 + (y 0).val = 0; omega
  have e1 : ((win0_2.rect t).emb y 1).val = (y 1).val := by
    rw [win0_2.rect_emb_val t y 1, hi.2]; show 0 * 2048 + (y 1).val = _; omega
  have hV : (V m c main_v2 : FVec Ideal S8x2048 .f32)
      = concatenate S8x2048 0 [⟨S1x2048, broadcastInDim S1x2048 ![1] bcast_S2048_S1x2048_1 (N m c)⟩,
          ⟨S7x2048, broadcastInDim S7x2048 ![] bcast_S_S7x2048 (constant (F := Ideal) S_ .f32 0x00000000#32)⟩]
          concatenates_S1x2048_S7x2048_S8x2048_d0 := by
    show StableHlo.after hostOps0 (fun b => m (c, b)) (Proc.devRef .tc main_v2) = _
    after_results <;> rfl
  unfold iblk
  rw [View.read_apply]
  show V m c main_v2 _ = _
  rw [hV]
  refine (rows8_zero _ _ concatenates_S1x2048_S7x2048_S8x2048_d0 ((win0_2.rect t).emb y) e0).trans ?_
  refine (row_apply _ bcast_S2048_S1x2048_1 _).trans ?_
  exact at1_eq (N m c) _ e1

/-- The weights a point multiplies by. -/
theorem wts_eq (c : Dev nD) (y : S2048x2048.Idx) :
    Ring.wt (F := Ideal) 0 (wts m c) y = at3 (W m c) 0 (y 0).val (y 1).val := by
  have e : (wts m c : FVec Ideal S2x2048x2048 .f32) = W m c := by
    unfold wts
    rw [V_main_arg1]
    rfl
  rw [e]
  exact at3_eq (W m c) (ix3 0 (y 0 : Fin 2048) (y 1 : Fin 2048)) rfl rfl rfl

/-- The new residual's block at a point. -/
theorem res_blk (c : Dev nD) (t : Fin cfg0.N) (y : S512x2048.Idx) :
    madeR (F := Ideal) (iblk m c 0 t) (iblk m c 1 t) (iblk m c 2 t) (Ring.wt 0 (wts m c)) y = res m c (t.val * 512 + (y 0).val) (y 1).val := by
  unfold madeR k0_pay2
  refine congrArg₂ (· + ·) (blk1 m c t y) ((matmul_p (φ₁ := .bf16) (φ₂ := .bf16) _ _ y).trans ?_)
  refine Finset.sum_congr rfl fun k _ => congrArg₂ (· * ·) ?_ ?_
  · exact blk0 m c t (ix2 (y 0 : Fin 512) k)
  · exact wts_eq m c (ix2 k (y 1 : Fin 2048))

/-- The normed block at a point. -/
theorem nrm_blk (c : Dev nD) (t : Fin cfg0.N) (y : S512x2048.Idx) :
    madeN (F := Ideal) (iblk m c 0 t) (iblk m c 1 t) (iblk m c 2 t) (Ring.wt 0 (wts m c)) y
      = nrm (res m c (t.val * 512 + (y 0).val)) (at1 (N m c)) (y 1).val := by
  unfold madeN k0_pay3
  exact rows_apply (madeR (F := Ideal) (iblk m c 0 t) (iblk m c 1 t) (iblk m c 2 t) (Ring.wt 0 (wts m c)))
    _ reduces_S512x2048_S512 (.inl rfl) rfl shapeCasts_S512_S512x1 broadcasts_S512x1_S512x2048
    shapeCasts_S1x2048_S1x2048 broadcasts_S1x2048_S512x2048 y _ _
    (fun k => res_blk m c t (ix2 (y 0 : Fin 512) k)) (blk2 m c t (row0.emb (ix2 0 (y 1 : Fin 2048))) rfl |>.trans (congrArg _ (by
      show 0 + 1 * (y 1).val = (y 1).val; omega)))

/-- What a point writes back is its block of the residual. -/
theorem flushed3 (c : Dev nD) (t : Fin cfg0.N) :
    (dats m 0 c).flushed 3 t = ((cfg0.win 3).blk t).view.read (Elt Ideal) (G m c) := by
  show (cfg0.win 3).cut (grid0.coords t) ((dats m 0 c).after 3 t) = _
  rw [after3]
  funext y
  have hi := (idx t).2.2.2.1
  refine (res_blk m c t y).trans ?_
  rw [View.read_apply]
  have e0 : ((win0_3.rect t).emb y 0).val = t.val * 512 + (y 0).val := by
    rw [win0_3.rect_emb_val t y 0, hi.1]; rfl
  have e1 : ((win0_3.rect t).emb y 1).val = (y 1).val := by
    rw [win0_3.rect_emb_val t y 1, hi.2]; show 0 * 2048 + (y 1).val = _; omega
  show _ = res m c ((win0_3.rect t).emb y 0).val ((win0_3.rect t).emb y 1).val
  rw [e0, e1]

/-- The blocks tile the residual. -/
theorem final3 (c : Dev nD) : (dats m 0 c).arrAt 3 cfg0.N = G m c :=
  (dats m 0 c).arrAt_eq_of_cover 3 (G m c) (fun t _ => flushed3 m c t) fun i => by
    have h0 : (i 0 : Nat) < 8192 := (i 0).isLt
    have h1 : (i 1 : Nat) < 2048 := (i 1).isLt
    have hN : cfg0.N = 16 := N_0
    refine ⟨⟨(i 0 : Nat) / 512, by rw [hN]; omega⟩, flush0_3 _, ?_⟩
    generalize hT : (⟨(i 0 : Nat) / 512, _⟩ : Fin cfg0.N) = t
    have ht : t.val = (i 0 : Nat) / 512 := by rw [← hT]
    have hi := (idx t).2.2.2.1
    show i ∈ ((View.whole main_v3_0).slice (win0_3.rect t)).set
    rw [View.set_slice_whole, Rect.mem_set_unit]
    intro a
    match a with
    | ⟨0, _⟩ =>
      show win0_3.index t 0 * 512 ≤ (i 0 : Nat) ∧ (i 0 : Nat) < win0_3.index t 0 * 512 + 512
      rw [hi.1]; omega
    | ⟨1, _⟩ =>
      show win0_3.index t 1 * 2048 ≤ (i 1 : Nat) ∧ (i 1 : Nat) < win0_3.index t 1 * 2048 + 2048
      rw [hi.2]; omega

/-- What a point writes back is its block of the normed array. -/
theorem flushed4 (c : Dev nD) (t : Fin cfg0.N) :
    (dats m 0 c).flushed 4 t = ((cfg0.win 4).blk t).view.read (Elt Ideal) (G' m c) := by
  show (cfg0.win 4).cut (grid0.coords t) ((dats m 0 c).after 4 t) = _
  rw [after4]
  funext y
  have hi := (idx t).2.2.2.2
  refine (nrm_blk m c t y).trans ?_
  rw [View.read_apply]
  have e0 : ((win0_4.rect t).emb y 0).val = t.val * 512 + (y 0).val := by
    rw [win0_4.rect_emb_val t y 0, hi.1]; rfl
  have e1 : ((win0_4.rect t).emb y 1).val = (y 1).val := by
    rw [win0_4.rect_emb_val t y 1, hi.2]; show 0 * 2048 + (y 1).val = _; omega
  show _ = nrm (res m c ((win0_4.rect t).emb y 0).val) (at1 (N m c)) ((win0_4.rect t).emb y 1).val
  rw [e0, e1]

/-- The blocks tile the normed array. -/
theorem final4 (c : Dev nD) : (dats m 0 c).arrAt 4 cfg0.N = G' m c :=
  (dats m 0 c).arrAt_eq_of_cover 4 (G' m c) (fun t _ => flushed4 m c t) fun i => by
    have h0 : (i 0 : Nat) < 8192 := (i 0).isLt
    have h1 : (i 1 : Nat) < 2048 := (i 1).isLt
    have hN : cfg0.N = 16 := N_0
    refine ⟨⟨(i 0 : Nat) / 512, by rw [hN]; omega⟩, flush0_4 _, ?_⟩
    generalize hT : (⟨(i 0 : Nat) / 512, _⟩ : Fin cfg0.N) = t
    have ht : t.val = (i 0 : Nat) / 512 := by rw [← hT]
    have hi := (idx t).2.2.2.2
    show i ∈ ((View.whole main_v3_1).slice (win0_4.rect t)).set
    rw [View.set_slice_whole, Rect.mem_set_unit]
    intro a
    match a with
    | ⟨0, _⟩ =>
      show win0_4.index t 0 * 512 ≤ (i 0 : Nat) ∧ (i 0 : Nat) < win0_4.index t 0 * 512 + 512
      rw [hi.1]; omega
    | ⟨1, _⟩ =>
      show win0_4.index t 1 * 2048 ≤ (i 1 : Nat) ∧ (i 1 : Nat) < win0_4.index t 1 * 2048 + 2048
      rw [hi.2]; omega

end Cert.KernelOddIdeal.Val

namespace Cert.ReferenceOddIdeal.Val

open Cert.ReferenceOddIdeal Cert.ReferenceOddIdeal.Gen Cert.ReferenceOddIdeal.Read

/-- The reference's new residual, entry by entry. -/
theorem res_eq (x : FVec Ideal S8192x2048 .bf16) (w : FVec Ideal S2x2048x2048 .f32) (r : FVec Ideal S8192x2048 .f32) (i : S8192x2048.Idx) :
    val_main_v4 (F := Ideal) x w r i = at2 r (i 0).val (i 1).val + lin x w 0 (i 0).val (i 1).val := by
  have hw : ∀ k : Fin 2048, val_main_v2 (F := Ideal) w (ridx_main_v3 i k) = at3 w 0 k.val (i 1).val := fun k => by
    rw [val_main_v2_apply, val_main_v1_apply]
    have h1 : (i 1 : Nat) < 2048 := (i 1).isLt
    have hk := k.isLt
    refine at3_eq w _ rfl ?_ ?_
    · show (k.val * 2048 + (i 1).val) / 2048 % 2048 = k.val; omega
    · show (k.val * 2048 + (i 1).val) % 2048 = _; omega
  rw [val_main_v4_apply]
  refine congrArg₂ (· + ·) (at2_eq r i rfl rfl) ?_
  rw [val_main_v3_apply]
  unfold lin
  refine Finset.sum_congr rfl fun k _ => congrArg₂ (· * ·) ?_ (hw k)
  rw [val_main_v0_apply]
  exact at2_eq x _ rfl rfl

/-- The reference's normed array, entry by entry. -/
theorem val_eq (x : FVec Ideal S8192x2048 .bf16) (w : FVec Ideal S2x2048x2048 .f32) (r : FVec Ideal S8192x2048 .f32) (nw : FVec Ideal S2048 .f32) (i : S8192x2048.Idx) :
    val_main_v18 (F := Ideal) x w r nw i = nrm (fun n => at2 r (i 0).val n + lin x w 0 (i 0).val n) (at1 nw) (i 1).val := by
  have hs : val_main_v6 (F := Ideal) x w r (idx_main_v7 (idx_main_v13 i)) = ∑ k : Fin 2048,
      (at2 r (i 0).val k.val + lin x w 0 (i 0).val k.val) * (at2 r (i 0).val k.val + lin x w 0 (i 0).val k.val) := by
    rw [val_main_v6_apply]
    refine (congrArg (· + _) (Ideal.ofBits_zero_f32 : val_main_cst (F := Ideal) _ = 0)).trans ((zero_add _).trans ?_)
    refine Finset.sum_congr rfl fun k _ => ?_
    rw [val_main_v5_apply, res_eq]
    rfl
  rw [val_main_v18_apply, val_main_v17_apply, val_main_v14_apply, val_main_v13_apply, val_main_v12_apply, val_main_v11_apply, val_main_v9_apply,
    val_main_v7_apply, val_main_v8_apply, val_main_v10_apply, val_main_v16_apply, val_main_v15_apply, hs, res_eq]
  unfold nrm
  refine congrArg₂ (· * ·) rfl ?_
  exact at1_eq nw _ rfl

end Cert.ReferenceOddIdeal.Val

namespace Cert.Val

/-- The compiled program's body table is the ideal one's. -/
theorem odd_rows : Cert.KernelOdd.defs₀ (F := Bits) = Cert.KernelOddIdeal.defs₀ (F := Bits) := by
  unfold Cert.KernelOdd.defs₀ Cert.KernelOddIdeal.defs₀
  refine congrArg Defs.onTc (funext fun l => funext fun a => ?_)
  obtain ⟨n, h⟩ := l
  cases n with
  | zero => rfl
  | succ n => exact absurd h (Nat.not_lt.2 (Nat.le_add_left _ _))
theorem odd_defs : Cert.KernelOdd.defs (F := Bits) = Cert.KernelOddIdeal.defs (F := Bits) := by
  unfold Cert.KernelOdd.defs Cert.KernelOddIdeal.defs
  rw [odd_rows]
  rfl

/-- The run of an odd layer's output projection as compiled. -/
theorem odd_frame_bits : Cert.quiescent_KernelOdd := fun m ρ _ => by
  rw [odd_defs]
  exact KernelOddIdeal.Run.frame (F := Bits) m ρ

/-- The run of an odd layer's output projection over the reals. -/
theorem odd_frame : Cert.quiescent_KernelOddIdeal := fun m ρ _ => KernelOddIdeal.Run.frame (F := Ideal) m ρ

/-- An odd layer's output projection, residual and norm. -/
theorem odd : Cert.algebraic_KernelOddIdeal_ReferenceOddIdeal := by
  intro m g m' g' _ hag
  refine ⟨fun c => KernelOddIdeal.Val.G m c, fun c => KernelOddIdeal.Val.G' m c, ?_, ?_⟩
  · exact (θ_run Cert.KernelOddIdeal.defs _ _).mono
      (fun r h c => ⟨((h.1.1 c).1 3).trans (KernelOddIdeal.Val.final3 m c), ((h.1.1 c).1 4).trans (KernelOddIdeal.Val.final4 m c), h.2.1 c⟩)
      (θ_run_and (KernelOddIdeal.Run.run_main_quiescent (F := Ideal) m g) (KernelOddIdeal.Run.frame (F := Ideal) m g))
  · refine (θ_run Cert.ReferenceOddIdeal.defs _ _).mono (fun r h c => ⟨(h c).1.trans ?_, (h c).2.1.trans ?_, (h c).2.2⟩)
      (ReferenceOddIdeal.Value.run (F := Ideal) m' g')
    · rw [(hag c).1, (hag c).2.1, (hag c).2.2.1]
      refine (ReferenceOddIdeal.Read.val_main_v4_eq (F := Ideal) _ _ _).trans ?_
      funext i
      exact ReferenceOddIdeal.Val.res_eq _ _ _ i
    · rw [(hag c).1, (hag c).2.1, (hag c).2.2.1, (hag c).2.2.2]
      refine (ReferenceOddIdeal.Read.val_main_v18_eq (F := Ideal) _ _ _ _).trans ?_
      funext i
      exact ReferenceOddIdeal.Val.val_eq _ _ _ _ i

end Cert.Val

end
-- ==== Proof.LaterSsm.lean ====
/-
  The value of the later even layer's plain projection: each grid point stores its block of `h @ w[1]`, columns 8384 to 13503,
  and the blocks tile the array.
-/
module

public import proofs.«01_k».proof.Proof.Lin
public import proofs.«01_k».proof.Proof.Gen.KernelLaterSsmIdeal.Value
public import proofs.«01_k».proof.Proof.Gen.ReferenceLaterSsmIdeal.Read
public import proofs.«01_k».proof.Defs

@[expose] public section

noncomputable section

open scoped BigOperators
open Idealize.ShloMosaic Idealize.ShloMosaic.TcCoe Idealize.SL.Sem Idealize.ShloMosaic.ValueIdx
open Idealize.ShloMosaic.Pipeline (Dat)
open Cert.Lin

namespace Cert.KernelLaterSsmIdeal.Val

open Cert.KernelLaterSsmIdeal Cert.KernelLaterSsmIdeal.Gen

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The token array as launched. -/
abbrev X (c : Dev nD) : FVec Ideal S8192x2048 .bf16 := m ((c : Thread nD τ).loc main_arg0)
/-- The weight stack as launched. -/
abbrev W (c : Dev nD) : FVec Ideal S2x2048x13536 .f32 := m ((c : Thread nD τ).loc main_arg1)

/-- The array the call leaves. -/
def G (c : Dev nD) : FVec Ideal S8192x5120 .f32 := fun i => lin (X m c) (W m c) 1 (i 0).val ((i 1).val + 8384)

/-- Where the windows' blocks begin. -/
theorem idx : ∀ t : Fin cfg0.N, (win0_0.index t 0 = t.val / 10 ∧ win0_0.index t 1 = 0)
    ∧ (win0_1.index t 0 = 1 ∧ win0_1.index t 1 = t.val % 10 * 512 + 8384 ∧ win0_1.index t 2 = 0)
    ∧ win0_2.index t 0 = t.val / 10 ∧ win0_2.index t 1 = t.val % 10 :=
  (by decide +kernel : ∀ t : Fin grid0.N, (win0_0.index t 0 = t.val / 10 ∧ win0_0.index t 1 = 0)
    ∧ (win0_1.index t 0 = 1 ∧ win0_1.index t 1 = t.val % 10 * 512 + 8384 ∧ win0_1.index t 2 = 0)
    ∧ win0_2.index t 0 = t.val / 10 ∧ win0_2.index t 1 = t.val % 10)

/-- The token block at a point. -/
theorem blk0 (c : Dev nD) (t : Fin cfg0.N) (y : S2048x2048.Idx) :
    (iblk m c 0 t : FVec Ideal S2048x2048 .bf16) y = at2 (X m c) (t.val / 10 * 2048 + (y 0).val) (y 1).val := by
  have hi := (idx t).1
  rw [← at2_eq (X m c) ((win0_0.rect t).emb y)
    (by rw [win0_0.rect_emb_val t y 0, hi.1]; rfl) (by rw [win0_0.rect_emb_val t y 1, hi.2]; show 0 * 2048 + (y 1).val = _; omega)]
  unfold iblk
  rw [View.read_apply]
  show V m c main_arg0 _ = _
  rw [V_main_arg0]
  rfl

/-- The weight block at a point. -/
theorem blk1 (c : Dev nD) (t : Fin cfg0.N) (y : S1x512x2048.Idx) :
    (iblk m c 1 t : FVec Ideal S1x512x2048 .f32) y = at3 (W m c) 1 (y 2).val (t.val % 10 * 512 + (y 1).val + 8384) := by
  have hi := (idx t).2.1
  have h0 : (y 0).val < 1 := (y 0).isLt
  have hV : (V m c main_v0 : FVec Ideal S2x13536x2048 .f32)
      = transpose S2x13536x2048 [0, 2, 1] (W m c) transposes_S2x2048x13536_S2x13536x2048_0_2_1 := by
    show StableHlo.after hostOps0 (fun b => m (c, b)) (Proc.devRef .tc main_v0) = _
    after_results <;> rfl
  rw [← transpose_at (W m c) transposes_S2x2048x13536_S2x13536x2048_0_2_1 ((win0_1.rect t).emb y)
    (by rw [win0_1.rect_emb_val_off t y 0, hi.1]; show 1 + (y 0).val = 1; omega)
    (by rw [win0_1.rect_emb_val_off t y 1, hi.2.1]; show t.val % 10 * 512 + 8384 + (y 1).val = _; omega)
    (by rw [win0_1.rect_emb_val_off t y 2, hi.2.2]; show 0 + (y 2).val = _; omega)]
  unfold iblk
  rw [View.read_apply]
  show V m c main_v0 _ = _
  rw [hV]
  rfl

/-- What the body stores, entry by entry. -/
theorem stored (v0 : FVec Ideal S1x512x2048 .f32) (v3 : FVec Ideal S2048x2048 .bf16) (y : S2048x512.Idx) :
    k0_pay1 (F := Ideal) v0 v3 y = ∑ k : Fin 2048, v3 (ix2 (y 0) k) * v0 (ix3 0 (y 1) k) := by
  unfold k0_pay1
  exact matmul_slab v3 v0 shapeCasts_S1x512x2048_S512x2048 bitsLt_bf16_f32 y

/-- What a point writes back is its block of the array. -/
theorem flushed (c : Dev nD) (t : Fin cfg0.N) (hf : (cfg0.win 2).flush t = true) :
    (dats m 0 c).flushed 2 t = ((cfg0.win 2).blk t).view.read (Elt Ideal) (G m c) := by
  rw [Value.flushed2]
  unfold out0_2
  rw [View.canon_unit_zero (S := S2048x512) hz2]
  funext y
  have hi := (idx t).2.2
  show k0_pay1 (F := Ideal) (View.ld (iblk m c 1 t) r0_0) (View.ld (iblk m c 0 t) r0_1) y = _
  rw [View.ld_unit_zero (S := S1x512x2048) hz3, View.ld_unit_zero (S := S2048x2048) hz2, View.read_apply]
  have e0 : ((win0_2.rect t).emb y 0).val = t.val / 10 * 2048 + (y 0).val := by
    rw [win0_2.rect_emb_val t y 0, hi.1]; rfl
  have e1 : ((win0_2.rect t).emb y 1).val = t.val % 10 * 512 + (y 1).val := by
    rw [win0_2.rect_emb_val t y 1, hi.2]; rfl
  refine (stored _ _ y).trans ?_
  show _ = lin (X m c) (W m c) 1 ((win0_2.rect t).emb y 0).val (((win0_2.rect t).emb y 1).val + 8384)
  rw [e0, e1]
  unfold lin
  exact Finset.sum_congr rfl fun k _ => congrArg₂ (· * ·) (blk0 m c t _) (blk1 m c t _)

/-- The blocks tile the array. -/
theorem final (c : Dev nD) : (dats m 0 c).arrAt 2 cfg0.N = G m c :=
  (dats m 0 c).arrAt_eq_of_cover 2 (G m c) (flushed m c) fun i => by
    have h0 : (i 0 : Nat) < 8192 := (i 0).isLt
    have h1 : (i 1 : Nat) < 5120 := (i 1).isLt
    have hN : cfg0.N = 40 := N_0
    refine ⟨⟨(i 0 : Nat) / 2048 * 10 + (i 1 : Nat) / 512, by rw [hN]; omega⟩, (by decide +kernel : ∀ t : Fin grid0.N, win0_2.flush t = true) _, ?_⟩
    generalize hT : (⟨(i 0 : Nat) / 2048 * 10 + (i 1 : Nat) / 512, _⟩ : Fin cfg0.N) = t
    have ht : t.val = (i 0 : Nat) / 2048 * 10 + (i 1 : Nat) / 512 := by rw [← hT]
    have hi := (idx t).2.2
    show i ∈ ((View.whole main_v1).slice (win0_2.rect t)).set
    rw [View.set_slice_whole, Rect.mem_set_unit]
    intro a
    match a with
    | ⟨0, _⟩ =>
      show win0_2.index t 0 * 2048 ≤ (i 0 : Nat) ∧ (i 0 : Nat) < win0_2.index t 0 * 2048 + 2048
      rw [hi.1]; omega
    | ⟨1, _⟩ =>
      show win0_2.index t 1 * 512 ≤ (i 1 : Nat) ∧ (i 1 : Nat) < win0_2.index t 1 * 512 + 512
      rw [hi.2]; omega

end Cert.KernelLaterSsmIdeal.Val

namespace Cert.ReferenceLaterSsmIdeal.Val

open Cert.ReferenceLaterSsmIdeal Cert.ReferenceLaterSsmIdeal.Gen Cert.ReferenceLaterSsmIdeal.Read

/-- The reference's result, entry by entry. -/
theorem val_eq (x : FVec Ideal S8192x2048 .bf16) (w : FVec Ideal S2x2048x13536 .f32) (i : S8192x5120.Idx) :
    val_main_v4 (F := Ideal) x w i = lin x w 1 (i 0).val ((i 1).val + 8384) := by
  rw [val_main_v4_apply, val_main_v3_apply]
  unfold lin
  refine Finset.sum_congr rfl fun k _ => congrArg₂ (· * ·) ?_ ?_
  · rw [val_main_v0_apply]
    exact at2_eq x _ rfl rfl
  · rw [val_main_v2_apply, val_main_v1_apply]
    have h1 : (i 1 : Nat) < 5120 := (i 1).isLt
    have hk := k.isLt
    refine at3_eq w _ rfl ?_ ?_
    · show (k.val * 13536 + (8384 + (i 1).val)) / 13536 % 2048 = k.val; omega
    · show (k.val * 13536 + (8384 + (i 1).val)) % 13536 = _; omega

end Cert.ReferenceLaterSsmIdeal.Val

namespace Cert.Val

/-- The later even layer's plain projection. -/
theorem later_ssm : Cert.algebraic_KernelLaterSsmIdeal_ReferenceLaterSsmIdeal := by
  intro m g m' g' _ hag
  refine ⟨fun c => KernelLaterSsmIdeal.Val.G m c, ?_, ?_⟩
  · exact (θ_run Cert.KernelLaterSsmIdeal.defs _ _).mono
      (fun r h c => ⟨(h c).1.trans (KernelLaterSsmIdeal.Val.final m c), (h c).2⟩) (KernelLaterSsmIdeal.Value.run_blocks (F := Ideal) m g)
  · refine (θ_run Cert.ReferenceLaterSsmIdeal.defs _ _).mono (fun r h c => ⟨(h c).1.trans ?_, (h c).2⟩)
      (ReferenceLaterSsmIdeal.Value.run (F := Ideal) m' g')
    rw [(hag c).1, (hag c).2]
    refine (ReferenceLaterSsmIdeal.Read.val_main_v4_eq (F := Ideal) _ _).trans ?_
    funext i
    exact ReferenceLaterSsmIdeal.Val.val_eq _ _ i

end Cert.Val

end
-- ==== Proof.LaterSmall.lean ====
/-
  The value of the narrow projection of the later even layer: 512 columns gathered from two places of the weights, columns
  8192 to 8447 and 13280 to 13535, the first 192 of them token-shifted. The kernel shifts all 512 by mixing weights
  that are zero from the 192nd on; the reference shifts the 192 and puts the rest beside them.
-/
module

public import proofs.«01_k».proof.Proof.Lin
public import proofs.«01_k».proof.Proof.Gen.KernelLaterSmallIdeal.Value
public import proofs.«01_k».proof.Proof.Gen.ReferenceLaterSmallIdeal.Read
public import proofs.«01_k».proof.Defs

@[expose] public section

noncomputable section

open scoped BigOperators
open Idealize.ShloMosaic Idealize.ShloMosaic.TcCoe Idealize.SL.Sem Idealize.ShloMosaic.ValueIdx
open Idealize.ShloMosaic.Pipeline (Dat)
open Cert.Lin

namespace Cert.KernelLaterSmallIdeal.Val

open Cert.KernelLaterSmallIdeal Cert.KernelLaterSmallIdeal.Gen

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The token array as launched. -/
abbrev X (c : Dev nD) : FVec Ideal S8192x2048 .bf16 := m ((c : Thread nD τ).loc main_arg0)
/-- The weight stack as launched. -/
abbrev W (c : Dev nD) : FVec Ideal S2x2048x13536 .f32 := m ((c : Thread nD τ).loc main_arg1)
/-- The shift's mixing weights as launched. -/
abbrev Mu (c : Dev nD) : FVec Ideal S8384 .f32 := m ((c : Thread nD τ).loc main_arg2)

/-- Which column of the weights column `n` of the result is taken from. -/
def src (n : ℕ) : ℕ := if n < 256 then 8192 + n else 13280 + (n - 256)

/-- The array the call leaves. -/
def G (c : Dev nD) : FVec Ideal S8192x512 .f32 := fun i => shift (fun t n => lin (X m c) (W m c) 1 t (src n)) (fun n => at1 (Mu m c) (8192 + n)) (i 0).val (i 1).val

/-- Where the windows' blocks begin. -/
theorem idx : ∀ t : Fin cfg0.N, (win0_0.index t 0 = t.val / 2 ∧ win0_0.index t 1 = 0)
    ∧ (win0_1.index t 0 = t.val / 2 * 128 - 1 ∧ win0_1.index t 1 = 0)
    ∧ (win0_2.index t 0 = 1 ∧ win0_2.index t 1 = 8192 + t.val % 2 * 5088 ∧ win0_2.index t 2 = 0)
    ∧ (win0_3.index t 0 = 0 ∧ win0_3.index t 1 = t.val % 2)
    ∧ (win0_4.index t 0 = t.val / 2 ∧ win0_4.index t 1 = t.val % 2)
    ∧ (grid0.coords t 0).val = t.val / 2 :=
  (by decide +kernel : ∀ t : Fin grid0.N, (win0_0.index t 0 = t.val / 2 ∧ win0_0.index t 1 = 0)
    ∧ (win0_1.index t 0 = t.val / 2 * 128 - 1 ∧ win0_1.index t 1 = 0)
    ∧ (win0_2.index t 0 = 1 ∧ win0_2.index t 1 = 8192 + t.val % 2 * 5088 ∧ win0_2.index t 2 = 0)
    ∧ (win0_3.index t 0 = 0 ∧ win0_3.index t 1 = t.val % 2)
    ∧ (win0_4.index t 0 = t.val / 2 ∧ win0_4.index t 1 = t.val % 2)
    ∧ (grid0.coords t 0).val = t.val / 2)

/-- The token block at a point. -/
theorem blk0 (c : Dev nD) (t : Fin cfg0.N) (y : S2048x2048.Idx) :
    (iblk m c 0 t : FVec Ideal S2048x2048 .bf16) y = at2 (X m c) (t.val / 2 * 2048 + (y 0).val) (y 1).val := by
  have hi := (idx t).1
  rw [← at2_eq (X m c) ((win0_0.rect t).emb y)
    (by rw [win0_0.rect_emb_val t y 0, hi.1]; rfl) (by rw [win0_0.rect_emb_val t y 1, hi.2]; show 0 * 2048 + (y 1).val = _; omega)]
  unfold iblk
  rw [View.read_apply]
  show V m c main_arg0 _ = _
  rw [V_main_arg0]
  rfl

/-- The halo at a point. -/
theorem blk1 (c : Dev nD) (t : Fin cfg0.N) (y : S16x2048.Idx) :
    (iblk m c 1 t : FVec Ideal S16x2048 .bf16) y = at2 (X m c) ((t.val / 2 * 128 - 1) * 16 + (y 0).val) (y 1).val := by
  have hi := (idx t).2.1
  rw [← at2_eq (X m c) ((win0_1.rect t).emb y)
    (by rw [win0_1.rect_emb_val t y 0, hi.1]; rfl) (by rw [win0_1.rect_emb_val t y 1, hi.2]; show 0 * 2048 + (y 1).val = _; omega)]
  unfold iblk
  rw [View.read_apply]
  show V m c main_arg0 _ = _
  rw [V_main_arg0]
  rfl

/-- The weight block at a point. -/
theorem blk2 (c : Dev nD) (t : Fin cfg0.N) (y : S1x256x2048.Idx) :
    (iblk m c 2 t : FVec Ideal S1x256x2048 .f32) y = at3 (W m c) 1 (y 2).val (src (t.val % 2 * 256 + (y 1).val)) := by
  have hi := (idx t).2.2.1
  have h0 : (y 0).val < 1 := (y 0).isLt
  have hV : (V m c main_v0 : FVec Ideal S2x13536x2048 .f32)
      = transpose S2x13536x2048 [0, 2, 1] (W m c) transposes_S2x2048x13536_S2x13536x2048_0_2_1 := by
    show StableHlo.after hostOps0 (fun b => m (c, b)) (Proc.devRef .tc main_v0) = _
    after_results <;> rfl
  rw [← transpose_at (W m c) transposes_S2x2048x13536_S2x13536x2048_0_2_1 ((win0_2.rect t).emb y)
    (by rw [win0_2.rect_emb_val_off t y 0, hi.1]; show 1 + (y 0).val = 1; omega)
    (by
      rw [win0_2.rect_emb_val_off t y 1, hi.2.1]
      have h1 : (y 1).val < 256 := (y 1).isLt
      show 8192 + t.val % 2 * 5088 + (y 1).val = src (t.val % 2 * 256 + (y 1).val)
      have hm : t.val % 2 < 2 := Nat.mod_lt _ (by decide)
      unfold src
      by_cases h : t.val % 2 = 0
      · rw [h, if_pos (by omega)]; omega
      · rw [if_neg (by omega)]; omega)
    (by rw [win0_2.rect_emb_val_off t y 2, hi.2.2]; show 0 + (y 2).val = _; omega)]
  unfold iblk
  rw [View.read_apply]
  show V m c main_v0 _ = _
  rw [hV]
  rfl

/-- The mixing weights extended by zeros. -/
theorem mu_apply (mu : FVec Ideal S8384 .f32) (i : S512.Idx) :
    concatenate S512 0 [⟨S192, extractStridedSlice S192 ![8192] mu slices_S8384_S192_8192⟩,
      ⟨S320, broadcastInDim S320 ![] bcast_S_S320 (constant (F := Ideal) S_ .f32 0x00000000#32)⟩] concatenates_S192_S320_S512_d0 i
      = at1 mu (8192 + (i 0).val) := by
  by_cases h : (i 0).val < 192
  · refine (concatenate_pair_apply_left 0 _ _ concatenates_S192_S320_S512_d0 i rfl (ix1 ⟨(i 0).val, h⟩) (fun b => match b with
      | ⟨0, _⟩ => rfl)).trans ?_
    refine (extractStridedSlice_apply ![8192] mu slices_S8384_S192_8192 _ (ix1 ⟨8192 + (i 0).val, by omega⟩) (fun a => match a with
      | ⟨0, _⟩ => rfl)).trans ?_
    exact at1_eq mu _ rfl
  · have h1 : (i 0).val < 512 := (i 0).isLt
    refine (concatenate_pair_apply_right 0 _ _ concatenates_S192_S320_S512_d0 i rfl rfl (ix1 ⟨(i 0).val - 192, by omega⟩)
      (fun b hb => match b with | ⟨0, _⟩ => absurd rfl hb) (by show ((i 0).val - 192) + 192 = (i 0).val; omega)).trans ?_
    unfold at1
    rw [dif_neg (by omega)]
    exact Ideal.ofBits_zero_f32

/-- The mixing weights' row at a point. -/
theorem blk3 (c : Dev nD) (t : Fin cfg0.N) (y : S8x256.Idx) (hy : (y 0).val = 0) :
    (iblk m c 3 t : FVec Ideal S8x256 .f32) y = at1 (Mu m c) (8192 + (t.val % 2 * 256 + (y 1).val)) := by
  have hi := (idx t).2.2.2.1
  have e0 : ((win0_3.rect t).emb y 0).val = 0 := by
    rw [win0_3.rect_emb_val t y 0, hi.1]; show 0 * 8 + (y 0).val = 0; omega
  have e1 : ((win0_3.rect t).emb y 1).val = t.val % 2 * 256 + (y 1).val := by
    rw [win0_3.rect_emb_val t y 1, hi.2]; rfl
  have hV : (V m c main_v6 : FVec Ideal S8x512 .f32)
      = concatenate S8x512 0 [⟨S1x512, broadcastInDim S1x512 ![1] bcast_S512_S1x512_1
            (concatenate S512 0 [⟨S192, extractStridedSlice S192 ![8192] (Mu m c) slices_S8384_S192_8192⟩,
              ⟨S320, broadcastInDim S320 ![] bcast_S_S320 (constant (F := Ideal) S_ .f32 0x00000000#32)⟩] concatenates_S192_S320_S512_d0)⟩,
          ⟨S7x512, broadcastInDim S7x512 ![] bcast_S_S7x512 (constant (F := Ideal) S_ .f32 0x00000000#32)⟩]
          concatenates_S1x512_S7x512_S8x512_d0 := by
    show StableHlo.after hostOps0 (fun b => m (c, b)) (Proc.devRef .tc main_v6) = _
    after_results <;> rfl
  unfold iblk
  rw [View.read_apply]
  show V m c main_v6 _ = _
  rw [hV]
  refine (rows8_zero _ _ concatenates_S1x512_S7x512_S8x512_d0 ((win0_3.rect t).emb y) e0).trans ?_
  refine (row_apply _ bcast_S512_S1x512_1 _).trans ?_
  have h1 : (y 1).val < 256 := (y 1).isLt
  refine (mu_apply (Mu m c) (ix1 ((win0_3.rect t).emb y 1))).trans ?_
  exact congrArg (fun n => at1 (Mu m c) (8192 + n)) e1

/-- What the body stores, entry by entry. -/
theorem stored (i : grid0.Coords) (v0 : FVec Ideal S1x256x2048 .f32) (v3 : FVec Ideal S2048x2048 .bf16) (v5 : FVec Ideal S16x2048 .bf16)
    (v19 : FVec Ideal S1x256 .f32) (y : S2048x256.Idx) (A P : EReal)
    (hA : ∑ k : Fin 2048, v3 (ix2 (y 0) k) * v0 (ix3 0 (y 1) k) = A)
    (hP : (if (y 0).val = 0 then (if (i 0).val = 0 then 0 else ∑ k : Fin 2048, v5 (ix2 15 k) * v0 (ix3 0 (y 1) k))
      else ∑ k : Fin 2048, v3 (ix2 ⟨(y 0).val - 1, Nat.lt_of_le_of_lt (Nat.sub_le _ _) (y 0).isLt⟩ k) * v0 (ix3 0 (y 1) k)) = P) :
    k0_pay1 (F := Ideal) i v0 v3 v5 v19 y = A + (P - A) * v19 (ix2 0 (y 1)) := by
  subst hA hP
  have hi : (i 0).val < 4 := (i 0).isLt
  unfold k0_pay1
  refine (shift_block (i 0).val (by omega) _ _ v19 slices_S16x256_o15_0_S1x256 iota_S2048x256_d0_w32 rotates_S2048x256_d0
    shapeCasts_S1x256_S1x256 broadcasts_S1x256_S2048x256 y).trans ?_
  refine congrArg₂ (fun a b => a + (b - a) * v19 (ix2 0 (y 1)))
    (matmul_slab v3 v0 shapeCasts_S1x256x2048_S256x2048 bitsLt_bf16_f32 y) ?_
  split
  · split
    · rfl
    · exact matmul_slab v5 v0 shapeCasts_S1x256x2048_S256x2048 bitsLt_bf16_f32 (ix2 15 (y 1))
  · exact matmul_slab v3 v0 shapeCasts_S1x256x2048_S256x2048 bitsLt_bf16_f32 (ix2 ⟨(y 0).val - 1, _⟩ (y 1))

/-- What a point writes back is its block of the array. -/
theorem flushed (c : Dev nD) (t : Fin cfg0.N) (hf : (cfg0.win 4).flush t = true) :
    (dats m 0 c).flushed 4 t = ((cfg0.win 4).blk t).view.read (Elt Ideal) (G m c) := by
  rw [Value.flushed4]
  unfold out0_4
  rw [View.canon_unit_zero (S := S2048x256) hz2]
  funext y
  have hi := (idx t).2.2.2.2
  have hy : (y 0).val < 2048 := (y 0).isLt
  show k0_pay1 (F := Ideal) (grid0.coords t) (View.ld (iblk m c 2 t) r0_0) (View.ld (iblk m c 0 t) r0_1) (View.ld (iblk m c 1 t) r0_2)
    (View.ld (iblk m c 3 t) r0_3) y = _
  rw [View.ld_unit_zero (S := S1x256x2048) hz3, View.ld_unit_zero (S := S2048x2048) hz2, View.ld_unit_zero (S := S16x2048) hz2, View.read_apply]
  have e0 : ((win0_4.rect t).emb y 0).val = t.val / 2 * 2048 + (y 0).val := by
    rw [win0_4.rect_emb_val t y 0, hi.1.1]; rfl
  have e1 : ((win0_4.rect t).emb y 1).val = t.val % 2 * 256 + (y 1).val := by
    rw [win0_4.rect_emb_val t y 1, hi.1.2]; rfl
  refine (stored _ _ _ _ _ y (lin (X m c) (W m c) 1 (t.val / 2 * 2048 + (y 0).val) (src (t.val % 2 * 256 + (y 1).val)))
    (if t.val / 2 * 2048 + (y 0).val = 0 then 0 else
      lin (X m c) (W m c) 1 (t.val / 2 * 2048 + (y 0).val - 1) (src (t.val % 2 * 256 + (y 1).val))) ?_ ?_).trans ?_
  · unfold lin
    exact Finset.sum_congr rfl fun k _ => congrArg₂ (· * ·) (blk0 m c t _) (blk2 m c t _)
  · rw [hi.2]
    by_cases h : (y 0).val = 0
    · rw [if_pos h]
      by_cases h' : t.val / 2 = 0
      · rw [if_pos h', if_pos (by omega)]
      · rw [if_neg h', if_neg (by omega)]
        unfold lin
        refine Finset.sum_congr rfl fun k _ => congrArg₂ (· * ·) ((blk1 m c t _).trans ?_) (blk2 m c t _)
        refine congrArg (at2 (X m c) · k.val) ?_
        show (t.val / 2 * 128 - 1) * 16 + 15 = _
        omega
    · rw [if_neg h, if_neg (by omega)]
      unfold lin
      refine Finset.sum_congr rfl fun k _ => congrArg₂ (· * ·) ((blk0 m c t _).trans ?_) (blk2 m c t _)
      refine congrArg (at2 (X m c) · k.val) ?_
      show t.val / 2 * 2048 + ((y 0).val - 1) = _
      omega
  · show _ = shift (fun t n => lin (X m c) (W m c) 1 t (src n)) (fun n => at1 (Mu m c) (8192 + n)) ((win0_4.rect t).emb y 0).val ((win0_4.rect t).emb y 1).val
    rw [e0, e1]
    unfold shift
    refine congrArg (fun z : EReal => lin (X m c) (W m c) 1 (t.val / 2 * 2048 + (y 0).val) (src (t.val % 2 * 256 + (y 1).val))
      + ((if t.val / 2 * 2048 + (y 0).val = 0 then 0 else
        lin (X m c) (W m c) 1 (t.val / 2 * 2048 + (y 0).val - 1) (src (t.val % 2 * 256 + (y 1).val)))
        - lin (X m c) (W m c) 1 (t.val / 2 * 2048 + (y 0).val) (src (t.val % 2 * 256 + (y 1).val))) * z) ?_
    exact (blk3 m c t (r0_3.emb (ix2 0 (y 1))) rfl).trans (congrArg (fun n => at1 (Mu m c) (8192 + n)) (by
      show t.val % 2 * 256 + (0 + 1 * (y 1).val) = _; omega))

/-- The blocks tile the array. -/
theorem final (c : Dev nD) : (dats m 0 c).arrAt 4 cfg0.N = G m c :=
  (dats m 0 c).arrAt_eq_of_cover 4 (G m c) (flushed m c) fun i => by
    have h0 : (i 0 : Nat) < 8192 := (i 0).isLt
    have h1 : (i 1 : Nat) < 512 := (i 1).isLt
    have hN : cfg0.N = 8 := N_0
    refine ⟨⟨(i 0 : Nat) / 2048 * 2 + (i 1 : Nat) / 256, by rw [hN]; omega⟩, (by decide +kernel : ∀ t : Fin grid0.N, win0_4.flush t = true) _, ?_⟩
    generalize hT : (⟨(i 0 : Nat) / 2048 * 2 + (i 1 : Nat) / 256, _⟩ : Fin cfg0.N) = t
    have ht : t.val = (i 0 : Nat) / 2048 * 2 + (i 1 : Nat) / 256 := by rw [← hT]
    have hi := (idx t).2.2.2.2.1
    show i ∈ ((View.whole main_v7).slice (win0_4.rect t)).set
    rw [View.set_slice_whole, Rect.mem_set_unit]
    intro a
    match a with
    | ⟨0, _⟩ =>
      show win0_4.index t 0 * 2048 ≤ (i 0 : Nat) ∧ (i 0 : Nat) < win0_4.index t 0 * 2048 + 2048
      rw [hi.1]; omega
    | ⟨1, _⟩ =>
      show win0_4.index t 1 * 256 ≤ (i 1 : Nat) ∧ (i 1 : Nat) < win0_4.index t 1 * 256 + 256
      rw [hi.2]; omega

end Cert.KernelLaterSmallIdeal.Val

namespace Cert.ReferenceLaterSmallIdeal.Val

open Cert.ReferenceLaterSmallIdeal Cert.ReferenceLaterSmallIdeal.Gen Cert.ReferenceLaterSmallIdeal.Read

/-- The reference's projection, entry by entry. -/
theorem proj_eq (x : FVec Ideal S8192x2048 .bf16) (w : FVec Ideal S2x2048x13536 .f32) (i : S8192x13536.Idx) :
    val_main_v3 (F := Ideal) x w i = lin x w 1 (i 0).val (i 1).val := by
  rw [val_main_v3_apply]
  unfold lin
  refine Finset.sum_congr rfl fun k _ => congrArg₂ (· * ·) ?_ ?_
  · rw [val_main_v0_apply]
    exact at2_eq x _ rfl rfl
  · rw [val_main_v2_apply, val_main_v1_apply]
    have h1 : (i 1 : Nat) < 13536 := (i 1).isLt
    have hk := k.isLt
    refine at3_eq w _ rfl ?_ ?_
    · show (k.val * 13536 + (i 1).val) / 13536 % 2048 = k.val; omega
    · show (k.val * 13536 + (i 1).val) % 13536 = _; omega

/-- The reference's padding value is zero. -/
theorem padval (i : S_.Idx) : val_main_call0_v0 (F := Ideal) i = 0 := by
  exact sitofp_zero (φ := .f32)

/-- The reference's shifted projection, entry by entry. -/
theorem shifted_eq (x : FVec Ideal S8192x2048 .bf16) (w : FVec Ideal S2x2048x13536 .f32) (mu : FVec Ideal S8384 .f32) (i : S8192x8384.Idx) :
    val_main_v11 (F := Ideal) x w mu i = shift (lin x w 1) (at1 mu) (i 0).val (i 1).val := by
  have h4 : ∀ j : S8192x8384.Idx, val_main_v4 (F := Ideal) x w j = lin x w 1 (j 0).val (j 1).val := fun j => by
    rw [val_main_v4_apply]
    exact proj_eq x w _
  have h0 : (i 0 : Nat) < 8192 := (i 0).isLt
  have h1 : (i 1 : Nat) < 8384 := (i 1).isLt
  have h6 : val_main_v6 (F := Ideal) x w i = if (i 0).val = 0 then 0 else lin x w 1 ((i 0).val - 1) (i 1).val := by
    rw [val_main_v6_apply]
    unfold val_main_v5
    refine (above_apply (val_main_v4 (F := Ideal) x w) (val_main_call0_v0 (F := Ideal)) pads_S8192x8384_S8193x8384_100_000 h_S_ (idx_main_v6 i)
      (by show (i 0).val < 8193; omega) padval (t := (i 0).val) (n := (i 1).val) rfl rfl).trans ?_
    by_cases h : (i 0).val = 0
    · rw [if_pos h, if_pos h]
    · rw [if_neg h, if_neg h, ← at2_eq (val_main_v4 (F := Ideal) x w) (i := (i 0).val - 1) (j := (i 1).val)
        (ix2 ⟨(i 0).val - 1, by omega⟩ (i 1)) rfl rfl, h4]
  have h9 : val_main_v9 (F := Ideal) mu i = at1 mu (i 1).val := by
    rw [val_main_v9_apply, val_main_v8_apply]
    exact at1_eq mu _ rfl
  show val_main_v4 (F := Ideal) x w i + (val_main_v6 (F := Ideal) x w i - val_main_v4 (F := Ideal) x w i) * val_main_v9 (F := Ideal) mu i = _
  rw [h4, h6, h9]
  rfl

/-- The reference's result, entry by entry. -/
theorem val_eq (x : FVec Ideal S8192x2048 .bf16) (w : FVec Ideal S2x2048x13536 .f32) (mu : FVec Ideal S8384 .f32) (i : S8192x512.Idx) :
    val_main_v15 (F := Ideal) x w mu i
      = shift (fun t n => lin x w 1 t (Cert.KernelLaterSmallIdeal.Val.src n)) (fun n => at1 mu (8192 + n)) (i 0).val (i 1).val := by
  have h0 : (i 0 : Nat) < 8192 := (i 0).isLt
  have h1 : (i 1 : Nat) < 512 := (i 1).isLt
  unfold val_main_v15
  by_cases h : (i 1).val < 192
  · refine (concatenate_apply_piece 1 _ _ i 0 (by show 0 < 3; omega) S8192x192 (val_main_v12 (F := Ideal) x w mu) rfl rfl 0 rfl
      (ix2 ⟨(i 0).val, h0⟩ ⟨(i 1).val, h⟩) (fun b hb => ?_) (by show 0 + (i 1).val = (i 1).val; omega)).trans ?_
    · match b with
      | ⟨0, _⟩ => rfl
      | ⟨1, _⟩ => exact absurd rfl hb
    · rw [val_main_v12_apply, shifted_eq]
      show shift (lin x w 1) (at1 mu) (i 0).val (8192 + (i 1).val) = _
      unfold shift Cert.KernelLaterSmallIdeal.Val.src
      simp only [if_pos (by omega : (i 1).val < 256)]
  · rw [shift_zero _ _ _ _ (by unfold at1; rw [dif_neg (by omega)])]
    by_cases h' : (i 1).val < 256
    · refine (concatenate_apply_piece 1 _ _ i 1 (by show 1 < 3; omega) S8192x64 (val_main_v13 (F := Ideal) x w) rfl rfl 192 rfl
        (ix2 ⟨(i 0).val, h0⟩ ⟨(i 1).val - 192, by omega⟩) (fun b hb => ?_) (by show 192 + ((i 1).val - 192) = (i 1).val; omega)).trans ?_
      · match b with
        | ⟨0, _⟩ => rfl
        | ⟨1, _⟩ => exact absurd rfl hb
      · rw [val_main_v13_apply, proj_eq]
        show lin x w 1 (i 0).val (8384 + ((i 1).val - 192)) = lin x w 1 (i 0).val (Cert.KernelLaterSmallIdeal.Val.src (i 1).val)
        unfold Cert.KernelLaterSmallIdeal.Val.src
        rw [if_pos h']
        exact congrArg _ (by omega)
    · refine (concatenate_apply_piece 1 _ _ i 2 (by show 2 < 3; omega) S8192x256 (val_main_v14 (F := Ideal) x w) rfl rfl 256 rfl
        (ix2 ⟨(i 0).val, h0⟩ ⟨(i 1).val - 256, by omega⟩) (fun b hb => ?_) (by show 256 + ((i 1).val - 256) = (i 1).val; omega)).trans ?_
      · match b with
        | ⟨0, _⟩ => rfl
        | ⟨1, _⟩ => exact absurd rfl hb
      · rw [val_main_v14_apply, proj_eq]
        show lin x w 1 (i 0).val (13280 + ((i 1).val - 256)) = lin x w 1 (i 0).val (Cert.KernelLaterSmallIdeal.Val.src (i 1).val)
        unfold Cert.KernelLaterSmallIdeal.Val.src
        rw [if_neg h']

end Cert.ReferenceLaterSmallIdeal.Val

namespace Cert.Val

/-- The narrow projection of the later even layer. -/
theorem later_small : Cert.algebraic_KernelLaterSmallIdeal_ReferenceLaterSmallIdeal := by
  intro m g m' g' _ hag
  refine ⟨fun c => KernelLaterSmallIdeal.Val.G m c, ?_, ?_⟩
  · exact (θ_run Cert.KernelLaterSmallIdeal.defs _ _).mono
      (fun r h c => ⟨(h c).1.trans (KernelLaterSmallIdeal.Val.final m c), (h c).2⟩) (KernelLaterSmallIdeal.Value.run_blocks (F := Ideal) m g)
  · refine (θ_run Cert.ReferenceLaterSmallIdeal.defs _ _).mono (fun r h c => ⟨(h c).1.trans ?_, (h c).2⟩)
      (ReferenceLaterSmallIdeal.Value.run (F := Ideal) m' g')
    rw [(hag c).1, (hag c).2.1, (hag c).2.2]
    refine (ReferenceLaterSmallIdeal.Read.val_main_v15_eq (F := Ideal) _ _ _).trans ?_
    funext i
    exact ReferenceLaterSmallIdeal.Val.val_eq _ _ _ i

end Cert.Val

end
-- ==== Proof.LaterGla.lean ====
/-
  The value of the later odd layer's main projection: each grid point stores its block of `h @ w[1]`, columns 0 to 6143,
  and the blocks tile the array.
-/
module

public import proofs.«01_k».proof.Proof.Lin
public import proofs.«01_k».proof.Proof.Gen.KernelLaterGlaIdeal.Value
public import proofs.«01_k».proof.Proof.Gen.ReferenceLaterGlaIdeal.Read
public import proofs.«01_k».proof.Defs

@[expose] public section

noncomputable section

open scoped BigOperators
open Idealize.ShloMosaic Idealize.ShloMosaic.TcCoe Idealize.SL.Sem Idealize.ShloMosaic.ValueIdx
open Idealize.ShloMosaic.Pipeline (Dat)
open Cert.Lin

namespace Cert.KernelLaterGlaIdeal.Val

open Cert.KernelLaterGlaIdeal Cert.KernelLaterGlaIdeal.Gen

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The token array as launched. -/
abbrev X (c : Dev nD) : FVec Ideal S8192x2048 .bf16 := m ((c : Thread nD τ).loc main_arg0)
/-- The weight stack as launched. -/
abbrev W (c : Dev nD) : FVec Ideal S2x2048x6160 .f32 := m ((c : Thread nD τ).loc main_arg1)

/-- The array the call leaves. -/
def G (c : Dev nD) : FVec Ideal S8192x6144 .f32 := fun i => lin (X m c) (W m c) 1 (i 0).val (i 1).val

/-- Where the windows' blocks begin. -/
theorem idx : ∀ t : Fin cfg0.N, (win0_0.index t 0 = t.val / 12 ∧ win0_0.index t 1 = 0)
    ∧ (win0_1.index t 0 = 1 ∧ win0_1.index t 1 = t.val % 12 * 512 ∧ win0_1.index t 2 = 0)
    ∧ win0_2.index t 0 = t.val / 12 ∧ win0_2.index t 1 = t.val % 12 :=
  (by decide +kernel : ∀ t : Fin grid0.N, (win0_0.index t 0 = t.val / 12 ∧ win0_0.index t 1 = 0)
    ∧ (win0_1.index t 0 = 1 ∧ win0_1.index t 1 = t.val % 12 * 512 ∧ win0_1.index t 2 = 0)
    ∧ win0_2.index t 0 = t.val / 12 ∧ win0_2.index t 1 = t.val % 12)

/-- The token block at a point. -/
theorem blk0 (c : Dev nD) (t : Fin cfg0.N) (y : S2048x2048.Idx) :
    (iblk m c 0 t : FVec Ideal S2048x2048 .bf16) y = at2 (X m c) (t.val / 12 * 2048 + (y 0).val) (y 1).val := by
  have hi := (idx t).1
  rw [← at2_eq (X m c) ((win0_0.rect t).emb y)
    (by rw [win0_0.rect_emb_val t y 0, hi.1]; rfl) (by rw [win0_0.rect_emb_val t y 1, hi.2]; show 0 * 2048 + (y 1).val = _; omega)]
  unfold iblk
  rw [View.read_apply]
  show V m c main_arg0 _ = _
  rw [V_main_arg0]
  rfl

/-- The weight block at a point. -/
theorem blk1 (c : Dev nD) (t : Fin cfg0.N) (y : S1x512x2048.Idx) :
    (iblk m c 1 t : FVec Ideal S1x512x2048 .f32) y = at3 (W m c) 1 (y 2).val (t.val % 12 * 512 + (y 1).val) := by
  have hi := (idx t).2.1
  have h0 : (y 0).val < 1 := (y 0).isLt
  have hV : (V m c main_v0 : FVec Ideal S2x6160x2048 .f32)
      = transpose S2x6160x2048 [0, 2, 1] (W m c) transposes_S2x2048x6160_S2x6160x2048_0_2_1 := by
    show StableHlo.after hostOps0 (fun b => m (c, b)) (Proc.devRef .tc main_v0) = _
    after_results <;> rfl
  rw [← transpose_at (W m c) transposes_S2x2048x6160_S2x6160x2048_0_2_1 ((win0_1.rect t).emb y)
    (by rw [win0_1.rect_emb_val_off t y 0, hi.1]; show 1 + (y 0).val = 1; omega)
    (by rw [win0_1.rect_emb_val_off t y 1, hi.2.1])
    (by rw [win0_1.rect_emb_val_off t y 2, hi.2.2]; show 0 + (y 2).val = _; omega)]
  unfold iblk
  rw [View.read_apply]
  show V m c main_v0 _ = _
  rw [hV]
  rfl

/-- What the body stores, entry by entry. -/
theorem stored (v0 : FVec Ideal S1x512x2048 .f32) (v3 : FVec Ideal S2048x2048 .bf16) (y : S2048x512.Idx) :
    k0_pay1 (F := Ideal) v0 v3 y = ∑ k : Fin 2048, v3 (ix2 (y 0) k) * v0 (ix3 0 (y 1) k) := by
  unfold k0_pay1
  exact matmul_slab v3 v0 shapeCasts_S1x512x2048_S512x2048 bitsLt_bf16_f32 y

/-- What a point writes back is its block of the array. -/
theorem flushed (c : Dev nD) (t : Fin cfg0.N) (hf : (cfg0.win 2).flush t = true) :
    (dats m 0 c).flushed 2 t = ((cfg0.win 2).blk t).view.read (Elt Ideal) (G m c) := by
  rw [Value.flushed2]
  unfold out0_2
  rw [View.canon_unit_zero (S := S2048x512) hz2]
  funext y
  have hi := (idx t).2.2
  show k0_pay1 (F := Ideal) (View.ld (iblk m c 1 t) r0_0) (View.ld (iblk m c 0 t) r0_1) y = _
  rw [View.ld_unit_zero (S := S1x512x2048) hz3, View.ld_unit_zero (S := S2048x2048) hz2, View.read_apply]
  have e0 : ((win0_2.rect t).emb y 0).val = t.val / 12 * 2048 + (y 0).val := by
    rw [win0_2.rect_emb_val t y 0, hi.1]; rfl
  have e1 : ((win0_2.rect t).emb y 1).val = t.val % 12 * 512 + (y 1).val := by
    rw [win0_2.rect_emb_val t y 1, hi.2]; rfl
  refine (stored _ _ y).trans ?_
  show _ = lin (X m c) (W m c) 1 ((win0_2.rect t).emb y 0).val ((win0_2.rect t).emb y 1).val
  rw [e0, e1]
  unfold lin
  exact Finset.sum_congr rfl fun k _ => congrArg₂ (· * ·) (blk0 m c t _) (blk1 m c t _)

/-- The blocks tile the array. -/
theorem final (c : Dev nD) : (dats m 0 c).arrAt 2 cfg0.N = G m c :=
  (dats m 0 c).arrAt_eq_of_cover 2 (G m c) (flushed m c) fun i => by
    have h0 : (i 0 : Nat) < 8192 := (i 0).isLt
    have h1 : (i 1 : Nat) < 6144 := (i 1).isLt
    have hN : cfg0.N = 48 := N_0
    refine ⟨⟨(i 0 : Nat) / 2048 * 12 + (i 1 : Nat) / 512, by rw [hN]; omega⟩, (by decide +kernel : ∀ t : Fin grid0.N, win0_2.flush t = true) _, ?_⟩
    generalize hT : (⟨(i 0 : Nat) / 2048 * 12 + (i 1 : Nat) / 512, _⟩ : Fin cfg0.N) = t
    have ht : t.val = (i 0 : Nat) / 2048 * 12 + (i 1 : Nat) / 512 := by rw [← hT]
    have hi := (idx t).2.2
    show i ∈ ((View.whole main_v1).slice (win0_2.rect t)).set
    rw [View.set_slice_whole, Rect.mem_set_unit]
    intro a
    match a with
    | ⟨0, _⟩ =>
      show win0_2.index t 0 * 2048 ≤ (i 0 : Nat) ∧ (i 0 : Nat) < win0_2.index t 0 * 2048 + 2048
      rw [hi.1]; omega
    | ⟨1, _⟩ =>
      show win0_2.index t 1 * 512 ≤ (i 1 : Nat) ∧ (i 1 : Nat) < win0_2.index t 1 * 512 + 512
      rw [hi.2]; omega

end Cert.KernelLaterGlaIdeal.Val

namespace Cert.ReferenceLaterGlaIdeal.Val

open Cert.ReferenceLaterGlaIdeal Cert.ReferenceLaterGlaIdeal.Gen Cert.ReferenceLaterGlaIdeal.Read

/-- The reference's result, entry by entry. -/
theorem val_eq (x : FVec Ideal S8192x2048 .bf16) (w : FVec Ideal S2x2048x6160 .f32) (i : S8192x6144.Idx) :
    val_main_v4 (F := Ideal) x w i = lin x w 1 (i 0).val (i 1).val := by
  rw [val_main_v4_apply, val_main_v3_apply]
  unfold lin
  refine Finset.sum_congr rfl fun k _ => congrArg₂ (· * ·) ?_ ?_
  · rw [val_main_v0_apply]
    exact at2_eq x _ rfl rfl
  · rw [val_main_v2_apply, val_main_v1_apply]
    have h1 : (i 1 : Nat) < 6144 := (i 1).isLt
    have hk := k.isLt
    refine at3_eq w _ rfl ?_ ?_
    · show (k.val * 6160 + (i 1).val) / 6160 % 2048 = k.val; omega
    · show (k.val * 6160 + (i 1).val) % 6160 = _; omega

end Cert.ReferenceLaterGlaIdeal.Val

namespace Cert.Val

/-- The later odd layer's main projection. -/
theorem later_gla : Cert.algebraic_KernelLaterGlaIdeal_ReferenceLaterGlaIdeal := by
  intro m g m' g' _ hag
  refine ⟨fun c => KernelLaterGlaIdeal.Val.G m c, ?_, ?_⟩
  · exact (θ_run Cert.KernelLaterGlaIdeal.defs _ _).mono
      (fun r h c => ⟨(h c).1.trans (KernelLaterGlaIdeal.Val.final m c), (h c).2⟩) (KernelLaterGlaIdeal.Value.run_blocks (F := Ideal) m g)
  · refine (θ_run Cert.ReferenceLaterGlaIdeal.defs _ _).mono (fun r h c => ⟨(h c).1.trans ?_, (h c).2⟩)
      (ReferenceLaterGlaIdeal.Value.run (F := Ideal) m' g')
    rw [(hag c).1, (hag c).2]
    refine (ReferenceLaterGlaIdeal.Read.val_main_v4_eq (F := Ideal) _ _).trans ?_
    funext i
    exact ReferenceLaterGlaIdeal.Val.val_eq _ _ i

end Cert.Val

end
-- ==== Proof.LaterDecay.lean ====
/-
  The value of the later odd layer's decay projection: each grid point stores its block of `h @ w[1]`, columns 6032 to 6159,
  and the blocks tile the array.
-/
module

public import proofs.«01_k».proof.Proof.Lin
public import proofs.«01_k».proof.Proof.Gen.KernelLaterDecayIdeal.Value
public import proofs.«01_k».proof.Proof.Gen.ReferenceLaterDecayIdeal.Read
public import proofs.«01_k».proof.Defs

@[expose] public section

noncomputable section

open scoped BigOperators
open Idealize.ShloMosaic Idealize.ShloMosaic.TcCoe Idealize.SL.Sem Idealize.ShloMosaic.ValueIdx
open Idealize.ShloMosaic.Pipeline (Dat)
open Cert.Lin

namespace Cert.KernelLaterDecayIdeal.Val

open Cert.KernelLaterDecayIdeal Cert.KernelLaterDecayIdeal.Gen

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The token array as launched. -/
abbrev X (c : Dev nD) : FVec Ideal S8192x2048 .bf16 := m ((c : Thread nD τ).loc main_arg0)
/-- The weight stack as launched. -/
abbrev W (c : Dev nD) : FVec Ideal S2x2048x6160 .f32 := m ((c : Thread nD τ).loc main_arg1)

/-- The array the call leaves. -/
def G (c : Dev nD) : FVec Ideal S8192x128 .f32 := fun i => lin (X m c) (W m c) 1 (i 0).val ((i 1).val + 6032)

/-- Where the windows' blocks begin. -/
theorem idx : ∀ t : Fin cfg0.N, (win0_0.index t 0 = t.val ∧ win0_0.index t 1 = 0)
    ∧ (win0_1.index t 0 = 1 ∧ win0_1.index t 1 = 6032 ∧ win0_1.index t 2 = 0)
    ∧ win0_2.index t 0 = t.val ∧ win0_2.index t 1 = 0 :=
  (by decide +kernel : ∀ t : Fin grid0.N, (win0_0.index t 0 = t.val ∧ win0_0.index t 1 = 0)
    ∧ (win0_1.index t 0 = 1 ∧ win0_1.index t 1 = 6032 ∧ win0_1.index t 2 = 0)
    ∧ win0_2.index t 0 = t.val ∧ win0_2.index t 1 = 0)

/-- The token block at a point. -/
theorem blk0 (c : Dev nD) (t : Fin cfg0.N) (y : S2048x2048.Idx) :
    (iblk m c 0 t : FVec Ideal S2048x2048 .bf16) y = at2 (X m c) (t.val * 2048 + (y 0).val) (y 1).val := by
  have hi := (idx t).1
  rw [← at2_eq (X m c) ((win0_0.rect t).emb y)
    (by rw [win0_0.rect_emb_val t y 0, hi.1]; rfl) (by rw [win0_0.rect_emb_val t y 1, hi.2]; show 0 * 2048 + (y 1).val = _; omega)]
  unfold iblk
  rw [View.read_apply]
  show V m c main_arg0 _ = _
  rw [V_main_arg0]
  rfl

/-- The weight block at a point. -/
theorem blk1 (c : Dev nD) (t : Fin cfg0.N) (y : S1x128x2048.Idx) :
    (iblk m c 1 t : FVec Ideal S1x128x2048 .f32) y = at3 (W m c) 1 (y 2).val ((y 1).val + 6032) := by
  have hi := (idx t).2.1
  have h0 : (y 0).val < 1 := (y 0).isLt
  have hV : (V m c main_v0 : FVec Ideal S2x6160x2048 .f32)
      = transpose S2x6160x2048 [0, 2, 1] (W m c) transposes_S2x2048x6160_S2x6160x2048_0_2_1 := by
    show StableHlo.after hostOps0 (fun b => m (c, b)) (Proc.devRef .tc main_v0) = _
    after_results <;> rfl
  rw [← transpose_at (W m c) transposes_S2x2048x6160_S2x6160x2048_0_2_1 ((win0_1.rect t).emb y)
    (by rw [win0_1.rect_emb_val_off t y 0, hi.1]; show 1 + (y 0).val = 1; omega)
    (by rw [win0_1.rect_emb_val_off t y 1, hi.2.1]; show 6032 + (y 1).val = _; omega)
    (by rw [win0_1.rect_emb_val_off t y 2, hi.2.2]; show 0 + (y 2).val = _; omega)]
  unfold iblk
  rw [View.read_apply]
  show V m c main_v0 _ = _
  rw [hV]
  rfl

/-- What the body stores, entry by entry. -/
theorem stored (v0 : FVec Ideal S1x128x2048 .f32) (v3 : FVec Ideal S2048x2048 .bf16) (y : S2048x128.Idx) :
    k0_pay1 (F := Ideal) v0 v3 y = ∑ k : Fin 2048, v3 (ix2 (y 0) k) * v0 (ix3 0 (y 1) k) := by
  unfold k0_pay1
  exact matmul_slab v3 v0 shapeCasts_S1x128x2048_S128x2048 bitsLt_bf16_f32 y

/-- What a point writes back is its block of the array. -/
theorem flushed (c : Dev nD) (t : Fin cfg0.N) (hf : (cfg0.win 2).flush t = true) :
    (dats m 0 c).flushed 2 t = ((cfg0.win 2).blk t).view.read (Elt Ideal) (G m c) := by
  rw [Value.flushed2]
  unfold out0_2
  rw [View.canon_unit_zero (S := S2048x128) hz2]
  funext y
  have hi := (idx t).2.2
  show k0_pay1 (F := Ideal) (View.ld (iblk m c 1 t) r0_0) (View.ld (iblk m c 0 t) r0_1) y = _
  rw [View.ld_unit_zero (S := S1x128x2048) hz3, View.ld_unit_zero (S := S2048x2048) hz2, View.read_apply]
  have e0 : ((win0_2.rect t).emb y 0).val = t.val * 2048 + (y 0).val := by
    rw [win0_2.rect_emb_val t y 0, hi.1]; rfl
  have e1 : ((win0_2.rect t).emb y 1).val = (y 1).val := by
    rw [win0_2.rect_emb_val t y 1, hi.2]; show 0 * 128 + (y 1).val = _; omega
  refine (stored _ _ y).trans ?_
  show _ = lin (X m c) (W m c) 1 ((win0_2.rect t).emb y 0).val (((win0_2.rect t).emb y 1).val + 6032)
  rw [e0, e1]
  unfold lin
  exact Finset.sum_congr rfl fun k _ => congrArg₂ (· * ·) (blk0 m c t _) (blk1 m c t _)

/-- The blocks tile the array. -/
theorem final (c : Dev nD) : (dats m 0 c).arrAt 2 cfg0.N = G m c :=
  (dats m 0 c).arrAt_eq_of_cover 2 (G m c) (flushed m c) fun i => by
    have h0 : (i 0 : Nat) < 8192 := (i 0).isLt
    have h1 : (i 1 : Nat) < 128 := (i 1).isLt
    have hN : cfg0.N = 4 := N_0
    refine ⟨⟨(i 0 : Nat) / 2048, by rw [hN]; omega⟩, (by decide +kernel : ∀ t : Fin grid0.N, win0_2.flush t = true) _, ?_⟩
    generalize hT : (⟨(i 0 : Nat) / 2048, _⟩ : Fin cfg0.N) = t
    have ht : t.val = (i 0 : Nat) / 2048 := by rw [← hT]
    have hi := (idx t).2.2
    show i ∈ ((View.whole main_v1).slice (win0_2.rect t)).set
    rw [View.set_slice_whole, Rect.mem_set_unit]
    intro a
    match a with
    | ⟨0, _⟩ =>
      show win0_2.index t 0 * 2048 ≤ (i 0 : Nat) ∧ (i 0 : Nat) < win0_2.index t 0 * 2048 + 2048
      rw [hi.1]; omega
    | ⟨1, _⟩ =>
      show win0_2.index t 1 * 128 ≤ (i 1 : Nat) ∧ (i 1 : Nat) < win0_2.index t 1 * 128 + 128
      rw [hi.2]; omega

end Cert.KernelLaterDecayIdeal.Val

namespace Cert.ReferenceLaterDecayIdeal.Val

open Cert.ReferenceLaterDecayIdeal Cert.ReferenceLaterDecayIdeal.Gen Cert.ReferenceLaterDecayIdeal.Read

/-- The reference's result, entry by entry. -/
theorem val_eq (x : FVec Ideal S8192x2048 .bf16) (w : FVec Ideal S2x2048x6160 .f32) (i : S8192x128.Idx) :
    val_main_v4 (F := Ideal) x w i = lin x w 1 (i 0).val ((i 1).val + 6032) := by
  rw [val_main_v4_apply, val_main_v3_apply]
  unfold lin
  refine Finset.sum_congr rfl fun k _ => congrArg₂ (· * ·) ?_ ?_
  · rw [val_main_v0_apply]
    exact at2_eq x _ rfl rfl
  · rw [val_main_v2_apply, val_main_v1_apply]
    have h1 : (i 1 : Nat) < 128 := (i 1).isLt
    have hk := k.isLt
    refine at3_eq w _ rfl ?_ ?_
    · show (k.val * 6160 + (6032 + (i 1).val)) / 6160 % 2048 = k.val; omega
    · show (k.val * 6160 + (6032 + (i 1).val)) % 6160 = _; omega

end Cert.ReferenceLaterDecayIdeal.Val

namespace Cert.Val

/-- The later odd layer's decay projection. -/
theorem later_decay : Cert.algebraic_KernelLaterDecayIdeal_ReferenceLaterDecayIdeal := by
  intro m g m' g' _ hag
  refine ⟨fun c => KernelLaterDecayIdeal.Val.G m c, ?_, ?_⟩
  · exact (θ_run Cert.KernelLaterDecayIdeal.defs _ _).mono
      (fun r h c => ⟨(h c).1.trans (KernelLaterDecayIdeal.Val.final m c), (h c).2⟩) (KernelLaterDecayIdeal.Value.run_blocks (F := Ideal) m g)
  · refine (θ_run Cert.ReferenceLaterDecayIdeal.defs _ _).mono (fun r h c => ⟨(h c).1.trans ?_, (h c).2⟩)
      (ReferenceLaterDecayIdeal.Value.run (F := Ideal) m' g')
    rw [(hag c).1, (hag c).2]
    refine (ReferenceLaterDecayIdeal.Read.val_main_v4_eq (F := Ideal) _ _).trans ?_
    funext i
    exact ReferenceLaterDecayIdeal.Val.val_eq _ _ i

end Cert.Val

end
-- ==== Proof.LaterMixRun.lean ====
/-
  The run of an output projection: the weights are brought in at the first grid point and kept, and every point makes
  its block of the new residual and of its norm. Over any values.
-/
module

public import proofs.«01_k».proof.Proof.Gen.KernelLaterMixIdeal.Frame
public import proofs.«01_k».proof.Proof.Gen.KernelLaterMixIdeal.Skeleton
public import proofs.«01_k».proof.Proof.Ring
public import Idealize.ShloMosaic.Lib.VecWindow
public import Idealize.ShloMosaic.Lib.Pipeline.TableIdle
public import Idealize.ShloMosaic.Lib.Claim

@[expose] public section

set_option maxRecDepth 16384

noncomputable section

namespace Cert.KernelLaterMixIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelLaterMixIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The first point's condition: it fills the weights. -/
abbrev cond (i : grid0.Coords) : Prop := (Scalar.cmpi .ne (Scalar.extui (Scalar.cmpi .eq (BitVec.ofNat 32 (i 0).val) 0#32)) 0#32) = 1#1

/-- The weights in HBM. -/
abbrev hb : Memref sig .tc .hbm S2x4096x2048 .f32 := Memref.whole main_arg2

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

abbrev row0 : Rect S8x2048 := Rect.unit (s := S8x2048) ![0, 0] S1x2048.size inb_S8x2048_S1x2048_0_0

/-- The two halves of the weights. -/
abbrev lo : Rect S4096x2048 := Rect.unit (s := S4096x2048) ![0, 0] S2048x2048.size inb_S4096x2048_S2048x2048_0_0
abbrev hi : Rect S4096x2048 := Rect.unit (s := S4096x2048) ![2048, 0] S2048x2048.size inb_S4096x2048_S2048x2048_2048_0

/-- The new residual's block made at a point, from the weights in the scratch. -/
def madeR (x0 : Vec F S512x2048 .bf16) (x1 : Vec F S512x2048 .bf16) (x2 : Vec F S512x2048 .f32) (x3 : Vec F S8x2048 .f32) (xw : Vec F S4096x2048 .bf16) : Vec F S512x2048 .f32 :=
  k0_pay3 x2 x0 (View.ld xw lo) x1 (View.ld xw hi)
/-- The normed block made at a point, from the weights in the scratch. -/
def madeN (x0 : Vec F S512x2048 .bf16) (x1 : Vec F S512x2048 .bf16) (x2 : Vec F S512x2048 .f32) (x3 : Vec F S8x2048 .f32) (xw : Vec F S4096x2048 .bf16) : Vec F S512x2048 .bf16 :=
  k0_pay4 x2 x0 (View.ld xw lo) x1 (View.ld xw hi) (View.ld x3 row0)

section body

variable (c : Dev nD) (i : grid0.Coords) (arg1 : Memref sig .tc .vmem S512x2048 .bf16) (harg1 : arg1.IsWhole) (arg2 : Memref sig .tc .vmem S512x2048 .bf16) (harg2 : arg2.IsWhole) (arg4 : Memref sig .tc .vmem S512x2048 .f32) (harg4 : arg4.IsWhole) (arg5 : Memref sig .tc .vmem S8x2048 .f32) (harg5 : arg5.IsWhole) (arg6 : Memref sig .tc .vmem S512x2048 .f32) (harg6 : arg6.IsWhole) (arg7 : Memref sig .tc .vmem S512x2048 .bf16) (harg7 : arg7.IsWhole) (arg8 : Memref sig .tc .vmem S4096x2048 .bf16) (harg8 : arg8.IsWhole) (arg9 : Memref sig .tc .vmem S4x256x2048 .f32) (harg9 : arg9.IsWhole)
    (x0 : Vec F S512x2048 .bf16) (x1 : Vec F S512x2048 .bf16) (x2 : Vec F S512x2048 .f32) (x3 : Vec F S8x2048 .f32) (fh0 : HbBuf (F := F) c hb)

/-- What the body is handed and gives back: the input blocks, the outputs' buffers, the weights' scratch, the staging
    slots at anything, the four counters at zero, and the weights in HBM. -/
def held (y1 y2 y3 : sProp 𝕄) : sProp 𝕄 :=
  iprop(owns (c : Thread nD τ) arg1 fullShare x0 ∗ owns (c : Thread nD τ) arg2 fullShare x1 ∗ owns (c : Thread nD τ) arg4 fullShare x2 ∗ owns (c : Thread nD τ) arg5 fullShare x3 ∗ y1 ∗ y2 ∗ y3 ∗ (∃ d, owns (c : Thread nD τ) arg9 fullShare d) ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ hbPt c hb fh0)

set_option maxHeartbeats 8000000 in set_option sl_exec.dmaWindow true in set_option sl_exec.dmaWindowSet true in
/-- The first point fills the weights and uses them. -/
theorem first_step (hc0 : cond i) (W : Waits sig Unit) (K : PUnit → sProp 𝕄) :
    iprop(held c arg1 arg2 arg4 arg5 arg9 x0 x1 x2 x3 fh0 iprop(∃ d, owns (c : Thread nD τ) arg6 fullShare d) iprop(∃ d, owns (c : Thread nD τ) arg7 fullShare d)
        iprop(∃ d, owns (c : Thread nD τ) arg8 fullShare d) ∗ owes (c : Thread nD τ) 0 W
      ∗ (iprop(held c arg1 arg2 arg4 arg5 arg9 x0 x1 x2 x3 fh0 (owns (c : Thread nD τ) arg6 fullShare (madeR x0 x1 x2 x3 (Ring.wt 1 (hb.view.read (Elt F) fh0))))
          (owns (c : Thread nD τ) arg7 fullShare (madeN x0 x1 x2 x3 (Ring.wt 1 (hb.view.read (Elt F) fh0))))
          (owns (c : Thread nD τ) arg8 fullShare (Ring.wt 1 (hb.view.read (Elt F) fh0))) ∗ (∃ W', owes (c : Thread nD τ) 0 W')) -∗ K ⟨⟩))
    ⊢ wp frame (wpE (defs₀ (F := F)) Variants.none c none) Set.univ (cc0_outproj i arg1 harg1 arg2 harg2 (Memref.whole main_arg2) (Memref.isWhole_whole _) arg4 harg4 arg5 harg5 arg6 harg6 arg7 harg7 arg8 harg8 arg9 harg9 cc0_scratch2) K := by
  simp only [cc0_outproj_eq_skeleton]; unfold cc0_outproj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold held owns
  iintro ⟨⟨⟨%f0, %hf0, H0⟩, ⟨%f1, %hf1, H1⟩, ⟨%f2, %hf2, H2⟩, ⟨%f3, %hf3, H3⟩, ⟨%d1, %g1, -, G1⟩, ⟨%d2, %g2, -, G2⟩, ⟨%ds0, %fs0, -, HS0⟩, ⟨%ds1, %fs1, -, HS1⟩, Hq0, Hq1, Hq2, Hq3, Hh0⟩, HW, Hk⟩
  obtain rfl := harg1.eq_unread hf0; obtain rfl := harg2.eq_unread hf1; obtain rfl := harg4.eq_unread hf2; obtain rfl := harg5.eq_unread hf3
  sl_exec (disch := first | sl_exact hc0)
  sl_step
  have hw : ∀ f, arg8.view.read (Elt F) (arg8.view.writes (Elt F) f (first_step.sl.HS0_16 c arg9 fh0 fs1)) = Ring.wt 1 (hb.view.read (Elt F) fh0) := fun f => by
    refine Ring.read_pieces _ _ _ _ ?_ (View.cover_of_tiledL (first_step.sl.HS0_16 c arg9 fh0 fs1) S256x2048.size (by sl_kernel_rfl))
    intro p hp
    unfold first_step.sl.HS0_16 at hp
    simp only [List.mem_cons, List.not_mem_nil, or_false] at hp
    rcases hp with rfl | rfl | rfl | rfl | rfl | rfl | rfl | rfl | rfl | rfl | rfl | rfl | rfl | rfl | rfl | rfl
    all_goals
      intro x
      dsimp only [k0_pay1, k0_pay2, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, first_step.sl.v299, first_step.sl.v311, first_step.sl.v59, first_step.sl.v77, first_step.sl.v95, first_step.sl.v113, first_step.sl.v131, first_step.sl.v149, first_step.sl.v167, first_step.sl.v185, first_step.sl.v203, first_step.sl.v221, first_step.sl.v239, first_step.sl.v257, first_step.sl.v275, first_step.sl.v287, first_step.sl.r, first_step.sl.r_1, first_step.sl.r_2, first_step.sl.r_3]
      rw [Idealize.ShloMosaic.shapeCast_self]
      refine Ring.piece arg9 hb 1 _ _ _ (fun _ => rfl) squeezes_S1x256x2048_S256x2048 (by decide) (fun _ => rfl) _ _ _ _ fh0 ?_ x
      repeat rw [Ring.slot_other _ (by decide) _ _ (fun _ => rfl) (fun _ => rfl) squeezes_S1x256x2048_S256x2048 squeezes_S1x256x2048_S256x2048]
      exact View.read_write_univ _ _
  iapply Hk
  isplitr [HW]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg4.read_unread _
      iexact H2
    isplitl [H3]
    · iexists _; isplitr; · ipureintro; exact harg5.read_unread _
      iexact H3
    isplitl [G1]
    · iexists _; isplitr
      swap; · iexact G1
      ipureintro
      rw [View.read_writes_full]
      unfold first_step.sl.v5 first_step.sl.v9 View.readCov madeR
      rw [View.readAt_full, View.readAt_full, View.readAt_full, hf0, hf1, hf2, View.readAt_eq_ld, View.readAt_eq_ld, hw]
    isplitl [G2]
    · iexists _; isplitr
      swap; · iexact G2
      ipureintro
      rw [View.read_writes_full]
      unfold first_step.sl.v5 first_step.sl.v9 View.readCov madeN
      rw [View.readAt_full, View.readAt_full, View.readAt_full, hf0, hf1, hf2, View.readAt_eq_ld, View.readAt_eq_ld, View.readAt_eq_ld, hw, hf3]
    isplitl [HS0]
    · iexists _; isplitr
      swap; · iexact HS0
      ipureintro; exact hw _
    isplitl [HS1]
    · iexists _; iexists _; isplitr
      swap; · iexact HS1
      ipureintro; rfl
    isplitl [Hq0]; · iexact Hq0
    isplitl [Hq1]; · iexact Hq1
    isplitl [Hq2]; · iexact Hq2
    isplitl [Hq3]; · iexact Hq3
    iexact Hh0
  iexists _; iexact HW

set_option maxHeartbeats 1000000 in
/-- Every later point uses the weights it finds. -/
theorem next_step (hc0 : ¬cond i) (xw : Vec F S4096x2048 .bf16) (W : Waits sig Unit) (K : PUnit → sProp 𝕄) :
    iprop(held c arg1 arg2 arg4 arg5 arg9 x0 x1 x2 x3 fh0 iprop(∃ d, owns (c : Thread nD τ) arg6 fullShare d) iprop(∃ d, owns (c : Thread nD τ) arg7 fullShare d)
        (owns (c : Thread nD τ) arg8 fullShare xw) ∗ owes (c : Thread nD τ) 0 W
      ∗ (iprop(held c arg1 arg2 arg4 arg5 arg9 x0 x1 x2 x3 fh0 (owns (c : Thread nD τ) arg6 fullShare (madeR x0 x1 x2 x3 xw)) (owns (c : Thread nD τ) arg7 fullShare (madeN x0 x1 x2 x3 xw))
          (owns (c : Thread nD τ) arg8 fullShare xw) ∗ (∃ W', owes (c : Thread nD τ) 0 W')) -∗ K ⟨⟩))
    ⊢ wp frame (wpE (defs₀ (F := F)) Variants.none c none) Set.univ (cc0_outproj i arg1 harg1 arg2 harg2 (Memref.whole main_arg2) (Memref.isWhole_whole _) arg4 harg4 arg5 harg5 arg6 harg6 arg7 harg7 arg8 harg8 arg9 harg9 cc0_scratch2) K := by
  simp only [cc0_outproj_eq_skeleton]; unfold cc0_outproj_skel
  unfold held owns
  iintro ⟨⟨⟨%f0, %hf0, H0⟩, ⟨%f1, %hf1, H1⟩, ⟨%f2, %hf2, H2⟩, ⟨%f3, %hf3, H3⟩, ⟨%d1, %g1, -, G1⟩, ⟨%d2, %g2, -, G2⟩, ⟨%fs0, %hs0, HS0⟩, HS1, Hq0, Hq1, Hq2, Hq3, Hh0⟩, HW, Hk⟩
  obtain rfl := harg1.eq_unread hf0; obtain rfl := harg2.eq_unread hf1; obtain rfl := harg4.eq_unread hf2; obtain rfl := harg5.eq_unread hf3; obtain rfl := harg8.eq_unread hs0
  sl_exec (disch := first | sl_exact hc0)
  sl_step
  iapply Hk
  isplitr [HW]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg4.read_unread _
      iexact H2
    isplitl [H3]
    · iexists _; isplitr; · ipureintro; exact harg5.read_unread _
      iexact H3
    isplitl [G1]
    · iexists _; isplitr
      swap; · iexact G1
      ipureintro
      rw [View.read_writes_full]
      unfold madeR
      rw [View.readAt_full, View.readAt_full, View.readAt_full, hf0, hf1, hf2, View.readAt_eq_ld, View.readAt_eq_ld, hs0]
    isplitl [G2]
    · iexists _; isplitr
      swap; · iexact G2
      ipureintro
      rw [View.read_writes_full]
      unfold madeN
      rw [View.readAt_full, View.readAt_full, View.readAt_full, hf0, hf1, hf2, View.readAt_eq_ld, View.readAt_eq_ld, View.readAt_eq_ld, hs0, hf3]
    isplitl [HS0]
    · iexists _; isplitr
      swap; · iexact HS0
      ipureintro; exact harg8.read_unread _
    isplitl [HS1]; · iexact HS1
    isplitl [Hq0]; · iexact Hq0
    isplitl [Hq1]; · iexact Hq1
    isplitl [Hq2]; · iexact Hq2
    isplitl [Hq3]; · iexact Hq3
    iexact Hh0
  iexists _; iexact HW

end body

/-! ## The launch: the body's own counters and the weights left in HBM -/

abbrev sc0 : Memref sig .tc .vmem S4096x2048 .bf16 := Memref.whole cc0_scratch0
abbrev sc1 : Memref sig .tc .vmem S4x256x2048 .f32 := Memref.whole cc0_scratch1
abbrev osem : Fin 4 → SemLoc sig := fun j => (![SemLoc.dma 11, SemLoc.dma 12, SemLoc.dma 13, SemLoc.dma 14] : Fin 4 → SemLoc sig) j
theorem ownSemFacts : Pipeline.OwnSemFacts spec0 osem := by decide
def H0 : Finset (Ref sig .tc) := {main_arg2}
theorem H0_sub : H0 ⊆ Pipeline.restRefs sig spec0 := by decide

/-- The weights as the region finds them. -/
abbrev wts (c : Dev nD) : Vec F S2x4096x2048 .f32 := hb.view.read (Elt F) (V m c main_arg2)

/-- Counters, register and weights, as every point finds and leaves them. -/
def rest (c : Dev nD) : sProp 𝕄 :=
  iprop((∃ r, prngReg c r) ∗ iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0) ∗ iprop(hbPt c hb (V m c main_arg2)))

theorem PhiD_eq (c : Dev nD) :
    (Pipeline.ΦD osem spec0 H0 (V m) c : sProp 𝕄)
      = iprop(iprop((∃ d, owns (c : Thread nD τ) sc0 fullShare d) ∗ (∃ d, owns (c : Thread nD τ) sc1 fullShare d)) ∗ rest m c) := by
  have h1 : (Pipeline.ownSems0 (Ix := Unit) (Name := ℕ) (U := Pipeline.UD sig nD τ) (Lvl := ℕ) (Val := Elt F) (τ := τ) osem c : sProp 𝕄)
      = iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0) := by
    rw [Pipeline.ownSems0_eq_of_list c osem [0, 1, 2, 3] (by decide) (by decide)]; rfl
  have h2 : (bigSep H0 (fun b => ((c : Thread nD τ).loc b) ↦{fullShare} V m c b) : sProp 𝕄) = iprop(hbPt c hb (V m c main_arg2)) := by
    rw [BI.bigSep_eq_bigSepL_of_eq [main_arg2] (by decide) (by decide)]; rfl
  unfold rest
  rw [Pipeline.ΦD_eq, scopedRest0_eq, h1, h2]; simp only [sc0, sc1, owns_whole]; try rfl

/-- Before a point: at the first the launch's invariant, later the weights filled in. -/
def Phi (c : Dev nD) : ℕ → sProp 𝕄
  | 0 => Pipeline.ΦD osem spec0 H0 (V m) c
  | _ + 1 => iprop(iprop(owns (c : Thread nD τ) sc0 fullShare (Ring.wt 1 (wts m c)) ∗ (∃ d, owns (c : Thread nD τ) sc1 fullShare d)) ∗ rest m c)

theorem Phi_pos (c : Dev nD) (n : ℕ) (h : n ≠ 0) :
    Phi m c n = iprop(iprop(owns (c : Thread nD τ) sc0 fullShare (Ring.wt 1 (wts m c)) ∗ (∃ d, owns (c : Thread nD τ) sc1 fullShare d)) ∗ rest m c) := by
  cases n with
  | zero => exact absurd rfl h
  | succ n => rfl

theorem cond_iff : ∀ t : Fin cfg0.N, cond (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    simp only [cond, e0]
    word_cmp
   : ∀ t : Fin grid0.N, cond (grid0.coords t) ↔ t.val = 0)

/-- The proof data: inputs stay, the output's buffer is the block made. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => madeR (iblk m c 0 t) (iblk m c 1 t) (iblk m c 2 t) (iblk m c 3 t) (Ring.wt 1 (wts m c))
    | ⟨5, _⟩ => madeN (iblk m c 0 t) (iblk m c 1 t) (iblk m c 2 t) (iblk m c 3 t) (Ring.wt 1 (wts m c))
  Φ t := Phi m c t.val
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = madeR (iblk m c 0 t) (iblk m c 1 t) (iblk m c 2 t) (iblk m c 3 t) (Ring.wt 1 (wts m c)) := by dsimp only [dats]
theorem after5 (c : Dev nD) (t : Fin cfg0.N) : (dats m 0 c).after 5 t = madeN (iblk m c 0 t) (iblk m c 1 t) (iblk m c 2 t) (iblk m c 3 t) (Ring.wt 1 (wts m c)) := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-- The launch's facts with any user algebra: the kit states them at the one without counters of the body's own. -/
theorem main_prefix (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 1600000 in
/-- The library's body obligation, at every point. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  refine triple_restated (P := iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))))
    (Q := fun _ => iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))) ?_ rfl .rfl fun _ => .rfl
  unfold bodyAt0
  simp only [before0, before1, before2, before3, after0, after1, after2, after3, after4, after5]
  rw [show (dats m 0 c).Φ t.succ = Phi m c (t.val + 1) from rfl, show (dats m 0 c).Φ t.castSucc = Phi m c t.val from rfl,
    Phi_pos m c (t.val + 1) (Nat.succ_ne_zero _)]
  unfold Dat.owesAt Pipeline.owesWithin
  rw [show (dats m 0 c).owed t.castSucc = 0 from rfl, show (dats m 0 c).owed t.succ = 0 from rfl]
  by_cases hz : t.val = 0
  · rw [hz, show Phi m c 0 = Pipeline.ΦD osem spec0 H0 (V m) c from rfl, PhiD_eq]
    unfold rest
    iintro ⟨⟨⟨HS0, HS1⟩, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩⟩
    iapply (first_step c (grid0.coords t) _ _ _ _ _ _ _ _ _ _ _ _ _ _ _ _ (iblk m c 0 t) (iblk m c 1 t) (iblk m c 2 t) (iblk m c 3 t) (V m c main_arg2) ((cond_iff t).mpr hz) W _)
    unfold held
    isplitl [H0 H1 H2 H3 H4 H5 HS0 HS1 Hq0 Hq1 Hq2 Hq3 Hh0]
    · isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      isplitl [Hq0]; · iexact Hq0
      isplitl [Hq1]; · iexact Hq1
      isplitl [Hq2]; · iexact Hq2
      isplitl [Hq3]; · iexact Hq3
      iexact Hh0
    isplitl [HW]; · iexact HW
    iintro ⟨⟨H0, H1, H2, H3, H4, H5, HS0, HS1, Hq0, Hq1, Hq2, Hq3, Hh0⟩, ⟨%W', HW'⟩⟩
    isplitl [HS0 HS1 Hg Hq0 Hq1 Hq2 Hq3 Hh0]
    · isplitl [HS0 HS1]
      · isplitl [HS0]; · iexact HS0
        iexact HS1
      isplitl [Hg]; · iexact Hg
      isplitl [Hq0 Hq1 Hq2 Hq3]
      · isplitl [Hq0]; · iexact Hq0
        isplitl [Hq1]; · iexact Hq1
        isplitl [Hq2]; · iexact Hq2
        iexact Hq3
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    iexact H5
  · rw [Phi_pos m c t.val hz]
    unfold rest
    iintro ⟨⟨⟨HS0, HS1⟩, Hg, ⟨Hq0, Hq1, Hq2, Hq3⟩, Hh0⟩, ⟨%W, -, HW⟩, ⟨%d0, H0⟩, ⟨%d1, H1⟩, ⟨%d2, H2⟩, ⟨%d3, H3⟩, ⟨%d4, H4⟩, ⟨%d5, H5⟩⟩
    iapply (next_step c (grid0.coords t) _ _ _ _ _ _ _ _ _ _ _ _ _ _ _ _ (iblk m c 0 t) (iblk m c 1 t) (iblk m c 2 t) (iblk m c 3 t) (V m c main_arg2) (fun h => hz ((cond_iff t).mp h)) (Ring.wt 1 (wts m c)) W _)
    unfold held
    isplitl [H0 H1 H2 H3 H4 H5 HS0 HS1 Hq0 Hq1 Hq2 Hq3 Hh0]
    · isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      isplitl [Hq0]; · iexact Hq0
      isplitl [Hq1]; · iexact Hq1
      isplitl [Hq2]; · iexact Hq2
      isplitl [Hq3]; · iexact Hq3
      iexact Hh0
    isplitl [HW]; · iexact HW
    iintro ⟨⟨H0, H1, H2, H3, H4, H5, HS0, HS1, Hq0, Hq1, Hq2, Hq3, Hh0⟩, ⟨%W', HW'⟩⟩
    isplitl [HS0 HS1 Hg Hq0 Hq1 Hq2 Hq3 Hh0]
    · isplitl [HS0 HS1]
      · isplitl [HS0]; · iexact HS0
        iexact HS1
      isplitl [Hg]; · iexact Hg
      isplitl [Hq0 Hq1 Hq2 Hq3]
      · isplitl [Hq0]; · iexact Hq0
        isplitl [Hq1]; · iexact Hq1
        isplitl [Hq2]; · iexact Hq2
        iexact Hq3
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    iexact H5

theorem enters (c : Dev nD) : Pipeline.ΦD osem spec0 H0 (V m) c ⊢ (dats m 0 c).Φ 0 := by
  rw [show (dats m 0 c).Φ 0 = Pipeline.ΦD osem spec0 H0 (V m) c from rfl]

theorem leaves (c : Dev nD) : (dats m 0 c).Φ (Fin.last cfg0.N) ⊢ Pipeline.ΦD osem spec0 H0 (V m) c := by
  rw [show (dats m 0 c).Φ (Fin.last cfg0.N) = Phi m c cfg0.N from rfl, Phi_pos m c _ (by have : cfg0.N = 16 := N_0; omega), PhiD_eq]
  iintro ⟨⟨HS0, HS1⟩, Hr⟩
  isplitl [HS0 HS1]
  · isplitl [HS0]
    · iexists _; iexact HS0
    iexact HS1
  iexact Hr

/-! ## The run and the frame -/

set_option backward.isDefEq.respectTransparency.types false in
/-- Every fair execution ends, with the arrays as the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem defs₀ Variants.none ownSemFacts H0 H0_sub m ρ main
    (hbody := fun c => (body_obligation m c).loose) (hshare := fun c => (dats m 0 c).share_full fun _ => rfl)
    (howed := fun _ _ => rfl) (V := V m) (hmain := main_prefix m Variants.none) (hA := A_eq m)
    (hin := enters m) (hout := leaves m)

/-- The frame, for any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and ((θ_run defs _ _).mono (fun _ h c => ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (Pipeline.mem_restRefs_of main_arg2 (by decide) (by decide))).trans (V_main_arg2 m c),
      ((h.1 c).1 2).trans (((dats m 0 c).arrAt_in 2 rfl _).trans ((A_eq m c 2).trans (V_main_arg3 m c))),
      ((h.1 c).2 main_arg4 (Pipeline.mem_restRefs_of main_arg4 (by decide) (by decide))).trans (V_main_arg4 m c)⟩) (run_main_quiescent m ρ))
    ((θ_run defs _ _).mono (fun _ h => h.2) (run_main_quiescent m ρ))

end Cert.KernelLaterMixIdeal.Run

end
-- ==== Proof.LaterMix.lean ====
/-
  The value of the second even layer's output projection: the new residual is the residual and the projection, and the normed array is,
  row by row, the new residual over the root of the row's mean square, times the norm's weights.
-/
module

public import proofs.«01_k».proof.Proof.Norm
public import proofs.«01_k».proof.Proof.LaterMixRun
public import proofs.«01_k».proof.Proof.Gen.KernelLaterMix
public import proofs.«01_k».proof.Proof.Gen.ReferenceLaterMixIdeal.Run
public import proofs.«01_k».proof.Proof.Gen.ReferenceLaterMixIdeal.Read
public import proofs.«01_k».proof.Defs

@[expose] public section

noncomputable section

open scoped BigOperators
open Idealize.ShloMosaic Idealize.ShloMosaic.TcCoe Idealize.SL.Sem Idealize.ShloMosaic.ValueIdx
open Idealize.ShloMosaic.Pipeline (Dat)
open Cert.Lin Cert.Norm

namespace Cert.KernelLaterMixIdeal.Val

open Cert.KernelLaterMixIdeal Cert.KernelLaterMixIdeal.Gen Cert.KernelLaterMixIdeal.Run

variable (m : (ℓ : Loc nD τ sig) → Buf (Elt Ideal) ℓ) (ρ : Dev nD → PrngReg)

/-- One mixer's output as launched. -/
abbrev Y (c : Dev nD) : FVec Ideal S8192x2048 .bf16 := m ((c : Thread nD τ).loc main_arg0)
/-- The other mixer's output as launched. -/
abbrev Z (c : Dev nD) : FVec Ideal S8192x2048 .bf16 := m ((c : Thread nD τ).loc main_arg1)
/-- The weight stack as launched. -/
abbrev W (c : Dev nD) : FVec Ideal S2x4096x2048 .f32 := m ((c : Thread nD τ).loc main_arg2)
/-- The residual as launched. -/
abbrev R (c : Dev nD) : FVec Ideal S8192x2048 .f32 := m ((c : Thread nD τ).loc main_arg3)
/-- The norm's weights as launched. -/
abbrev N (c : Dev nD) : FVec Ideal S2048 .f32 := m ((c : Thread nD τ).loc main_arg4)

/-- The new residual, at natural coordinates. -/
def res (c : Dev nD) (t n : ℕ) : EReal := at2 (R m c) t n + lin2 (Y m c) (Z m c) (W m c) 1 t n

/-- The residual the call leaves. -/
def G (c : Dev nD) : FVec Ideal S8192x2048 .f32 := fun i => res m c (i 0).val (i 1).val
/-- The normed array the call leaves. -/
def G' (c : Dev nD) : FVec Ideal S8192x2048 .bf16 := fun i => nrm (res m c (i 0).val) (at1 (N m c)) (i 1).val

/-- Where the windows' blocks begin. -/
theorem idx : ∀ t : Fin cfg0.N, (win0_3.index t 0 = 0 ∧ win0_3.index t 1 = 0)
    ∧ (win0_0.index t 0 = t.val ∧ win0_0.index t 1 = 0)
    ∧ (win0_1.index t 0 = t.val ∧ win0_1.index t 1 = 0)
    ∧ (win0_2.index t 0 = t.val ∧ win0_2.index t 1 = 0)
    ∧ (win0_4.index t 0 = t.val ∧ win0_4.index t 1 = 0)
    ∧ (win0_5.index t 0 = t.val ∧ win0_5.index t 1 = 0) :=
  (by decide +kernel : ∀ t : Fin grid0.N, (win0_3.index t 0 = 0 ∧ win0_3.index t 1 = 0)
    ∧ (win0_0.index t 0 = t.val ∧ win0_0.index t 1 = 0)
    ∧ (win0_1.index t 0 = t.val ∧ win0_1.index t 1 = 0)
    ∧ (win0_2.index t 0 = t.val ∧ win0_2.index t 1 = 0)
    ∧ (win0_4.index t 0 = t.val ∧ win0_4.index t 1 = 0)
    ∧ (win0_5.index t 0 = t.val ∧ win0_5.index t 1 = 0))

/-- The mixer's block at a point. -/
theorem blk0 (c : Dev nD) (t : Fin cfg0.N) (y : S512x2048.Idx) :
    (iblk m c 0 t : FVec Ideal S512x2048 .bf16) y = at2 (Y m c) (t.val * 512 + (y 0).val) (y 1).val := by
  have hi := (idx t).2.1
  rw [← at2_eq (Y m c) ((win0_0.rect t).emb y)
    (by rw [win0_0.rect_emb_val t y 0, hi.1]; rfl) (by rw [win0_0.rect_emb_val t y 1, hi.2]; show 0 * 2048 + (y 1).val = _; omega)]
  unfold iblk
  rw [View.read_apply]
  show V m c main_arg0 _ = _
  rw [V_main_arg0]
  rfl

/-- The mixer's block at a point. -/
theorem blk1 (c : Dev nD) (t : Fin cfg0.N) (y : S512x2048.Idx) :
    (iblk m c 1 t : FVec Ideal S512x2048 .bf16) y = at2 (Z m c) (t.val * 512 + (y 0).val) (y 1).val := by
  have hi := (idx t).2.2.1
  rw [← at2_eq (Z m c) ((win0_1.rect t).emb y)
    (by rw [win0_1.rect_emb_val t y 0, hi.1]; rfl) (by rw [win0_1.rect_emb_val t y 1, hi.2]; show 0 * 2048 + (y 1).val = _; omega)]
  unfold iblk
  rw [View.read_apply]
  show V m c main_arg1 _ = _
  rw [V_main_arg1]
  rfl

/-- The residual's block at a point. -/
theorem blk2 (c : Dev nD) (t : Fin cfg0.N) (y : S512x2048.Idx) :
    (iblk m c 2 t : FVec Ideal S512x2048 .f32) y = at2 (R m c) (t.val * 512 + (y 0).val) (y 1).val := by
  have hi := (idx t).2.2.2.1
  rw [← at2_eq (R m c) ((win0_2.rect t).emb y)
    (by rw [win0_2.rect_emb_val t y 0, hi.1]; rfl) (by rw [win0_2.rect_emb_val t y 1, hi.2]; show 0 * 2048 + (y 1).val = _; omega)]
  unfold iblk
  rw [View.read_apply]
  show V m c main_arg3 _ = _
  rw [V_main_arg3]
  rfl

/-- The norm weights' row at a point. -/
theorem blk3 (c : Dev nD) (t : Fin cfg0.N) (y : S8x2048.Idx) (hy : (y 0).val = 0) :
    (iblk m c 3 t : FVec Ideal S8x2048 .f32) y = at1 (N m c) (y 1).val := by
  have hi := (idx t).1
  have e0 : ((win0_3.rect t).emb y 0).val = 0 := by
    rw [win0_3.rect_emb_val t y 0, hi.1]; show 0 * 8 + (y 0).val = 0; omega
  have e1 : ((win0_3.rect t).emb y 1).val = (y 1).val := by
    rw [win0_3.rect_emb_val t y 1, hi.2]; show 0 * 2048 + (y 1).val = _; omega
  have hV : (V m c main_v2 : FVec Ideal S8x2048 .f32)
      = concatenate S8x2048 0 [⟨S1x2048, broadcastInDim S1x2048 ![1] bcast_S2048_S1x2048_1 (N m c)⟩,
          ⟨S7x2048, broadcastInDim S7x2048 ![] bcast_S_S7x2048 (constant (F := Ideal) S_ .f32 0x00000000#32)⟩]
          concatenates_S1x2048_S7x2048_S8x2048_d0 := by
    show StableHlo.after hostOps0 (fun b => m (c, b)) (Proc.devRef .tc main_v2) = _
    after_results <;> rfl
  unfold iblk
  rw [View.read_apply]
  show V m c main_v2 _ = _
  rw [hV]
  refine (rows8_zero _ _ concatenates_S1x2048_S7x2048_S8x2048_d0 ((win0_3.rect t).emb y) e0).trans ?_
  refine (row_apply _ bcast_S2048_S1x2048_1 _).trans ?_
  exact at1_eq (N m c) _ e1

/-- The weights a point multiplies by. -/
theorem wts_eq (c : Dev nD) (y : S4096x2048.Idx) :
    Ring.wt (F := Ideal) 1 (wts m c) y = at3 (W m c) 1 (y 0).val (y 1).val := by
  have e : (wts m c : FVec Ideal S2x4096x2048 .f32) = W m c := by
    unfold wts
    rw [V_main_arg2]
    rfl
  rw [e]
  exact at3_eq (W m c) (ix3 1 (y 0 : Fin 4096) (y 1 : Fin 2048)) rfl rfl rfl

/-- The new residual's block at a point. -/
theorem res_blk (c : Dev nD) (t : Fin cfg0.N) (y : S512x2048.Idx) :
    madeR (F := Ideal) (iblk m c 0 t) (iblk m c 1 t) (iblk m c 2 t) (iblk m c 3 t) (Ring.wt 1 (wts m c)) y = res m c (t.val * 512 + (y 0).val) (y 1).val := by
  unfold madeR k0_pay3
  refine Eq.trans ?_ (add_assoc _ _ _)
  refine congrArg₂ (· + ·) (congrArg₂ (· + ·) (blk2 m c t y) ((matmul_p (φ₁ := .bf16) (φ₂ := .bf16) _ _ y).trans ?_))
    ((matmul_p (φ₁ := .bf16) (φ₂ := .bf16) _ _ y).trans ?_)
  · refine Finset.sum_congr rfl fun k _ => congrArg₂ (· * ·) (blk0 m c t (ix2 (y 0 : Fin 512) k)) ?_
    refine (wts_eq m c (lo.emb (ix2 k (y 1 : Fin 2048)))).trans (congrArg₂ (at3 (W m c) 1) ?_ ?_)
    · show 0 + 1 * k.val = k.val; omega
    · show 0 + 1 * (y 1).val = (y 1).val; omega
  · refine Finset.sum_congr rfl fun k _ => congrArg₂ (· * ·) (blk1 m c t (ix2 (y 0 : Fin 512) k)) ?_
    refine (wts_eq m c (hi.emb (ix2 k (y 1 : Fin 2048)))).trans (congrArg₂ (at3 (W m c) 1) ?_ ?_)
    · show 2048 + 1 * k.val = 2048 + k.val; omega
    · show 0 + 1 * (y 1).val = (y 1).val; omega

/-- The normed block at a point. -/
theorem nrm_blk (c : Dev nD) (t : Fin cfg0.N) (y : S512x2048.Idx) :
    madeN (F := Ideal) (iblk m c 0 t) (iblk m c 1 t) (iblk m c 2 t) (iblk m c 3 t) (Ring.wt 1 (wts m c)) y
      = nrm (res m c (t.val * 512 + (y 0).val)) (at1 (N m c)) (y 1).val := by
  unfold madeN k0_pay4
  exact rows_apply (madeR (F := Ideal) (iblk m c 0 t) (iblk m c 1 t) (iblk m c 2 t) (iblk m c 3 t) (Ring.wt 1 (wts m c)))
    _ reduces_S512x2048_S512 (.inl rfl) rfl shapeCasts_S512_S512x1 broadcasts_S512x1_S512x2048
    shapeCasts_S1x2048_S1x2048 broadcasts_S1x2048_S512x2048 y _ _
    (fun k => res_blk m c t (ix2 (y 0 : Fin 512) k)) (blk3 m c t (row0.emb (ix2 0 (y 1 : Fin 2048))) rfl |>.trans (congrArg _ (by
      show 0 + 1 * (y 1).val = (y 1).val; omega)))

/-- What a point writes back is its block of the residual. -/
theorem flushed4 (c : Dev nD) (t : Fin cfg0.N) :
    (dats m 0 c).flushed 4 t = ((cfg0.win 4).blk t).view.read (Elt Ideal) (G m c) := by
  show (cfg0.win 4).cut (grid0.coords t) ((dats m 0 c).after 4 t) = _
  rw [after4]
  funext y
  have hi := (idx t).2.2.2.2.1
  refine (res_blk m c t y).trans ?_
  rw [View.read_apply]
  have e0 : ((win0_4.rect t).emb y 0).val = t.val * 512 + (y 0).val := by
    rw [win0_4.rect_emb_val t y 0, hi.1]; rfl
  have e1 : ((win0_4.rect t).emb y 1).val = (y 1).val := by
    rw [win0_4.rect_emb_val t y 1, hi.2]; show 0 * 2048 + (y 1).val = _; omega
  show _ = res m c ((win0_4.rect t).emb y 0).val ((win0_4.rect t).emb y 1).val
  rw [e0, e1]

/-- The blocks tile the residual. -/
theorem final4 (c : Dev nD) : (dats m 0 c).arrAt 4 cfg0.N = G m c :=
  (dats m 0 c).arrAt_eq_of_cover 4 (G m c) (fun t _ => flushed4 m c t) fun i => by
    have h0 : (i 0 : Nat) < 8192 := (i 0).isLt
    have h1 : (i 1 : Nat) < 2048 := (i 1).isLt
    have hN : cfg0.N = 16 := N_0
    refine ⟨⟨(i 0 : Nat) / 512, by rw [hN]; omega⟩, flush0_4 _, ?_⟩
    generalize hT : (⟨(i 0 : Nat) / 512, _⟩ : Fin cfg0.N) = t
    have ht : t.val = (i 0 : Nat) / 512 := by rw [← hT]
    have hi := (idx t).2.2.2.2.1
    show i ∈ ((View.whole main_v3_0).slice (win0_4.rect t)).set
    rw [View.set_slice_whole, Rect.mem_set_unit]
    intro a
    match a with
    | ⟨0, _⟩ =>
      show win0_4.index t 0 * 512 ≤ (i 0 : Nat) ∧ (i 0 : Nat) < win0_4.index t 0 * 512 + 512
      rw [hi.1]; omega
    | ⟨1, _⟩ =>
      show win0_4.index t 1 * 2048 ≤ (i 1 : Nat) ∧ (i 1 : Nat) < win0_4.index t 1 * 2048 + 2048
      rw [hi.2]; omega

/-- What a point writes back is its block of the normed array. -/
theorem flushed5 (c : Dev nD) (t : Fin cfg0.N) :
    (dats m 0 c).flushed 5 t = ((cfg0.win 5).blk t).view.read (Elt Ideal) (G' m c) := by
  show (cfg0.win 5).cut (grid0.coords t) ((dats m 0 c).after 5 t) = _
  rw [after5]
  funext y
  have hi := (idx t).2.2.2.2.2
  refine (nrm_blk m c t y).trans ?_
  rw [View.read_apply]
  have e0 : ((win0_5.rect t).emb y 0).val = t.val * 512 + (y 0).val := by
    rw [win0_5.rect_emb_val t y 0, hi.1]; rfl
  have e1 : ((win0_5.rect t).emb y 1).val = (y 1).val := by
    rw [win0_5.rect_emb_val t y 1, hi.2]; show 0 * 2048 + (y 1).val = _; omega
  show _ = nrm (res m c ((win0_5.rect t).emb y 0).val) (at1 (N m c)) ((win0_5.rect t).emb y 1).val
  rw [e0, e1]

/-- The blocks tile the normed array. -/
theorem final5 (c : Dev nD) : (dats m 0 c).arrAt 5 cfg0.N = G' m c :=
  (dats m 0 c).arrAt_eq_of_cover 5 (G' m c) (fun t _ => flushed5 m c t) fun i => by
    have h0 : (i 0 : Nat) < 8192 := (i 0).isLt
    have h1 : (i 1 : Nat) < 2048 := (i 1).isLt
    have hN : cfg0.N = 16 := N_0
    refine ⟨⟨(i 0 : Nat) / 512, by rw [hN]; omega⟩, flush0_5 _, ?_⟩
    generalize hT : (⟨(i 0 : Nat) / 512, _⟩ : Fin cfg0.N) = t
    have ht : t.val = (i 0 : Nat) / 512 := by rw [← hT]
    have hi := (idx t).2.2.2.2.2
    show i ∈ ((View.whole main_v3_1).slice (win0_5.rect t)).set
    rw [View.set_slice_whole, Rect.mem_set_unit]
    intro a
    match a with
    | ⟨0, _⟩ =>
      show win0_5.index t 0 * 512 ≤ (i 0 : Nat) ∧ (i 0 : Nat) < win0_5.index t 0 * 512 + 512
      rw [hi.1]; omega
    | ⟨1, _⟩ =>
      show win0_5.index t 1 * 2048 ≤ (i 1 : Nat) ∧ (i 1 : Nat) < win0_5.index t 1 * 2048 + 2048
      rw [hi.2]; omega

end Cert.KernelLaterMixIdeal.Val

namespace Cert.ReferenceLaterMixIdeal.Val

open Cert.ReferenceLaterMixIdeal Cert.ReferenceLaterMixIdeal.Gen Cert.ReferenceLaterMixIdeal.Read

/-- The reference's new residual, entry by entry. -/
theorem res_eq (x z : FVec Ideal S8192x2048 .bf16) (w : FVec Ideal S2x4096x2048 .f32) (r : FVec Ideal S8192x2048 .f32) (i : S8192x2048.Idx) :
    val_main_v5 (F := Ideal) x z w r i = at2 r (i 0).val (i 1).val + lin2 x z w 1 (i 0).val (i 1).val := by
  have hw : ∀ k : Fin 4096, val_main_v3 (F := Ideal) w (ridx_main_v4 i k) = at3 w 1 k.val (i 1).val := fun k => by
    rw [val_main_v3_apply, val_main_v2_apply]
    have h1 : (i 1 : Nat) < 2048 := (i 1).isLt
    have hk := k.isLt
    refine at3_eq w _ rfl ?_ ?_
    · show (k.val * 2048 + (i 1).val) / 2048 % 4096 = k.val; omega
    · show (k.val * 2048 + (i 1).val) % 2048 = _; omega
  rw [val_main_v5_apply]
  refine congrArg₂ (· + ·) (at2_eq r i rfl rfl) ?_
  rw [val_main_v4_apply]
  refine (Fin.sum_univ_add (a := 2048) (b := 2048) _).trans ?_
  unfold lin2
  refine congrArg₂ (· + ·) ?_ ?_
  · refine Finset.sum_congr rfl fun k _ => congrArg₂ (· * ·) ?_ (hw _)
    rw [val_main_v1_apply]
    refine Eq.trans ?_ (at2_eq x (ix2 (i 0) k) rfl rfl)
    exact concatenate_pair_apply_left 1 x z concatenates_S8192x2048_S8192x2048_S8192x4096_d1 _ rfl _
      (fun b => match b with | ⟨0, _⟩ => rfl | ⟨1, _⟩ => rfl)
  · refine Finset.sum_congr rfl fun k _ => congrArg₂ (· * ·) ?_ (hw _)
    rw [val_main_v1_apply]
    refine Eq.trans ?_ (at2_eq z (ix2 (i 0) k) rfl rfl)
    exact concatenate_pair_apply_right 1 x z concatenates_S8192x2048_S8192x2048_S8192x4096_d1 _ rfl rfl _
      (fun b => match b with | ⟨0, _⟩ => fun _ => rfl | ⟨1, _⟩ => fun hb => absurd rfl hb) (by show k.val + 2048 = 2048 + k.val; omega)

/-- The reference's normed array, entry by entry. -/
theorem val_eq (x z : FVec Ideal S8192x2048 .bf16) (w : FVec Ideal S2x4096x2048 .f32) (r : FVec Ideal S8192x2048 .f32) (nw : FVec Ideal S2048 .f32) (i : S8192x2048.Idx) :
    val_main_v19 (F := Ideal) x z w r nw i = nrm (fun n => at2 r (i 0).val n + lin2 x z w 1 (i 0).val n) (at1 nw) (i 1).val := by
  have hs : val_main_v7 (F := Ideal) x z w r (idx_main_v8 (idx_main_v14 i)) = ∑ k : Fin 2048,
      (at2 r (i 0).val k.val + lin2 x z w 1 (i 0).val k.val) * (at2 r (i 0).val k.val + lin2 x z w 1 (i 0).val k.val) := by
    rw [val_main_v7_apply]
    refine (congrArg (· + _) (Ideal.ofBits_zero_f32 : val_main_cst (F := Ideal) _ = 0)).trans ((zero_add _).trans ?_)
    refine Finset.sum_congr rfl fun k _ => ?_
    rw [val_main_v6_apply, res_eq]
    rfl
  rw [val_main_v19_apply, val_main_v18_apply, val_main_v15_apply, val_main_v14_apply, val_main_v13_apply, val_main_v12_apply, val_main_v10_apply,
    val_main_v8_apply, val_main_v9_apply, val_main_v11_apply, val_main_v17_apply, val_main_v16_apply, hs, res_eq]
  unfold nrm
  refine congrArg₂ (· * ·) rfl ?_
  exact at1_eq nw _ rfl

end Cert.ReferenceLaterMixIdeal.Val

namespace Cert.Val

/-- The compiled program's body table is the ideal one's. -/
theorem later_mix_rows : Cert.KernelLaterMix.defs₀ (F := Bits) = Cert.KernelLaterMixIdeal.defs₀ (F := Bits) := by
  unfold Cert.KernelLaterMix.defs₀ Cert.KernelLaterMixIdeal.defs₀
  refine congrArg Defs.onTc (funext fun l => funext fun a => ?_)
  obtain ⟨n, h⟩ := l
  cases n with
  | zero => rfl
  | succ n => exact absurd h (Nat.not_lt.2 (Nat.le_add_left _ _))
theorem later_mix_defs : Cert.KernelLaterMix.defs (F := Bits) = Cert.KernelLaterMixIdeal.defs (F := Bits) := by
  unfold Cert.KernelLaterMix.defs Cert.KernelLaterMixIdeal.defs
  rw [later_mix_rows]
  rfl

/-- The run of the second even layer's output projection as compiled. -/
theorem later_mix_frame_bits : Cert.quiescent_KernelLaterMix := fun m ρ _ => by
  rw [later_mix_defs]
  exact KernelLaterMixIdeal.Run.frame (F := Bits) m ρ

/-- The run of the second even layer's output projection over the reals. -/
theorem later_mix_frame : Cert.quiescent_KernelLaterMixIdeal := fun m ρ _ => KernelLaterMixIdeal.Run.frame (F := Ideal) m ρ

/-- The second even layer's output projection, residual and norm. -/
theorem later_mix : Cert.algebraic_KernelLaterMixIdeal_ReferenceLaterMixIdeal := by
  intro m g m' g' _ hag
  refine ⟨fun c => KernelLaterMixIdeal.Val.G m c, fun c => KernelLaterMixIdeal.Val.G' m c, ?_, ?_⟩
  · exact (θ_run Cert.KernelLaterMixIdeal.defs _ _).mono
      (fun r h c => ⟨((h.1.1 c).1 4).trans (KernelLaterMixIdeal.Val.final4 m c), ((h.1.1 c).1 5).trans (KernelLaterMixIdeal.Val.final5 m c), h.2.1 c⟩)
      (θ_run_and (KernelLaterMixIdeal.Run.run_main_quiescent (F := Ideal) m g) (KernelLaterMixIdeal.Run.frame (F := Ideal) m g))
  · refine (θ_run Cert.ReferenceLaterMixIdeal.defs _ _).mono (fun r h c => ⟨(h c).1.trans ?_, (h c).2.1.trans ?_, (h c).2.2⟩)
      (ReferenceLaterMixIdeal.Value.run (F := Ideal) m' g')
    · rw [(hag c).1, (hag c).2.1, (hag c).2.2.1, (hag c).2.2.2.1]
      refine (ReferenceLaterMixIdeal.Read.val_main_v5_eq (F := Ideal) _ _ _ _).trans ?_
      funext i
      exact ReferenceLaterMixIdeal.Val.res_eq _ _ _ _ i
    · rw [(hag c).1, (hag c).2.1, (hag c).2.2.1, (hag c).2.2.2.1, (hag c).2.2.2.2]
      refine (ReferenceLaterMixIdeal.Read.val_main_v19_eq (F := Ideal) _ _ _ _ _).trans ?_
      funext i
      exact ReferenceLaterMixIdeal.Val.val_eq _ _ _ _ _ i

end Cert.Val

end
-- ==== Proof.FirstNorm.lean ====
/-
  The value of the first norm: each grid point normalises its block of 512 rows, and the blocks tile the array.
-/
module

public import proofs.«01_k».proof.Proof.Norm
public import proofs.«01_k».proof.Proof.Gen.KernelNormIdeal.Value
public import proofs.«01_k».proof.Proof.Gen.ReferenceNormIdeal.Read
public import proofs.«01_k».proof.Defs

@[expose] public section

noncomputable section

open scoped BigOperators
open Idealize.ShloMosaic Idealize.ShloMosaic.TcCoe Idealize.SL.Sem Idealize.ShloMosaic.ValueIdx
open Idealize.ShloMosaic.Pipeline (Dat)
open Cert.Lin Cert.Norm

namespace Cert.KernelNormIdeal.Val

open Cert.KernelNormIdeal Cert.KernelNormIdeal.Gen

variable (m : (ℓ : Loc nD τ sig) → Buf (Elt Ideal) ℓ) (ρ : Dev nD → PrngReg)

theorem hz2 : (![0, 0] : Fin 2 → Nat) = fun _ => 0 := funext fun a => by fin_cases a <;> rfl

/-- The token array as launched. -/
abbrev X (c : Dev nD) : FVec Ideal S8192x2048 .f32 := m ((c : Thread nD τ).loc main_arg0)
/-- The norm's weights as launched. -/
abbrev N (c : Dev nD) : FVec Ideal S2048 .f32 := m ((c : Thread nD τ).loc main_arg1)

/-- The array the call leaves. -/
def G (c : Dev nD) : FVec Ideal S8192x2048 .bf16 := fun i => nrm (at2 (X m c) (i 0).val) (at1 (N m c)) (i 1).val

/-- Where the windows' blocks begin. -/
theorem idx : ∀ t : Fin cfg0.N, (win0_0.index t 0 = t.val ∧ win0_0.index t 1 = 0)
    ∧ (win0_1.index t 0 = 0 ∧ win0_1.index t 1 = 0) ∧ win0_2.index t 0 = t.val ∧ win0_2.index t 1 = 0 :=
  (by decide +kernel : ∀ t : Fin grid0.N, (win0_0.index t 0 = t.val ∧ win0_0.index t 1 = 0)
    ∧ (win0_1.index t 0 = 0 ∧ win0_1.index t 1 = 0) ∧ win0_2.index t 0 = t.val ∧ win0_2.index t 1 = 0)

/-- The token array's block at a point. -/
theorem blk0 (c : Dev nD) (t : Fin cfg0.N) (y : S512x2048.Idx) :
    (iblk m c 0 t : FVec Ideal S512x2048 .f32) y = at2 (X m c) (t.val * 512 + (y 0).val) (y 1).val := by
  have hi := (idx t).1
  rw [← at2_eq (X m c) ((win0_0.rect t).emb y)
    (by rw [win0_0.rect_emb_val t y 0, hi.1]; rfl) (by rw [win0_0.rect_emb_val t y 1, hi.2]; show 0 * 2048 + (y 1).val = _; omega)]
  unfold iblk
  rw [View.read_apply]
  show V m c main_arg0 _ = _
  rw [V_main_arg0]
  rfl

/-- The norm weights' row at a point. -/
theorem blk1 (c : Dev nD) (t : Fin cfg0.N) (y : S8x2048.Idx) (hy : (y 0).val = 0) :
    (iblk m c 1 t : FVec Ideal S8x2048 .f32) y = at1 (N m c) (y 1).val := by
  have hi := (idx t).2.1
  have e0 : ((win0_1.rect t).emb y 0).val = 0 := by
    rw [win0_1.rect_emb_val t y 0, hi.1]; show 0 * 8 + (y 0).val = 0; omega
  have e1 : ((win0_1.rect t).emb y 1).val = (y 1).val := by
    rw [win0_1.rect_emb_val t y 1, hi.2]; show 0 * 2048 + (y 1).val = _; omega
  have hV : (V m c main_v2 : FVec Ideal S8x2048 .f32)
      = concatenate S8x2048 0 [⟨S1x2048, broadcastInDim S1x2048 ![1] bcast_S2048_S1x2048_1 (N m c)⟩,
          ⟨S7x2048, broadcastInDim S7x2048 ![] bcast_S_S7x2048 (constant (F := Ideal) S_ .f32 0x00000000#32)⟩]
          concatenates_S1x2048_S7x2048_S8x2048_d0 := by
    show StableHlo.after hostOps0 (fun b => m (c, b)) (Proc.devRef .tc main_v2) = _
    after_results <;> rfl
  unfold iblk
  rw [View.read_apply]
  show V m c main_v2 _ = _
  rw [hV]
  refine (rows8_zero _ _ concatenates_S1x2048_S7x2048_S8x2048_d0 ((win0_1.rect t).emb y) e0).trans ?_
  refine (row_apply _ bcast_S2048_S1x2048_1 _).trans ?_
  exact at1_eq (N m c) _ e1

/-- What the body stores, entry by entry. -/
theorem stored (c : Dev nD) (t : Fin cfg0.N) (y : S512x2048.Idx) :
    k0_pay1 (F := Ideal) (iblk m c 0 t) (View.ld (iblk m c 1 t) r0_1) y
      = nrm (at2 (X m c) (t.val * 512 + (y 0).val)) (at1 (N m c)) (y 1).val := by
  unfold k0_pay1
  exact rows_apply (iblk m c 0 t) _ reduces_S512x2048_S512 (.inl rfl) rfl shapeCasts_S512_S512x1 broadcasts_S512x1_S512x2048
    shapeCasts_S1x2048_S1x2048 broadcasts_S1x2048_S512x2048 y _ _
    (fun k => blk0 m c t (ix2 (y 0 : Fin 512) k)) (blk1 m c t (r0_1.emb (ix2 0 (y 1 : Fin 2048))) rfl |>.trans (congrArg _ (by
      show 0 + 1 * (y 1).val = (y 1).val; omega)))

/-- What a point writes back is its block of the array. -/
theorem flushed (c : Dev nD) (t : Fin cfg0.N) (hf : (cfg0.win 2).flush t = true) :
    (dats m 0 c).flushed 2 t = ((cfg0.win 2).blk t).view.read (Elt Ideal) (G m c) := by
  rw [Value.flushed2]
  unfold out0_2
  rw [View.canon_unit_zero (S := S512x2048) hz2]
  funext y
  have hi := (idx t).2.2
  show k0_pay1 (F := Ideal) (View.ld (iblk m c 0 t) r0_0) (View.ld (iblk m c 1 t) r0_1) y = _
  rw [View.ld_unit_zero (S := S512x2048) hz2, View.read_apply]
  refine (stored m c t y).trans ?_
  have e0 : ((win0_2.rect t).emb y 0).val = t.val * 512 + (y 0).val := by
    rw [win0_2.rect_emb_val t y 0, hi.1]; rfl
  have e1 : ((win0_2.rect t).emb y 1).val = (y 1).val := by
    rw [win0_2.rect_emb_val t y 1, hi.2]; show 0 * 2048 + (y 1).val = _; omega
  show _ = nrm (at2 (X m c) ((win0_2.rect t).emb y 0).val) (at1 (N m c)) ((win0_2.rect t).emb y 1).val
  rw [e0, e1]

/-- The blocks tile the array. -/
theorem final (c : Dev nD) : (dats m 0 c).arrAt 2 cfg0.N = G m c :=
  (dats m 0 c).arrAt_eq_of_cover 2 (G m c) (flushed m c) fun i => by
    have h0 : (i 0 : Nat) < 8192 := (i 0).isLt
    have h1 : (i 1 : Nat) < 2048 := (i 1).isLt
    have hN : cfg0.N = 16 := N_0
    refine ⟨⟨(i 0 : Nat) / 512, by rw [hN]; omega⟩, (by decide +kernel : ∀ t : Fin grid0.N, win0_2.flush t = true) _, ?_⟩
    generalize hT : (⟨(i 0 : Nat) / 512, _⟩ : Fin cfg0.N) = t
    have ht : t.val = (i 0 : Nat) / 512 := by rw [← hT]
    have hi := (idx t).2.2
    show i ∈ ((View.whole main_v3).slice (win0_2.rect t)).set
    rw [View.set_slice_whole, Rect.mem_set_unit]
    intro a
    match a with
    | ⟨0, _⟩ =>
      show win0_2.index t 0 * 512 ≤ (i 0 : Nat) ∧ (i 0 : Nat) < win0_2.index t 0 * 512 + 512
      rw [hi.1]; omega
    | ⟨1, _⟩ =>
      show win0_2.index t 1 * 2048 ≤ (i 1 : Nat) ∧ (i 1 : Nat) < win0_2.index t 1 * 2048 + 2048
      rw [hi.2]; omega

end Cert.KernelNormIdeal.Val

namespace Cert.ReferenceNormIdeal.Val

open Cert.ReferenceNormIdeal Cert.ReferenceNormIdeal.Gen Cert.ReferenceNormIdeal.Read

/-- The reference's result, entry by entry. -/
theorem val_eq (x : FVec Ideal S8192x2048 .f32) (nw : FVec Ideal S2048 .f32) (i : S8192x2048.Idx) :
    val_main_v13 (F := Ideal) x nw i = nrm (at2 x (i 0).val) (at1 nw) (i 1).val := by
  have hs : val_main_v1 (F := Ideal) x (idx_main_v2 (idx_main_v8 i)) = ∑ k : Fin 2048, at2 x (i 0).val k.val * at2 x (i 0).val k.val := by
    rw [val_main_v1_apply]
    refine (congrArg (· + _) (Ideal.ofBits_zero_f32 : val_main_cst (F := Ideal) _ = 0)).trans ((zero_add _).trans ?_)
    refine Finset.sum_congr rfl fun k _ => ?_
    rw [val_main_v0_apply]
    exact congrArg₂ (· * ·) (at2_eq x _ rfl rfl) (at2_eq x _ rfl rfl)
  rw [val_main_v13_apply, val_main_v12_apply, val_main_v9_apply, val_main_v8_apply, val_main_v7_apply, val_main_v6_apply, val_main_v4_apply,
    val_main_v2_apply, val_main_v3_apply, val_main_v5_apply, val_main_v11_apply, val_main_v10_apply, hs]
  unfold nrm
  refine congrArg₂ (· * ·) (congrArg₂ (· * ·) (at2_eq x i rfl rfl) rfl) ?_
  exact at1_eq nw _ rfl

end Cert.ReferenceNormIdeal.Val

namespace Cert.Val

/-- The first norm. -/
theorem first_norm : Cert.algebraic_KernelNormIdeal_ReferenceNormIdeal := by
  intro m g m' g' _ hag
  refine ⟨fun c => KernelNormIdeal.Val.G m c, ?_, ?_⟩
  · exact (θ_run Cert.KernelNormIdeal.defs _ _).mono
      (fun r h c => ⟨(h c).1.trans (KernelNormIdeal.Val.final m c), (h c).2⟩) (KernelNormIdeal.Value.run_blocks (F := Ideal) m g)
  · refine (θ_run Cert.ReferenceNormIdeal.defs _ _).mono (fun r h c => ⟨(h c).1.trans ?_, (h c).2⟩)
      (ReferenceNormIdeal.Value.run (F := Ideal) m' g')
    rw [(hag c).1, (hag c).2]
    refine (ReferenceNormIdeal.Read.val_main_v13_eq (F := Ideal) _ _).trans ?_
    funext i
    exact ReferenceNormIdeal.Val.val_eq _ _ i

end Cert.Val

end
-- ==== Proof.AttnReal.lean ====
/-
  The gated linear attention over the reals. A token's output is a sum over the tokens seen, each decayed by the steps
  between; the kernel splits the sum at the start of the token's chunk of 64, carrying what came before as a state. Here
  the two are shown equal, with the exponentials regrouped, and so is the logarithm of a step's decay in its two spellings.
-/
module

public import Mathlib.Analysis.SpecialFunctions.Log.Basic
public import Mathlib.Analysis.SpecialFunctions.Trigonometric.DerivHyp
public import Mathlib.Data.EReal.Operations

@[expose] public section

noncomputable section

open scoped BigOperators
open Finset

namespace Cert.AttnReal

/-- The logarithm of a decay, with the exponential's argument kept from growing. -/
theorem log_sigmoid (z : ℝ) : min z 0 - Real.log (1 + Real.exp (-|z|)) = -Real.log (1 + Real.exp (-z)) := by
  rcases le_total 0 z with h | h
  · rw [min_eq_right h, abs_of_nonneg h, zero_sub]
  · rw [min_eq_left h, abs_of_nonpos h, neg_neg]
    have h1 : (1 + Real.exp (-z)) = Real.exp (-z) * (1 + Real.exp z) := by
      rw [mul_add, mul_one, ← Real.exp_add, neg_add_cancel, Real.exp_zero, add_comm]
    rw [h1, Real.log_mul (Real.exp_pos _).ne' (by positivity), Real.log_exp]
    ring

/-- The logistic function through the hyperbolic tangent. -/
theorem sigmoid (g : ℝ) : 1 / 2 * Real.tanh (1 / 2 * g) + 1 / 2 = (1 + Real.exp (-g))⁻¹ := by
  have h1 : Real.exp (-g) = Real.exp (-(1 / 2 * g)) * Real.exp (-(1 / 2 * g)) := by rw [← Real.exp_add]; ring_nf
  have h2 : Real.exp (1 / 2 * g) * Real.exp (-(1 / 2 * g)) = 1 := by rw [← Real.exp_add, add_neg_cancel, Real.exp_zero]
  have p1 := Real.exp_pos (1 / 2 * g)
  have p2 := Real.exp_pos (-(1 / 2 * g))
  rw [Real.tanh_eq_sinh_div_cosh, Real.sinh_eq, Real.cosh_eq, h1]
  generalize Real.exp (1 / 2 * g) = a at *
  generalize Real.exp (-(1 / 2 * g)) = b at *
  have ha : a + b ≠ 0 := by positivity
  have hb : 1 + b * b ≠ 0 := by positivity
  field_simp
  nlinarith

/-- A sum over part of a block of 128 rows: those of a row's own chunk of 64, up to the row. -/
theorem chunk_sum (f : ℕ → ℝ) (r : ℕ) (hr : r < 128) :
    ∑ s : Fin 128, (if s.val / 64 = r / 64 ∧ s.val ≤ r then (1 : ℝ) else 0) * f s.val
      = ∑ s ∈ range (r + 1), f s - ∑ s ∈ range (64 * (r / 64)), f s := by
  rw [Fin.sum_univ_eq_sum_range (fun s => (if s / 64 = r / 64 ∧ s ≤ r then (1 : ℝ) else 0) * f s) 128,
    ← Finset.sum_Ico_eq_sub f (by omega : 64 * (r / 64) ≤ r + 1)]
  simp only [ite_mul, one_mul, zero_mul]
  rw [← Finset.sum_filter]
  refine Finset.sum_congr (Finset.ext fun s => ?_) fun _ _ => rfl
  simp only [Finset.mem_filter, Finset.mem_range, Finset.mem_Ico]
  omega

/-- The sum of a sequence up to a place, as a difference of running sums. -/
theorem run_shift (f : ℕ → ℝ) (b n : ℕ) :
    ∑ s ∈ range n, f (b + s) = ∑ s ∈ range (b + n), f s - ∑ s ∈ range b, f s := by
  rw [Finset.sum_range_add, add_sub_cancel_left]

/-- The steps' running sum before token `n`. -/
def run (f : ℕ → ℝ) (n : ℕ) : ℝ := ∑ s ∈ range n, f s

/-- The running sum inside a token's chunk of 64. -/
def inn (f : ℕ → ℝ) (t : ℕ) : ℝ := run f (t + 1) - run f (64 * (t / 64))

/-- The kernel's masked sum over a half block of 128 rows is the running sum inside the chunk. -/
theorem inn_eq (f : ℕ → ℝ) (b r : ℕ) (hr : r < 128) (hb : b % 64 = 0) :
    ∑ s : Fin 128, (if s.val / 64 = r / 64 ∧ s.val ≤ r then (1 : ℝ) else 0) * f (b + s.val) = inn f (b + r) := by
  rw [chunk_sum (fun s => f (b + s)) r hr, run_shift, run_shift]
  unfold inn run
  rw [show 64 * ((b + r) / 64) = b + 64 * (r / 64) by omega, add_assoc]
  ring

/-- What the state holds before token `n`: the values of the tokens before, each decayed to `n`. -/
def state (e a k : ℕ → ℝ) (n : ℕ) : ℝ := Real.exp (e n) * ∑ s ∈ range n, a s * (k s * Real.exp (-e (s + 1)))

theorem state_zero (e a k : ℕ → ℝ) : state e a k 0 = 0 := by
  unfold state
  rw [Finset.range_zero, Finset.sum_empty, mul_zero]

/-- A chunk's update of the state. -/
theorem state_step (f a k : ℕ → ℝ) (n : ℕ) (hn : n % 64 = 0) :
    state (run f) a k n * Real.exp (inn f (n + 63)) + ∑ r : Fin 64, a (n + r.val) * (k (n + r.val) * Real.exp (inn f (n + 63) - inn f (n + r.val)))
      = state (run f) a k (n + 64) := by
  unfold state
  rw [Fin.sum_univ_eq_sum_range (fun r => a (n + r) * (k (n + r) * Real.exp (inn f (n + 63) - inn f (n + r)))) 64,
    Finset.sum_range_add, mul_add]
  refine congrArg₂ (· + ·) ?_ ?_
  · unfold inn
    rw [show 64 * ((n + 63) / 64) = n by omega, mul_right_comm, ← Real.exp_add]
    congr 2
    ring_nf
  · rw [Finset.mul_sum]
    refine Finset.sum_congr rfl fun r hr => ?_
    have hr' := Finset.mem_range.mp hr
    unfold inn
    rw [show 64 * ((n + 63) / 64) = n by omega, show 64 * ((n + r) / 64) = n by omega]
    rw [show run f (n + 63 + 1) - run f n - (run f (n + r + 1) - run f n) = run f (n + 64) + -run f (n + r + 1) by ring, Real.exp_add]
    ring

/-- A token's output from the tokens seen, in one sum. -/
def whole (L D : ℕ) (e q k : ℕ → ℕ → ℝ) (v : ℕ → ℝ) (t : ℕ) : ℝ :=
  ∑ s : Fin L, v s.val * (if s.val ≤ t then ∑ d : Fin D, (q t d.val * Real.exp (e d.val (t + 1))) * (k s.val d.val * Real.exp (-e d.val (s.val + 1))) else 0)

/-- Where a token's chunk's middle row stands. -/
abbrev midrow (t : ℕ) : ℕ := 64 * (t / 64) + 32

/-- The whole sum, split at the start of the token's chunk: inside it, masked rows of the block of 256; before it, the state. -/
theorem split (L D : ℕ) (f q k : ℕ → ℕ → ℝ) (v : ℕ → ℝ) (b r : ℕ) (hr : r < 256) (hb : b % 256 = 0) (hL : b + 256 ≤ L) :
    ∑ s : Fin 256, (if s.val / 64 = r / 64 ∧ s.val ≤ r then
          ∑ d : Fin D, (q (b + r) d.val * Real.exp (inn (f d.val) (b + r) - inn (f d.val) (midrow (b + r))))
            * (k (b + s.val) d.val * Real.exp (inn (f d.val) (midrow (b + s.val)) - inn (f d.val) (b + s.val))) else 0) * v (b + s.val)
      + ∑ d : Fin D, (q (b + r) d.val * Real.exp (inn (f d.val) (b + r))) * state (run (f d.val)) v (fun s => k s d.val) (b + 64 * (r / 64))
      = whole L D (fun d => run (f d)) q k v (b + r) := by
  have hw : whole L D (fun d => run (f d)) q k v (b + r) = ∑ s ∈ range (b + r + 1), v s * ∑ d : Fin D,
      (q (b + r) d.val * Real.exp (run (f d.val) (b + r + 1))) * (k s d.val * Real.exp (-run (f d.val) (s + 1))) := by
    unfold whole
    rw [Fin.sum_univ_eq_sum_range (fun s => v s * (if s ≤ b + r then ∑ d : Fin D, (q (b + r) d.val * Real.exp (run (f d.val) (b + r + 1))) * (k s d.val * Real.exp (-run (f d.val) (s + 1))) else 0)) L]
    have hcut : range (b + r + 1) ⊆ range L := Finset.range_subset_range.mpr (by omega)
    rw [← Finset.sum_subset hcut (fun s _ hs => by
      rw [if_neg (fun h => hs (Finset.mem_range.mpr (by omega))), mul_zero])]
    exact Finset.sum_congr rfl (fun s hs => by
      rw [if_pos (by have := Finset.mem_range.mp hs; omega)])
  rw [hw, show b + r + 1 = (b + 64 * (r / 64)) + (r % 64 + 1) by omega, Finset.sum_range_add, add_comm]
  refine congrArg₂ (· + ·) ?_ ?_
  · unfold state
    simp only [Finset.mul_sum]
    rw [Finset.sum_comm]
    refine Finset.sum_congr rfl fun s _ => Finset.sum_congr rfl fun d _ => ?_
    unfold inn
    rw [show 64 * ((b + r) / 64) = b + 64 * (r / 64) by omega, show b + 64 * (r / 64) + (r % 64 + 1) = b + r + 1 by omega,
      Real.exp_sub]
    have := (Real.exp_pos (run (f d.val) (b + 64 * (r / 64)))).ne'
    field_simp
  · rw [Fin.sum_univ_eq_sum_range (fun s => (if s / 64 = r / 64 ∧ s ≤ r then
          ∑ d : Fin D, (q (b + r) d.val * Real.exp (inn (f d.val) (b + r) - inn (f d.val) (midrow (b + r))))
            * (k (b + s) d.val * Real.exp (inn (f d.val) (midrow (b + s)) - inn (f d.val) (b + s))) else 0) * v (b + s)) 256]
    have hsub : Finset.Ico (64 * (r / 64)) (r + 1) ⊆ range 256 := fun s hs => by
      have := Finset.mem_Ico.mp hs
      exact Finset.mem_range.mpr (by omega)
    rw [← Finset.sum_subset hsub (fun s _ hs => by
      rw [if_neg (fun h => hs (Finset.mem_Ico.mpr (by omega))), zero_mul]),
      Finset.sum_Ico_eq_sum_range, show r + 1 - 64 * (r / 64) = r % 64 + 1 by omega]
    refine Finset.sum_congr rfl fun s hs => ?_
    have hs' := Finset.mem_range.mp hs
    rw [if_pos (by omega), mul_comm, ← add_assoc]
    refine congrArg (v _ * ·) (Finset.sum_congr rfl fun d _ => ?_)
    unfold inn
    rw [show midrow (b + r) = b + 64 * (r / 64) + 32 by unfold midrow; omega,
      show midrow (b + 64 * (r / 64) + s) = b + 64 * (r / 64) + 32 by unfold midrow; omega,
      show 64 * ((b + r) / 64) = b + 64 * (r / 64) by omega,
      show 64 * ((b + 64 * (r / 64) + s) / 64) = b + 64 * (r / 64) by omega,
      show 64 * ((b + 64 * (r / 64) + 32) / 64) = b + 64 * (r / 64) by omega,
      show b + 64 * (r / 64) + (r % 64 + 1) = b + r + 1 by omega]
    rw [mul_mul_mul_comm, ← Real.exp_add, mul_mul_mul_comm (q _ _), ← Real.exp_add]
    ring_nf

/-- A sum of reals is the sum of its terms as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

end Cert.AttnReal

end
-- ==== Proof.AttnOps.lean ====
/-
  Arrays of extended reals that are real numbers, given by a function of their coordinates, and how the block operations of
  the gated linear attention act on them.
-/
module

public import proofs.«01_k».proof.Proof.Lin
public import proofs.«01_k».proof.Proof.AttnReal
public import Idealize.ShloMosaic.Lib.IdealHost

@[expose] public section

noncomputable section

open scoped BigOperators

namespace Cert.AttnOps

open Idealize.ShloMosaic Idealize.ShloMosaic.ValueIdx Cert.Lin Cert.AttnReal

/-- The matrix holds the reals `f`. -/
def Is {a b : ℕ} (X : (⟨2, ![a, b]⟩ : Shape).Idx → EReal) (f : ℕ → ℕ → ℝ) : Prop :=
  ∀ (r : Fin a) (j : Fin b), X (ix2 r j) = (f r.val j.val : EReal)

/-- The slab holds the reals `f`. -/
def Is3 {b c : ℕ} (X : (⟨3, ![1, b, c]⟩ : Shape).Idx → EReal) (f : ℕ → ℕ → ℝ) : Prop :=
  ∀ (r : Fin b) (j : Fin c), X (ix3 0 r j) = (f r.val j.val : EReal)

variable {a b c d M K N : ℕ}

/-- The reals a matrix holds may be told otherwise. -/
theorem Is.congr {X : (⟨2, ![a, b]⟩ : Shape).Idx → EReal} {f g : ℕ → ℕ → ℝ} (h : Is X f)
    (e : ∀ r j, r < a → j < b → f r j = g r j) : Is X g := fun r j => (h r j).trans (by rw [e r.val j.val r.isLt j.isLt])
theorem Is3.congr {X : (⟨3, ![1, b, c]⟩ : Shape).Idx → EReal} {f g : ℕ → ℕ → ℝ} (h : Is3 X f)
    (e : ∀ r j, r < b → j < c → f r j = g r j) : Is3 X g := fun r j => (h r j).trans (by rw [e r.val j.val r.isLt j.isLt])

/-- An entry told by its index. -/
theorem Is.at {X : (⟨2, ![a, b]⟩ : Shape).Idx → EReal} {f : ℕ → ℕ → ℝ} (h : Is X f) (y : (⟨2, ![a, b]⟩ : Shape).Idx) :
    X y = (f (y 0).val (y 1).val : EReal) := (congrArg X (eq_ix2 y)).trans (h (y 0) (y 1))
theorem Is3.at {X : (⟨3, ![1, b, c]⟩ : Shape).Idx → EReal} {f : ℕ → ℕ → ℝ} (h : Is3 X f) (y : (⟨3, ![1, b, c]⟩ : Shape).Idx) :
    X y = (f (y 1).val (y 2).val : EReal) := by
  have h0 : (y 0).val < 1 := (y 0).isLt
  have e : y = ix3 0 (y 1) (y 2) := funext fun q => match q with
    | ⟨0, _⟩ => Fin.ext (by show (y 0).val = 0; omega)
    | ⟨1, _⟩ => rfl
    | ⟨2, _⟩ => rfl
  exact (congrArg X e).trans (h (y 1) (y 2))

/-- A slice of the matrix. -/
theorem is_slice {X : (⟨2, ![a, b]⟩ : Shape).Idx → EReal} {f : ℕ → ℕ → ℝ} (h : Is X f) (o p : ℕ)
    (hs : (⟨2, ![a, b]⟩ : Shape).Slices ![o, p] ⟨2, ![c, d]⟩) :
    Is (extractStridedSlice ⟨2, ![c, d]⟩ ![o, p] X hs) (fun r j => f (o + r) (p + j)) := fun r j => by
  obtain ⟨_, hi⟩ := id hs
  have h0 := hi 0
  have h1 := hi 1
  have hr := r.isLt
  have hj := j.isLt
  have e0 : o + r.val < a := by
    have : o + c ≤ a := h0
    omega
  have e1 : p + j.val < b := by
    have : p + d ≤ b := h1
    omega
  rw [extractStridedSlice_apply _ X hs (ix2 r j) (ix2 ⟨o + r.val, e0⟩ ⟨p + j.val, e1⟩) (fun q => match q with | ⟨0, _⟩ => rfl | ⟨1, _⟩ => rfl)]
  exact h _ _

/-- A row laid over a block. -/
theorem is_row {X : (⟨2, ![1, b]⟩ : Shape).Idx → EReal} {f : ℕ → ℕ → ℝ} (h : Is X f)
    (hb : (⟨2, ![1, b]⟩ : Shape).Broadcasts ⟨2, ![a, b]⟩) :
    Is (broadcastTo ⟨2, ![a, b]⟩ X hb) (fun _ j => f 0 j) := fun r j => by
  rw [broadcastTo_apply X hb (ix2 r j) (ix2 0 j) (fun q => match q with
    | ⟨0, _⟩ => rfl
    | ⟨1, _⟩ => by
      have hj := j.isLt
      show j.val = if b = 1 then 0 else j.val
      by_cases hN : b = 1
      · rw [if_pos hN]; omega
      · rw [if_neg hN])]
  exact h 0 j

theorem is_add {X Y : FVec Ideal ⟨2, ![a, b]⟩ .f32} {f g : ℕ → ℕ → ℝ} (h : Is X f) (k : Is Y g) :
    Is (addf X Y) (fun r j => f r j + g r j) := fun r j => by
  show X _ + Y _ = _
  rw [h, k, EReal.coe_add]
theorem is_sub {X Y : FVec Ideal ⟨2, ![a, b]⟩ .f32} {f g : ℕ → ℕ → ℝ} (h : Is X f) (k : Is Y g) :
    Is (subf X Y) (fun r j => f r j - g r j) := fun r j => by
  show X _ - Y _ = _
  rw [h, k, EReal.coe_sub]
theorem is_mul {X Y : FVec Ideal ⟨2, ![a, b]⟩ .f32} {f g : ℕ → ℕ → ℝ} (h : Is X f) (k : Is Y g) :
    Is (mulf X Y) (fun r j => f r j * g r j) := fun r j => by
  show X _ * Y _ = _
  rw [h, k, EReal.coe_mul]
theorem is_exp {X : FVec Ideal ⟨2, ![a, b]⟩ .f32} {f : ℕ → ℕ → ℝ} (h : Is X f) :
    Is (exp X) (fun r j => Real.exp (f r j)) := fun r j => by
  show Ideal.exp (X _) = _
  rw [h, Ideal.exp_coe]

theorem coe_sum_mul {n : ℕ} (f g : Fin n → ℝ) : ∑ k, (f k : EReal) * (g k : EReal) = ((∑ k, f k * g k : ℝ) : EReal) := by
  rw [coe_sum]
  exact Finset.sum_congr rfl fun k _ => (EReal.coe_mul _ _).symm

/-- A product of blocks. -/
theorem is_p {φ₁ φ₂ : FTy} {X : FVec Ideal ⟨2, ![M, K]⟩ φ₁} {W : FVec Ideal ⟨2, ![K, N]⟩ φ₂} {f g : ℕ → ℕ → ℝ} (h : Is X f) (k : Is W g) :
    Is (matmul (DotDims.plain M K N) none X W (constant (F := Ideal) ⟨2, ![M, N]⟩ .f32 0x00000000#32))
      (fun r n => ∑ l : Fin K, f r l.val * g l.val n) := fun r n => by
  rw [matmul_p, ← coe_sum_mul]
  exact Finset.sum_congr rfl fun l _ => congrArg₂ (· * ·) (h r l) (k l n)

/-- A product of a block with a transposed block. -/
theorem is_t {φ₁ φ₂ : FTy} {X : FVec Ideal ⟨2, ![M, K]⟩ φ₁} {W : FVec Ideal ⟨2, ![N, K]⟩ φ₂} {f g : ℕ → ℕ → ℝ} (h : Is X f) (k : Is W g) :
    Is (matmul (DotDims.transposedRhs M K N) none X W (constant (F := Ideal) ⟨2, ![M, N]⟩ .f32 0x00000000#32))
      (fun r n => ∑ l : Fin K, f r l.val * g n l.val) := fun r n => by
  rw [matmul_t, ← coe_sum_mul]
  exact Finset.sum_congr rfl fun l _ => congrArg₂ (· * ·) (h r l) (k n l)

/-- The half block's mask: a row and a column of one chunk of 64, the column not past the row. -/
theorem mask_word (r s : ℕ) (hr : r < 256) (hs : s < 256) :
    IntOp.andi (IntOp.cmpi .eq (IntOp.shrui .vector (BitVec.ofNat 32 r) 6#32) (IntOp.shrui .vector (BitVec.ofNat 32 s) 6#32))
      (IntOp.cmpi .sle (BitVec.ofNat 32 s) (BitVec.ofNat 32 r)) = if s / 64 = r / 64 ∧ s ≤ r then 1#1 else 0#1 := by
  have hsh : ∀ n, n < 256 → IntOp.shrui .vector (BitVec.ofNat 32 n) 6#32 = BitVec.ofNat 32 (n / 64) := fun n hn => by
    unfold IntOp.shrui
    rw [if_pos (by decide)]
    apply BitVec.eq_of_toNat_eq
    simp only [BitVec.ushiftRight_eq', BitVec.toNat_ushiftRight, BitVec.toNat_ofNat, Nat.shiftRight_eq_div_pow]
    norm_num
    omega
  rw [hsh r hr, hsh s hs]
  have e1 : IntOp.cmpi .eq (BitVec.ofNat 32 (r / 64)) (BitVec.ofNat 32 (s / 64)) = if s / 64 = r / 64 then 1#1 else 0#1 := by
    by_cases h : s / 64 = r / 64
    · rw [if_pos h]; exact (WordCmp.cmpi_eq_ofNat_eq_one_iff (by omega) (by omega)).2 h.symm
    · rw [if_neg h]; exact (WordCmp.cmpi_eq_ofNat_eq_zero_iff (by omega) (by omega)).2 (fun h' => h h'.symm)
  have e2 : IntOp.cmpi .sle (BitVec.ofNat 32 s) (BitVec.ofNat 32 r) = if s ≤ r then 1#1 else 0#1 := by
    by_cases h : s ≤ r
    · rw [if_pos h]; exact (WordCmp.cmpi_sle_ofNat_eq_one_iff (by omega) (by omega)).2 h
    · rw [if_neg h]; exact (WordCmp.cmpi_sle_ofNat_eq_zero_iff (by omega) (by omega)).2 (by omega)
  rw [e1, e2]
  by_cases h1 : s / 64 = r / 64 <;> by_cases h2 : s ≤ r <;> simp [h1, h2, IntOp.andi]

/-- A transposed block times a block. -/
theorem matmul_l (D : DotDims ⟨2, ![K, M]⟩ ⟨2, ![K, N]⟩ ⟨2, ![M, N]⟩) (hr : D.contr.rank = 1) (hs : D.contr.size ⟨0, by omega⟩ = K)
    (hl : ∀ (r : Fin M) (n : Fin N) k, (D.lhsIdx (ix2 r n) k 0).val = (k ⟨0, by omega⟩).val ∧ (D.lhsIdx (ix2 r n) k 1).val = r.val)
    (hq : ∀ (r : Fin M) (n : Fin N) k, (D.rhsIdx (ix2 r n) k 0).val = (k ⟨0, by omega⟩).val ∧ (D.rhsIdx (ix2 r n) k 1).val = n.val)
    {φ₁ φ₂ : FTy} (X : FVec Ideal ⟨2, ![K, M]⟩ φ₁) (W : FVec Ideal ⟨2, ![K, N]⟩ φ₂) (r : Fin M) (n : Fin N) :
    matmul D none X W (constant (F := Ideal) ⟨2, ![M, N]⟩ .f32 0x00000000#32) (ix2 r n) = ∑ l : Fin K, X (ix2 l r) * W (ix2 l n) := by
  refine (Ideal.matmul_apply D none X W _ (ix2 r n)).trans ?_
  rw [← Equiv.sum_comp (contrEquiv1 D K hr hs).symm]
  have hz : constant (F := Ideal) ⟨2, ![M, N]⟩ .f32 0x00000000#32 (ix2 r n) = 0 := Ideal.ofBits_zero_f32
  rw [hz, zero_add]
  refine Finset.sum_congr rfl fun k _ => ?_
  have hk := contrEquiv1_symm_val D K hr hs k
  have el : D.lhsIdx (ix2 r n) ((contrEquiv1 D K hr hs).symm k) = ix2 k r := by
    funext a; apply Fin.ext
    match a with
    | ⟨0, _⟩ => exact (hl r n _).1.trans hk
    | ⟨1, _⟩ => exact (hl r n _).2
  have er : D.rhsIdx (ix2 r n) ((contrEquiv1 D K hr hs).symm k) = ix2 k n := by
    funext a; apply Fin.ext
    match a with
    | ⟨0, _⟩ => exact (hq r n _).1.trans hk
    | ⟨1, _⟩ => exact (hq r n _).2
  rw [el, er]

/-- A transposed block times a block of reals. -/
theorem is_l (D : DotDims ⟨2, ![K, M]⟩ ⟨2, ![K, N]⟩ ⟨2, ![M, N]⟩) (hr : D.contr.rank = 1) (hs : D.contr.size ⟨0, by omega⟩ = K)
    (hl : ∀ (r : Fin M) (n : Fin N) k, (D.lhsIdx (ix2 r n) k 0).val = (k ⟨0, by omega⟩).val ∧ (D.lhsIdx (ix2 r n) k 1).val = r.val)
    (hq : ∀ (r : Fin M) (n : Fin N) k, (D.rhsIdx (ix2 r n) k 0).val = (k ⟨0, by omega⟩).val ∧ (D.rhsIdx (ix2 r n) k 1).val = n.val)
    {φ₁ φ₂ : FTy} {X : FVec Ideal ⟨2, ![K, M]⟩ φ₁} {W : FVec Ideal ⟨2, ![K, N]⟩ φ₂} {f g : ℕ → ℕ → ℝ} (h : Is X f) (k : Is W g) :
    Is (matmul D none X W (constant (F := Ideal) ⟨2, ![M, N]⟩ .f32 0x00000000#32))
      (fun r n => ∑ l : Fin K, f l.val r * g l.val n) := fun r n => by
  rw [matmul_l D hr hs hl hq, ← coe_sum_mul]
  exact Finset.sum_congr rfl fun l _ => congrArg₂ (· * ·) (h l r) (k l n)

/-- Two blocks, one under the other. -/
theorem is_concat {X Y : (⟨2, ![128, b]⟩ : Shape).Idx → EReal} {f : ℕ → ℕ → ℝ}
    (hc : Shape.Concatenates [⟨2, ![128, b]⟩, ⟨2, ![128, b]⟩] ⟨2, ![256, b]⟩ 0)
    (h : Is X f) (k : Is Y (fun r j => f (128 + r) j)) : Is (concatenate ⟨2, ![256, b]⟩ 0 [⟨⟨2, ![128, b]⟩, X⟩, ⟨⟨2, ![128, b]⟩, Y⟩] hc) f := fun r j => by
  by_cases hr : r.val < 128
  · rw [concatenate_pair_apply_left 0 X Y hc (ix2 r j) rfl (ix2 ⟨r.val, hr⟩ j) (fun b => match b with | ⟨0, _⟩ => rfl | ⟨1, _⟩ => rfl)]
    exact h _ _
  · have hr' := r.isLt
    rw [concatenate_pair_apply_right 0 X Y hc (ix2 r j) rfl rfl (ix2 ⟨r.val - 128, by omega⟩ j)
      (fun b => match b with | ⟨0, _⟩ => fun hb => absurd rfl hb | ⟨1, _⟩ => fun _ => rfl) (by show (r.val - 128) + 128 = r.val; omega), k]
    show ((f (128 + (r.val - 128)) j.val : ℝ) : EReal) = _
    rw [show 128 + (r.val - 128) = r.val by omega]

/-- Every row of a chunk of 64 replaced by the chunk's row `o`. -/
theorem is_chunk {X : (⟨2, ![256, b]⟩ : Shape).Idx → EReal} {f : ℕ → ℕ → ℝ} (o : ℕ) (ho : o < 64)
    (h1 : (⟨2, ![256, b]⟩ : Shape).ShapeCasts ⟨3, ![4, 64, b]⟩) (h2 : (⟨3, ![4, 64, b]⟩ : Shape).Slices ![0, o, 0] ⟨3, ![4, 1, b]⟩)
    (h3 : (⟨3, ![4, 1, b]⟩ : Shape).ShapeCasts ⟨3, ![4, 1, b]⟩) (h4 : (⟨3, ![4, 1, b]⟩ : Shape).Broadcasts ⟨3, ![4, 64, b]⟩)
    (h5 : (⟨3, ![4, 64, b]⟩ : Shape).ShapeCasts ⟨2, ![256, b]⟩) (h : Is X f) :
    Is (shapeCast ⟨2, ![256, b]⟩ (broadcastTo ⟨3, ![4, 64, b]⟩ (shapeCast ⟨3, ![4, 1, b]⟩ (extractStridedSlice ⟨3, ![4, 1, b]⟩ ![0, o, 0]
      (shapeCast ⟨3, ![4, 64, b]⟩ X h1) h2) h3) h4) h5) (fun r j => f (64 * (r / 64) + o) j) := fun r j => by
  have hr := r.isLt
  have hj := j.isLt
  have hb : 0 < b := by omega
  have c0 : r.val / 64 < 4 := by omega
  have c1 : r.val % 64 < 64 := by omega
  rw [Idealize.ShloMosaic.shapeCast_self]
  rw [shapeCast_apply _ h5 (ix2 r j) (ix3 ⟨r.val / 64, c0⟩ ⟨r.val % 64, c1⟩ j) (by
    rw [Shape.rowMajor_val_three, Shape.rowMajor_val_two]
    show (r.val / 64 * 64 + r.val % 64) * b + j.val = r.val * b + j.val
    rw [show r.val / 64 * 64 + r.val % 64 = r.val by omega])]
  rw [broadcastTo_apply _ h4 _ (ix3 ⟨r.val / 64, c0⟩ 0 j) (fun q => match q with
    | ⟨0, _⟩ => rfl
    | ⟨1, _⟩ => rfl
    | ⟨2, _⟩ => by
      show j.val = if b = 1 then 0 else j.val
      by_cases hN : b = 1
      · rw [if_pos hN]; omega
      · rw [if_neg hN])]
  rw [extractStridedSlice_apply _ _ h2 _ (ix3 ⟨r.val / 64, c0⟩ ⟨o, ho⟩ j) (fun q => match q with
    | ⟨0, _⟩ => by show r.val / 64 = 0 + r.val / 64; omega
    | ⟨1, _⟩ => rfl
    | ⟨2, _⟩ => by show j.val = 0 + j.val; omega)]
  have c2 : 64 * (r.val / 64) + o < 256 := by omega
  rw [shapeCast_apply X h1 _ (ix2 ⟨64 * (r.val / 64) + o, c2⟩ j) (by
    rw [Shape.rowMajor_val_three, Shape.rowMajor_val_two]
    show (64 * (r.val / 64) + o) * b + j.val = (r.val / 64 * 64 + o) * b + j.val
    rw [Nat.mul_comm 64])]
  exact h _ _

/-- A slab as a matrix. -/
theorem is_unslab {X : (⟨3, ![1, b, c]⟩ : Shape).Idx → EReal} {f : ℕ → ℕ → ℝ} (hc : (⟨3, ![1, b, c]⟩ : Shape).ShapeCasts ⟨2, ![b, c]⟩)
    (h : Is3 X f) : Is (shapeCast ⟨2, ![b, c]⟩ X hc) f := fun r j => by
  rw [shapeCast_apply X hc (ix2 r j) (ix3 0 r j) (by
    rw [Shape.rowMajor_val_three, Shape.rowMajor_val_two]
    show (0 * b + r.val) * c + j.val = r.val * c + j.val
    rw [zero_mul, zero_add])]
  exact h r j

/-- A matrix as a slab. -/
theorem is_slab {X : (⟨2, ![b, c]⟩ : Shape).Idx → EReal} {f : ℕ → ℕ → ℝ} (hc : (⟨2, ![b, c]⟩ : Shape).ShapeCasts ⟨3, ![1, b, c]⟩)
    (h : Is X f) : Is3 (shapeCast ⟨3, ![1, b, c]⟩ X hc) f := fun r j => by
  rw [shapeCast_apply X hc (ix3 0 r j) (ix2 r j) (by
    rw [Shape.rowMajor_val_three, Shape.rowMajor_val_two]
    show r.val * c + j.val = (0 * b + r.val) * c + j.val
    rw [zero_mul, zero_add])]
  exact h r j

end Cert.AttnOps

end
-- ==== Proof.AttnPay.lean ====
/-
  The values one block of 256 rows of the gated linear attention makes, as real numbers.
-/
module

public import proofs.«01_k».proof.Proof.AttnOps
public import proofs.«01_k».proof.Proof.Gen.KernelAttnIdeal.Value

@[expose] public section

noncomputable section

open scoped BigOperators

namespace Cert.AttnPay

open Idealize.ShloMosaic Idealize.ShloMosaic.ValueIdx Cert.Lin Cert.AttnReal Cert.AttnOps Cert.KernelAttnIdeal Cert.KernelAttnIdeal.Gen

theorem one_f32 : Ideal.ofBits .f32 0x3F800000#32 = ((1 : ℝ) : EReal) := by
  simp [Ideal.ofBits, Ideal.ieee, -EReal.coe_mul]; norm_num
theorem sixteenth_f32 : Ideal.ofBits .f32 0x3D800000#32 = ((1 / 16 : ℝ) : EReal) := by
  simp [Ideal.ofBits, Ideal.ieee, -EReal.coe_mul]; norm_num
theorem half_f32 : Ideal.ofBits .f32 0x3F000000#32 = ((1 / 2 : ℝ) : EReal) := by
  simp [Ideal.ofBits, Ideal.ieee, -EReal.coe_mul]; norm_num
theorem zero_f32 : Ideal.ofBits .f32 0x00000000#32 = ((0 : ℝ) : EReal) := Ideal.ofBits_zero_f32

/-- The log decay of a pre-activation. -/
def ld (z : ℝ) : ℝ := -Real.log (1 + Real.exp (-z)) * (1 / 16)

/-- The log decays. -/
theorem is_pay3 {x : Vec Ideal S256x128 .f32} {w : Vec Ideal S128x1024 .f32} {d : Vec Ideal S1x1024 .f32} {fx fw fd : ℕ → ℕ → ℝ}
    (hx : Is x fx) (hw : Is w fw) (hd : Is d fd) :
    Is (k0_pay3 x w d) (fun r j => ld (∑ l : Fin 128, fx r l.val * fw l.val j + fd 0 j)) := fun r j => by
  have hz := is_add (is_p (φ₁ := .bf16) (φ₂ := .bf16) hx hw) (is_row hd broadcasts_S1x1024_S256x1024) r j
  set z : ℝ := ∑ l : Fin 128, fx r l.val * fw l.val j + fd 0 j with hzd
  have e : k0_pay3 x w d (ix2 r j) = (min ((z : ℝ) : EReal) (Ideal.ofBits .f32 0x00000000#32)
      - Ideal.log (Ideal.ofBits .f32 0x3F800000#32 + Ideal.exp (Ideal.ofBits .f32 0x00000000#32 - max ((z : ℝ) : EReal) (-((z : ℝ) : EReal)))))
      * Ideal.ofBits .f32 0x3D800000#32 := by
    rw [← hz]
    unfold k0_pay3
    rw [Idealize.ShloMosaic.shapeCast_self, Idealize.ShloMosaic.shapeCast_self]
    rfl
  rw [e, zero_f32, one_f32, sixteenth_f32, ← EReal.coe_neg, ← EReal.coe_strictMono.monotone.map_max, ← EReal.coe_strictMono.monotone.map_min, ← EReal.coe_sub, Ideal.exp_coe, ← EReal.coe_add,
    Ideal.log_coe, if_neg (not_le.mpr (by positivity)), ← EReal.coe_sub, ← EReal.coe_mul]
  have := log_sigmoid z
  rw [zero_sub, show max z (-z) = |z| from rfl, this]
  rfl

/-- The half block's mask as numbers. -/
theorem is_pay4 : Is (k0_pay4 (F := Ideal)) (fun r s => if s / 64 = r / 64 ∧ s ≤ r then (1 : ℝ) else 0) := fun r s => by
  have hm := mask_word r.val s.val (by have := r.isLt; omega) (by have := s.isLt; omega)
  have e : k0_pay4 (F := Ideal) (ix2 r s) = Scalar.select (IntOp.andi (IntOp.cmpi .eq (IntOp.shrui .vector (BitVec.ofNat 32 r.val) 6#32) (IntOp.shrui .vector (BitVec.ofNat 32 s.val) 6#32))
      (IntOp.cmpi .sle (BitVec.ofNat 32 s.val) (BitVec.ofNat 32 r.val))) (Ideal.ofBits .f32 0x3F800000#32) (Ideal.ofBits .f32 0x00000000#32) := by
    unfold k0_pay4
    show Scalar.select (IntOp.andi (IntOp.cmpi .eq (IntOp.shrui .vector (iota .tc S128x128 32 [0] iota_S128x128_d0_w32 (ix2 r s)) 6#32) (IntOp.shrui .vector (iota .tc S128x128 32 [1] iota_S128x128_d1_w32 (ix2 r s)) 6#32))
      (IntOp.cmpi .sle (iota .tc S128x128 32 [1] iota_S128x128_d1_w32 (ix2 r s)) (iota .tc S128x128 32 [0] iota_S128x128_d0_w32 (ix2 r s)))) _ _ = _
    rw [iota_single_apply, iota_single_apply]
    rfl
  rw [e, hm, one_f32, zero_f32]
  show _ = ((if s.val / 64 = r.val / 64 ∧ s.val ≤ r.val then (1 : ℝ) else 0 : ℝ) : EReal)
  by_cases h : s.val / 64 = r.val / 64 ∧ s.val ≤ r.val
  · rw [if_pos h, if_pos h]; rfl
  · rw [if_neg h, if_neg h]; rfl

/-- A block taken from itself. -/
theorem is_pay6 {x : Vec Ideal S256x128 .f32} {w : Vec Ideal S128x1024 .f32} {d : Vec Ideal S1x1024 .f32} {f : ℕ → ℕ → ℝ}
    (h : Is (k0_pay3 x w d) f) : Is (k0_pay6 x w d) (fun _ _ => 0) :=
  (is_sub h h).congr fun r j _ _ => sub_self _

variable {b : ℕ} {f : ℕ → ℕ → ℝ} {v37 : FVec Ideal S128x128 .bf16} {v38 : FVec Ideal S256x1024 .bf16} {v40 : FVec Ideal S256x1024 .f32}

/-- The running log decays inside the chunks. -/
theorem is_pay7 (hb : b % 256 = 0) (h37 : Is v37 (fun r s => if s / 64 = r / 64 ∧ s ≤ r then (1 : ℝ) else 0))
    (h38 : Is v38 (fun r j => f j (b + r))) (h40 : Is v40 (fun _ _ => 0)) :
    Is (k0_pay7 v37 v38 v40) (fun r j => inn (f j) (b + r)) := by
  have lo : Is (addf (matmul (DotDims.plain 128 128 1024) none v37 (extractStridedSlice S128x1024 ![0, 0] v38 slices_S256x1024_o0_0_S128x1024) (constant (F := Ideal) S128x1024 .f32 0x00000000#32))
      (matmul (φ₁ := .bf16) (φ₂ := .bf16) (DotDims.plain 128 128 1024) none v37 (extractStridedSlice S128x1024 ![0, 0] v40 slices_S256x1024_o0_0_S128x1024) (constant (F := Ideal) S128x1024 .f32 0x00000000#32)))
      (fun r j => inn (f j) (b + r)) :=
    (is_add (is_p h37 (is_slice h38 0 0 _)) (is_p (φ₁ := .bf16) (φ₂ := .bf16) h37 (is_slice h40 0 0 _))).congr fun r j hr _ => by
      simp only [mul_zero, Finset.sum_const_zero, add_zero, zero_add]
      exact inn_eq (f j) b r hr (by omega)
  have hi : Is (addf (matmul (DotDims.plain 128 128 1024) none v37 (extractStridedSlice S128x1024 ![128, 0] v38 slices_S256x1024_o128_0_S128x1024) (constant (F := Ideal) S128x1024 .f32 0x00000000#32))
      (matmul (φ₁ := .bf16) (φ₂ := .bf16) (DotDims.plain 128 128 1024) none v37 (extractStridedSlice S128x1024 ![128, 0] v40 slices_S256x1024_o128_0_S128x1024) (constant (F := Ideal) S128x1024 .f32 0x00000000#32)))
      (fun r j => inn (f j) (b + (128 + r))) :=
    (is_add (is_p h37 (is_slice h38 128 0 _)) (is_p (φ₁ := .bf16) (φ₂ := .bf16) h37 (is_slice h40 128 0 _))).congr fun r j hr _ => by
      simp only [mul_zero, Finset.sum_const_zero, add_zero, zero_add, ← Nat.add_assoc]
      exact inn_eq (f j) (b + 128) r hr (by omega)
  exact is_concat concatenates_S128x1024_S128x1024_S256x1024_d0 lo hi

section

variable (h7 : Is (k0_pay7 v37 v38 v40) (fun r j => inn (f j) (b + r)))
include h7

/-- The running log decay at the chunk's middle row. -/
theorem is_pay8 : Is (k0_pay8 v37 v38 v40) (fun r j => inn (f j) (b + (64 * (r / 64) + 32))) :=
  by
  unfold k0_pay8
  exact is_chunk (f := fun r j => inn (f j) (b + r)) 32 (by omega) shapeCasts_S256x1024_S4x64x1024 slices_S4x64x1024_o0_32_0_S4x1x1024 shapeCasts_S4x1x1024_S4x1x1024
    broadcasts_S4x1x1024_S4x64x1024 shapeCasts_S4x64x1024_S256x1024 h7

/-- The running log decay at the chunk's last row. -/
theorem is_pay9 : Is (k0_pay9 v37 v38 v40) (fun r j => inn (f j) (b + (64 * (r / 64) + 63))) :=
  by
  unfold k0_pay9
  exact is_chunk (f := fun r j => inn (f j) (b + r)) 63 (by omega) shapeCasts_S256x1024_S4x64x1024 slices_S4x64x1024_o0_63_0_S4x1x1024 shapeCasts_S4x1x1024_S4x1x1024
    broadcasts_S4x1x1024_S4x64x1024 shapeCasts_S4x64x1024_S256x1024 h7

omit h7 in
/-- The queries scaled. -/
theorem is_pay10 {q : Vec Ideal S256x1024 .f32} {fq : ℕ → ℕ → ℝ} (hq : Is q fq) : Is (k0_pay10 q) (fun r j => fq r j * (1 / 16)) := fun r j => by
  show q (ix2 r j) * Ideal.ofBits .f32 0x3D800000#32 = _
  rw [hq, sixteenth_f32, ← EReal.coe_mul]

theorem is_pay12 {q : Vec Ideal S256x1024 .f32} {fq : ℕ → ℕ → ℝ} (hq : Is q fq) : Is (k0_pay12 v37 v38 v40 q)
    (fun r j => fq r j * (1 / 16) * Real.exp (inn (f j) (b + r) - inn (f j) (b + (64 * (r / 64) + 32)))) :=
  is_mul (is_pay10 hq) (is_exp (is_sub h7 (is_pay8 h7)))

theorem is_pay13 {k : Vec Ideal S256x1024 .f32} {fk : ℕ → ℕ → ℝ} (hk : Is k fk) : Is (k0_pay13 v37 v38 v40 k)
    (fun r j => fk r j * Real.exp (inn (f j) (b + (64 * (r / 64) + 32)) - inn (f j) (b + r))) :=
  is_mul hk (is_exp (is_sub (is_pay8 h7) h7))

theorem is_pay14 {q : Vec Ideal S256x1024 .f32} {fq : ℕ → ℕ → ℝ} (hq : Is q fq) : Is (k0_pay14 v37 v38 v40 q)
    (fun r j => fq r j * (1 / 16) * Real.exp (inn (f j) (b + r))) :=
  is_mul (is_pay10 hq) (is_exp h7)

theorem is_pay15 {k : Vec Ideal S256x1024 .f32} {fk : ℕ → ℕ → ℝ} (hk : Is k fk) : Is (k0_pay15 v37 v38 v40 k)
    (fun r j => fk r j * Real.exp (inn (f j) (b + (64 * (r / 64) + 63)) - inn (f j) (b + r))) :=
  is_mul hk (is_exp (is_sub (is_pay9 h7) h7))

theorem is_pay16 : Is (k0_pay16 v37 v38 v40) (fun r j => Real.exp (inn (f j) (b + (64 * (r / 64) + 63)))) :=
  is_exp (is_pay9 h7)

end

/-- A head's products inside the block: a row of one chunk meets the rows of its chunk up to itself. -/
theorem is_intra {VB : FVec Ideal S256x2048 .bf16} {QM KM : FVec Ideal S256x1024 .bf16} {fv fq fk : ℕ → ℕ → ℝ} (o p : ℕ)
    (s1 : S256x1024.Slices ![0, o] S256x256) (s2 : S256x2048.Slices ![0, p] S256x512) (hv : Is VB fv) (hq : Is QM fq) (hk : Is KM fk) :
    Is (matmul (φ₁ := .bf16) (φ₂ := .bf16) (DotDims.plain 256 256 512) none
        (select (k0_pay18 (iota .tc S256x256 32 [0] iota_S256x256_d0_w32) (iota .tc S256x256 32 [1] iota_S256x256_d1_w32) k0_pay17)
          (matmul (DotDims.transposedRhs 256 256 256) none (extractStridedSlice S256x256 ![0, o] QM s1) (extractStridedSlice S256x256 ![0, o] KM s1)
            (constant (F := Ideal) S256x256 .f32 0x00000000#32))
          (broadcast S256x256 (Scalar.ofBits (F := Ideal) .f32 0x00000000#32)))
        (extractStridedSlice S256x512 ![0, p] VB s2) (constant (F := Ideal) S256x512 .f32 0x00000000#32))
      (fun r n => ∑ s : Fin 256, (if s.val / 64 = r / 64 ∧ s.val ≤ r then ∑ d : Fin 256, fq r (o + d.val) * fk s.val (o + d.val) else 0) * fv s.val (p + n)) := by
  have hA := is_t (φ₁ := .bf16) (φ₂ := .bf16) (is_slice hq 0 o s1) (is_slice hk 0 o s1)
  have hS : Is (select (k0_pay18 (iota .tc S256x256 32 [0] iota_S256x256_d0_w32) (iota .tc S256x256 32 [1] iota_S256x256_d1_w32) k0_pay17)
          (matmul (DotDims.transposedRhs 256 256 256) none (extractStridedSlice S256x256 ![0, o] QM s1) (extractStridedSlice S256x256 ![0, o] KM s1)
            (constant (F := Ideal) S256x256 .f32 0x00000000#32))
          (broadcast S256x256 (Scalar.ofBits (F := Ideal) .f32 0x00000000#32)))
      (fun r s => if s / 64 = r / 64 ∧ s ≤ r then ∑ d : Fin 256, fq r (o + d.val) * fk s (o + d.val) else 0) := fun r s => by
    show Scalar.select (IntOp.andi (IntOp.cmpi .eq (IntOp.shrui .vector (iota .tc S256x256 32 [0] iota_S256x256_d0_w32 (ix2 r s)) 6#32) (IntOp.shrui .vector (iota .tc S256x256 32 [1] iota_S256x256_d1_w32 (ix2 r s)) 6#32))
      (IntOp.cmpi .sle (iota .tc S256x256 32 [1] iota_S256x256_d1_w32 (ix2 r s)) (iota .tc S256x256 32 [0] iota_S256x256_d0_w32 (ix2 r s)))) _ (Ideal.ofBits .f32 0x00000000#32)
      = ((if s.val / 64 = r.val / 64 ∧ s.val ≤ r.val then ∑ d : Fin 256, fq r.val (o + d.val) * fk s.val (o + d.val) else 0 : ℝ) : EReal)
    rw [iota_single_apply, iota_single_apply, hA r s, zero_f32]
    have hm := mask_word r.val s.val r.isLt s.isLt
    show Scalar.select (IntOp.andi (IntOp.cmpi .eq (IntOp.shrui .vector (BitVec.ofNat 32 r.val) 6#32) (IntOp.shrui .vector (BitVec.ofNat 32 s.val) 6#32))
      (IntOp.cmpi .sle (BitVec.ofNat 32 s.val) (BitVec.ofNat 32 r.val))) _ _ = _
    rw [hm]
    by_cases h : s.val / 64 = r.val / 64 ∧ s.val ≤ r.val
    · rw [if_pos h, if_pos h]
      simp only [zero_add]
      rfl
    · rw [if_neg h, if_neg h]; rfl
  exact (is_p (φ₁ := .bf16) (φ₂ := .bf16) hS (is_slice hv 0 p s2)).congr fun r n _ _ => by simp only [zero_add]

/-- A head's state after a chunk. -/
theorem is_upd {VB : FVec Ideal S256x2048 .bf16} {KL : FVec Ideal S256x1024 .bf16} {Lx : FVec Ideal S256x1024 .f32} {S : FVec Ideal S512x256 .f32}
    {fv fk fl fs : ℕ → ℕ → ℝ} (c o p : ℕ) (s1 : S256x1024.Slices ![c, o] S1x256) (s2 : S256x2048.Slices ![c, p] S64x512) (s3 : S256x1024.Slices ![c, o] S64x256)
    (hv : Is VB fv) (hk : Is KL fk) (hl : Is Lx fl) (hs : Is S fs) :
    Is (addf (mulf S (broadcastTo S512x256 (extractStridedSlice S1x256 ![c, o] Lx s1) broadcasts_S1x256_S512x256))
        (matmul dot_S64x512_S64x256_S512x256_0_0_1_1_n_n none (extractStridedSlice S64x512 ![c, p] VB s2) (extractStridedSlice S64x256 ![c, o] KL s3)
          (constant (F := Ideal) S512x256 .f32 0x00000000#32)))
      (fun n d => fs n d * fl c (o + d) + ∑ r : Fin 64, fv (c + r.val) (p + n) * fk (c + r.val) (o + d)) :=
  is_add (is_mul hs (is_row (is_slice hl c o s1) _))
    (is_l dot_S64x512_S64x256_S512x256_0_0_1_1_n_n rfl rfl (fun _ _ _ => ⟨rfl, rfl⟩) (fun _ _ _ => ⟨rfl, rfl⟩) (is_slice hv c p s2) (is_slice hk c o s3))

/-- A head's products with the state before a chunk. -/
theorem is_inter {QE : FVec Ideal S256x1024 .bf16} {S : FVec Ideal S512x256 .f32} {fq fs : ℕ → ℕ → ℝ} (c o : ℕ) (s1 : S256x1024.Slices ![c, o] S64x256)
    (hq : Is QE fq) (hs : Is S fs) :
    Is (shapeCast S64x512 (matmul (φ₁ := .bf16) (φ₂ := .bf16) (DotDims.transposedRhs 64 256 512) none (extractStridedSlice S64x256 ![c, o] QE s1) S
        (constant (F := Ideal) S64x512 .f32 0x00000000#32)) shapeCasts_S64x512_S64x512)
      (fun r n => ∑ d : Fin 256, fq (c + r) (o + d.val) * fs n d.val) := by
  rw [Idealize.ShloMosaic.shapeCast_self]
  exact is_t (φ₁ := .bf16) (φ₂ := .bf16) (is_slice hq c o s1) hs

end Cert.AttnPay

end
-- ==== Proof.AttnSt.lean ====
/-
  The gated linear attention's kernel, chunk by chunk: each head's state, what a token takes of it, and the scratch they pass through.
-/
module

public import proofs.«01_k».proof.Proof.AttnPay

@[expose] public section

noncomputable section

open scoped BigOperators

namespace Cert.AttnSt

open Idealize.ShloMosaic
open Idealize.ShloMosaic.ValueIdx Cert.Lin Cert.AttnReal Cert.AttnOps Cert.AttnPay Cert.KernelAttnIdeal Cert.KernelAttnIdeal.Gen

/-- A head's state before token `n`: columns from `o` of the keys and decays, from `p` of the values. -/
def cell (f k v : ℕ → ℕ → ℝ) (o p n m d : ℕ) : ℝ := state (run (f (o + d))) (fun s => v s (p + m)) (fun s => k s (o + d)) n

abbrev St (f k v : ℕ → ℕ → ℝ) (o p n : ℕ) (X : FVec Ideal S512x256 .f32) : Prop := Is X (cell f k v o p n)
abbrev St3 (f k v : ℕ → ℕ → ℝ) (o p n : ℕ) (X : Vec Ideal S1x512x256 .f32) : Prop := Is3 X (cell f k v o p n)

/-- What token `t` takes of its head's state before its chunk, at column `n`. -/
def took (f q k v : ℕ → ℕ → ℝ) (t n : ℕ) : ℝ :=
  ∑ d : Fin 256, (q t (256 * (n / 512) + d.val) * (1 / 16) * Real.exp (inn (f (256 * (n / 512) + d.val)) t))
    * state (run (f (256 * (n / 512) + d.val))) (fun s => v s n) (fun s => k s (256 * (n / 512) + d.val)) (64 * (t / 64))

/-- What the block's body holds of its inputs: values, scaled queries, keys and the chunks' decays. -/
structure Blk (f q k v : ℕ → ℕ → ℝ) (b : ℕ) (VB : FVec Ideal S256x2048 .bf16) (QE KL : FVec Ideal S256x1024 .bf16) (Lx : FVec Ideal S256x1024 .f32) : Prop where
  hb : b % 256 = 0
  hv : Is VB (fun r j => v (b + r) j)
  hq : Is QE (fun r j => q (b + r) j * (1 / 16) * Real.exp (inn (f j) (b + r)))
  hk : Is KL (fun r j => k (b + r) j * Real.exp (inn (f j) (b + (64 * (r / 64) + 63)) - inn (f j) (b + r)))
  hl : Is Lx (fun r j => Real.exp (inn (f j) (b + (64 * (r / 64) + 63))))

/-- A chunk's update, in the reals. -/
theorem cell_step (f k v : ℕ → ℕ → ℝ) (b c o p n d : ℕ) (hb : b % 256 = 0) (hc : c % 64 = 0) :
    cell f k v o p (b + c) n d * Real.exp (inn (f (o + d)) (b + (64 * (c / 64) + 63)))
      + ∑ r : Fin 64, v (b + (c + r.val)) (p + n) * (k (b + (c + r.val)) (o + d) * Real.exp (inn (f (o + d)) (b + (64 * ((c + r.val) / 64) + 63)) - inn (f (o + d)) (b + (c + r.val))))
      = cell f k v o p (b + (c + 64)) n d := by
  unfold cell
  rw [← Nat.add_assoc b c 64, ← state_step (f (o + d)) (fun s => v s (p + n)) (fun s => k s (o + d)) (b + c) (by omega),
    show b + (64 * (c / 64) + 63) = b + c + 63 by omega]
  refine congrArg (_ + ·) (Finset.sum_congr rfl fun r _ => ?_)
  rw [show b + (64 * ((c + r.val) / 64) + 63) = b + c + 63 by omega, ← Nat.add_assoc]

/-- What a chunk's token takes of the state before the chunk. -/
theorem took_eq (f q k v : ℕ → ℕ → ℝ) (b c o p r n h : ℕ) (hb : b % 256 = 0) (hc : c % 64 = 0) (hr : r < 64) (hn : n < 512) (ho : o = 256 * h) (hp : p = 512 * h) :
    ∑ d : Fin 256, (q (b + (c + r)) (o + d.val) * (1 / 16) * Real.exp (inn (f (o + d.val)) (b + (c + r)))) * cell f k v o p (b + c) n d.val
      = took f q k v (b + (c + r)) (p + n) := by
  unfold took cell
  rw [show (p + n) / 512 = h by omega, ← ho, show 64 * ((b + (c + r)) / 64) = b + c by omega]

variable {f q k v : ℕ → ℕ → ℝ} {b : ℕ} {VB : FVec Ideal S256x2048 .bf16} {QE KL : FVec Ideal S256x1024 .bf16} {Lx : FVec Ideal S256x1024 .f32}

/-- Head 0's state of the scratch, chunk 0. -/
theorem un23 {n : ℕ} {X : Vec Ideal S1x512x256 .f32} (h : St3 f k v 0 0 n X) : St f k v 0 0 n (k0_pay23 X) := by
  unfold k0_pay23
  exact is_unslab shapeCasts_S1x512x256_S512x256 h

theorem took27 (H : Blk f q k v b VB QE KL Lx) {S : FVec Ideal S512x256 .f32} (h : St f k v 0 0 (b + 0) S) :
    Is (k0_pay27 QE S) (fun r n => took f q k v (b + (0 + r)) (0 + n)) := by
  unfold k0_pay27
  exact (is_inter (S := S) 0 0 slices_S256x1024_o0_0_S64x256 H.hq h).congr fun r n hr hn =>
    took_eq f q k v b 0 0 0 r n 0 H.hb (by decide) hr hn (by decide) (by decide)

/-- Head 0's state after chunk 0. -/
theorem upd31 (H : Blk f q k v b VB QE KL Lx) {S : FVec Ideal S512x256 .f32} (h : St f k v 0 0 (b + 0) S) :
    St f k v 0 0 (b + 64) (k0_pay31 VB KL Lx S) := by
  unfold k0_pay31
  exact (is_upd 0 0 0 slices_S256x1024_o0_0_S1x256 slices_S256x2048_o0_0_S64x512 slices_S256x1024_o0_0_S64x256 H.hv H.hk H.hl h).congr
    fun n d _ _ => cell_step f k v b 0 0 0 n d H.hb (by decide)
theorem upd32 {n : ℕ} {S : FVec Ideal S512x256 .f32} (h : St f k v 0 0 n S) : St3 f k v 0 0 n (k0_pay32 S) := by
  unfold k0_pay32
  exact is_slab shapeCasts_S512x256_S1x512x256 h

/-- Head 1's state of the scratch, chunk 0. -/
theorem un24 {n : ℕ} {X : Vec Ideal S1x512x256 .f32} (h : St3 f k v 256 512 n X) : St f k v 256 512 n (k0_pay24 X) := by
  unfold k0_pay24
  exact is_unslab shapeCasts_S1x512x256_S512x256 h

theorem took28 (H : Blk f q k v b VB QE KL Lx) {S : FVec Ideal S512x256 .f32} (h : St f k v 256 512 (b + 0) S) :
    Is (k0_pay28 QE S) (fun r n => took f q k v (b + (0 + r)) (512 + n)) := by
  unfold k0_pay28
  exact (is_inter (S := S) 0 256 slices_S256x1024_o0_256_S64x256 H.hq h).congr fun r n hr hn =>
    took_eq f q k v b 0 256 512 r n 1 H.hb (by decide) hr hn (by decide) (by decide)

/-- Head 1's state after chunk 0. -/
theorem upd33 (H : Blk f q k v b VB QE KL Lx) {S : FVec Ideal S512x256 .f32} (h : St f k v 256 512 (b + 0) S) :
    St3 f k v 256 512 (b + 64) (k0_pay33 VB KL Lx S) := by
  unfold k0_pay33
  exact is_slab shapeCasts_S512x256_S1x512x256 ((is_upd 0 256 512 slices_S256x1024_o0_256_S1x256 slices_S256x2048_o0_512_S64x512 slices_S256x1024_o0_256_S64x256 H.hv H.hk H.hl h).congr
    fun n d _ _ => cell_step f k v b 0 256 512 n d H.hb (by decide))

/-- Head 2's state of the scratch, chunk 0. -/
theorem un25 {n : ℕ} {X : Vec Ideal S1x512x256 .f32} (h : St3 f k v 512 1024 n X) : St f k v 512 1024 n (k0_pay25 X) := by
  unfold k0_pay25
  exact is_unslab shapeCasts_S1x512x256_S512x256 h

theorem took29 (H : Blk f q k v b VB QE KL Lx) {S : Vec Ideal S1x512x256 .f32} (h : St3 f k v 512 1024 (b + 0) S) :
    Is (k0_pay29 QE S) (fun r n => took f q k v (b + (0 + r)) (1024 + n)) := by
  unfold k0_pay29
  exact (is_inter (S := k0_pay25 S) 0 512 slices_S256x1024_o0_512_S64x256 H.hq (un25 h)).congr fun r n hr hn =>
    took_eq f q k v b 0 512 1024 r n 2 H.hb (by decide) hr hn (by decide) (by decide)

/-- Head 2's state after chunk 0. -/
theorem upd34 (H : Blk f q k v b VB QE KL Lx) {S : FVec Ideal S512x256 .f32} (h : St f k v 512 1024 (b + 0) S) :
    St3 f k v 512 1024 (b + 64) (k0_pay34 VB KL Lx S) := by
  unfold k0_pay34
  exact is_slab shapeCasts_S512x256_S1x512x256 ((is_upd 0 512 1024 slices_S256x1024_o0_512_S1x256 slices_S256x2048_o0_1024_S64x512 slices_S256x1024_o0_512_S64x256 H.hv H.hk H.hl h).congr
    fun n d _ _ => cell_step f k v b 0 512 1024 n d H.hb (by decide))

/-- Head 3's state of the scratch, chunk 0. -/
theorem un26 {n : ℕ} {X : Vec Ideal S1x512x256 .f32} (h : St3 f k v 768 1536 n X) : St f k v 768 1536 n (k0_pay26 X) := by
  unfold k0_pay26
  exact is_unslab shapeCasts_S1x512x256_S512x256 h

theorem took30 (H : Blk f q k v b VB QE KL Lx) {S : Vec Ideal S1x512x256 .f32} (h : St3 f k v 768 1536 (b + 0) S) :
    Is (k0_pay30 QE S) (fun r n => took f q k v (b + (0 + r)) (1536 + n)) := by
  unfold k0_pay30
  exact (is_inter (S := k0_pay26 S) 0 768 slices_S256x1024_o0_768_S64x256 H.hq (un26 h)).congr fun r n hr hn =>
    took_eq f q k v b 0 768 1536 r n 3 H.hb (by decide) hr hn (by decide) (by decide)

/-- Head 3's state after chunk 0. -/
theorem upd35 (H : Blk f q k v b VB QE KL Lx) {S : FVec Ideal S512x256 .f32} (h : St f k v 768 1536 (b + 0) S) :
    St3 f k v 768 1536 (b + 64) (k0_pay35 VB KL Lx S) := by
  unfold k0_pay35
  exact is_slab shapeCasts_S512x256_S1x512x256 ((is_upd 0 768 1536 slices_S256x1024_o0_768_S1x256 slices_S256x2048_o0_1536_S64x512 slices_S256x1024_o0_768_S64x256 H.hv H.hk H.hl h).congr
    fun n d _ _ => cell_step f k v b 0 768 1536 n d H.hb (by decide))

/-- Head 0's state of the scratch, chunk 1. -/
theorem un36 {n : ℕ} {X : Vec Ideal S1x512x256 .f32} (h : St3 f k v 0 0 n X) : St f k v 0 0 n (k0_pay36 X) := by
  unfold k0_pay36
  exact is_unslab shapeCasts_S1x512x256_S512x256 h

theorem took40 (H : Blk f q k v b VB QE KL Lx) {S : FVec Ideal S512x256 .f32} (h : St f k v 0 0 (b + 64) S) :
    Is (k0_pay40 QE S) (fun r n => took f q k v (b + (64 + r)) (0 + n)) := by
  unfold k0_pay40
  exact (is_inter (S := S) 64 0 slices_S256x1024_o64_0_S64x256 H.hq h).congr fun r n hr hn =>
    took_eq f q k v b 64 0 0 r n 0 H.hb (by decide) hr hn (by decide) (by decide)

/-- Head 0's state after chunk 1. -/
theorem upd44 (H : Blk f q k v b VB QE KL Lx) {S : FVec Ideal S512x256 .f32} (h : St f k v 0 0 (b + 64) S) :
    St f k v 0 0 (b + 128) (k0_pay44 VB KL Lx S) := by
  unfold k0_pay44
  exact (is_upd 64 0 0 slices_S256x1024_o64_0_S1x256 slices_S256x2048_o64_0_S64x512 slices_S256x1024_o64_0_S64x256 H.hv H.hk H.hl h).congr
    fun n d _ _ => cell_step f k v b 64 0 0 n d H.hb (by decide)
theorem upd45 {n : ℕ} {S : FVec Ideal S512x256 .f32} (h : St f k v 0 0 n S) : St3 f k v 0 0 n (k0_pay45 S) := by
  unfold k0_pay45
  exact is_slab shapeCasts_S512x256_S1x512x256 h

/-- Head 1's state of the scratch, chunk 1. -/
theorem un37 {n : ℕ} {X : Vec Ideal S1x512x256 .f32} (h : St3 f k v 256 512 n X) : St f k v 256 512 n (k0_pay37 X) := by
  unfold k0_pay37
  exact is_unslab shapeCasts_S1x512x256_S512x256 h

theorem took41 (H : Blk f q k v b VB QE KL Lx) {S : FVec Ideal S512x256 .f32} (h : St f k v 256 512 (b + 64) S) :
    Is (k0_pay41 QE S) (fun r n => took f q k v (b + (64 + r)) (512 + n)) := by
  unfold k0_pay41
  exact (is_inter (S := S) 64 256 slices_S256x1024_o64_256_S64x256 H.hq h).congr fun r n hr hn =>
    took_eq f q k v b 64 256 512 r n 1 H.hb (by decide) hr hn (by decide) (by decide)

/-- Head 1's state after chunk 1. -/
theorem upd46 (H : Blk f q k v b VB QE KL Lx) {S : FVec Ideal S512x256 .f32} (h : St f k v 256 512 (b + 64) S) :
    St3 f k v 256 512 (b + 128) (k0_pay46 VB KL Lx S) := by
  unfold k0_pay46
  exact is_slab shapeCasts_S512x256_S1x512x256 ((is_upd 64 256 512 slices_S256x1024_o64_256_S1x256 slices_S256x2048_o64_512_S64x512 slices_S256x1024_o64_256_S64x256 H.hv H.hk H.hl h).congr
    fun n d _ _ => cell_step f k v b 64 256 512 n d H.hb (by decide))

/-- Head 2's state of the scratch, chunk 1. -/
theorem un38 {n : ℕ} {X : Vec Ideal S1x512x256 .f32} (h : St3 f k v 512 1024 n X) : St f k v 512 1024 n (k0_pay38 X) := by
  unfold k0_pay38
  exact is_unslab shapeCasts_S1x512x256_S512x256 h

theorem took42 (H : Blk f q k v b VB QE KL Lx) {S : Vec Ideal S1x512x256 .f32} (h : St3 f k v 512 1024 (b + 64) S) :
    Is (k0_pay42 QE S) (fun r n => took f q k v (b + (64 + r)) (1024 + n)) := by
  unfold k0_pay42
  exact (is_inter (S := k0_pay38 S) 64 512 slices_S256x1024_o64_512_S64x256 H.hq (un38 h)).congr fun r n hr hn =>
    took_eq f q k v b 64 512 1024 r n 2 H.hb (by decide) hr hn (by decide) (by decide)

/-- Head 2's state after chunk 1. -/
theorem upd47 (H : Blk f q k v b VB QE KL Lx) {S : FVec Ideal S512x256 .f32} (h : St f k v 512 1024 (b + 64) S) :
    St3 f k v 512 1024 (b + 128) (k0_pay47 VB KL Lx S) := by
  unfold k0_pay47
  exact is_slab shapeCasts_S512x256_S1x512x256 ((is_upd 64 512 1024 slices_S256x1024_o64_512_S1x256 slices_S256x2048_o64_1024_S64x512 slices_S256x1024_o64_512_S64x256 H.hv H.hk H.hl h).congr
    fun n d _ _ => cell_step f k v b 64 512 1024 n d H.hb (by decide))

/-- Head 3's state of the scratch, chunk 1. -/
theorem un39 {n : ℕ} {X : Vec Ideal S1x512x256 .f32} (h : St3 f k v 768 1536 n X) : St f k v 768 1536 n (k0_pay39 X) := by
  unfold k0_pay39
  exact is_unslab shapeCasts_S1x512x256_S512x256 h

theorem took43 (H : Blk f q k v b VB QE KL Lx) {S : Vec Ideal S1x512x256 .f32} (h : St3 f k v 768 1536 (b + 64) S) :
    Is (k0_pay43 QE S) (fun r n => took f q k v (b + (64 + r)) (1536 + n)) := by
  unfold k0_pay43
  exact (is_inter (S := k0_pay39 S) 64 768 slices_S256x1024_o64_768_S64x256 H.hq (un39 h)).congr fun r n hr hn =>
    took_eq f q k v b 64 768 1536 r n 3 H.hb (by decide) hr hn (by decide) (by decide)

/-- Head 3's state after chunk 1. -/
theorem upd48 (H : Blk f q k v b VB QE KL Lx) {S : FVec Ideal S512x256 .f32} (h : St f k v 768 1536 (b + 64) S) :
    St3 f k v 768 1536 (b + 128) (k0_pay48 VB KL Lx S) := by
  unfold k0_pay48
  exact is_slab shapeCasts_S512x256_S1x512x256 ((is_upd 64 768 1536 slices_S256x1024_o64_768_S1x256 slices_S256x2048_o64_1536_S64x512 slices_S256x1024_o64_768_S64x256 H.hv H.hk H.hl h).congr
    fun n d _ _ => cell_step f k v b 64 768 1536 n d H.hb (by decide))

/-- Head 0's state of the scratch, chunk 2. -/
theorem un49 {n : ℕ} {X : Vec Ideal S1x512x256 .f32} (h : St3 f k v 0 0 n X) : St f k v 0 0 n (k0_pay49 X) := by
  unfold k0_pay49
  exact is_unslab shapeCasts_S1x512x256_S512x256 h

theorem took53 (H : Blk f q k v b VB QE KL Lx) {S : FVec Ideal S512x256 .f32} (h : St f k v 0 0 (b + 128) S) :
    Is (k0_pay53 QE S) (fun r n => took f q k v (b + (128 + r)) (0 + n)) := by
  unfold k0_pay53
  exact (is_inter (S := S) 128 0 slices_S256x1024_o128_0_S64x256 H.hq h).congr fun r n hr hn =>
    took_eq f q k v b 128 0 0 r n 0 H.hb (by decide) hr hn (by decide) (by decide)

/-- Head 0's state after chunk 2. -/
theorem upd57 (H : Blk f q k v b VB QE KL Lx) {S : FVec Ideal S512x256 .f32} (h : St f k v 0 0 (b + 128) S) :
    St f k v 0 0 (b + 192) (k0_pay57 VB KL Lx S) := by
  unfold k0_pay57
  exact (is_upd 128 0 0 slices_S256x1024_o128_0_S1x256 slices_S256x2048_o128_0_S64x512 slices_S256x1024_o128_0_S64x256 H.hv H.hk H.hl h).congr
    fun n d _ _ => cell_step f k v b 128 0 0 n d H.hb (by decide)
theorem upd58 {n : ℕ} {S : FVec Ideal S512x256 .f32} (h : St f k v 0 0 n S) : St3 f k v 0 0 n (k0_pay58 S) := by
  unfold k0_pay58
  exact is_slab shapeCasts_S512x256_S1x512x256 h

/-- Head 1's state of the scratch, chunk 2. -/
theorem un50 {n : ℕ} {X : Vec Ideal S1x512x256 .f32} (h : St3 f k v 256 512 n X) : St f k v 256 512 n (k0_pay50 X) := by
  unfold k0_pay50
  exact is_unslab shapeCasts_S1x512x256_S512x256 h

theorem took54 (H : Blk f q k v b VB QE KL Lx) {S : FVec Ideal S512x256 .f32} (h : St f k v 256 512 (b + 128) S) :
    Is (k0_pay54 QE S) (fun r n => took f q k v (b + (128 + r)) (512 + n)) := by
  unfold k0_pay54
  exact (is_inter (S := S) 128 256 slices_S256x1024_o128_256_S64x256 H.hq h).congr fun r n hr hn =>
    took_eq f q k v b 128 256 512 r n 1 H.hb (by decide) hr hn (by decide) (by decide)

/-- Head 1's state after chunk 2. -/
theorem upd59 (H : Blk f q k v b VB QE KL Lx) {S : FVec Ideal S512x256 .f32} (h : St f k v 256 512 (b + 128) S) :
    St3 f k v 256 512 (b + 192) (k0_pay59 VB KL Lx S) := by
  unfold k0_pay59
  exact is_slab shapeCasts_S512x256_S1x512x256 ((is_upd 128 256 512 slices_S256x1024_o128_256_S1x256 slices_S256x2048_o128_512_S64x512 slices_S256x1024_o128_256_S64x256 H.hv H.hk H.hl h).congr
    fun n d _ _ => cell_step f k v b 128 256 512 n d H.hb (by decide))

/-- Head 2's state of the scratch, chunk 2. -/
theorem un51 {n : ℕ} {X : Vec Ideal S1x512x256 .f32} (h : St3 f k v 512 1024 n X) : St f k v 512 1024 n (k0_pay51 X) := by
  unfold k0_pay51
  exact is_unslab shapeCasts_S1x512x256_S512x256 h

theorem took55 (H : Blk f q k v b VB QE KL Lx) {S : Vec Ideal S1x512x256 .f32} (h : St3 f k v 512 1024 (b + 128) S) :
    Is (k0_pay55 QE S) (fun r n => took f q k v (b + (128 + r)) (1024 + n)) := by
  unfold k0_pay55
  exact (is_inter (S := k0_pay51 S) 128 512 slices_S256x1024_o128_512_S64x256 H.hq (un51 h)).congr fun r n hr hn =>
    took_eq f q k v b 128 512 1024 r n 2 H.hb (by decide) hr hn (by decide) (by decide)

/-- Head 2's state after chunk 2. -/
theorem upd60 (H : Blk f q k v b VB QE KL Lx) {S : FVec Ideal S512x256 .f32} (h : St f k v 512 1024 (b + 128) S) :
    St3 f k v 512 1024 (b + 192) (k0_pay60 VB KL Lx S) := by
  unfold k0_pay60
  exact is_slab shapeCasts_S512x256_S1x512x256 ((is_upd 128 512 1024 slices_S256x1024_o128_512_S1x256 slices_S256x2048_o128_1024_S64x512 slices_S256x1024_o128_512_S64x256 H.hv H.hk H.hl h).congr
    fun n d _ _ => cell_step f k v b 128 512 1024 n d H.hb (by decide))

/-- Head 3's state of the scratch, chunk 2. -/
theorem un52 {n : ℕ} {X : Vec Ideal S1x512x256 .f32} (h : St3 f k v 768 1536 n X) : St f k v 768 1536 n (k0_pay52 X) := by
  unfold k0_pay52
  exact is_unslab shapeCasts_S1x512x256_S512x256 h

theorem took56 (H : Blk f q k v b VB QE KL Lx) {S : Vec Ideal S1x512x256 .f32} (h : St3 f k v 768 1536 (b + 128) S) :
    Is (k0_pay56 QE S) (fun r n => took f q k v (b + (128 + r)) (1536 + n)) := by
  unfold k0_pay56
  exact (is_inter (S := k0_pay52 S) 128 768 slices_S256x1024_o128_768_S64x256 H.hq (un52 h)).congr fun r n hr hn =>
    took_eq f q k v b 128 768 1536 r n 3 H.hb (by decide) hr hn (by decide) (by decide)

/-- Head 3's state after chunk 2. -/
theorem upd61 (H : Blk f q k v b VB QE KL Lx) {S : FVec Ideal S512x256 .f32} (h : St f k v 768 1536 (b + 128) S) :
    St3 f k v 768 1536 (b + 192) (k0_pay61 VB KL Lx S) := by
  unfold k0_pay61
  exact is_slab shapeCasts_S512x256_S1x512x256 ((is_upd 128 768 1536 slices_S256x1024_o128_768_S1x256 slices_S256x2048_o128_1536_S64x512 slices_S256x1024_o128_768_S64x256 H.hv H.hk H.hl h).congr
    fun n d _ _ => cell_step f k v b 128 768 1536 n d H.hb (by decide))

/-- Head 0's state of the scratch, chunk 3. -/
theorem un62 {n : ℕ} {X : Vec Ideal S1x512x256 .f32} (h : St3 f k v 0 0 n X) : St f k v 0 0 n (k0_pay62 X) := by
  unfold k0_pay62
  exact is_unslab shapeCasts_S1x512x256_S512x256 h

theorem took66 (H : Blk f q k v b VB QE KL Lx) {S : FVec Ideal S512x256 .f32} (h : St f k v 0 0 (b + 192) S) :
    Is (k0_pay66 QE S) (fun r n => took f q k v (b + (192 + r)) (0 + n)) := by
  unfold k0_pay66
  exact (is_inter (S := S) 192 0 slices_S256x1024_o192_0_S64x256 H.hq h).congr fun r n hr hn =>
    took_eq f q k v b 192 0 0 r n 0 H.hb (by decide) hr hn (by decide) (by decide)

/-- Head 0's state after chunk 3. -/
theorem upd70 (H : Blk f q k v b VB QE KL Lx) {S : FVec Ideal S512x256 .f32} (h : St f k v 0 0 (b + 192) S) :
    St f k v 0 0 (b + 256) (k0_pay70 VB KL Lx S) := by
  unfold k0_pay70
  exact (is_upd 192 0 0 slices_S256x1024_o192_0_S1x256 slices_S256x2048_o192_0_S64x512 slices_S256x1024_o192_0_S64x256 H.hv H.hk H.hl h).congr
    fun n d _ _ => cell_step f k v b 192 0 0 n d H.hb (by decide)
theorem upd71 {n : ℕ} {S : FVec Ideal S512x256 .f32} (h : St f k v 0 0 n S) : St3 f k v 0 0 n (k0_pay71 S) := by
  unfold k0_pay71
  exact is_slab shapeCasts_S512x256_S1x512x256 h

/-- Head 1's state of the scratch, chunk 3. -/
theorem un63 {n : ℕ} {X : Vec Ideal S1x512x256 .f32} (h : St3 f k v 256 512 n X) : St f k v 256 512 n (k0_pay63 X) := by
  unfold k0_pay63
  exact is_unslab shapeCasts_S1x512x256_S512x256 h

theorem took67 (H : Blk f q k v b VB QE KL Lx) {S : FVec Ideal S512x256 .f32} (h : St f k v 256 512 (b + 192) S) :
    Is (k0_pay67 QE S) (fun r n => took f q k v (b + (192 + r)) (512 + n)) := by
  unfold k0_pay67
  exact (is_inter (S := S) 192 256 slices_S256x1024_o192_256_S64x256 H.hq h).congr fun r n hr hn =>
    took_eq f q k v b 192 256 512 r n 1 H.hb (by decide) hr hn (by decide) (by decide)

/-- Head 1's state after chunk 3. -/
theorem upd72 (H : Blk f q k v b VB QE KL Lx) {S : FVec Ideal S512x256 .f32} (h : St f k v 256 512 (b + 192) S) :
    St3 f k v 256 512 (b + 256) (k0_pay72 VB KL Lx S) := by
  unfold k0_pay72
  exact is_slab shapeCasts_S512x256_S1x512x256 ((is_upd 192 256 512 slices_S256x1024_o192_256_S1x256 slices_S256x2048_o192_512_S64x512 slices_S256x1024_o192_256_S64x256 H.hv H.hk H.hl h).congr
    fun n d _ _ => cell_step f k v b 192 256 512 n d H.hb (by decide))

/-- Head 2's state of the scratch, chunk 3. -/
theorem un64 {n : ℕ} {X : Vec Ideal S1x512x256 .f32} (h : St3 f k v 512 1024 n X) : St f k v 512 1024 n (k0_pay64 X) := by
  unfold k0_pay64
  exact is_unslab shapeCasts_S1x512x256_S512x256 h

theorem took68 (H : Blk f q k v b VB QE KL Lx) {S : Vec Ideal S1x512x256 .f32} (h : St3 f k v 512 1024 (b + 192) S) :
    Is (k0_pay68 QE S) (fun r n => took f q k v (b + (192 + r)) (1024 + n)) := by
  unfold k0_pay68
  exact (is_inter (S := k0_pay64 S) 192 512 slices_S256x1024_o192_512_S64x256 H.hq (un64 h)).congr fun r n hr hn =>
    took_eq f q k v b 192 512 1024 r n 2 H.hb (by decide) hr hn (by decide) (by decide)

/-- Head 2's state after chunk 3. -/
theorem upd73 (H : Blk f q k v b VB QE KL Lx) {S : FVec Ideal S512x256 .f32} (h : St f k v 512 1024 (b + 192) S) :
    St3 f k v 512 1024 (b + 256) (k0_pay73 VB KL Lx S) := by
  unfold k0_pay73
  exact is_slab shapeCasts_S512x256_S1x512x256 ((is_upd 192 512 1024 slices_S256x1024_o192_512_S1x256 slices_S256x2048_o192_1024_S64x512 slices_S256x1024_o192_512_S64x256 H.hv H.hk H.hl h).congr
    fun n d _ _ => cell_step f k v b 192 512 1024 n d H.hb (by decide))

/-- Head 3's state of the scratch, chunk 3. -/
theorem un65 {n : ℕ} {X : Vec Ideal S1x512x256 .f32} (h : St3 f k v 768 1536 n X) : St f k v 768 1536 n (k0_pay65 X) := by
  unfold k0_pay65
  exact is_unslab shapeCasts_S1x512x256_S512x256 h

theorem took69 (H : Blk f q k v b VB QE KL Lx) {S : Vec Ideal S1x512x256 .f32} (h : St3 f k v 768 1536 (b + 192) S) :
    Is (k0_pay69 QE S) (fun r n => took f q k v (b + (192 + r)) (1536 + n)) := by
  unfold k0_pay69
  exact (is_inter (S := k0_pay65 S) 192 768 slices_S256x1024_o192_768_S64x256 H.hq (un65 h)).congr fun r n hr hn =>
    took_eq f q k v b 192 768 1536 r n 3 H.hb (by decide) hr hn (by decide) (by decide)

/-- Head 3's state after chunk 3. -/
theorem upd74 (H : Blk f q k v b VB QE KL Lx) {S : FVec Ideal S512x256 .f32} (h : St f k v 768 1536 (b + 192) S) :
    St3 f k v 768 1536 (b + 256) (k0_pay74 VB KL Lx S) := by
  unfold k0_pay74
  exact is_slab shapeCasts_S512x256_S1x512x256 ((is_upd 192 768 1536 slices_S256x1024_o192_768_S1x256 slices_S256x2048_o192_1536_S64x512 slices_S256x1024_o192_768_S64x256 H.hv H.hk H.hl h).congr
    fun n d _ _ => cell_step f k v b 192 768 1536 n d H.hb (by decide))

/-- A load of a rectangle of a whole operand. -/
theorem is_rd {a b c d : ℕ} (m : Memref sig .tc .vmem ⟨2, ![a, b]⟩ .f32) (hm : m.IsWhole) {x : Vec Ideal ⟨2, ![a, b]⟩ .f32} {g : ℕ → ℕ → ℝ} (o p : ℕ)
    (inb : ∀ i, (![o, p] : Fin 2 → ℕ) i + (![c, d] : Fin 2 → ℕ) i ≤ (![a, b] : Fin 2 → ℕ) i) (h : Is x g) :
    Is (View.readAt (Elt Ideal) m.view (Rect.unit (s := ⟨2, ![a, b]⟩) ![o, p] ![c, d] inb).toLoadRect (hm.unread x)) (fun r j => g (o + r) (p + j)) := fun r j => by
  rw [View.readAt_apply, hm.read_unread]
  refine (h.at _).trans ?_
  show (g (o + 1 * r.val) (p + 1 * j.val) : EReal) = _
  rw [one_mul, one_mul]

/-- A load of the first row of a whole operand. -/
theorem is_rd_row {a d : ℕ} (m : Memref sig .tc .vmem ⟨2, ![a + 1, d]⟩ .f32) (hm : m.IsWhole) {x : Vec Ideal ⟨2, ![a + 1, d]⟩ .f32} {g : ℕ → ℝ}
    (inb : ∀ i, (![0, 0] : Fin 2 → ℕ) i + (![1, d] : Fin 2 → ℕ) i ≤ (![a + 1, d] : Fin 2 → ℕ) i) (h : ∀ j : Fin d, x (ix2 0 j) = (g j.val : EReal)) :
    Is (View.readAt (Elt Ideal) m.view (Rect.unit (s := ⟨2, ![a + 1, d]⟩) ![0, 0] ![1, d] inb).toLoadRect (hm.unread x)) (fun _ j => g j) := fun r j => by
  rw [View.readAt_apply, hm.read_unread, ← h j]
  have hr : r.val = 0 := by omega
  exact congrArg x (funext fun i => match i with
    | ⟨0, _⟩ => Fin.ext (by show 0 + 1 * r.val = 0; omega)
    | ⟨1, _⟩ => Fin.ext (by show 0 + 1 * j.val = j.val; omega))

/-- A load of a head's slab of the state's scratch. -/
theorem is_rd3 (m : Memref sig .tc .vmem S4x512x256 .f32) (hm : m.IsWhole) {x : Vec Ideal S4x512x256 .f32} {g : ℕ → ℕ → ℝ} (o : ℕ) (ho : o < 4)
    (inb : ∀ i, (![o, 0, 0] : Fin 3 → ℕ) i + S1x512x256.size i ≤ S4x512x256.size i) (h : ∀ (i : Fin 512) (j : Fin 256), x (ix3 ⟨o, ho⟩ i j) = (g i.val j.val : EReal)) :
    Is3 (View.readAt (Elt Ideal) m.view (Rect.unit (s := S4x512x256) ![o, 0, 0] S1x512x256.size inb).toLoadRect (hm.unread x)) g := fun i j => by
  rw [View.readAt_apply, hm.read_unread, ← h i j]
  exact congrArg x (funext fun a => match a with
    | ⟨0, _⟩ => Fin.ext (by show o + 1 * 0 = o; omega)
    | ⟨1, _⟩ => Fin.ext (by show 0 + 1 * i.val = i.val; omega)
    | ⟨2, _⟩ => Fin.ext (by show 0 + 1 * j.val = j.val; omega))

/-- The slab of head `h`. -/
abbrev slab (h : ℕ) (inb : ∀ i, (![h, 0, 0] : Fin 3 → ℕ) i + S1x512x256.size i ≤ S4x512x256.size i) : Rect S4x512x256 := Rect.unit ![h, 0, 0] S1x512x256.size inb

theorem slab_apart {h h' : ℕ} (hh : h ≠ h') (i1 i2) : Disjoint (slab h i1).set (slab h' i2).set :=
  Rect.unit_disjoint 0 (by show h + 1 ≤ h' ∨ h' + 1 ≤ h; omega)

section

variable (m : Memref sig .tc .vmem S4x512x256 .f32) (w3 w2 w1 w0 : Vec Ideal S1x512x256 .f32) (T : List (View.Piece (Elt Ideal) S4x512x256 .f32)) {g : ℕ → ℕ → ℝ}

/-- The scratch's four slabs after a chunk's stores. -/
abbrev slabs : List (View.Piece (Elt Ideal) S4x512x256 .f32) :=
  ⟨slab 3 inb_S4x512x256_S1x512x256_3_0_0, w3⟩ :: ⟨slab 2 inb_S4x512x256_S1x512x256_2_0_0, w2⟩ :: ⟨slab 1 inb_S4x512x256_S1x512x256_1_0_0, w1⟩ :: ⟨slab 0 inb_S4x512x256_S1x512x256_0_0_0, w0⟩ :: T

variable {w3 w2 w1 w0}

theorem skip {h h' : ℕ} (hh : h ≠ h') (i1 i2) (w : Vec Ideal S1x512x256 .f32) (L : List (View.Piece (Elt Ideal) S4x512x256 .f32)) :
    m.view.readCov (⟨slab h i1, w⟩ :: L) (slab h' i2).toLoadRect = m.view.readCov L (slab h' i2).toLoadRect :=
  View.readCov_cons_of_disjoint m.view ⟨slab h i1, w⟩ L (slab h' i2).toLoadRect (slab_apart hh i1 i2)

theorem slab3 (h : Is3 w3 g) : Is3 (m.view.readCov (slabs w3 w2 w1 w0 T) (slab 3 inb_S4x512x256_S1x512x256_3_0_0).toLoadRect) g :=
  (View.readCov_cons_toLoadRect m.view (slab 3 inb_S4x512x256_S1x512x256_3_0_0) w3 _).symm ▸ h
theorem slab2 (h : Is3 w2 g) : Is3 (m.view.readCov (slabs w3 w2 w1 w0 T) (slab 2 inb_S4x512x256_S1x512x256_2_0_0).toLoadRect) g :=
  ((skip m (show 3 ≠ 2 by decide) inb_S4x512x256_S1x512x256_3_0_0 inb_S4x512x256_S1x512x256_2_0_0 w3 _).trans (View.readCov_cons_toLoadRect m.view (slab 2 inb_S4x512x256_S1x512x256_2_0_0) w2 _)).symm ▸ h
theorem slab1 (h : Is3 w1 g) : Is3 (m.view.readCov (slabs w3 w2 w1 w0 T) (slab 1 inb_S4x512x256_S1x512x256_1_0_0).toLoadRect) g :=
  ((skip m (show 3 ≠ 1 by decide) inb_S4x512x256_S1x512x256_3_0_0 inb_S4x512x256_S1x512x256_1_0_0 w3 _).trans <| (skip m (show 2 ≠ 1 by decide) inb_S4x512x256_S1x512x256_2_0_0 inb_S4x512x256_S1x512x256_1_0_0 w2 _).trans
    (View.readCov_cons_toLoadRect m.view (slab 1 inb_S4x512x256_S1x512x256_1_0_0) w1 _)).symm ▸ h
theorem slab0 (h : Is3 w0 g) : Is3 (m.view.readCov (slabs w3 w2 w1 w0 T) (slab 0 inb_S4x512x256_S1x512x256_0_0_0).toLoadRect) g :=
  ((skip m (show 3 ≠ 0 by decide) inb_S4x512x256_S1x512x256_3_0_0 inb_S4x512x256_S1x512x256_0_0_0 w3 _).trans <| (skip m (show 2 ≠ 0 by decide) inb_S4x512x256_S1x512x256_2_0_0 inb_S4x512x256_S1x512x256_0_0_0 w2 _).trans <| (skip m (show 1 ≠ 0 by decide) inb_S4x512x256_S1x512x256_1_0_0 inb_S4x512x256_S1x512x256_0_0_0 w1 _).trans
    (View.readCov_cons_toLoadRect m.view (slab 0 inb_S4x512x256_S1x512x256_0_0_0) w0 _)).symm ▸ h

/-- The scratch at the point's end, entry by entry. -/
theorem slab_end (h0 : St3 f k v 0 0 b w0) (h1 : St3 f k v 256 512 b w1) (h2 : St3 f k v 512 1024 b w2) (h3 : St3 f k v 768 1536 b w3) (h : Fin 4) (i : Fin 512) (j : Fin 256) :
    m.view.read (Elt Ideal) (m.view.writes (Elt Ideal) m.view.junk (slabs w3 w2 w1 w0 T)) (ix3 h i j) = (cell f k v (256 * h.val) (512 * h.val) b i.val j.val : EReal) := by
  have key : ∀ (o : ℕ) (ho : o < 4) (inb) (φ : ℕ → ℕ → ℝ), Is3 (m.view.readCov (slabs w3 w2 w1 w0 T) (slab o inb).toLoadRect) φ →
      m.view.read (Elt Ideal) (m.view.writes (Elt Ideal) m.view.junk (slabs w3 w2 w1 w0 T)) (ix3 ⟨o, ho⟩ i j) = (φ i.val j.val : EReal) := fun o ho inb φ hφ => by
    rw [← hφ i j]
    refine congrArg (m.view.read (Elt Ideal) (m.view.writes (Elt Ideal) m.view.junk (slabs w3 w2 w1 w0 T))) (funext fun a => match a with
      | ⟨0, _⟩ => Fin.ext (by show o = o + 1 * 0; omega)
      | ⟨1, _⟩ => Fin.ext (by show i.val = 0 + 1 * i.val; omega)
      | ⟨2, _⟩ => Fin.ext (by show j.val = 0 + 1 * j.val; omega))
  match h with
  | ⟨0, _⟩ => exact key 0 (by decide) _ _ (slab0 m T h0)
  | ⟨1, _⟩ => exact key 1 (by decide) _ _ (slab1 m T h1)
  | ⟨2, _⟩ => exact key 2 (by decide) _ _ (slab2 m T h2)
  | ⟨3, _⟩ => exact key 3 (by decide) _ _ (slab3 m T h3)

/-- The cleared scratch. -/
theorem slab_zero (o p h : ℕ) (inb) : St3 f k v o p 0 (m.view.readCov [⟨Rect.unit ![0, 0, 0] S4x512x256.size inb_S4x512x256_S4x512x256_0_0_0, k0_pay2 (F := Ideal)⟩] (slab h inb).toLoadRect) :=
  fun i j => by
  unfold cell
  rw [state_zero]
  show m.view.read (Elt Ideal) (m.view.writes (Elt Ideal) m.view.junk _) _ = _
  refine View.read_writes_apply_of_pieces (Val := Elt Ideal) m.view m.view.junk (fun _ : S4x512x256.Idx => ((0 : ℝ) : EReal)) _ ?_ _ ⟨_, List.mem_cons_self, ?_⟩
  · intro P hP x
    rw [List.mem_singleton] at hP
    subst hP
    unfold k0_pay2
    exact zero_f32
  · rw [Rect.mem_set_unit]
    intro a
    exact ⟨by fin_cases a <;> exact Nat.zero_le _, by
      refine lt_of_lt_of_eq (Fin.isLt _) ?_
      fin_cases a <;> rfl⟩

end

/-- The second scratch's sixteen pieces. -/
abbrev tooks (w33 w32 w31 w30 w23 w22 w21 w20 w13 w12 w11 w10 w03 w02 w01 w00 : Vec Ideal S64x512 .f32) : List (View.Piece (Elt Ideal) S256x2048 .f32) :=
  [⟨Rect.unit ![192, 1536] S64x512.size inb_S256x2048_S64x512_192_1536, w33⟩, ⟨Rect.unit ![192, 1024] S64x512.size inb_S256x2048_S64x512_192_1024, w32⟩, ⟨Rect.unit ![192, 512] S64x512.size inb_S256x2048_S64x512_192_512, w31⟩, ⟨Rect.unit ![192, 0] S64x512.size inb_S256x2048_S64x512_192_0, w30⟩, ⟨Rect.unit ![128, 1536] S64x512.size inb_S256x2048_S64x512_128_1536, w23⟩, ⟨Rect.unit ![128, 1024] S64x512.size inb_S256x2048_S64x512_128_1024, w22⟩, ⟨Rect.unit ![128, 512] S64x512.size inb_S256x2048_S64x512_128_512, w21⟩, ⟨Rect.unit ![128, 0] S64x512.size inb_S256x2048_S64x512_128_0, w20⟩, ⟨Rect.unit ![64, 1536] S64x512.size inb_S256x2048_S64x512_64_1536, w13⟩, ⟨Rect.unit ![64, 1024] S64x512.size inb_S256x2048_S64x512_64_1024, w12⟩, ⟨Rect.unit ![64, 512] S64x512.size inb_S256x2048_S64x512_64_512, w11⟩, ⟨Rect.unit ![64, 0] S64x512.size inb_S256x2048_S64x512_64_0, w10⟩, ⟨Rect.unit ![0, 1536] S64x512.size inb_S256x2048_S64x512_0_1536, w03⟩, ⟨Rect.unit ![0, 1024] S64x512.size inb_S256x2048_S64x512_0_1024, w02⟩, ⟨Rect.unit ![0, 512] S64x512.size inb_S256x2048_S64x512_0_512, w01⟩, ⟨Rect.unit ![0, 0] S64x512.size inb_S256x2048_S64x512_0_0, w00⟩]

/-- A piece agrees with the function it was taken of. -/
theorem took_piece {w : Vec Ideal S64x512 .f32} {c p : ℕ} (inb) (h : Is w (fun r n => took f q k v (b + (c + r)) (p + n))) (x : S64x512.Idx) :
    w x = (fun y : S256x2048.Idx => ((took f q k v (b + (y 0).val) (y 1).val : ℝ) : EReal)) ((Rect.unit (s := S256x2048) ![c, p] S64x512.size inb).emb x) := by
  refine (h.at x).trans ?_
  show _ = ((took f q k v (b + (c + 1 * (x 0).val)) (p + 1 * (x 1).val) : ℝ) : EReal)
  rw [one_mul, one_mul]

/-- The second scratch read back: a head's columns. -/
theorem tooks_read (m : Memref sig .tc .vmem S256x2048 .f32) {w33 w32 w31 w30 w23 w22 w21 w20 w13 w12 w11 w10 w03 w02 w01 w00 : Vec Ideal S64x512 .f32}
    (h33 : Is w33 (fun r n => took f q k v (b + (192 + r)) (1536 + n)))
    (h32 : Is w32 (fun r n => took f q k v (b + (192 + r)) (1024 + n)))
    (h31 : Is w31 (fun r n => took f q k v (b + (192 + r)) (512 + n)))
    (h30 : Is w30 (fun r n => took f q k v (b + (192 + r)) (0 + n)))
    (h23 : Is w23 (fun r n => took f q k v (b + (128 + r)) (1536 + n)))
    (h22 : Is w22 (fun r n => took f q k v (b + (128 + r)) (1024 + n)))
    (h21 : Is w21 (fun r n => took f q k v (b + (128 + r)) (512 + n)))
    (h20 : Is w20 (fun r n => took f q k v (b + (128 + r)) (0 + n)))
    (h13 : Is w13 (fun r n => took f q k v (b + (64 + r)) (1536 + n)))
    (h12 : Is w12 (fun r n => took f q k v (b + (64 + r)) (1024 + n)))
    (h11 : Is w11 (fun r n => took f q k v (b + (64 + r)) (512 + n)))
    (h10 : Is w10 (fun r n => took f q k v (b + (64 + r)) (0 + n)))
    (h03 : Is w03 (fun r n => took f q k v (b + (0 + r)) (1536 + n)))
    (h02 : Is w02 (fun r n => took f q k v (b + (0 + r)) (1024 + n)))
    (h01 : Is w01 (fun r n => took f q k v (b + (0 + r)) (512 + n)))
    (h00 : Is w00 (fun r n => took f q k v (b + (0 + r)) (0 + n)))
    (p : ℕ) (inb : ∀ i, (![0, p] : Fin 2 → ℕ) i + (![256, 512] : Fin 2 → ℕ) i ≤ (![256, 2048] : Fin 2 → ℕ) i) :
    Is (m.view.readCov (tooks w33 w32 w31 w30 w23 w22 w21 w20 w13 w12 w11 w10 w03 w02 w01 w00) (Rect.unit (s := S256x2048) ![0, p] ![256, 512] inb).toLoadRect) (fun r n => took f q k v (b + r) (p + n)) := fun r n => by
  have hG : ∀ P ∈ tooks w33 w32 w31 w30 w23 w22 w21 w20 w13 w12 w11 w10 w03 w02 w01 w00, ∀ x : P.1.shape.Idx, P.2 x = (fun y : S256x2048.Idx => ((took f q k v (b + (y 0).val) (y 1).val : ℝ) : EReal)) (P.1.emb x) := by
    refine List.forall_mem_cons.2 ⟨took_piece inb_S256x2048_S64x512_192_1536 h33, ?_⟩
    refine List.forall_mem_cons.2 ⟨took_piece inb_S256x2048_S64x512_192_1024 h32, ?_⟩
    refine List.forall_mem_cons.2 ⟨took_piece inb_S256x2048_S64x512_192_512 h31, ?_⟩
    refine List.forall_mem_cons.2 ⟨took_piece inb_S256x2048_S64x512_192_0 h30, ?_⟩
    refine List.forall_mem_cons.2 ⟨took_piece inb_S256x2048_S64x512_128_1536 h23, ?_⟩
    refine List.forall_mem_cons.2 ⟨took_piece inb_S256x2048_S64x512_128_1024 h22, ?_⟩
    refine List.forall_mem_cons.2 ⟨took_piece inb_S256x2048_S64x512_128_512 h21, ?_⟩
    refine List.forall_mem_cons.2 ⟨took_piece inb_S256x2048_S64x512_128_0 h20, ?_⟩
    refine List.forall_mem_cons.2 ⟨took_piece inb_S256x2048_S64x512_64_1536 h13, ?_⟩
    refine List.forall_mem_cons.2 ⟨took_piece inb_S256x2048_S64x512_64_1024 h12, ?_⟩
    refine List.forall_mem_cons.2 ⟨took_piece inb_S256x2048_S64x512_64_512 h11, ?_⟩
    refine List.forall_mem_cons.2 ⟨took_piece inb_S256x2048_S64x512_64_0 h10, ?_⟩
    refine List.forall_mem_cons.2 ⟨took_piece inb_S256x2048_S64x512_0_1536 h03, ?_⟩
    refine List.forall_mem_cons.2 ⟨took_piece inb_S256x2048_S64x512_0_1024 h02, ?_⟩
    refine List.forall_mem_cons.2 ⟨took_piece inb_S256x2048_S64x512_0_512 h01, ?_⟩
    refine List.forall_mem_cons.2 ⟨took_piece inb_S256x2048_S64x512_0_0 h00, ?_⟩
    exact fun _ hP => absurd hP List.not_mem_nil
  have hp : p + 512 ≤ 2048 := inb 1
  have key : ∀ y : S256x2048.Idx, ∃ P ∈ tooks w33 w32 w31 w30 w23 w22 w21 w20 w13 w12 w11 w10 w03 w02 w01 w00, y ∈ P.1.set := by
    intro y
    have e0 : (y 0).val < 256 := (y 0).isLt
    have e1 : (y 1).val < 2048 := (y 1).isLt
    have mem : ∀ (c p : ℕ) (inb), c ≤ (y 0).val ∧ (y 0).val < c + 64 → p ≤ (y 1).val ∧ (y 1).val < p + 512 → y ∈ (Rect.unit (s := S256x2048) ![c, p] S64x512.size inb).set :=
      fun c p inb h0 h1 => Rect.mem_set_unit.2 (Fin.forall_fin_two.2 ⟨h0, h1⟩)
    by_cases g33 : 192 ≤ (y 0).val ∧ 1536 ≤ (y 1).val
    · exact ⟨⟨Rect.unit ![192, 1536] S64x512.size inb_S256x2048_S64x512_192_1536, w33⟩, by simp only [tooks, List.mem_cons, true_or, or_true], mem 192 1536 inb_S256x2048_S64x512_192_1536 (by omega) (by omega)⟩
    by_cases g32 : 192 ≤ (y 0).val ∧ 1024 ≤ (y 1).val
    · exact ⟨⟨Rect.unit ![192, 1024] S64x512.size inb_S256x2048_S64x512_192_1024, w32⟩, by simp only [tooks, List.mem_cons, true_or, or_true], mem 192 1024 inb_S256x2048_S64x512_192_1024 (by omega) (by omega)⟩
    by_cases g31 : 192 ≤ (y 0).val ∧ 512 ≤ (y 1).val
    · exact ⟨⟨Rect.unit ![192, 512] S64x512.size inb_S256x2048_S64x512_192_512, w31⟩, by simp only [tooks, List.mem_cons, true_or, or_true], mem 192 512 inb_S256x2048_S64x512_192_512 (by omega) (by omega)⟩
    by_cases g30 : 192 ≤ (y 0).val ∧ 0 ≤ (y 1).val
    · exact ⟨⟨Rect.unit ![192, 0] S64x512.size inb_S256x2048_S64x512_192_0, w30⟩, by simp only [tooks, List.mem_cons, true_or, or_true], mem 192 0 inb_S256x2048_S64x512_192_0 (by omega) (by omega)⟩
    by_cases g23 : 128 ≤ (y 0).val ∧ 1536 ≤ (y 1).val
    · exact ⟨⟨Rect.unit ![128, 1536] S64x512.size inb_S256x2048_S64x512_128_1536, w23⟩, by simp only [tooks, List.mem_cons, true_or, or_true], mem 128 1536 inb_S256x2048_S64x512_128_1536 (by omega) (by omega)⟩
    by_cases g22 : 128 ≤ (y 0).val ∧ 1024 ≤ (y 1).val
    · exact ⟨⟨Rect.unit ![128, 1024] S64x512.size inb_S256x2048_S64x512_128_1024, w22⟩, by simp only [tooks, List.mem_cons, true_or, or_true], mem 128 1024 inb_S256x2048_S64x512_128_1024 (by omega) (by omega)⟩
    by_cases g21 : 128 ≤ (y 0).val ∧ 512 ≤ (y 1).val
    · exact ⟨⟨Rect.unit ![128, 512] S64x512.size inb_S256x2048_S64x512_128_512, w21⟩, by simp only [tooks, List.mem_cons, true_or, or_true], mem 128 512 inb_S256x2048_S64x512_128_512 (by omega) (by omega)⟩
    by_cases g20 : 128 ≤ (y 0).val ∧ 0 ≤ (y 1).val
    · exact ⟨⟨Rect.unit ![128, 0] S64x512.size inb_S256x2048_S64x512_128_0, w20⟩, by simp only [tooks, List.mem_cons, true_or, or_true], mem 128 0 inb_S256x2048_S64x512_128_0 (by omega) (by omega)⟩
    by_cases g13 : 64 ≤ (y 0).val ∧ 1536 ≤ (y 1).val
    · exact ⟨⟨Rect.unit ![64, 1536] S64x512.size inb_S256x2048_S64x512_64_1536, w13⟩, by simp only [tooks, List.mem_cons, true_or, or_true], mem 64 1536 inb_S256x2048_S64x512_64_1536 (by omega) (by omega)⟩
    by_cases g12 : 64 ≤ (y 0).val ∧ 1024 ≤ (y 1).val
    · exact ⟨⟨Rect.unit ![64, 1024] S64x512.size inb_S256x2048_S64x512_64_1024, w12⟩, by simp only [tooks, List.mem_cons, true_or, or_true], mem 64 1024 inb_S256x2048_S64x512_64_1024 (by omega) (by omega)⟩
    by_cases g11 : 64 ≤ (y 0).val ∧ 512 ≤ (y 1).val
    · exact ⟨⟨Rect.unit ![64, 512] S64x512.size inb_S256x2048_S64x512_64_512, w11⟩, by simp only [tooks, List.mem_cons, true_or, or_true], mem 64 512 inb_S256x2048_S64x512_64_512 (by omega) (by omega)⟩
    by_cases g10 : 64 ≤ (y 0).val ∧ 0 ≤ (y 1).val
    · exact ⟨⟨Rect.unit ![64, 0] S64x512.size inb_S256x2048_S64x512_64_0, w10⟩, by simp only [tooks, List.mem_cons, true_or, or_true], mem 64 0 inb_S256x2048_S64x512_64_0 (by omega) (by omega)⟩
    by_cases g03 : 0 ≤ (y 0).val ∧ 1536 ≤ (y 1).val
    · exact ⟨⟨Rect.unit ![0, 1536] S64x512.size inb_S256x2048_S64x512_0_1536, w03⟩, by simp only [tooks, List.mem_cons, true_or, or_true], mem 0 1536 inb_S256x2048_S64x512_0_1536 (by omega) (by omega)⟩
    by_cases g02 : 0 ≤ (y 0).val ∧ 1024 ≤ (y 1).val
    · exact ⟨⟨Rect.unit ![0, 1024] S64x512.size inb_S256x2048_S64x512_0_1024, w02⟩, by simp only [tooks, List.mem_cons, true_or, or_true], mem 0 1024 inb_S256x2048_S64x512_0_1024 (by omega) (by omega)⟩
    by_cases g01 : 0 ≤ (y 0).val ∧ 512 ≤ (y 1).val
    · exact ⟨⟨Rect.unit ![0, 512] S64x512.size inb_S256x2048_S64x512_0_512, w01⟩, by simp only [tooks, List.mem_cons, true_or, or_true], mem 0 512 inb_S256x2048_S64x512_0_512 (by omega) (by omega)⟩
    by_cases g00 : 0 ≤ (y 0).val ∧ 0 ≤ (y 1).val
    · exact ⟨⟨Rect.unit ![0, 0] S64x512.size inb_S256x2048_S64x512_0_0, w00⟩, by simp only [tooks, List.mem_cons, true_or, or_true], mem 0 0 inb_S256x2048_S64x512_0_0 (by omega) (by omega)⟩
    exact absurd ⟨Nat.zero_le _, Nat.zero_le _⟩ g00
  refine (View.read_writes_apply_of_pieces m.view m.view.junk (fun y : S256x2048.Idx => ((took f q k v (b + (y 0).val) (y 1).val : ℝ) : EReal)) _ hG _ (key _)).trans ?_
  show ((took f q k v (b + (0 + 1 * r.val)) (p + 1 * n.val) : ℝ) : EReal) = _
  rw [one_mul, one_mul, zero_add]

end Cert.AttnSt

end
-- ==== Proof.AttnGate.lean ====
/-
  The gated linear attention's last step: each head's row over the root of its mean square, times a weight and a gate.
-/
module

public import proofs.«01_k».proof.Proof.AttnPay
import Idealize.ShloMosaic.Lib.Pointwise.Reduce

@[expose] public section

noncomputable section

open scoped BigOperators

namespace Cert.AttnGate

open Idealize.ShloMosaic hiding ix1 ix2 ix3
open Idealize.ShloMosaic.ValueIdx Cert.Lin Cert.AttnReal Cert.AttnOps Cert.AttnPay Cert.KernelAttnIdeal Cert.KernelAttnIdeal.Gen

/-- A head's row over the root of its mean square, times a weight and a gate. -/
def gn (o w : ℕ → ℝ) (g : ℝ) (n : ℕ) : EReal :=
  (o n : EReal) * Ideal.rsqrt (Ideal.div ((∑ k : Fin 512, o k.val * o k.val : ℝ) : EReal) (Ideal.ofBits .f32 0x44000000#32) + Ideal.ofBits .f32 0x3727C5AC#32)
    * (w n : EReal) * ((g * (1 + Real.exp (-g))⁻¹ : ℝ) : EReal)

/-- The gate by the hyperbolic tangent. -/
theorem gate_eq (g : ℝ) : (g : EReal) * (Ideal.ofBits .f32 0x3F000000#32 * Ideal.tanh (Ideal.ofBits .f32 0x3F000000#32 * (g : EReal)) + Ideal.ofBits .f32 0x3F000000#32)
    = ((g * (1 + Real.exp (-g))⁻¹ : ℝ) : EReal) := by
  rw [half_f32, ← EReal.coe_mul, Ideal.tanh_coe, ← EReal.coe_mul, ← EReal.coe_add, ← EReal.coe_mul, sigmoid]

/-- The row is read below its length alone. -/
theorem gn_congr {o o' w : ℕ → ℝ} {g : ℝ} {n : ℕ} (e : ∀ k, k < 512 → o k = o' k) (hn : n < 512) : gn o w g n = gn o' w g n := by
  unfold gn
  rw [e n hn, Finset.sum_congr rfl fun (k : Fin 512) _ => congrArg₂ (· * ·) (e k.val k.isLt) (e k.val k.isLt)]

variable {O G : FVec Ideal S256x512 .f32} {W : FVec Ideal S1x512 .f32} {fo fw fg : ℕ → ℕ → ℝ}

/-- The block's rows over the root of their mean square, times the weight and the gate. -/
theorem gate_rows (hO : Is O fo) (hW : Is W fw) (hG : Is G fg) (r : Fin 256) (n : Fin 512) :
    mulf (mulf (mulf O (broadcastTo S256x512 (rsqrt (addf (divf
        (shapeCast S256x1 (multiReduction .add [1] S256 (mulf O O) 0x00000000#32 reduces_S256x512_S256 (.inl rfl) rfl) shapeCasts_S256_S256x1)
        (broadcast S256x1 (Scalar.ofBits (F := Ideal) .f32 0x44000000#32)))
        (broadcast S256x1 (Scalar.ofBits (F := Ideal) .f32 0x3727C5AC#32)))) broadcasts_S256x1_S256x512))
      (broadcastTo S256x512 (shapeCast S1x512 W shapeCasts_S1x512_S1x512) broadcasts_S1x512_S256x512))
      (mulf G (addf (mulf (broadcast S256x512 (Scalar.ofBits (F := Ideal) .f32 0x3F000000#32)) (tanh (mulf (broadcast S256x512 (Scalar.ofBits (F := Ideal) .f32 0x3F000000#32)) G)))
        (broadcast S256x512 (Scalar.ofBits (F := Ideal) .f32 0x3F000000#32)))) (ix2 r n)
      = gn (fo r.val) (fw 0) (fg r.val n.val) n.val := by
  have hr : multiReduction .add [1] S256 (mulf O O) 0x00000000#32 reduces_S256x512_S256 (.inl rfl) rfl (ix1 r)
      = ((∑ k : Fin 512, fo r.val k.val * fo r.val k.val : ℝ) : EReal) := by
    refine (Ideal.reduceAdd_r2_a1 reduces_S256x512_S256 (mulf O O) (ix1 r)).trans ?_
    rw [← coe_sum_mul]
    exact Finset.sum_congr rfl fun k _ => congrArg₂ (· * ·) (hO r k) (hO r k)
  rw [Idealize.ShloMosaic.shapeCast_self]
  show O (ix2 r n) * broadcastTo S256x512 _ broadcasts_S256x1_S256x512 (ix2 r n) * broadcastTo S256x512 W broadcasts_S1x512_S256x512 (ix2 r n)
    * (G (ix2 r n) * (Ideal.ofBits .f32 0x3F000000#32 * Ideal.tanh (Ideal.ofBits .f32 0x3F000000#32 * G (ix2 r n)) + Ideal.ofBits .f32 0x3F000000#32)) = _
  rw [hO, hG, gate_eq, is_row hW broadcasts_S1x512_S256x512 r n,
    broadcastTo_apply _ broadcasts_S256x1_S256x512 (ix2 r n) (ix2 r 0) (fun a => match a with | ⟨0, _⟩ => rfl | ⟨1, _⟩ => rfl)]
  show (fo r.val n.val : EReal) * Ideal.rsqrt (Ideal.div (shapeCast S256x1 _ shapeCasts_S256_S256x1 (ix2 r 0)) (Ideal.ofBits .f32 0x44000000#32) + Ideal.ofBits .f32 0x3727C5AC#32) * _ * _ = _
  rw [shapeCast_apply _ shapeCasts_S256_S256x1 (ix2 r 0) (ix1 r) (by
    rw [Shape.rowMajor_val_one, Shape.rowMajor_val_two]
    show r.val = r.val * 1 + 0
    omega), hr]
  rfl

variable {A B : FVec Ideal S256x512 .f32} {fa fb : ℕ → ℕ → ℝ}

theorem pay1_rows (hA : Is A fa) (hB : Is B fb) (hW : Is W fw) (hG : Is G fg) (r : Fin 256) (n : Fin 512)
    {o : ℕ → ℝ} (e : ∀ k, k < 512 → fa r.val k + fb r.val k = o k) :
    k0_pay1 A B W G (ix2 r n) = gn o (fw 0) (fg r.val n.val) n.val := by
  unfold k0_pay1
  exact (gate_rows (is_add hA hB) hW hG r n).trans (gn_congr e n.isLt)

theorem pay81_rows (hA : Is A fa) (hB : Is B fb) (hW : Is W fw) (hG : Is G fg) (r : Fin 256) (n : Fin 512)
    {o : ℕ → ℝ} (e : ∀ k, k < 512 → fa r.val k + fb r.val k = o k) :
    k0_pay81 A B W G (ix2 r n) = gn o (fw 0) (fg r.val n.val) n.val := by
  unfold k0_pay81
  exact (gate_rows (is_add hA hB) hW hG r n).trans (gn_congr e n.isLt)

theorem pay78_rows (hA : Is A fa) (hB : Is B fb) (hW : Is W fw) (hG : Is G fg) (r : Fin 256) (n : Fin 512)
    {o : ℕ → ℝ} (e : ∀ k, k < 512 → fa r.val k + fb r.val k = o k) :
    k0_pay78 (k0_pay75 A B) (k0_pay76 A B) k0_pay77 W G (ix2 r n) = gn o (fw 0) (fg r.val n.val) n.val := by
  unfold k0_pay78 k0_pay76 k0_pay77
  exact (gate_rows (is_add hA hB) hW hG r n).trans (gn_congr e n.isLt)

theorem pay80_rows (hA : Is A fa) (hB : Is B fb) (hW : Is W fw) (hG : Is G fg) (r : Fin 256) (n : Fin 512)
    {o : ℕ → ℝ} (e : ∀ k, k < 512 → fa r.val k + fb r.val k = o k) :
    k0_pay80 (k0_pay79 A B W) G (Scalar.ofBits (F := Ideal) .f32 0x3F000000#32) (ix2 r n) = gn o (fw 0) (fg r.val n.val) n.val := by
  unfold k0_pay80 k0_pay79
  exact (gate_rows (is_add hA hB) hW hG r n).trans (gn_congr e n.isLt)

end Cert.AttnGate

end
-- ==== Proof.AttnHead.lean ====
/-
  The gated linear attention's kernel, head by head: what a token takes of its own chunk and of the chunks before is the whole causal sum,
  and what the block's four stores leave.
-/
module

public import proofs.«01_k».proof.Proof.AttnSt
public import proofs.«01_k».proof.Proof.AttnGate

@[expose] public section

noncomputable section

open scoped BigOperators

namespace Cert.AttnHead

open Idealize.ShloMosaic
open Idealize.ShloMosaic.ValueIdx Cert.Lin Cert.AttnReal Cert.AttnOps Cert.AttnPay Cert.AttnSt Cert.AttnGate Cert.KernelAttnIdeal Cert.KernelAttnIdeal.Gen

/-- A head's causal sum at a token, over all tokens up to it. -/
def full (f q k v : ℕ → ℕ → ℝ) (h t n : ℕ) : ℝ :=
  whole 8192 256 (fun d => run (f (256 * h + d))) (fun t d => q t (256 * h + d) * (1 / 16)) (fun t d => k t (256 * h + d)) (fun t => v t (512 * h + n)) t

/-- The output's entry: the head's row over the root of its mean square, times the weight and the gate. -/
def entry (f q k v g : ℕ → ℕ → ℝ) (nw : ℕ → ℝ) (t c : ℕ) : EReal := gn (full f q k v (c / 512) t) nw (g t c) (c % 512)

/-- What a token takes of its own chunk. -/
def near (f q k v : ℕ → ℕ → ℝ) (b o p r n : ℕ) : ℝ :=
  ∑ s : Fin 256, (if s.val / 64 = r / 64 ∧ s.val ≤ r then ∑ d : Fin 256,
    (q (b + r) (o + d.val) * (1 / 16) * Real.exp (inn (f (o + d.val)) (b + r) - inn (f (o + d.val)) (b + (64 * (r / 64) + 32))))
      * (k (b + s.val) (o + d.val) * Real.exp (inn (f (o + d.val)) (b + (64 * (s.val / 64) + 32)) - inn (f (o + d.val)) (b + s.val))) else 0) * v (b + s.val) (p + n)

/-- The two parts together are the whole causal sum. -/
theorem near_took (f q k v : ℕ → ℕ → ℝ) (b o p r n h : ℕ) (hb : b % 256 = 0) (hL : b + 256 ≤ 8192) (hr : r < 256) (hn : n < 512) (ho : o = 256 * h) (hp : p = 512 * h) :
    near f q k v b o p r n + took f q k v (b + r) (p + n) = full f q k v h (b + r) n := by
  unfold full
  rw [← split 8192 256 (fun d => f (256 * h + d)) (fun t d => q t (256 * h + d) * (1 / 16)) (fun t d => k t (256 * h + d)) (fun t => v t (512 * h + n)) b r hr hb hL]
  subst ho hp
  unfold near took
  rw [show (512 * h + n) / 512 = h by omega, show 64 * ((b + r) / 64) = b + 64 * (r / 64) by omega]
  refine congrArg (· + _) (Finset.sum_congr rfl fun s _ => ?_)
  have hs : s.val < 256 := s.isLt
  rw [show midrow (b + r) = b + (64 * (r / 64) + 32) by unfold midrow; omega, show midrow (b + s.val) = b + (64 * (s.val / 64) + 32) by unfold midrow; omega]

variable {f q k v g : ℕ → ℕ → ℝ} {nw : ℕ → ℝ} {b : ℕ}

section

variable {VB : FVec Ideal S256x2048 .bf16} {QM KM : FVec Ideal S256x1024 .bf16}
  (hv : Is VB (fun r j => v (b + r) j))
  (hq : Is QM (fun r j => q (b + r) j * (1 / 16) * Real.exp (inn (f j) (b + r) - inn (f j) (b + (64 * (r / 64) + 32)))))
  (hk : Is KM (fun r j => k (b + r) j * Real.exp (inn (f j) (b + (64 * (r / 64) + 32)) - inn (f j) (b + r))))
include hv hq hk

theorem near19 : Is (k0_pay19 VB QM KM (iota .tc S256x256 32 [0] iota_S256x256_d0_w32) (iota .tc S256x256 32 [1] iota_S256x256_d1_w32) k0_pay17) (near f q k v b 0 0) := by
  have h := is_intra (fv := fun r j => v (b + r) j) (fq := fun r j => q (b + r) j * (1 / 16) * Real.exp (inn (f j) (b + r) - inn (f j) (b + (64 * (r / 64) + 32))))
    (fk := fun r j => k (b + r) j * Real.exp (inn (f j) (b + (64 * (r / 64) + 32)) - inn (f j) (b + r))) 0 0 slices_S256x1024_o0_0_S256x256 slices_S256x2048_o0_0_S256x512 hv hq hk
  unfold k0_pay19
  intro r n
  refine Eq.trans ?_ (h r n)
  rfl

theorem near20 : Is (k0_pay20 VB QM KM (iota .tc S256x256 32 [0] iota_S256x256_d0_w32) (iota .tc S256x256 32 [1] iota_S256x256_d1_w32) k0_pay17) (near f q k v b 256 512) := by
  have h := is_intra (fv := fun r j => v (b + r) j) (fq := fun r j => q (b + r) j * (1 / 16) * Real.exp (inn (f j) (b + r) - inn (f j) (b + (64 * (r / 64) + 32))))
    (fk := fun r j => k (b + r) j * Real.exp (inn (f j) (b + (64 * (r / 64) + 32)) - inn (f j) (b + r))) 256 512 slices_S256x1024_o0_256_S256x256 slices_S256x2048_o0_512_S256x512 hv hq hk
  unfold k0_pay20
  intro r n
  refine Eq.trans ?_ (h r n)
  rfl

theorem near21 : Is (k0_pay21 VB QM KM (iota .tc S256x256 32 [0] iota_S256x256_d0_w32) (iota .tc S256x256 32 [1] iota_S256x256_d1_w32) k0_pay17) (near f q k v b 512 1024) := by
  have h := is_intra (fv := fun r j => v (b + r) j) (fq := fun r j => q (b + r) j * (1 / 16) * Real.exp (inn (f j) (b + r) - inn (f j) (b + (64 * (r / 64) + 32))))
    (fk := fun r j => k (b + r) j * Real.exp (inn (f j) (b + (64 * (r / 64) + 32)) - inn (f j) (b + r))) 512 1024 slices_S256x1024_o0_512_S256x256 slices_S256x2048_o0_1024_S256x512 hv hq hk
  unfold k0_pay21
  intro r n
  refine Eq.trans ?_ (h r n)
  rfl

theorem near22 : Is (k0_pay22 VB QM KM (iota .tc S256x256 32 [0] iota_S256x256_d0_w32) (iota .tc S256x256 32 [1] iota_S256x256_d1_w32) k0_pay17) (near f q k v b 768 1536) := by
  have h := is_intra (fv := fun r j => v (b + r) j) (fq := fun r j => q (b + r) j * (1 / 16) * Real.exp (inn (f j) (b + r) - inn (f j) (b + (64 * (r / 64) + 32))))
    (fk := fun r j => k (b + r) j * Real.exp (inn (f j) (b + (64 * (r / 64) + 32)) - inn (f j) (b + r))) 768 1536 slices_S256x1024_o0_768_S256x256 slices_S256x2048_o0_1536_S256x512 hv hq hk
  unfold k0_pay22
  intro r n
  refine Eq.trans ?_ (h r n)
  rfl

end

variable {A B G : FVec Ideal S256x512 .f32} {W : FVec Ideal S1x512 .f32}

/-- An entry told by its head. -/
theorem entry_eq (t h n : ℕ) (hn : n < 512) : gn (full f q k v h t) nw (g t (512 * h + n)) n = entry f q k v g nw t (512 * h + n) := by
  unfold entry
  rw [show (512 * h + n) / 512 = h by omega, show (512 * h + n) % 512 = n by omega]

theorem head0 (hb : b % 256 = 0) (hL : b + 256 ≤ 8192) (hA : Is A (near f q k v b 0 0)) (hB : Is B (fun r n => took f q k v (b + r) (0 + n)))
    (hW : Is W (fun _ j => nw j)) (hG : Is G (fun r n => g (b + r) (0 + n))) (r : Fin 256) (n : Fin 512) :
    k0_pay78 (k0_pay75 A B) (k0_pay76 A B) k0_pay77 W G (ix2 r n) = entry f q k v g nw (b + r.val) (0 + n.val) :=
  (pay78_rows hA hB hW hG r n (fun j hj => near_took f q k v b 0 0 r.val j 0 hb hL r.isLt hj (by decide) (by decide))).trans
    (entry_eq (b + r.val) 0 n.val n.isLt)

theorem head1 (hb : b % 256 = 0) (hL : b + 256 ≤ 8192) (hA : Is A (near f q k v b 256 512)) (hB : Is B (fun r n => took f q k v (b + r) (512 + n)))
    (hW : Is W (fun _ j => nw j)) (hG : Is G (fun r n => g (b + r) (512 + n))) (r : Fin 256) (n : Fin 512) :
    k0_pay80 (k0_pay79 A B W) G (Scalar.ofBits (F := Ideal) .f32 0x3F000000#32) (ix2 r n) = entry f q k v g nw (b + r.val) (512 + n.val) :=
  (pay80_rows hA hB hW hG r n (fun j hj => near_took f q k v b 256 512 r.val j 1 hb hL r.isLt hj (by decide) (by decide))).trans
    (entry_eq (b + r.val) 1 n.val n.isLt)

theorem head2 (hb : b % 256 = 0) (hL : b + 256 ≤ 8192) (hA : Is A (near f q k v b 512 1024)) (hB : Is B (fun r n => took f q k v (b + r) (1024 + n)))
    (hW : Is W (fun _ j => nw j)) (hG : Is G (fun r n => g (b + r) (1024 + n))) (r : Fin 256) (n : Fin 512) :
    k0_pay81 A B W G (ix2 r n) = entry f q k v g nw (b + r.val) (1024 + n.val) :=
  (pay81_rows hA hB hW hG r n (fun j hj => near_took f q k v b 512 1024 r.val j 2 hb hL r.isLt hj (by decide) (by decide))).trans
    (entry_eq (b + r.val) 2 n.val n.isLt)

theorem head3 (hb : b % 256 = 0) (hL : b + 256 ≤ 8192) (hA : Is A (near f q k v b 768 1536)) (hB : Is B (fun r n => took f q k v (b + r) (1536 + n)))
    (hW : Is W (fun _ j => nw j)) (hG : Is G (fun r n => g (b + r) (1536 + n))) (r : Fin 256) (n : Fin 512) :
    k0_pay1 A B W G (ix2 r n) = entry f q k v g nw (b + r.val) (1536 + n.val) :=
  (pay1_rows hA hB hW hG r n (fun j hj => near_took f q k v b 768 1536 r.val j 3 hb hL r.isLt hj (by decide) (by decide))).trans
    (entry_eq (b + r.val) 3 n.val n.isLt)

/-- A store agrees with the function it was taken of. -/
theorem head_piece {E : ℕ → ℕ → EReal} {w : Vec Ideal S256x512 .bf16} {p : ℕ} (inb) (h : ∀ (r : Fin 256) (n : Fin 512), w (ix2 r n) = E r.val (p + n.val)) (x : S256x512.Idx) :
    w x = (fun y : S256x2048.Idx => E (y 0).val (y 1).val) ((Rect.unit (s := S256x2048) ![0, p] S256x512.size inb).emb x) := by
  refine (congrArg w (eq_ix2 x)).trans ((h (x 0) (x 1)).trans ?_)
  show _ = E (0 + 1 * (x 0).val) (p + 1 * (x 1).val)
  rw [one_mul, one_mul, zero_add]

/-- The block the four stores leave. -/
theorem heads_read (V : View sig .tc .vmem S256x2048 .bf16) {E : ℕ → ℕ → EReal} {w3 w2 w1 w0 : Vec Ideal S256x512 .bf16}
    (h3 : ∀ (r : Fin 256) (n : Fin 512), w3 (ix2 r n) = E r.val (1536 + n.val)) (h2 : ∀ (r : Fin 256) (n : Fin 512), w2 (ix2 r n) = E r.val (1024 + n.val))
    (h1 : ∀ (r : Fin 256) (n : Fin 512), w1 (ix2 r n) = E r.val (512 + n.val)) (h0 : ∀ (r : Fin 256) (n : Fin 512), w0 (ix2 r n) = E r.val (0 + n.val)) (y : S256x2048.Idx) :
    V.read (Elt Ideal) (V.writes (Elt Ideal) V.junk [⟨Rect.unit ![0, 1536] S256x512.size inb_S256x2048_S256x512_0_1536, w3⟩, ⟨Rect.unit ![0, 1024] S256x512.size inb_S256x2048_S256x512_0_1024, w2⟩,
      ⟨Rect.unit ![0, 512] S256x512.size inb_S256x2048_S256x512_0_512, w1⟩, ⟨Rect.unit ![0, 0] S256x512.size inb_S256x2048_S256x512_0_0, w0⟩]) y = E (y 0).val (y 1).val := by
  refine View.read_writes_apply_of_pieces (Val := Elt Ideal) V V.junk (fun y : S256x2048.Idx => E (y 0).val (y 1).val) _ ?_ y ?_
  · refine List.forall_mem_cons.2 ⟨head_piece inb_S256x2048_S256x512_0_1536 h3, ?_⟩
    refine List.forall_mem_cons.2 ⟨head_piece inb_S256x2048_S256x512_0_1024 h2, ?_⟩
    refine List.forall_mem_cons.2 ⟨head_piece inb_S256x2048_S256x512_0_512 h1, ?_⟩
    refine List.forall_mem_cons.2 ⟨head_piece inb_S256x2048_S256x512_0_0 h0, ?_⟩
    exact fun _ hP => absurd hP List.not_mem_nil
  · have e0 : (y 0).val < 256 := (y 0).isLt
    have e1 : (y 1).val < 2048 := (y 1).isLt
    have mem : ∀ (p : ℕ) (inb), p ≤ (y 1).val ∧ (y 1).val < p + 512 → y ∈ (Rect.unit (s := S256x2048) ![0, p] S256x512.size inb).set :=
      fun p inb h => Rect.mem_set_unit.2 (Fin.forall_fin_two.2 ⟨⟨Nat.zero_le _, by show (y 0).val < 0 + 256; omega⟩, h⟩)
    by_cases g3 : 1536 ≤ (y 1).val
    · exact ⟨⟨Rect.unit ![0, 1536] S256x512.size inb_S256x2048_S256x512_0_1536, w3⟩, by simp only [List.mem_cons, true_or, or_true], mem 1536 inb_S256x2048_S256x512_0_1536 (by omega)⟩
    by_cases g2 : 1024 ≤ (y 1).val
    · exact ⟨⟨Rect.unit ![0, 1024] S256x512.size inb_S256x2048_S256x512_0_1024, w2⟩, by simp only [List.mem_cons, true_or, or_true], mem 1024 inb_S256x2048_S256x512_0_1024 (by omega)⟩
    by_cases g1 : 512 ≤ (y 1).val
    · exact ⟨⟨Rect.unit ![0, 512] S256x512.size inb_S256x2048_S256x512_0_512, w1⟩, by simp only [List.mem_cons, true_or, or_true], mem 512 inb_S256x2048_S256x512_0_512 (by omega)⟩
    exact ⟨⟨Rect.unit ![0, 0] S256x512.size inb_S256x2048_S256x512_0_0, w0⟩, by simp only [List.mem_cons, true_or, or_true], mem 0 inb_S256x2048_S256x512_0_0 (by omega)⟩

end Cert.AttnHead

end
-- ==== Proof.AttnRun.lean ====
/-
  A point of the gated linear attention's grid: what the body leaves in the state's scratch and in the output's block.
-/
module

public import proofs.«01_k».proof.Proof.AttnHead

@[expose] public section

set_option maxRecDepth 4000

noncomputable section

open scoped BigOperators

namespace Cert.AttnRun

open Idealize.ShloMosaic
open Idealize.ShloMosaic.ValueIdx Cert.Lin Cert.AttnReal Cert.AttnOps Cert.AttnPay Cert.AttnSt Cert.AttnGate Cert.AttnHead Cert.KernelAttnIdeal Cert.KernelAttnIdeal.Gen

/-- A channel's log decay at a token. -/
def step (pg gw : ℕ → ℕ → ℝ) (gb : ℕ → ℝ) (j s : ℕ) : ℝ := ld (∑ l : Fin 128, pg s l.val * gw l.val j + gb j)

variable {q k v g pg gw : ℕ → ℕ → ℝ} {gb nw : ℕ → ℝ} {b : ℕ}

/-- A point's body at the first point: over the cleared state. -/
theorem pointA (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x128 .f32) (harg5 : arg5.IsWhole) (arg6 : Memref sig .tc .vmem S128x1024 .f32) (harg6 : arg6.IsWhole) (arg7 : Memref sig .tc .vmem S8x1024 .f32) (harg7 : arg7.IsWhole) (arg8 : Memref sig .tc .vmem S8x512 .f32) (harg8 : arg8.IsWhole) (arg9 : Memref sig .tc .vmem S256x2048 .bf16) (harg9 : arg9.IsWhole) (arg10 : Memref sig .tc .vmem S4x512x256 .f32) (harg10 : arg10.IsWhole) (arg11 : Memref sig .tc .vmem S256x2048 .f32) (harg11 : arg11.IsWhole) (hc0 : cond0_0 i)
    (x0 : Vec Ideal S256x1024 .f32) (x1 : Vec Ideal S256x1024 .f32) (x2 : Vec Ideal S256x2048 .f32) (x3 : Vec Ideal S256x2048 .f32) (x4 : Vec Ideal S256x128 .f32) (x5 : Vec Ideal S128x1024 .f32) (x6 : Vec Ideal S8x1024 .f32) (x7 : Vec Ideal S8x512 .f32)
    (h0 : Is x0 (fun r j => q (0 + r) j)) (h1 : Is x1 (fun r j => k (0 + r) j)) (h2 : Is x2 (fun r j => v (0 + r) j)) (h3 : Is x3 (fun r j => g (0 + r) j))
    (h4 : Is x4 (fun r j => pg (0 + r) j)) (h5 : Is x5 gw) (h6 : ∀ j : Fin 1024, x6 (ix2 0 j) = (gb j.val : EReal)) (h7 : ∀ j : Fin 512, x7 (ix2 0 j) = (nw j.val : EReal))
    : (∀ (h : Fin 4) (i' : Fin 512) (j : Fin 256), sout0_A_0 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 (ix3 h i' j) = (cell (step pg gw gb) k v (256 * h.val) (512 * h.val) (0 + 256) i'.val j.val : EReal))
    ∧ ∀ y : S256x2048.Idx, out0_A_8 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 y = entry (step pg gw gb) q k v g nw (0 + (y 0).val) (y 1).val := by
  have hb : 0 % 256 = 0 := rfl
  have hL : 0 + 256 ≤ 8192 := by decide
  have l0 : Is _ (fun r j => q (0 + r) j) := (is_rd arg1 harg1 0 0 inb_S256x1024_S256x1024_0_0 h0).congr fun r j _ _ => by simp only [Nat.zero_add]
  have l1 : Is _ (fun r j => k (0 + r) j) := (is_rd arg2 harg2 0 0 inb_S256x1024_S256x1024_0_0 h1).congr fun r j _ _ => by simp only [Nat.zero_add]
  have l2 : Is _ (fun r j => v (0 + r) j) := (is_rd arg3 harg3 0 0 inb_S256x2048_S256x2048_0_0 h2).congr fun r j _ _ => by simp only [Nat.zero_add]
  have l4 : Is _ (fun r j => pg (0 + r) j) := (is_rd arg5 harg5 0 0 inb_S256x128_S256x128_0_0 h4).congr fun r j _ _ => by simp only [Nat.zero_add]
  have l5 : Is _ gw := (is_rd arg6 harg6 0 0 inb_S128x1024_S128x1024_0_0 h5).congr fun r j _ _ => by simp only [Nat.zero_add]
  have l6 := is_rd_row arg7 harg7 inb_S8x1024_S1x1024_0_0 h6
  have l7 := is_rd_row arg8 harg8 inb_S8x512_S1x512_0_0 h7
  have g0 : Is _ (fun r n => g (0 + r) (0 + n)) := (is_rd arg4 harg4 (c := 256) (d := 512) 0 0 inb_S256x2048_S256x512_0_0 h3).congr fun r n _ _ => by rw [Nat.zero_add]
  have g1 : Is _ (fun r n => g (0 + r) (512 + n)) := (is_rd arg4 harg4 (c := 256) (d := 512) 0 512 inb_S256x2048_S256x512_0_512 h3).congr fun r n _ _ => by rw [Nat.zero_add]
  have g2 : Is _ (fun r n => g (0 + r) (1024 + n)) := (is_rd arg4 harg4 (c := 256) (d := 512) 0 1024 inb_S256x2048_S256x512_0_1024 h3).congr fun r n _ _ => by rw [Nat.zero_add]
  have g3 : Is _ (fun r n => g (0 + r) (1536 + n)) := (is_rd arg4 harg4 (c := 256) (d := 512) 0 1536 inb_S256x2048_S256x512_0_1536 h3).congr fun r n _ _ => by rw [Nat.zero_add]
  have p3 := is_pay3 l4 l5 l6
  have e : Is (kernelRun0_A.sl.r (F := Ideal) c arg5 harg5 arg6 harg6 arg7 harg7 x4 x5 x6) (fun r j => step pg gw gb j (0 + r)) := p3
  have e1 : Is (kernelRun0_A.sl.r_1 (F := Ideal) c arg5 harg5 arg6 harg6 arg7 harg7 x4 x5 x6) (fun _ _ => 0) := is_pay6 p3
  have e7 : Is (k0_pay7 k0_pay4 (kernelRun0_A.sl.r (F := Ideal) c arg5 harg5 arg6 harg6 arg7 harg7 x4 x5 x6) (kernelRun0_A.sl.r_1 (F := Ideal) c arg5 harg5 arg6 harg6 arg7 harg7 x4 x5 x6)) (fun r j => inn (step pg gw gb j) (0 + r)) := is_pay7 hb is_pay4 e e1
  have e2 : Is (kernelRun0_A.sl.r_2 (F := Ideal) c arg3 harg3 x2) (fun r j => v (0 + r) j) := l2
  have q3 := is_pay12 e7 l0
  have q4 := is_pay13 e7 l1
  have q5 := is_pay14 e7 l0
  have q6 := is_pay15 e7 l1
  have q7 := is_pay16 e7
  have H : Blk (step pg gw gb) q k v 0 (kernelRun0_A.sl.r_2 (F := Ideal) c arg3 harg3 x2) (kernelRun0_A.sl.r_5 (F := Ideal) c arg1 harg1 arg5 harg5 arg6 harg6 arg7 harg7 x0 x4 x5 x6) (kernelRun0_A.sl.r_6 (F := Ideal) c arg2 harg2 arg5 harg5 arg6 harg6 arg7 harg7 x1 x4 x5 x6) (kernelRun0_A.sl.r_7 (F := Ideal) c arg5 harg5 arg6 harg6 arg7 harg7 x4 x5 x6) := ⟨hb, e2, q5, q6, q7⟩
  have n0 : Is (kernelRun0_A.sl.r_8 (F := Ideal) c arg1 harg1 arg2 harg2 arg3 harg3 arg5 harg5 arg6 harg6 arg7 harg7 x0 x1 x2 x4 x5 x6) (near (step pg gw gb) q k v 0 0 0) := near19 e2 q3 q4
  have n1 : Is (kernelRun0_A.sl.r_9 (F := Ideal) c arg1 harg1 arg2 harg2 arg3 harg3 arg5 harg5 arg6 harg6 arg7 harg7 x0 x1 x2 x4 x5 x6) (near (step pg gw gb) q k v 0 256 512) := near20 e2 q3 q4
  have n2 : Is (kernelRun0_A.sl.r_10 (F := Ideal) c arg1 harg1 arg2 harg2 arg3 harg3 arg5 harg5 arg6 harg6 arg7 harg7 x0 x1 x2 x4 x5 x6) (near (step pg gw gb) q k v 0 512 1024) := near21 e2 q3 q4
  have n3 : Is (kernelRun0_A.sl.r_11 (F := Ideal) c arg1 harg1 arg2 harg2 arg3 harg3 arg5 harg5 arg6 harg6 arg7 harg7 x0 x1 x2 x4 x5 x6) (near (step pg gw gb) q k v 0 768 1536) := near22 e2 q3 q4
  have s00 : St3 (step pg gw gb) k v 0 0 (0 + 0) (kernelRun0_A.sl.v126 (F := Ideal) c arg10) := slab_zero arg10 0 0 0 inb_S4x512x256_S1x512x256_0_0_0
  have t00 : St (step pg gw gb) k v 0 0 (0 + 0) (kernelRun0_A.sl.r_12 (F := Ideal) c arg10) := un23 s00
  have k00 := took27 H t00
  have s01 : St3 (step pg gw gb) k v 256 512 (0 + 0) (kernelRun0_A.sl.v128 (F := Ideal) c arg10) := slab_zero arg10 256 512 1 inb_S4x512x256_S1x512x256_1_0_0
  have t01 : St (step pg gw gb) k v 256 512 (0 + 0) (kernelRun0_A.sl.r_13 (F := Ideal) c arg10) := un24 s01
  have k01 := took28 H t01
  have s02 : St3 (step pg gw gb) k v 512 1024 (0 + 0) (kernelRun0_A.sl.v130 (F := Ideal) c arg10) := slab_zero arg10 512 1024 2 inb_S4x512x256_S1x512x256_2_0_0
  have t02 : St (step pg gw gb) k v 512 1024 (0 + 0) (kernelRun0_A.sl.r_14 (F := Ideal) c arg10) := un25 s02
  have k02 := took29 H s02
  have s03 : St3 (step pg gw gb) k v 768 1536 (0 + 0) (kernelRun0_A.sl.v132 (F := Ideal) c arg10) := slab_zero arg10 768 1536 3 inb_S4x512x256_S1x512x256_3_0_0
  have t03 : St (step pg gw gb) k v 768 1536 (0 + 0) (kernelRun0_A.sl.r_15 (F := Ideal) c arg10) := un26 s03
  have k03 := took30 H s03
  have m0 : St (step pg gw gb) k v 0 0 (0 + 64) (kernelRun0_A.sl.r_16 (F := Ideal) c arg2 harg2 arg3 harg3 arg5 harg5 arg6 harg6 arg7 harg7 arg10 x1 x2 x4 x5 x6) := upd31 H t00
  have u00 := upd32 m0
  have u01 := upd33 H t01
  have u02 := upd34 H t02
  have u03 := upd35 H t03
  have s10 : St3 (step pg gw gb) k v 0 0 (0 + 64) (kernelRun0_A.sl.v198 (F := Ideal) c arg2 harg2 arg3 harg3 arg5 harg5 arg6 harg6 arg7 harg7 arg10 x1 x2 x4 x5 x6) := slab0 arg10 _ u00
  have t10 : St (step pg gw gb) k v 0 0 (0 + 64) (kernelRun0_A.sl.r_17 (F := Ideal) c arg2 harg2 arg3 harg3 arg5 harg5 arg6 harg6 arg7 harg7 arg10 x1 x2 x4 x5 x6) := un36 s10
  have k10 := took40 H t10
  have s11 : St3 (step pg gw gb) k v 256 512 (0 + 64) (kernelRun0_A.sl.v200 (F := Ideal) c arg2 harg2 arg3 harg3 arg5 harg5 arg6 harg6 arg7 harg7 arg10 x1 x2 x4 x5 x6) := slab1 arg10 _ u01
  have t11 : St (step pg gw gb) k v 256 512 (0 + 64) (kernelRun0_A.sl.r_18 (F := Ideal) c arg2 harg2 arg3 harg3 arg5 harg5 arg6 harg6 arg7 harg7 arg10 x1 x2 x4 x5 x6) := un37 s11
  have k11 := took41 H t11
  have s12 : St3 (step pg gw gb) k v 512 1024 (0 + 64) (kernelRun0_A.sl.v202 (F := Ideal) c arg2 harg2 arg3 harg3 arg5 harg5 arg6 harg6 arg7 harg7 arg10 x1 x2 x4 x5 x6) := slab2 arg10 _ u02
  have t12 : St (step pg gw gb) k v 512 1024 (0 + 64) (kernelRun0_A.sl.r_19 (F := Ideal) c arg2 harg2 arg3 harg3 arg5 harg5 arg6 harg6 arg7 harg7 arg10 x1 x2 x4 x5 x6) := un38 s12
  have k12 := took42 H s12
  have s13 : St3 (step pg gw gb) k v 768 1536 (0 + 64) (kernelRun0_A.sl.v204 (F := Ideal) c arg2 harg2 arg3 harg3 arg5 harg5 arg6 harg6 arg7 harg7 arg10 x1 x2 x4 x5 x6) := slab3 arg10 _ u03
  have t13 : St (step pg gw gb) k v 768 1536 (0 + 64) (kernelRun0_A.sl.r_20 (F := Ideal) c arg2 harg2 arg3 harg3 arg5 harg5 arg6 harg6 arg7 harg7 arg10 x1 x2 x4 x5 x6) := un39 s13
  have k13 := took43 H s13
  have m1 : St (step pg gw gb) k v 0 0 (0 + 128) (kernelRun0_A.sl.r_21 (F := Ideal) c arg2 harg2 arg3 harg3 arg5 harg5 arg6 harg6 arg7 harg7 arg10 x1 x2 x4 x5 x6) := upd44 H t10
  have u10 := upd45 m1
  have u11 := upd46 H t11
  have u12 := upd47 H t12
  have u13 := upd48 H t13
  have s20 : St3 (step pg gw gb) k v 0 0 (0 + 128) (kernelRun0_A.sl.v270 (F := Ideal) c arg2 harg2 arg3 harg3 arg5 harg5 arg6 harg6 arg7 harg7 arg10 x1 x2 x4 x5 x6) := slab0 arg10 _ u10
  have t20 : St (step pg gw gb) k v 0 0 (0 + 128) (kernelRun0_A.sl.r_22 (F := Ideal) c arg2 harg2 arg3 harg3 arg5 harg5 arg6 harg6 arg7 harg7 arg10 x1 x2 x4 x5 x6) := un49 s20
  have k20 := took53 H t20
  have s21 : St3 (step pg gw gb) k v 256 512 (0 + 128) (kernelRun0_A.sl.v272 (F := Ideal) c arg2 harg2 arg3 harg3 arg5 harg5 arg6 harg6 arg7 harg7 arg10 x1 x2 x4 x5 x6) := slab1 arg10 _ u11
  have t21 : St (step pg gw gb) k v 256 512 (0 + 128) (kernelRun0_A.sl.r_23 (F := Ideal) c arg2 harg2 arg3 harg3 arg5 harg5 arg6 harg6 arg7 harg7 arg10 x1 x2 x4 x5 x6) := un50 s21
  have k21 := took54 H t21
  have s22 : St3 (step pg gw gb) k v 512 1024 (0 + 128) (kernelRun0_A.sl.v274 (F := Ideal) c arg2 harg2 arg3 harg3 arg5 harg5 arg6 harg6 arg7 harg7 arg10 x1 x2 x4 x5 x6) := slab2 arg10 _ u12
  have t22 : St (step pg gw gb) k v 512 1024 (0 + 128) (kernelRun0_A.sl.r_24 (F := Ideal) c arg2 harg2 arg3 harg3 arg5 harg5 arg6 harg6 arg7 harg7 arg10 x1 x2 x4 x5 x6) := un51 s22
  have k22 := took55 H s22
  have s23 : St3 (step pg gw gb) k v 768 1536 (0 + 128) (kernelRun0_A.sl.v276 (F := Ideal) c arg2 harg2 arg3 harg3 arg5 harg5 arg6 harg6 arg7 harg7 arg10 x1 x2 x4 x5 x6) := slab3 arg10 _ u13
  have t23 : St (step pg gw gb) k v 768 1536 (0 + 128) (kernelRun0_A.sl.r_25 (F := Ideal) c arg2 harg2 arg3 harg3 arg5 harg5 arg6 harg6 arg7 harg7 arg10 x1 x2 x4 x5 x6) := un52 s23
  have k23 := took56 H s23
  have m2 : St (step pg gw gb) k v 0 0 (0 + 192) (kernelRun0_A.sl.r_26 (F := Ideal) c arg2 harg2 arg3 harg3 arg5 harg5 arg6 harg6 arg7 harg7 arg10 x1 x2 x4 x5 x6) := upd57 H t20
  have u20 := upd58 m2
  have u21 := upd59 H t21
  have u22 := upd60 H t22
  have u23 := upd61 H t23
  have s30 : St3 (step pg gw gb) k v 0 0 (0 + 192) (kernelRun0_A.sl.v342 (F := Ideal) c arg2 harg2 arg3 harg3 arg5 harg5 arg6 harg6 arg7 harg7 arg10 x1 x2 x4 x5 x6) := slab0 arg10 _ u20
  have t30 : St (step pg gw gb) k v 0 0 (0 + 192) (kernelRun0_A.sl.r_27 (F := Ideal) c arg2 harg2 arg3 harg3 arg5 harg5 arg6 harg6 arg7 harg7 arg10 x1 x2 x4 x5 x6) := un62 s30
  have k30 := took66 H t30
  have s31 : St3 (step pg gw gb) k v 256 512 (0 + 192) (kernelRun0_A.sl.v344 (F := Ideal) c arg2 harg2 arg3 harg3 arg5 harg5 arg6 harg6 arg7 harg7 arg10 x1 x2 x4 x5 x6) := slab1 arg10 _ u21
  have t31 : St (step pg gw gb) k v 256 512 (0 + 192) (kernelRun0_A.sl.r_28 (F := Ideal) c arg2 harg2 arg3 harg3 arg5 harg5 arg6 harg6 arg7 harg7 arg10 x1 x2 x4 x5 x6) := un63 s31
  have k31 := took67 H t31
  have s32 : St3 (step pg gw gb) k v 512 1024 (0 + 192) (kernelRun0_A.sl.v346 (F := Ideal) c arg2 harg2 arg3 harg3 arg5 harg5 arg6 harg6 arg7 harg7 arg10 x1 x2 x4 x5 x6) := slab2 arg10 _ u22
  have t32 : St (step pg gw gb) k v 512 1024 (0 + 192) (kernelRun0_A.sl.r_29 (F := Ideal) c arg2 harg2 arg3 harg3 arg5 harg5 arg6 harg6 arg7 harg7 arg10 x1 x2 x4 x5 x6) := un64 s32
  have k32 := took68 H s32
  have s33 : St3 (step pg gw gb) k v 768 1536 (0 + 192) (kernelRun0_A.sl.v348 (F := Ideal) c arg2 harg2 arg3 harg3 arg5 harg5 arg6 harg6 arg7 harg7 arg10 x1 x2 x4 x5 x6) := slab3 arg10 _ u23
  have t33 : St (step pg gw gb) k v 768 1536 (0 + 192) (kernelRun0_A.sl.r_30 (F := Ideal) c arg2 harg2 arg3 harg3 arg5 harg5 arg6 harg6 arg7 harg7 arg10 x1 x2 x4 x5 x6) := un65 s33
  have k33 := took69 H s33
  have m3 : St (step pg gw gb) k v 0 0 (0 + 256) (kernelRun0_A.sl.r_31 (F := Ideal) c arg2 harg2 arg3 harg3 arg5 harg5 arg6 harg6 arg7 harg7 arg10 x1 x2 x4 x5 x6) := upd70 H t30
  have u30 := upd71 m3
  have u31 := upd72 H t31
  have u32 := upd73 H t32
  have u33 := upd74 H t33
  have o0 : Is (kernelRun0_A.sl.v414 (F := Ideal) c arg1 harg1 arg2 harg2 arg3 harg3 arg5 harg5 arg6 harg6 arg7 harg7 arg10 arg11 x0 x1 x2 x4 x5 x6) (fun r n => took (step pg gw gb) q k v (0 + r) (0 + n)) := tooks_read arg11 k33 k32 k31 k30 k23 k22 k21 k20 k13 k12 k11 k10 k03 k02 k01 k00 0 inb_S256x2048_S256x512_0_0
  have o1 : Is (kernelRun0_A.sl.v442 (F := Ideal) c arg1 harg1 arg2 harg2 arg3 harg3 arg5 harg5 arg6 harg6 arg7 harg7 arg10 arg11 x0 x1 x2 x4 x5 x6) (fun r n => took (step pg gw gb) q k v (0 + r) (512 + n)) := tooks_read arg11 k33 k32 k31 k30 k23 k22 k21 k20 k13 k12 k11 k10 k03 k02 k01 k00 512 inb_S256x2048_S256x512_0_512
  have o2 : Is (kernelRun0_A.sl.v470 (F := Ideal) c arg1 harg1 arg2 harg2 arg3 harg3 arg5 harg5 arg6 harg6 arg7 harg7 arg10 arg11 x0 x1 x2 x4 x5 x6) (fun r n => took (step pg gw gb) q k v (0 + r) (1024 + n)) := tooks_read arg11 k33 k32 k31 k30 k23 k22 k21 k20 k13 k12 k11 k10 k03 k02 k01 k00 1024 inb_S256x2048_S256x512_0_1024
  have o3 : Is (kernelRun0_A.sl.v498 (F := Ideal) c arg1 harg1 arg2 harg2 arg3 harg3 arg5 harg5 arg6 harg6 arg7 harg7 arg10 arg11 x0 x1 x2 x4 x5 x6) (fun r n => took (step pg gw gb) q k v (0 + r) (1536 + n)) := tooks_read arg11 k33 k32 k31 k30 k23 k22 k21 k20 k13 k12 k11 k10 k03 k02 k01 k00 1536 inb_S256x2048_S256x512_0_1536
  refine ⟨fun h i' j => ?_, fun y => ?_⟩
  · unfold sout0_A_0
    exact slab_end scM0_0 _ u30 u31 u32 u33 h i' j
  · unfold out0_A_8
    exact heads_read VO0_8 (E := fun r c => entry (step pg gw gb) q k v g nw (0 + r) c) (head3 (b := 0) hb hL n3 o3 l7 g3) (head2 (b := 0) hb hL n2 o2 l7 g2) (head1 (b := 0) hb hL n1 o1 l7 g1) (head0 (b := 0) hb hL n0 o0 l7 g0) y

/-- A point's body after the first: over the state the point before left. -/
theorem pointB (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x128 .f32) (harg5 : arg5.IsWhole) (arg6 : Memref sig .tc .vmem S128x1024 .f32) (harg6 : arg6.IsWhole) (arg7 : Memref sig .tc .vmem S8x1024 .f32) (harg7 : arg7.IsWhole) (arg8 : Memref sig .tc .vmem S8x512 .f32) (harg8 : arg8.IsWhole) (arg9 : Memref sig .tc .vmem S256x2048 .bf16) (harg9 : arg9.IsWhole) (arg10 : Memref sig .tc .vmem S4x512x256 .f32) (harg10 : arg10.IsWhole) (arg11 : Memref sig .tc .vmem S256x2048 .f32) (harg11 : arg11.IsWhole) (hc0 : ¬cond0_0 i)
    (x0 : Vec Ideal S256x1024 .f32) (x1 : Vec Ideal S256x1024 .f32) (x2 : Vec Ideal S256x2048 .f32) (x3 : Vec Ideal S256x2048 .f32) (x4 : Vec Ideal S256x128 .f32) (x5 : Vec Ideal S128x1024 .f32) (x6 : Vec Ideal S8x1024 .f32) (x7 : Vec Ideal S8x512 .f32) (xs0 : Vec Ideal S4x512x256 .f32)
    (hb : b % 256 = 0) (hL : b + 256 ≤ 8192)
    (h0 : Is x0 (fun r j => q (b + r) j)) (h1 : Is x1 (fun r j => k (b + r) j)) (h2 : Is x2 (fun r j => v (b + r) j)) (h3 : Is x3 (fun r j => g (b + r) j))
    (h4 : Is x4 (fun r j => pg (b + r) j)) (h5 : Is x5 gw) (h6 : ∀ j : Fin 1024, x6 (ix2 0 j) = (gb j.val : EReal)) (h7 : ∀ j : Fin 512, x7 (ix2 0 j) = (nw j.val : EReal))
    (hs : ∀ (h : Fin 4) (i : Fin 512) (j : Fin 256), xs0 (ix3 h i j) = (cell (step pg gw gb) k v (256 * h.val) (512 * h.val) b i.val j.val : EReal))
    : (∀ (h : Fin 4) (i' : Fin 512) (j : Fin 256), sout0_B_0 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 xs0 (ix3 h i' j) = (cell (step pg gw gb) k v (256 * h.val) (512 * h.val) (b + 256) i'.val j.val : EReal))
    ∧ ∀ y : S256x2048.Idx, out0_B_8 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 xs0 y = entry (step pg gw gb) q k v g nw (b + (y 0).val) (y 1).val := by
  have l0 : Is _ (fun r j => q (b + r) j) := (is_rd arg1 harg1 0 0 inb_S256x1024_S256x1024_0_0 h0).congr fun r j _ _ => by simp only [Nat.zero_add]
  have l1 : Is _ (fun r j => k (b + r) j) := (is_rd arg2 harg2 0 0 inb_S256x1024_S256x1024_0_0 h1).congr fun r j _ _ => by simp only [Nat.zero_add]
  have l2 : Is _ (fun r j => v (b + r) j) := (is_rd arg3 harg3 0 0 inb_S256x2048_S256x2048_0_0 h2).congr fun r j _ _ => by simp only [Nat.zero_add]
  have l4 : Is _ (fun r j => pg (b + r) j) := (is_rd arg5 harg5 0 0 inb_S256x128_S256x128_0_0 h4).congr fun r j _ _ => by simp only [Nat.zero_add]
  have l5 : Is _ gw := (is_rd arg6 harg6 0 0 inb_S128x1024_S128x1024_0_0 h5).congr fun r j _ _ => by simp only [Nat.zero_add]
  have l6 := is_rd_row arg7 harg7 inb_S8x1024_S1x1024_0_0 h6
  have l7 := is_rd_row arg8 harg8 inb_S8x512_S1x512_0_0 h7
  have g0 : Is _ (fun r n => g (b + r) (0 + n)) := (is_rd arg4 harg4 (c := 256) (d := 512) 0 0 inb_S256x2048_S256x512_0_0 h3).congr fun r n _ _ => by rw [Nat.zero_add]
  have g1 : Is _ (fun r n => g (b + r) (512 + n)) := (is_rd arg4 harg4 (c := 256) (d := 512) 0 512 inb_S256x2048_S256x512_0_512 h3).congr fun r n _ _ => by rw [Nat.zero_add]
  have g2 : Is _ (fun r n => g (b + r) (1024 + n)) := (is_rd arg4 harg4 (c := 256) (d := 512) 0 1024 inb_S256x2048_S256x512_0_1024 h3).congr fun r n _ _ => by rw [Nat.zero_add]
  have g3 : Is _ (fun r n => g (b + r) (1536 + n)) := (is_rd arg4 harg4 (c := 256) (d := 512) 0 1536 inb_S256x2048_S256x512_0_1536 h3).congr fun r n _ _ => by rw [Nat.zero_add]
  have p3 := is_pay3 l4 l5 l6
  have e : Is (kernelRun0_B.sl.r (F := Ideal) c arg5 harg5 arg6 harg6 arg7 harg7 x4 x5 x6) (fun r j => step pg gw gb j (b + r)) := p3
  have e1 : Is (kernelRun0_B.sl.r_1 (F := Ideal) c arg5 harg5 arg6 harg6 arg7 harg7 x4 x5 x6) (fun _ _ => 0) := is_pay6 p3
  have e7 : Is (k0_pay7 k0_pay4 (kernelRun0_B.sl.r (F := Ideal) c arg5 harg5 arg6 harg6 arg7 harg7 x4 x5 x6) (kernelRun0_B.sl.r_1 (F := Ideal) c arg5 harg5 arg6 harg6 arg7 harg7 x4 x5 x6)) (fun r j => inn (step pg gw gb j) (b + r)) := is_pay7 hb is_pay4 e e1
  have e2 : Is (kernelRun0_B.sl.r_2 (F := Ideal) c arg3 harg3 x2) (fun r j => v (b + r) j) := l2
  have q3 := is_pay12 e7 l0
  have q4 := is_pay13 e7 l1
  have q5 := is_pay14 e7 l0
  have q6 := is_pay15 e7 l1
  have q7 := is_pay16 e7
  have H : Blk (step pg gw gb) q k v b (kernelRun0_B.sl.r_2 (F := Ideal) c arg3 harg3 x2) (kernelRun0_B.sl.r_5 (F := Ideal) c arg1 harg1 arg5 harg5 arg6 harg6 arg7 harg7 x0 x4 x5 x6) (kernelRun0_B.sl.r_6 (F := Ideal) c arg2 harg2 arg5 harg5 arg6 harg6 arg7 harg7 x1 x4 x5 x6) (kernelRun0_B.sl.r_7 (F := Ideal) c arg5 harg5 arg6 harg6 arg7 harg7 x4 x5 x6) := ⟨hb, e2, q5, q6, q7⟩
  have n0 : Is (kernelRun0_B.sl.r_8 (F := Ideal) c arg1 harg1 arg2 harg2 arg3 harg3 arg5 harg5 arg6 harg6 arg7 harg7 x0 x1 x2 x4 x5 x6) (near (step pg gw gb) q k v b 0 0) := near19 e2 q3 q4
  have n1 : Is (kernelRun0_B.sl.r_9 (F := Ideal) c arg1 harg1 arg2 harg2 arg3 harg3 arg5 harg5 arg6 harg6 arg7 harg7 x0 x1 x2 x4 x5 x6) (near (step pg gw gb) q k v b 256 512) := near20 e2 q3 q4
  have n2 : Is (kernelRun0_B.sl.r_10 (F := Ideal) c arg1 harg1 arg2 harg2 arg3 harg3 arg5 harg5 arg6 harg6 arg7 harg7 x0 x1 x2 x4 x5 x6) (near (step pg gw gb) q k v b 512 1024) := near21 e2 q3 q4
  have n3 : Is (kernelRun0_B.sl.r_11 (F := Ideal) c arg1 harg1 arg2 harg2 arg3 harg3 arg5 harg5 arg6 harg6 arg7 harg7 x0 x1 x2 x4 x5 x6) (near (step pg gw gb) q k v b 768 1536) := near22 e2 q3 q4
  have s00 := is_rd3 arg10 harg10 0 (by decide) inb_S4x512x256_S1x512x256_0_0_0 (hs 0)
  have t00 : St (step pg gw gb) k v 0 0 (b + 0) (kernelRun0_B.sl.r_12 (F := Ideal) c arg10 harg10 xs0) := un23 s00
  have k00 := took27 H t00
  have s01 := is_rd3 arg10 harg10 1 (by decide) inb_S4x512x256_S1x512x256_1_0_0 (hs 1)
  have t01 : St (step pg gw gb) k v 256 512 (b + 0) (kernelRun0_B.sl.r_13 (F := Ideal) c arg10 harg10 xs0) := un24 s01
  have k01 := took28 H t01
  have s02 := is_rd3 arg10 harg10 2 (by decide) inb_S4x512x256_S1x512x256_2_0_0 (hs 2)
  have t02 : St (step pg gw gb) k v 512 1024 (b + 0) (kernelRun0_B.sl.r_14 (F := Ideal) c arg10 harg10 xs0) := un25 s02
  have k02 := took29 H s02
  have s03 := is_rd3 arg10 harg10 3 (by decide) inb_S4x512x256_S1x512x256_3_0_0 (hs 3)
  have t03 : St (step pg gw gb) k v 768 1536 (b + 0) (kernelRun0_B.sl.r_15 (F := Ideal) c arg10 harg10 xs0) := un26 s03
  have k03 := took30 H s03
  have m0 : St (step pg gw gb) k v 0 0 (b + 64) (kernelRun0_B.sl.r_16 (F := Ideal) c arg2 harg2 arg3 harg3 arg5 harg5 arg6 harg6 arg7 harg7 arg10 harg10 x1 x2 x4 x5 x6 xs0) := upd31 H t00
  have u00 := upd32 m0
  have u01 := upd33 H t01
  have u02 := upd34 H t02
  have u03 := upd35 H t03
  have s10 : St3 (step pg gw gb) k v 0 0 (b + 64) (kernelRun0_B.sl.v198 (F := Ideal) c arg2 harg2 arg3 harg3 arg5 harg5 arg6 harg6 arg7 harg7 arg10 harg10 x1 x2 x4 x5 x6 xs0) := slab0 arg10 _ u00
  have t10 : St (step pg gw gb) k v 0 0 (b + 64) (kernelRun0_B.sl.r_17 (F := Ideal) c arg2 harg2 arg3 harg3 arg5 harg5 arg6 harg6 arg7 harg7 arg10 harg10 x1 x2 x4 x5 x6 xs0) := un36 s10
  have k10 := took40 H t10
  have s11 : St3 (step pg gw gb) k v 256 512 (b + 64) (kernelRun0_B.sl.v200 (F := Ideal) c arg2 harg2 arg3 harg3 arg5 harg5 arg6 harg6 arg7 harg7 arg10 harg10 x1 x2 x4 x5 x6 xs0) := slab1 arg10 _ u01
  have t11 : St (step pg gw gb) k v 256 512 (b + 64) (kernelRun0_B.sl.r_18 (F := Ideal) c arg2 harg2 arg3 harg3 arg5 harg5 arg6 harg6 arg7 harg7 arg10 harg10 x1 x2 x4 x5 x6 xs0) := un37 s11
  have k11 := took41 H t11
  have s12 : St3 (step pg gw gb) k v 512 1024 (b + 64) (kernelRun0_B.sl.v202 (F := Ideal) c arg2 harg2 arg3 harg3 arg5 harg5 arg6 harg6 arg7 harg7 arg10 harg10 x1 x2 x4 x5 x6 xs0) := slab2 arg10 _ u02
  have t12 : St (step pg gw gb) k v 512 1024 (b + 64) (kernelRun0_B.sl.r_19 (F := Ideal) c arg2 harg2 arg3 harg3 arg5 harg5 arg6 harg6 arg7 harg7 arg10 harg10 x1 x2 x4 x5 x6 xs0) := un38 s12
  have k12 := took42 H s12
  have s13 : St3 (step pg gw gb) k v 768 1536 (b + 64) (kernelRun0_B.sl.v204 (F := Ideal) c arg2 harg2 arg3 harg3 arg5 harg5 arg6 harg6 arg7 harg7 arg10 harg10 x1 x2 x4 x5 x6 xs0) := slab3 arg10 _ u03
  have t13 : St (step pg gw gb) k v 768 1536 (b + 64) (kernelRun0_B.sl.r_20 (F := Ideal) c arg2 harg2 arg3 harg3 arg5 harg5 arg6 harg6 arg7 harg7 arg10 harg10 x1 x2 x4 x5 x6 xs0) := un39 s13
  have k13 := took43 H s13
  have m1 : St (step pg gw gb) k v 0 0 (b + 128) (kernelRun0_B.sl.r_21 (F := Ideal) c arg2 harg2 arg3 harg3 arg5 harg5 arg6 harg6 arg7 harg7 arg10 harg10 x1 x2 x4 x5 x6 xs0) := upd44 H t10
  have u10 := upd45 m1
  have u11 := upd46 H t11
  have u12 := upd47 H t12
  have u13 := upd48 H t13
  have s20 : St3 (step pg gw gb) k v 0 0 (b + 128) (kernelRun0_B.sl.v270 (F := Ideal) c arg2 harg2 arg3 harg3 arg5 harg5 arg6 harg6 arg7 harg7 arg10 harg10 x1 x2 x4 x5 x6 xs0) := slab0 arg10 _ u10
  have t20 : St (step pg gw gb) k v 0 0 (b + 128) (kernelRun0_B.sl.r_22 (F := Ideal) c arg2 harg2 arg3 harg3 arg5 harg5 arg6 harg6 arg7 harg7 arg10 harg10 x1 x2 x4 x5 x6 xs0) := un49 s20
  have k20 := took53 H t20
  have s21 : St3 (step pg gw gb) k v 256 512 (b + 128) (kernelRun0_B.sl.v272 (F := Ideal) c arg2 harg2 arg3 harg3 arg5 harg5 arg6 harg6 arg7 harg7 arg10 harg10 x1 x2 x4 x5 x6 xs0) := slab1 arg10 _ u11
  have t21 : St (step pg gw gb) k v 256 512 (b + 128) (kernelRun0_B.sl.r_23 (F := Ideal) c arg2 harg2 arg3 harg3 arg5 harg5 arg6 harg6 arg7 harg7 arg10 harg10 x1 x2 x4 x5 x6 xs0) := un50 s21
  have k21 := took54 H t21
  have s22 : St3 (step pg gw gb) k v 512 1024 (b + 128) (kernelRun0_B.sl.v274 (F := Ideal) c arg2 harg2 arg3 harg3 arg5 harg5 arg6 harg6 arg7 harg7 arg10 harg10 x1 x2 x4 x5 x6 xs0) := slab2 arg10 _ u12
  have t22 : St (step pg gw gb) k v 512 1024 (b + 128) (kernelRun0_B.sl.r_24 (F := Ideal) c arg2 harg2 arg3 harg3 arg5 harg5 arg6 harg6 arg7 harg7 arg10 harg10 x1 x2 x4 x5 x6 xs0) := un51 s22
  have k22 := took55 H s22
  have s23 : St3 (step pg gw gb) k v 768 1536 (b + 128) (kernelRun0_B.sl.v276 (F := Ideal) c arg2 harg2 arg3 harg3 arg5 harg5 arg6 harg6 arg7 harg7 arg10 harg10 x1 x2 x4 x5 x6 xs0) := slab3 arg10 _ u13
  have t23 : St (step pg gw gb) k v 768 1536 (b + 128) (kernelRun0_B.sl.r_25 (F := Ideal) c arg2 harg2 arg3 harg3 arg5 harg5 arg6 harg6 arg7 harg7 arg10 harg10 x1 x2 x4 x5 x6 xs0) := un52 s23
  have k23 := took56 H s23
  have m2 : St (step pg gw gb) k v 0 0 (b + 192) (kernelRun0_B.sl.r_26 (F := Ideal) c arg2 harg2 arg3 harg3 arg5 harg5 arg6 harg6 arg7 harg7 arg10 harg10 x1 x2 x4 x5 x6 xs0) := upd57 H t20
  have u20 := upd58 m2
  have u21 := upd59 H t21
  have u22 := upd60 H t22
  have u23 := upd61 H t23
  have s30 : St3 (step pg gw gb) k v 0 0 (b + 192) (kernelRun0_B.sl.v342 (F := Ideal) c arg2 harg2 arg3 harg3 arg5 harg5 arg6 harg6 arg7 harg7 arg10 harg10 x1 x2 x4 x5 x6 xs0) := slab0 arg10 _ u20
  have t30 : St (step pg gw gb) k v 0 0 (b + 192) (kernelRun0_B.sl.r_27 (F := Ideal) c arg2 harg2 arg3 harg3 arg5 harg5 arg6 harg6 arg7 harg7 arg10 harg10 x1 x2 x4 x5 x6 xs0) := un62 s30
  have k30 := took66 H t30
  have s31 : St3 (step pg gw gb) k v 256 512 (b + 192) (kernelRun0_B.sl.v344 (F := Ideal) c arg2 harg2 arg3 harg3 arg5 harg5 arg6 harg6 arg7 harg7 arg10 harg10 x1 x2 x4 x5 x6 xs0) := slab1 arg10 _ u21
  have t31 : St (step pg gw gb) k v 256 512 (b + 192) (kernelRun0_B.sl.r_28 (F := Ideal) c arg2 harg2 arg3 harg3 arg5 harg5 arg6 harg6 arg7 harg7 arg10 harg10 x1 x2 x4 x5 x6 xs0) := un63 s31
  have k31 := took67 H t31
  have s32 : St3 (step pg gw gb) k v 512 1024 (b + 192) (kernelRun0_B.sl.v346 (F := Ideal) c arg2 harg2 arg3 harg3 arg5 harg5 arg6 harg6 arg7 harg7 arg10 harg10 x1 x2 x4 x5 x6 xs0) := slab2 arg10 _ u22
  have t32 : St (step pg gw gb) k v 512 1024 (b + 192) (kernelRun0_B.sl.r_29 (F := Ideal) c arg2 harg2 arg3 harg3 arg5 harg5 arg6 harg6 arg7 harg7 arg10 harg10 x1 x2 x4 x5 x6 xs0) := un64 s32
  have k32 := took68 H s32
  have s33 : St3 (step pg gw gb) k v 768 1536 (b + 192) (kernelRun0_B.sl.v348 (F := Ideal) c arg2 harg2 arg3 harg3 arg5 harg5 arg6 harg6 arg7 harg7 arg10 harg10 x1 x2 x4 x5 x6 xs0) := slab3 arg10 _ u23
  have t33 : St (step pg gw gb) k v 768 1536 (b + 192) (kernelRun0_B.sl.r_30 (F := Ideal) c arg2 harg2 arg3 harg3 arg5 harg5 arg6 harg6 arg7 harg7 arg10 harg10 x1 x2 x4 x5 x6 xs0) := un65 s33
  have k33 := took69 H s33
  have m3 : St (step pg gw gb) k v 0 0 (b + 256) (kernelRun0_B.sl.r_31 (F := Ideal) c arg2 harg2 arg3 harg3 arg5 harg5 arg6 harg6 arg7 harg7 arg10 harg10 x1 x2 x4 x5 x6 xs0) := upd70 H t30
  have u30 := upd71 m3
  have u31 := upd72 H t31
  have u32 := upd73 H t32
  have u33 := upd74 H t33
  have o0 : Is (kernelRun0_B.sl.v414 (F := Ideal) c arg1 harg1 arg2 harg2 arg3 harg3 arg5 harg5 arg6 harg6 arg7 harg7 arg10 harg10 arg11 x0 x1 x2 x4 x5 x6 xs0) (fun r n => took (step pg gw gb) q k v (b + r) (0 + n)) := tooks_read arg11 k33 k32 k31 k30 k23 k22 k21 k20 k13 k12 k11 k10 k03 k02 k01 k00 0 inb_S256x2048_S256x512_0_0
  have o1 : Is (kernelRun0_B.sl.v442 (F := Ideal) c arg1 harg1 arg2 harg2 arg3 harg3 arg5 harg5 arg6 harg6 arg7 harg7 arg10 harg10 arg11 x0 x1 x2 x4 x5 x6 xs0) (fun r n => took (step pg gw gb) q k v (b + r) (512 + n)) := tooks_read arg11 k33 k32 k31 k30 k23 k22 k21 k20 k13 k12 k11 k10 k03 k02 k01 k00 512 inb_S256x2048_S256x512_0_512
  have o2 : Is (kernelRun0_B.sl.v470 (F := Ideal) c arg1 harg1 arg2 harg2 arg3 harg3 arg5 harg5 arg6 harg6 arg7 harg7 arg10 harg10 arg11 x0 x1 x2 x4 x5 x6 xs0) (fun r n => took (step pg gw gb) q k v (b + r) (1024 + n)) := tooks_read arg11 k33 k32 k31 k30 k23 k22 k21 k20 k13 k12 k11 k10 k03 k02 k01 k00 1024 inb_S256x2048_S256x512_0_1024
  have o3 : Is (kernelRun0_B.sl.v498 (F := Ideal) c arg1 harg1 arg2 harg2 arg3 harg3 arg5 harg5 arg6 harg6 arg7 harg7 arg10 harg10 arg11 x0 x1 x2 x4 x5 x6 xs0) (fun r n => took (step pg gw gb) q k v (b + r) (1536 + n)) := tooks_read arg11 k33 k32 k31 k30 k23 k22 k21 k20 k13 k12 k11 k10 k03 k02 k01 k00 1536 inb_S256x2048_S256x512_0_1536
  refine ⟨fun h i' j => ?_, fun y => ?_⟩
  · unfold sout0_B_0
    exact slab_end scM0_0 _ u30 u31 u32 u33 h i' j
  · unfold out0_B_8
    exact heads_read VO0_8 (E := fun r c => entry (step pg gw gb) q k v g nw (b + r) c) (head3 (b := b) hb hL n3 o3 l7 g3) (head2 (b := b) hb hL n2 o2 l7 g2) (head1 (b := b) hb hL n1 o1 l7 g1) (head0 (b := b) hb hL n0 o0 l7 g0) y

end Cert.AttnRun

end
-- ==== Proof.AttnRef.lean ====
/-
  The gated linear attention's reference, read entry by entry over real inputs: the causal sum over all tokens, each head's row over the root
  of its mean square, times the weight and the gate.
-/
module

public import proofs.«01_k».proof.Proof.AttnHead
public import proofs.«01_k».proof.Proof.Gen.ReferenceAttnIdeal.Read
import Idealize.ShloMosaic.Lib.WordCmp

@[expose] public section

noncomputable section

open scoped BigOperators

namespace Cert.AttnRef

open Idealize.ShloMosaic Idealize.ShloMosaic.ValueIdx Cert.AttnReal Cert.AttnOps Cert.AttnPay Cert.AttnGate Cert.AttnHead
open Cert.ReferenceAttnIdeal Cert.ReferenceAttnIdeal.Read

theorem sixteen_f32 : Ideal.ofBits .f32 0x41800000#32 = ((16 : ℝ) : EReal) := by
  simp [Ideal.ofBits, Ideal.ieee, -EReal.coe_mul]; norm_num

/-- A token's log decay in a channel: the reference's spelling, over the last sixteen of the columns. -/
def stepR (PG GW : ℕ → ℕ → ℝ) (GB : ℕ → ℝ) (j s : ℕ) : ℝ := ld (∑ l : Fin 16, PG s (112 + l.val) * GW l.val j + GB j)

/-- The projection's four parts. -/
abbrev Qp (P : ℕ → ℕ → ℝ) (t j : ℕ) : ℝ := P t j
abbrev Kp (P : ℕ → ℕ → ℝ) (t j : ℕ) : ℝ := P t (1024 + j)
abbrev Vp (P : ℕ → ℕ → ℝ) (t j : ℕ) : ℝ := P t (2048 + j)
abbrev Gp (P : ℕ → ℕ → ℝ) (t j : ℕ) : ℝ := P t (4096 + j)

variable {x0 : Vec Ideal S8192x6144 .f32} {x1 : Vec Ideal S8192x128 .f32} {x2 : Vec Ideal S16x1024 .f32} {x3 : Vec Ideal S1024 .f32} {x4 : Vec Ideal S512 .f32}
  {P PG GW : ℕ → ℕ → ℝ} {GB NW : ℕ → ℝ}

section
variable (h0 : ∀ i, x0 i = (P (i 0).val (i 1).val : EReal))
include h0

theorem v3_at (i : S8192x4x256.Idx) : val_main_v3 (F := Ideal) x0 i = ((Qp P (i 0).val (256 * (i 1).val + (i 2).val) * (1 / 16) : ℝ) : EReal) := by
  have b1 : (i 1).val < 4 := (i 1).isLt
  have b2 : (i 2).val < 256 := (i 2).isLt
  rw [val_main_v3_apply, val_main_v2_apply, val_main_v0_apply, val_main_v1_apply, val_main_cst_apply, h0]
  show (P ((((i 0).val * 4 + (i 1).val) * 256 + (i 2).val) / 1024) ((((i 0).val * 4 + (i 1).val) * 256 + (i 2).val) % 1024) : EReal) * Ideal.ofBits .f32 0x3D800000#32 = _
  rw [sixteenth_f32, ← EReal.coe_mul, show (((i 0).val * 4 + (i 1).val) * 256 + (i 2).val) / 1024 = (i 0).val by omega,
    show (((i 0).val * 4 + (i 1).val) * 256 + (i 2).val) % 1024 = 256 * (i 1).val + (i 2).val by omega]

theorem v5_at (i : S8192x4x256.Idx) : val_main_v5 (F := Ideal) x0 i = (Kp P (i 0).val (256 * (i 1).val + (i 2).val) : EReal) := by
  have b1 : (i 1).val < 4 := (i 1).isLt
  have b2 : (i 2).val < 256 := (i 2).isLt
  rw [val_main_v5_apply, val_main_v4_apply, h0]
  show (P ((((i 0).val * 4 + (i 1).val) * 256 + (i 2).val) / 1024) (1024 + (((i 0).val * 4 + (i 1).val) * 256 + (i 2).val) % 1024) : EReal) = _
  rw [show (((i 0).val * 4 + (i 1).val) * 256 + (i 2).val) / 1024 = (i 0).val by omega,
    show (((i 0).val * 4 + (i 1).val) * 256 + (i 2).val) % 1024 = 256 * (i 1).val + (i 2).val by omega]

theorem v7_at (i : S8192x4x512.Idx) : val_main_v7 (F := Ideal) x0 i = (Vp P (i 0).val (512 * (i 1).val + (i 2).val) : EReal) := by
  have b1 : (i 1).val < 4 := (i 1).isLt
  have b2 : (i 2).val < 512 := (i 2).isLt
  rw [val_main_v7_apply, val_main_v6_apply, h0]
  show (P ((((i 0).val * 4 + (i 1).val) * 512 + (i 2).val) / 2048) (2048 + (((i 0).val * 4 + (i 1).val) * 512 + (i 2).val) % 2048) : EReal) = _
  rw [show (((i 0).val * 4 + (i 1).val) * 512 + (i 2).val) / 2048 = (i 0).val by omega,
    show (((i 0).val * 4 + (i 1).val) * 512 + (i 2).val) % 2048 = 512 * (i 1).val + (i 2).val by omega]

theorem v9_at (i : S8192x4x512.Idx) : val_main_v9 (F := Ideal) x0 i = (Gp P (i 0).val (512 * (i 1).val + (i 2).val) : EReal) := by
  have b1 : (i 1).val < 4 := (i 1).isLt
  have b2 : (i 2).val < 512 := (i 2).isLt
  rw [val_main_v9_apply, val_main_v8_apply, h0]
  show (P ((((i 0).val * 4 + (i 1).val) * 512 + (i 2).val) / 2048) (4096 + (((i 0).val * 4 + (i 1).val) * 512 + (i 2).val) % 2048) : EReal) = _
  rw [show (((i 0).val * 4 + (i 1).val) * 512 + (i 2).val) / 2048 = (i 0).val by omega,
    show (((i 0).val * 4 + (i 1).val) * 512 + (i 2).val) % 2048 = 512 * (i 1).val + (i 2).val by omega]

/-- The gate. -/
theorem v58_at (i : S8192x4x512.Idx) : val_main_v58 (F := Ideal) x0 i
    = ((Gp P (i 0).val (512 * (i 1).val + (i 2).val) * (1 + Real.exp (-Gp P (i 0).val (512 * (i 1).val + (i 2).val)))⁻¹ : ℝ) : EReal) := by
  rw [val_main_v58_apply, val_main_v57_apply, val_main_v56_apply, val_main_v55_apply, val_main_v54_apply, val_main_v53_apply, val_main_v52_apply,
    val_main_cst_5_apply, val_main_cst_6_apply, v9_at h0]
  generalize Gp P (i 0).val (512 * (i 1).val + (i 2).val) = g
  show (g : EReal) * Ideal.div (Ideal.ofBits .f32 0x3F800000#32) (Ideal.ofBits .f32 0x3F800000#32 + Ideal.exp (-(g : EReal))) = _
  rw [one_f32, ← EReal.coe_neg, Ideal.exp_coe, ← EReal.coe_add, Ideal.div_coe (by positivity), ← EReal.coe_mul, ← EReal.coe_mul]
  simp

end

section
variable (h1 : ∀ i, x1 i = (PG (i 0).val (i 1).val : EReal)) (h2 : ∀ i, x2 i = (GW (i 0).val (i 1).val : EReal)) (h3 : ∀ i, x3 i = (GB (i 0).val : EReal))
include h1 h2 h3

/-- The pre-activation. -/
theorem v14_at (i : S8192x1024.Idx) : val_main_v14 (F := Ideal) x1 x2 x3 i
    = ((∑ l : Fin 16, PG (i 0).val (112 + l.val) * GW l.val (i 1).val + GB (i 1).val : ℝ) : EReal) := by
  rw [val_main_v14_apply, val_main_v11_apply, val_main_v13_apply, val_main_v12_apply, h3]
  refine Eq.trans ?_ (EReal.coe_add _ _).symm
  refine congrArg₂ (· + ·) ?_ rfl
  rw [← coe_sum_mul]
  refine Finset.sum_congr rfl fun l _ => congrArg₂ (· * ·) ?_ (h2 _)
  rw [val_main_v10_apply, h1]

/-- The log decay. -/
theorem v20_at (i : S8192x1024.Idx) : val_main_v20 (F := Ideal) x1 x2 x3 i = (stepR PG GW GB (i 1).val (i 0).val : EReal) := by
  rw [val_main_v20_apply, val_main_v19_apply, val_main_cst_0_apply, val_main_v18_apply, val_main_v17_apply, val_main_v16_apply, val_main_v15_apply, v14_at h1 h2 h3]
  unfold stepR ld
  generalize (∑ l : Fin 16, PG (i 0).val (112 + l.val) * GW l.val (i 1).val + GB (i 1).val : ℝ) = z
  show Ideal.div (-(Ideal.log (1 + Ideal.exp (-(z : EReal))))) (Ideal.ofBits .f32 0x41800000#32) = _
  rw [sixteen_f32, ← EReal.coe_neg, Ideal.exp_coe, ← EReal.coe_one, ← EReal.coe_add, Ideal.log_coe, if_neg (not_le.mpr (by positivity)), Ideal.div_coe (by norm_num),
    ← EReal.coe_neg, ← EReal.coe_mul]

end

/-- The mask: the column not past the row. -/
theorem v26_at (i : S8192x8192.Idx) : val_main_v26 (F := Ideal) i = if (i 1).val ≤ (i 0).val then 1#1 else 0#1 := by
  have b0 : (i 0).val < 8192 := (i 0).isLt
  have b1 : (i 1).val < 8192 := (i 1).isLt
  rw [val_main_v26_apply, val_main_v24_apply, val_main_v22_apply, val_main_v21_apply, val_main_v25_apply, val_main_v23_apply, val_main_v21_apply]
  show IntOp.cmpi .sge (BitVec.ofNat 32 (i 0).val) (BitVec.ofNat 32 (i 1).val) = _
  by_cases h : (i 1).val ≤ (i 0).val
  · rw [if_pos h]; exact (WordCmp.cmpi_sge_ofNat_eq_one_iff (by omega) (by omega)).2 h
  · rw [if_neg h]; exact (WordCmp.cmpi_sge_ofNat_eq_zero_iff (by omega) (by omega)).2 (by omega)

theorem v27_at (i : S8192x8192.Idx) : val_main_v27 (F := Ideal) i = ((if (i 1).val ≤ (i 0).val then 1 else 0 : ℝ) : EReal) := by
  rw [val_main_v27_apply, v26_at]
  by_cases h : (i 1).val ≤ (i 0).val
  · rw [if_pos h, if_pos h]
    show (((1#1 : BitVec 1).toNat : ℝ) : EReal) = _
    simp
  · rw [if_neg h, if_neg h]
    show (((0#1 : BitVec 1).toNat : ℝ) : EReal) = _
    simp

/-- A masked sum over all tokens is the sum up to a token. -/
theorem masked_run (f : ℕ → ℝ) (t : ℕ) (ht : t < 8192) : ∑ s : Fin 8192, (if s.val ≤ t then (1 : ℝ) else 0) * f s.val = run f (t + 1) := by
  unfold run
  rw [Fin.sum_univ_eq_sum_range (fun s => (if s ≤ t then (1 : ℝ) else 0) * f s) 8192]
  symm
  refine Eq.trans (Finset.sum_congr rfl fun s hs => ?_) (Finset.sum_subset (Finset.range_subset_range.2 (by omega : t + 1 ≤ 8192)) fun s _ hs => ?_)
  · rw [if_pos (by have := Finset.mem_range.1 hs; omega), one_mul]
  · rw [if_neg (by intro h; exact hs (Finset.mem_range.2 (by omega))), zero_mul]

section
variable (h1 : ∀ i, x1 i = (PG (i 0).val (i 1).val : EReal)) (h2 : ∀ i, x2 i = (GW (i 0).val (i 1).val : EReal)) (h3 : ∀ i, x3 i = (GB (i 0).val : EReal))
include h1 h2 h3

/-- The log decays' running sum. -/
theorem v28_at (i : S8192x1024.Idx) : val_main_v28 (F := Ideal) x1 x2 x3 i = (run (stepR PG GW GB (i 1).val) ((i 0).val + 1) : EReal) := by
  rw [val_main_v28_apply, ← masked_run _ _ (i 0).isLt, ← coe_sum_mul]
  refine Finset.sum_congr rfl fun s _ => congrArg₂ (· * ·) ?_ ?_
  · rw [v27_at]
  · rw [v20_at h1 h2 h3]

theorem v29_at (i : S8192x4x256.Idx) : val_main_v29 (F := Ideal) x1 x2 x3 i
    = (run (stepR PG GW GB (256 * (i 1).val + (i 2).val)) ((i 0).val + 1) : EReal) := by
  have b1 : (i 1).val < 4 := (i 1).isLt
  have b2 : (i 2).val < 256 := (i 2).isLt
  rw [val_main_v29_apply, v28_at h1 h2 h3]
  show (run (stepR PG GW GB ((((i 0).val * 4 + (i 1).val) * 256 + (i 2).val) % 1024)) ((((i 0).val * 4 + (i 1).val) * 256 + (i 2).val) / 1024 + 1) : EReal) = _
  rw [show (((i 0).val * 4 + (i 1).val) * 256 + (i 2).val) / 1024 = (i 0).val by omega,
    show (((i 0).val * 4 + (i 1).val) * 256 + (i 2).val) % 1024 = 256 * (i 1).val + (i 2).val by omega]

variable (h0 : ∀ i, x0 i = (P (i 0).val (i 1).val : EReal))
include h0

theorem v31_at (i : S8192x4x256.Idx) : val_main_v31 (F := Ideal) x0 x1 x2 x3 i
    = ((Qp P (i 0).val (256 * (i 1).val + (i 2).val) * (1 / 16) * Real.exp (run (stepR PG GW GB (256 * (i 1).val + (i 2).val)) ((i 0).val + 1)) : ℝ) : EReal) := by
  rw [val_main_v31_apply, val_main_v30_apply, v3_at h0, v29_at h1 h2 h3]
  generalize run (stepR PG GW GB (256 * (i 1).val + (i 2).val)) ((i 0).val + 1) = z
  generalize (Qp P (i 0).val (256 * (i 1).val + (i 2).val) * (1 / 16)) = q
  show (q : EReal) * Ideal.exp (z : EReal) = _
  rw [Ideal.exp_coe, ← EReal.coe_mul]

theorem v34_at (i : S8192x4x256.Idx) : val_main_v34 (F := Ideal) x0 x1 x2 x3 i
    = ((Kp P (i 0).val (256 * (i 1).val + (i 2).val) * Real.exp (-run (stepR PG GW GB (256 * (i 1).val + (i 2).val)) ((i 0).val + 1)) : ℝ) : EReal) := by
  rw [val_main_v34_apply, val_main_v33_apply, val_main_v32_apply, v5_at h0, v29_at h1 h2 h3]
  generalize run (stepR PG GW GB (256 * (i 1).val + (i 2).val)) ((i 0).val + 1) = z
  generalize Kp P (i 0).val (256 * (i 1).val + (i 2).val) = k
  show (k : EReal) * Ideal.exp (-(z : EReal)) = _
  rw [← EReal.coe_neg, Ideal.exp_coe, ← EReal.coe_mul]

/-- The masked scores. -/
theorem v36_at (i : S4x8192x8192.Idx) : val_main_v36 (F := Ideal) x0 x1 x2 x3 i
    = ((if (i 2).val ≤ (i 1).val then ∑ d : Fin 256,
      (Qp P (i 1).val (256 * (i 0).val + d.val) * (1 / 16) * Real.exp (run (stepR PG GW GB (256 * (i 0).val + d.val)) ((i 1).val + 1)))
        * (Kp P (i 2).val (256 * (i 0).val + d.val) * Real.exp (-run (stepR PG GW GB (256 * (i 0).val + d.val)) ((i 2).val + 1))) else 0 : ℝ) : EReal) := by
  rw [val_main_v36_apply, val_main_call0_v1_apply, v26_at, val_main_call0_v2_apply, val_main_call0_v0_apply, val_main_cst_1_apply, val_main_v35_apply]
  show Scalar.select (if (i 2).val ≤ (i 1).val then 1#1 else 0#1) _ (Ideal.ofBits .f32 0x00000000#32) = _
  by_cases h : (i 2).val ≤ (i 1).val
  · rw [if_pos h, if_pos h, ← coe_sum_mul]
    refine Eq.trans (if_pos rfl) (Finset.sum_congr rfl fun d _ => congrArg₂ (· * ·) ?_ ?_)
    · rw [v31_at h1 h2 h3 h0]
    · rw [v34_at h1 h2 h3 h0]
  · rw [if_neg h, if_neg h]
    exact (if_neg (by decide)).trans zero_f32

/-- The causal sum. -/
theorem v38_at (i : S8192x4x512.Idx) : val_main_v38 (F := Ideal) x0 x1 x2 x3 i
    = (full (stepR PG GW GB) (Qp P) (Kp P) (Vp P) (i 1).val (i 0).val (i 2).val : EReal) := by
  rw [val_main_v38_apply, val_main_v37_apply]
  unfold full whole
  rw [← coe_sum_mul]
  refine Finset.sum_congr rfl fun s _ => congrArg₂ (· * ·) ?_ ?_
  · rw [v7_at h0]
  · rw [v36_at h1 h2 h3 h0]

/-- The mean square's root. -/
theorem v46_at (i : S8192x4x1.Idx) : val_main_v46 (F := Ideal) x0 x1 x2 x3 i
    = Ideal.rsqrt (Ideal.div ((∑ k : Fin 512, full (stepR PG GW GB) (Qp P) (Kp P) (Vp P) (i 1).val (i 0).val k.val * full (stepR PG GW GB) (Qp P) (Kp P) (Vp P) (i 1).val (i 0).val k.val : ℝ) : EReal)
      (Ideal.ofBits .f32 0x44000000#32) + Ideal.ofBits .f32 0x3727C5AC#32) := by
  rw [val_main_v46_apply, val_main_v45_apply, val_main_v44_apply, val_main_cst_4_apply, val_main_v43_apply, val_main_v42_apply, val_main_cst_3_apply, val_main_v41_apply, val_main_v40_apply, val_main_cst_2_apply]
  refine congrArg (fun z : EReal => Ideal.rsqrt (Ideal.div z (Ideal.ofBits .f32 0x44000000#32) + Ideal.ofBits .f32 0x3727C5AC#32)) ?_
  show Ideal.ofBits .f32 0x00000000#32 + _ = _
  rw [Ideal.ofBits_zero_f32, zero_add, ← coe_sum_mul]
  refine Finset.sum_congr rfl fun k _ => ?_
  rw [val_main_v39_apply, v38_at h1 h2 h3 h0]
  rfl

/-- The reference's entry. -/
theorem v61_at (h4 : ∀ i, x4 i = (NW (i 0).val : EReal)) (i : S8192x2048.Idx) : val_main_v61 (F := Ideal) x0 x1 x2 x3 x4 i
    = entry (stepR PG GW GB) (Qp P) (Kp P) (Vp P) (Gp P) NW (i 0).val (i 1).val := by
  have b1 : (i 1).val < 2048 := (i 1).isLt
  rw [val_main_v61_apply, val_main_v60_apply, val_main_v59_apply, val_main_v51_apply, val_main_v48_apply, val_main_v47_apply, val_main_v50_apply, val_main_v49_apply,
    v58_at h0, v46_at h1 h2 h3 h0, v38_at h1 h2 h3 h0, h4]
  have e0 : ((i 0).val * 2048 + (i 1).val) / 2048 = (i 0).val := by omega
  have e1 : ((i 0).val * 2048 + (i 1).val) / 512 % 4 = (i 1).val / 512 := by omega
  have e2 : ((i 0).val * 2048 + (i 1).val) % 512 = (i 1).val % 512 := by omega
  have e3 : 512 * ((i 1).val / 512) + (i 1).val % 512 = (i 1).val := by omega
  show (_ : EReal) * _ * _ * _ = _
  dsimp only
  unfold entry gn
  rw [e0, e1, e2, e3]

end

end Cert.AttnRef

end
-- ==== Proof.AttnPre.lean ====
/-
  The precondition of the gated linear attention read back: every entry of the five arrays is a real number.
-/
module

public import proofs.«01_k».proof.Pre_finite
public import Idealize.ShloMosaic.Lib.IdealHost
import Idealize.ShloMosaic.Lib.ReduceAll
import Idealize.ShloMosaic.Lib.KernelVsHost
import Idealize.ShloMosaic.Lib.Pipeline.Value

@[expose] public section

noncomputable section

namespace Cert.AttnPre

open Idealize.ShloMosaic Cert.Pre_finite

/-- The side conditions the predicate states. -/
theorem facts : Cert.Pre_finite.Facts where
  bcast_S_S8192x6144 := by decide
  reducesTo_S8192x6144_S_d0_1 := by decide
  h_S_ := by decide
  bcast_S_S8192x128 := by decide
  reducesTo_S8192x128_S_d0_1 := by decide
  bcast_S_S16x1024 := by decide
  reducesTo_S16x1024_S_d0_1 := by decide
  bcast_S_S1024 := by decide
  reducesTo_S1024_S_d0 := by decide
  bcast_S_S512 := by decide
  reducesTo_S512_S_d0 := by decide
  bcast_S_S1 := by decide
  concatenates_S1_S1_S1_S1_S1_S5_d0 := by decide

/-- An extended real whose absolute value is below infinity is a real. -/
theorem real_of (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

instance : Subsingleton S_.Idx := ⟨fun _ _ => funext fun a => a.elim0⟩

/-- One array's part of the predicate. -/
theorem part {s : Shape} (x : FVec Ideal s .f32) {axes : List (Fin s.rank)} (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant (F := Ideal) S_ .f32 0x7F800000#32))) (constantI S_ 1 1#1) hr hu j = 1#1)
    (i : s.Idx) : ∃ r : ℝ, x i = (r : EReal) := by
  have h := Host.reduce_andi_all _ _ hr hu j e i
  exact real_of (x i) h

/-- A piece of the predicate's five words. -/
theorem piece (hc : Shape.Concatenates [S1, S1, S1, S1, S1] S5 0) (hb : S_.BroadcastsInDim S1 (![] : Fin 0 → Fin S1.rank)) (a b c d e : IVec S_ 1)
    (h : concatenate S5 0 [⟨S1, broadcastInDim S1 ![] hb a⟩, ⟨S1, broadcastInDim S1 ![] hb b⟩, ⟨S1, broadcastInDim S1 ![] hb c⟩, ⟨S1, broadcastInDim S1 ![] hb d⟩,
      ⟨S1, broadcastInDim S1 ![] hb e⟩] hc = fun _ => 1#1) (j : S_.Idx) : a j = 1#1 ∧ b j = 1#1 ∧ c j = 1#1 ∧ d j = 1#1 ∧ e j = 1#1 := by
  have hz : ∀ (y : IVec S_ 1) (i : S1.Idx), broadcastInDim S1 ![] hb y i = y j := fun y i => congrArg y (Subsingleton.elim _ _)
  let xs : List ((s : Shape) × (s.Idx → BitVec 1)) := [⟨S1, broadcastInDim S1 ![] hb a⟩, ⟨S1, broadcastInDim S1 ![] hb b⟩, ⟨S1, broadcastInDim S1 ![] hb c⟩, ⟨S1, broadcastInDim S1 ![] hb d⟩,
      ⟨S1, broadcastInDim S1 ![] hb e⟩]
  have at_ : ∀ (k : Fin 5) (y : IVec S_ 1), xs[k.val]'k.isLt = ⟨S1, broadcastInDim S1 ![] hb y⟩ → y j = 1#1 := fun k y hy => by
    let i5 : S5.Idx := fun q => match q with | ⟨0, _⟩ => k
    let i1 : S1.Idx := fun q => match q with | ⟨0, _⟩ => (0 : Fin 1)
    have hx := congrFun h i5
    have hp := concatenate_apply_piece (t := S5) 0 xs hc i5 k.val k.isLt S1 (broadcastInDim S1 ![] hb y) hy rfl k.val (by fin_cases k <;> rfl) i1
      (fun q hq => absurd (Subsingleton.elim (α := Fin 1) _ _) hq) (by rfl)
    exact (hz y i1).symm.trans (hp.symm.trans hx)
  exact ⟨at_ 0 a rfl, at_ 1 b rfl, at_ 2 c rfl, at_ 3 d rfl, at_ 4 e rfl⟩

/-- The precondition says that every entry is a real. -/
theorem reals [Cert.Pre_finite.Facts] (x0 : FVec Ideal S8192x6144 .f32) (x1 : FVec Ideal S8192x128 .f32) (x2 : FVec Ideal S16x1024 .f32) (x3 : FVec Ideal S1024 .f32) (x4 : FVec Ideal S512 .f32)
    (h : Cert.Pre_finite.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal)) ∧ (∀ i, ∃ r : ℝ, x4 i = (r : EReal)) := by
  obtain ⟨e0, e1, e2, e3, e4⟩ := piece Cert.Pre_finite.Facts.concatenates_S1_S1_S1_S1_S1_S5_d0 Cert.Pre_finite.Facts.bcast_S_S1 _ _ _ _ _ h (fun a => a.elim0)
  exact ⟨part x0 _ _ _ _ e0, part x1 _ _ _ _ e1, part x2 _ _ _ _ e2, part x3 _ _ _ _ e3, part x4 _ _ _ _ e4⟩

end Cert.AttnPre

end
-- ==== Proof.Attn.lean ====
/-
  The value of an odd layer's gated linear attention: over real inputs the grid's points carry the state of every head along the
  tokens, and what they write is the causal sum of the reference, normed and gated.
-/
module

public import proofs.«01_k».proof.Proof.AttnRun
public import proofs.«01_k».proof.Proof.AttnRef
public import proofs.«01_k».proof.Proof.AttnPre
public import proofs.«01_k».proof.Proof.Gen.KernelAttnIdeal.Value
public import proofs.«01_k».proof.Proof.Gen.ReferenceAttnIdeal.Run
public import proofs.«01_k».proof.Defs

@[expose] public section

set_option maxRecDepth 4000

noncomputable section

open scoped BigOperators
open Idealize.ShloMosaic Idealize.ShloMosaic.TcCoe Idealize.SL.Sem Idealize.ShloMosaic.ValueIdx
open Idealize.ShloMosaic.Pipeline (Dat)
open Cert.Lin Cert.AttnReal Cert.AttnOps Cert.AttnPay Cert.AttnSt Cert.AttnGate Cert.AttnHead Cert.AttnRef Cert.AttnRun

namespace Cert.KernelAttnIdeal.Val

open Cert.KernelAttnIdeal Cert.KernelAttnIdeal.Gen Cert.KernelAttnIdeal.Value

variable (m : (ℓ : Loc nD τ sig) → Buf (Elt Ideal) ℓ) (ρ : Dev nD → PrngReg)

/-- The projected tokens as launched. -/
abbrev X0 (c : Dev nD) : FVec Ideal S8192x6144 .f32 := m ((c : Thread nD τ).loc main_arg0)
/-- The gate's projected tokens as launched. -/
abbrev X1 (c : Dev nD) : FVec Ideal S8192x128 .f32 := m ((c : Thread nD τ).loc main_arg1)
/-- The gate's weights as launched. -/
abbrev X2 (c : Dev nD) : FVec Ideal S16x1024 .f32 := m ((c : Thread nD τ).loc main_arg2)
/-- The gate's bias as launched. -/
abbrev X3 (c : Dev nD) : FVec Ideal S1024 .f32 := m ((c : Thread nD τ).loc main_arg3)
/-- The norm's weights as launched. -/
abbrev X4 (c : Dev nD) : FVec Ideal S512 .f32 := m ((c : Thread nD τ).loc main_arg4)

/-- The inputs' entries, at natural coordinates. -/
def Pr (c : Dev nD) (t j : ℕ) : ℝ := (at2 (X0 m c) t j).toReal
def PG (c : Dev nD) (t j : ℕ) : ℝ := (at2 (X1 m c) t j).toReal
def GW (c : Dev nD) (l j : ℕ) : ℝ := (at2 (X2 m c) l j).toReal
def GB (c : Dev nD) (j : ℕ) : ℝ := (at1 (X3 m c) j).toReal
def NW (c : Dev nD) (j : ℕ) : ℝ := (at1 (X4 m c) j).toReal
/-- The gate's weights under their rows of zeros. -/
def GWz (c : Dev nD) (l j : ℕ) : ℝ := if l < 112 then 0 else GW m c (l - 112) j

/-- A real entry is its real part. -/
theorem coe_at2 {a b : ℕ} (x : (⟨2, ![a, b]⟩ : Shape).Idx → EReal) (h : ∀ i, ∃ r : ℝ, x i = (r : EReal)) (i : (⟨2, ![a, b]⟩ : Shape).Idx) :
    x i = ((at2 x (i 0).val (i 1).val).toReal : EReal) := by
  rw [← at2_eq x i rfl rfl]
  obtain ⟨r, hr⟩ := h i
  rw [hr, EReal.toReal_coe]
theorem coe_at1 {a : ℕ} (x : (⟨1, ![a]⟩ : Shape).Idx → EReal) (h : ∀ i, ∃ r : ℝ, x i = (r : EReal)) (i : (⟨1, ![a]⟩ : Shape).Idx) :
    x i = ((at1 x (i 0).val).toReal : EReal) := by
  rw [← at1_eq x i rfl]
  obtain ⟨r, hr⟩ := h i
  rw [hr, EReal.toReal_coe]

/-- The rows of zeros add nothing to the gate. -/
theorem step_eq (c : Dev nD) : step (PG m c) (GWz m c) (GB m c) = stepR (PG m c) (GW m c) (GB m c) := by
  funext j s
  unfold step stepR
  refine congrArg ld (congrArg (· + GB m c j) ?_)
  rw [Fin.sum_univ_add (a := 112) (b := 16) (fun l : Fin 128 => PG m c s l.val * GWz m c l.val j)]
  rw [Finset.sum_eq_zero (fun (l : Fin 112) _ => ?_), zero_add]
  · refine Finset.sum_congr rfl fun l _ => ?_
    show PG m c s (112 + l.val) * GWz m c (112 + l.val) j = _
    unfold GWz
    rw [if_neg (by omega), Nat.add_sub_cancel_left]
  · show PG m c s l.val * GWz m c l.val j = 0
    unfold GWz
    rw [if_pos l.isLt, mul_zero]

/-- Where the windows' blocks begin. -/
theorem idx : ∀ t : Fin cfg0.N, (win0_0.index t 0 = t.val ∧ win0_0.index t 1 = 0)
    ∧ (win0_1.index t 0 = t.val ∧ win0_1.index t 1 = 1)
    ∧ (win0_2.index t 0 = t.val ∧ win0_2.index t 1 = 1)
    ∧ (win0_3.index t 0 = t.val ∧ win0_3.index t 1 = 2)
    ∧ (win0_4.index t 0 = t.val ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0) :=
  (by decide +kernel : ∀ t : Fin grid0.N, (win0_0.index t 0 = t.val ∧ win0_0.index t 1 = 0)
    ∧ (win0_1.index t 0 = t.val ∧ win0_1.index t 1 = 1)
    ∧ (win0_2.index t 0 = t.val ∧ win0_2.index t 1 = 1)
    ∧ (win0_3.index t 0 = t.val ∧ win0_3.index t 1 = 2)
    ∧ (win0_4.index t 0 = t.val ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0))

/-- The queries' block at a point. -/
theorem blk0 (c : Dev nD) (t : Fin cfg0.N) (y : S256x1024.Idx) :
    (iblk m c 0 t : FVec Ideal S256x1024 .f32) y = at2 (X0 m c) (256 * t.val + (y 0).val) (y 1).val := by
  have hi := (idx t).1
  rw [← at2_eq (X0 m c) ((win0_0.rect t).emb y)
    (by rw [win0_0.rect_emb_val t y 0, hi.1]; show t.val * 256 + (y 0).val = _; omega) (by rw [win0_0.rect_emb_val t y 1, hi.2]; show 0 * 1024 + (y 1).val = _; omega)]
  unfold iblk
  rw [View.read_apply]
  show V m c main_arg0 _ = _
  rw [V_main_arg0]
  rfl

/-- The keys' block at a point. -/
theorem blk1 (c : Dev nD) (t : Fin cfg0.N) (y : S256x1024.Idx) :
    (iblk m c 1 t : FVec Ideal S256x1024 .f32) y = at2 (X0 m c) (256 * t.val + (y 0).val) (1024 + (y 1).val) := by
  have hi := (idx t).2.1
  rw [← at2_eq (X0 m c) ((win0_1.rect t).emb y)
    (by rw [win0_1.rect_emb_val t y 0, hi.1]; show t.val * 256 + (y 0).val = _; omega) (by rw [win0_1.rect_emb_val t y 1, hi.2]; show 1 * 1024 + (y 1).val = _; omega)]
  unfold iblk
  rw [View.read_apply]
  show V m c main_arg0 _ = _
  rw [V_main_arg0]
  rfl

/-- The values' block at a point. -/
theorem blk2 (c : Dev nD) (t : Fin cfg0.N) (y : S256x2048.Idx) :
    (iblk m c 2 t : FVec Ideal S256x2048 .f32) y = at2 (X0 m c) (256 * t.val + (y 0).val) (2048 + (y 1).val) := by
  have hi := (idx t).2.2.1
  rw [← at2_eq (X0 m c) ((win0_2.rect t).emb y)
    (by rw [win0_2.rect_emb_val t y 0, hi.1]; show t.val * 256 + (y 0).val = _; omega) (by rw [win0_2.rect_emb_val t y 1, hi.2]; show 1 * 2048 + (y 1).val = _; omega)]
  unfold iblk
  rw [View.read_apply]
  show V m c main_arg0 _ = _
  rw [V_main_arg0]
  rfl

/-- The output gate's block at a point. -/
theorem blk3 (c : Dev nD) (t : Fin cfg0.N) (y : S256x2048.Idx) :
    (iblk m c 3 t : FVec Ideal S256x2048 .f32) y = at2 (X0 m c) (256 * t.val + (y 0).val) (4096 + (y 1).val) := by
  have hi := (idx t).2.2.2.1
  rw [← at2_eq (X0 m c) ((win0_3.rect t).emb y)
    (by rw [win0_3.rect_emb_val t y 0, hi.1]; show t.val * 256 + (y 0).val = _; omega) (by rw [win0_3.rect_emb_val t y 1, hi.2]; show 2 * 2048 + (y 1).val = _; omega)]
  unfold iblk
  rw [View.read_apply]
  show V m c main_arg0 _ = _
  rw [V_main_arg0]
  rfl

/-- The decay's projected block at a point. -/
theorem blk4 (c : Dev nD) (t : Fin cfg0.N) (y : S256x128.Idx) :
    (iblk m c 4 t : FVec Ideal S256x128 .f32) y = at2 (X1 m c) (256 * t.val + (y 0).val) (y 1).val := by
  have hi := (idx t).2.2.2.2.1
  rw [← at2_eq (X1 m c) ((win0_4.rect t).emb y)
    (by rw [win0_4.rect_emb_val t y 0, hi.1]; show t.val * 256 + (y 0).val = _; omega) (by rw [win0_4.rect_emb_val t y 1, hi.2]; show 0 * 128 + (y 1).val = _; omega)]
  unfold iblk
  rw [View.read_apply]
  show V m c main_arg1 _ = _
  rw [V_main_arg1]
  rfl

/-- The decay's weights at a point: rows of zeros above the sixteen. -/
theorem blk5 (c : Dev nD) (t : Fin cfg0.N) (y : S128x1024.Idx) :
    (iblk m c 5 t : FVec Ideal S128x1024 .f32) y = if (y 0).val < 112 then 0 else at2 (X2 m c) ((y 0).val - 112) (y 1).val := by
  have hi := (idx t).2.2.2.2.2.1
  have e0 : ((win0_5.rect t).emb y 0).val = (y 0).val := by
    rw [win0_5.rect_emb_val t y 0, hi.1]; show 0 * 128 + (y 0).val = _; omega
  have e1 : ((win0_5.rect t).emb y 1).val = (y 1).val := by
    rw [win0_5.rect_emb_val t y 1, hi.2]; show 0 * 1024 + (y 1).val = _; omega
  have hV : (V m c main_v1 : FVec Ideal S128x1024 .f32)
      = concatenate S128x1024 0 [⟨S112x1024, broadcastInDim S112x1024 ![] bcast_S_S112x1024 (constant (F := Ideal) S_ .f32 0x00000000#32)⟩, ⟨S16x1024, X2 m c⟩]
          concatenates_S112x1024_S16x1024_S128x1024_d0 := by
    show StableHlo.after hostOps0 (fun b => m (c, b)) (Proc.devRef .tc main_v1) = _
    after_results <;> rfl
  unfold iblk
  rw [View.read_apply]
  show V m c main_v1 _ = _
  rw [hV]
  have h0 : (y 0).val < 128 := (y 0).isLt
  have h1 : (y 1).val < 1024 := (y 1).isLt
  by_cases h : (y 0).val < 112
  · rw [if_pos h]
    refine (concatenate_pair_apply_left (t := S128x1024) 0 _ _ concatenates_S112x1024_S16x1024_S128x1024_d0 ((win0_5.rect t).emb y) rfl
      (ix2 (⟨(y 0).val, h⟩ : Fin 112) (⟨(y 1).val, h1⟩ : Fin 1024)) (fun b => match b with | ⟨0, _⟩ => e0.symm | ⟨1, _⟩ => e1.symm)).trans ?_
    show Ideal.ofBits .f32 0x00000000#32 = 0
    simp [Ideal.ofBits, Ideal.ieee]
  · rw [if_neg h]
    refine (concatenate_pair_apply_right (t := S128x1024) 0 _ _ concatenates_S112x1024_S16x1024_S128x1024_d0 ((win0_5.rect t).emb y) rfl rfl
      (ix2 (⟨(y 0).val - 112, by omega⟩ : Fin 16) (⟨(y 1).val, h1⟩ : Fin 1024)) ?_ ?_).trans ?_
    · intro b hb
      match b with
      | ⟨0, _⟩ => exact absurd rfl hb
      | ⟨1, _⟩ => exact e1.symm
    · show (y 0).val - 112 + 112 = ((win0_5.rect t).emb y 0).val
      rw [e0]; omega
    · exact at2_eq (X2 m c) _ rfl rfl

/-- The decay's bias row at a point. -/
theorem blk6 (c : Dev nD) (t : Fin cfg0.N) (y : S8x1024.Idx) (hy : (y 0).val = 0) :
    (iblk m c 6 t : FVec Ideal S8x1024 .f32) y = at1 (X3 m c) (y 1).val := by
  have hi := (idx t).2.2.2.2.2.2.1
  have e0 : ((win0_6.rect t).emb y 0).val = 0 := by
    rw [win0_6.rect_emb_val t y 0, hi.1]; show 0 * 8 + (y 0).val = 0; omega
  have e1 : ((win0_6.rect t).emb y 1).val = (y 1).val := by
    rw [win0_6.rect_emb_val t y 1, hi.2]; show 0 * 1024 + (y 1).val = _; omega
  have hV : (V m c main_v4 : FVec Ideal S8x1024 .f32)
      = concatenate S8x1024 0 [⟨S1x1024, broadcastInDim S1x1024 ![1] bcast_S1024_S1x1024_1 (X3 m c)⟩,
          ⟨S7x1024, broadcastInDim S7x1024 ![] bcast_S_S7x1024 (constant (F := Ideal) S_ .f32 0x00000000#32)⟩]
          concatenates_S1x1024_S7x1024_S8x1024_d0 := by
    show StableHlo.after hostOps0 (fun b => m (c, b)) (Proc.devRef .tc main_v4) = _
    after_results <;> rfl
  unfold iblk
  rw [View.read_apply]
  show V m c main_v4 _ = _
  rw [hV]
  refine (rows8_zero _ _ concatenates_S1x1024_S7x1024_S8x1024_d0 ((win0_6.rect t).emb y) e0).trans ?_
  refine (row_apply _ bcast_S1024_S1x1024_1 _).trans ?_
  exact at1_eq (X3 m c) _ e1

/-- The norm weights' row at a point. -/
theorem blk7 (c : Dev nD) (t : Fin cfg0.N) (y : S8x512.Idx) (hy : (y 0).val = 0) :
    (iblk m c 7 t : FVec Ideal S8x512 .f32) y = at1 (X4 m c) (y 1).val := by
  have hi := (idx t).2.2.2.2.2.2.2
  have e0 : ((win0_7.rect t).emb y 0).val = 0 := by
    rw [win0_7.rect_emb_val t y 0, hi.1]; show 0 * 8 + (y 0).val = 0; omega
  have e1 : ((win0_7.rect t).emb y 1).val = (y 1).val := by
    rw [win0_7.rect_emb_val t y 1, hi.2]; show 0 * 512 + (y 1).val = _; omega
  have hV : (V m c main_v7 : FVec Ideal S8x512 .f32)
      = concatenate S8x512 0 [⟨S1x512, broadcastInDim S1x512 ![1] bcast_S512_S1x512_1 (X4 m c)⟩,
          ⟨S7x512, broadcastInDim S7x512 ![] bcast_S_S7x512 (constant (F := Ideal) S_ .f32 0x00000000#32)⟩]
          concatenates_S1x512_S7x512_S8x512_d0 := by
    show StableHlo.after hostOps0 (fun b => m (c, b)) (Proc.devRef .tc main_v7) = _
    after_results <;> rfl
  unfold iblk
  rw [View.read_apply]
  show V m c main_v7 _ = _
  rw [hV]
  refine (rows8_zero _ _ concatenates_S1x512_S7x512_S8x512_d0 ((win0_7.rect t).emb y) e0).trans ?_
  refine (row_apply _ bcast_S512_S1x512_1 _).trans ?_
  exact at1_eq (X4 m c) _ e1

/-- Every input entry is a real. -/
abbrev Real5 (c : Dev nD) : Prop := (∀ i, ∃ r : ℝ, X0 m c i = (r : EReal)) ∧ (∀ i, ∃ r : ℝ, X1 m c i = (r : EReal)) ∧ (∀ i, ∃ r : ℝ, X2 m c i = (r : EReal))
  ∧ (∀ i, ∃ r : ℝ, X3 m c i = (r : EReal)) ∧ (∀ i, ∃ r : ℝ, X4 m c i = (r : EReal))

variable {m}

section
variable {c : Dev nD} (hr : Real5 m c) (t : Fin cfg0.N)
include hr

theorem at0_coe {i j : ℕ} (hi : i < 8192) (hj : j < 6144) : at2 (X0 m c) i j = (Pr m c i j : EReal) := by
  have e := at2_eq (X0 m c) (ix2 (⟨i, hi⟩ : Fin 8192) (⟨j, hj⟩ : Fin 6144)) (i := i) (j := j) rfl rfl
  exact e.symm.trans (coe_at2 (X0 m c) hr.1 _)
theorem at1_coe {i j : ℕ} (hi : i < 8192) (hj : j < 128) : at2 (X1 m c) i j = (PG m c i j : EReal) := by
  have e := at2_eq (X1 m c) (ix2 (⟨i, hi⟩ : Fin 8192) (⟨j, hj⟩ : Fin 128)) (i := i) (j := j) rfl rfl
  exact e.symm.trans (coe_at2 (X1 m c) hr.2.1 _)
theorem at2_coe {i j : ℕ} (hi : i < 16) (hj : j < 1024) : at2 (X2 m c) i j = (GW m c i j : EReal) := by
  have e := at2_eq (X2 m c) (ix2 (⟨i, hi⟩ : Fin 16) (⟨j, hj⟩ : Fin 1024)) (i := i) (j := j) rfl rfl
  exact e.symm.trans (coe_at2 (X2 m c) hr.2.2.1 _)
theorem at3_coe {j : ℕ} (hj : j < 1024) : at1 (X3 m c) j = (GB m c j : EReal) := by
  have e := at1_eq (X3 m c) (ix1 (⟨j, hj⟩ : Fin 1024)) (i := j) rfl
  exact e.symm.trans (coe_at1 (X3 m c) hr.2.2.2.1 _)
theorem at4_coe {j : ℕ} (hj : j < 512) : at1 (X4 m c) j = (NW m c j : EReal) := by
  have e := at1_eq (X4 m c) (ix1 (⟨j, hj⟩ : Fin 512)) (i := j) rfl
  exact e.symm.trans (coe_at1 (X4 m c) hr.2.2.2.2 _)

/-- The blocks of a point hold the inputs' reals. -/
theorem is0 : Is (iblk m c 0 t : FVec Ideal S256x1024 .f32) (fun r j => Qp (Pr m c) (256 * t.val + r) j) := fun r j => by
  have ht : t.val < 32 := lt_of_lt_of_eq t.isLt N_0
  exact (blk0 m c t (ix2 r j)).trans (at0_coe hr (by show 256 * t.val + r.val < 8192; omega) (by show j.val < 6144; omega))
theorem is1 : Is (iblk m c 1 t : FVec Ideal S256x1024 .f32) (fun r j => Kp (Pr m c) (256 * t.val + r) j) := fun r j => by
  have ht : t.val < 32 := lt_of_lt_of_eq t.isLt N_0
  exact (blk1 m c t (ix2 r j)).trans (at0_coe hr (by show 256 * t.val + r.val < 8192; omega) (by show 1024 + j.val < 6144; omega))
theorem is2 : Is (iblk m c 2 t : FVec Ideal S256x2048 .f32) (fun r j => Vp (Pr m c) (256 * t.val + r) j) := fun r j => by
  have ht : t.val < 32 := lt_of_lt_of_eq t.isLt N_0
  exact (blk2 m c t (ix2 r j)).trans (at0_coe hr (by show 256 * t.val + r.val < 8192; omega) (by show 2048 + j.val < 6144; omega))
theorem is3 : Is (iblk m c 3 t : FVec Ideal S256x2048 .f32) (fun r j => Gp (Pr m c) (256 * t.val + r) j) := fun r j => by
  have ht : t.val < 32 := lt_of_lt_of_eq t.isLt N_0
  exact (blk3 m c t (ix2 r j)).trans (at0_coe hr (by show 256 * t.val + r.val < 8192; omega) (by show 4096 + j.val < 6144; omega))
theorem is4 : Is (iblk m c 4 t : FVec Ideal S256x128 .f32) (fun r j => PG m c (256 * t.val + r) j) := fun r j => by
  have ht : t.val < 32 := lt_of_lt_of_eq t.isLt N_0
  exact (blk4 m c t (ix2 r j)).trans (at1_coe hr (by show 256 * t.val + r.val < 8192; omega) (by show j.val < 128; omega))
theorem is5 : Is (iblk m c 5 t : FVec Ideal S128x1024 .f32) (GWz m c) := fun r j => by
  refine (blk5 m c t (ix2 r j)).trans ?_
  show (if r.val < 112 then (0 : EReal) else at2 (X2 m c) (r.val - 112) j.val) = _
  unfold GWz
  by_cases h : r.val < 112
  · rw [if_pos h, if_pos h]; rfl
  · rw [if_neg h, if_neg h]
    exact at2_coe hr (by omega) j.isLt
theorem is6 (j : Fin 1024) : (iblk m c 6 t : FVec Ideal S8x1024 .f32) (ix2 0 j) = (GB m c j.val : EReal) :=
  (blk6 m c t (ix2 0 j) rfl).trans (at3_coe hr j.isLt)
theorem is7 (j : Fin 512) : (iblk m c 7 t : FVec Ideal S8x512 .f32) (ix2 0 j) = (NW m c j.val : EReal) :=
  (blk7 m c t (ix2 0 j) rfl).trans (at4_coe hr j.isLt)
end

variable (m)

/-- What the call leaves at a token and a channel. -/
def val (c : Dev nD) (t n : ℕ) : EReal :=
  entry (stepR (PG m c) (GW m c) (GB m c)) (Qp (Pr m c)) (Kp (Pr m c)) (Vp (Pr m c)) (Gp (Pr m c)) (NW m c) t n

/-- A head's state after the first `n` tokens. -/
def held (c : Dev nD) (h n i j : ℕ) : ℝ :=
  cell (stepR (PG m c) (GW m c) (GB m c)) (Kp (Pr m c)) (Vp (Pr m c)) (256 * h) (512 * h) n i j

variable {m}

/-- After the first point. -/
theorem outs_first {c : Dev nD} (hr : Real5 m c) (t : Fin cfg0.N) (ht : t.val = 0) :
    (∀ (h : Fin 4) (i : Fin 512) (j : Fin 256), (outsAt0 m c t.val t.isLt).2 (ix3 h i j) = (held m c h.val (256 * t.val + 256) i.val j.val : EReal))
    ∧ ∀ y : S256x2048.Idx, (outsAt0 m c t.val t.isLt).1 y = val m c (256 * t.val + (y 0).val) (y 1).val := by
  have h0 : t.val % 32 = 0 := by omega
  have e := outsAt0_A m c t h0
  have hz : 256 * t.val = 0 := by omega
  have i0 := is0 hr t; have i1 := is1 hr t; have i2 := is2 hr t; have i3 := is3 hr t; have i4 := is4 hr t
  rw [hz] at i0 i1 i2 i3 i4
  have key := pointA (q := Qp (Pr m c)) (k := Kp (Pr m c)) (v := Vp (Pr m c)) (g := Gp (Pr m c)) (pg := PG m c) (gw := GWz m c) (gb := GB m c) (nw := NW m c)
    c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0)
    (iblk m c 0 t) (iblk m c 1 t) (iblk m c 2 t) (iblk m c 3 t) (iblk m c 4 t) (iblk m c 5 t) (iblk m c 6 t) (iblk m c 7 t) i0 i1 i2 i3 i4 (is5 hr t) (is6 hr t) (is7 hr t)
  unfold held val
  rw [← step_eq, hz]
  rw [e]
  dsimp only
  refine ⟨fun h i j => ?_, fun y => ?_⟩
  · rw [key.1 h i j]
  · rw [key.2 y]

/-- After a later point, over what the point before left. -/
theorem outs_next {c : Dev nD} (hr : Real5 m c) (t : Fin cfg0.N) (ht : t.val ≠ 0)
    (hs : ∀ (h : Fin 4) (i : Fin 512) (j : Fin 256), (outsAt0 m c (t.val - 1) (Nat.lt_of_le_of_lt (Nat.sub_le _ _) t.isLt)).2 (ix3 h i j) = (held m c h.val (256 * t.val) i.val j.val : EReal)) :
    (∀ (h : Fin 4) (i : Fin 512) (j : Fin 256), (outsAt0 m c t.val t.isLt).2 (ix3 h i j) = (held m c h.val (256 * t.val + 256) i.val j.val : EReal))
    ∧ ∀ y : S256x2048.Idx, (outsAt0 m c t.val t.isLt).1 y = val m c (256 * t.val + (y 0).val) (y 1).val := by
  have hN : t.val < 32 := lt_of_lt_of_eq t.isLt N_0
  have h0 : ¬ t.val % 32 = 0 := by omega
  have e := outsAt0_B m c t h0
  unfold held at hs ⊢
  unfold val
  rw [← step_eq] at hs ⊢
  have key := pointB (q := Qp (Pr m c)) (k := Kp (Pr m c)) (v := Vp (Pr m c)) (g := Gp (Pr m c)) (pg := PG m c) (gw := GWz m c) (gb := GB m c) (nw := NW m c) (b := 256 * t.val)
    c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h))
    (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2
    (by omega) (by omega) (is0 hr t) (is1 hr t) (is2 hr t) (is3 hr t) (is4 hr t) (is5 hr t) (is6 hr t) (is7 hr t) hs
  rw [e]
  dsimp only
  refine ⟨fun h i j => ?_, fun y => ?_⟩
  · rw [key.1 h i j]
  · rw [key.2 y]

/-- After a point: the heads' states over the tokens so far, and the point's rows of the output. -/
theorem outs {c : Dev nD} (hr : Real5 m c) : ∀ (n : ℕ) (hn : n < cfg0.N),
    (∀ (h : Fin 4) (i : Fin 512) (j : Fin 256), (outsAt0 m c n hn).2 (ix3 h i j) = (held m c h.val (256 * n + 256) i.val j.val : EReal))
    ∧ ∀ y : S256x2048.Idx, (outsAt0 m c n hn).1 y = val m c (256 * n + (y 0).val) (y 1).val
  | 0, hn => outs_first hr ⟨0, hn⟩ rfl
  | n + 1, hn => outs_next hr ⟨n + 1, hn⟩ (Nat.succ_ne_zero n) fun h i j =>
    ((outs hr n (Nat.lt_of_succ_lt hn)).1 h i j).trans (by rw [show 256 * (⟨n + 1, hn⟩ : Fin cfg0.N).val = 256 * n + 256 from Nat.mul_succ 256 n])

/-- The array the call leaves. -/
theorem left {c : Dev nD} (hr : Real5 m c) (i : S8192x2048.Idx) : G8 m c i = val m c (i 0).val (i 1).val := by
  have h0 : (i 0).val < 8192 := (i 0).isLt
  have h1 : (i 1).val < 2048 := (i 1).isLt
  have hp : pt8Of i = (i 0).val / 256 := by show 1 * ((i 0).val / 256 - 0) + 1 * ((i 1).val / 2048 - 0) = _; omega
  have h : pt8Of i < cfg0.N := by rw [hp, show cfg0.N = 32 from N_0]; omega
  unfold G8
  rw [dif_pos h, ← outsAt0_sweep m c (pt8Of i) h]
  refine ((outs hr (pt8Of i) h).2 (loc8Of i)).trans ?_
  have e0 : 256 * pt8Of i + (loc8Of i 0).val = (i 0).val := by rw [hp]; show 256 * ((i 0).val / 256) + (i 0).val % 256 = _; omega
  have e1 : (loc8Of i 1).val = (i 1).val := by show (i 1).val % 2048 = _; omega
  rw [e0, e1]

end Cert.KernelAttnIdeal.Val

namespace Cert.Val

open Cert.KernelAttnIdeal Cert.KernelAttnIdeal.Val

/-- An odd layer's gated linear attention, with its norm and its gate. -/
theorem attn : Cert.algebraic_KernelAttnIdeal_ReferenceAttnIdeal_pre_finite (hPre_finite := Cert.AttnPre.facts) := by
  intro m g m' g' hp hag
  have hr : ∀ c, Real5 m c := fun c => @Cert.AttnPre.reals Cert.AttnPre.facts _ _ _ _ _ (hp c)
  refine ⟨fun c => KernelAttnIdeal.Value.G8 m c, KernelAttnIdeal.Value.run (F := Ideal) m g, ?_⟩
  refine (θ_run Cert.ReferenceAttnIdeal.defs _ _).mono (fun r h c => ⟨(h c).1.trans ?_, (h c).2⟩) (ReferenceAttnIdeal.Value.run (F := Ideal) m' g')
  refine (ReferenceAttnIdeal.Read.val_main_v61_eq (F := Ideal) _ _).trans ?_
  rw [(hag c).1, (hag c).2.1, (hag c).2.2.1, (hag c).2.2.2.1, (hag c).2.2.2.2]
  funext i
  refine (v61_at (P := Pr m c) (PG := PG m c) (GW := GW m c) (GB := GB m c) (NW := NW m c) (fun i => coe_at2 _ (hr c).2.1 i) (fun i => coe_at2 _ (hr c).2.2.1 i)
    (fun i => coe_at1 _ (hr c).2.2.2.1 i) (fun i => coe_at2 _ (hr c).1 i) (fun i => coe_at1 _ (hr c).2.2.2.2 i) i).trans ?_
  exact (left (hr c) i).symm

end Cert.Val

end
-- ==== Proof.SsdReal.lean ====
/-
  The state space duality over the reals: the convolution, the gates, and a block's two parts against the whole sum.
-/
module

public import proofs.«01_k».proof.Proof.AttnReal

@[expose] public section

noncomputable section

open scoped BigOperators
open Finset

namespace Cert.SsdReal

open Cert.AttnReal

/-- A number times its logistic function. -/
def act (g : ℝ) : ℝ := g * (1 + Real.exp (-g))⁻¹

/-- The softplus, with the exponential's argument kept from growing. -/
theorem softplus (z : ℝ) : max z 0 + Real.log (1 + Real.exp (-|z|)) = Real.log (1 + Real.exp z) := by
  rcases le_total 0 z with h | h
  · rw [max_eq_left h, abs_of_nonneg h]
    have h1 : (1 + Real.exp z) = Real.exp z * (1 + Real.exp (-z)) := by
      rw [mul_add, mul_one, ← Real.exp_add, add_neg_cancel, Real.exp_zero, add_comm]
    rw [h1, Real.log_mul (Real.exp_pos _).ne' (by positivity), Real.log_exp]
  · rw [max_eq_right h, abs_of_nonpos h, neg_neg, zero_add]

/-- Channel `c` of the token `k` before `t`. -/
def tap (P : ℕ → ℕ → ℝ) (t k c : ℕ) : ℝ := if k ≤ t then P (t - k) c else 0

/-- The convolution: rows 0 to 3 of `W` weigh the tokens from three back on, row 4 is the bias. -/
def conv (P W : ℕ → ℕ → ℝ) (t c : ℕ) : ℝ :=
  W 4 c + tap P t 0 (2048 + c) * W 3 c + tap P t 1 (2048 + c) * W 2 c + tap P t 2 (2048 + c) * W 1 c + tap P t 3 (2048 + c) * W 0 c

def U (P W : ℕ → ℕ → ℝ) (t c : ℕ) : ℝ := act (conv P W t c)

/-- A block's rows with the eight before them. -/
def buf (P : ℕ → ℕ → ℝ) (o b r j : ℕ) : ℝ := if b + r < 8 then 0 else P (b + r - 8) (o + j)

theorem buf_tap (P : ℕ → ℕ → ℝ) (o b r j k : ℕ) (hk : k ≤ 8) : buf P o b (8 + r - k) j = tap P (b + r) k (o + j) := by
  unfold buf tap
  by_cases h : k ≤ b + r
  · rw [if_pos h, if_neg (by omega), show b + (8 + r - k) - 8 = b + r - k by omega]
  · rw [if_neg h, if_pos (by omega)]

/-- The steps, by token and lane, and the log decays, by lane and token. -/
def dts (Q H : ℕ → ℕ → ℝ) (t l : ℕ) : ℝ := Real.log (1 + Real.exp (Q t (384 + l) + H 0 l))
def sts (Q H : ℕ → ℕ → ℝ) (l t : ℕ) : ℝ := dts Q H t l * -Real.exp (H 1 l)

variable (u dt st : ℕ → ℕ → ℝ)

/-- The log decay from a block's start through its row `r`. -/
def cum (b r l : ℕ) : ℝ := run (st l) (b + r + 1) - run (st l) b

/-- A block's masked sum of log decays is the running sum. -/
theorem cum_eq (b r l : ℕ) (hr : r < 128) : ∑ s : Fin 128, (if s.val ≤ r then (1 : ℝ) else 0) * st l (b + s.val) = cum st b r l := by
  unfold cum run
  rw [Nat.add_assoc, ← run_shift, Fin.sum_univ_eq_sum_range (fun s => (if s ≤ r then (1 : ℝ) else 0) * st l (b + s)) 128,
    show (128 : ℕ) = (r + 1) + (128 - (r + 1)) by omega, Finset.sum_range_add]
  rw [Finset.sum_eq_zero (s := range (128 - (r + 1))) fun s _ => by rw [if_neg (by omega), zero_mul], add_zero]
  exact Finset.sum_congr rfl fun s hs => by rw [if_pos (by have := Finset.mem_range.mp hs; omega), one_mul]

/-- A column's input times its step. -/
def xc (t c : ℕ) : ℝ := u t c * dt t (96 + c / 64)

/-- Two tokens' score in a group. -/
def sc (t s g : ℕ) : ℝ := ∑ n : Fin 128, u t (2560 + (128 * g + n.val)) * u s (2048 + (128 * g + n.val))

/-- What a block's row takes of its own block. -/
def near (b r c : ℕ) : ℝ :=
  ∑ s : Fin 128, (if s.val ≤ r then sc u (b + r) (b + s.val) (c / 512) * Real.exp (cum st b r (96 + c / 64) - cum st b s.val (96 + c / 64)) else 0) * xc u dt (b + s.val) c

/-- The state before token `n`. -/
def cell (n m c : ℕ) : ℝ := state (run (st (96 + c / 64))) (fun s => u s (2048 + (128 * (c / 512) + m))) (fun s => xc u dt s c) n

/-- What a block's row takes of the state before the block, but for its decay. -/
def far (b r c : ℕ) : ℝ := ∑ n : Fin 128, u (b + r) (2560 + (128 * (c / 512) + n.val)) * cell u dt st b n.val c

/-- The whole sum of a token's column. -/
def full (t c : ℕ) : ℝ :=
  (∑ s : Fin 8192, (u s.val c * (dt s.val (96 + c / 64) * Real.exp (-run (st (96 + c / 64)) (s.val + 1)))) * (if s.val ≤ t then sc u t s.val (c / 512) else 0))
    * Real.exp (run (st (96 + c / 64)) (t + 1))

/-- A block's update of the state. -/
theorem cell_step (b m c : ℕ) :
    cell u dt st b m c * Real.exp (cum st b 127 (96 + c / 64))
      + ∑ r : Fin 128, u (b + r.val) (2048 + (128 * (c / 512) + m)) * (xc u dt (b + r.val) c * Real.exp (cum st b 127 (96 + c / 64) - cum st b r.val (96 + c / 64)))
      = cell u dt st (b + 128) m c := by
  unfold cell state cum
  rw [Fin.sum_univ_eq_sum_range (fun r => u (b + r) (2048 + (128 * (c / 512) + m)) * (xc u dt (b + r) c * Real.exp (run (st (96 + c / 64)) (b + 127 + 1) - run (st (96 + c / 64)) b
      - (run (st (96 + c / 64)) (b + r + 1) - run (st (96 + c / 64)) b)))) 128, Finset.sum_range_add, mul_add]
  refine congrArg₂ (· + ·) ?_ ?_
  · rw [mul_right_comm, ← Real.exp_add]
    congr 2
    ring_nf
  · rw [Finset.mul_sum]
    refine Finset.sum_congr rfl fun r _ => ?_
    rw [show run (st (96 + c / 64)) (b + 127 + 1) - run (st (96 + c / 64)) b - (run (st (96 + c / 64)) (b + r + 1) - run (st (96 + c / 64)) b)
      = run (st (96 + c / 64)) (b + 128) + -run (st (96 + c / 64)) (b + r + 1) by ring, Real.exp_add]
    ring

/-- A block's own part and the state's part are the whole sum. -/
theorem near_far (b r c : ℕ) (hr : r < 128) (hb : b + 128 ≤ 8192) :
    near u dt st b r c + far u dt st b r c * Real.exp (cum st b r (96 + c / 64)) = full u dt st (b + r) c := by
  have hn : near u dt st b r c = Real.exp (run (st (96 + c / 64)) (b + r + 1)) * ∑ s ∈ range 128,
      (u (b + s) c * (dt (b + s) (96 + c / 64) * Real.exp (-run (st (96 + c / 64)) (b + s + 1)))) * (if b + s ≤ b + r then sc u (b + r) (b + s) (c / 512) else 0) := by
    unfold near
    rw [Fin.sum_univ_eq_sum_range (fun s => (if s ≤ r then sc u (b + r) (b + s) (c / 512) * Real.exp (cum st b r (96 + c / 64) - cum st b s (96 + c / 64)) else 0) * xc u dt (b + s) c) 128, Finset.mul_sum]
    refine Finset.sum_congr rfl fun s _ => ?_
    by_cases h : s ≤ r
    · rw [if_pos h, if_pos (by omega)]
      unfold cum xc
      rw [show run (st (96 + c / 64)) (b + r + 1) - run (st (96 + c / 64)) b - (run (st (96 + c / 64)) (b + s + 1) - run (st (96 + c / 64)) b)
        = run (st (96 + c / 64)) (b + r + 1) + -run (st (96 + c / 64)) (b + s + 1) by ring, Real.exp_add]
      ring
    · rw [if_neg h, if_neg (by omega), zero_mul, mul_zero, mul_zero]
  have hf : far u dt st b r c * Real.exp (cum st b r (96 + c / 64)) = Real.exp (run (st (96 + c / 64)) (b + r + 1)) * ∑ s ∈ range b,
      (u s c * (dt s (96 + c / 64) * Real.exp (-run (st (96 + c / 64)) (s + 1)))) * (if s ≤ b + r then sc u (b + r) s (c / 512) else 0) := by
    unfold far cell state cum xc
    have hE : Real.exp (run (st (96 + c / 64)) (b + r + 1)) = Real.exp (run (st (96 + c / 64)) b) * Real.exp (run (st (96 + c / 64)) (b + r + 1) - run (st (96 + c / 64)) b) := by
      rw [← Real.exp_add]; ring_nf
    rw [hE]
    have hs : ∀ s ∈ range b, (u s c * (dt s (96 + c / 64) * Real.exp (-run (st (96 + c / 64)) (s + 1)))) * (if s ≤ b + r then sc u (b + r) s (c / 512) else 0)
        = ∑ n : Fin 128, u (b + r) (2560 + (128 * (c / 512) + n.val)) * (u s (2048 + (128 * (c / 512) + n.val)) * (u s c * dt s (96 + c / 64) * Real.exp (-run (st (96 + c / 64)) (s + 1)))) := by
      intro s hs
      rw [if_pos (by have := Finset.mem_range.mp hs; omega)]
      unfold sc
      rw [Finset.mul_sum]
      exact Finset.sum_congr rfl fun n _ => by ring
    rw [Finset.sum_congr rfl hs, Finset.sum_comm, Finset.mul_sum, Finset.sum_mul]
    refine Finset.sum_congr rfl fun n _ => ?_
    rw [← Finset.mul_sum]
    ring
  rw [hn, hf, ← mul_add]
  unfold full
  rw [mul_comm]
  refine congrArg (· * _) ?_
  rw [Fin.sum_univ_eq_sum_range (fun s => (u s c * (dt s (96 + c / 64) * Real.exp (-run (st (96 + c / 64)) (s + 1)))) * (if s ≤ b + r then sc u (b + r) s (c / 512) else 0)) 8192,
    show (8192 : ℕ) = b + (128 + (8192 - (b + 128))) by omega, Finset.sum_range_add, Finset.sum_range_add]
  rw [Finset.sum_eq_zero (s := range (8192 - (b + 128))) fun s _ => by rw [if_neg (by omega), mul_zero], add_zero, add_comm]

end Cert.SsdReal

end
-- ==== Proof.SsdPay.lean ====
/-
  The values one block of 128 rows of the state space duality makes, as real numbers.
-/
module

public import proofs.«01_k».proof.Proof.AttnGate
public import proofs.«01_k».proof.Proof.SsdReal
public import proofs.«01_k».proof.Proof.Gen.KernelSsdIdeal.Value
import Idealize.ShloMosaic.Lib.Pointwise.Reduce

@[expose] public section

noncomputable section

open scoped BigOperators

namespace Cert.SsdPay

open Idealize.ShloMosaic hiding ix1 ix2 ix3
open Idealize.ShloMosaic.ValueIdx Cert.Lin Cert.AttnReal Cert.AttnOps Cert.AttnPay Cert.SsdReal Cert.KernelSsdIdeal Cert.KernelSsdIdeal.Gen

section

variable {w : ℕ}

/-- The rows from the eighth on, of a buffer rotated by `k` rows. -/
theorem is_rot {X : (⟨2, ![136, w]⟩ : Shape).Idx → EReal} {f : ℕ → ℕ → ℝ} (h : Is X f) (k : ℕ) (sb : BitVec 32) (hk : k ≤ 8) (e : sb.toNat = k)
    (hr : (⟨2, ![136, w]⟩ : Shape).Rotates 0 none) (hs : (⟨2, ![136, w]⟩ : Shape).Slices ![8, 0] ⟨2, ![128, w]⟩) :
    Is (extractStridedSlice ⟨2, ![128, w]⟩ ![8, 0] (dynamicRotate 0 sb none X hr) hs) (fun r j => f (8 + r - k) j) := by
  have hR : Is (dynamicRotate 0 sb none X hr) (fun r j => f ((r + 136 - k) % 136) j) := fun r j =>
    (dynamicRotate_apply 0 sb X hr (ix2 r j) (ix2 ⟨(r.val + 136 - k) % 136, Nat.mod_lt _ (by decide)⟩ j) (fun b => match b with
      | ⟨0, _⟩ => by
        show (r.val + 136 - k) % 136 = if (0 : Fin 2) = 0 then (r.val + 136 - sb.toNat % 136) % 136 else _
        rw [if_pos rfl, e, Nat.mod_eq_of_lt (by omega : k < 136)]
      | ⟨1, _⟩ => rfl)).trans (h _ _)
  refine (is_slice hR 8 0 hs).congr fun r j hr _ => ?_
  rw [show (8 + r + 136 - k) % 136 = 8 + r - k by omega, zero_add]

/-- A block times its logistic function. -/
theorem is_silu {a : ℕ} {X : FVec Ideal ⟨2, ![a, w]⟩ .f32} {f : ℕ → ℕ → ℝ} (h : Is X f) :
    Is (mulf X (addf (mulf (broadcast ⟨2, ![a, w]⟩ (Scalar.ofBits (F := Ideal) .f32 0x3F000000#32)) (tanh (mulf (broadcast ⟨2, ![a, w]⟩ (Scalar.ofBits (F := Ideal) .f32 0x3F000000#32)) X)))
      (broadcast ⟨2, ![a, w]⟩ (Scalar.ofBits (F := Ideal) .f32 0x3F000000#32)))) (fun r j => act (f r j)) := fun r j => by
  show X (ix2 r j) * (Ideal.ofBits .f32 0x3F000000#32 * Ideal.tanh (Ideal.ofBits .f32 0x3F000000#32 * X (ix2 r j)) + Ideal.ofBits .f32 0x3F000000#32) = _
  rw [h, Cert.AttnGate.gate_eq]
  rfl

variable {P W : ℕ → ℕ → ℝ} {o b : ℕ} {X : FVec Ideal ⟨2, ![136, w]⟩ .f32} {w0 w1 w2 w3 w4 : FVec Ideal ⟨2, ![1, w]⟩ .f32}

/-- The convolution of a block's rows. -/
theorem is_conv (hX : Is X (buf P (2048 + o) b)) (h4 : Is w4 (fun r j => W (4 + r) (o + j))) (h3 : Is w3 (fun r j => W (3 + r) (o + j)))
    (h2 : Is w2 (fun r j => W (2 + r) (o + j))) (h1 : Is w1 (fun r j => W (1 + r) (o + j))) (h0 : Is w0 (fun r j => W (0 + r) (o + j)))
    (hr : (⟨2, ![136, w]⟩ : Shape).Rotates 0 none) (hs : (⟨2, ![136, w]⟩ : Shape).Slices ![8, 0] ⟨2, ![128, w]⟩) (hb : (⟨2, ![1, w]⟩ : Shape).Broadcasts ⟨2, ![128, w]⟩) :
    Is (addf (addf (addf (addf (broadcastTo ⟨2, ![128, w]⟩ w4 hb) (mulf (extractStridedSlice ⟨2, ![128, w]⟩ ![8, 0] X hs) (broadcastTo ⟨2, ![128, w]⟩ w3 hb)))
      (mulf (extractStridedSlice ⟨2, ![128, w]⟩ ![8, 0] (dynamicRotate 0 1#32 none X hr) hs) (broadcastTo ⟨2, ![128, w]⟩ w2 hb)))
      (mulf (extractStridedSlice ⟨2, ![128, w]⟩ ![8, 0] (dynamicRotate 0 2#32 none X hr) hs) (broadcastTo ⟨2, ![128, w]⟩ w1 hb)))
      (mulf (extractStridedSlice ⟨2, ![128, w]⟩ ![8, 0] (dynamicRotate 0 3#32 none X hr) hs) (broadcastTo ⟨2, ![128, w]⟩ w0 hb)))
      (fun r j => conv P W (b + r) (o + j)) :=
  (is_add (is_add (is_add (is_add (is_row h4 hb) (is_mul (is_slice hX 8 0 hs) (is_row h3 hb)))
    (is_mul (is_rot hX 1 1#32 (by decide) rfl hr hs) (is_row h2 hb)))
    (is_mul (is_rot hX 2 2#32 (by decide) rfl hr hs) (is_row h1 hb)))
    (is_mul (is_rot hX 3 3#32 (by decide) rfl hr hs) (is_row h0 hb))).congr fun r j _ _ => by
    have e := buf_tap P (2048 + o) b r j 0 (by decide)
    rw [Nat.sub_zero] at e
    rw [zero_add, e, buf_tap P _ b r j 1 (by decide), buf_tap P _ b r j 2 (by decide), buf_tap P _ b r j 3 (by decide), Nat.add_assoc 2048 o j]
    rfl

end

variable {P W : ℕ → ℕ → ℝ} {b : ℕ}

/-- The convolved and gated inputs. -/
theorem is_x {X : Vec Ideal S136x2048 .f32} {w0 w1 w2 w3 w4 : Vec Ideal S1x2048 .f32} (hX : Is X (buf P 2048 b)) (h4 : Is w4 (fun r j => W (4 + r) (0 + j)))
    (h3 : Is w3 (fun r j => W (3 + r) (0 + j))) (h2 : Is w2 (fun r j => W (2 + r) (0 + j))) (h1 : Is w1 (fun r j => W (1 + r) (0 + j))) (h0 : Is w0 (fun r j => W (0 + r) (0 + j))) :
    Is (k0_pay7 X (k0_pay5 X w4 w3 w2) (k0_pay6 X) w1 w0) (fun r j => U P W (b + r) j) := by
  unfold k0_pay7 k0_pay5 k0_pay6
  simp only [Idealize.ShloMosaic.shapeCast_self]
  exact (is_silu (is_conv (o := 0) hX h4 h3 h2 h1 h0 rotates_S136x2048_d0 slices_S136x2048_o8_0_S128x2048 broadcasts_S1x2048_S128x2048)).congr fun r j _ _ => by rw [zero_add]; rfl

theorem is_b {X : Vec Ideal S136x512 .f32} {w0 w1 w2 w3 w4 : Vec Ideal S1x512 .f32} (hX : Is X (buf P 4096 b)) (h4 : Is w4 (fun r j => W (4 + r) (2048 + j)))
    (h3 : Is w3 (fun r j => W (3 + r) (2048 + j))) (h2 : Is w2 (fun r j => W (2 + r) (2048 + j))) (h1 : Is w1 (fun r j => W (1 + r) (2048 + j))) (h0 : Is w0 (fun r j => W (0 + r) (2048 + j))) :
    Is (k0_pay12 X (k0_pay10 w4) (k0_pay11 X w3) w2 w1 w0) (fun r j => U P W (b + r) (2048 + j)) := by
  unfold k0_pay12 k0_pay11 k0_pay10
  simp only [Idealize.ShloMosaic.shapeCast_self]
  exact is_silu (is_conv (o := 2048) hX h4 h3 h2 h1 h0 rotates_S136x512_d0 slices_S136x512_o8_0_S128x512 broadcasts_S1x512_S128x512)

theorem is_c {X : Vec Ideal S136x512 .f32} {w0 w1 w2 w3 w4 : Vec Ideal S1x512 .f32} (hX : Is X (buf P 4608 b)) (h4 : Is w4 (fun r j => W (4 + r) (2560 + j)))
    (h3 : Is w3 (fun r j => W (3 + r) (2560 + j))) (h2 : Is w2 (fun r j => W (2 + r) (2560 + j))) (h1 : Is w1 (fun r j => W (1 + r) (2560 + j))) (h0 : Is w0 (fun r j => W (0 + r) (2560 + j))) :
    Is (k0_pay18 (k0_pay15 X w4 w3 w2 w1 w0) (k0_pay16 X w4 w3 w2 w1 w0) k0_pay17) (fun r j => U P W (b + r) (2560 + j)) := by
  unfold k0_pay18 k0_pay16 k0_pay15
  simp only [Idealize.ShloMosaic.shapeCast_self]
  exact is_silu (is_conv (o := 2560) hX h4 h3 h2 h1 h0 rotates_S136x512_d0 slices_S136x512_o8_0_S128x512 broadcasts_S1x512_S128x512)

/-- The first rows of a block's buffer: nothing at the first block, the last rows of the block before it otherwise. -/
theorem is_halo {a w o : ℕ} {v : BitVec 1} {X : FVec Ideal ⟨2, ![a, w]⟩ .f32} (hv : v = if b = 0 then 1#1 else 0#1) (hb : b = 0 ∨ 8 ≤ b) (ha : a ≤ 8)
    (h : Is X (fun r j => P (b - 8 + r) (o + j))) :
    Is (Scalar.select v (broadcast ⟨2, ![a, w]⟩ (Scalar.ofBits (F := Ideal) .f32 0x00000000#32)) X) (fun r j => buf P o b (0 + r) j) := fun r j => by
  have hr := r.isLt
  show _ = ((buf P o b (0 + r.val) j.val : ℝ) : EReal)
  unfold buf
  by_cases h0 : b = 0
  · rw [if_pos h0] at hv
    rw [hv, if_pos (by omega)]
    exact zero_f32
  · rw [if_neg h0] at hv
    rw [hv, if_neg (by omega), show b + (0 + r.val) - 8 = b - 8 + r.val by omega]
    exact h r j

/-- The steps. -/
theorem is_dt {x : Vec Ideal S128x128 .f32} {d : Vec Ideal S1x128 .f32} {Q H : ℕ → ℕ → ℝ} (hx : Is x (fun r l => Q (b + r) (384 + l))) (hd : Is d (fun r l => H (0 + r) (0 + l))) :
    Is (k0_pay19 x d) (fun r l => dts Q H (b + r) l) := fun r j => by
  have hz := is_add hx (is_row hd broadcasts_S1x128_S128x128) r j
  simp only [zero_add] at hz
  set z : ℝ := Q (b + r.val) (384 + j.val) + H 0 j.val with hzd
  have e : k0_pay19 x d (ix2 r j) = max ((z : ℝ) : EReal) (Ideal.ofBits .f32 0x00000000#32)
      + Ideal.log (Ideal.ofBits .f32 0x3F800000#32 + Ideal.exp (Ideal.ofBits .f32 0x00000000#32 - max ((z : ℝ) : EReal) (-((z : ℝ) : EReal)))) := by
    rw [← hz]
    unfold k0_pay19
    rw [Idealize.ShloMosaic.shapeCast_self]
    rfl
  rw [e, zero_f32, one_f32, ← EReal.coe_neg, ← EReal.coe_strictMono.monotone.map_max, ← EReal.coe_strictMono.monotone.map_max, ← EReal.coe_sub, Ideal.exp_coe, ← EReal.coe_add,
    Ideal.log_coe, if_neg (not_le.mpr (by positivity)), ← EReal.coe_add]
  have := softplus z
  rw [zero_sub, show max z (-z) = |z| from rfl, this]
  rfl

/-- The log decays. -/
theorem is_st {x : Vec Ideal S128x128 .f32} {d a : Vec Ideal S1x128 .f32} {Q H : ℕ → ℕ → ℝ} (hx : Is x (fun r l => Q (b + r) (384 + l))) (hd : Is d (fun r l => H (0 + r) (0 + l)))
    (ha : Is a (fun r l => H (1 + r) (0 + l))) : Is (k0_pay20 x d a) (fun r l => sts Q H l (b + r)) := by
  have hn : Is (subf (broadcast S1x128 (Scalar.ofBits (F := Ideal) .f32 0x00000000#32)) (exp a)) (fun r l => -Real.exp (H (1 + r) (0 + l))) := fun r l => by
    show Ideal.ofBits .f32 0x00000000#32 - Ideal.exp (a (ix2 r l)) = _
    rw [ha, zero_f32, Ideal.exp_coe, ← EReal.coe_sub, zero_sub]
  unfold k0_pay20
  rw [Idealize.ShloMosaic.shapeCast_self]
  exact (is_mul (is_dt hx hd) (is_row hn broadcasts_S1x128_S128x128)).congr fun r l _ _ => by rw [zero_add]; rfl

/-- The block's mask as numbers. -/
theorem is_mask : Is (k0_pay21 (F := Ideal)) (fun r s => if s ≤ r then (1 : ℝ) else 0) := fun r s => by
  have hr := r.isLt
  have hs := s.isLt
  have hsh : ∀ n, n < 128 → IntOp.shrui .vector (BitVec.ofNat 32 n) 7#32 = 0#32 := fun n hn => by
    unfold IntOp.shrui
    rw [if_pos (by decide)]
    apply BitVec.eq_of_toNat_eq
    simp only [BitVec.ushiftRight_eq', BitVec.toNat_ushiftRight, BitVec.toNat_ofNat, Nat.shiftRight_eq_div_pow]
    norm_num
    omega
  have e : k0_pay21 (F := Ideal) (ix2 r s) = Scalar.select (IntOp.andi (IntOp.cmpi .eq (IntOp.shrui .vector (BitVec.ofNat 32 r.val) 7#32) (IntOp.shrui .vector (BitVec.ofNat 32 s.val) 7#32))
      (IntOp.cmpi .sle (BitVec.ofNat 32 s.val) (BitVec.ofNat 32 r.val))) (Ideal.ofBits .f32 0x3F800000#32) (Ideal.ofBits .f32 0x00000000#32) := by
    unfold k0_pay21
    show Scalar.select (IntOp.andi (IntOp.cmpi .eq (IntOp.shrui .vector (iota .tc S128x128 32 [0] iota_S128x128_d0_w32 (ix2 r s)) 7#32) (IntOp.shrui .vector (iota .tc S128x128 32 [1] iota_S128x128_d1_w32 (ix2 r s)) 7#32))
      (IntOp.cmpi .sle (iota .tc S128x128 32 [1] iota_S128x128_d1_w32 (ix2 r s)) (iota .tc S128x128 32 [0] iota_S128x128_d0_w32 (ix2 r s)))) _ _ = _
    rw [iota_single_apply, iota_single_apply]
    rfl
  rw [e, hsh _ hr, hsh _ hs, one_f32, zero_f32]
  show _ = ((if s.val ≤ r.val then (1 : ℝ) else 0 : ℝ) : EReal)
  by_cases h : s.val ≤ r.val
  · rw [if_pos h, (WordCmp.cmpi_sle_ofNat_eq_one_iff (by omega) (by omega)).2 h]; rfl
  · rw [if_neg h, (WordCmp.cmpi_sle_ofNat_eq_zero_iff (by omega) (by omega)).2 (by omega)]; rfl

/-- The running log decays of a block. -/
theorem is_cum {x : Vec Ideal S128x128 .f32} {d a : Vec Ideal S1x128 .f32} {st : ℕ → ℕ → ℝ} (h : Is (k0_pay20 x d a) (fun r l => st l (b + r))) :
    Is (k0_pay25 (k0_pay23 x d a) (k0_pay24 x d a)) (fun r l => cum st b r l) := by
  have h0 : Is (subf (k0_pay20 x d a) (k0_pay20 x d a)) (fun _ _ => 0) := (is_sub h h).congr fun r l _ _ => sub_self _
  exact (is_add (is_p (φ₁ := .bf16) (φ₂ := .bf16) is_mask h) (is_p (φ₁ := .bf16) (φ₂ := .bf16) is_mask h0)).congr fun r l hr _ => by
    simp only [mul_zero, Finset.sum_const_zero, add_zero]
    exact cum_eq st b r l hr

theorem is_cumT {A B : FVec Ideal S128x128 .f32} {f : ℕ → ℕ → ℝ} (h : Is (k0_pay25 A B) f) : Is (k0_pay26 A B) (fun l r => f r l) := fun l r => by
  unfold k0_pay26
  exact (transpose_apply _ _ transposes_S128x128_p1_0_S128x128 (ix2 l r) (ix2 r l) (fun c => match c with | ⟨0, _⟩ => rfl | ⟨1, _⟩ => rfl)).trans (h r l)

/-- The lanes spread over the columns, 64 columns a lane. -/
theorem is_spread {M : ℕ} {X : FVec Ideal ⟨2, ![M, 128]⟩ .bf16} {f : ℕ → ℕ → ℝ} (h : Is X f) :
    Is (matmul (φ₁ := .bf16) (φ₂ := .bf16) (DotDims.plain M 128 2048) none X
      (select (cmpi .eq (iota .tc S128x2048 32 [0] iota_S128x2048_d0_w32) (addi (shrui (iota .tc S128x2048 32 [1] iota_S128x2048_d1_w32) (broadcast S128x2048 6#32)) (broadcast S128x2048 96#32)))
        (broadcast S128x2048 (Scalar.ofBits (F := Ideal) .f32 0x3F800000#32)) (broadcast S128x2048 (Scalar.ofBits (F := Ideal) .f32 0x00000000#32)))
      (constant (F := Ideal) ⟨2, ![M, 2048]⟩ .f32 0x00000000#32)) (fun r c => f r (96 + c / 64)) := by
  have hO : Is (select (cmpi .eq (iota .tc S128x2048 32 [0] iota_S128x2048_d0_w32) (addi (shrui (iota .tc S128x2048 32 [1] iota_S128x2048_d1_w32) (broadcast S128x2048 6#32)) (broadcast S128x2048 96#32)))
        (broadcast S128x2048 (Scalar.ofBits (F := Ideal) .f32 0x3F800000#32)) (broadcast S128x2048 (Scalar.ofBits (F := Ideal) .f32 0x00000000#32)))
      (fun l c => if l = 96 + c / 64 then (1 : ℝ) else 0) := fun l c => by
    have hl := l.isLt
    have hc := c.isLt
    show Scalar.select (IntOp.cmpi .eq (iota .tc S128x2048 32 [0] iota_S128x2048_d0_w32 (ix2 l c)) (IntOp.addi (IntOp.shrui .vector (iota .tc S128x2048 32 [1] iota_S128x2048_d1_w32 (ix2 l c)) 6#32) 96#32))
      (Ideal.ofBits .f32 0x3F800000#32) (Ideal.ofBits .f32 0x00000000#32) = ((if l.val = 96 + c.val / 64 then (1 : ℝ) else 0 : ℝ) : EReal)
    rw [iota_single_apply, iota_single_apply]
    have hsh : IntOp.addi (IntOp.shrui .vector (BitVec.ofNat 32 c.val) 6#32) 96#32 = BitVec.ofNat 32 (96 + c.val / 64) := by
      unfold IntOp.shrui IntOp.addi
      rw [if_pos (by decide)]
      apply BitVec.eq_of_toNat_eq
      simp only [BitVec.toNat_add, BitVec.ushiftRight_eq', BitVec.toNat_ushiftRight, BitVec.toNat_ofNat, Nat.shiftRight_eq_div_pow]
      norm_num
      omega
    show Scalar.select (IntOp.cmpi .eq (BitVec.ofNat 32 l.val) (IntOp.addi (IntOp.shrui .vector (BitVec.ofNat 32 c.val) 6#32) 96#32)) _ _ = _
    rw [hsh, one_f32, zero_f32]
    by_cases h : l.val = 96 + c.val / 64
    · rw [if_pos h, (WordCmp.cmpi_eq_ofNat_eq_one_iff (by omega) (by omega)).2 h]; rfl
    · rw [if_neg h, (WordCmp.cmpi_eq_ofNat_eq_zero_iff (by omega) (by omega)).2 h]; rfl
  refine (is_p (φ₁ := .bf16) (φ₂ := .bf16) h hO).congr fun r c _ hc => ?_
  rw [Finset.sum_eq_single (⟨96 + c / 64, by omega⟩ : Fin 128)]
  · rw [if_pos rfl, mul_one]
  · intro l _ hl
    rw [if_neg fun e => hl (Fin.ext e), mul_zero]
  · intro hn
    exact absurd (Finset.mem_univ _) hn

/-- Five blocks, one under the other. -/
theorem is_five {A B C : (⟨2, ![128, 128]⟩ : Shape).Idx → EReal} {D E : (⟨2, ![16, 128]⟩ : Shape).Idx → EReal} {f : ℕ → ℕ → ℝ}
    (hc : Shape.Concatenates [S128x128, S128x128, S128x128, S16x128, S16x128] S416x128 0)
    (hA : Is A f) (hB : Is B (fun r l => f (128 + r) l)) (hC : Is C (fun r l => f (256 + r) l)) (hD : Is D (fun r l => f (384 + r) l)) (hE : Is E (fun r l => f (400 + r) l)) :
    Is (concatenate S416x128 0 [⟨S128x128, A⟩, ⟨S128x128, B⟩, ⟨S128x128, C⟩, ⟨S16x128, D⟩, ⟨S16x128, E⟩] hc) f := fun r j => by
  have hr := r.isLt
  by_cases h1 : r.val < 128
  · rw [concatenate_apply_piece (t := S416x128) 0 [⟨S128x128, A⟩, ⟨S128x128, B⟩, ⟨S128x128, C⟩, ⟨S16x128, D⟩, ⟨S16x128, E⟩] hc (ix2 r j) 0 (by show 0 < 5; omega) S128x128 A rfl rfl 0 rfl (ix2 ⟨r.val, h1⟩ j) (fun b hb => match b with | ⟨0, _⟩ => absurd rfl hb | ⟨1, _⟩ => rfl) (Nat.zero_add _)]
    exact hA _ _
  by_cases h2 : r.val < 256
  · rw [concatenate_apply_piece (t := S416x128) 0 [⟨S128x128, A⟩, ⟨S128x128, B⟩, ⟨S128x128, C⟩, ⟨S16x128, D⟩, ⟨S16x128, E⟩] hc (ix2 r j) 1 (by show 1 < 5; omega) S128x128 B rfl rfl 128 rfl (ix2 ⟨r.val - 128, by omega⟩ j) (fun b hb => match b with | ⟨0, _⟩ => absurd rfl hb | ⟨1, _⟩ => rfl) (by show 128 + (r.val - 128) = r.val; omega), hB]
    show ((f (128 + (r.val - 128)) j.val : ℝ) : EReal) = ((f r.val j.val : ℝ) : EReal)
    rw [show 128 + (r.val - 128) = r.val by omega]
  by_cases h3 : r.val < 384
  · rw [concatenate_apply_piece (t := S416x128) 0 [⟨S128x128, A⟩, ⟨S128x128, B⟩, ⟨S128x128, C⟩, ⟨S16x128, D⟩, ⟨S16x128, E⟩] hc (ix2 r j) 2 (by show 2 < 5; omega) S128x128 C rfl rfl 256 rfl (ix2 ⟨r.val - 256, by omega⟩ j) (fun b hb => match b with | ⟨0, _⟩ => absurd rfl hb | ⟨1, _⟩ => rfl) (by show 256 + (r.val - 256) = r.val; omega), hC]
    show ((f (256 + (r.val - 256)) j.val : ℝ) : EReal) = ((f r.val j.val : ℝ) : EReal)
    rw [show 256 + (r.val - 256) = r.val by omega]
  by_cases h4 : r.val < 400
  · rw [concatenate_apply_piece (t := S416x128) 0 [⟨S128x128, A⟩, ⟨S128x128, B⟩, ⟨S128x128, C⟩, ⟨S16x128, D⟩, ⟨S16x128, E⟩] hc (ix2 r j) 3 (by show 3 < 5; omega) S16x128 D rfl rfl 384 rfl (ix2 ⟨r.val - 384, by omega⟩ j) (fun b hb => match b with | ⟨0, _⟩ => absurd rfl hb | ⟨1, _⟩ => rfl) (by show 384 + (r.val - 384) = r.val; omega), hD]
    show ((f (384 + (r.val - 384)) j.val : ℝ) : EReal) = ((f r.val j.val : ℝ) : EReal)
    rw [show 384 + (r.val - 384) = r.val by omega]
  · rw [concatenate_apply_piece (t := S416x128) 0 [⟨S128x128, A⟩, ⟨S128x128, B⟩, ⟨S128x128, C⟩, ⟨S16x128, D⟩, ⟨S16x128, E⟩] hc (ix2 r j) 4 (by show 4 < 5; omega) S16x128 E rfl rfl 400 rfl (ix2 ⟨r.val - 400, by omega⟩ j) (fun b hb => match b with | ⟨0, _⟩ => absurd rfl hb | ⟨1, _⟩ => rfl) (by show 400 + (r.val - 400) = r.val; omega), hE]
    show ((f (400 + (r.val - 400)) j.val : ℝ) : EReal) = ((f r.val j.val : ℝ) : EReal)
    rw [show 400 + (r.val - 400) = r.val by omega]

/-- What the columns are spread from. -/
def lanes (fd f : ℕ → ℕ → ℝ) (r l : ℕ) : ℝ :=
  if r < 128 then fd r l else if r < 256 then Real.exp (f 127 l - f (r - 128) l) else if r < 384 then Real.exp (f (r - 256) l) else if r < 400 then Real.exp (f (r - 272) l) else 0

section

variable {D A B : FVec Ideal S128x128 .f32} {fd f : ℕ → ℕ → ℝ} (hD : Is D fd) (h : Is (k0_pay25 A B) f)
include hD h

theorem is_pay27 : Is (k0_pay27 D A B) (fun r c => lanes fd f r (96 + c / 64)) := by
  have hz := is_slice (is_exp h) 112 0 slices_S128x128_o112_0_S16x128
  exact is_spread (is_five concatenates_S128x128_S128x128_S128x128_S16x128_S16x128_S416x128_d0
    (hD.congr fun r l hr _ => by unfold lanes; rw [if_pos hr])
    ((is_exp (is_sub (is_row (is_slice h 127 0 slices_S128x128_o127_0_S1x128) broadcasts_S1x128_S128x128) h)).congr fun r l hr _ => by
      unfold lanes; rw [if_neg (by omega), if_pos (by omega), zero_add, show 128 + r - 128 = r by omega])
    ((is_exp h).congr fun r l hr _ => by unfold lanes; rw [if_neg (by omega), if_neg (by omega), if_pos (by omega), show 256 + r - 256 = r by omega])
    (hz.congr fun r l hr _ => by
      unfold lanes; rw [if_neg (by omega), if_neg (by omega), if_neg (by omega), if_pos (by omega), zero_add, show 384 + r - 272 = 112 + r by omega])
    ((is_sub hz hz).congr fun r l hr _ => by
      unfold lanes; rw [if_neg (by omega), if_neg (by omega), if_neg (by omega), if_neg (by omega), sub_self]))

theorem is_pay28 : Is (k0_pay28 D A B) (fun r c => Real.exp (f r (96 + c / 64))) :=
  (is_slice (is_pay27 hD h) 256 0 slices_S416x2048_o256_0_S128x2048).congr fun r c hr _ => by
    unfold lanes; rw [if_neg (by omega), if_neg (by omega), if_pos (by omega), zero_add, show 256 + r - 256 = r by omega]

theorem is_pay29 : Is (k0_pay29 D A B) (fun r c => Real.exp (f (127 + r) (96 + c / 64))) :=
  (is_slice (is_add (is_slice (is_pay27 hD h) 384 0 slices_S416x2048_o384_0_S16x2048) (is_slice (is_pay27 hD h) 400 0 slices_S416x2048_o400_0_S16x2048)) 15 0 slices_S16x2048_o15_0_S1x2048).congr fun r c hr _ => by
    unfold lanes
    rw [if_neg (by omega), if_neg (by omega), if_neg (by omega), if_pos (by omega), if_neg (by omega), if_neg (by omega), if_neg (by omega), if_neg (by omega), add_zero, zero_add, zero_add,
      show 384 + (15 + r) - 272 = 127 + r by omega]

theorem is_pay30 {X : FVec Ideal S128x2048 .f32} {fx : ℕ → ℕ → ℝ} (hX : Is X fx) : Is (k0_pay30 X D A B) (fun r c => fx r c * fd r (96 + c / 64)) :=
  (is_mul hX (is_slice (is_pay27 hD h) 0 0 slices_S416x2048_o0_0_S128x2048)).congr fun r c hr _ => by
    unfold lanes; rw [if_pos (by omega), zero_add, zero_add]

theorem is_pay31 {X : FVec Ideal S128x2048 .f32} {fx : ℕ → ℕ → ℝ} (hX : Is X fx) :
    Is (k0_pay31 X D A B) (fun r c => fx r c * fd r (96 + c / 64) * Real.exp (f 127 (96 + c / 64) - f r (96 + c / 64))) :=
  (is_mul (is_pay30 hD h hX) (is_slice (is_pay27 hD h) 128 0 slices_S416x2048_o128_0_S128x2048)).congr fun r c hr _ => by
    unfold lanes; rw [if_neg (by omega), if_pos (by omega), zero_add, show 128 + r - 128 = r by omega]

end

variable {u dt st : ℕ → ℕ → ℝ}

/-- A group's scores inside the block. -/
theorem is_sc {C B : FVec Ideal S128x512 .bf16} (hC : Is C (fun r j => u (b + r) (2560 + j))) (hB : Is B (fun r j => u (b + r) (2048 + j))) (o g : ℕ) (ho : o = 128 * g)
    (hs : S128x512.Slices ![0, o] S128x128) :
    Is (matmul (φ₁ := .bf16) (φ₂ := .bf16) (DotDims.transposedRhs 128 128 128) none (extractStridedSlice S128x128 ![0, o] C hs) (extractStridedSlice S128x128 ![0, o] B hs)
      (constant (F := Ideal) S128x128 .f32 0x00000000#32)) (fun r s => sc u (b + r) (b + s) g) :=
  (is_t (φ₁ := .bf16) (φ₂ := .bf16) (is_slice hC 0 o hs) (is_slice hB 0 o hs)).congr fun r s _ _ => by
    subst ho
    unfold sc
    simp only [zero_add]

/-- A group's products with the state before the block. -/
theorem is_far {C : FVec Ideal S128x512 .bf16} {S : FVec Ideal S128x2048 .bf16} (hC : Is C (fun r j => u (b + r) (2560 + j))) (hS : Is S (fun n c => cell u dt st b n c)) (o p g : ℕ)
    (ho : o = 128 * g) (hp : p = 512 * g) (h1 : S128x512.Slices ![0, o] S128x128) (h2 : S128x2048.Slices ![0, p] S128x512) :
    Is (matmul (φ₁ := .bf16) (φ₂ := .bf16) (DotDims.plain 128 128 512) none (extractStridedSlice S128x128 ![0, o] C h1) (extractStridedSlice S128x512 ![0, p] S h2)
      (constant (F := Ideal) S128x512 .f32 0x00000000#32)) (fun r c => far u dt st b r (p + c)) :=
  (is_p (φ₁ := .bf16) (φ₂ := .bf16) (is_slice hC 0 o h1) (is_slice hS 0 p h2)).congr fun r c _ hc => by
    unfold far
    subst ho hp
    rw [show (512 * g + c) / 512 = g by omega]
    simp only [zero_add]

/-- A group's state after the block. -/
theorem is_step {B : FVec Ideal S128x512 .bf16} {Y : FVec Ideal S128x2048 .bf16} {S : FVec Ideal S128x2048 .f32} {L : FVec Ideal S1x2048 .f32}
    (hB : Is B (fun r j => u (b + r) (2048 + j))) (hY : Is Y (fun r c => xc u dt (b + r) c * Real.exp (cum st b 127 (96 + c / 64) - cum st b r (96 + c / 64))))
    (hS : Is S (fun n c => cell u dt st b n c)) (hL : Is L (fun r c => Real.exp (cum st b (127 + r) (96 + c / 64)))) (o p g : ℕ) (ho : o = 128 * g) (hp : p = 512 * g)
    (h1 : S128x512.Slices ![0, o] S128x128) (h2 : S128x2048.Slices ![0, p] S128x512) (h3 : S1x2048.Slices ![0, p] S1x512) :
    Is (shapeCast S128x512 (addf (mulf (extractStridedSlice S128x512 ![0, p] S h2) (broadcastTo S128x512 (extractStridedSlice S1x512 ![0, p] L h3) broadcasts_S1x512_S128x512))
        (matmul (φ₁ := .bf16) (φ₂ := .bf16) dot_S128x128_S128x512_S128x512_0_0_1_1_n_n none (extractStridedSlice S128x128 ![0, o] B h1) (extractStridedSlice S128x512 ![0, p] Y h2)
          (constant (F := Ideal) S128x512 .f32 0x00000000#32))) shapeCasts_S128x512_S128x512)
      (fun n c => cell u dt st (b + 128) n (p + c)) := by
  rw [Idealize.ShloMosaic.shapeCast_self]
  refine (is_add (is_mul (is_slice hS 0 p h2) (is_row (is_slice hL 0 p h3) _))
    (is_l (φ₁ := .bf16) (φ₂ := .bf16) dot_S128x128_S128x512_S128x512_0_0_1_1_n_n rfl rfl (fun _ _ _ => ⟨rfl, rfl⟩) (fun _ _ _ => ⟨rfl, rfl⟩) (is_slice hB 0 o h1) (is_slice hY 0 p h2))).congr fun n c _ hc => ?_
  rw [← cell_step u dt st b n (p + c)]
  subst ho hp
  rw [show (512 * g + c) / 512 = g by omega]
  simp only [zero_add, add_zero]

/-- A head's products inside the block. -/
theorem is_head {A AT S : FVec Ideal S128x128 .f32} {X : FVec Ideal S128x2048 .f32} {g : ℕ} (h l p : ℕ) (hl : l = 96 + h) (hp : p = 64 * h) (hg : g = h / 8)
    (hA : Is A (fun r l => cum st b r l)) (hAT : Is AT (fun l r => cum st b r l)) (hX : Is X (fun r c => xc u dt (b + r) c)) (hS : Is S (fun r s => sc u (b + r) (b + s) g))
    (s1 : S128x128.Slices ![0, l] S128x1) (s2 : S128x128.Slices ![l, 0] S1x128) (s3 : S128x2048.Slices ![0, p] S128x64) :
    Is (shapeCast S128x64 (matmul (φ₁ := .bf16) (φ₂ := .bf16) (DotDims.plain 128 128 64) none
        (mulf S (exp (select k0_pay49 (subf (broadcastTo S128x128 (extractStridedSlice S128x1 ![0, l] A s1) broadcasts_S128x1_S128x128)
          (broadcastTo S128x128 (extractStridedSlice S1x128 ![l, 0] AT s2) broadcasts_S1x128_S128x128)) (broadcast S128x128 (Scalar.ofBits (F := Ideal) .f32 0xFF800000#32)))))
        (extractStridedSlice S128x64 ![0, p] X s3) (constant (F := Ideal) S128x64 .f32 0x00000000#32)) shapeCasts_S128x64_S128x64)
      (fun r n => near u dt st b r (p + n)) := by
  have hcol : Is (broadcastTo S128x128 (extractStridedSlice S128x1 ![0, l] A s1) broadcasts_S128x1_S128x128) (fun r _ => cum st b r l) := fun r s => by
    rw [broadcastTo_apply _ broadcasts_S128x1_S128x128 (ix2 r s) (ix2 r 0) (fun a => match a with | ⟨0, _⟩ => rfl | ⟨1, _⟩ => rfl), is_slice hA 0 l s1 r 0]
    show ((cum st b (0 + r.val) (l + 0) : ℝ) : EReal) = _
    rw [zero_add, add_zero]
  have hE := is_sub hcol (is_row (is_slice hAT l 0 s2) broadcasts_S1x128_S128x128)
  have hM : Is (mulf S (exp (select k0_pay49 (subf (broadcastTo S128x128 (extractStridedSlice S128x1 ![0, l] A s1) broadcasts_S128x1_S128x128)
          (broadcastTo S128x128 (extractStridedSlice S1x128 ![l, 0] AT s2) broadcasts_S1x128_S128x128)) (broadcast S128x128 (Scalar.ofBits (F := Ideal) .f32 0xFF800000#32)))))
      (fun r s => if s ≤ r then sc u (b + r) (b + s) g * Real.exp (cum st b r l - cum st b s l) else 0) := fun r s => by
    have hr := r.isLt
    have hs := s.isLt
    show S (ix2 r s) * Ideal.exp (Scalar.select (IntOp.cmpi .sle (iota .tc S128x128 32 [1] iota_S128x128_d1_w32 (ix2 r s)) (iota .tc S128x128 32 [0] iota_S128x128_d0_w32 (ix2 r s)))
      (subf (broadcastTo S128x128 (extractStridedSlice S128x1 ![0, l] A s1) broadcasts_S128x1_S128x128)
          (broadcastTo S128x128 (extractStridedSlice S1x128 ![l, 0] AT s2) broadcasts_S1x128_S128x128) (ix2 r s)) (Ideal.ofBits .f32 0xFF800000#32))
      = ((if s.val ≤ r.val then sc u (b + r.val) (b + s.val) g * Real.exp (cum st b r.val l - cum st b s.val l) else 0 : ℝ) : EReal)
    rw [iota_single_apply, iota_single_apply, hS, hE]
    show _ * Ideal.exp (Scalar.select (IntOp.cmpi .sle (BitVec.ofNat 32 s.val) (BitVec.ofNat 32 r.val)) _ _) = _
    by_cases h : s.val ≤ r.val
    · rw [if_pos h, (WordCmp.cmpi_sle_ofNat_eq_one_iff (by omega) (by omega)).2 h, EReal.coe_mul, ← Ideal.exp_coe]
      simp only [zero_add, add_zero]
      rfl
    · rw [if_neg h, (WordCmp.cmpi_sle_ofNat_eq_zero_iff (by omega) (by omega)).2 (by omega)]
      show _ * Ideal.exp (Ideal.ofBits .f32 0xFF800000#32) = _
      rw [show Ideal.ofBits .f32 0xFF800000#32 = (⊥ : EReal) by simp [Ideal.ofBits, Ideal.ieee], Ideal.exp_bot, mul_zero]
      rfl
  rw [Idealize.ShloMosaic.shapeCast_self]
  refine (is_p (φ₁ := .bf16) (φ₂ := .bf16) hM (is_slice hX 0 p s3)).congr fun r n _ hn => ?_
  unfold near
  subst hl hp hg
  rw [show (64 * h + n) / 512 = h / 8 by omega, show (64 * h + n) / 64 = h by omega]
  simp only [zero_add]

/-- A token's column before its norm. -/
def gated (u dt st : ℕ → ℕ → ℝ) (D : ℕ → ℝ) (z : ℕ → ℕ → ℝ) (t c : ℕ) : ℝ := (full u dt st t c + D c * u t c) * act (z t c)

/-- A row over the root of its mean square, times a weight. -/
def nrm (y w : ℕ → ℝ) (n : ℕ) : EReal :=
  (y n : EReal) * Ideal.rsqrt (Ideal.div ((∑ k : Fin 512, y k.val * y k.val : ℝ) : EReal) (Ideal.ofBits .f32 0x44000000#32) + Ideal.ofBits .f32 0x3727C5AC#32) * (w n : EReal)

/-- A token's entry. -/
def entry (u dt st : ℕ → ℕ → ℝ) (D nw : ℕ → ℝ) (z : ℕ → ℕ → ℝ) (t c : ℕ) : EReal :=
  nrm (fun k => gated u dt st D z t (512 * (c / 512) + k)) (fun k => nw (512 * (c / 512) + k)) (c % 512)

variable {D nw : ℕ → ℝ} {z : ℕ → ℕ → ℝ}

/-- A group of the block's rows: both parts, the input's own, the gate, the norm and the weight. -/
theorem is_out {N R Z : FVec Ideal S128x512 .f32} {X E : FVec Ideal S128x2048 .f32} {d w : FVec Ideal S1x512 .f32} (g p : ℕ) (hp : p = 512 * g) (hb : b + 128 ≤ 8192)
    (hN : Is N (fun r n => near u dt st b r (p + n))) (hR : Is R (fun r n => far u dt st b r (p + n))) (hE : Is E (fun r c => Real.exp (cum st b r (96 + c / 64))))
    (hX : Is X (fun r c => u (b + r) c)) (hZ : Is Z (fun r n => z (b + r) (p + n))) (hd : Is d (fun _ n => D (p + n))) (hw : Is w (fun _ n => nw (p + n)))
    (hs : S128x2048.Slices ![0, p] S128x512) {Y : FVec Ideal S128x512 .f32}
    (eY : Y = mulf (addf (addf N (mulf R (extractStridedSlice S128x512 ![0, p] E hs))) (mulf (broadcastTo S128x512 d broadcasts_S1x512_S128x512) (extractStridedSlice S128x512 ![0, p] X hs)))
      (mulf Z (addf (mulf (broadcast S128x512 (Scalar.ofBits (F := Ideal) .f32 0x3F000000#32)) (tanh (mulf (broadcast S128x512 (Scalar.ofBits (F := Ideal) .f32 0x3F000000#32)) Z)))
        (broadcast S128x512 (Scalar.ofBits (F := Ideal) .f32 0x3F000000#32))))) (r : Fin 128) (n : Fin 512) :
    mulf (mulf Y (broadcastTo S128x512 (rsqrt (addf (divf
        (shapeCast S128x1 (multiReduction .add [1] S128 (mulf Y Y) 0x00000000#32 reduces_S128x512_S128 (.inl rfl) rfl) shapeCasts_S128_S128x1)
        (broadcast S128x1 (Scalar.ofBits (F := Ideal) .f32 0x44000000#32))) (broadcast S128x1 (Scalar.ofBits (F := Ideal) .f32 0x3727C5AC#32)))) broadcasts_S128x1_S128x512))
      (broadcastTo S128x512 w broadcasts_S1x512_S128x512) (ix2 r n) = entry u dt st D nw z (b + r.val) (p + n.val) := by
  have hY : Is Y (fun r n => gated u dt st D z (b + r) (p + n)) := by
    rw [eY]
    refine (is_mul (is_add (is_add hN (is_mul hR (is_slice hE 0 p hs))) (is_mul (is_row hd _) (is_slice hX 0 p hs))) (is_silu hZ)).congr fun r n hr _ => ?_
    unfold gated
    rw [zero_add, near_far u dt st b r (p + n) hr hb]
  have hr : multiReduction .add [1] S128 (mulf Y Y) 0x00000000#32 reduces_S128x512_S128 (.inl rfl) rfl (ix1 r)
      = ((∑ k : Fin 512, gated u dt st D z (b + r) (p + k.val) * gated u dt st D z (b + r) (p + k.val) : ℝ) : EReal) := by
    refine (Ideal.reduceAdd_r2_a1 reduces_S128x512_S128 (mulf Y Y) (ix1 r)).trans ?_
    rw [← coe_sum_mul]
    exact Finset.sum_congr rfl fun k _ => congrArg₂ (· * ·) (hY r k) (hY r k)
  show Y (ix2 r n) * broadcastTo S128x512 _ broadcasts_S128x1_S128x512 (ix2 r n) * broadcastTo S128x512 w broadcasts_S1x512_S128x512 (ix2 r n) = _
  rw [hY, is_row hw broadcasts_S1x512_S128x512 r n,
    broadcastTo_apply _ broadcasts_S128x1_S128x512 (ix2 r n) (ix2 r 0) (fun a => match a with | ⟨0, _⟩ => rfl | ⟨1, _⟩ => rfl)]
  show _ * Ideal.rsqrt (Ideal.div (shapeCast S128x1 _ shapeCasts_S128_S128x1 (ix2 r 0)) (Ideal.ofBits .f32 0x44000000#32) + Ideal.ofBits .f32 0x3727C5AC#32) * _ = _
  rw [shapeCast_apply _ shapeCasts_S128_S128x1 (ix2 r 0) (ix1 r) (by
    rw [Shape.rowMajor_val_one, Shape.rowMajor_val_two]
    show r.val = r.val * 1 + 0
    omega), hr]
  have hn := n.isLt
  unfold entry nrm
  subst hp
  rw [show (512 * g + n.val) / 512 = g by omega, show (512 * g + n.val) % 512 = n.val by omega]

end Cert.SsdPay

end
-- ==== Proof.SsdRead.lean ====
/-
  What a block's body reads back of its stores: the rows with their halo, the heads' rows, the state and the output.
-/
module

public import proofs.«01_k».proof.Proof.SsdPay
public import Idealize.ShloMosaic.Lib.WritesUnit

@[expose] public section

noncomputable section

open scoped BigOperators

namespace Cert.SsdRead

open Idealize.ShloMosaic
open Idealize.ShloMosaic.ValueIdx Cert.Lin Cert.AttnReal Cert.AttnOps Cert.AttnPay Cert.SsdReal Cert.SsdPay Cert.KernelSsdIdeal Cert.KernelSsdIdeal.Gen

section

variable {a d n : ℕ} {e : EltTy} (V : View sig .tc .vmem ⟨2, ![a, d]⟩ e) {E : ℕ → ℕ → Elt Ideal e} (y : (⟨2, ![a, d]⟩ : Shape).Idx)

/-- A store of some whole columns, the newest: the columns from `p` on are its own, the ones before are left to the older stores. -/
theorem cols {T : List (View.Piece (Elt Ideal) ⟨2, ![a, d]⟩ e)} (p q : ℕ) (hq : q = p + n) (inb) {w : (⟨2, ![a, n]⟩ : Shape).Idx → Elt Ideal e}
    (hw : ∀ (r : Fin a) (j : Fin n), w (ix2 r j) = E r.val (p + j.val))
    (hT : (y 1).val < p → V.read (Elt Ideal) (V.writes (Elt Ideal) V.junk T) y = E (y 0).val (y 1).val) (hy : (y 1).val < q) :
    V.read (Elt Ideal) (V.writes (Elt Ideal) V.junk (⟨Rect.unit ![0, p] (⟨2, ![a, n]⟩ : Shape).size inb, w⟩ :: T)) y = E (y 0).val (y 1).val := by
  by_cases h : p ≤ (y 1).val
  · refine (View.read_writes_cons_unit_of_mem V V.junk inb w T y (ix2 (y 0) ⟨(y 1).val - p, by omega⟩) rfl (Fin.forall_fin_two.2 ⟨?_, ?_⟩)).trans ?_
    · exact (Nat.zero_add _).symm
    · show (y 1).val = p + ((y 1).val - p)
      omega
    · refine (hw _ _).trans ?_
      show E (y 0).val (p + ((y 1).val - p)) = _
      rw [Nat.add_sub_cancel' h]
  · exact (View.read_writes_cons_unit_of_not_mem V V.junk inb w T y rfl 1 (.inl (by show (y 1).val < p; omega))).trans (hT (by omega))

/-- The same for some whole rows. -/
theorem rows {T : List (View.Piece (Elt Ideal) ⟨2, ![a, d]⟩ e)} (p q : ℕ) (hq : q = p + n) (inb) {w : (⟨2, ![n, d]⟩ : Shape).Idx → Elt Ideal e}
    (hw : ∀ (r : Fin n) (j : Fin d), w (ix2 r j) = E (p + r.val) j.val)
    (hT : (y 0).val < p → V.read (Elt Ideal) (V.writes (Elt Ideal) V.junk T) y = E (y 0).val (y 1).val) (hy : (y 0).val < q) :
    V.read (Elt Ideal) (V.writes (Elt Ideal) V.junk (⟨Rect.unit ![p, 0] (⟨2, ![n, d]⟩ : Shape).size inb, w⟩ :: T)) y = E (y 0).val (y 1).val := by
  by_cases h : p ≤ (y 0).val
  · refine (View.read_writes_cons_unit_of_mem V V.junk inb w T y (ix2 ⟨(y 0).val - p, by omega⟩ (y 1)) rfl (Fin.forall_fin_two.2 ⟨?_, ?_⟩)).trans ?_
    · show (y 0).val = p + ((y 0).val - p)
      omega
    · exact (Nat.zero_add _).symm
    · refine (hw _ _).trans ?_
      show E (p + ((y 0).val - p)) (y 1).val = _
      rw [Nat.add_sub_cancel' h]
  · exact (View.read_writes_cons_unit_of_not_mem V V.junk inb w T y rfl 0 (.inl (by show (y 0).val < p; omega))).trans (hT (by omega))

end

/-- A block's rows under the eight before them. -/
theorem buf_read {d : ℕ} (V : View sig .tc .vmem ⟨2, ![136, d]⟩ .f32) {X : (⟨2, ![128, d]⟩ : Shape).Idx → EReal} {H : (⟨2, ![8, d]⟩ : Shape).Idx → EReal} {f : ℕ → ℕ → ℝ} (i1 i2 i3)
    (hX : Is X (fun r j => f (8 + r) j)) (hH : Is H (fun r j => f (0 + r) j)) :
    Is (V.readCov (Val := Elt Ideal) [⟨Rect.unit ![8, 0] (⟨2, ![128, d]⟩ : Shape).size i1, X⟩, ⟨Rect.unit ![0, 0] (⟨2, ![8, d]⟩ : Shape).size i2, H⟩] (Rect.unit ![0, 0] (⟨2, ![136, d]⟩ : Shape).size i3).toLoadRect) f := fun r j => by
  show V.read (Elt Ideal) (V.writes (Elt Ideal) V.junk _) ((Rect.unit ![0, 0] (⟨2, ![136, d]⟩ : Shape).size i3).emb (ix2 r j)) = _
  refine (rows V _ (E := fun r j => ((f r j : ℝ) : EReal)) 8 136 rfl i1 hX (fun q => rows V _ (E := fun r j => ((f r j : ℝ) : EReal)) 0 8 rfl i2 hH (fun h => absurd h (Nat.not_lt_zero _)) q) ?_).trans ?_
  · show 0 + 1 * r.val < 136
    omega
  · show ((f (0 + 1 * r.val) (0 + 1 * j.val) : ℝ) : EReal) = _
    rw [one_mul, one_mul, zero_add, zero_add]

/-- What a block's body holds: the convolved inputs, the steps, the log decays' two parts and the state before. -/
structure Blk (u dt st : ℕ → ℕ → ℝ) (b : ℕ) (X : FVec Ideal S128x2048 .f32) (B C : FVec Ideal S128x512 .bf16) (D M N : FVec Ideal S128x128 .f32) (P : Vec Ideal S128x2048 .f32) : Prop where
  hb : b + 128 ≤ 8192
  hX : Is X (fun r c => u (b + r) c)
  hB : Is B (fun r j => u (b + r) (2048 + j))
  hC : Is C (fun r j => u (b + r) (2560 + j))
  hD : Is D (fun r l => dt (b + r) l)
  hA : Is (k0_pay25 M N) (fun r l => cum st b r l)
  hP : Is P (fun n c => cell u dt st b n c)

variable {u dt st : ℕ → ℕ → ℝ} {b : ℕ} {X : FVec Ideal S128x2048 .f32} {B C : FVec Ideal S128x512 .bf16} {D M N : FVec Ideal S128x128 .f32} {P : Vec Ideal S128x2048 .f32} (h : Blk u dt st b X B C D M N P)
include h

theorem Blk.xc : Is (k0_pay30 X D M N) (fun r c => xc u dt (b + r) c) := is_pay30 h.hD h.hA h.hX

theorem Blk.s0 : Is (k0_pay32 B C) (fun r s => sc u (b + r) (b + s) 0) := is_sc h.hC h.hB 0 0 rfl slices_S128x512_o0_0_S128x128
theorem Blk.s1 : Is (k0_pay33 B C) (fun r s => sc u (b + r) (b + s) 1) := is_sc h.hC h.hB 128 1 rfl slices_S128x512_o0_128_S128x128
theorem Blk.s2 : Is (k0_pay34 B C) (fun r s => sc u (b + r) (b + s) 2) := is_sc h.hC h.hB 256 2 rfl slices_S128x512_o0_256_S128x128
theorem Blk.s3 : Is (k0_pay35 B C) (fun r s => sc u (b + r) (b + s) 3) := is_sc h.hC h.hB 384 3 rfl slices_S128x512_o0_384_S128x128

omit h in
/-- What the heads store, a piece of 64 columns each. -/
def heads (X : FVec Ideal S128x2048 .f32) (B C : FVec Ideal S128x512 .bf16) (D M N : FVec Ideal S128x128 .f32) : List (View.Piece (Elt Ideal) S128x2048 .f32) :=
  [⟨Rect.unit ![0, 1984] S128x64.size inb_S128x2048_S128x64_0_1984, k0_pay96 (k0_pay25 M N) (k0_pay26 M N) (k0_pay30 X D M N) (k0_pay35 B C) k0_pay49⟩,
    ⟨Rect.unit ![0, 1920] S128x64.size inb_S128x2048_S128x64_0_1920, k0_pay95 (k0_pay30 X D M N) (k0_pay35 B C) (k0_pay94 (k0_pay25 M N) (k0_pay26 M N) k0_pay49)⟩,
    ⟨Rect.unit ![0, 1856] S128x64.size inb_S128x2048_S128x64_0_1856, k0_pay93 (k0_pay25 M N) (k0_pay26 M N) (k0_pay30 X D M N) (k0_pay35 B C) k0_pay49⟩,
    ⟨Rect.unit ![0, 1792] S128x64.size inb_S128x2048_S128x64_0_1792, k0_pay92 (k0_pay25 M N) (k0_pay26 M N) (k0_pay30 X D M N) (k0_pay35 B C) k0_pay49⟩,
    ⟨Rect.unit ![0, 1728] S128x64.size inb_S128x2048_S128x64_0_1728, k0_pay91 (k0_pay89 (k0_pay25 M N) (k0_pay26 M N) (k0_pay35 B C) k0_pay49) (k0_pay90 (k0_pay30 X D M N))⟩,
    ⟨Rect.unit ![0, 1664] S128x64.size inb_S128x2048_S128x64_0_1664, k0_pay88 (k0_pay25 M N) (k0_pay26 M N) (k0_pay30 X D M N) (k0_pay35 B C) k0_pay49⟩,
    ⟨Rect.unit ![0, 1600] S128x64.size inb_S128x2048_S128x64_0_1600, k0_pay87 (k0_pay25 M N) (k0_pay26 M N) (k0_pay30 X D M N) (k0_pay35 B C) k0_pay49⟩,
    ⟨Rect.unit ![0, 1536] S128x64.size inb_S128x2048_S128x64_0_1536, k0_pay86 (k0_pay84 (k0_pay25 M N) (k0_pay26 M N) (k0_pay35 B C) k0_pay49) (k0_pay85 (k0_pay30 X D M N)) (constant (F := Ideal) S128x64 .f32 0x00000000#32)⟩,
    ⟨Rect.unit ![0, 1472] S128x64.size inb_S128x2048_S128x64_0_1472, k0_pay83 (k0_pay25 M N) (k0_pay26 M N) (k0_pay30 X D M N) (k0_pay34 B C) k0_pay49⟩,
    ⟨Rect.unit ![0, 1408] S128x64.size inb_S128x2048_S128x64_0_1408, k0_pay82 (k0_pay25 M N) (k0_pay26 M N) (k0_pay30 X D M N) (k0_pay34 B C) k0_pay49⟩,
    ⟨Rect.unit ![0, 1344] S128x64.size inb_S128x2048_S128x64_0_1344, k0_pay81 (k0_pay80 (k0_pay25 M N) (k0_pay26 M N) (k0_pay30 X D M N) (k0_pay34 B C) k0_pay49)⟩,
    ⟨Rect.unit ![0, 1280] S128x64.size inb_S128x2048_S128x64_0_1280, k0_pay79 (k0_pay25 M N) (k0_pay26 M N) (k0_pay30 X D M N) (k0_pay34 B C) k0_pay49⟩,
    ⟨Rect.unit ![0, 1216] S128x64.size inb_S128x2048_S128x64_0_1216, k0_pay78 (k0_pay25 M N) (k0_pay26 M N) (k0_pay30 X D M N) (k0_pay34 B C) k0_pay49⟩,
    ⟨Rect.unit ![0, 1152] S128x64.size inb_S128x2048_S128x64_0_1152, k0_pay77 (k0_pay25 M N) (k0_pay26 M N) (k0_pay30 X D M N) (k0_pay34 B C) k0_pay49⟩,
    ⟨Rect.unit ![0, 1088] S128x64.size inb_S128x2048_S128x64_0_1088, k0_pay76 (k0_pay25 M N) (k0_pay26 M N) (k0_pay30 X D M N) (k0_pay34 B C) k0_pay49⟩,
    ⟨Rect.unit ![0, 1024] S128x64.size inb_S128x2048_S128x64_0_1024, k0_pay75 (k0_pay30 X D M N) (k0_pay34 B C) k0_pay49 (k0_pay73 (k0_pay25 M N)) (k0_pay74 (k0_pay26 M N))⟩,
    ⟨Rect.unit ![0, 960] S128x64.size inb_S128x2048_S128x64_0_960, k0_pay72 (k0_pay25 M N) (k0_pay26 M N) (k0_pay30 X D M N) (k0_pay33 B C) k0_pay49⟩,
    ⟨Rect.unit ![0, 896] S128x64.size inb_S128x2048_S128x64_0_896, k0_pay71 (k0_pay25 M N) (k0_pay26 M N) (k0_pay30 X D M N) (k0_pay33 B C) k0_pay49⟩,
    ⟨Rect.unit ![0, 832] S128x64.size inb_S128x2048_S128x64_0_832, k0_pay70 (k0_pay30 X D M N) (k0_pay33 B C) k0_pay49 (k0_pay69 (k0_pay25 M N) (k0_pay26 M N))⟩,
    ⟨Rect.unit ![0, 768] S128x64.size inb_S128x2048_S128x64_0_768, k0_pay68 (k0_pay25 M N) (k0_pay26 M N) (k0_pay30 X D M N) (k0_pay33 B C) k0_pay49⟩,
    ⟨Rect.unit ![0, 704] S128x64.size inb_S128x2048_S128x64_0_704, k0_pay67 (k0_pay25 M N) (k0_pay26 M N) (k0_pay30 X D M N) (k0_pay33 B C) k0_pay49⟩,
    ⟨Rect.unit ![0, 640] S128x64.size inb_S128x2048_S128x64_0_640, k0_pay66 (k0_pay30 X D M N) (k0_pay33 B C) (k0_pay65 (k0_pay25 M N) (k0_pay26 M N) k0_pay49)⟩,
    ⟨Rect.unit ![0, 576] S128x64.size inb_S128x2048_S128x64_0_576, k0_pay64 (k0_pay25 M N) (k0_pay26 M N) (k0_pay30 X D M N) (k0_pay33 B C) k0_pay49⟩,
    ⟨Rect.unit ![0, 512] S128x64.size inb_S128x2048_S128x64_0_512, k0_pay63 (k0_pay25 M N) (k0_pay26 M N) (k0_pay30 X D M N) (k0_pay33 B C) k0_pay49⟩,
    ⟨Rect.unit ![0, 448] S128x64.size inb_S128x2048_S128x64_0_448, k0_pay62 (k0_pay60 (k0_pay25 M N) (k0_pay26 M N) (k0_pay32 B C) k0_pay49) (k0_pay61 (k0_pay30 X D M N))⟩,
    ⟨Rect.unit ![0, 384] S128x64.size inb_S128x2048_S128x64_0_384, k0_pay59 (k0_pay25 M N) (k0_pay26 M N) (k0_pay30 X D M N) (k0_pay32 B C) k0_pay49⟩,
    ⟨Rect.unit ![0, 320] S128x64.size inb_S128x2048_S128x64_0_320, k0_pay58 (k0_pay25 M N) (k0_pay26 M N) (k0_pay30 X D M N) (k0_pay32 B C) k0_pay49⟩,
    ⟨Rect.unit ![0, 256] S128x64.size inb_S128x2048_S128x64_0_256, k0_pay57 (k0_pay55 (k0_pay25 M N) (k0_pay26 M N) (k0_pay32 B C) k0_pay49) (k0_pay56 (k0_pay30 X D M N)) (constant (F := Ideal) S128x64 .f32 0x00000000#32)⟩,
    ⟨Rect.unit ![0, 192] S128x64.size inb_S128x2048_S128x64_0_192, k0_pay54 (k0_pay25 M N) (k0_pay26 M N) (k0_pay30 X D M N) (k0_pay32 B C) k0_pay49⟩,
    ⟨Rect.unit ![0, 128] S128x64.size inb_S128x2048_S128x64_0_128, k0_pay53 (k0_pay25 M N) (k0_pay26 M N) (k0_pay30 X D M N) (k0_pay32 B C) k0_pay49⟩,
    ⟨Rect.unit ![0, 64] S128x64.size inb_S128x2048_S128x64_0_64, k0_pay52 (k0_pay51 (k0_pay25 M N) (k0_pay26 M N) (k0_pay30 X D M N) (k0_pay32 B C))⟩,
    ⟨Rect.unit ![0, 0] S128x64.size inb_S128x2048_S128x64_0_0, k0_pay50 (k0_pay25 M N) (k0_pay26 M N) (k0_pay30 X D M N) (k0_pay32 B C)⟩]

def nearE (u dt st : ℕ → ℕ → ℝ) (b r c : ℕ) : EReal := ((near u dt st b r c : ℝ) : EReal)

theorem heads_at (V : View sig .tc .vmem S128x2048 .f32) (y : S128x2048.Idx) : V.read (Elt Ideal) (V.writes (Elt Ideal) V.junk (heads X B C D M N)) y = nearE u dt st b (y 0).val (y 1).val := by
  have q : (y 1).val < 2048 := (y 1).isLt
  refine cols V y (n := 64) (E := nearE u dt st b) 1984 2048 rfl _ ?_ (fun q => ?_) q
  · exact is_head 31 127 1984 rfl rfl rfl h.hA (is_cumT h.hA) h.xc h.s3 slices_S128x128_o0_127_S128x1 slices_S128x128_o127_0_S1x128 slices_S128x2048_o0_1984_S128x64
  refine cols V y (n := 64) (E := nearE u dt st b) 1920 1984 rfl _ ?_ (fun q => ?_) q
  · exact is_head 30 126 1920 rfl rfl rfl h.hA (is_cumT h.hA) h.xc h.s3 slices_S128x128_o0_126_S128x1 slices_S128x128_o126_0_S1x128 slices_S128x2048_o0_1920_S128x64
  refine cols V y (n := 64) (E := nearE u dt st b) 1856 1920 rfl _ ?_ (fun q => ?_) q
  · exact is_head 29 125 1856 rfl rfl rfl h.hA (is_cumT h.hA) h.xc h.s3 slices_S128x128_o0_125_S128x1 slices_S128x128_o125_0_S1x128 slices_S128x2048_o0_1856_S128x64
  refine cols V y (n := 64) (E := nearE u dt st b) 1792 1856 rfl _ ?_ (fun q => ?_) q
  · exact is_head 28 124 1792 rfl rfl rfl h.hA (is_cumT h.hA) h.xc h.s3 slices_S128x128_o0_124_S128x1 slices_S128x128_o124_0_S1x128 slices_S128x2048_o0_1792_S128x64
  refine cols V y (n := 64) (E := nearE u dt st b) 1728 1792 rfl _ ?_ (fun q => ?_) q
  · exact is_head 27 123 1728 rfl rfl rfl h.hA (is_cumT h.hA) h.xc h.s3 slices_S128x128_o0_123_S128x1 slices_S128x128_o123_0_S1x128 slices_S128x2048_o0_1728_S128x64
  refine cols V y (n := 64) (E := nearE u dt st b) 1664 1728 rfl _ ?_ (fun q => ?_) q
  · exact is_head 26 122 1664 rfl rfl rfl h.hA (is_cumT h.hA) h.xc h.s3 slices_S128x128_o0_122_S128x1 slices_S128x128_o122_0_S1x128 slices_S128x2048_o0_1664_S128x64
  refine cols V y (n := 64) (E := nearE u dt st b) 1600 1664 rfl _ ?_ (fun q => ?_) q
  · exact is_head 25 121 1600 rfl rfl rfl h.hA (is_cumT h.hA) h.xc h.s3 slices_S128x128_o0_121_S128x1 slices_S128x128_o121_0_S1x128 slices_S128x2048_o0_1600_S128x64
  refine cols V y (n := 64) (E := nearE u dt st b) 1536 1600 rfl _ ?_ (fun q => ?_) q
  · exact is_head 24 120 1536 rfl rfl rfl h.hA (is_cumT h.hA) h.xc h.s3 slices_S128x128_o0_120_S128x1 slices_S128x128_o120_0_S1x128 slices_S128x2048_o0_1536_S128x64
  refine cols V y (n := 64) (E := nearE u dt st b) 1472 1536 rfl _ ?_ (fun q => ?_) q
  · exact is_head 23 119 1472 rfl rfl rfl h.hA (is_cumT h.hA) h.xc h.s2 slices_S128x128_o0_119_S128x1 slices_S128x128_o119_0_S1x128 slices_S128x2048_o0_1472_S128x64
  refine cols V y (n := 64) (E := nearE u dt st b) 1408 1472 rfl _ ?_ (fun q => ?_) q
  · exact is_head 22 118 1408 rfl rfl rfl h.hA (is_cumT h.hA) h.xc h.s2 slices_S128x128_o0_118_S128x1 slices_S128x128_o118_0_S1x128 slices_S128x2048_o0_1408_S128x64
  refine cols V y (n := 64) (E := nearE u dt st b) 1344 1408 rfl _ ?_ (fun q => ?_) q
  · exact is_head 21 117 1344 rfl rfl rfl h.hA (is_cumT h.hA) h.xc h.s2 slices_S128x128_o0_117_S128x1 slices_S128x128_o117_0_S1x128 slices_S128x2048_o0_1344_S128x64
  refine cols V y (n := 64) (E := nearE u dt st b) 1280 1344 rfl _ ?_ (fun q => ?_) q
  · exact is_head 20 116 1280 rfl rfl rfl h.hA (is_cumT h.hA) h.xc h.s2 slices_S128x128_o0_116_S128x1 slices_S128x128_o116_0_S1x128 slices_S128x2048_o0_1280_S128x64
  refine cols V y (n := 64) (E := nearE u dt st b) 1216 1280 rfl _ ?_ (fun q => ?_) q
  · exact is_head 19 115 1216 rfl rfl rfl h.hA (is_cumT h.hA) h.xc h.s2 slices_S128x128_o0_115_S128x1 slices_S128x128_o115_0_S1x128 slices_S128x2048_o0_1216_S128x64
  refine cols V y (n := 64) (E := nearE u dt st b) 1152 1216 rfl _ ?_ (fun q => ?_) q
  · exact is_head 18 114 1152 rfl rfl rfl h.hA (is_cumT h.hA) h.xc h.s2 slices_S128x128_o0_114_S128x1 slices_S128x128_o114_0_S1x128 slices_S128x2048_o0_1152_S128x64
  refine cols V y (n := 64) (E := nearE u dt st b) 1088 1152 rfl _ ?_ (fun q => ?_) q
  · exact is_head 17 113 1088 rfl rfl rfl h.hA (is_cumT h.hA) h.xc h.s2 slices_S128x128_o0_113_S128x1 slices_S128x128_o113_0_S1x128 slices_S128x2048_o0_1088_S128x64
  refine cols V y (n := 64) (E := nearE u dt st b) 1024 1088 rfl _ ?_ (fun q => ?_) q
  · exact is_head 16 112 1024 rfl rfl rfl h.hA (is_cumT h.hA) h.xc h.s2 slices_S128x128_o0_112_S128x1 slices_S128x128_o112_0_S1x128 slices_S128x2048_o0_1024_S128x64
  refine cols V y (n := 64) (E := nearE u dt st b) 960 1024 rfl _ ?_ (fun q => ?_) q
  · exact is_head 15 111 960 rfl rfl rfl h.hA (is_cumT h.hA) h.xc h.s1 slices_S128x128_o0_111_S128x1 slices_S128x128_o111_0_S1x128 slices_S128x2048_o0_960_S128x64
  refine cols V y (n := 64) (E := nearE u dt st b) 896 960 rfl _ ?_ (fun q => ?_) q
  · exact is_head 14 110 896 rfl rfl rfl h.hA (is_cumT h.hA) h.xc h.s1 slices_S128x128_o0_110_S128x1 slices_S128x128_o110_0_S1x128 slices_S128x2048_o0_896_S128x64
  refine cols V y (n := 64) (E := nearE u dt st b) 832 896 rfl _ ?_ (fun q => ?_) q
  · exact is_head 13 109 832 rfl rfl rfl h.hA (is_cumT h.hA) h.xc h.s1 slices_S128x128_o0_109_S128x1 slices_S128x128_o109_0_S1x128 slices_S128x2048_o0_832_S128x64
  refine cols V y (n := 64) (E := nearE u dt st b) 768 832 rfl _ ?_ (fun q => ?_) q
  · exact is_head 12 108 768 rfl rfl rfl h.hA (is_cumT h.hA) h.xc h.s1 slices_S128x128_o0_108_S128x1 slices_S128x128_o108_0_S1x128 slices_S128x2048_o0_768_S128x64
  refine cols V y (n := 64) (E := nearE u dt st b) 704 768 rfl _ ?_ (fun q => ?_) q
  · exact is_head 11 107 704 rfl rfl rfl h.hA (is_cumT h.hA) h.xc h.s1 slices_S128x128_o0_107_S128x1 slices_S128x128_o107_0_S1x128 slices_S128x2048_o0_704_S128x64
  refine cols V y (n := 64) (E := nearE u dt st b) 640 704 rfl _ ?_ (fun q => ?_) q
  · exact is_head 10 106 640 rfl rfl rfl h.hA (is_cumT h.hA) h.xc h.s1 slices_S128x128_o0_106_S128x1 slices_S128x128_o106_0_S1x128 slices_S128x2048_o0_640_S128x64
  refine cols V y (n := 64) (E := nearE u dt st b) 576 640 rfl _ ?_ (fun q => ?_) q
  · exact is_head 9 105 576 rfl rfl rfl h.hA (is_cumT h.hA) h.xc h.s1 slices_S128x128_o0_105_S128x1 slices_S128x128_o105_0_S1x128 slices_S128x2048_o0_576_S128x64
  refine cols V y (n := 64) (E := nearE u dt st b) 512 576 rfl _ ?_ (fun q => ?_) q
  · exact is_head 8 104 512 rfl rfl rfl h.hA (is_cumT h.hA) h.xc h.s1 slices_S128x128_o0_104_S128x1 slices_S128x128_o104_0_S1x128 slices_S128x2048_o0_512_S128x64
  refine cols V y (n := 64) (E := nearE u dt st b) 448 512 rfl _ ?_ (fun q => ?_) q
  · exact is_head 7 103 448 rfl rfl rfl h.hA (is_cumT h.hA) h.xc h.s0 slices_S128x128_o0_103_S128x1 slices_S128x128_o103_0_S1x128 slices_S128x2048_o0_448_S128x64
  refine cols V y (n := 64) (E := nearE u dt st b) 384 448 rfl _ ?_ (fun q => ?_) q
  · exact is_head 6 102 384 rfl rfl rfl h.hA (is_cumT h.hA) h.xc h.s0 slices_S128x128_o0_102_S128x1 slices_S128x128_o102_0_S1x128 slices_S128x2048_o0_384_S128x64
  refine cols V y (n := 64) (E := nearE u dt st b) 320 384 rfl _ ?_ (fun q => ?_) q
  · exact is_head 5 101 320 rfl rfl rfl h.hA (is_cumT h.hA) h.xc h.s0 slices_S128x128_o0_101_S128x1 slices_S128x128_o101_0_S1x128 slices_S128x2048_o0_320_S128x64
  refine cols V y (n := 64) (E := nearE u dt st b) 256 320 rfl _ ?_ (fun q => ?_) q
  · exact is_head 4 100 256 rfl rfl rfl h.hA (is_cumT h.hA) h.xc h.s0 slices_S128x128_o0_100_S128x1 slices_S128x128_o100_0_S1x128 slices_S128x2048_o0_256_S128x64
  refine cols V y (n := 64) (E := nearE u dt st b) 192 256 rfl _ ?_ (fun q => ?_) q
  · exact is_head 3 99 192 rfl rfl rfl h.hA (is_cumT h.hA) h.xc h.s0 slices_S128x128_o0_99_S128x1 slices_S128x128_o99_0_S1x128 slices_S128x2048_o0_192_S128x64
  refine cols V y (n := 64) (E := nearE u dt st b) 128 192 rfl _ ?_ (fun q => ?_) q
  · exact is_head 2 98 128 rfl rfl rfl h.hA (is_cumT h.hA) h.xc h.s0 slices_S128x128_o0_98_S128x1 slices_S128x128_o98_0_S1x128 slices_S128x2048_o0_128_S128x64
  refine cols V y (n := 64) (E := nearE u dt st b) 64 128 rfl _ ?_ (fun q => ?_) q
  · exact is_head 1 97 64 rfl rfl rfl h.hA (is_cumT h.hA) h.xc h.s0 slices_S128x128_o0_97_S128x1 slices_S128x128_o97_0_S1x128 slices_S128x2048_o0_64_S128x64
  refine cols V y (n := 64) (E := nearE u dt st b) 0 64 rfl _ ?_ (fun q => ?_) q
  · exact is_head 0 96 0 rfl rfl rfl h.hA (is_cumT h.hA) h.xc h.s0 slices_S128x128_o0_96_S128x1 slices_S128x128_o96_0_S1x128 slices_S128x2048_o0_0_S128x64
  exact absurd q (Nat.not_lt_zero _)

/-- The heads' rows, read back 512 columns at a time. -/
theorem near_read (V : View sig .tc .vmem S128x2048 .f32) (p : ℕ) (inb) :
    Is (V.readCov (Val := Elt Ideal) (heads X B C D M N) (Rect.unit (s := S128x2048) ![0, p] S128x512.size inb).toLoadRect) (fun r n => near u dt st b r (p + n)) := fun r n => by
  refine (heads_at h V ((Rect.unit (s := S128x2048) ![0, p] S128x512.size inb).emb (ix2 r n))).trans ?_
  show ((near u dt st b (0 + 1 * r.val) (p + 1 * n.val) : ℝ) : EReal) = _
  rw [one_mul, one_mul, zero_add]

omit h in
/-- The state before the first block. -/
theorem zero_read (V : View sig .tc .vmem S128x2048 .f32) :
    Is (V.readCov (Val := Elt Ideal) [⟨Rect.unit ![0, 0] S128x2048.size inb_S128x2048_S128x2048_0_0, k0_pay2 (F := Ideal)⟩] (Rect.unit ![0, 0] S128x2048.size inb_S128x2048_S128x2048_0_0).toLoadRect) (fun n c => cell u dt st 0 n c) := fun r n => by
  show V.read (Elt Ideal) (V.writes (Elt Ideal) V.junk _) ((Rect.unit ![0, 0] S128x2048.size inb_S128x2048_S128x2048_0_0).emb (ix2 r n)) = _
  refine (cols V _ (E := fun _ _ => ((0 : ℝ) : EReal)) 0 2048 rfl inb_S128x2048_S128x2048_0_0 (fun r j => ?_) (fun q => absurd q (Nat.not_lt_zero _)) ?_).trans ?_
  · unfold k0_pay2
    rw [Idealize.ShloMosaic.shapeCast_self]
    exact zero_f32
  · show 0 + 1 * n.val < 2048
    omega
  · exact congrArg (fun x : ℝ => (x : EReal)) (state_zero ..).symm

theorem step0 : Is (k0_pay43 B (k0_pay29 D M N) (k0_pay31 X D M N) P) (fun n c => cell u dt st (b + 128) n (0 + c)) :=
  is_step h.hB (is_pay31 h.hD h.hA h.hX) h.hP (is_pay29 h.hD h.hA) 0 0 0 rfl rfl slices_S128x512_o0_0_S128x128 slices_S128x2048_o0_0_S128x512 slices_S1x2048_o0_0_S1x512
theorem step1 : Is (k0_pay44 B (k0_pay29 D M N) (k0_pay31 X D M N) P) (fun n c => cell u dt st (b + 128) n (512 + c)) :=
  is_step h.hB (is_pay31 h.hD h.hA h.hX) h.hP (is_pay29 h.hD h.hA) 128 512 1 rfl rfl slices_S128x512_o0_128_S128x128 slices_S128x2048_o0_512_S128x512 slices_S1x2048_o0_512_S1x512
theorem step2 : Is (k0_pay47 (k0_pay41 B (k0_pay31 X D M N)) (k0_pay45 P) (k0_pay46 (k0_pay29 D M N))) (fun n c => cell u dt st (b + 128) n (1024 + c)) :=
  is_step h.hB (is_pay31 h.hD h.hA h.hX) h.hP (is_pay29 h.hD h.hA) 256 1024 2 rfl rfl slices_S128x512_o0_256_S128x128 slices_S128x2048_o0_1024_S128x512 slices_S1x2048_o0_1024_S1x512
theorem step3 : Is (k0_pay48 (k0_pay29 D M N) P (k0_pay42 B (k0_pay31 X D M N))) (fun n c => cell u dt st (b + 128) n (1536 + c)) :=
  is_step h.hB (is_pay31 h.hD h.hA h.hX) h.hP (is_pay29 h.hD h.hA) 384 1536 3 rfl rfl slices_S128x512_o0_384_S128x128 slices_S128x2048_o0_1536_S128x512 slices_S1x2048_o0_1536_S1x512

theorem far0 : Is (k0_pay37 C P) (fun r c => far u dt st b r (0 + c)) := is_far h.hC h.hP 0 0 0 rfl rfl slices_S128x512_o0_0_S128x128 slices_S128x2048_o0_0_S128x512
theorem far1 : Is (k0_pay38 C P) (fun r c => far u dt st b r (512 + c)) := is_far h.hC h.hP 128 512 1 rfl rfl slices_S128x512_o0_128_S128x128 slices_S128x2048_o0_512_S128x512
theorem far2 : Is (k0_pay39 C P) (fun r c => far u dt st b r (1024 + c)) := is_far h.hC h.hP 256 1024 2 rfl rfl slices_S128x512_o0_256_S128x128 slices_S128x2048_o0_1024_S128x512
theorem far3 : Is (k0_pay40 C P) (fun r c => far u dt st b r (1536 + c)) := is_far h.hC h.hP 384 1536 3 rfl rfl slices_S128x512_o0_384_S128x128 slices_S128x2048_o0_1536_S128x512

section

variable {G nw : ℕ → ℝ} {z : ℕ → ℕ → ℝ} {R Z : Vec Ideal S128x512 .f32} {d w : Vec Ideal S1x512 .f32}

theorem out0 (hR : Is R (fun r n => near u dt st b r (0 + n))) (hZ : Is Z (fun r n => z (b + r) (0 + n))) (hd : Is d (fun _ n => G (0 + n))) (hw : Is w (fun _ n => nw (0 + n)))
    (r : Fin 128) (n : Fin 512) : (k0_pay100 (k0_pay97 X (k0_pay28 D M N) (k0_pay37 C P) R d) Z (k0_pay98 Z) k0_pay99 w) (ix2 r n) = entry u dt st G nw z (b + r.val) (0 + n.val) := by
  unfold k0_pay100 k0_pay97
  simp only [Idealize.ShloMosaic.shapeCast_self]
  exact is_out 0 0 rfl h.hb hR (far0 h) (is_pay28 h.hD h.hA) h.hX hZ hd hw slices_S128x2048_o0_0_S128x512 rfl r n

theorem out1 (hR : Is R (fun r n => near u dt st b r (512 + n))) (hZ : Is Z (fun r n => z (b + r) (512 + n))) (hd : Is d (fun _ n => G (512 + n))) (hw : Is w (fun _ n => nw (512 + n)))
    (r : Fin 128) (n : Fin 512) : (k0_pay103 (k0_pay101 X (k0_pay28 D M N) (k0_pay38 C P) R d Z) (k0_pay102 X (k0_pay28 D M N) (k0_pay38 C P) R d Z) w) (ix2 r n) = entry u dt st G nw z (b + r.val) (512 + n.val) := by
  unfold k0_pay103 k0_pay102 k0_pay101
  simp only [Idealize.ShloMosaic.shapeCast_self]
  exact is_out 1 512 rfl h.hb hR (far1 h) (is_pay28 h.hD h.hA) h.hX hZ hd hw slices_S128x2048_o0_512_S128x512 rfl r n

theorem out2 (hR : Is R (fun r n => near u dt st b r (1024 + n))) (hZ : Is Z (fun r n => z (b + r) (1024 + n))) (hd : Is d (fun _ n => G (1024 + n))) (hw : Is w (fun _ n => nw (1024 + n)))
    (r : Fin 128) (n : Fin 512) : (k0_pay106 (k0_pay104 X (k0_pay28 D M N) (k0_pay39 C P) R d Z) (k0_pay105 X (k0_pay28 D M N) (k0_pay39 C P) R d Z) w) (ix2 r n) = entry u dt st G nw z (b + r.val) (1024 + n.val) := by
  unfold k0_pay106 k0_pay105 k0_pay104
  simp only [Idealize.ShloMosaic.shapeCast_self]
  exact is_out 2 1024 rfl h.hb hR (far2 h) (is_pay28 h.hD h.hA) h.hX hZ hd hw slices_S128x2048_o0_1024_S128x512 rfl r n

theorem out3 (hR : Is R (fun r n => near u dt st b r (1536 + n))) (hZ : Is Z (fun r n => z (b + r) (1536 + n))) (hd : Is d (fun _ n => G (1536 + n))) (hw : Is w (fun _ n => nw (1536 + n)))
    (r : Fin 128) (n : Fin 512) : (k0_pay1 (k0_pay107 X (k0_pay28 D M N) (k0_pay40 C P) R d Z) (k0_pay108 w)) (ix2 r n) = entry u dt st G nw z (b + r.val) (1536 + n.val) := by
  unfold k0_pay1 k0_pay107 k0_pay108
  simp only [Idealize.ShloMosaic.shapeCast_self]
  exact is_out 3 1536 rfl h.hb hR (far3 h) (is_pay28 h.hD h.hA) h.hX hZ hd hw slices_S128x2048_o0_1536_S128x512 rfl r n

end

omit h in
/-- Four stores of 512 columns, side by side over whatever was there. -/
theorem four_read {e : EltTy} (V : View sig .tc .vmem S128x2048 e) {E : ℕ → ℕ → Elt Ideal e} {T : List (View.Piece (Elt Ideal) S128x2048 e)} {w3 w2 w1 w0 : Vec Ideal S128x512 e}
    (h3 : ∀ (r : Fin 128) (n : Fin 512), w3 (ix2 r n) = E r.val (1536 + n.val)) (h2 : ∀ (r : Fin 128) (n : Fin 512), w2 (ix2 r n) = E r.val (1024 + n.val))
    (h1 : ∀ (r : Fin 128) (n : Fin 512), w1 (ix2 r n) = E r.val (512 + n.val)) (h0 : ∀ (r : Fin 128) (n : Fin 512), w0 (ix2 r n) = E r.val (0 + n.val)) (y : S128x2048.Idx) :
    V.read (Elt Ideal) (V.writes (Elt Ideal) V.junk (⟨Rect.unit ![0, 1536] S128x512.size inb_S128x2048_S128x512_0_1536, w3⟩ :: ⟨Rect.unit ![0, 1024] S128x512.size inb_S128x2048_S128x512_0_1024, w2⟩
      :: ⟨Rect.unit ![0, 512] S128x512.size inb_S128x2048_S128x512_0_512, w1⟩ :: ⟨Rect.unit ![0, 0] S128x512.size inb_S128x2048_S128x512_0_0, w0⟩ :: T)) y = E (y 0).val (y 1).val :=
  cols V y 1536 2048 rfl inb_S128x2048_S128x512_0_1536 h3 (fun q => cols V y 1024 1536 rfl inb_S128x2048_S128x512_0_1024 h2 (fun q => cols V y 512 1024 rfl inb_S128x2048_S128x512_0_512 h1
    (fun q => cols V y 0 512 rfl inb_S128x2048_S128x512_0_0 h0 (fun q => absurd q (Nat.not_lt_zero _)) q) q) q) (y 1).isLt

end Cert.SsdRead

end
-- ==== Proof.SsdRun.lean ====
/-
  A point of the state space duality's grid: what the body leaves in the state's scratch and in the output's block.
-/
module

public import proofs.«01_k».proof.Proof.SsdRead
public import proofs.«01_k».proof.Proof.Gen.KernelSsdIdeal.Frame

@[expose] public section

set_option maxRecDepth 4000

noncomputable section

open scoped BigOperators

namespace Cert.SsdRun

open Idealize.ShloMosaic
open Idealize.ShloMosaic.ValueIdx Cert.Lin Cert.AttnReal Cert.AttnOps Cert.AttnPay Cert.SsdReal Cert.SsdPay Cert.SsdRead Cert.KernelSsdIdeal Cert.KernelSsdIdeal.Gen

/-- A load of a part of a whole operand. -/
theorem is_ld {a b c d : ℕ} (m : Memref sig .tc .vmem ⟨2, ![a, b]⟩ .f32) (hm : m.IsWhole) {x : Vec Ideal ⟨2, ![a, b]⟩ .f32} {g f : ℕ → ℕ → ℝ} (o p : ℕ)
    (inb : ∀ i, (![o, p] : Fin 2 → ℕ) i + (![c, d] : Fin 2 → ℕ) i ≤ (![a, b] : Fin 2 → ℕ) i) (h : Is x g) (hf : ∀ r j, r < c → g (o + r) (p + j) = f r j := by intros; simp only [zero_add]) :
    Is (View.readAt (Elt Ideal) m.view (Rect.unit (s := ⟨2, ![a, b]⟩) ![o, p] ![c, d] inb).toLoadRect (hm.unread x)) f := fun r j => by
  rw [View.readAt_apply, hm.read_unread, ← hf r.val j.val r.isLt]
  refine (h.at _).trans ?_
  show (g (o + 1 * r.val) (p + 1 * j.val) : EReal) = _
  rw [one_mul, one_mul]

theorem first_eq {i : grid0.Coords} {b : ℕ} (hi : b = 128 * (i 0).val) : Scalar.cmpi .eq (BitVec.ofNat 32 (i 0).val) 0#32 = if b = 0 then 1#1 else 0#1 := by
  have key : ∀ n : Fin 64, Scalar.cmpi .eq (BitVec.ofNat 32 n.val) 0#32 = if 128 * n.val = 0 then 1#1 else 0#1 := by decide
  subst hi
  exact key (i 0)

variable {P PS W H G N : ℕ → ℕ → ℝ} {b : ℕ}

section

variable {i : grid0.Coords} (hi : b = 128 * (i 0).val)
include hi

theorem halo_ok : b = 0 ∨ 8 ≤ b := by omega

theorem is_pay3 {x : Vec Ideal S8x2048 .f32} (h : Is x (fun r j => P (b - 8 + r) (2048 + j))) : Is (k0_pay3 i x) (fun r j => buf P 2048 b (0 + r) j) := by
  unfold k0_pay3
  simp only [Idealize.ShloMosaic.shapeCast_self]
  exact is_halo (first_eq hi) (halo_ok hi) (by decide) h
theorem is_pay8 {x : Vec Ideal S8x512 .f32} (h : Is x (fun r j => P (b - 8 + r) (4096 + j))) : Is (k0_pay8 (Scalar.cmpi .eq (BitVec.ofNat 32 (i 0).val) 0#32) x) (fun r j => buf P 4096 b (0 + r) j) := by
  unfold k0_pay8
  simp only [Idealize.ShloMosaic.shapeCast_self]
  exact is_halo (first_eq hi) (halo_ok hi) (by decide) h
theorem is_pay13 {x : Vec Ideal S8x512 .f32} (h : Is x (fun r j => P (b - 8 + r) (4608 + j))) : Is (k0_pay13 (Scalar.cmpi .eq (BitVec.ofNat 32 (i 0).val) 0#32) x) (fun r j => buf P 4608 b (0 + r) j) := by
  unfold k0_pay13
  simp only [Idealize.ShloMosaic.shapeCast_self]
  exact is_halo (first_eq hi) (halo_ok hi) (by decide) h

end

theorem body_eq {o r j : ℕ} : buf P o b (8 + r) j = P (b + r) (o + j) := by
  unfold buf
  rw [if_neg (by omega), show b + (8 + r) - 8 = b + r by omega]

theorem is_pay4 {x : Vec Ideal S128x2048 .f32} (h : Is x (fun r j => P (b + r) (2048 + j))) : Is (k0_pay4 x) (fun r j => buf P 2048 b (8 + r) j) := by
  unfold k0_pay4
  simp only [Idealize.ShloMosaic.shapeCast_self]
  exact h.congr fun r j _ _ => body_eq.symm
theorem is_pay9 {x : Vec Ideal S128x512 .f32} (h : Is x (fun r j => P (b + r) (4096 + j))) : Is (k0_pay9 x) (fun r j => buf P 4096 b (8 + r) j) := by
  unfold k0_pay9
  simp only [Idealize.ShloMosaic.shapeCast_self]
  exact h.congr fun r j _ _ => body_eq.symm
theorem is_pay14 {x : Vec Ideal S128x512 .f32} (h : Is x (fun r j => P (b + r) (4608 + j))) : Is (k0_pay14 x) (fun r j => buf P 4608 b (8 + r) j) := by
  unfold k0_pay14
  simp only [Idealize.ShloMosaic.shapeCast_self]
  exact h.congr fun r j _ _ => body_eq.symm

section

variable (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x128 .f32) (harg5 : arg5.IsWhole) (arg6 : Memref sig .tc .vmem S8x2048 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S8x2048 .f32) (harg9 : arg9.IsWhole) (arg10 : Memref sig .tc .vmem S8x512 .f32) (harg10 : arg10.IsWhole) (arg11 : Memref sig .tc .vmem S8x512 .f32) (harg11 : arg11.IsWhole) (arg12 : Memref sig .tc .vmem S8x128 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S128x2048 .bf16) (harg15 : arg15.IsWhole) (arg16 : Memref sig .tc .vmem S128x2048 .f32) (harg16 : arg16.IsWhole) (arg17 : Memref sig .tc .vmem S136x2048 .f32) (harg17 : arg17.IsWhole) (arg18 : Memref sig .tc .vmem S136x512 .f32) (harg18 : arg18.IsWhole) (arg19 : Memref sig .tc .vmem S136x512 .f32) (harg19 : arg19.IsWhole) (arg20 : Memref sig .tc .vmem S128x2048 .f32) (harg20 : arg20.IsWhole)
    (x0 : Vec Ideal S128x2048 .f32) (x1 : Vec Ideal S128x2048 .f32) (x2 : Vec Ideal S128x512 .f32) (x3 : Vec Ideal S128x512 .f32) (x4 : Vec Ideal S128x128 .f32) (x5 : Vec Ideal S8x2048 .f32) (x6 : Vec Ideal S8x512 .f32) (x7 : Vec Ideal S8x512 .f32) (x8 : Vec Ideal S8x2048 .f32) (x9 : Vec Ideal S8x512 .f32) (x10 : Vec Ideal S8x512 .f32) (x11 : Vec Ideal S8x128 .f32) (x12 : Vec Ideal S8x2048 .f32) (x13 : Vec Ideal S8x2048 .f32)
    (hi : b = 128 * (i 0).val) (h0 : Is x0 (fun r j => P (b + r) j)) (h1 : Is x1 (fun r j => P (b + r) (2048 + j))) (h2 : Is x2 (fun r j => P (b + r) (4096 + j))) (h3 : Is x3 (fun r j => P (b + r) (4608 + j)))
    (h4 : Is x4 (fun r l => PS (b + r) (384 + l))) (h5 : Is x5 (fun r j => P (b - 8 + r) (2048 + j))) (h6 : Is x6 (fun r j => P (b - 8 + r) (4096 + j))) (h7 : Is x7 (fun r j => P (b - 8 + r) (4608 + j)))
    (h8 : Is x8 W) (h9 : Is x9 (fun r j => W r (2048 + j))) (h10 : Is x10 (fun r j => W r (2560 + j))) (h11 : Is x11 H) (h12 : Is x12 G) (h13 : Is x13 N)
include hi h0 h1 h2 h3 h4 h5 h6 h7 h8 h9 h10 h11 h12 h13

/-- A point's body at the first point, over the cleared state. -/
theorem pointA (hc0 : cond0_0 i) (hb0 : b = 0)
    : (∀ y : S128x2048.Idx, sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 y = ((cell (U P W) (dts PS H) (sts PS H) (b + 128) (y 0).val (y 1).val : ℝ) : EReal))
    ∧ ∀ y : S128x2048.Idx, out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 y = entry (U P W) (dts PS H) (sts PS H) (G 0) (N 0) P (b + (y 0).val) (y 1).val := by
  have hb : b + 128 ≤ 8192 := by
    have : (i 0).val < 64 := (i 0).isLt
    omega
  have e0 : Is (kernelRun0_A.sl.v13 (F := Ideal) c i arg2 harg2 arg6 harg6 arg17 x1 x5) (buf P 2048 b) := buf_read arg17.view _ _ _ (is_pay4 (is_ld arg2 harg2 0 0 inb_S128x2048_S128x2048_0_0 h1)) (is_pay3 hi (is_ld arg6 harg6 0 0 inb_S8x2048_S8x2048_0_0 h5))
  have e1 : Is (kernelRun0_A.sl.v62 (F := Ideal) c i arg3 harg3 arg7 harg7 arg18 x2 x6) (buf P 4096 b) := buf_read arg18.view _ _ _ (is_pay9 (is_ld arg3 harg3 0 0 inb_S128x512_S128x512_0_0 h2)) (is_pay8 hi (is_ld arg7 harg7 0 0 inb_S8x512_S8x512_0_0 h6))
  have e2 : Is (kernelRun0_A.sl.v112 (F := Ideal) c i arg4 harg4 arg8 harg8 arg19 x3 x7) (buf P 4608 b) := buf_read arg19.view _ _ _ (is_pay14 (is_ld arg4 harg4 0 0 inb_S128x512_S128x512_0_0 h3)) (is_pay13 hi (is_ld arg8 harg8 0 0 inb_S8x512_S8x512_0_0 h7))
  have d0 : Is _ (fun r l => PS (b + r) (384 + l)) := is_ld arg5 harg5 (c := 128) (d := 128) 0 0 inb_S128x128_S128x128_0_0 h4
  have d1 : Is _ (fun r l => H (0 + r) (0 + l)) := is_ld (hf := fun _ _ _ => rfl) arg12 harg12 (c := 1) (d := 128) 0 0 inb_S8x128_S1x128_0_0 h11
  have d2 : Is _ (fun r l => H (1 + r) (0 + l)) := is_ld (hf := fun _ _ _ => rfl) arg12 harg12 (c := 1) (d := 128) 1 0 inb_S8x128_S1x128_1_0 h11
  have K : Blk (U P W) (dts PS H) (sts PS H) b (kernelRun0_A.sl.r_3 (F := Ideal) c i arg2 harg2 arg6 harg6 arg9 harg9 arg17 x1 x5 x8) (kernelRun0_A.sl.r_6 (F := Ideal) c i arg3 harg3 arg7 harg7 arg10 harg10 arg18 x2 x6 x9) (kernelRun0_A.sl.r_10 (F := Ideal) c i arg4 harg4 arg8 harg8 arg11 harg11 arg19 x3 x7 x10) (kernelRun0_A.sl.r_11 (F := Ideal) c arg5 harg5 arg12 harg12 x4 x11) (kernelRun0_A.sl.r_12 (F := Ideal) c arg5 harg5 arg12 harg12 x4 x11) (kernelRun0_A.sl.r_13 (F := Ideal) c arg5 harg5 arg12 harg12 x4 x11) (kernelRun0_A.sl.v243 (F := Ideal) c arg16) :=
    ⟨hb, is_x e0 (is_ld arg9 harg9 4 0 inb_S8x2048_S1x2048_4_0 h8) (is_ld arg9 harg9 3 0 inb_S8x2048_S1x2048_3_0 h8) (is_ld arg9 harg9 2 0 inb_S8x2048_S1x2048_2_0 h8) (is_ld arg9 harg9 1 0 inb_S8x2048_S1x2048_1_0 h8) (is_ld arg9 harg9 0 0 inb_S8x2048_S1x2048_0_0 h8),
      is_b e1 (is_ld arg10 harg10 4 0 inb_S8x512_S1x512_4_0 h9) (is_ld arg10 harg10 3 0 inb_S8x512_S1x512_3_0 h9) (is_ld arg10 harg10 2 0 inb_S8x512_S1x512_2_0 h9) (is_ld arg10 harg10 1 0 inb_S8x512_S1x512_1_0 h9) (is_ld arg10 harg10 0 0 inb_S8x512_S1x512_0_0 h9),
      is_c e2 (is_ld arg11 harg11 4 0 inb_S8x512_S1x512_4_0 h10) (is_ld arg11 harg11 3 0 inb_S8x512_S1x512_3_0 h10) (is_ld arg11 harg11 2 0 inb_S8x512_S1x512_2_0 h10) (is_ld arg11 harg11 1 0 inb_S8x512_S1x512_1_0 h10) (is_ld arg11 harg11 0 0 inb_S8x512_S1x512_0_0 h10),
      is_dt d0 d1, is_cum (is_st d0 d1 d2), by subst hb0; exact zero_read arg16.view⟩
  have n0 : Is (kernelRun0_A.sl.v816 (F := Ideal) c i arg2 harg2 arg3 harg3 arg4 harg4 arg5 harg5 arg6 harg6 arg7 harg7 arg8 harg8 arg9 harg9 arg10 harg10 arg11 harg11 arg12 harg12 arg17 arg18 arg19 arg20 x1 x2 x3 x4 x5 x6 x7 x8 x9 x10 x11) (fun r n => near (U P W) (dts PS H) (sts PS H) b r (0 + n)) := near_read K arg20.view 0 inb_S128x2048_S128x512_0_0
  have n1 : Is (kernelRun0_A.sl.v852 (F := Ideal) c i arg2 harg2 arg3 harg3 arg4 harg4 arg5 harg5 arg6 harg6 arg7 harg7 arg8 harg8 arg9 harg9 arg10 harg10 arg11 harg11 arg12 harg12 arg17 arg18 arg19 arg20 x1 x2 x3 x4 x5 x6 x7 x8 x9 x10 x11) (fun r n => near (U P W) (dts PS H) (sts PS H) b r (512 + n)) := near_read K arg20.view 512 inb_S128x2048_S128x512_0_512
  have n2 : Is (kernelRun0_A.sl.v888 (F := Ideal) c i arg2 harg2 arg3 harg3 arg4 harg4 arg5 harg5 arg6 harg6 arg7 harg7 arg8 harg8 arg9 harg9 arg10 harg10 arg11 harg11 arg12 harg12 arg17 arg18 arg19 arg20 x1 x2 x3 x4 x5 x6 x7 x8 x9 x10 x11) (fun r n => near (U P W) (dts PS H) (sts PS H) b r (1024 + n)) := near_read K arg20.view 1024 inb_S128x2048_S128x512_0_1024
  have n3 : Is (kernelRun0_A.sl.v924 (F := Ideal) c i arg2 harg2 arg3 harg3 arg4 harg4 arg5 harg5 arg6 harg6 arg7 harg7 arg8 harg8 arg9 harg9 arg10 harg10 arg11 harg11 arg12 harg12 arg17 arg18 arg19 arg20 x1 x2 x3 x4 x5 x6 x7 x8 x9 x10 x11) (fun r n => near (U P W) (dts PS H) (sts PS H) b r (1536 + n)) := near_read K arg20.view 1536 inb_S128x2048_S128x512_0_1536
  have z0 : Is _ (fun r n => P (b + r) (0 + n)) := is_ld arg1 harg1 (c := 128) (d := 512) 0 0 inb_S128x2048_S128x512_0_0 h0 fun r n _ => by rw [zero_add]
  have g0 : Is _ (fun _ n => G 0 (0 + n)) := is_ld arg13 harg13 (c := 1) (d := 512) 0 0 inb_S8x2048_S1x512_0_0 h12 fun r n hr => by rw [show r = 0 by omega]
  have w0 : Is _ (fun _ n => N 0 (0 + n)) := is_ld arg14 harg14 (c := 1) (d := 512) 0 0 inb_S8x2048_S1x512_0_0 h13 fun r n hr => by rw [show r = 0 by omega]
  have z1 : Is _ (fun r n => P (b + r) (512 + n)) := is_ld arg1 harg1 (c := 128) (d := 512) 0 512 inb_S128x2048_S128x512_0_512 h0 fun r n _ => by rw [zero_add]
  have g1 : Is _ (fun _ n => G 0 (512 + n)) := is_ld arg13 harg13 (c := 1) (d := 512) 0 512 inb_S8x2048_S1x512_0_512 h12 fun r n hr => by rw [show r = 0 by omega]
  have w1 : Is _ (fun _ n => N 0 (512 + n)) := is_ld arg14 harg14 (c := 1) (d := 512) 0 512 inb_S8x2048_S1x512_0_512 h13 fun r n hr => by rw [show r = 0 by omega]
  have z2 : Is _ (fun r n => P (b + r) (1024 + n)) := is_ld arg1 harg1 (c := 128) (d := 512) 0 1024 inb_S128x2048_S128x512_0_1024 h0 fun r n _ => by rw [zero_add]
  have g2 : Is _ (fun _ n => G 0 (1024 + n)) := is_ld arg13 harg13 (c := 1) (d := 512) 0 1024 inb_S8x2048_S1x512_0_1024 h12 fun r n hr => by rw [show r = 0 by omega]
  have w2 : Is _ (fun _ n => N 0 (1024 + n)) := is_ld arg14 harg14 (c := 1) (d := 512) 0 1024 inb_S8x2048_S1x512_0_1024 h13 fun r n hr => by rw [show r = 0 by omega]
  have z3 : Is _ (fun r n => P (b + r) (1536 + n)) := is_ld arg1 harg1 (c := 128) (d := 512) 0 1536 inb_S128x2048_S128x512_0_1536 h0 fun r n _ => by rw [zero_add]
  have g3 : Is _ (fun _ n => G 0 (1536 + n)) := is_ld arg13 harg13 (c := 1) (d := 512) 0 1536 inb_S8x2048_S1x512_0_1536 h12 fun r n hr => by rw [show r = 0 by omega]
  have w3 : Is _ (fun _ n => N 0 (1536 + n)) := is_ld arg14 harg14 (c := 1) (d := 512) 0 1536 inb_S8x2048_S1x512_0_1536 h13 fun r n hr => by rw [show r = 0 by omega]
  refine ⟨fun y => ?_, fun y => ?_⟩
  · unfold sout0_A_0
    exact four_read VS0_0 (E := fun n c => ((cell (U P W) (dts PS H) (sts PS H) (b + 128) n c : ℝ) : EReal)) (step3 K) (step2 K) (step1 K) (step0 K) y
  · unfold out0_A_14
    exact four_read VO0_14 (E := fun r c => entry (U P W) (dts PS H) (sts PS H) (G 0) (N 0) P (b + r) c) (out3 K n3 z3 g3 w3) (out2 K n2 z2 g2 w2) (out1 K n1 z1 g1 w1) (out0 K n0 z0 g0 w0) y

/-- A point's body at a later point, over the state the point before left. -/
theorem pointB (hc0 : ¬cond0_0 i) (xs0 : Vec Ideal S128x2048 .f32) (hs : Is xs0 (fun n c => cell (U P W) (dts PS H) (sts PS H) b n c))
    : (∀ y : S128x2048.Idx, sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xs0 y = ((cell (U P W) (dts PS H) (sts PS H) (b + 128) (y 0).val (y 1).val : ℝ) : EReal))
    ∧ ∀ y : S128x2048.Idx, out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 xs0 y = entry (U P W) (dts PS H) (sts PS H) (G 0) (N 0) P (b + (y 0).val) (y 1).val := by
  have hb : b + 128 ≤ 8192 := by
    have : (i 0).val < 64 := (i 0).isLt
    omega
  have e0 : Is (kernelRun0_B.sl.v13 (F := Ideal) c i arg2 harg2 arg6 harg6 arg17 x1 x5) (buf P 2048 b) := buf_read arg17.view _ _ _ (is_pay4 (is_ld arg2 harg2 0 0 inb_S128x2048_S128x2048_0_0 h1)) (is_pay3 hi (is_ld arg6 harg6 0 0 inb_S8x2048_S8x2048_0_0 h5))
  have e1 : Is (kernelRun0_B.sl.v62 (F := Ideal) c i arg3 harg3 arg7 harg7 arg18 x2 x6) (buf P 4096 b) := buf_read arg18.view _ _ _ (is_pay9 (is_ld arg3 harg3 0 0 inb_S128x512_S128x512_0_0 h2)) (is_pay8 hi (is_ld arg7 harg7 0 0 inb_S8x512_S8x512_0_0 h6))
  have e2 : Is (kernelRun0_B.sl.v112 (F := Ideal) c i arg4 harg4 arg8 harg8 arg19 x3 x7) (buf P 4608 b) := buf_read arg19.view _ _ _ (is_pay14 (is_ld arg4 harg4 0 0 inb_S128x512_S128x512_0_0 h3)) (is_pay13 hi (is_ld arg8 harg8 0 0 inb_S8x512_S8x512_0_0 h7))
  have d0 : Is _ (fun r l => PS (b + r) (384 + l)) := is_ld arg5 harg5 (c := 128) (d := 128) 0 0 inb_S128x128_S128x128_0_0 h4
  have d1 : Is _ (fun r l => H (0 + r) (0 + l)) := is_ld (hf := fun _ _ _ => rfl) arg12 harg12 (c := 1) (d := 128) 0 0 inb_S8x128_S1x128_0_0 h11
  have d2 : Is _ (fun r l => H (1 + r) (0 + l)) := is_ld (hf := fun _ _ _ => rfl) arg12 harg12 (c := 1) (d := 128) 1 0 inb_S8x128_S1x128_1_0 h11
  have K : Blk (U P W) (dts PS H) (sts PS H) b (kernelRun0_B.sl.r_3 (F := Ideal) c i arg2 harg2 arg6 harg6 arg9 harg9 arg17 x1 x5 x8) (kernelRun0_B.sl.r_6 (F := Ideal) c i arg3 harg3 arg7 harg7 arg10 harg10 arg18 x2 x6 x9) (kernelRun0_B.sl.r_10 (F := Ideal) c i arg4 harg4 arg8 harg8 arg11 harg11 arg19 x3 x7 x10) (kernelRun0_B.sl.r_11 (F := Ideal) c arg5 harg5 arg12 harg12 x4 x11) (kernelRun0_B.sl.r_12 (F := Ideal) c arg5 harg5 arg12 harg12 x4 x11) (kernelRun0_B.sl.r_13 (F := Ideal) c arg5 harg5 arg12 harg12 x4 x11) (kernelRun0_B.sl.r_24 (F := Ideal) c arg16 harg16 xs0) :=
    ⟨hb, is_x e0 (is_ld arg9 harg9 4 0 inb_S8x2048_S1x2048_4_0 h8) (is_ld arg9 harg9 3 0 inb_S8x2048_S1x2048_3_0 h8) (is_ld arg9 harg9 2 0 inb_S8x2048_S1x2048_2_0 h8) (is_ld arg9 harg9 1 0 inb_S8x2048_S1x2048_1_0 h8) (is_ld arg9 harg9 0 0 inb_S8x2048_S1x2048_0_0 h8),
      is_b e1 (is_ld arg10 harg10 4 0 inb_S8x512_S1x512_4_0 h9) (is_ld arg10 harg10 3 0 inb_S8x512_S1x512_3_0 h9) (is_ld arg10 harg10 2 0 inb_S8x512_S1x512_2_0 h9) (is_ld arg10 harg10 1 0 inb_S8x512_S1x512_1_0 h9) (is_ld arg10 harg10 0 0 inb_S8x512_S1x512_0_0 h9),
      is_c e2 (is_ld arg11 harg11 4 0 inb_S8x512_S1x512_4_0 h10) (is_ld arg11 harg11 3 0 inb_S8x512_S1x512_3_0 h10) (is_ld arg11 harg11 2 0 inb_S8x512_S1x512_2_0 h10) (is_ld arg11 harg11 1 0 inb_S8x512_S1x512_1_0 h10) (is_ld arg11 harg11 0 0 inb_S8x512_S1x512_0_0 h10),
      is_dt d0 d1, is_cum (is_st d0 d1 d2), is_ld arg16 harg16 0 0 inb_S128x2048_S128x2048_0_0 hs⟩
  have n0 : Is (kernelRun0_B.sl.v816 (F := Ideal) c i arg2 harg2 arg3 harg3 arg4 harg4 arg5 harg5 arg6 harg6 arg7 harg7 arg8 harg8 arg9 harg9 arg10 harg10 arg11 harg11 arg12 harg12 arg17 arg18 arg19 arg20 x1 x2 x3 x4 x5 x6 x7 x8 x9 x10 x11) (fun r n => near (U P W) (dts PS H) (sts PS H) b r (0 + n)) := near_read K arg20.view 0 inb_S128x2048_S128x512_0_0
  have n1 : Is (kernelRun0_B.sl.v852 (F := Ideal) c i arg2 harg2 arg3 harg3 arg4 harg4 arg5 harg5 arg6 harg6 arg7 harg7 arg8 harg8 arg9 harg9 arg10 harg10 arg11 harg11 arg12 harg12 arg17 arg18 arg19 arg20 x1 x2 x3 x4 x5 x6 x7 x8 x9 x10 x11) (fun r n => near (U P W) (dts PS H) (sts PS H) b r (512 + n)) := near_read K arg20.view 512 inb_S128x2048_S128x512_0_512
  have n2 : Is (kernelRun0_B.sl.v888 (F := Ideal) c i arg2 harg2 arg3 harg3 arg4 harg4 arg5 harg5 arg6 harg6 arg7 harg7 arg8 harg8 arg9 harg9 arg10 harg10 arg11 harg11 arg12 harg12 arg17 arg18 arg19 arg20 x1 x2 x3 x4 x5 x6 x7 x8 x9 x10 x11) (fun r n => near (U P W) (dts PS H) (sts PS H) b r (1024 + n)) := near_read K arg20.view 1024 inb_S128x2048_S128x512_0_1024
  have n3 : Is (kernelRun0_B.sl.v924 (F := Ideal) c i arg2 harg2 arg3 harg3 arg4 harg4 arg5 harg5 arg6 harg6 arg7 harg7 arg8 harg8 arg9 harg9 arg10 harg10 arg11 harg11 arg12 harg12 arg17 arg18 arg19 arg20 x1 x2 x3 x4 x5 x6 x7 x8 x9 x10 x11) (fun r n => near (U P W) (dts PS H) (sts PS H) b r (1536 + n)) := near_read K arg20.view 1536 inb_S128x2048_S128x512_0_1536
  have z0 : Is _ (fun r n => P (b + r) (0 + n)) := is_ld arg1 harg1 (c := 128) (d := 512) 0 0 inb_S128x2048_S128x512_0_0 h0 fun r n _ => by rw [zero_add]
  have g0 : Is _ (fun _ n => G 0 (0 + n)) := is_ld arg13 harg13 (c := 1) (d := 512) 0 0 inb_S8x2048_S1x512_0_0 h12 fun r n hr => by rw [show r = 0 by omega]
  have w0 : Is _ (fun _ n => N 0 (0 + n)) := is_ld arg14 harg14 (c := 1) (d := 512) 0 0 inb_S8x2048_S1x512_0_0 h13 fun r n hr => by rw [show r = 0 by omega]
  have z1 : Is _ (fun r n => P (b + r) (512 + n)) := is_ld arg1 harg1 (c := 128) (d := 512) 0 512 inb_S128x2048_S128x512_0_512 h0 fun r n _ => by rw [zero_add]
  have g1 : Is _ (fun _ n => G 0 (512 + n)) := is_ld arg13 harg13 (c := 1) (d := 512) 0 512 inb_S8x2048_S1x512_0_512 h12 fun r n hr => by rw [show r = 0 by omega]
  have w1 : Is _ (fun _ n => N 0 (512 + n)) := is_ld arg14 harg14 (c := 1) (d := 512) 0 512 inb_S8x2048_S1x512_0_512 h13 fun r n hr => by rw [show r = 0 by omega]
  have z2 : Is _ (fun r n => P (b + r) (1024 + n)) := is_ld arg1 harg1 (c := 128) (d := 512) 0 1024 inb_S128x2048_S128x512_0_1024 h0 fun r n _ => by rw [zero_add]
  have g2 : Is _ (fun _ n => G 0 (1024 + n)) := is_ld arg13 harg13 (c := 1) (d := 512) 0 1024 inb_S8x2048_S1x512_0_1024 h12 fun r n hr => by rw [show r = 0 by omega]
  have w2 : Is _ (fun _ n => N 0 (1024 + n)) := is_ld arg14 harg14 (c := 1) (d := 512) 0 1024 inb_S8x2048_S1x512_0_1024 h13 fun r n hr => by rw [show r = 0 by omega]
  have z3 : Is _ (fun r n => P (b + r) (1536 + n)) := is_ld arg1 harg1 (c := 128) (d := 512) 0 1536 inb_S128x2048_S128x512_0_1536 h0 fun r n _ => by rw [zero_add]
  have g3 : Is _ (fun _ n => G 0 (1536 + n)) := is_ld arg13 harg13 (c := 1) (d := 512) 0 1536 inb_S8x2048_S1x512_0_1536 h12 fun r n hr => by rw [show r = 0 by omega]
  have w3 : Is _ (fun _ n => N 0 (1536 + n)) := is_ld arg14 harg14 (c := 1) (d := 512) 0 1536 inb_S8x2048_S1x512_0_1536 h13 fun r n hr => by rw [show r = 0 by omega]
  refine ⟨fun y => ?_, fun y => ?_⟩
  · unfold sout0_B_0
    exact four_read VS0_0 (E := fun n c => ((cell (U P W) (dts PS H) (sts PS H) (b + 128) n c : ℝ) : EReal)) (step3 K) (step2 K) (step1 K) (step0 K) y
  · unfold out0_B_14
    exact four_read VO0_14 (E := fun r c => entry (U P W) (dts PS H) (sts PS H) (G 0) (N 0) P (b + r) c) (out3 K n3 z3 g3 w3) (out2 K n2 z2 g2 w2) (out1 K n1 z1 g1 w1) (out0 K n0 z0 g0 w0) y

end

end Cert.SsdRun

end
-- ==== Proof.SsdRef.lean ====
/-
  The state space duality's reference, read entry by entry over real inputs.
-/
module

public import proofs.«01_k».proof.Proof.SsdPay
public import proofs.«01_k».proof.Proof.AttnRef
public import proofs.«01_k».proof.Proof.Gen.ReferenceSsdIdeal.Read
import Idealize.ShloMosaic.Lib.WordCmp

@[expose] public section

noncomputable section

open scoped BigOperators

namespace Cert.SsdRef

open Idealize.ShloMosaic Idealize.ShloMosaic.ValueIdx Cert.AttnReal Cert.AttnOps Cert.AttnPay Cert.SsdReal Cert.SsdPay
open Cert.ReferenceSsdIdeal Cert.ReferenceSsdIdeal.Read

variable {x0 : Vec Ideal S8192x5120 .f32} {x1 : Vec Ideal S8192x512 .f32} {x2 : Vec Ideal S4x3072 .f32} {x3 : Vec Ideal S3072 .f32} {x4 x5 x6 : Vec Ideal S32 .f32} {x7 : Vec Ideal S2048 .f32}
  {P Q W H : ℕ → ℕ → ℝ} {D NW : ℕ → ℝ}

/-- A number's gate, as the reference spells it. -/
theorem act_eq (g : ℝ) : (g : EReal) * Ideal.div (Ideal.ofBits .f32 0x3F800000#32) (Ideal.ofBits .f32 0x3F800000#32 + Ideal.exp (-(g : EReal))) = (act g : EReal) := by
  unfold act
  rw [one_f32, ← EReal.coe_neg, Ideal.exp_coe, ← EReal.coe_add, Ideal.div_coe (by positivity), ← EReal.coe_mul, ← EReal.coe_mul]
  simp

section
variable (h0 : ∀ i, x0 i = (P (i 0).val (i 1).val : EReal))
include h0

/-- The tokens under three rows of zeros. -/
theorem v3_at (i : S8195x3072.Idx) : val_main_v3 (F := Ideal) x0 i = (tap P (i 0).val 3 (2048 + (i 1).val) : EReal) := by
  have b0 : (i 0).val < 8195 := (i 0).isLt
  have b1 : (i 1).val < 3072 := (i 1).isLt
  unfold val_main_v3 tap
  by_cases h : 3 ≤ (i 0).val
  · rw [if_pos h]
    refine (concatenate_pair_apply_right (t := S8195x3072) (s₁ := S3x3072) (s₂ := S8192x3072) 0 _ _ _ i rfl rfl
      (ix2 (⟨(i 0).val - 3, by omega⟩ : Fin 8192) (⟨(i 1).val, b1⟩ : Fin 3072)) ?_ ?_).trans ?_
    · intro b hb
      match b with
      | ⟨0, _⟩ => exact absurd rfl hb
      | ⟨1, _⟩ => rfl
    · show (i 0).val - 3 + 3 = (i 0).val; omega
    · rw [val_main_v2_apply, h0]
  · rw [if_neg h]
    refine (concatenate_pair_apply_left (t := S8195x3072) (s₁ := S3x3072) (s₂ := S8192x3072) 0 _ _ _ i rfl
      (ix2 (⟨(i 0).val, by omega⟩ : Fin 3) (⟨(i 1).val, b1⟩ : Fin 3072)) (fun b => match b with | ⟨0, _⟩ => rfl | ⟨1, _⟩ => rfl)).trans ?_
    rw [val_main_v1_apply, val_main_cst_apply]
    exact zero_f32

theorem v96_at (i : S8192x2048.Idx) : val_main_v96 (F := Ideal) x0 i = (act (P (i 0).val (i 1).val) : EReal) := by
  rw [val_main_v96_apply, val_main_v95_apply, val_main_v94_apply, val_main_v93_apply, val_main_v92_apply, val_main_v91_apply, val_main_v90_apply,
    val_main_cst_4_apply, val_main_cst_5_apply, val_main_v0_apply, h0]
  exact act_eq _

variable (h2 : ∀ i, x2 i = (W (i 0).val (i 1).val : EReal)) (h3 : ∀ i, x3 i = (W 4 (i 0).val : EReal))
include h2 h3

/-- The gated convolution. -/
theorem v42_at (i : S8192x3072.Idx) : val_main_v42 (F := Ideal) x0 x2 x3 i = (U P W (i 0).val (i 1).val : EReal) := by
  have b1 : (i 1).val < 3072 := (i 1).isLt
  have e : val_main_v35 (F := Ideal) x0 x2 x3 i = (conv P W (i 0).val (i 1).val : EReal) := by
    rw [val_main_v35_apply, val_main_v34_apply, val_main_v33_apply, val_main_v32_apply, val_main_v31_apply, val_main_v30_apply, val_main_v29_apply, val_main_v28_apply, val_main_v27_apply,
      val_main_v26_apply, val_main_v25_apply, val_main_v24_apply, val_main_v23_apply, val_main_v22_apply, val_main_v21_apply, val_main_v20_apply, val_main_v19_apply, val_main_v18_apply,
      val_main_v17_apply, val_main_v16_apply, val_main_v15_apply, val_main_v14_apply, val_main_v13_apply, val_main_v12_apply, val_main_v11_apply, val_main_v10_apply, val_main_cst_0_apply,
      val_main_v9_apply, val_main_v8_apply, val_main_v7_apply, val_main_v6_apply, val_main_v5_apply, val_main_v4_apply, v3_at h0, v3_at h0, v3_at h0, v3_at h0, h2, h2, h2, h2, h3]
    show (W 4 (i 1).val : EReal) + ((((Ideal.ofBits .f32 0x00000000#32 + (tap P (i 0).val 3 (2048 + (i 1).val) : EReal) * (W 0 ((i 1).val % 3072) : EReal))
        + (tap P (1 + (i 0).val) 3 (2048 + (i 1).val) : EReal) * (W 1 ((i 1).val % 3072) : EReal)) + (tap P (2 + (i 0).val) 3 (2048 + (i 1).val) : EReal) * (W 2 ((i 1).val % 3072) : EReal))
        + (tap P (3 + (i 0).val) 3 (2048 + (i 1).val) : EReal) * (W 3 ((i 1).val % 3072) : EReal)) = _
    have ht : ∀ k, k ≤ 3 → tap P (k + (i 0).val) 3 (2048 + (i 1).val) = tap P (i 0).val (3 - k) (2048 + (i 1).val) := fun k hk => by
      unfold tap
      by_cases h : 3 ≤ k + (i 0).val
      · rw [if_pos h, if_pos (by omega), show k + (i 0).val - 3 = (i 0).val - (3 - k) by omega]
      · rw [if_neg h, if_neg (by omega)]
    rw [ht 1 (by omega), ht 2 (by omega), ht 3 (by omega), Nat.mod_eq_of_lt b1, Ideal.ofBits_zero_f32, zero_add]
    simp only [← EReal.coe_mul, ← EReal.coe_add]
    unfold conv
    refine congrArg Real.toEReal ?_
    norm_num
    ring
  rw [val_main_v42_apply, val_main_v41_apply, val_main_v40_apply, val_main_v39_apply, val_main_v38_apply, val_main_v37_apply, val_main_v36_apply, val_main_cst_1_apply, val_main_cst_2_apply, e]
  exact act_eq _

theorem v44_at (i : S8192x32x64.Idx) : val_main_v44 (F := Ideal) x0 x2 x3 i = (U P W (i 0).val (64 * (i 1).val + (i 2).val) : EReal) := by
  have b1 : (i 1).val < 32 := (i 1).isLt
  have b2 : (i 2).val < 64 := (i 2).isLt
  rw [val_main_v44_apply, val_main_v43_apply, v42_at h0 h2 h3]
  show (U P W ((((i 0).val * 32 + (i 1).val) * 64 + (i 2).val) / 2048) ((((i 0).val * 32 + (i 1).val) * 64 + (i 2).val) % 2048) : EReal) = _
  rw [show (((i 0).val * 32 + (i 1).val) * 64 + (i 2).val) / 2048 = (i 0).val by omega,
    show (((i 0).val * 32 + (i 1).val) * 64 + (i 2).val) % 2048 = 64 * (i 1).val + (i 2).val by omega]

theorem v46_at (i : S8192x4x128.Idx) : val_main_v46 (F := Ideal) x0 x2 x3 i = (U P W (i 0).val (2048 + (128 * (i 1).val + (i 2).val)) : EReal) := by
  have b1 : (i 1).val < 4 := (i 1).isLt
  have b2 : (i 2).val < 128 := (i 2).isLt
  rw [val_main_v46_apply, val_main_v45_apply, v42_at h0 h2 h3]
  show (U P W ((((i 0).val * 4 + (i 1).val) * 128 + (i 2).val) / 512) (2048 + (((i 0).val * 4 + (i 1).val) * 128 + (i 2).val) % 512) : EReal) = _
  rw [show (((i 0).val * 4 + (i 1).val) * 128 + (i 2).val) / 512 = (i 0).val by omega,
    show (((i 0).val * 4 + (i 1).val) * 128 + (i 2).val) % 512 = 128 * (i 1).val + (i 2).val by omega]

theorem v48_at (i : S8192x4x128.Idx) : val_main_v48 (F := Ideal) x0 x2 x3 i = (U P W (i 0).val (2560 + (128 * (i 1).val + (i 2).val)) : EReal) := by
  have b1 : (i 1).val < 4 := (i 1).isLt
  have b2 : (i 2).val < 128 := (i 2).isLt
  rw [val_main_v48_apply, val_main_v47_apply, v42_at h0 h2 h3]
  show (U P W ((((i 0).val * 4 + (i 1).val) * 128 + (i 2).val) / 512) (2560 + (((i 0).val * 4 + (i 1).val) * 128 + (i 2).val) % 512) : EReal) = _
  rw [show (((i 0).val * 4 + (i 1).val) * 128 + (i 2).val) / 512 = (i 0).val by omega,
    show (((i 0).val * 4 + (i 1).val) * 128 + (i 2).val) % 512 = 128 * (i 1).val + (i 2).val by omega]

end

/-- The mask: the column not past the row. -/
theorem v60_at (i : S8192x8192.Idx) : val_main_v60 (F := Ideal) i = if (i 1).val ≤ (i 0).val then 1#1 else 0#1 := by
  have b0 : (i 0).val < 8192 := (i 0).isLt
  have b1 : (i 1).val < 8192 := (i 1).isLt
  rw [val_main_v60_apply, val_main_v58_apply, val_main_v56_apply, val_main_v55_apply, val_main_v59_apply, val_main_v57_apply, val_main_v55_apply]
  show IntOp.cmpi .sge (BitVec.ofNat 32 (i 0).val) (BitVec.ofNat 32 (i 1).val) = _
  by_cases h : (i 1).val ≤ (i 0).val
  · rw [if_pos h]; exact (WordCmp.cmpi_sge_ofNat_eq_one_iff (by omega) (by omega)).2 h
  · rw [if_neg h]; exact (WordCmp.cmpi_sge_ofNat_eq_zero_iff (by omega) (by omega)).2 (by omega)

theorem v61_at (i : S8192x8192.Idx) : val_main_v61 (F := Ideal) i = ((if (i 1).val ≤ (i 0).val then 1 else 0 : ℝ) : EReal) := by
  rw [val_main_v61_apply, v60_at]
  by_cases h : (i 1).val ≤ (i 0).val
  · rw [if_pos h, if_pos h]
    show (((1#1 : BitVec 1).toNat : ℝ) : EReal) = _
    simp
  · rw [if_neg h, if_neg h]
    show (((0#1 : BitVec 1).toNat : ℝ) : EReal) = _
    simp

section
variable (h1 : ∀ i, x1 i = (Q (i 0).val (i 1).val : EReal)) (h4 : ∀ i, x4 i = (H 0 (96 + (i 0).val) : EReal))
include h1 h4

/-- The steps. -/
theorem v54_at (i : S8192x32.Idx) : val_main_v54 (F := Ideal) x1 x4 i = (dts Q H (i 0).val (96 + (i 1).val) : EReal) := by
  rw [val_main_v54_apply, val_main_v53_apply, val_main_v52_apply, val_main_v51_apply, val_main_v50_apply, val_main_v49_apply, h1, h4]
  show Ideal.log (1 + Ideal.exp ((Q (i 0).val (480 + (i 1).val) : EReal) + (H 0 (96 + (i 1).val) : EReal))) = _
  rw [← EReal.coe_add, Ideal.exp_coe, ← EReal.coe_one, ← EReal.coe_add, Ideal.log_coe, if_neg (not_le.mpr (by positivity))]
  unfold dts
  rw [show 384 + (96 + (i 1).val) = 480 + (i 1).val by omega]

variable (h5 : ∀ i, x5 i = (H 1 (96 + (i 0).val) : EReal))
include h5

/-- The log decays' running sum. -/
theorem v67_at (i : S8192x32.Idx) : val_main_v67 (F := Ideal) x1 x4 x5 i = (run (sts Q H (96 + (i 1).val)) ((i 0).val + 1) : EReal) := by
  rw [val_main_v67_apply, ← Cert.AttnRef.masked_run (sts Q H (96 + (i 1).val)) (i 0).val (i 0).isLt, ← coe_sum_mul]
  refine Finset.sum_congr rfl fun s _ => congrArg₂ (· * ·) ?_ ?_
  · rw [v61_at]
  · rw [val_main_v66_apply, v54_at h1 h4, val_main_v65_apply, val_main_v64_apply, val_main_v63_apply, val_main_v62_apply, h5]
    show (dts Q H s.val (96 + (i 1).val) : EReal) * -(Ideal.exp (H 1 (96 + (i 1).val) : EReal)) = _
    rw [Ideal.exp_coe, ← EReal.coe_neg, ← EReal.coe_mul]
    rfl

variable (h0 : ∀ i, x0 i = (P (i 0).val (i 1).val : EReal)) (h2 : ∀ i, x2 i = (W (i 0).val (i 1).val : EReal)) (h3 : ∀ i, x3 i = (W 4 (i 0).val : EReal))
include h0 h2 h3

/-- What a token gives. -/
theorem v74_at (i : S8192x4x512.Idx) : val_main_v74 (F := Ideal) x0 x1 x2 x3 x4 x5 i
    = ((U P W (i 0).val (512 * (i 1).val + (i 2).val) * (dts Q H (i 0).val (96 + (512 * (i 1).val + (i 2).val) / 64)
      * Real.exp (-run (sts Q H (96 + (512 * (i 1).val + (i 2).val) / 64)) ((i 0).val + 1))) : ℝ) : EReal) := by
  have b1 : (i 1).val < 4 := (i 1).isLt
  have b2 : (i 2).val < 512 := (i 2).isLt
  rw [val_main_v74_apply, val_main_v73_apply, val_main_v72_apply, val_main_v71_apply, val_main_v70_apply, val_main_v69_apply, val_main_v68_apply, v44_at h0 h2 h3, v54_at h1 h4, v67_at h1 h4 h5]
  have e0 : (((i 0).val * 4 + (i 1).val) * 512 + (i 2).val) / 2048 = (i 0).val := by omega
  have e1 : (((i 0).val * 4 + (i 1).val) * 512 + (i 2).val) / 64 % 32 = (512 * (i 1).val + (i 2).val) / 64 := by omega
  have e2 : 64 * ((512 * (i 1).val + (i 2).val) / 64) + (((i 0).val * 4 + (i 1).val) * 512 + (i 2).val) % 64 = 512 * (i 1).val + (i 2).val := by omega
  dsimp only
  rw [e0, e1, e2]
  generalize U P W (i 0).val (512 * (i 1).val + (i 2).val) = a
  generalize dts Q H (i 0).val (96 + (512 * (i 1).val + (i 2).val) / 64) = b
  generalize run (sts Q H (96 + (512 * (i 1).val + (i 2).val) / 64)) ((i 0).val + 1) = z
  show (a : EReal) * ((b : EReal) * Ideal.exp (-(z : EReal))) = _
  rw [← EReal.coe_neg, Ideal.exp_coe, ← EReal.coe_mul, ← EReal.coe_mul]

/-- The masked scores. -/
theorem v76_at (i : S4x8192x8192.Idx) : val_main_v76 (F := Ideal) x0 x2 x3 i = ((if (i 2).val ≤ (i 1).val then sc (U P W) (i 1).val (i 2).val (i 0).val else 0 : ℝ) : EReal) := by
  rw [val_main_v76_apply, val_main_call0_v1_apply, v60_at, val_main_call0_v2_apply, val_main_call0_v0_apply, val_main_cst_3_apply, val_main_v75_apply]
  show Scalar.select (if (i 2).val ≤ (i 1).val then 1#1 else 0#1) _ (Ideal.ofBits .f32 0x00000000#32) = _
  by_cases h : (i 2).val ≤ (i 1).val
  · rw [if_pos h, if_pos h]
    unfold sc
    rw [← coe_sum_mul]
    refine Eq.trans (if_pos rfl) (Finset.sum_congr rfl fun d _ => congrArg₂ (· * ·) ?_ ?_)
    · rw [v48_at h0 h2 h3]
    · rw [v46_at h0 h2 h3]
  · rw [if_neg h, if_neg h]
    exact (if_neg (by decide)).trans zero_f32

/-- The causal sum. -/
theorem v83_at (i : S8192x32x64.Idx) : val_main_v83 (F := Ideal) x0 x1 x2 x3 x4 x5 i = (full (U P W) (dts Q H) (sts Q H) (i 0).val (64 * (i 1).val + (i 2).val) : EReal) := by
  have b1 : (i 1).val < 32 := (i 1).isLt
  have b2 : (i 2).val < 64 := (i 2).isLt
  rw [val_main_v83_apply, val_main_v82_apply, val_main_v81_apply, val_main_v80_apply, v67_at h1 h4 h5, val_main_v79_apply, val_main_v78_apply, val_main_v77_apply]
  have e0 : (((i 0).val * 32 + (i 1).val) * 64 + (i 2).val) / 2048 = (i 0).val := by omega
  have e1 : (((i 0).val * 32 + (i 1).val) * 64 + (i 2).val) / 512 % 4 = (64 * (i 1).val + (i 2).val) / 512 := by omega
  have e2 : 512 * ((64 * (i 1).val + (i 2).val) / 512) + (((i 0).val * 32 + (i 1).val) * 64 + (i 2).val) % 512 = 64 * (i 1).val + (i 2).val := by omega
  have e3 : (64 * (i 1).val + (i 2).val) / 64 = (i 1).val := by omega
  unfold full
  rw [e3, EReal.coe_mul]
  refine congrArg₂ (· * ·) ?_ (Ideal.exp_coe _)
  rw [← coe_sum_mul]
  refine Finset.sum_congr rfl fun s _ => congrArg₂ (· * ·) ?_ ?_
  · rw [v74_at h1 h4 h5 h0 h2 h3]
    dsimp only
    rw [e1, e2, e3]
  · rw [v76_at h1 h4 h5 h0 h2 h3]
    have key : ∀ a g : ℕ, a = (i 0).val → g = (64 * (i 1).val + (i 2).val) / 512 → ((if s.val ≤ a then sc (U P W) a s.val g else 0 : ℝ) : EReal)
        = ((if s.val ≤ (i 0).val then sc (U P W) (i 0).val s.val ((64 * (i 1).val + (i 2).val) / 512) else 0 : ℝ) : EReal) := by
      rintro _ _ rfl rfl; rfl
    exact key _ _ e0 e1

variable (h6 : ∀ (i : S32.Idx) (k : ℕ), k / 64 = (i 0).val → x6 i = (D k : EReal))
include h6

/-- With the input's own part and the gate. -/
theorem v98_at (i : S8192x4x512.Idx) : val_main_v98 (F := Ideal) x0 x1 x2 x3 x4 x5 x6 i
    = (gated (U P W) (dts Q H) (sts Q H) D P (i 0).val (512 * (i 1).val + (i 2).val) : EReal) := by
  have b1 : (i 1).val < 4 := (i 1).isLt
  have b2 : (i 2).val < 512 := (i 2).isLt
  have e0 : (((i 0).val * 4 + (i 1).val) * 512 + (i 2).val) / 2048 = (i 0).val := by omega
  have e1 : (((i 0).val * 4 + (i 1).val) * 512 + (i 2).val) % 2048 = 512 * (i 1).val + (i 2).val := by omega
  have e2 : ((i 0).val * 2048 + (512 * (i 1).val + (i 2).val)) / 2048 = (i 0).val := by omega
  have e3 : 64 * (((i 0).val * 2048 + (512 * (i 1).val + (i 2).val)) / 64 % 32) + ((i 0).val * 2048 + (512 * (i 1).val + (i 2).val)) % 64 = 512 * (i 1).val + (i 2).val := by omega
  rw [val_main_v98_apply, val_main_v97_apply, v96_at h0, val_main_v89_apply, val_main_v88_apply, v83_at h1 h4 h5 h0 h2 h3, val_main_v87_apply, v44_at h0 h2 h3,
    val_main_v86_apply, val_main_v85_apply, val_main_v84_apply, h6 _ (512 * (i 1).val + (i 2).val) (by dsimp only; rw [e0, e1]; omega)]
  dsimp only
  rw [e0, e1, e2, e3]
  unfold gated
  generalize full (U P W) (dts Q H) (sts Q H) (i 0).val (512 * (i 1).val + (i 2).val) = a
  generalize D (512 * (i 1).val + (i 2).val) = d
  generalize U P W (i 0).val (512 * (i 1).val + (i 2).val) = x
  generalize act (P (i 0).val (512 * (i 1).val + (i 2).val)) = z
  show ((a : EReal) + (d : EReal) * (x : EReal)) * (z : EReal) = _
  rw [← EReal.coe_mul, ← EReal.coe_add, ← EReal.coe_mul]

/-- The reference's entry. -/
theorem v115_at (h7 : ∀ i, x7 i = (NW (i 0).val : EReal)) (i : S8192x2048.Idx) : val_main_v115 (F := Ideal) x0 x1 x2 x3 x4 x5 x6 x7 i
    = entry (U P W) (dts Q H) (sts Q H) D NW P (i 0).val (i 1).val := by
  have b1 : (i 1).val < 2048 := (i 1).isLt
  have e0 : ((i 0).val * 2048 + (i 1).val) / 2048 = (i 0).val := by omega
  have e1 : ((i 0).val * 2048 + (i 1).val) / 512 % 4 = (i 1).val / 512 := by omega
  have e2 : ((i 0).val * 2048 + (i 1).val) % 512 = (i 1).val % 512 := by omega
  have e3 : 512 * ((i 1).val / 512) + (i 1).val % 512 = (i 1).val := by omega
  have r : ∀ j : S8192x4x1.Idx, val_main_v106 (F := Ideal) x0 x1 x2 x3 x4 x5 x6 j = Ideal.rsqrt (Ideal.div ((∑ k : Fin 512,
      gated (U P W) (dts Q H) (sts Q H) D P (j 0).val (512 * (j 1).val + k.val) * gated (U P W) (dts Q H) (sts Q H) D P (j 0).val (512 * (j 1).val + k.val) : ℝ) : EReal)
      (Ideal.ofBits .f32 0x44000000#32) + Ideal.ofBits .f32 0x3727C5AC#32) := fun j => by
    rw [val_main_v106_apply, val_main_v105_apply, val_main_v104_apply, val_main_cst_8_apply, val_main_v103_apply, val_main_v102_apply, val_main_cst_7_apply, val_main_v101_apply, val_main_v100_apply, val_main_cst_6_apply]
    refine congrArg (fun z : EReal => Ideal.rsqrt (Ideal.div z (Ideal.ofBits .f32 0x44000000#32) + Ideal.ofBits .f32 0x3727C5AC#32)) ?_
    show Ideal.ofBits .f32 0x00000000#32 + _ = _
    rw [Ideal.ofBits_zero_f32, zero_add, ← coe_sum_mul]
    refine Finset.sum_congr rfl fun k _ => ?_
    rw [val_main_v99_apply, v98_at h1 h4 h5 h0 h2 h3 h6]
    rfl
  rw [val_main_v115_apply, val_main_v114_apply, val_main_v113_apply, val_main_v112_apply, val_main_v111_apply, val_main_v110_apply, val_main_v109_apply, val_main_cst_9_apply, val_main_v108_apply,
    val_main_v107_apply, v98_at h1 h4 h5 h0 h2 h3 h6, r, h7]
  dsimp only
  rw [e0, e1, e2]
  show (_ : EReal) * _ * Ideal.ofBits .f32 0x3F800000#32 * _ = _
  rw [one_f32, EReal.coe_one, mul_one]
  unfold entry nrm
  dsimp only
  rw [e3]

end

end Cert.SsdRef

end
-- ==== Proof.SsdPre.lean ====
/-
  The state space duality's precondition, opened: every entry is a real.
-/
module

public import proofs.«01_k».proof.Proof.AttnPre
public import Idealize.ShloMosaic.Lib.IdealHost
import Idealize.ShloMosaic.Lib.ReduceAll
import Idealize.ShloMosaic.Lib.KernelVsHost
import Idealize.ShloMosaic.Lib.Pipeline.Value
public import proofs.«01_k».proof.Pre_finite_ssd

@[expose] public section

noncomputable section

namespace Cert.SsdPre

open Idealize.ShloMosaic Cert.Pre_finite_ssd

/-- The side conditions the predicate states. -/
theorem facts : Cert.Pre_finite_ssd.Facts where
  bcast_S_S8192x5120 := by decide
  reducesTo_S8192x5120_S_d0_1 := by decide
  h_S_ := by decide
  bcast_S_S8192x512 := by decide
  reducesTo_S8192x512_S_d0_1 := by decide
  bcast_S_S4x3072 := by decide
  reducesTo_S4x3072_S_d0_1 := by decide
  bcast_S_S3072 := by decide
  reducesTo_S3072_S_d0 := by decide
  bcast_S_S32 := by decide
  reducesTo_S32_S_d0 := by decide
  bcast_S_S2048 := by decide
  reducesTo_S2048_S_d0 := by decide
  bcast_S_S1 := by decide
  concatenates_S1_S1_S1_S1_S1_S1_S1_S1_S8_d0 := by decide

/-- The predicate's eight words. -/
theorem piece (hc : Shape.Concatenates [S1, S1, S1, S1, S1, S1, S1, S1] S8 0) (hb : S_.BroadcastsInDim S1 (![] : Fin 0 → Fin S1.rank)) (a b c d e f g w : IVec S_ 1)
    (h : concatenate S8 0 [⟨S1, broadcastInDim S1 ![] hb a⟩, ⟨S1, broadcastInDim S1 ![] hb b⟩, ⟨S1, broadcastInDim S1 ![] hb c⟩, ⟨S1, broadcastInDim S1 ![] hb d⟩,
      ⟨S1, broadcastInDim S1 ![] hb e⟩, ⟨S1, broadcastInDim S1 ![] hb f⟩, ⟨S1, broadcastInDim S1 ![] hb g⟩, ⟨S1, broadcastInDim S1 ![] hb w⟩] hc = fun _ => 1#1) (j : S_.Idx) :
    a j = 1#1 ∧ b j = 1#1 ∧ c j = 1#1 ∧ d j = 1#1 ∧ e j = 1#1 ∧ f j = 1#1 ∧ g j = 1#1 ∧ w j = 1#1 := by
  let xs : List ((s : Shape) × (s.Idx → BitVec 1)) := [⟨S1, broadcastInDim S1 ![] hb a⟩, ⟨S1, broadcastInDim S1 ![] hb b⟩, ⟨S1, broadcastInDim S1 ![] hb c⟩, ⟨S1, broadcastInDim S1 ![] hb d⟩,
      ⟨S1, broadcastInDim S1 ![] hb e⟩, ⟨S1, broadcastInDim S1 ![] hb f⟩, ⟨S1, broadcastInDim S1 ![] hb g⟩, ⟨S1, broadcastInDim S1 ![] hb w⟩]
  have at_ : ∀ (k : Fin 8) (y : IVec S_ 1), xs[k.val]'k.isLt = ⟨S1, broadcastInDim S1 ![] hb y⟩ → y j = 1#1 := fun k y hy => by
    let i8 : S8.Idx := fun q => match q with | ⟨0, _⟩ => k
    let i1 : S1.Idx := fun q => match q with | ⟨0, _⟩ => (0 : Fin 1)
    have hp := concatenate_apply_piece (t := S8) 0 xs hc i8 k.val k.isLt S1 (broadcastInDim S1 ![] hb y) hy rfl k.val (by fin_cases k <;> rfl) i1
      (fun q hq => absurd (Subsingleton.elim (α := Fin 1) _ _) hq) (by rfl)
    have hz : broadcastInDim S1 ![] hb y i1 = y j := congrArg y (funext fun a => a.elim0)
    exact hz.symm.trans (hp.symm.trans (congrFun h i8))
  exact ⟨at_ 0 a rfl, at_ 1 b rfl, at_ 2 c rfl, at_ 3 d rfl, at_ 4 e rfl, at_ 5 f rfl, at_ 6 g rfl, at_ 7 w rfl⟩

/-- The precondition says that every entry is a real. -/
theorem reals [Cert.Pre_finite_ssd.Facts] (x0 : FVec Ideal S8192x5120 .f32) (x1 : FVec Ideal S8192x512 .f32) (x2 : FVec Ideal S4x3072 .f32) (x3 : FVec Ideal S3072 .f32)
    (x4 x5 x6 : FVec Ideal S32 .f32) (x7 : FVec Ideal S2048 .f32) (h : Cert.Pre_finite_ssd.fn (F := Ideal) x0 x1 x2 x3 x4 x5 x6 x7 = fun _ => 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal))
    ∧ (∀ i, ∃ r : ℝ, x4 i = (r : EReal)) ∧ (∀ i, ∃ r : ℝ, x5 i = (r : EReal)) ∧ (∀ i, ∃ r : ℝ, x6 i = (r : EReal)) ∧ (∀ i, ∃ r : ℝ, x7 i = (r : EReal)) := by
  obtain ⟨e0, e1, e2, e3, e4, e5, e6, e7⟩ := piece Cert.Pre_finite_ssd.Facts.concatenates_S1_S1_S1_S1_S1_S1_S1_S1_S8_d0 Cert.Pre_finite_ssd.Facts.bcast_S_S1 _ _ _ _ _ _ _ _ h (fun a => a.elim0)
  exact ⟨Cert.AttnPre.part x0 _ _ _ _ e0, Cert.AttnPre.part x1 _ _ _ _ e1, Cert.AttnPre.part x2 _ _ _ _ e2, Cert.AttnPre.part x3 _ _ _ _ e3,
    Cert.AttnPre.part x4 _ _ _ _ e4, Cert.AttnPre.part x5 _ _ _ _ e5, Cert.AttnPre.part x6 _ _ _ _ e6, Cert.AttnPre.part x7 _ _ _ _ e7⟩

end Cert.SsdPre

end
-- ==== Proof.Ssd.lean ====
/-
  The value of an even layer's state space duality: over real inputs the grid's points carry the cells along the tokens, and what
  they write is the reference's mixer, gated and normed.
-/
module

public import proofs.«01_k».proof.Proof.SsdRun
public import proofs.«01_k».proof.Proof.SsdRef
public import proofs.«01_k».proof.Proof.SsdPre
public import proofs.«01_k».proof.Proof.Attn
public import proofs.«01_k».proof.Proof.Gen.KernelSsdIdeal.Value
public import proofs.«01_k».proof.Proof.Gen.ReferenceSsdIdeal.Run

@[expose] public section

set_option maxRecDepth 4000

noncomputable section

open scoped BigOperators
open Idealize.ShloMosaic Idealize.ShloMosaic.TcCoe Idealize.SL.Sem Idealize.ShloMosaic.ValueIdx
open Cert.Lin Cert.AttnOps Cert.SsdReal Cert.SsdPay
open Cert.KernelAttnIdeal.Val (coe_at1 coe_at2)

namespace Cert.KernelSsdIdeal.Val

open Cert.KernelSsdIdeal Cert.KernelSsdIdeal.Gen Cert.KernelSsdIdeal.Value

/-- A vector of reals. -/
def Is1 {a : ℕ} (X : (⟨1, ![a]⟩ : Shape).Idx → EReal) (f : ℕ → ℝ) : Prop := ∀ j : Fin a, X (ix1 j) = (f j.val : EReal)

section

variable {a b c n N : ℕ} {X : (⟨2, ![a, N]⟩ : Shape).Idx → EReal} {Y : (⟨2, ![b, N]⟩ : Shape).Idx → EReal} {Z : (⟨2, ![c, N]⟩ : Shape).Idx → EReal} {f g h : ℕ → ℕ → ℝ}

/-- Two matrices of reals, one under the other. -/
theorem is_cat (hc : Shape.Concatenates [⟨2, ![a, N]⟩, ⟨2, ![b, N]⟩] ⟨2, ![n, N]⟩ 0) (hX : Is X f) (hY : Is Y g) (hn : n = a + b := by rfl) :
    Is (concatenate ⟨2, ![n, N]⟩ 0 [⟨⟨2, ![a, N]⟩, X⟩, ⟨⟨2, ![b, N]⟩, Y⟩] hc) (fun r j => if r < a then f r j else g (r - a) j) := fun r j => by
  beta_reduce
  have hr := r.isLt
  by_cases h1 : r.val < a
  · rw [if_pos h1]
    exact (concatenate_apply_piece (t := ⟨2, ![n, N]⟩) 0 [⟨⟨2, ![a, N]⟩, X⟩, ⟨⟨2, ![b, N]⟩, Y⟩] hc (ix2 r j) 0 (by simp) ⟨2, ![a, N]⟩ X rfl rfl 0 rfl (ix2 ⟨r.val, h1⟩ j)
      (fun b hb => match b with | ⟨0, _⟩ => absurd rfl hb | ⟨1, _⟩ => rfl) (Nat.zero_add _)).trans (hX _ _)
  · rw [if_neg h1]
    exact (concatenate_apply_piece (t := ⟨2, ![n, N]⟩) 0 [⟨⟨2, ![a, N]⟩, X⟩, ⟨⟨2, ![b, N]⟩, Y⟩] hc (ix2 r j) 1 (by simp) ⟨2, ![b, N]⟩ Y rfl rfl a rfl (ix2 ⟨r.val - a, by omega⟩ j)
      (fun b hb => match b with | ⟨0, _⟩ => absurd rfl hb | ⟨1, _⟩ => rfl) (by show a + (r.val - a) = r.val; omega)).trans (hY _ _)

/-- Three matrices of reals, one under the other. -/
theorem is_cat3 (hc : Shape.Concatenates [⟨2, ![a, N]⟩, ⟨2, ![b, N]⟩, ⟨2, ![c, N]⟩] ⟨2, ![n, N]⟩ 0) (hX : Is X f) (hY : Is Y g) (hZ : Is Z h) (hn : n = a + b + c := by rfl) :
    Is (concatenate ⟨2, ![n, N]⟩ 0 [⟨⟨2, ![a, N]⟩, X⟩, ⟨⟨2, ![b, N]⟩, Y⟩, ⟨⟨2, ![c, N]⟩, Z⟩] hc)
      (fun r j => if r < a then f r j else if r < a + b then g (r - a) j else h (r - (a + b)) j) := fun r j => by
  beta_reduce
  have hr := r.isLt
  have P := concatenate_apply_piece (t := ⟨2, ![n, N]⟩) 0 [⟨⟨2, ![a, N]⟩, X⟩, ⟨⟨2, ![b, N]⟩, Y⟩, ⟨⟨2, ![c, N]⟩, Z⟩] hc (ix2 r j)
  by_cases h1 : r.val < a
  · rw [if_pos h1]
    exact (P 0 (by simp) ⟨2, ![a, N]⟩ X rfl rfl 0 rfl (ix2 ⟨r.val, h1⟩ j) (fun b hb => match b with | ⟨0, _⟩ => absurd rfl hb | ⟨1, _⟩ => rfl) (Nat.zero_add _)).trans (hX _ _)
  · rw [if_neg h1]
    by_cases h2 : r.val < a + b
    · rw [if_pos h2]
      exact (P 1 (by simp) ⟨2, ![b, N]⟩ Y rfl rfl a rfl (ix2 ⟨r.val - a, by omega⟩ j) (fun b hb => match b with | ⟨0, _⟩ => absurd rfl hb | ⟨1, _⟩ => rfl)
        (by show a + (r.val - a) = r.val; omega)).trans (hY _ _)
    · rw [if_neg h2]
      exact (P 2 (by simp) ⟨2, ![c, N]⟩ Z rfl rfl (a + b) rfl (ix2 ⟨r.val - (a + b), by omega⟩ j) (fun b hb => match b with | ⟨0, _⟩ => absurd rfl hb | ⟨1, _⟩ => rfl)
        (by show a + b + (r.val - (a + b)) = r.val; omega)).trans (hZ _ _)

/-- A vector of reals as one row. -/
theorem is_row {v : FVec Ideal ⟨1, ![N]⟩ .f32} {f : ℕ → ℝ} (hv : Is1 v f) (h : (⟨1, ![N]⟩ : Shape).BroadcastsInDim ⟨2, ![1, N]⟩ ![1]) :
    Is (broadcastInDim ⟨2, ![1, N]⟩ ![1] h v) (fun _ j => f j) := fun r j => (row_apply v h (ix2 r j)).trans (hv j)

/-- A matrix of zeros. -/
theorem is_zero (h : S_.BroadcastsInDim ⟨2, ![a, N]⟩ ![]) : Is (broadcastInDim ⟨2, ![a, N]⟩ ![] h (constant (F := Ideal) S_ .f32 0x00000000#32)) (fun _ _ => 0) :=
  fun _ _ => Cert.AttnPay.zero_f32

end

/-- A head's numbers after the zeros before them. -/
theorem is_pre {v : FVec Ideal S32 .f32} {f : ℕ → ℝ} (hv : Is1 v f) :
    Is1 (concatenate S128 0 [⟨S96, broadcastInDim S96 ![] bcast_S_S96 (constant (F := Ideal) S_ .f32 0x00000000#32)⟩, ⟨S32, v⟩] concatenates_S96_S32_S128_d0)
      (fun j => if j < 96 then 0 else f (j - 96)) := fun j => by
  beta_reduce
  have hj : j.val < 128 := j.isLt
  by_cases h : j.val < 96
  · rw [if_pos h]
    exact (concatenate_pair_apply_left 0 _ v concatenates_S96_S32_S128_d0 (ix1 j) rfl (ix1 (⟨j.val, h⟩ : Fin 96)) (fun b => match b with | ⟨0, _⟩ => rfl)).trans Cert.AttnPay.zero_f32
  · rw [if_neg h]
    exact (concatenate_pair_apply_right 0 _ v concatenates_S96_S32_S128_d0 (ix1 j) rfl rfl (ix1 (⟨j.val - 96, by omega⟩ : Fin 32))
      (fun b => match b with | ⟨0, _⟩ => fun hb => absurd rfl hb) (by show j.val - 96 + 96 = j.val; omega)).trans (hv _)

/-- A head's number for each of its channels. -/
theorem is_rep {v : FVec Ideal S32 .f32} {f : ℕ → ℝ} (hv : Is1 v f) :
    Is1 (shapeCast S2048 (broadcastInDim S32x64 ![0] bcast_S32_S32x64_0 v) shapeCasts_S32x64_S2048) (fun j => f (j / 64)) := fun j => by
  beta_reduce
  have hj : j.val < 2048 := j.isLt
  refine (shapeCast_apply _ shapeCasts_S32x64_S2048 (ix1 j) (ix2 (⟨j.val / 64, by omega⟩ : Fin 32) (⟨j.val % 64, by omega⟩ : Fin 64))
    (by rewrite [Shape.rowMajor_val_two, Shape.rowMajor_val_one]; show j.val / 64 * 64 + j.val % 64 = j.val; omega)).trans ?_
  exact (broadcastInDim_apply _ bcast_S32_S32x64_0 v _ (ix1 (⟨j.val / 64, by omega⟩ : Fin 32)) (fun a => match a with | ⟨0, _⟩ => rfl)).trans (hv _)

/-- An array of reals at an index, by its coordinates. -/
theorem is_at {A B : ℕ} {X : (⟨2, ![A, B]⟩ : Shape).Idx → EReal} {f : ℕ → ℕ → ℝ} (h : Is X f) (y : (⟨2, ![A, B]⟩ : Shape).Idx) {r j : ℕ} (e0 : (y 0).val = r) (e1 : (y 1).val = j) :
    X y = (f r j : EReal) := by subst e0 e1; exact h.at y

variable (m : (ℓ : Loc nD τ sig) → Buf (Elt Ideal) ℓ) (ρ : Dev nD → PrngReg)

/-- The inputs as launched: projected tokens, the heads' projected tokens, the convolution and its bias, the heads' numbers, the norm's weights. -/
abbrev X0 (c : Dev nD) : FVec Ideal S8192x5120 .f32 := m ((c : Thread nD τ).loc main_arg0)
abbrev X1 (c : Dev nD) : FVec Ideal S8192x512 .f32 := m ((c : Thread nD τ).loc main_arg1)
abbrev X2 (c : Dev nD) : FVec Ideal S4x3072 .f32 := m ((c : Thread nD τ).loc main_arg2)
abbrev X3 (c : Dev nD) : FVec Ideal S3072 .f32 := m ((c : Thread nD τ).loc main_arg3)
abbrev X4 (c : Dev nD) : FVec Ideal S32 .f32 := m ((c : Thread nD τ).loc main_arg4)
abbrev X5 (c : Dev nD) : FVec Ideal S32 .f32 := m ((c : Thread nD τ).loc main_arg5)
abbrev X6 (c : Dev nD) : FVec Ideal S32 .f32 := m ((c : Thread nD τ).loc main_arg6)
abbrev X7 (c : Dev nD) : FVec Ideal S2048 .f32 := m ((c : Thread nD τ).loc main_arg7)

/-- The arrays' entries, at natural coordinates. -/
def Pr (c : Dev nD) (t j : ℕ) : ℝ := (at2 (X0 m c) t j).toReal
def PS (c : Dev nD) (t j : ℕ) : ℝ := (at2 (X1 m c) t j).toReal
def W (c : Dev nD) (r j : ℕ) : ℝ := if r < 4 then (at2 (X2 m c) r j).toReal else if r < 4 + 1 then (at1 (X3 m c) j).toReal else 0
def H (c : Dev nD) (r j : ℕ) : ℝ := if r < 1 then (if j < 96 then 0 else (at1 (X4 m c) (j - 96)).toReal) else if r < 1 + 1 then (if j < 96 then 0 else (at1 (X5 m c) (j - 96)).toReal) else 0
def G (c : Dev nD) (r j : ℕ) : ℝ := if r < 1 then (at1 (X6 m c) (j / 64)).toReal else 0
def NW (c : Dev nD) (r j : ℕ) : ℝ := if r < 1 then (at1 (X7 m c) j).toReal else 0

/-- The inputs are real numbers. -/
def Real8 (c : Dev nD) : Prop := (∀ i, ∃ r : ℝ, X0 m c i = (r : EReal)) ∧ (∀ i, ∃ r : ℝ, X1 m c i = (r : EReal)) ∧ (∀ i, ∃ r : ℝ, X2 m c i = (r : EReal)) ∧ (∀ i, ∃ r : ℝ, X3 m c i = (r : EReal))
  ∧ (∀ i, ∃ r : ℝ, X4 m c i = (r : EReal)) ∧ (∀ i, ∃ r : ℝ, X5 m c i = (r : EReal)) ∧ (∀ i, ∃ r : ℝ, X6 m c i = (r : EReal)) ∧ ∀ i, ∃ r : ℝ, X7 m c i = (r : EReal)

variable {m}

/-- The arrays the windows stage hold those reals. -/
theorem is_main_arg0 {c : Dev nD} (hr : Real8 m c) : Is (V m c main_arg0 : FVec Ideal S8192x5120 .f32) (Pr m c) := fun r j => by
  rw [V_main_arg0]; exact coe_at2 _ hr.1 (ix2 r j)
theorem is_main_arg1 {c : Dev nD} (hr : Real8 m c) : Is (V m c main_arg1 : FVec Ideal S8192x512 .f32) (PS m c) := fun r j => by
  rw [V_main_arg1]; exact coe_at2 _ hr.2.1 (ix2 r j)

theorem is_main_v2 {c : Dev nD} (hr : Real8 m c) : Is (V m c main_v2 : FVec Ideal S8x3072 .f32) (W m c) := by
  have e : (V m c main_v2 : FVec Ideal S8x3072 .f32) = concatenate S8x3072 0 [⟨S4x3072, X2 m c⟩, ⟨S1x3072, broadcastInDim S1x3072 ![1] bcast_S3072_S1x3072_1 (X3 m c)⟩, ⟨S3x3072, broadcastInDim S3x3072 ![] bcast_S_S3x3072 (constant (F := Ideal) S_ .f32 0x00000000#32)⟩] concatenates_S4x3072_S1x3072_S3x3072_S8x3072_d0 := by
    show StableHlo.after hostOps0 (fun b => m (c, b)) (Proc.devRef .tc main_v2) = _
    after_results <;> rfl
  rw [e]
  exact is_cat3 _ (fun r j => coe_at2 _ hr.2.2.1 (ix2 r j)) (is_row (fun j => coe_at1 _ hr.2.2.2.1 (ix1 j)) _) (is_zero _)

theorem is_main_v9 {c : Dev nD} (hr : Real8 m c) : Is (V m c main_v9 : FVec Ideal S8x128 .f32) (H m c) := by
  have e : (V m c main_v9 : FVec Ideal S8x128 .f32) = concatenate S8x128 0 [⟨S1x128, broadcastInDim S1x128 ![1] bcast_S128_S1x128_1 (concatenate S128 0 [⟨S96, broadcastInDim S96 ![] bcast_S_S96 (constant (F := Ideal) S_ .f32 0x00000000#32)⟩, ⟨S32, X4 m c⟩] concatenates_S96_S32_S128_d0)⟩, ⟨S1x128, broadcastInDim S1x128 ![1] bcast_S128_S1x128_1 (concatenate S128 0 [⟨S96, broadcastInDim S96 ![] bcast_S_S96 (constant (F := Ideal) S_ .f32 0x00000000#32)⟩, ⟨S32, X5 m c⟩] concatenates_S96_S32_S128_d0)⟩, ⟨S6x128, broadcastInDim S6x128 ![] bcast_S_S6x128 (constant (F := Ideal) S_ .f32 0x00000000#32)⟩] concatenates_S1x128_S1x128_S6x128_S8x128_d0 := by
    show StableHlo.after hostOps0 (fun b => m (c, b)) (Proc.devRef .tc main_v9) = _
    after_results <;> rfl
  rw [e]
  exact is_cat3 _ (is_row (is_pre (v := X4 m c) (f := fun k => (at1 (X4 m c) k).toReal) fun j => coe_at1 _ hr.2.2.2.2.1 (ix1 j)) _) (is_row (is_pre (v := X5 m c) (f := fun k => (at1 (X5 m c) k).toReal) fun j => coe_at1 _ hr.2.2.2.2.2.1 (ix1 j)) _) (is_zero _)

theorem is_main_v14 {c : Dev nD} (hr : Real8 m c) : Is (V m c main_v14 : FVec Ideal S8x2048 .f32) (G m c) := by
  have e : (V m c main_v14 : FVec Ideal S8x2048 .f32) = concatenate S8x2048 0 [⟨S1x2048, broadcastInDim S1x2048 ![1] bcast_S2048_S1x2048_1 (shapeCast S2048 (broadcastInDim S32x64 ![0] bcast_S32_S32x64_0 (X6 m c)) shapeCasts_S32x64_S2048)⟩, ⟨S7x2048, broadcastInDim S7x2048 ![] bcast_S_S7x2048 (constant (F := Ideal) S_ .f32 0x00000000#32)⟩] concatenates_S1x2048_S7x2048_S8x2048_d0 := by
    show StableHlo.after hostOps0 (fun b => m (c, b)) (Proc.devRef .tc main_v14) = _
    after_results <;> rfl
  rw [e]
  exact is_cat _ (is_row (is_rep (v := X6 m c) (f := fun k => (at1 (X6 m c) k).toReal) fun j => coe_at1 _ hr.2.2.2.2.2.2.1 (ix1 j)) _) (is_zero _)

theorem is_main_v17 {c : Dev nD} (hr : Real8 m c) : Is (V m c main_v17 : FVec Ideal S8x2048 .f32) (NW m c) := by
  have e : (V m c main_v17 : FVec Ideal S8x2048 .f32) = concatenate S8x2048 0 [⟨S1x2048, broadcastInDim S1x2048 ![1] bcast_S2048_S1x2048_1 (X7 m c)⟩, ⟨S7x2048, broadcastInDim S7x2048 ![] bcast_S_S7x2048 (constant (F := Ideal) S_ .f32 0x00000000#32)⟩] concatenates_S1x2048_S7x2048_S8x2048_d0 := by
    show StableHlo.after hostOps0 (fun b => m (c, b)) (Proc.devRef .tc main_v17) = _
    after_results <;> rfl
  rw [e]
  exact is_cat _ (is_row (fun j => coe_at1 _ hr.2.2.2.2.2.2.2 (ix1 j)) _) (is_zero _)

/-- Where the windows' blocks begin, and the point's number. -/
abbrev At (t : Fin grid0.N) : Prop := (win0_0.index t 0 = t.val ∧ win0_0.index t 1 = 0) ∧ (win0_1.index t 0 = t.val ∧ win0_1.index t 1 = 1) ∧ (win0_2.index t 0 = t.val ∧ win0_2.index t 1 = 8) ∧ (win0_3.index t 0 = t.val ∧ win0_3.index t 1 = 9) ∧ (win0_4.index t 0 = t.val ∧ win0_4.index t 1 = 3) ∧ (win0_5.index t 0 = 16 * t.val - 1 ∧ win0_5.index t 1 = 1) ∧ (win0_6.index t 0 = 16 * t.val - 1 ∧ win0_6.index t 1 = 8) ∧ (win0_7.index t 0 = 16 * t.val - 1 ∧ win0_7.index t 1 = 9) ∧ (win0_8.index t 0 = 0 ∧ win0_8.index t 1 = 0) ∧ (win0_9.index t 0 = 0 ∧ win0_9.index t 1 = 4) ∧ (win0_10.index t 0 = 0 ∧ win0_10.index t 1 = 5) ∧ (win0_11.index t 0 = 0 ∧ win0_11.index t 1 = 0) ∧ (win0_12.index t 0 = 0 ∧ win0_12.index t 1 = 0) ∧ (win0_13.index t 0 = 0 ∧ win0_13.index t 1 = 0) ∧ (grid0.coords t 0).val = t.val
theorem idx : ∀ t : Fin cfg0.N, At t := (by decide +kernel : ∀ t : Fin grid0.N, At t)

/-- A coordinate in the array, from the block's number and the coordinate in the block. -/
theorem off (s q : ℕ) {w n R : ℕ} (h : w = n) (e : n * s + q = R) : w * s + q = R := by rw [h, e]

section

variable {c : Dev nD} (hr : Real8 m c) (t : Fin cfg0.N)
include hr

/-- The blocks at a point. -/
theorem is0 : Is (X0_0 m c t : FVec Ideal S128x2048 .f32) (fun r j => Pr m c (128 * t.val + r) (j)) := fun r j => by
  unfold X0_0 Pipeline.Window.fill; rw [dif_pos (moved0_0 t _)]; unfold iblk; rw [View.read_apply]
  exact is_at (is_main_arg0 hr) _ ((win0_0.rect_emb_val t _ 0).trans (off 128 r.val (idx t).1.1 (by omega))) ((win0_0.rect_emb_val t _ 1).trans (off 2048 j.val (idx t).1.2 (by omega)))
theorem is1 : Is (X0_1 m c t : FVec Ideal S128x2048 .f32) (fun r j => Pr m c (128 * t.val + r) (2048 + j)) := fun r j => by
  unfold X0_1 Pipeline.Window.fill; rw [dif_pos (moved0_1 t _)]; unfold iblk; rw [View.read_apply]
  exact is_at (is_main_arg0 hr) _ ((win0_1.rect_emb_val t _ 0).trans (off 128 r.val (idx t).2.1.1 (by omega))) ((win0_1.rect_emb_val t _ 1).trans (off 2048 j.val (idx t).2.1.2 (by omega)))
theorem is2 : Is (iblk m c 2 t : FVec Ideal S128x512 .f32) (fun r j => Pr m c (128 * t.val + r) (4096 + j)) := fun r j => by
  unfold iblk; rw [View.read_apply]
  exact is_at (is_main_arg0 hr) _ ((win0_2.rect_emb_val t _ 0).trans (off 128 r.val (idx t).2.2.1.1 (by omega))) ((win0_2.rect_emb_val t _ 1).trans (off 512 j.val (idx t).2.2.1.2 (by omega)))
theorem is3 : Is (iblk m c 3 t : FVec Ideal S128x512 .f32) (fun r j => Pr m c (128 * t.val + r) (4608 + j)) := fun r j => by
  unfold iblk; rw [View.read_apply]
  exact is_at (is_main_arg0 hr) _ ((win0_3.rect_emb_val t _ 0).trans (off 128 r.val (idx t).2.2.2.1.1 (by omega))) ((win0_3.rect_emb_val t _ 1).trans (off 512 j.val (idx t).2.2.2.1.2 (by omega)))
theorem is4 : Is (iblk m c 4 t : FVec Ideal S128x128 .f32) (fun r j => PS m c (128 * t.val + r) (384 + j)) := fun r j => by
  unfold iblk; rw [View.read_apply]
  exact is_at (is_main_arg1 hr) _ ((win0_4.rect_emb_val t _ 0).trans (off 128 r.val (idx t).2.2.2.2.1.1 (by omega))) ((win0_4.rect_emb_val t _ 1).trans (off 128 j.val (idx t).2.2.2.2.1.2 (by omega)))
theorem is5 : Is (X0_5 m c t : FVec Ideal S8x2048 .f32) (fun r j => Pr m c (128 * t.val - 8 + r) (2048 + j)) := fun r j => by
  unfold X0_5 Pipeline.Window.fill; rw [dif_pos (moved0_5 t _)]; unfold iblk; rw [View.read_apply]
  exact is_at (is_main_arg0 hr) _ ((win0_5.rect_emb_val t _ 0).trans (off 8 r.val (idx t).2.2.2.2.2.1.1 (by omega))) ((win0_5.rect_emb_val t _ 1).trans (off 2048 j.val (idx t).2.2.2.2.2.1.2 (by omega)))
theorem is6 : Is (iblk m c 6 t : FVec Ideal S8x512 .f32) (fun r j => Pr m c (128 * t.val - 8 + r) (4096 + j)) := fun r j => by
  unfold iblk; rw [View.read_apply]
  exact is_at (is_main_arg0 hr) _ ((win0_6.rect_emb_val t _ 0).trans (off 8 r.val (idx t).2.2.2.2.2.2.1.1 (by omega))) ((win0_6.rect_emb_val t _ 1).trans (off 512 j.val (idx t).2.2.2.2.2.2.1.2 (by omega)))
theorem is7 : Is (iblk m c 7 t : FVec Ideal S8x512 .f32) (fun r j => Pr m c (128 * t.val - 8 + r) (4608 + j)) := fun r j => by
  unfold iblk; rw [View.read_apply]
  exact is_at (is_main_arg0 hr) _ ((win0_7.rect_emb_val t _ 0).trans (off 8 r.val (idx t).2.2.2.2.2.2.2.1.1 (by omega))) ((win0_7.rect_emb_val t _ 1).trans (off 512 j.val (idx t).2.2.2.2.2.2.2.1.2 (by omega)))
theorem is8 : Is (X0_8 m c t : FVec Ideal S8x2048 .f32) (W m c) := fun r j => by
  unfold X0_8 Pipeline.Window.fill; rw [dif_pos (moved0_8 t _)]; unfold iblk; rw [View.read_apply]
  exact is_at (is_main_v2 hr) _ ((win0_8.rect_emb_val t _ 0).trans (off 8 r.val (idx t).2.2.2.2.2.2.2.2.1.1 (by omega))) ((win0_8.rect_emb_val t _ 1).trans (off 2048 j.val (idx t).2.2.2.2.2.2.2.2.1.2 (by omega)))
theorem is9 : Is (iblk m c 9 t : FVec Ideal S8x512 .f32) (fun r j => W m c (r) (2048 + j)) := fun r j => by
  unfold iblk; rw [View.read_apply]
  exact is_at (is_main_v2 hr) _ ((win0_9.rect_emb_val t _ 0).trans (off 8 r.val (idx t).2.2.2.2.2.2.2.2.2.1.1 (by omega))) ((win0_9.rect_emb_val t _ 1).trans (off 512 j.val (idx t).2.2.2.2.2.2.2.2.2.1.2 (by omega)))
theorem is10 : Is (iblk m c 10 t : FVec Ideal S8x512 .f32) (fun r j => W m c (r) (2560 + j)) := fun r j => by
  unfold iblk; rw [View.read_apply]
  exact is_at (is_main_v2 hr) _ ((win0_10.rect_emb_val t _ 0).trans (off 8 r.val (idx t).2.2.2.2.2.2.2.2.2.2.1.1 (by omega))) ((win0_10.rect_emb_val t _ 1).trans (off 512 j.val (idx t).2.2.2.2.2.2.2.2.2.2.1.2 (by omega)))
theorem is11 : Is (iblk m c 11 t : FVec Ideal S8x128 .f32) (H m c) := fun r j => by
  unfold iblk; rw [View.read_apply]
  exact is_at (is_main_v9 hr) _ ((win0_11.rect_emb_val t _ 0).trans (off 8 r.val (idx t).2.2.2.2.2.2.2.2.2.2.2.1.1 (by omega))) ((win0_11.rect_emb_val t _ 1).trans (off 128 j.val (idx t).2.2.2.2.2.2.2.2.2.2.2.1.2 (by omega)))
theorem is12 : Is (iblk m c 12 t : FVec Ideal S8x2048 .f32) (G m c) := fun r j => by
  unfold iblk; rw [View.read_apply]
  exact is_at (is_main_v14 hr) _ ((win0_12.rect_emb_val t _ 0).trans (off 8 r.val (idx t).2.2.2.2.2.2.2.2.2.2.2.2.1.1 (by omega))) ((win0_12.rect_emb_val t _ 1).trans (off 2048 j.val (idx t).2.2.2.2.2.2.2.2.2.2.2.2.1.2 (by omega)))
theorem is13 : Is (iblk m c 13 t : FVec Ideal S8x2048 .f32) (NW m c) := fun r j => by
  unfold iblk; rw [View.read_apply]
  exact is_at (is_main_v17 hr) _ ((win0_13.rect_emb_val t _ 0).trans (off 8 r.val (idx t).2.2.2.2.2.2.2.2.2.2.2.2.2.1.1 (by omega))) ((win0_13.rect_emb_val t _ 1).trans (off 2048 j.val (idx t).2.2.2.2.2.2.2.2.2.2.2.2.2.1.2 (by omega)))

end

/-- After the first point. -/
theorem outs_first {c : Dev nD} (hr : Real8 m c) (t : Fin cfg0.N) (ht : t.val = 0) :
    (∀ y : S128x2048.Idx, (outsAt0 m c t.val t.isLt).2 y = (cell (U (Pr m c) (W m c)) (dts (PS m c) (H m c)) (sts (PS m c) (H m c)) (128 * t.val + 128) (y 0).val (y 1).val : EReal))
    ∧ ∀ y : S128x2048.Idx, (outsAt0 m c t.val t.isLt).1 y = entry (U (Pr m c) (W m c)) (dts (PS m c) (H m c)) (sts (PS m c) (H m c)) (G m c 0) (NW m c 0) (Pr m c) (128 * t.val + (y 0).val) (y 1).val := by
  have h0 : t.val % 64 = 0 := by omega
  have key := Cert.SsdRun.pointA (b := 128 * t.val) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) _ _ _ _ _ _ _ _ _ _ _ _ _ _
    (by rw [(idx t).2.2.2.2.2.2.2.2.2.2.2.2.2.2]) (is0 hr t) (is1 hr t) (is2 hr t) (is3 hr t) (is4 hr t) (is5 hr t) (is6 hr t) (is7 hr t) (is8 hr t) (is9 hr t) (is10 hr t) (is11 hr t) (is12 hr t) (is13 hr t) ((hcond0_0 t).mpr h0) (by omega)
  rw [outsAt0_A m c t h0]
  dsimp only
  refine ⟨fun y => ?_, fun y => ?_⟩
  · rw [key.1 y]
  · rw [key.2 y]

/-- After a later point, over what the point before left. -/
theorem outs_next {c : Dev nD} (hr : Real8 m c) (t : Fin cfg0.N) (ht : t.val ≠ 0)
    (hs : ∀ y : S128x2048.Idx, (outsAt0 m c (t.val - 1) (Nat.lt_of_le_of_lt (Nat.sub_le _ _) t.isLt)).2 y = (cell (U (Pr m c) (W m c)) (dts (PS m c) (H m c)) (sts (PS m c) (H m c)) (128 * t.val) (y 0).val (y 1).val : EReal)) :
    (∀ y : S128x2048.Idx, (outsAt0 m c t.val t.isLt).2 y = (cell (U (Pr m c) (W m c)) (dts (PS m c) (H m c)) (sts (PS m c) (H m c)) (128 * t.val + 128) (y 0).val (y 1).val : EReal))
    ∧ ∀ y : S128x2048.Idx, (outsAt0 m c t.val t.isLt).1 y = entry (U (Pr m c) (W m c)) (dts (PS m c) (H m c)) (sts (PS m c) (H m c)) (G m c 0) (NW m c 0) (Pr m c) (128 * t.val + (y 0).val) (y 1).val := by
  have hN : t.val < 64 := lt_of_lt_of_eq t.isLt N_0
  have h0 : ¬ t.val % 64 = 0 := by omega
  have key := Cert.SsdRun.pointB (b := 128 * t.val) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) _ _ _ _ _ _ _ _ _ _ _ _ _ _
    (by rw [(idx t).2.2.2.2.2.2.2.2.2.2.2.2.2.2]) (is0 hr t) (is1 hr t) (is2 hr t) (is3 hr t) (is4 hr t) (is5 hr t) (is6 hr t) (is7 hr t) (is8 hr t) (is9 hr t) (is10 hr t) (is11 hr t) (is12 hr t) (is13 hr t) (fun h => h0 ((hcond0_0 t).mp h)) _ (fun r j => hs (ix2 r j))
  rw [outsAt0_B m c t h0]
  dsimp only
  refine ⟨fun y => ?_, fun y => ?_⟩
  · rw [key.1 y]
  · rw [key.2 y]

/-- After a point: the cells over the tokens so far, and the point's rows of the output. -/
theorem outs {c : Dev nD} (hr : Real8 m c) : ∀ (n : ℕ) (hn : n < cfg0.N),
    (∀ y : S128x2048.Idx, (outsAt0 m c n hn).2 y = (cell (U (Pr m c) (W m c)) (dts (PS m c) (H m c)) (sts (PS m c) (H m c)) (128 * n + 128) (y 0).val (y 1).val : EReal))
    ∧ ∀ y : S128x2048.Idx, (outsAt0 m c n hn).1 y = entry (U (Pr m c) (W m c)) (dts (PS m c) (H m c)) (sts (PS m c) (H m c)) (G m c 0) (NW m c 0) (Pr m c) (128 * n + (y 0).val) (y 1).val
  | 0, hn => outs_first hr ⟨0, hn⟩ rfl
  | n + 1, hn => outs_next hr ⟨n + 1, hn⟩ (Nat.succ_ne_zero n) fun y =>
    ((outs hr n (Nat.lt_of_succ_lt hn)).1 y).trans (by rw [show 128 * (⟨n + 1, hn⟩ : Fin cfg0.N).val = 128 * n + 128 from Nat.mul_succ 128 n])

/-- The array the call leaves. -/
theorem left {c : Dev nD} (hr : Real8 m c) (i : S8192x2048.Idx) : G14 m c i = entry (U (Pr m c) (W m c)) (dts (PS m c) (H m c)) (sts (PS m c) (H m c)) (G m c 0) (NW m c 0) (Pr m c) (i 0).val (i 1).val := by
  have h0 : (i 0).val < 8192 := (i 0).isLt
  have h1 : (i 1).val < 2048 := (i 1).isLt
  have hp : pt14Of i = (i 0).val / 128 := by show 1 * ((i 0).val / 128 - 0) + 1 * ((i 1).val / 2048 - 0) = _; omega
  have h : pt14Of i < cfg0.N := by rw [hp, show cfg0.N = 64 from N_0]; omega
  unfold G14
  rw [dif_pos h, ← outsAt0_sweep m c (pt14Of i) h]
  refine ((outs hr (pt14Of i) h).2 (loc14Of i)).trans ?_
  have e0 : 128 * pt14Of i + (loc14Of i 0).val = (i 0).val := by rw [hp]; show 128 * ((i 0).val / 128) + (i 0).val % 128 = _; omega
  have e1 : (loc14Of i 1).val = (i 1).val := by show (i 1).val % 2048 = _; omega
  rw [e0, e1]

end Cert.KernelSsdIdeal.Val

namespace Cert.Val

open Cert.KernelSsdIdeal Cert.KernelSsdIdeal.Val

/-- An even layer's state space duality, with its convolution, its gate and its norm. -/
theorem ssd : Cert.algebraic_KernelSsdIdeal_ReferenceSsdIdeal_pre_finite_ssd (hPre_finite_ssd := Cert.SsdPre.facts) := by
  intro m g m' g' hp hag
  have hr : ∀ c, Real8 m c := fun c => @Cert.SsdPre.reals Cert.SsdPre.facts _ _ _ _ _ _ _ _ (hp c)
  refine ⟨fun c => KernelSsdIdeal.Value.G14 m c, KernelSsdIdeal.Value.run (F := Ideal) m g, ?_⟩
  refine (θ_run Cert.ReferenceSsdIdeal.defs _ _).mono (fun r h c => ⟨(h c).1.trans ?_, (h c).2⟩) (ReferenceSsdIdeal.Value.run (F := Ideal) m' g')
  refine (ReferenceSsdIdeal.Read.val_main_v115_eq (F := Ideal) _ _).trans ?_
  obtain ⟨a0, a1, a2, a3, a4, a5, a6, a7⟩ := hag c
  rw [a0, a1, a2, a3, a4, a5, a6, a7]
  obtain ⟨r0, r1, r2, r3, r4, r5, r6, r7⟩ := hr c
  funext i
  refine (Cert.SsdRef.v115_at (P := Pr m c) (Q := PS m c) (W := W m c) (H := H m c) (D := G m c 0) (NW := NW m c 0) (fun i => coe_at2 _ r1 i)
    (fun i => ?_) (fun i => ?_) (fun i => coe_at2 _ r0 i) (fun i => ?_) (fun i => ?_) (fun i k hk => ?_) (fun i => ?_) i).trans (left (hr c) i).symm
  · unfold H; rw [if_pos Nat.one_pos, if_neg (by omega), Nat.add_sub_cancel_left]; exact coe_at1 _ r4 i
  · unfold H; rw [if_neg (lt_irrefl 1), if_pos (by omega), if_neg (by omega), Nat.add_sub_cancel_left]; exact coe_at1 _ r5 i
  · unfold W; rw [if_pos (show (i 0).val < 4 from (i 0).isLt)]; exact coe_at2 _ r2 i
  · unfold W; rw [if_neg (lt_irrefl 4), if_pos (by omega)]; exact coe_at1 _ r3 i
  · unfold G; rw [if_pos Nat.one_pos, hk]; exact coe_at1 _ r6 i
  · unfold NW; rw [if_pos Nat.one_pos]; exact coe_at1 _ r7 i

end Cert.Val

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Vdown
public import proofs.«01_k».proof.Proof.Gen.KernelFirst.Frame
public import proofs.«01_k».proof.Proof.Gen.KernelFirstIdeal.Frame
public import proofs.«01_k».proof.Proof.Gen.ReferenceFirstIdeal.Run
public import proofs.«01_k».proof.Proof.First
public import proofs.«01_k».proof.Proof.Gen.KernelSsm.Frame
public import proofs.«01_k».proof.Proof.Gen.KernelSsmIdeal.Frame
public import proofs.«01_k».proof.Proof.Gen.ReferenceSsmIdeal.Run
public import proofs.«01_k».proof.Proof.Ssm
public import proofs.«01_k».proof.Proof.Gen.KernelSmall.Frame
public import proofs.«01_k».proof.Proof.Gen.KernelSmallIdeal.Frame
public import proofs.«01_k».proof.Proof.Gen.ReferenceSmallIdeal.Run
public import proofs.«01_k».proof.Proof.Small
public import proofs.«01_k».proof.Proof.Gen.KernelGla.Frame
public import proofs.«01_k».proof.Proof.Gen.KernelGlaIdeal.Frame
public import proofs.«01_k».proof.Proof.Gen.ReferenceGlaIdeal.Run
public import proofs.«01_k».proof.Proof.Gla
public import proofs.«01_k».proof.Proof.Gen.KernelDecay.Frame
public import proofs.«01_k».proof.Proof.Gen.KernelDecayIdeal.Frame
public import proofs.«01_k».proof.Proof.Gen.ReferenceDecayIdeal.Run
public import proofs.«01_k».proof.Proof.Decay
public import proofs.«01_k».proof.Proof.Gen.KernelOut.Frame
public import proofs.«01_k».proof.Proof.Gen.KernelOutIdeal.Frame
public import proofs.«01_k».proof.Proof.Gen.ReferenceOutIdeal.Run
public import proofs.«01_k».proof.Proof.Out
public import proofs.«01_k».proof.Proof.Gen.KernelMix.Frame
public import proofs.«01_k».proof.Proof.Gen.KernelMixIdeal.Frame
public import proofs.«01_k».proof.Proof.Gen.ReferenceMixIdeal.Run
public import proofs.«01_k».proof.Proof.Mix
public import proofs.«01_k».proof.Proof.Gen.KernelOdd.Frame
public import proofs.«01_k».proof.Proof.Gen.KernelOddIdeal.Frame
public import proofs.«01_k».proof.Proof.Gen.ReferenceOddIdeal.Run
public import proofs.«01_k».proof.Proof.Odd
public import proofs.«01_k».proof.Proof.Gen.KernelLaterSsm.Frame
public import proofs.«01_k».proof.Proof.Gen.KernelLaterSsmIdeal.Frame
public import proofs.«01_k».proof.Proof.Gen.ReferenceLaterSsmIdeal.Run
public import proofs.«01_k».proof.Proof.LaterSsm
public import proofs.«01_k».proof.Proof.Gen.KernelLaterSmall.Frame
public import proofs.«01_k».proof.Proof.Gen.KernelLaterSmallIdeal.Frame
public import proofs.«01_k».proof.Proof.Gen.ReferenceLaterSmallIdeal.Run
public import proofs.«01_k».proof.Proof.LaterSmall
public import proofs.«01_k».proof.Proof.Gen.KernelLaterGla.Frame
public import proofs.«01_k».proof.Proof.Gen.KernelLaterGlaIdeal.Frame
public import proofs.«01_k».proof.Proof.Gen.ReferenceLaterGlaIdeal.Run
public import proofs.«01_k».proof.Proof.LaterGla
public import proofs.«01_k».proof.Proof.Gen.KernelLaterDecay.Frame
public import proofs.«01_k».proof.Proof.Gen.KernelLaterDecayIdeal.Frame
public import proofs.«01_k».proof.Proof.Gen.ReferenceLaterDecayIdeal.Run
public import proofs.«01_k».proof.Proof.LaterDecay
public import proofs.«01_k».proof.Proof.Gen.KernelLaterMix.Frame
public import proofs.«01_k».proof.Proof.Gen.KernelLaterMixIdeal.Frame
public import proofs.«01_k».proof.Proof.Gen.ReferenceLaterMixIdeal.Run
public import proofs.«01_k».proof.Proof.LaterMix
public import proofs.«01_k».proof.Proof.Gen.KernelNorm.Frame
public import proofs.«01_k».proof.Proof.Gen.KernelNormIdeal.Frame
public import proofs.«01_k».proof.Proof.Gen.ReferenceNormIdeal.Run
public import proofs.«01_k».proof.Proof.FirstNorm
public import proofs.«01_k».proof.Proof.Gen.KernelAttn.Frame
public import proofs.«01_k».proof.Proof.Gen.KernelAttnIdeal.Frame
public import proofs.«01_k».proof.Proof.Gen.ReferenceAttnIdeal.Run
public import proofs.«01_k».proof.Proof.Attn
public import proofs.«01_k».proof.Proof.Gen.KernelSsd.Frame
public import proofs.«01_k».proof.Proof.Gen.KernelSsdIdeal.Frame
public import proofs.«01_k».proof.Proof.Gen.ReferenceSsdIdeal.Run
public import proofs.«01_k».proof.Proof.Ssd

@[expose] public section

noncomputable section

open Idealize.ShloMosaic Idealize.ShloMosaic.TcCoe Idealize.SL.Sem

namespace Cert.Proof

/-- The reference of `Kernel` runs: no operation writes an argument, and it has no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The reference of `KernelFirst` runs: no operation writes an argument, and it has no semaphore. -/
theorem frame_referenceFirst : Cert.quiescent_ReferenceFirstIdeal := fun m ρ _ =>
  (θ_run Cert.ReferenceFirstIdeal.defs _ _).mono (fun r h => ⟨fun c => (h c).2, sem_eq_zero_of_no_sems (by decide) r.2⟩)
    (Cert.ReferenceFirstIdeal.Value.run (F := Ideal) m ρ)

/-- The reference of `KernelSsm` runs: no operation writes an argument, and it has no semaphore. -/
theorem frame_referenceSsm : Cert.quiescent_ReferenceSsmIdeal := fun m ρ _ =>
  (θ_run Cert.ReferenceSsmIdeal.defs _ _).mono (fun r h => ⟨fun c => (h c).2, sem_eq_zero_of_no_sems (by decide) r.2⟩)
    (Cert.ReferenceSsmIdeal.Value.run (F := Ideal) m ρ)

/-- The reference of `KernelSmall` runs: no operation writes an argument, and it has no semaphore. -/
theorem frame_referenceSmall : Cert.quiescent_ReferenceSmallIdeal := fun m ρ _ =>
  (θ_run Cert.ReferenceSmallIdeal.defs _ _).mono (fun r h => ⟨fun c => (h c).2, sem_eq_zero_of_no_sems (by decide) r.2⟩)
    (Cert.ReferenceSmallIdeal.Value.run (F := Ideal) m ρ)

/-- The reference of `KernelGla` runs: no operation writes an argument, and it has no semaphore. -/
theorem frame_referenceGla : Cert.quiescent_ReferenceGlaIdeal := fun m ρ _ =>
  (θ_run Cert.ReferenceGlaIdeal.defs _ _).mono (fun r h => ⟨fun c => (h c).2, sem_eq_zero_of_no_sems (by decide) r.2⟩)
    (Cert.ReferenceGlaIdeal.Value.run (F := Ideal) m ρ)

/-- The reference of `KernelDecay` runs: no operation writes an argument, and it has no semaphore. -/
theorem frame_referenceDecay : Cert.quiescent_ReferenceDecayIdeal := fun m ρ _ =>
  (θ_run Cert.ReferenceDecayIdeal.defs _ _).mono (fun r h => ⟨fun c => (h c).2, sem_eq_zero_of_no_sems (by decide) r.2⟩)
    (Cert.ReferenceDecayIdeal.Value.run (F := Ideal) m ρ)

/-- The reference of `KernelOut` runs: no operation writes an argument, and it has no semaphore. -/
theorem frame_referenceOut : Cert.quiescent_ReferenceOutIdeal := fun m ρ _ =>
  (θ_run Cert.ReferenceOutIdeal.defs _ _).mono (fun r h => ⟨fun c => (h c).2, sem_eq_zero_of_no_sems (by decide) r.2⟩)
    (Cert.ReferenceOutIdeal.Value.run (F := Ideal) m ρ)

/-- The reference of `KernelMix` runs: no operation writes an argument, and it has no semaphore. -/
theorem frame_referenceMix : Cert.quiescent_ReferenceMixIdeal := fun m ρ _ =>
  (θ_run Cert.ReferenceMixIdeal.defs _ _).mono (fun r h => ⟨fun c => (h c).2.2, sem_eq_zero_of_no_sems (by decide) r.2⟩)
    (Cert.ReferenceMixIdeal.Value.run (F := Ideal) m ρ)

/-- The reference of `KernelOdd` runs: no operation writes an argument, and it has no semaphore. -/
theorem frame_referenceOdd : Cert.quiescent_ReferenceOddIdeal := fun m ρ _ =>
  (θ_run Cert.ReferenceOddIdeal.defs _ _).mono (fun r h => ⟨fun c => (h c).2.2, sem_eq_zero_of_no_sems (by decide) r.2⟩)
    (Cert.ReferenceOddIdeal.Value.run (F := Ideal) m ρ)

/-- The reference of `KernelLaterSsm` runs: no operation writes an argument, and it has no semaphore. -/
theorem frame_referenceLaterSsm : Cert.quiescent_ReferenceLaterSsmIdeal := fun m ρ _ =>
  (θ_run Cert.ReferenceLaterSsmIdeal.defs _ _).mono (fun r h => ⟨fun c => (h c).2, sem_eq_zero_of_no_sems (by decide) r.2⟩)
    (Cert.ReferenceLaterSsmIdeal.Value.run (F := Ideal) m ρ)

/-- The reference of `KernelLaterSmall` runs: no operation writes an argument, and it has no semaphore. -/
theorem frame_referenceLaterSmall : Cert.quiescent_ReferenceLaterSmallIdeal := fun m ρ _ =>
  (θ_run Cert.ReferenceLaterSmallIdeal.defs _ _).mono (fun r h => ⟨fun c => (h c).2, sem_eq_zero_of_no_sems (by decide) r.2⟩)
    (Cert.ReferenceLaterSmallIdeal.Value.run (F := Ideal) m ρ)

/-- The reference of `KernelLaterGla` runs: no operation writes an argument, and it has no semaphore. -/
theorem frame_referenceLaterGla : Cert.quiescent_ReferenceLaterGlaIdeal := fun m ρ _ =>
  (θ_run Cert.ReferenceLaterGlaIdeal.defs _ _).mono (fun r h => ⟨fun c => (h c).2, sem_eq_zero_of_no_sems (by decide) r.2⟩)
    (Cert.ReferenceLaterGlaIdeal.Value.run (F := Ideal) m ρ)

/-- The reference of `KernelLaterDecay` runs: no operation writes an argument, and it has no semaphore. -/
theorem frame_referenceLaterDecay : Cert.quiescent_ReferenceLaterDecayIdeal := fun m ρ _ =>
  (θ_run Cert.ReferenceLaterDecayIdeal.defs _ _).mono (fun r h => ⟨fun c => (h c).2, sem_eq_zero_of_no_sems (by decide) r.2⟩)
    (Cert.ReferenceLaterDecayIdeal.Value.run (F := Ideal) m ρ)

/-- The reference of `KernelLaterMix` runs: no operation writes an argument, and it has no semaphore. -/
theorem frame_referenceLaterMix : Cert.quiescent_ReferenceLaterMixIdeal := fun m ρ _ =>
  (θ_run Cert.ReferenceLaterMixIdeal.defs _ _).mono (fun r h => ⟨fun c => (h c).2.2, sem_eq_zero_of_no_sems (by decide) r.2⟩)
    (Cert.ReferenceLaterMixIdeal.Value.run (F := Ideal) m ρ)

/-- The reference of `KernelNorm` runs: no operation writes an argument, and it has no semaphore. -/
theorem frame_referenceNorm : Cert.quiescent_ReferenceNormIdeal := fun m ρ _ =>
  (θ_run Cert.ReferenceNormIdeal.defs _ _).mono (fun r h => ⟨fun c => (h c).2, sem_eq_zero_of_no_sems (by decide) r.2⟩)
    (Cert.ReferenceNormIdeal.Value.run (F := Ideal) m ρ)

/-- The reference of `KernelAttn` runs: no operation writes an argument, and it has no semaphore. -/
theorem frame_referenceAttn : Cert.quiescent_ReferenceAttnIdeal := fun m ρ _ =>
  (θ_run Cert.ReferenceAttnIdeal.defs _ _).mono (fun r h => ⟨fun c => (h c).2, sem_eq_zero_of_no_sems (by decide) r.2⟩)
    (Cert.ReferenceAttnIdeal.Value.run (F := Ideal) m ρ)

/-- The reference of `KernelSsd` runs: no operation writes an argument, and it has no semaphore. -/
theorem frame_referenceSsd : Cert.quiescent_ReferenceSsdIdeal := fun m ρ _ =>
  (θ_run Cert.ReferenceSsdIdeal.defs _ _).mono (fun r h => ⟨fun c => (h c).2, sem_eq_zero_of_no_sems (by decide) r.2⟩)
    (Cert.ReferenceSsdIdeal.Value.run (F := Ideal) m ρ)

/-- Everything claimed. -/
theorem claim : Cert.Claim := ⟨Cert.Kernel.Gen.facts, Cert.KernelIdeal.Gen.facts, Cert.ReferenceIdeal.Gen.facts,
  Cert.KernelFirst.Gen.facts, Cert.KernelFirstIdeal.Gen.facts, Cert.ReferenceFirstIdeal.Gen.facts,
  Cert.KernelSsm.Gen.facts, Cert.KernelSsmIdeal.Gen.facts, Cert.ReferenceSsmIdeal.Gen.facts,
  Cert.KernelSmall.Gen.facts, Cert.KernelSmallIdeal.Gen.facts, Cert.ReferenceSmallIdeal.Gen.facts,
  Cert.KernelGla.Gen.facts, Cert.KernelGlaIdeal.Gen.facts, Cert.ReferenceGlaIdeal.Gen.facts,
  Cert.KernelDecay.Gen.facts, Cert.KernelDecayIdeal.Gen.facts, Cert.ReferenceDecayIdeal.Gen.facts,
  Cert.KernelOut.Gen.facts, Cert.KernelOutIdeal.Gen.facts, Cert.ReferenceOutIdeal.Gen.facts,
  Cert.KernelMix.Gen.facts, Cert.KernelMixIdeal.Gen.facts, Cert.ReferenceMixIdeal.Gen.facts,
  Cert.KernelOdd.Gen.facts, Cert.KernelOddIdeal.Gen.facts, Cert.ReferenceOddIdeal.Gen.facts,
  Cert.KernelLaterSsm.Gen.facts, Cert.KernelLaterSsmIdeal.Gen.facts, Cert.ReferenceLaterSsmIdeal.Gen.facts,
  Cert.KernelLaterSmall.Gen.facts, Cert.KernelLaterSmallIdeal.Gen.facts, Cert.ReferenceLaterSmallIdeal.Gen.facts,
  Cert.KernelLaterGla.Gen.facts, Cert.KernelLaterGlaIdeal.Gen.facts, Cert.ReferenceLaterGlaIdeal.Gen.facts,
  Cert.KernelLaterDecay.Gen.facts, Cert.KernelLaterDecayIdeal.Gen.facts, Cert.ReferenceLaterDecayIdeal.Gen.facts,
  Cert.KernelLaterMix.Gen.facts, Cert.KernelLaterMixIdeal.Gen.facts, Cert.ReferenceLaterMixIdeal.Gen.facts,
  Cert.KernelNorm.Gen.facts, Cert.KernelNormIdeal.Gen.facts, Cert.ReferenceNormIdeal.Gen.facts,
  Cert.KernelAttn.Gen.facts, Cert.KernelAttnIdeal.Gen.facts, Cert.ReferenceAttnIdeal.Gen.facts, Cert.KernelSsd.Gen.facts, Cert.KernelSsdIdeal.Gen.facts, Cert.ReferenceSsdIdeal.Gen.facts, Cert.AttnPre.facts, Cert.SsdPre.facts,
  Cert.Val.vdown_frame_bits, Cert.Val.vdown_frame, frame_reference,
  fun m ρ _ => Cert.KernelFirst.Gen.frame m ρ, fun m ρ _ => Cert.KernelFirstIdeal.Gen.frame m ρ, frame_referenceFirst,
  fun m ρ _ => Cert.KernelSsm.Gen.frame m ρ, fun m ρ _ => Cert.KernelSsmIdeal.Gen.frame m ρ, frame_referenceSsm,
  fun m ρ _ => Cert.KernelSmall.Gen.frame m ρ, fun m ρ _ => Cert.KernelSmallIdeal.Gen.frame m ρ, frame_referenceSmall,
  fun m ρ _ => Cert.KernelGla.Gen.frame m ρ, fun m ρ _ => Cert.KernelGlaIdeal.Gen.frame m ρ, frame_referenceGla,
  fun m ρ _ => Cert.KernelDecay.Gen.frame m ρ, fun m ρ _ => Cert.KernelDecayIdeal.Gen.frame m ρ, frame_referenceDecay,
  Cert.Val.out_frame_bits, Cert.Val.out_frame, frame_referenceOut,
  Cert.Val.mix_frame_bits, Cert.Val.mix_frame, frame_referenceMix,
  Cert.Val.odd_frame_bits, Cert.Val.odd_frame, frame_referenceOdd,
  fun m ρ _ => Cert.KernelLaterSsm.Gen.frame m ρ, fun m ρ _ => Cert.KernelLaterSsmIdeal.Gen.frame m ρ, frame_referenceLaterSsm,
  fun m ρ _ => Cert.KernelLaterSmall.Gen.frame m ρ, fun m ρ _ => Cert.KernelLaterSmallIdeal.Gen.frame m ρ, frame_referenceLaterSmall,
  fun m ρ _ => Cert.KernelLaterGla.Gen.frame m ρ, fun m ρ _ => Cert.KernelLaterGlaIdeal.Gen.frame m ρ, frame_referenceLaterGla,
  fun m ρ _ => Cert.KernelLaterDecay.Gen.frame m ρ, fun m ρ _ => Cert.KernelLaterDecayIdeal.Gen.frame m ρ, frame_referenceLaterDecay,
  Cert.Val.later_mix_frame_bits, Cert.Val.later_mix_frame, frame_referenceLaterMix,
  fun m ρ _ => Cert.KernelNorm.Gen.frame m ρ, fun m ρ _ => Cert.KernelNormIdeal.Gen.frame m ρ, frame_referenceNorm,
  fun m ρ _ => Cert.KernelAttn.Gen.frame m ρ, fun m ρ _ => Cert.KernelAttnIdeal.Gen.frame m ρ, fun m ρ _ => Cert.KernelAttnIdeal.Gen.frame m ρ,
  frame_referenceAttn, fun m ρ _ => frame_referenceAttn m ρ trivial,
  fun m ρ _ => Cert.KernelSsd.Gen.frame m ρ, fun m ρ _ => Cert.KernelSsdIdeal.Gen.frame m ρ, fun m ρ _ => Cert.KernelSsdIdeal.Gen.frame m ρ,
  frame_referenceSsd, fun m ρ _ => frame_referenceSsd m ρ trivial,
  trivial, Cert.Val.vdown,
  trivial, Cert.Val.first,
  trivial, Cert.Val.ssm,
  trivial, Cert.Val.small,
  trivial, Cert.Val.gla,
  trivial, Cert.Val.decay,
  trivial, Cert.Val.out,
  trivial, Cert.Val.mix,
  trivial, Cert.Val.odd,
  trivial, Cert.Val.later_ssm,
  trivial, Cert.Val.later_small,
  trivial, Cert.Val.later_gla,
  trivial, Cert.Val.later_decay,
  trivial, Cert.Val.later_mix,
  trivial, Cert.Val.first_norm,
  trivial, Cert.Val.attn,
  trivial, Cert.Val.ssd⟩

end Cert.Proof

end
